-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_matchable [hPre_matchable : Cert.Pre_matchable.Facts] (m : (ℓ : Loc Cert.KernelIdeal.nD Cert.KernelIdeal.τ Cert.KernelIdeal.sig) → Buf (Elt Ideal) ℓ) : Prop :=
  ∀ c : Dev Cert.KernelIdeal.nD,
    (Cert.Pre_matchable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_matchable [hPre_matchable : Cert.Pre_matchable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_matchable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_matchable [hKernelIdeal : Cert.KernelIdeal.Facts] [hPre_matchable : Cert.Pre_matchable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_matchable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_matchable [hReferenceIdeal : Cert.ReferenceIdeal.Facts] [hPre_matchable : Cert.Pre_matchable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_matchable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_matchable [hKernelIdeal : Cert.KernelIdeal.Facts] [hReferenceIdeal : Cert.ReferenceIdeal.Facts] [hPre_matchable : Cert.Pre_matchable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_matchable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_matchable : Cert.Pre_matchable.Facts),
    quiescent_Kernel (hKernel := hKernel)
    ∧ quiescent_KernelIdeal (hKernelIdeal := hKernelIdeal)
    ∧ quiescent_KernelIdeal_pre_matchable (hKernelIdeal := hKernelIdeal) (hPre_matchable := hPre_matchable)
    ∧ quiescent_ReferenceIdeal (hReferenceIdeal := hReferenceIdeal)
    ∧ quiescent_ReferenceIdeal_pre_matchable (hReferenceIdeal := hReferenceIdeal) (hPre_matchable := hPre_matchable)
    ∧ preserves_Kernel_KernelIdeal
    ∧ algebraic_KernelIdeal_ReferenceIdeal_pre_matchable (hKernelIdeal := hKernelIdeal) (hReferenceIdeal := hReferenceIdeal) (hPre_matchable := hPre_matchable)
-- ==== Pre_matchable.lean ====
abbrev S4096x3 : Shape := ⟨2, ![4096, 3]⟩
abbrev S8192x3 : Shape := ⟨2, ![8192, 3]⟩
abbrev S4096x64 : Shape := ⟨2, ![4096, 64]⟩
abbrev S8192x64 : Shape := ⟨2, ![8192, 64]⟩
abbrev S4096x1 : Shape := ⟨2, ![4096, 1]⟩
abbrev S4096 : Shape := ⟨1, ![4096]⟩
abbrev S8192 : Shape := ⟨1, ![8192]⟩
abbrev S_ : Shape := ⟨0, ![]⟩
abbrev S4 : Shape := ⟨1, ![4]⟩
abbrev S1x4 : Shape := ⟨2, ![1, 4]⟩
abbrev S4096x4 : Shape := ⟨2, ![4096, 4]⟩
abbrev S1x8192 : Shape := ⟨2, ![1, 8192]⟩
abbrev S4096x8192 : Shape := ⟨2, ![4096, 8192]⟩
abbrev S1x4096 : Shape := ⟨2, ![1, 4096]⟩
abbrev S4096x4096 : Shape := ⟨2, ![4096, 4096]⟩
abbrev S4095 : Shape := ⟨1, ![4095]⟩
abbrev S8191 : Shape := ⟨1, ![8191]⟩

class Facts : Prop where
  bcast_S_S4096x1 : S_.BroadcastsInDim S4096x1 (![] : Fin 0 → Fin S4096x1.rank)
  shapeCasts_S4096x1_S4096 : S4096x1.ShapeCasts S4096
  bcast_S4096_S4096x1_0 : S4096.BroadcastsInDim S4096x1 (![0] : Fin 1 → Fin S4096x1.rank)
  bcast_S4_S1x4_1 : S4.BroadcastsInDim S1x4 (![1] : Fin 1 → Fin S1x4.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  bcast_S_S4096x4 : S_.BroadcastsInDim S4096x4 (![] : Fin 0 → Fin S4096x4.rank)
  reducesTo_S4096x4_S4_d0 : S4096x4.ReducesTo [0] S4
  h_S_ : 0 < S_.numel
  bcast_S_S4096 : S_.BroadcastsInDim S4096 (![] : Fin 0 → Fin S4096.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  natLt_1_32 : 1 < 32
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x3 : S_.BroadcastsInDim S4096x3 (![] : Fin 0 → Fin S4096x3.rank)
  reducesTo_S4096x3_S_d0_1 : S4096x3.ReducesTo [0, 1] S_
  bcast_S_S4096x64 : S_.BroadcastsInDim S4096x64 (![] : Fin 0 → Fin S4096x64.rank)
  reducesTo_S4096x64_S_d0_1 : S4096x64.ReducesTo [0, 1] S_
  bcast_S_S8192x64 : S_.BroadcastsInDim S8192x64 (![] : Fin 0 → Fin S8192x64.rank)
  reducesTo_S8192x64_S_d0_1 : S8192x64.ReducesTo [0, 1] S_
  reducesTo_S4096_S_d0 : S4096.ReducesTo [0] S_
  slices_S4096_S4095_0 : S4096.Slices ![0] S4095
  slices_S4096_S4095_1 : S4096.Slices ![1] S4095
  reducesTo_S4095_S_d0 : S4095.ReducesTo [0] S_
  slices_S8192_S8191_0 : S8192.Slices ![0] S8191
  slices_S8192_S8191_1 : S8192.Slices ![1] S8191
  reducesTo_S8191_S_d0 : S8191.ReducesTo [0] S_
  reducesTo_S4096x8192_S4096_d1 : S4096x8192.ReducesTo [1] S4096
  reducesTo_S4096x4096_S4096_d1 : S4096x4096.ReducesTo [1] S4096
  gather_S4_S4096x1_S4096_n_0_n_n_0_1_1_wf : GatherDims.WF S4 S4096x1 S4096 [] [0] [] [0] [] 1 ![1]

variable [Facts]

def gather_S4_S4096x1_S4096_n_0_n_n_0_1_1 : GatherDims S4 S4096x1 S4096 where
  offsetDims := []
  collapsedSliceDims := [0]
  operandBatchingDims := []
  startIndicesBatchingDims := []
  startIndexMap := [0]
  indexVectorDim := 1
  sliceSizes := ![1]
  wf := gather_S4_S4096x1_S4096_n_0_n_n_0_1_1_wf
def fn_where {F : FTy → Type} [FloatOps F] (arg0 : IVec S4096x4 1) (arg1 : FVec F S4096x1 .f32) (arg2 : FVec F S_ .f32) : FVec F S4096x4 .f32 :=
  let v0 : FVec F S_ .f32 := id arg2
  let v1 : FVec F S4096x4 .f32 := broadcastInDim S4096x4 ![0, 1] bcast_S4096x1_S4096x4_0_1 arg1
  let v2 : FVec F S4096x4 .f32 := broadcastInDim S4096x4 ![] bcast_S_S4096x4 v0
  let v3 : FVec F S4096x4 .f32 := select arg0 v1 v2
  v3

def fn_part5 {F : FTy → Type} [FloatOps F] (main_v61 : IVec S4096x4096 32) (main_v92 : IVec S_ 1) (main_v93 : IVec S4096 32) (main_c_23 : IVec S_ 32) : IVec S_ 1 :=
  let main_v94 : IVec S4096 32 := broadcastInDim S4096 ![] bcast_S_S4096 main_c_23
  let main_v95 : IVec S4096 1 := cmpi .sge main_v93 main_v94
  let main_c_24 : IVec S_ 1 := constantI S_ 1 1#1
  let main_v96 : IVec S_ 1 := (fun x v => Host.reduce IntOp.andi x v reducesTo_S4096_S_d0 h_S_) main_v95 main_c_24
  let main_v97 : IVec S_ 1 := andi main_v92 main_v96
  let main_c_25 : IVec S_ 32 := constantI S_ 32 0#32
  let main_v98 : IVec S4096 32 := (fun x v => Host.reduce IntOp.addi x v reducesTo_S4096x4096_S4096_d1 h_S_) main_v61 main_c_25
  let main_c_26 : IVec S_ 32 := constantI S_ 32 8#32
  let main_v99 : IVec S4096 32 := broadcastInDim S4096 ![] bcast_S_S4096 main_c_26
  let main_v100 : IVec S4096 1 := cmpi .sge main_v98 main_v99
  let main_c_27 : IVec S_ 1 := constantI S_ 1 1#1
  let main_v101 : IVec S_ 1 := (fun x v => Host.reduce IntOp.andi x v reducesTo_S4096_S_d0 h_S_) main_v100 main_c_27
  let main_v102 : IVec S_ 1 := andi main_v97 main_v101
  main_v102

def fn_part4 {F : FTy → Type} [FloatOps F] (main_arg5 : IVec S4096 32) (main_arg6 : IVec S8192 32) (main_v52 : IVec S4096x8192 32) (main_v61 : IVec S4096x4096 32) (main_v75 : IVec S_ 1) (main_c_17 : IVec S_ 32) : IVec S_ 1 :=
  let main_v76 : IVec S4096 32 := broadcastInDim S4096 ![] bcast_S_S4096 main_c_17
  let main_v77 : IVec S4096 1 := cmpi .sge main_arg5 main_v76
  let main_c_18 : IVec S_ 32 := constantI S_ 32 4#32
  let main_v78 : IVec S4096 32 := broadcastInDim S4096 ![] bcast_S_S4096 main_c_18
  let main_v79 : IVec S4096 1 := cmpi .slt main_arg5 main_v78
  let main_v80 : IVec S4096 1 := andi main_v77 main_v79
  let main_c_19 : IVec S_ 1 := constantI S_ 1 1#1
  let main_v81 : IVec S_ 1 := (fun x v => Host.reduce IntOp.andi x v reducesTo_S4096_S_d0 h_S_) main_v80 main_c_19
  let main_v82 : IVec S_ 1 := andi main_v75 main_v81
  let main_v83 : IVec S4095 32 := (extractStridedSlice S4095 ![0] · slices_S4096_S4095_0) main_arg5
  let main_v84 : IVec S4095 32 := (extractStridedSlice S4095 ![1] · slices_S4096_S4095_1) main_arg5
  let main_v85 : IVec S4095 1 := cmpi .sle main_v83 main_v84
  let main_c_20 : IVec S_ 1 := constantI S_ 1 1#1
  let main_v86 : IVec S_ 1 := (fun x v => Host.reduce IntOp.andi x v reducesTo_S4095_S_d0 h_S_) main_v85 main_c_20
  let main_v87 : IVec S_ 1 := andi main_v82 main_v86
  let main_v88 : IVec S8191 32 := (extractStridedSlice S8191 ![0] · slices_S8192_S8191_0) main_arg6
  let main_v89 : IVec S8191 32 := (extractStridedSlice S8191 ![1] · slices_S8192_S8191_1) main_arg6
  let main_v90 : IVec S8191 1 := cmpi .sle main_v88 main_v89
  let main_c_21 : IVec S_ 1 := constantI S_ 1 1#1
  let main_v91 : IVec S_ 1 := (fun x v => Host.reduce IntOp.andi x v reducesTo_S8191_S_d0 h_S_) main_v90 main_c_21
  let main_v92 : IVec S_ 1 := andi main_v87 main_v91
  let main_c_22 : IVec S_ 32 := constantI S_ 32 0#32
  let main_v93 : IVec S4096 32 := (fun x v => Host.reduce IntOp.addi x v reducesTo_S4096x8192_S4096_d1 h_S_) main_v52 main_c_22
  let main_c_23 : IVec S_ 32 := constantI S_ 32 8#32
  fn_part5 (F := F) main_v61 main_v92 main_v93 main_c_23

def fn_part3 {F : FTy → Type} [FloatOps F] (main_arg0 : FVec F S4096x3 .f32) (main_arg2 : FVec F S4096x64 .f32) (main_arg3 : FVec F S8192x64 .f32) (main_arg5 : IVec S4096 32) (main_arg6 : IVec S8192 32) (main_v52 : IVec S4096x8192 32) (main_v57 : IVec S4096x4096 1) (main_v58 : IVec S1x4096 1) : IVec S_ 1 :=
  let main_v59 : IVec S4096x4096 1 := broadcastInDim S4096x4096 ![0, 1] bcast_S1x4096_S4096x4096_0_1 main_v58
  let main_v60 : IVec S4096x4096 1 := andi main_v57 main_v59
  let main_v61 : IVec S4096x4096 32 := (extui 32 · natLt_1_32) main_v60
  let main_v62 : FVec F S4096x3 .f32 := Host.absf main_arg0
  let main_cst_11 : FVec F S_ .f32 := constant S_ .f32 0x7F800000#32
  let main_v63 : FVec F S4096x3 .f32 := broadcastInDim S4096x3 ![] bcast_S_S4096x3 main_cst_11
  let main_v64 : IVec S4096x3 1 := cmpf .olt main_v62 main_v63
  let main_c_12 : IVec S_ 1 := constantI S_ 1 1#1
  let main_v65 : IVec S_ 1 := (fun x v => Host.reduce IntOp.andi x v reducesTo_S4096x3_S_d0_1 h_S_) main_v64 main_c_12
  let main_v66 : FVec F S4096x64 .f32 := Host.absf main_arg2
  let main_cst_13 : FVec F S_ .f32 := constant S_ .f32 0x7F800000#32
  let main_v67 : FVec F S4096x64 .f32 := broadcastInDim S4096x64 ![] bcast_S_S4096x64 main_cst_13
  let main_v68 : IVec S4096x64 1 := cmpf .olt main_v66 main_v67
  let main_c_14 : IVec S_ 1 := constantI S_ 1 1#1
  let main_v69 : IVec S_ 1 := (fun x v => Host.reduce IntOp.andi x v reducesTo_S4096x64_S_d0_1 h_S_) main_v68 main_c_14
  let main_v70 : IVec S_ 1 := andi main_v65 main_v69
  let main_v71 : FVec F S8192x64 .f32 := Host.absf main_arg3
  let main_cst_15 : FVec F S_ .f32 := constant S_ .f32 0x7F800000#32
  let main_v72 : FVec F S8192x64 .f32 := broadcastInDim S8192x64 ![] bcast_S_S8192x64 main_cst_15
  let main_v73 : IVec S8192x64 1 := cmpf .olt main_v71 main_v72
  let main_c_16 : IVec S_ 1 := constantI S_ 1 1#1
  let main_v74 : IVec S_ 1 := (fun x v => Host.reduce IntOp.andi x v reducesTo_S8192x64_S_d0_1 h_S_) main_v73 main_c_16
  let main_v75 : IVec S_ 1 := andi main_v70 main_v74
  let main_c_17 : IVec S_ 32 := constantI S_ 32 0#32
  fn_part4 (F := F) main_arg5 main_arg6 main_v52 main_v61 main_v75 main_c_17

def fn_part2 {F : FTy → Type} [FloatOps F] (main_arg0 : FVec F S4096x3 .f32) (main_arg2 : FVec F S4096x64 .f32) (main_arg3 : FVec F S8192x64 .f32) (main_arg5 : IVec S4096 32) (main_arg6 : IVec S8192 32) (main_v20 : FVec F S4 .f32) (main_v28 : FVec F S4096 .f32) (main_v35 : FVec F S4096 .f32) (main_v36 : IVec S4096 32) : IVec S_ 1 :=
  let main_v37 : IVec S4096 1 := cmpi .slt main_arg5 main_v36
  let main_c_9 : IVec S_ 32 := constantI S_ 32 4#32
  let main_v38 : IVec S4096 32 := broadcastInDim S4096 ![] bcast_S_S4096 main_c_9
  let main_v39 : IVec S4096 32 := addi main_arg5 main_v38
  let main_v40 : IVec S4096 32 := select main_v37 main_v39 main_arg5
  let main_v41 : IVec S4096x1 32 := broadcastInDim S4096x1 ![0] bcast_S4096_S4096x1_0 main_v40
  let main_v42 : FVec F S4096 .f32 := (fun x i => Host.gather gather_S4_S4096x1_S4096_n_0_n_n_0_1_1 x i) main_v20 main_v41
  let main_v43 : FVec F S4096 .f32 := subf main_v35 main_v42
  let main_v44 : FVec F S4096 .f32 := Host.divf main_v28 main_v43
  let main_cst_10 : FVec F S_ .f32 := constant S_ .f32 0x3F000000#32
  let main_v45 : FVec F S4096 .f32 := broadcastInDim S4096 ![] bcast_S_S4096 main_cst_10
  let main_v46 : IVec S4096 1 := cmpf .oge main_v44 main_v45
  let main_v47 : IVec S4096x1 32 := broadcastInDim S4096x1 ![0] bcast_S4096_S4096x1_0 main_arg5
  let main_v48 : IVec S1x8192 32 := broadcastInDim S1x8192 ![1] bcast_S8192_S1x8192_1 main_arg6
  let main_v49 : IVec S4096x8192 32 := broadcastInDim S4096x8192 ![0, 1] bcast_S4096x1_S4096x8192_0_1 main_v47
  let main_v50 : IVec S4096x8192 32 := broadcastInDim S4096x8192 ![0, 1] bcast_S1x8192_S4096x8192_0_1 main_v48
  let main_v51 : IVec S4096x8192 1 := cmpi .eq main_v49 main_v50
  let main_v52 : IVec S4096x8192 32 := (extui 32 · natLt_1_32) main_v51
  let main_v53 : IVec S4096x1 32 := broadcastInDim S4096x1 ![0] bcast_S4096_S4096x1_0 main_arg5
  let main_v54 : IVec S1x4096 32 := broadcastInDim S1x4096 ![1] bcast_S4096_S1x4096_1 main_arg5
  let main_v55 : IVec S4096x4096 32 := broadcastInDim S4096x4096 ![0, 1] bcast_S4096x1_S4096x4096_0_1 main_v53
  let main_v56 : IVec S4096x4096 32 := broadcastInDim S4096x4096 ![0, 1] bcast_S1x4096_S4096x4096_0_1 main_v54
  let main_v57 : IVec S4096x4096 1 := cmpi .eq main_v55 main_v56
  let main_v58 : IVec S1x4096 1 := broadcastInDim S1x4096 ![1] bcast_S4096_S1x4096_1 main_v46
  fn_part3 (F := F) main_arg0 main_arg2 main_arg3 main_arg5 main_arg6 main_v52 main_v57 main_v58

def fn_part1 {F : FTy → Type} [FloatOps F] (main_arg0 : FVec F S4096x3 .f32) (main_arg2 : FVec F S4096x64 .f32) (main_arg3 : FVec F S8192x64 .f32) (main_arg5 : IVec S4096 32) (main_arg6 : IVec S8192 32) (main_v6 : FVec F S4096 .f32) (main_v15 : FVec F S4 .f32) (main_v18 : FVec F S4096x4 .f32) : IVec S_ 1 :=
  let main_cst_4 : FVec F S_ .f32 := constant S_ .f32 0xFF800000#32
  let main_v19 : FVec F S4 .f32 := (fun x v => Host.reduce FloatOps.maximumf x v reducesTo_S4096x4_S4_d0 h_S_) main_v18 main_cst_4
  let main_v20 : FVec F S4 .f32 := Host.negf main_v19
  let main_c : IVec S_ 32 := constantI S_ 32 0#32
  let main_v21 : IVec S4096 32 := broadcastInDim S4096 ![] bcast_S_S4096 main_c
  let main_v22 : IVec S4096 1 := cmpi .slt main_arg5 main_v21
  let main_c_5 : IVec S_ 32 := constantI S_ 32 4#32
  let main_v23 : IVec S4096 32 := broadcastInDim S4096 ![] bcast_S_S4096 main_c_5
  let main_v24 : IVec S4096 32 := addi main_arg5 main_v23
  let main_v25 : IVec S4096 32 := select main_v22 main_v24 main_arg5
  let main_v26 : IVec S4096x1 32 := broadcastInDim S4096x1 ![0] bcast_S4096_S4096x1_0 main_v25
  let main_v27 : FVec F S4096 .f32 := (fun x i => Host.gather gather_S4_S4096x1_S4096_n_0_n_n_0_1_1 x i) main_v20 main_v26
  let main_v28 : FVec F S4096 .f32 := subf main_v6 main_v27
  let main_c_6 : IVec S_ 32 := constantI S_ 32 0#32
  let main_v29 : IVec S4096 32 := broadcastInDim S4096 ![] bcast_S_S4096 main_c_6
  let main_v30 : IVec S4096 1 := cmpi .slt main_arg5 main_v29
  let main_c_7 : IVec S_ 32 := constantI S_ 32 4#32
  let main_v31 : IVec S4096 32 := broadcastInDim S4096 ![] bcast_S_S4096 main_c_7
  let main_v32 : IVec S4096 32 := addi main_arg5 main_v31
  let main_v33 : IVec S4096 32 := select main_v30 main_v32 main_arg5
  let main_v34 : IVec S4096x1 32 := broadcastInDim S4096x1 ![0] bcast_S4096_S4096x1_0 main_v33
  let main_v35 : FVec F S4096 .f32 := (fun x i => Host.gather gather_S4_S4096x1_S4096_n_0_n_n_0_1_1 x i) main_v15 main_v34
  let main_c_8 : IVec S_ 32 := constantI S_ 32 0#32
  let main_v36 : IVec S4096 32 := broadcastInDim S4096 ![] bcast_S_S4096 main_c_8
  fn_part2 (F := F) main_arg0 main_arg2 main_arg3 main_arg5 main_arg6 main_v20 main_v28 main_v35 main_v36

def fn {F : FTy → Type} [FloatOps F] (main_arg0 : FVec F S4096x3 .f32) (main_arg1 : FVec F S8192x3 .f32) (main_arg2 : FVec F S4096x64 .f32) (main_arg3 : FVec F S8192x64 .f32) (main_arg4 : FVec F S4096x1 .f32) (main_arg5 : IVec S4096 32) (main_arg6 : IVec S8192 32) : IVec S_ 1 :=
  let main_v0 : FVec F S4096x1 .f32 := Host.negf main_arg4
  let main_v1 : FVec F S4096x1 .f32 := Host.exp main_v0
  let main_cst : FVec F S_ .f32 := constant S_ .f32 0x3F800000#32
  let main_v2 : FVec F S4096x1 .f32 := broadcastInDim S4096x1 ![] bcast_S_S4096x1 main_cst
  let main_v3 : FVec F S4096x1 .f32 := addf main_v2 main_v1
  let main_cst_0 : FVec F S_ .f32 := constant S_ .f32 0x3F800000#32
  let main_v4 : FVec F S4096x1 .f32 := broadcastInDim S4096x1 ![] bcast_S_S4096x1 main_cst_0
  let main_v5 : FVec F S4096x1 .f32 := Host.divf main_v4 main_v3
  let main_v6 : FVec F S4096 .f32 := shapeCast S4096 main_v5 shapeCasts_S4096x1_S4096
  let main_v7 : IVec S4096x1 32 := broadcastInDim S4096x1 ![0] bcast_S4096_S4096x1_0 main_arg5
  let main_v8 : IVec S4 32 := iotaInDim S4 32 0
  let main_v9 : IVec S1x4 32 := broadcastInDim S1x4 ![1] bcast_S4_S1x4_1 main_v8
  let main_v10 : IVec S4096x4 32 := broadcastInDim S4096x4 ![0, 1] bcast_S4096x1_S4096x4_0_1 main_v7
  let main_v11 : IVec S4096x4 32 := broadcastInDim S4096x4 ![0, 1] bcast_S1x4_S4096x4_0_1 main_v9
  let main_v12 : IVec S4096x4 1 := cmpi .eq main_v10 main_v11
  let main_v13 : FVec F S4096x1 .f32 := broadcastInDim S4096x1 ![0] bcast_S4096_S4096x1_0 main_v6
  let main_cst_1 : FVec F S_ .f32 := constant S_ .f32 0xFF800000#32
  let main_v14 : FVec F S4096x4 .f32 := fn_where (F := F) main_v12 main_v13 main_cst_1
  let main_cst_2 : FVec F S_ .f32 := constant S_ .f32 0xFF800000#32
  let main_v15 : FVec F S4 .f32 := (fun x v => Host.reduce FloatOps.maximumf x v reducesTo_S4096x4_S4_d0 h_S_) main_v14 main_cst_2
  let main_v16 : FVec F S4096x1 .f32 := broadcastInDim S4096x1 ![0] bcast_S4096_S4096x1_0 main_v6
  let main_v17 : FVec F S4096x1 .f32 := Host.negf main_v16
  let main_cst_3 : FVec F S_ .f32 := constant S_ .f32 0xFF800000#32
  let main_v18 : FVec F S4096x4 .f32 := fn_where (F := F) main_v12 main_v17 main_cst_3
  fn_part1 (F := F) main_arg0 main_arg2 main_arg3 main_arg5 main_arg6 main_v6 main_v15 main_v18
-- ==== Kernel.lean ====
abbrev S4096x3 : Shape := ⟨2, ![4096, 3]⟩
abbrev S8192x3 : Shape := ⟨2, ![8192, 3]⟩
abbrev S4096x64 : Shape := ⟨2, ![4096, 64]⟩
abbrev S8192x64 : Shape := ⟨2, ![8192, 64]⟩
abbrev S4096x1 : Shape := ⟨2, ![4096, 1]⟩
abbrev S4096 : Shape := ⟨1, ![4096]⟩
abbrev S8192 : Shape := ⟨1, ![8192]⟩
abbrev S16x256 : Shape := ⟨2, ![16, 256]⟩
abbrev S16x1 : Shape := ⟨2, ![16, 1]⟩
abbrev S16 : Shape := ⟨1, ![16]⟩
abbrev S1x8192 : Shape := ⟨2, ![1, 8192]⟩
abbrev S16x8192 : Shape := ⟨2, ![16, 8192]⟩
abbrev S_ : Shape := ⟨0, ![]⟩
abbrev S8x1024x64 : Shape := ⟨3, ![8, 1024, 64]⟩
abbrev S3x8192 : Shape := ⟨2, ![3, 8192]⟩
abbrev S4x8192 : Shape := ⟨2, ![4, 8192]⟩
abbrev S4x8x1024 : Shape := ⟨3, ![4, 8, 1024]⟩
abbrev S8x4x1024 : Shape := ⟨3, ![8, 4, 1024]⟩
abbrev S8x1x1024 : Shape := ⟨3, ![8, 1, 1024]⟩
abbrev S256x64 : Shape := ⟨2, ![256, 64]⟩
abbrev S256x1 : Shape := ⟨2, ![256, 1]⟩
abbrev S256x3 : Shape := ⟨2, ![256, 3]⟩
abbrev S8x256x1024 : Shape := ⟨3, ![8, 256, 1024]⟩
abbrev S1 : Shape := ⟨1, ![1]⟩
abbrev S256 : Shape := ⟨1, ![256]⟩
abbrev S1x1024x64 : Shape := ⟨3, ![1, 1024, 64]⟩
abbrev S1024x64 : Shape := ⟨2, ![1024, 64]⟩
abbrev S1024 : Shape := ⟨1, ![1024]⟩
abbrev S1024x1 : Shape := ⟨2, ![1024, 1]⟩
abbrev S256x1024 : Shape := ⟨2, ![256, 1024]⟩
abbrev S1x1x1024 : Shape := ⟨3, ![1, 1, 1024]⟩
abbrev S1x1024 : Shape := ⟨2, ![1, 1024]⟩
abbrev S1x256x1024 : Shape := ⟨3, ![1, 256, 1024]⟩
abbrev S1x4x1024 : Shape := ⟨3, ![1, 4, 1024]⟩
abbrev S4x1024 : Shape := ⟨2, ![4, 1024]⟩
abbrev S1x4096 : Shape := ⟨2, ![1, 4096]⟩
abbrev S16x4096 : Shape := ⟨2, ![16, 4096]⟩
abbrev S4x1024x64 : Shape := ⟨3, ![4, 1024, 64]⟩
abbrev S4x1x1024 : Shape := ⟨3, ![4, 1, 1024]⟩
abbrev S3x4096 : Shape := ⟨2, ![3, 4096]⟩
abbrev S4x4096 : Shape := ⟨2, ![4, 4096]⟩
abbrev S4x4x1024 : Shape := ⟨3, ![4, 4, 1024]⟩
abbrev S4096x4 : Shape := ⟨2, ![4096, 4]⟩
abbrev S256x4 : Shape := ⟨2, ![256, 4]⟩
abbrev S4x256x1024 : Shape := ⟨3, ![4, 256, 1024]⟩
abbrev S1x1 : Shape := ⟨2, ![1, 1]⟩

abbrev nBuf : Space → Nat
  | .hbm => 179
  | .vmem => 31
  | .smem => 4
  | _ => 0

abbrev hbmTy0_0 (i : Nat) : BufTy := match i % 128 with
  | 0 => ⟨S4096x3, .f32⟩
  | 1 => ⟨S8192x3, .f32⟩
  | 2 => ⟨S4096x64, .f32⟩
  | 3 => ⟨S8192x64, .f32⟩
  | 4 => ⟨S4096x1, .f32⟩
  | 5 => ⟨S4096, .i32⟩
  | 6 => ⟨S8192, .i32⟩
  | 7 => ⟨S16x256, .i32⟩
  | 8 => ⟨S16x1, .i32⟩
  | 9 => ⟨S16, .i32⟩
  | 10 => ⟨S16x1, .i32⟩
  | 11 => ⟨S16, .i32⟩
  | 12 => ⟨S1x8192, .i32⟩
  | 13 => ⟨S16x1, .i32⟩
  | 14 => ⟨S16x8192, .i32⟩
  | 15 => ⟨S16x8192, .i32⟩
  | 16 => ⟨S16x8192, .i1⟩
  | 17 => ⟨S16x8192, .i32⟩
  | 18 => ⟨S_, .i32⟩
  | 19 => ⟨S16, .i32⟩
  | 20 => ⟨S1x8192, .i32⟩
  | 21 => ⟨S16x1, .i32⟩
  | 22 => ⟨S16x8192, .i32⟩
  | 23 => ⟨S16x8192, .i32⟩
  | 24 => ⟨S16x8192, .i1⟩
  | 25 => ⟨S16x8192, .i32⟩
  | 26 => ⟨S_, .i32⟩
  | 27 => ⟨S16, .i32⟩
  | 28 => ⟨S_, .i32⟩
  | 29 => ⟨S_, .i32⟩
  | 30 => ⟨S16, .i32⟩
  | 31 => ⟨S16, .i32⟩
  | 32 => ⟨S16, .i32⟩
  | 33 => ⟨S_, .i32⟩
  | 34 => ⟨S16, .i32⟩
  | 35 => ⟨S16, .i1⟩
  | 36 => ⟨S16, .i32⟩
  | 37 => ⟨S16, .i32⟩
  | 38 => ⟨S_, .i32⟩
  | 39 => ⟨S16, .i32⟩
  | 40 => ⟨S16, .i1⟩
  | 41 => ⟨S16, .i1⟩
  | 42 => ⟨S_, .i32⟩
  | 43 => ⟨S16, .i32⟩
  | 44 => ⟨S16, .i32⟩
  | 45 => ⟨S16, .i32⟩
  | 46 => ⟨S_, .i32⟩
  | 47 => ⟨S16, .i32⟩
  | 48 => ⟨S16, .i32⟩
  | 49 => ⟨S_, .i32⟩
  | 50 => ⟨S16, .i32⟩
  | 51 => ⟨S16, .i32⟩
  | 52 => ⟨S_, .i32⟩
  | 53 => ⟨S_, .i32⟩
  | 54 => ⟨S16, .i32⟩
  | 55 => ⟨S16, .i32⟩
  | 56 => ⟨S16, .i32⟩
  | 57 => ⟨S_, .i32⟩
  | 58 => ⟨S16, .i32⟩
  | 59 => ⟨S16, .i1⟩
  | 60 => ⟨S16, .i32⟩
  | 61 => ⟨S16, .i32⟩
  | 62 => ⟨S_, .i32⟩
  | 63 => ⟨S16, .i32⟩
  | 64 => ⟨S16, .i1⟩
  | 65 => ⟨S16, .i1⟩
  | 66 => ⟨S_, .i32⟩
  | 67 => ⟨S16, .i32⟩
  | 68 => ⟨S16, .i32⟩
  | 69 => ⟨S16, .i32⟩
  | 70 => ⟨S16, .i1⟩
  | 71 => ⟨S_, .i32⟩
  | 72 => ⟨S_, .i32⟩
  | 73 => ⟨S16, .i32⟩
  | 74 => ⟨S16, .i32⟩
  | 75 => ⟨S_, .i32⟩
  | 76 => ⟨S16, .i32⟩
  | 77 => ⟨S16, .i32⟩
  | 78 => ⟨S_, .i32⟩
  | 79 => ⟨S_, .i32⟩
  | 80 => ⟨S16, .i32⟩
  | 81 => ⟨S8x1024x64, .f32⟩
  | 82 => ⟨S3x8192, .f32⟩
  | 83 => ⟨S_, .f32⟩
  | 84 => ⟨S1x8192, .f32⟩
  | 85 => ⟨S4x8192, .f32⟩
  | 86 => ⟨S4x8x1024, .f32⟩
  | 87 => ⟨S8x4x1024, .f32⟩
  | 88 => ⟨S4096x1, .i32⟩
  | 89 => ⟨S8x1x1024, .i32⟩
  | 90 => ⟨S4096x3, .f32⟩
  | 91 => ⟨S16x256, .i32⟩
  | 92 => ⟨S16x1, .i32⟩
  | 93 => ⟨S16, .i32⟩
  | 94 => ⟨S16x1, .i32⟩
  | 95 => ⟨S16, .i32⟩
  | 96 => ⟨S1x4096, .i32⟩
  | 97 => ⟨S16x1, .i32⟩
  | 98 => ⟨S16x4096, .i32⟩
  | 99 => ⟨S16x4096, .i32⟩
  | 100 => ⟨S16x4096, .i1⟩
  | 101 => ⟨S16x4096, .i32⟩
  | 102 => ⟨S_, .i32⟩
  | 103 => ⟨S16, .i32⟩
  | 104 => ⟨S1x4096, .i32⟩
  | 105 => ⟨S16x1, .i32⟩
  | 106 => ⟨S16x4096, .i32⟩
  | 107 => ⟨S16x4096, .i32⟩
  | 108 => ⟨S16x4096, .i1⟩
  | 109 => ⟨S16x4096, .i32⟩
  | 110 => ⟨S_, .i32⟩
  | 111 => ⟨S16, .i32⟩
  | 112 => ⟨S_, .i32⟩
  | 113 => ⟨S_, .i32⟩
  | 114 => ⟨S16, .i32⟩
  | 115 => ⟨S16, .i32⟩
  | 116 => ⟨S16, .i32⟩
  | 117 => ⟨S_, .i32⟩
  | 118 => ⟨S16, .i32⟩
  | 119 => ⟨S16, .i1⟩
  | 120 => ⟨S16, .i32⟩
  | 121 => ⟨S16, .i32⟩
  | 122 => ⟨S_, .i32⟩
  | 123 => ⟨S16, .i32⟩
  | 124 => ⟨S16, .i1⟩
  | 125 => ⟨S16, .i1⟩
  | 126 => ⟨S_, .i32⟩
  | 127 => ⟨S16, .i32⟩
  | _ => ⟨S4096x3, .f32⟩

abbrev hbmTy0_1 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S_, .i32⟩
  | 6 => ⟨S16, .i32⟩
  | 7 => ⟨S16, .i32⟩
  | 8 => ⟨S_, .i32⟩
  | 9 => ⟨S_, .i32⟩
  | 10 => ⟨S16, .i32⟩
  | 11 => ⟨S16, .i32⟩
  | 12 => ⟨S16, .i32⟩
  | 13 => ⟨S_, .i32⟩
  | 14 => ⟨S16, .i32⟩
  | 15 => ⟨S16, .i1⟩
  | 16 => ⟨S16, .i32⟩
  | 17 => ⟨S16, .i32⟩
  | 18 => ⟨S_, .i32⟩
  | 19 => ⟨S16, .i32⟩
  | 20 => ⟨S16, .i1⟩
  | 21 => ⟨S16, .i1⟩
  | 22 => ⟨S_, .i32⟩
  | 23 => ⟨S16, .i32⟩
  | 24 => ⟨S16, .i32⟩
  | 25 => ⟨S16, .i32⟩
  | 26 => ⟨S16, .i1⟩
  | 27 => ⟨S_, .i32⟩
  | 28 => ⟨S_, .i32⟩
  | 29 => ⟨S16, .i32⟩
  | 30 => ⟨S16, .i32⟩
  | 31 => ⟨S_, .i32⟩
  | 32 => ⟨S16, .i32⟩
  | 33 => ⟨S16, .i32⟩
  | 34 => ⟨S_, .i32⟩
  | 35 => ⟨S_, .i32⟩
  | 36 => ⟨S16, .i32⟩
  | 37 => ⟨S4096, .f32⟩
  | 38 => ⟨S4x1024x64, .f32⟩
  | 39 => ⟨S4096x1, .i32⟩
  | 40 => ⟨S1x4096, .i32⟩
  | 41 => ⟨S4x1x1024, .i32⟩
  | 42 => ⟨S1x4096, .f32⟩
  | 43 => ⟨S4x1x1024, .f32⟩
  | 44 => ⟨S3x4096, .f32⟩
  | 45 => ⟨S_, .f32⟩
  | 46 => ⟨S1x4096, .f32⟩
  | 47 => ⟨S4x4096, .f32⟩
  | 48 => ⟨S4x4x1024, .f32⟩
  | 49 => ⟨S4x4x1024, .f32⟩
  | 50 => ⟨S4096x4, .f32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | .local _ .vmem, ⟨0, _⟩ => ⟨S256x64, .f32⟩
  | .local _ .vmem, ⟨1, _⟩ => ⟨S256x64, .f32⟩
  | .local _ .vmem, ⟨2, _⟩ => ⟨S8x1024x64, .f32⟩
  | .local _ .vmem, ⟨3, _⟩ => ⟨S8x4x1024, .f32⟩
  | .local _ .vmem, ⟨4, _⟩ => ⟨S256x1, .i32⟩
  | .local _ .vmem, ⟨5, _⟩ => ⟨S256x1, .i32⟩
  | .local _ .vmem, ⟨6, _⟩ => ⟨S8x1x1024, .i32⟩
  | .local _ .vmem, ⟨7, _⟩ => ⟨S256x3, .f32⟩
  | .local _ .vmem, ⟨8, _⟩ => ⟨S256x3, .f32⟩
  | .local _ .vmem, ⟨9, _⟩ => ⟨S256x3, .f32⟩
  | .local _ .vmem, ⟨10, _⟩ => ⟨S256x3, .f32⟩
  | .local _ .vmem, ⟨11, _⟩ => ⟨S8x256x1024, .f32⟩
  | .local _ .vmem, ⟨12, _⟩ => ⟨S8x256x1024, .f32⟩
  | .local _ .vmem, ⟨13, _⟩ => ⟨S256x64, .f32⟩
  | .local _ .vmem, ⟨14, _⟩ => ⟨S256x64, .f32⟩
  | .local _ .vmem, ⟨15, _⟩ => ⟨S4x1024x64, .f32⟩
  | .local _ .vmem, ⟨16, _⟩ => ⟨S256x1, .i32⟩
  | .local _ .vmem, ⟨17, _⟩ => ⟨S256x1, .i32⟩
  | .local _ .vmem, ⟨18, _⟩ => ⟨S1x4096, .i32⟩
  | .local _ .vmem, ⟨19, _⟩ => ⟨S4x1x1024, .i32⟩
  | .local _ .vmem, ⟨20, _⟩ => ⟨S256x1, .f32⟩
  | .local _ .vmem, ⟨21, _⟩ => ⟨S256x1, .f32⟩
  | .local _ .vmem, ⟨22, _⟩ => ⟨S1x4096, .f32⟩
  | .local _ .vmem, ⟨23, _⟩ => ⟨S4x1x1024, .f32⟩
  | .local _ .vmem, ⟨24, _⟩ => ⟨S256x3, .f32⟩
  | .local _ .vmem, ⟨25, _⟩ => ⟨S256x3, .f32⟩
  | .local _ .vmem, ⟨26, _⟩ => ⟨S4x4x1024, .f32⟩
  | .local _ .vmem, ⟨27, _⟩ => ⟨S256x4, .f32⟩
  | .local _ .vmem, ⟨28, _⟩ => ⟨S256x4, .f32⟩
  | .local _ .vmem, ⟨29, _⟩ => ⟨S4x256x1024, .f32⟩
  | .local _ .vmem, ⟨30, _⟩ => ⟨S4x256x1024, .f32⟩
  | .local _ .smem, ⟨0, _⟩ => ⟨S16, .i32⟩
  | .local _ .smem, ⟨1, _⟩ => ⟨S16, .i32⟩
  | .local _ .smem, ⟨2, _⟩ => ⟨S16, .i32⟩
  | .local _ .smem, ⟨3, _⟩ => ⟨S16, .i32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_c_3 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v24 : Ref sig .tc := ⟨.hbm, 69, rfl⟩
abbrev main_v25 : Ref sig .tc := ⟨.hbm, 70, rfl⟩
abbrev main_c_5 : Ref sig .tc := ⟨.hbm, 71, rfl⟩
abbrev main_call2_v0 : Ref sig .tc := ⟨.hbm, 72, rfl⟩
abbrev main_call2_v1 : Ref sig .tc := ⟨.hbm, 73, rfl⟩
abbrev main_v27 : Ref sig .tc := ⟨.hbm, 74, rfl⟩
abbrev main_c_6 : Ref sig .tc := ⟨.hbm, 75, rfl⟩
abbrev main_v28 : Ref sig .tc := ⟨.hbm, 76, rfl⟩
abbrev main_v29 : Ref sig .tc := ⟨.hbm, 77, rfl⟩
abbrev main_c_7 : Ref sig .tc := ⟨.hbm, 78, rfl⟩
abbrev main_call3_v0 : Ref sig .tc := ⟨.hbm, 79, rfl⟩
abbrev main_call3_v1 : Ref sig .tc := ⟨.hbm, 80, rfl⟩
abbrev main_v31 : Ref sig .tc := ⟨.hbm, 81, rfl⟩
abbrev main_v32 : Ref sig .tc := ⟨.hbm, 82, rfl⟩
abbrev main_cst : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_c_8 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_c_9 : Ref sig .tc := ⟨.hbm, 110, rfl⟩
abbrev main_v58 : Ref sig .tc := ⟨.hbm, 111, rfl⟩
abbrev main_c_10 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_c : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_0 : Ref sig .tc := ⟨.hbm, 126, rfl⟩
abbrev main_call4_v12 : Ref sig .tc := ⟨.hbm, 127, rfl⟩
abbrev main_call4_v13 : Ref sig .tc := ⟨.hbm, 128, rfl⟩
abbrev main_v59 : Ref sig .tc := ⟨.hbm, 129, rfl⟩
abbrev main_c_11 : Ref sig .tc := ⟨.hbm, 130, rfl⟩
abbrev main_v60 : Ref sig .tc := ⟨.hbm, 131, rfl⟩
abbrev main_v61 : Ref sig .tc := ⟨.hbm, 132, rfl⟩
abbrev main_c_12 : Ref sig .tc := ⟨.hbm, 133, rfl⟩
abbrev main_v62 : Ref sig .tc := ⟨.hbm, 134, rfl⟩
abbrev main_v63 : Ref sig .tc := ⟨.hbm, 135, rfl⟩
abbrev main_c_13 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_c : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_c_0 : Ref sig .tc := ⟨.hbm, 150, rfl⟩
abbrev main_call5_v12 : Ref sig .tc := ⟨.hbm, 151, rfl⟩
abbrev main_call5_v13 : Ref sig .tc := ⟨.hbm, 152, rfl⟩
abbrev main_v64 : Ref sig .tc := ⟨.hbm, 153, rfl⟩
abbrev main_v65 : Ref sig .tc := ⟨.hbm, 154, rfl⟩
abbrev main_c_14 : Ref sig .tc := ⟨.hbm, 155, rfl⟩
abbrev main_call6_v0 : Ref sig .tc := ⟨.hbm, 156, rfl⟩
abbrev main_call6_v1 : Ref sig .tc := ⟨.hbm, 157, rfl⟩
abbrev main_v67 : Ref sig .tc := ⟨.hbm, 158, rfl⟩
abbrev main_c_15 : Ref sig .tc := ⟨.hbm, 159, rfl⟩
abbrev main_v68 : Ref sig .tc := ⟨.hbm, 160, rfl⟩
abbrev main_v69 : Ref sig .tc := ⟨.hbm, 161, rfl⟩
abbrev main_c_16 : Ref sig .tc := ⟨.hbm, 162, rfl⟩
abbrev main_call7_v0 : Ref sig .tc := ⟨.hbm, 163, rfl⟩
abbrev main_call7_v1 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_cst_17 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v26 : Ref sig .tc := ⟨.smem, 0, rfl⟩
abbrev main_v30 : Ref sig .tc := ⟨.smem, 1, rfl⟩
abbrev main_v66 : Ref sig .tc := ⟨.smem, 2, rfl⟩
abbrev main_v70 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc1_scratch0 : Ref sig .tc := ⟨.vmem, 29, rfl⟩
abbrev cc1_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_v26.idx, main_v30.idx], fun | 0 => main_v26.names | 1 => main_v30.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) (v3 : BitVec 32) : Scf.Loop 32 :=
  let v4 : BitVec 32 := Scalar.addi v1 v3
  let v18 : BitVec 32 := Scalar.subi v4 v1
  let c1_i32 : BitVec 32 := 1#32
  let v20 : BitVec 32 := Scalar.divsi v18 c1_i32
  let v21 : BitVec 32 := Scalar.muli v20 c1_i32
  let v22 : BitVec 32 := Scalar.addi v1 v21
  let c1_i32_5 : BitVec 32 := 1#32
  ⟨v1, v22, c1_i32_5⟩

def k0_off2 (v1 : BitVec 32) (v3 : BitVec 32) (k0_t1 : Fin (k0_t1_loop v1 v3).trips) : Fin 3 → Nat :=
  let c1_i32_5 : BitVec 32 := 1#32
  let arg12 : BitVec 32 := Scf.iv v1 c1_i32_5 k0_t1
  let v231 : Index := Scalar.indexCast arg12
  let c0_112 : Index := 0#32
  let c0_113 : Index := 0#32
  ![v231.toNat, 0, 0]
def k0_off3 (v1 : BitVec 32) (v3 : BitVec 32) (k0_t1 : Fin (k0_t1_loop v1 v3).trips) : Fin 3 → Nat :=
  let c1_i32_5 : BitVec 32 := 1#32
  let arg12 : BitVec 32 := Scf.iv v1 c1_i32_5 k0_t1
  let v246 : Index := Scalar.indexCast arg12
  let c0_119 : Index := 0#32
  let c0_120 : Index := 0#32
  ![v246.toNat, 0, 0]
def k0_off4 (v1 : BitVec 32) (v3 : BitVec 32) (k0_t1 : Fin (k0_t1_loop v1 v3).trips) : Fin 3 → Nat :=
  let c1_i32_5 : BitVec 32 := 1#32
  let arg12 : BitVec 32 := Scf.iv v1 c1_i32_5 k0_t1
  let v252 : Index := Scalar.indexCast arg12
  let c0_121 : Index := 0#32
  let c0_122 : Index := 0#32
  ![v252.toNat, 0, 0]
@[reducible] def k0_t2_loop (v1 : BitVec 32) (v3 : BitVec 32) : Scf.Loop 32 :=
  let v4 : BitVec 32 := Scalar.addi v1 v3
  let v18 : BitVec 32 := Scalar.subi v4 v1
  let c1_i32 : BitVec 32 := 1#32
  let v20 : BitVec 32 := Scalar.divsi v18 c1_i32
  let v21 : BitVec 32 := Scalar.muli v20 c1_i32
  let v22 : BitVec 32 := Scalar.addi v1 v21
  let v19 : BitVec 32 := Scalar.addi v1 v18
  let c1_i32_6 : BitVec 32 := 1#32
  ⟨v22, v19, c1_i32_6⟩
def k0_off5 (v1 : BitVec 32) (v3 : BitVec 32) (k0_t2 : Fin (k0_t2_loop v1 v3).trips) : Fin 3 → Nat :=
  let v4 : BitVec 32 := Scalar.addi v1 v3
  let v18 : BitVec 32 := Scalar.subi v4 v1
  let c1_i32 : BitVec 32 := 1#32
  let v20 : BitVec 32 := Scalar.divsi v18 c1_i32
  let v21 : BitVec 32 := Scalar.muli v20 c1_i32
  let v22 : BitVec 32 := Scalar.addi v1 v21
  let c1_i32_6 : BitVec 32 := 1#32
  let arg12 : BitVec 32 := Scf.iv v22 c1_i32_6 k0_t2
  let v231 : Index := Scalar.indexCast arg12
  let c0_112 : Index := 0#32
  let c0_113 : Index := 0#32
  ![v231.toNat, 0, 0]
def k0_off6 (v1 : BitVec 32) (v3 : BitVec 32) (k0_t2 : Fin (k0_t2_loop v1 v3).trips) : Fin 3 → Nat :=
  let v4 : BitVec 32 := Scalar.addi v1 v3
  let v18 : BitVec 32 := Scalar.subi v4 v1
  let c1_i32 : BitVec 32 := 1#32
  let v20 : BitVec 32 := Scalar.divsi v18 c1_i32
  let v21 : BitVec 32 := Scalar.muli v20 c1_i32
  let v22 : BitVec 32 := Scalar.addi v1 v21
  let c1_i32_6 : BitVec 32 := 1#32
  let arg12 : BitVec 32 := Scf.iv v22 c1_i32_6 k0_t2
  let v246 : Index := Scalar.indexCast arg12
  let c0_119 : Index := 0#32
  let c0_120 : Index := 0#32
  ![v246.toNat, 0, 0]
def k0_off7 (v1 : BitVec 32) (v3 : BitVec 32) (k0_t2 : Fin (k0_t2_loop v1 v3).trips) : Fin 3 → Nat :=
  let v4 : BitVec 32 := Scalar.addi v1 v3
  let v18 : BitVec 32 := Scalar.subi v4 v1
  let c1_i32 : BitVec 32 := 1#32
  let v20 : BitVec 32 := Scalar.divsi v18 c1_i32
  let v21 : BitVec 32 := Scalar.muli v20 c1_i32
  let v22 : BitVec 32 := Scalar.addi v1 v21
  let c1_i32_6 : BitVec 32 := 1#32
  let arg12 : BitVec 32 := Scf.iv v22 c1_i32_6 k0_t2
  let v252 : Index := Scalar.indexCast arg12
  let c0_121 : Index := 0#32
  let c0_122 : Index := 0#32
  ![v252.toNat, 0, 0]
@[reducible] def k0_t3_loop (v1 : BitVec 32) (v3 : BitVec 32) : Scf.Loop 32 :=
  let v4 : BitVec 32 := Scalar.addi v1 v3
  let v27 : BitVec 32 := Scalar.subi v4 v1
  let c1_i32_8 : BitVec 32 := 1#32
  let v29 : BitVec 32 := Scalar.divsi v27 c1_i32_8
  let v30 : BitVec 32 := Scalar.muli v29 c1_i32_8
  let v31 : BitVec 32 := Scalar.addi v1 v30
  let c1_i32_9 : BitVec 32 := 1#32
  ⟨v1, v31, c1_i32_9⟩
def k0_off8 (v1 : BitVec 32) (v3 : BitVec 32) (k0_t3 : Fin (k0_t3_loop v1 v3).trips) : Fin 3 → Nat :=
  let c1_i32_9 : BitVec 32 := 1#32
  let arg12 : BitVec 32 := Scf.iv v1 c1_i32_9 k0_t3
  let v231 : Index := Scalar.indexCast arg12
  let c0_112 : Index := 0#32
  let c0_113 : Index := 0#32
  ![v231.toNat, 0, 0]
@[reducible] def k0_t4_loop (v1 : BitVec 32) (v3 : BitVec 32) : Scf.Loop 32 :=
  let v4 : BitVec 32 := Scalar.addi v1 v3
  let v27 : BitVec 32 := Scalar.subi v4 v1
  let c1_i32_8 : BitVec 32 := 1#32
  let v29 : BitVec 32 := Scalar.divsi v27 c1_i32_8
  let v30 : BitVec 32 := Scalar.muli v29 c1_i32_8
  let v31 : BitVec 32 := Scalar.addi v1 v30
  let v28 : BitVec 32 := Scalar.addi v1 v27
  let c1_i32_10 : BitVec 32 := 1#32
  ⟨v31, v28, c1_i32_10⟩
def k0_off9 (v1 : BitVec 32) (v3 : BitVec 32) (k0_t4 : Fin (k0_t4_loop v1 v3).trips) : Fin 3 → Nat :=
  let v4 : BitVec 32 := Scalar.addi v1 v3
  let v27 : BitVec 32 := Scalar.subi v4 v1
  let c1_i32_8 : BitVec 32 := 1#32
  let v29 : BitVec 32 := Scalar.divsi v27 c1_i32_8
  let v30 : BitVec 32 := Scalar.muli v29 c1_i32_8
  let v31 : BitVec 32 := Scalar.addi v1 v30
  let c1_i32_10 : BitVec 32 := 1#32
  let arg12 : BitVec 32 := Scf.iv v31 c1_i32_10 k0_t4
  let v231 : Index := Scalar.indexCast arg12
  let c0_112 : Index := 0#32
  let c0_113 : Index := 0#32
  ![v231.toNat, 0, 0]
@[reducible] def k0_t5_loop (v1 : BitVec 32) (v3 : BitVec 32) : Scf.Loop 32 :=
  let v4 : BitVec 32 := Scalar.addi v1 v3
  let v35 : BitVec 32 := Scalar.subi v4 v1
  let c1_i32_11 : BitVec 32 := 1#32
  let v37 : BitVec 32 := Scalar.divsi v35 c1_i32_11
  let v38 : BitVec 32 := Scalar.muli v37 c1_i32_11
  let v39 : BitVec 32 := Scalar.addi v1 v38
  let c1_i32_12 : BitVec 32 := 1#32
  ⟨v1, v39, c1_i32_12⟩
def k0_off10 (v1 : BitVec 32) (v3 : BitVec 32) (k0_t5 : Fin (k0_t5_loop v1 v3).trips) : Fin 3 → Nat :=
  let c1_i32_12 : BitVec 32 := 1#32
  let arg12 : BitVec 32 := Scf.iv v1 c1_i32_12 k0_t5
  let v234 : Index := Scalar.indexCast arg12
  let c0_112 : Index := 0#32
  let c0_113 : Index := 0#32
  ![v234.toNat, 0, 0]
@[reducible] def k0_t6_loop (v1 : BitVec 32) (v3 : BitVec 32) : Scf.Loop 32 :=
  let v4 : BitVec 32 := Scalar.addi v1 v3
  let v35 : BitVec 32 := Scalar.subi v4 v1
  let c1_i32_11 : BitVec 32 := 1#32
  let v37 : BitVec 32 := Scalar.divsi v35 c1_i32_11
  let v38 : BitVec 32 := Scalar.muli v37 c1_i32_11
  let v39 : BitVec 32 := Scalar.addi v1 v38
  let v36 : BitVec 32 := Scalar.addi v1 v35
  let c1_i32_13 : BitVec 32 := 1#32
  ⟨v39, v36, c1_i32_13⟩
def k0_off11 (v1 : BitVec 32) (v3 : BitVec 32) (k0_t6 : Fin (k0_t6_loop v1 v3).trips) : Fin 3 → Nat :=
  let v4 : BitVec 32 := Scalar.addi v1 v3
  let v35 : BitVec 32 := Scalar.subi v4 v1
  let c1_i32_11 : BitVec 32 := 1#32
  let v37 : BitVec 32 := Scalar.divsi v35 c1_i32_11
  let v38 : BitVec 32 := Scalar.muli v37 c1_i32_11
  let v39 : BitVec 32 := Scalar.addi v1 v38
  let c1_i32_13 : BitVec 32 := 1#32
  let arg12 : BitVec 32 := Scf.iv v39 c1_i32_13 k0_t6
  let v234 : Index := Scalar.indexCast arg12
  let c0_112 : Index := 0#32
  let c0_113 : Index := 0#32
  ![v234.toNat, 0, 0]
@[reducible] def k0_t7_loop (v1 : BitVec 32) (v3 : BitVec 32) : Scf.Loop 32 :=
  let v4 : BitVec 32 := Scalar.addi v1 v3
  let v42 : BitVec 32 := Scalar.subi v4 v1
  let c1_i32_15 : BitVec 32 := 1#32
  let v44 : BitVec 32 := Scalar.divsi v42 c1_i32_15
  let v45 : BitVec 32 := Scalar.muli v44 c1_i32_15
  let v46 : BitVec 32 := Scalar.addi v1 v45
  let c1_i32_16 : BitVec 32 := 1#32
  ⟨v1, v46, c1_i32_16⟩
def k0_off12 (v1 : BitVec 32) (v3 : BitVec 32) (k0_t7 : Fin (k0_t7_loop v1 v3).trips) : Fin 3 → Nat :=
  let c1_i32_16 : BitVec 32 := 1#32
  let arg12 : BitVec 32 := Scf.iv v1 c1_i32_16 k0_t7
  let v236 : Index := Scalar.indexCast arg12
  let c0_112 : Index := 0#32
  let c0_113 : Index := 0#32
  ![v236.toNat, 0, 0]
@[reducible] def k0_t8_loop (v1 : BitVec 32) (v3 : BitVec 32) : Scf.Loop 32 :=
  let v4 : BitVec 32 := Scalar.addi v1 v3
  let v42 : BitVec 32 := Scalar.subi v4 v1
  let c1_i32_15 : BitVec 32 := 1#32
  let v44 : BitVec 32 := Scalar.divsi v42 c1_i32_15
  let v45 : BitVec 32 := Scalar.muli v44 c1_i32_15
  let v46 : BitVec 32 := Scalar.addi v1 v45
  let v43 : BitVec 32 := Scalar.addi v1 v42
  let c1_i32_17 : BitVec 32 := 1#32
  ⟨v46, v43, c1_i32_17⟩
def k0_off13 (v1 : BitVec 32) (v3 : BitVec 32) (k0_t8 : Fin (k0_t8_loop v1 v3).trips) : Fin 3 → Nat :=
  let v4 : BitVec 32 := Scalar.addi v1 v3
  let v42 : BitVec 32 := Scalar.subi v4 v1
  let c1_i32_15 : BitVec 32 := 1#32
  let v44 : BitVec 32 := Scalar.divsi v42 c1_i32_15
  let v45 : BitVec 32 := Scalar.muli v44 c1_i32_15
  let v46 : BitVec 32 := Scalar.addi v1 v45
  let c1_i32_17 : BitVec 32 := 1#32
  let arg12 : BitVec 32 := Scf.iv v46 c1_i32_17 k0_t8
  let v236 : Index := Scalar.indexCast arg12
  let c0_112 : Index := 0#32
  let c0_113 : Index := 0#32
  ![v236.toNat, 0, 0]
@[reducible] def k0_t9_loop (v1 : BitVec 32) (v3 : BitVec 32) : Scf.Loop 32 :=
  let v4 : BitVec 32 := Scalar.addi v1 v3
  let v50 : BitVec 32 := Scalar.subi v4 v1
  let c1_i32_19 : BitVec 32 := 1#32
  let v52 : BitVec 32 := Scalar.divsi v50 c1_i32_19
  let v53 : BitVec 32 := Scalar.muli v52 c1_i32_19
  let v54 : BitVec 32 := Scalar.addi v1 v53
  let c1_i32_20 : BitVec 32 := 1#32
  ⟨v1, v54, c1_i32_20⟩
def k0_off14 (v1 : BitVec 32) (v3 : BitVec 32) (k0_t9 : Fin (k0_t9_loop v1 v3).trips) : Fin 3 → Nat :=
  let c1_i32_20 : BitVec 32 := 1#32
  let arg12 : BitVec 32 := Scf.iv v1 c1_i32_20 k0_t9
  let v231 : Index := Scalar.indexCast arg12
  let c0_112 : Index := 0#32
  let c0_113 : Index := 0#32
  ![v231.toNat, 0, 0]
@[reducible] def k0_t10_loop (v1 : BitVec 32) (v3 : BitVec 32) : Scf.Loop 32 :=
  let v4 : BitVec 32 := Scalar.addi v1 v3
  let v50 : BitVec 32 := Scalar.subi v4 v1
  let c1_i32_19 : BitVec 32 := 1#32
  let v52 : BitVec 32 := Scalar.divsi v50 c1_i32_19
  let v53 : BitVec 32 := Scalar.muli v52 c1_i32_19
  let v54 : BitVec 32 := Scalar.addi v1 v53
  let v51 : BitVec 32 := Scalar.addi v1 v50
  let c1_i32_21 : BitVec 32 := 1#32
  ⟨v54, v51, c1_i32_21⟩
def k0_off15 (v1 : BitVec 32) (v3 : BitVec 32) (k0_t10 : Fin (k0_t10_loop v1 v3).trips) : Fin 3 → Nat :=
  let v4 : BitVec 32 := Scalar.addi v1 v3
  let v50 : BitVec 32 := Scalar.subi v4 v1
  let c1_i32_19 : BitVec 32 := 1#32
  let v52 : BitVec 32 := Scalar.divsi v50 c1_i32_19
  let v53 : BitVec 32 := Scalar.muli v52 c1_i32_19
  let v54 : BitVec 32 := Scalar.addi v1 v53
  let c1_i32_21 : BitVec 32 := 1#32
  let arg12 : BitVec 32 := Scf.iv v54 c1_i32_21 k0_t10
  let v231 : Index := Scalar.indexCast arg12
  let c0_112 : Index := 0#32
  let c0_113 : Index := 0#32
  ![v231.toNat, 0, 0]
@[reducible] def k0_t11_loop (v1 : BitVec 32) (v3 : BitVec 32) : Scf.Loop 32 :=
  let v4 : BitVec 32 := Scalar.addi v1 v3
  let v58 : BitVec 32 := Scalar.subi v4 v1
  let c1_i32_23 : BitVec 32 := 1#32
  let v60 : BitVec 32 := Scalar.divsi v58 c1_i32_23
  let v61 : BitVec 32 := Scalar.muli v60 c1_i32_23
  let v62 : BitVec 32 := Scalar.addi v1 v61
  let c1_i32_24 : BitVec 32 := 1#32
  ⟨v1, v62, c1_i32_24⟩
def k0_off16 (v1 : BitVec 32) (v3 : BitVec 32) (k0_t11 : Fin (k0_t11_loop v1 v3).trips) : Fin 3 → Nat :=
  let c1_i32_24 : BitVec 32 := 1#32
  let arg12 : BitVec 32 := Scf.iv v1 c1_i32_24 k0_t11
  let v234 : Index := Scalar.indexCast arg12
  let c0_112 : Index := 0#32
  let c0_113 : Index := 0#32
  ![v234.toNat, 0, 0]
@[reducible] def k0_t12_loop (v1 : BitVec 32) (v3 : BitVec 32) : Scf.Loop 32 :=
  let v4 : BitVec 32 := Scalar.addi v1 v3
  let v58 : BitVec 32 := Scalar.subi v4 v1
  let c1_i32_23 : BitVec 32 := 1#32
  let v60 : BitVec 32 := Scalar.divsi v58 c1_i32_23
  let v61 : BitVec 32 := Scalar.muli v60 c1_i32_23
  let v62 : BitVec 32 := Scalar.addi v1 v61
  let v59 : BitVec 32 := Scalar.addi v1 v58
  let c1_i32_25 : BitVec 32 := 1#32
  ⟨v62, v59, c1_i32_25⟩
def k0_off17 (v1 : BitVec 32) (v3 : BitVec 32) (k0_t12 : Fin (k0_t12_loop v1 v3).trips) : Fin 3 → Nat :=
  let v4 : BitVec 32 := Scalar.addi v1 v3
  let v58 : BitVec 32 := Scalar.subi v4 v1
  let c1_i32_23 : BitVec 32 := 1#32
  let v60 : BitVec 32 := Scalar.divsi v58 c1_i32_23
  let v61 : BitVec 32 := Scalar.muli v60 c1_i32_23
  let v62 : BitVec 32 := Scalar.addi v1 v61
  let c1_i32_25 : BitVec 32 := 1#32
  let arg12 : BitVec 32 := Scf.iv v62 c1_i32_25 k0_t12
  let v234 : Index := Scalar.indexCast arg12
  let c0_112 : Index := 0#32
  let c0_113 : Index := 0#32
  ![v234.toNat, 0, 0]
@[reducible] def k0_t13_loop (v1 : BitVec 32) (v3 : BitVec 32) : Scf.Loop 32 :=
  let v4 : BitVec 32 := Scalar.addi v1 v3
  let v65 : BitVec 32 := Scalar.subi v4 v1
  let c1_i32_27 : BitVec 32 := 1#32
  let v67 : BitVec 32 := Scalar.divsi v65 c1_i32_27
  let v68 : BitVec 32 := Scalar.muli v67 c1_i32_27
  let v69 : BitVec 32 := Scalar.addi v1 v68
  let c1_i32_28 : BitVec 32 := 1#32
  ⟨v1, v69, c1_i32_28⟩
def k0_off18 (v1 : BitVec 32) (v3 : BitVec 32) (k0_t13 : Fin (k0_t13_loop v1 v3).trips) : Fin 3 → Nat :=
  let c1_i32_28 : BitVec 32 := 1#32
  let arg12 : BitVec 32 := Scf.iv v1 c1_i32_28 k0_t13
  let v236 : Index := Scalar.indexCast arg12
  let c0_112 : Index := 0#32
  let c0_113 : Index := 0#32
  ![v236.toNat, 0, 0]
@[reducible] def k0_t14_loop (v1 : BitVec 32) (v3 : BitVec 32) : Scf.Loop 32 :=
  let v4 : BitVec 32 := Scalar.addi v1 v3
  let v65 : BitVec 32 := Scalar.subi v4 v1
  let c1_i32_27 : BitVec 32 := 1#32
  let v67 : BitVec 32 := Scalar.divsi v65 c1_i32_27
  let v68 : BitVec 32 := Scalar.muli v67 c1_i32_27
  let v69 : BitVec 32 := Scalar.addi v1 v68
  let v66 : BitVec 32 := Scalar.addi v1 v65
  let c1_i32_29 : BitVec 32 := 1#32
  ⟨v69, v66, c1_i32_29⟩
def k0_off19 (v1 : BitVec 32) (v3 : BitVec 32) (k0_t14 : Fin (k0_t14_loop v1 v3).trips) : Fin 3 → Nat :=
  let v4 : BitVec 32 := Scalar.addi v1 v3
  let v65 : BitVec 32 := Scalar.subi v4 v1
  let c1_i32_27 : BitVec 32 := 1#32
  let v67 : BitVec 32 := Scalar.divsi v65 c1_i32_27
  let v68 : BitVec 32 := Scalar.muli v67 c1_i32_27
  let v69 : BitVec 32 := Scalar.addi v1 v68
  let c1_i32_29 : BitVec 32 := 1#32
  let arg12 : BitVec 32 := Scf.iv v69 c1_i32_29 k0_t14
  let v236 : Index := Scalar.indexCast arg12
  let c0_112 : Index := 0#32
  let c0_113 : Index := 0#32
  ![v236.toNat, 0, 0]
@[reducible] def k0_t15_loop (v1 : BitVec 32) (v3 : BitVec 32) : Scf.Loop 32 :=
  let v4 : BitVec 32 := Scalar.addi v1 v3
  let v73 : BitVec 32 := Scalar.subi v4 v1
  let c1_i32_31 : BitVec 32 := 1#32
  let v75 : BitVec 32 := Scalar.divsi v73 c1_i32_31
  let v76 : BitVec 32 := Scalar.muli v75 c1_i32_31
  let v77 : BitVec 32 := Scalar.addi v1 v76
  let c1_i32_32 : BitVec 32 := 1#32
  ⟨v1, v77, c1_i32_32⟩
def k0_off20 (v1 : BitVec 32) (v3 : BitVec 32) (k0_t15 : Fin (k0_t15_loop v1 v3).trips) : Fin 3 → Nat :=
  let c1_i32_32 : BitVec 32 := 1#32
  let arg12 : BitVec 32 := Scf.iv v1 c1_i32_32 k0_t15
  let v231 : Index := Scalar.indexCast arg12
  let c0_112 : Index := 0#32
  let c0_113 : Index := 0#32
  ![v231.toNat, 0, 0]
@[reducible] def k0_t16_loop (v1 : BitVec 32) (v3 : BitVec 32) : Scf.Loop 32 :=
  let v4 : BitVec 32 := Scalar.addi v1 v3
  let v73 : BitVec 32 := Scalar.subi v4 v1
  let c1_i32_31 : BitVec 32 := 1#32
  let v75 : BitVec 32 := Scalar.divsi v73 c1_i32_31
  let v76 : BitVec 32 := Scalar.muli v75 c1_i32_31
  let v77 : BitVec 32 := Scalar.addi v1 v76
  let v74 : BitVec 32 := Scalar.addi v1 v73
  let c1_i32_33 : BitVec 32 := 1#32
  ⟨v77, v74, c1_i32_33⟩
def k0_off21 (v1 : BitVec 32) (v3 : BitVec 32) (k0_t16 : Fin (k0_t16_loop v1 v3).trips) : Fin 3 → Nat :=
  let v4 : BitVec 32 := Scalar.addi v1 v3
  let v73 : BitVec 32 := Scalar.subi v4 v1
  let c1_i32_31 : BitVec 32 := 1#32
  let v75 : BitVec 32 := Scalar.divsi v73 c1_i32_31
  let v76 : BitVec 32 := Scalar.muli v75 c1_i32_31
  let v77 : BitVec 32 := Scalar.addi v1 v76
  let c1_i32_33 : BitVec 32 := 1#32
  let arg12 : BitVec 32 := Scf.iv v77 c1_i32_33 k0_t16
  let v231 : Index := Scalar.indexCast arg12
  let c0_112 : Index := 0#32
  let c0_113 : Index := 0#32
  ![v231.toNat, 0, 0]
@[reducible] def k0_t17_loop (v1 : BitVec 32) (v3 : BitVec 32) : Scf.Loop 32 :=
  let v4 : BitVec 32 := Scalar.addi v1 v3
  let v81 : BitVec 32 := Scalar.subi v4 v1
  let c1_i32_35 : BitVec 32 := 1#32
  let v83 : BitVec 32 := Scalar.divsi v81 c1_i32_35
  let v84 : BitVec 32 := Scalar.muli v83 c1_i32_35
  let v85 : BitVec 32 := Scalar.addi v1 v84
  let c1_i32_36 : BitVec 32 := 1#32
  ⟨v1, v85, c1_i32_36⟩
def k0_off22 (v1 : BitVec 32) (v3 : BitVec 32) (k0_t17 : Fin (k0_t17_loop v1 v3).trips) : Fin 3 → Nat :=
  let c1_i32_36 : BitVec 32 := 1#32
  let arg12 : BitVec 32 := Scf.iv v1 c1_i32_36 k0_t17
  let v234 : Index := Scalar.indexCast arg12
  let c0_112 : Index := 0#32
  let c0_113 : Index := 0#32
  ![v234.toNat, 0, 0]
@[reducible] def k0_t18_loop (v1 : BitVec 32) (v3 : BitVec 32) : Scf.Loop 32 :=
  let v4 : BitVec 32 := Scalar.addi v1 v3
  let v81 : BitVec 32 := Scalar.subi v4 v1
  let c1_i32_35 : BitVec 32 := 1#32
  let v83 : BitVec 32 := Scalar.divsi v81 c1_i32_35
  let v84 : BitVec 32 := Scalar.muli v83 c1_i32_35
  let v85 : BitVec 32 := Scalar.addi v1 v84
  let v82 : BitVec 32 := Scalar.addi v1 v81
  let c1_i32_37 : BitVec 32 := 1#32
  ⟨v85, v82, c1_i32_37⟩
def k0_off23 (v1 : BitVec 32) (v3 : BitVec 32) (k0_t18 : Fin (k0_t18_loop v1 v3).trips) : Fin 3 → Nat :=
  let v4 : BitVec 32 := Scalar.addi v1 v3
  let v81 : BitVec 32 := Scalar.subi v4 v1
  let c1_i32_35 : BitVec 32 := 1#32
  let v83 : BitVec 32 := Scalar.divsi v81 c1_i32_35
  let v84 : BitVec 32 := Scalar.muli v83 c1_i32_35
  let v85 : BitVec 32 := Scalar.addi v1 v84
  let c1_i32_37 : BitVec 32 := 1#32
  let arg12 : BitVec 32 := Scf.iv v85 c1_i32_37 k0_t18
  let v234 : Index := Scalar.indexCast arg12
  let c0_112 : Index := 0#32
  let c0_113 : Index := 0#32
  ![v234.toNat, 0, 0]
@[reducible] def k0_t19_loop (v1 : BitVec 32) (v3 : BitVec 32) : Scf.Loop 32 :=
  let v4 : BitVec 32 := Scalar.addi v1 v3
  let v88 : BitVec 32 := Scalar.subi v4 v1
  let c1_i32_39 : BitVec 32 := 1#32
  let v90 : BitVec 32 := Scalar.divsi v88 c1_i32_39
  let v91 : BitVec 32 := Scalar.muli v90 c1_i32_39
  let v92 : BitVec 32 := Scalar.addi v1 v91
  let c1_i32_40 : BitVec 32 := 1#32
  ⟨v1, v92, c1_i32_40⟩
def k0_off24 (v1 : BitVec 32) (v3 : BitVec 32) (k0_t19 : Fin (k0_t19_loop v1 v3).trips) : Fin 3 → Nat :=
  let c1_i32_40 : BitVec 32 := 1#32
  let arg12 : BitVec 32 := Scf.iv v1 c1_i32_40 k0_t19
  let v236 : Index := Scalar.indexCast arg12
  let c0_112 : Index := 0#32
  let c0_113 : Index := 0#32
  ![v236.toNat, 0, 0]
@[reducible] def k0_t20_loop (v1 : BitVec 32) (v3 : BitVec 32) : Scf.Loop 32 :=
  let v4 : BitVec 32 := Scalar.addi v1 v3
  let v88 : BitVec 32 := Scalar.subi v4 v1
  let c1_i32_39 : BitVec 32 := 1#32
  let v90 : BitVec 32 := Scalar.divsi v88 c1_i32_39
  let v91 : BitVec 32 := Scalar.muli v90 c1_i32_39
  let v92 : BitVec 32 := Scalar.addi v1 v91
  let v89 : BitVec 32 := Scalar.addi v1 v88
  let c1_i32_41 : BitVec 32 := 1#32
  ⟨v92, v89, c1_i32_41⟩
def k0_off25 (v1 : BitVec 32) (v3 : BitVec 32) (k0_t20 : Fin (k0_t20_loop v1 v3).trips) : Fin 3 → Nat :=
  let v4 : BitVec 32 := Scalar.addi v1 v3
  let v88 : BitVec 32 := Scalar.subi v4 v1
  let c1_i32_39 : BitVec 32 := 1#32
  let v90 : BitVec 32 := Scalar.divsi v88 c1_i32_39
  let v91 : BitVec 32 := Scalar.muli v90 c1_i32_39
  let v92 : BitVec 32 := Scalar.addi v1 v91
  let c1_i32_41 : BitVec 32 := 1#32
  let arg12 : BitVec 32 := Scf.iv v92 c1_i32_41 k0_t20
  let v236 : Index := Scalar.indexCast arg12
  let c0_112 : Index := 0#32
  let c0_113 : Index := 0#32
  ![v236.toNat, 0, 0]
@[reducible] def k0_t21_loop (v1 : BitVec 32) (v3 : BitVec 32) : Scf.Loop 32 :=
  let v4 : BitVec 32 := Scalar.addi v1 v3
  let v96 : BitVec 32 := Scalar.subi v4 v1
  let c1_i32_43 : BitVec 32 := 1#32
  let v98 : BitVec 32 := Scalar.divsi v96 c1_i32_43
  let v99 : BitVec 32 := Scalar.muli v98 c1_i32_43
  let v100 : BitVec 32 := Scalar.addi v1 v99
  let c1_i32_44 : BitVec 32 := 1#32
  ⟨v1, v100, c1_i32_44⟩
def k0_off26 (v1 : BitVec 32) (v3 : BitVec 32) (k0_t21 : Fin (k0_t21_loop v1 v3).trips) : Fin 3 → Nat :=
  let c1_i32_44 : BitVec 32 := 1#32
  let arg12 : BitVec 32 := Scf.iv v1 c1_i32_44 k0_t21
  let v231 : Index := Scalar.indexCast arg12
  let c0_112 : Index := 0#32
  let c0_113 : Index := 0#32
  ![v231.toNat, 0, 0]
@[reducible] def k0_t22_loop (v1 : BitVec 32) (v3 : BitVec 32) : Scf.Loop 32 :=
  let v4 : BitVec 32 := Scalar.addi v1 v3
  let v96 : BitVec 32 := Scalar.subi v4 v1
  let c1_i32_43 : BitVec 32 := 1#32
  let v98 : BitVec 32 := Scalar.divsi v96 c1_i32_43
  let v99 : BitVec 32 := Scalar.muli v98 c1_i32_43
  let v100 : BitVec 32 := Scalar.addi v1 v99
  let v97 : BitVec 32 := Scalar.addi v1 v96
  let c1_i32_45 : BitVec 32 := 1#32
  ⟨v100, v97, c1_i32_45⟩
def k0_off27 (v1 : BitVec 32) (v3 : BitVec 32) (k0_t22 : Fin (k0_t22_loop v1 v3).trips) : Fin 3 → Nat :=
  let v4 : BitVec 32 := Scalar.addi v1 v3
  let v96 : BitVec 32 := Scalar.subi v4 v1
  let c1_i32_43 : BitVec 32 := 1#32
  let v98 : BitVec 32 := Scalar.divsi v96 c1_i32_43
  let v99 : BitVec 32 := Scalar.muli v98 c1_i32_43
  let v100 : BitVec 32 := Scalar.addi v1 v99
  let c1_i32_45 : BitVec 32 := 1#32
  let arg12 : BitVec 32 := Scf.iv v100 c1_i32_45 k0_t22
  let v231 : Index := Scalar.indexCast arg12
  let c0_112 : Index := 0#32
  let c0_113 : Index := 0#32
  ![v231.toNat, 0, 0]
@[reducible] def k0_t23_loop (v1 : BitVec 32) (v3 : BitVec 32) : Scf.Loop 32 :=
  let v4 : BitVec 32 := Scalar.addi v1 v3
  let v104 : BitVec 32 := Scalar.subi v4 v1
  let c1_i32_47 : BitVec 32 := 1#32
  let v106 : BitVec 32 := Scalar.divsi v104 c1_i32_47
  let v107 : BitVec 32 := Scalar.muli v106 c1_i32_47
  let v108 : BitVec 32 := Scalar.addi v1 v107
  let c1_i32_48 : BitVec 32 := 1#32
  ⟨v1, v108, c1_i32_48⟩
def k0_off28 (v1 : BitVec 32) (v3 : BitVec 32) (k0_t23 : Fin (k0_t23_loop v1 v3).trips) : Fin 3 → Nat :=
  let c1_i32_48 : BitVec 32 := 1#32
  let arg12 : BitVec 32 := Scf.iv v1 c1_i32_48 k0_t23
  let v234 : Index := Scalar.indexCast arg12
  let c0_112 : Index := 0#32
  let c0_113 : Index := 0#32
  ![v234.toNat, 0, 0]
@[reducible] def k0_t24_loop (v1 : BitVec 32) (v3 : BitVec 32) : Scf.Loop 32 :=
  let v4 : BitVec 32 := Scalar.addi v1 v3
  let v104 : BitVec 32 := Scalar.subi v4 v1
  let c1_i32_47 : BitVec 32 := 1#32
  let v106 : BitVec 32 := Scalar.divsi v104 c1_i32_47
  let v107 : BitVec 32 := Scalar.muli v106 c1_i32_47
  let v108 : BitVec 32 := Scalar.addi v1 v107
  let v105 : BitVec 32 := Scalar.addi v1 v104
  let c1_i32_49 : BitVec 32 := 1#32
  ⟨v108, v105, c1_i32_49⟩
def k0_off29 (v1 : BitVec 32) (v3 : BitVec 32) (k0_t24 : Fin (k0_t24_loop v1 v3).trips) : Fin 3 → Nat :=
  let v4 : BitVec 32 := Scalar.addi v1 v3
  let v104 : BitVec 32 := Scalar.subi v4 v1
  let c1_i32_47 : BitVec 32 := 1#32
  let v106 : BitVec 32 := Scalar.divsi v104 c1_i32_47
  let v107 : BitVec 32 := Scalar.muli v106 c1_i32_47
  let v108 : BitVec 32 := Scalar.addi v1 v107
  let c1_i32_49 : BitVec 32 := 1#32
  let arg12 : BitVec 32 := Scf.iv v108 c1_i32_49 k0_t24
  let v234 : Index := Scalar.indexCast arg12
  let c0_112 : Index := 0#32
  let c0_113 : Index := 0#32
  ![v234.toNat, 0, 0]
@[reducible] def k0_t25_loop (v1 : BitVec 32) (v3 : BitVec 32) : Scf.Loop 32 :=
  let v4 : BitVec 32 := Scalar.addi v1 v3
  let v111 : BitVec 32 := Scalar.subi v4 v1
  let c1_i32_51 : BitVec 32 := 1#32
  let v113 : BitVec 32 := Scalar.divsi v111 c1_i32_51
  let v114 : BitVec 32 := Scalar.muli v113 c1_i32_51
  let v115 : BitVec 32 := Scalar.addi v1 v114
  let c1_i32_52 : BitVec 32 := 1#32
  ⟨v1, v115, c1_i32_52⟩
def k0_off30 (v1 : BitVec 32) (v3 : BitVec 32) (k0_t25 : Fin (k0_t25_loop v1 v3).trips) : Fin 3 → Nat :=
  let c1_i32_52 : BitVec 32 := 1#32
  let arg12 : BitVec 32 := Scf.iv v1 c1_i32_52 k0_t25
  let v236 : Index := Scalar.indexCast arg12
  let c0_112 : Index := 0#32
  let c0_113 : Index := 0#32
  ![v236.toNat, 0, 0]
@[reducible] def k0_t26_loop (v1 : BitVec 32) (v3 : BitVec 32) : Scf.Loop 32 :=
  let v4 : BitVec 32 := Scalar.addi v1 v3
  let v111 : BitVec 32 := Scalar.subi v4 v1
  let c1_i32_51 : BitVec 32 := 1#32
  let v113 : BitVec 32 := Scalar.divsi v111 c1_i32_51
  let v114 : BitVec 32 := Scalar.muli v113 c1_i32_51
  let v115 : BitVec 32 := Scalar.addi v1 v114
  let v112 : BitVec 32 := Scalar.addi v1 v111
  let c1_i32_53 : BitVec 32 := 1#32
  ⟨v115, v112, c1_i32_53⟩
def k0_off31 (v1 : BitVec 32) (v3 : BitVec 32) (k0_t26 : Fin (k0_t26_loop v1 v3).trips) : Fin 3 → Nat :=
  let v4 : BitVec 32 := Scalar.addi v1 v3
  let v111 : BitVec 32 := Scalar.subi v4 v1
  let c1_i32_51 : BitVec 32 := 1#32
  let v113 : BitVec 32 := Scalar.divsi v111 c1_i32_51
  let v114 : BitVec 32 := Scalar.muli v113 c1_i32_51
  let v115 : BitVec 32 := Scalar.addi v1 v114
  let c1_i32_53 : BitVec 32 := 1#32
  let arg12 : BitVec 32 := Scf.iv v115 c1_i32_53 k0_t26
  let v236 : Index := Scalar.indexCast arg12
  let c0_112 : Index := 0#32
  let c0_113 : Index := 0#32
  ![v236.toNat, 0, 0]
@[reducible] def k0_t27_loop (v1 : BitVec 32) (v3 : BitVec 32) : Scf.Loop 32 :=
  let v4 : BitVec 32 := Scalar.addi v1 v3
  let v119 : BitVec 32 := Scalar.subi v4 v1
  let c1_i32_55 : BitVec 32 := 1#32
  let v121 : BitVec 32 := Scalar.divsi v119 c1_i32_55
  let v122 : BitVec 32 := Scalar.muli v121 c1_i32_55
  let v123 : BitVec 32 := Scalar.addi v1 v122
  let c1_i32_56 : BitVec 32 := 1#32
  ⟨v1, v123, c1_i32_56⟩
def k0_off32 (v1 : BitVec 32) (v3 : BitVec 32) (k0_t27 : Fin (k0_t27_loop v1 v3).trips) : Fin 3 → Nat :=
  let c1_i32_56 : BitVec 32 := 1#32
  let arg12 : BitVec 32 := Scf.iv v1 c1_i32_56 k0_t27
  let v231 : Index := Scalar.indexCast arg12
  let c0_112 : Index := 0#32
  let c0_113 : Index := 0#32
  ![v231.toNat, 0, 0]
@[reducible] def k0_t28_loop (v1 : BitVec 32) (v3 : BitVec 32) : Scf.Loop 32 :=
  let v4 : BitVec 32 := Scalar.addi v1 v3
  let v119 : BitVec 32 := Scalar.subi v4 v1
  let c1_i32_55 : BitVec 32 := 1#32
  let v121 : BitVec 32 := Scalar.divsi v119 c1_i32_55
  let v122 : BitVec 32 := Scalar.muli v121 c1_i32_55
  let v123 : BitVec 32 := Scalar.addi v1 v122
  let v120 : BitVec 32 := Scalar.addi v1 v119
  let c1_i32_57 : BitVec 32 := 1#32
  ⟨v123, v120, c1_i32_57⟩
def k0_off33 (v1 : BitVec 32) (v3 : BitVec 32) (k0_t28 : Fin (k0_t28_loop v1 v3).trips) : Fin 3 → Nat :=
  let v4 : BitVec 32 := Scalar.addi v1 v3
  let v119 : BitVec 32 := Scalar.subi v4 v1
  let c1_i32_55 : BitVec 32 := 1#32
  let v121 : BitVec 32 := Scalar.divsi v119 c1_i32_55
  let v122 : BitVec 32 := Scalar.muli v121 c1_i32_55
  let v123 : BitVec 32 := Scalar.addi v1 v122
  let c1_i32_57 : BitVec 32 := 1#32
  let arg12 : BitVec 32 := Scf.iv v123 c1_i32_57 k0_t28
  let v231 : Index := Scalar.indexCast arg12
  let c0_112 : Index := 0#32
  let c0_113 : Index := 0#32
  ![v231.toNat, 0, 0]
@[reducible] def k0_t29_loop (v1 : BitVec 32) (v3 : BitVec 32) : Scf.Loop 32 :=
  let v4 : BitVec 32 := Scalar.addi v1 v3
  let v127 : BitVec 32 := Scalar.subi v4 v1
  let c1_i32_59 : BitVec 32 := 1#32
  let v129 : BitVec 32 := Scalar.divsi v127 c1_i32_59
  let v130 : BitVec 32 := Scalar.muli v129 c1_i32_59
  let v131 : BitVec 32 := Scalar.addi v1 v130
  let c1_i32_60 : BitVec 32 := 1#32
  ⟨v1, v131, c1_i32_60⟩
def k0_off34 (v1 : BitVec 32) (v3 : BitVec 32) (k0_t29 : Fin (k0_t29_loop v1 v3).trips) : Fin 3 → Nat :=
  let c1_i32_60 : BitVec 32 := 1#32
  let arg12 : BitVec 32 := Scf.iv v1 c1_i32_60 k0_t29
  let v234 : Index := Scalar.indexCast arg12
  let c0_112 : Index := 0#32
  let c0_113 : Index := 0#32
  ![v234.toNat, 0, 0]
@[reducible] def k0_t30_loop (v1 : BitVec 32) (v3 : BitVec 32) : Scf.Loop 32 :=
  let v4 : BitVec 32 := Scalar.addi v1 v3
  let v127 : BitVec 32 := Scalar.subi v4 v1
  let c1_i32_59 : BitVec 32 := 1#32
  let v129 : BitVec 32 := Scalar.divsi v127 c1_i32_59
  let v130 : BitVec 32 := Scalar.muli v129 c1_i32_59
  let v131 : BitVec 32 := Scalar.addi v1 v130
  let v128 : BitVec 32 := Scalar.addi v1 v127
  let c1_i32_61 : BitVec 32 := 1#32
  ⟨v131, v128, c1_i32_61⟩
def k0_off35 (v1 : BitVec 32) (v3 : BitVec 32) (k0_t30 : Fin (k0_t30_loop v1 v3).trips) : Fin 3 → Nat :=
  let v4 : BitVec 32 := Scalar.addi v1 v3
  let v127 : BitVec 32 := Scalar.subi v4 v1
  let c1_i32_59 : BitVec 32 := 1#32
  let v129 : BitVec 32 := Scalar.divsi v127 c1_i32_59
  let v130 : BitVec 32 := Scalar.muli v129 c1_i32_59
  let v131 : BitVec 32 := Scalar.addi v1 v130
  let c1_i32_61 : BitVec 32 := 1#32
  let arg12 : BitVec 32 := Scf.iv v131 c1_i32_61 k0_t30
  let v234 : Index := Scalar.indexCast arg12
  let c0_112 : Index := 0#32
  let c0_113 : Index := 0#32
  ![v234.toNat, 0, 0]
@[reducible] def k0_t31_loop (v1 : BitVec 32) (v3 : BitVec 32) : Scf.Loop 32 :=
  let v4 : BitVec 32 := Scalar.addi v1 v3
  let v134 : BitVec 32 := Scalar.subi v4 v1
  let c1_i32_63 : BitVec 32 := 1#32
  let v136 : BitVec 32 := Scalar.divsi v134 c1_i32_63
  let v137 : BitVec 32 := Scalar.muli v136 c1_i32_63
  let v138 : BitVec 32 := Scalar.addi v1 v137
  let c1_i32_64 : BitVec 32 := 1#32
  ⟨v1, v138, c1_i32_64⟩
def k0_off36 (v1 : BitVec 32) (v3 : BitVec 32) (k0_t31 : Fin (k0_t31_loop v1 v3).trips) : Fin 3 → Nat :=
  let c1_i32_64 : BitVec 32 := 1#32
  let arg12 : BitVec 32 := Scf.iv v1 c1_i32_64 k0_t31
  let v236 : Index := Scalar.indexCast arg12
  let c0_112 : Index := 0#32
  let c0_113 : Index := 0#32
  ![v236.toNat, 0, 0]
@[reducible] def k0_t32_loop (v1 : BitVec 32) (v3 : BitVec 32) : Scf.Loop 32 :=
  let v4 : BitVec 32 := Scalar.addi v1 v3
  let v134 : BitVec 32 := Scalar.subi v4 v1
  let c1_i32_63 : BitVec 32 := 1#32
  let v136 : BitVec 32 := Scalar.divsi v134 c1_i32_63
  let v137 : BitVec 32 := Scalar.muli v136 c1_i32_63
  let v138 : BitVec 32 := Scalar.addi v1 v137
  let v135 : BitVec 32 := Scalar.addi v1 v134
  let c1_i32_65 : BitVec 32 := 1#32
  ⟨v138, v135, c1_i32_65⟩
def k0_off37 (v1 : BitVec 32) (v3 : BitVec 32) (k0_t32 : Fin (k0_t32_loop v1 v3).trips) : Fin 3 → Nat :=
  let v4 : BitVec 32 := Scalar.addi v1 v3
  let v134 : BitVec 32 := Scalar.subi v4 v1
  let c1_i32_63 : BitVec 32 := 1#32
  let v136 : BitVec 32 := Scalar.divsi v134 c1_i32_63
  let v137 : BitVec 32 := Scalar.muli v136 c1_i32_63
  let v138 : BitVec 32 := Scalar.addi v1 v137
  let c1_i32_65 : BitVec 32 := 1#32
  let arg12 : BitVec 32 := Scf.iv v138 c1_i32_65 k0_t32
  let v236 : Index := Scalar.indexCast arg12
  let c0_112 : Index := 0#32
  let c0_113 : Index := 0#32
  ![v236.toNat, 0, 0]
@[reducible] def k0_t33_loop (v1 : BitVec 32) (v3 : BitVec 32) : Scf.Loop 32 :=
  let v4 : BitVec 32 := Scalar.addi v1 v3
  let v142 : BitVec 32 := Scalar.subi v4 v1
  let c1_i32_67 : BitVec 32 := 1#32
  let v144 : BitVec 32 := Scalar.divsi v142 c1_i32_67
  let v145 : BitVec 32 := Scalar.muli v144 c1_i32_67
  let v146 : BitVec 32 := Scalar.addi v1 v145
  let c1_i32_68 : BitVec 32 := 1#32
  ⟨v1, v146, c1_i32_68⟩
def k0_off38 (v1 : BitVec 32) (v3 : BitVec 32) (k0_t33 : Fin (k0_t33_loop v1 v3).trips) : Fin 3 → Nat :=
  let c1_i32_68 : BitVec 32 := 1#32
  let arg12 : BitVec 32 := Scf.iv v1 c1_i32_68 k0_t33
  let v231 : Index := Scalar.indexCast arg12
  let c0_112 : Index := 0#32
  let c0_113 : Index := 0#32
  ![v231.toNat, 0, 0]
@[reducible] def k0_t34_loop (v1 : BitVec 32) (v3 : BitVec 32) : Scf.Loop 32 :=
  let v4 : BitVec 32 := Scalar.addi v1 v3
  let v142 : BitVec 32 := Scalar.subi v4 v1
  let c1_i32_67 : BitVec 32 := 1#32
  let v144 : BitVec 32 := Scalar.divsi v142 c1_i32_67
  let v145 : BitVec 32 := Scalar.muli v144 c1_i32_67
  let v146 : BitVec 32 := Scalar.addi v1 v145
  let v143 : BitVec 32 := Scalar.addi v1 v142
  let c1_i32_69 : BitVec 32 := 1#32
  ⟨v146, v143, c1_i32_69⟩
def k0_off39 (v1 : BitVec 32) (v3 : BitVec 32) (k0_t34 : Fin (k0_t34_loop v1 v3).trips) : Fin 3 → Nat :=
  let v4 : BitVec 32 := Scalar.addi v1 v3
  let v142 : BitVec 32 := Scalar.subi v4 v1
  let c1_i32_67 : BitVec 32 := 1#32
  let v144 : BitVec 32 := Scalar.divsi v142 c1_i32_67
  let v145 : BitVec 32 := Scalar.muli v144 c1_i32_67
  let v146 : BitVec 32 := Scalar.addi v1 v145
  let c1_i32_69 : BitVec 32 := 1#32
  let arg12 : BitVec 32 := Scf.iv v146 c1_i32_69 k0_t34
  let v231 : Index := Scalar.indexCast arg12
  let c0_112 : Index := 0#32
  let c0_113 : Index := 0#32
  ![v231.toNat, 0, 0]
@[reducible] def k0_t35_loop (v1 : BitVec 32) (v3 : BitVec 32) : Scf.Loop 32 :=
  let v4 : BitVec 32 := Scalar.addi v1 v3
  let v150 : BitVec 32 := Scalar.subi v4 v1
  let c1_i32_71 : BitVec 32 := 1#32
  let v152 : BitVec 32 := Scalar.divsi v150 c1_i32_71
  let v153 : BitVec 32 := Scalar.muli v152 c1_i32_71
  let v154 : BitVec 32 := Scalar.addi v1 v153
  let c1_i32_72 : BitVec 32 := 1#32
  ⟨v1, v154, c1_i32_72⟩
def k0_off40 (v1 : BitVec 32) (v3 : BitVec 32) (k0_t35 : Fin (k0_t35_loop v1 v3).trips) : Fin 3 → Nat :=
  let c1_i32_72 : BitVec 32 := 1#32
  let arg12 : BitVec 32 := Scf.iv v1 c1_i32_72 k0_t35
  let v234 : Index := Scalar.indexCast arg12
  let c0_112 : Index := 0#32
  let c0_113 : Index := 0#32
  ![v234.toNat, 0, 0]
@[reducible] def k0_t36_loop (v1 : BitVec 32) (v3 : BitVec 32) : Scf.Loop 32 :=
  let v4 : BitVec 32 := Scalar.addi v1 v3
  let v150 : BitVec 32 := Scalar.subi v4 v1
  let c1_i32_71 : BitVec 32 := 1#32
  let v152 : BitVec 32 := Scalar.divsi v150 c1_i32_71
  let v153 : BitVec 32 := Scalar.muli v152 c1_i32_71
  let v154 : BitVec 32 := Scalar.addi v1 v153
  let v151 : BitVec 32 := Scalar.addi v1 v150
  let c1_i32_73 : BitVec 32 := 1#32
  ⟨v154, v151, c1_i32_73⟩
def k0_off41 (v1 : BitVec 32) (v3 : BitVec 32) (k0_t36 : Fin (k0_t36_loop v1 v3).trips) : Fin 3 → Nat :=
  let v4 : BitVec 32 := Scalar.addi v1 v3
  let v150 : BitVec 32 := Scalar.subi v4 v1
  let c1_i32_71 : BitVec 32 := 1#32
  let v152 : BitVec 32 := Scalar.divsi v150 c1_i32_71
  let v153 : BitVec 32 := Scalar.muli v152 c1_i32_71
  let v154 : BitVec 32 := Scalar.addi v1 v153
  let c1_i32_73 : BitVec 32 := 1#32
  let arg12 : BitVec 32 := Scf.iv v154 c1_i32_73 k0_t36
  let v234 : Index := Scalar.indexCast arg12
  let c0_112 : Index := 0#32
  let c0_113 : Index := 0#32
  ![v234.toNat, 0, 0]
@[reducible] def k0_t37_loop (v1 : BitVec 32) (v3 : BitVec 32) : Scf.Loop 32 :=
  let v4 : BitVec 32 := Scalar.addi v1 v3
  let v157 : BitVec 32 := Scalar.subi v4 v1
  let c1_i32_75 : BitVec 32 := 1#32
  let v159 : BitVec 32 := Scalar.divsi v157 c1_i32_75
  let v160 : BitVec 32 := Scalar.muli v159 c1_i32_75
  let v161 : BitVec 32 := Scalar.addi v1 v160
  let c1_i32_76 : BitVec 32 := 1#32
  ⟨v1, v161, c1_i32_76⟩
def k0_off42 (v1 : BitVec 32) (v3 : BitVec 32) (k0_t37 : Fin (k0_t37_loop v1 v3).trips) : Fin 3 → Nat :=
  let c1_i32_76 : BitVec 32 := 1#32
  let arg12 : BitVec 32 := Scf.iv v1 c1_i32_76 k0_t37
  let v236 : Index := Scalar.indexCast arg12
  let c0_112 : Index := 0#32
  let c0_113 : Index := 0#32
  ![v236.toNat, 0, 0]
@[reducible] def k0_t38_loop (v1 : BitVec 32) (v3 : BitVec 32) : Scf.Loop 32 :=
  let v4 : BitVec 32 := Scalar.addi v1 v3
  let v157 : BitVec 32 := Scalar.subi v4 v1
  let c1_i32_75 : BitVec 32 := 1#32
  let v159 : BitVec 32 := Scalar.divsi v157 c1_i32_75
  let v160 : BitVec 32 := Scalar.muli v159 c1_i32_75
  let v161 : BitVec 32 := Scalar.addi v1 v160
  let v158 : BitVec 32 := Scalar.addi v1 v157
  let c1_i32_77 : BitVec 32 := 1#32
  ⟨v161, v158, c1_i32_77⟩
def k0_off43 (v1 : BitVec 32) (v3 : BitVec 32) (k0_t38 : Fin (k0_t38_loop v1 v3).trips) : Fin 3 → Nat :=
  let v4 : BitVec 32 := Scalar.addi v1 v3
  let v157 : BitVec 32 := Scalar.subi v4 v1
  let c1_i32_75 : BitVec 32 := 1#32
  let v159 : BitVec 32 := Scalar.divsi v157 c1_i32_75
  let v160 : BitVec 32 := Scalar.muli v159 c1_i32_75
  let v161 : BitVec 32 := Scalar.addi v1 v160
  let c1_i32_77 : BitVec 32 := 1#32
  let arg12 : BitVec 32 := Scf.iv v161 c1_i32_77 k0_t38
  let v236 : Index := Scalar.indexCast arg12
  let c0_112 : Index := 0#32
  let c0_113 : Index := 0#32
  ![v236.toNat, 0, 0]
@[reducible] def k0_t39_loop (v1 : BitVec 32) (v3 : BitVec 32) : Scf.Loop 32 :=
  let v4 : BitVec 32 := Scalar.addi v1 v3
  let v165 : BitVec 32 := Scalar.subi v4 v1
  let c1_i32_79 : BitVec 32 := 1#32
  let v167 : BitVec 32 := Scalar.divsi v165 c1_i32_79
  let v168 : BitVec 32 := Scalar.muli v167 c1_i32_79
  let v169 : BitVec 32 := Scalar.addi v1 v168
  let c1_i32_80 : BitVec 32 := 1#32
  ⟨v1, v169, c1_i32_80⟩
def k0_off44 (v1 : BitVec 32) (v3 : BitVec 32) (k0_t39 : Fin (k0_t39_loop v1 v3).trips) : Fin 3 → Nat :=
  let c1_i32_80 : BitVec 32 := 1#32
  let arg12 : BitVec 32 := Scf.iv v1 c1_i32_80 k0_t39
  let v231 : Index := Scalar.indexCast arg12
  let c0_112 : Index := 0#32
  let c0_113 : Index := 0#32
  ![v231.toNat, 0, 0]
@[reducible] def k0_t40_loop (v1 : BitVec 32) (v3 : BitVec 32) : Scf.Loop 32 :=
  let v4 : BitVec 32 := Scalar.addi v1 v3
  let v165 : BitVec 32 := Scalar.subi v4 v1
  let c1_i32_79 : BitVec 32 := 1#32
  let v167 : BitVec 32 := Scalar.divsi v165 c1_i32_79
  let v168 : BitVec 32 := Scalar.muli v167 c1_i32_79
  let v169 : BitVec 32 := Scalar.addi v1 v168
  let v166 : BitVec 32 := Scalar.addi v1 v165
  let c1_i32_81 : BitVec 32 := 1#32
  ⟨v169, v166, c1_i32_81⟩
def k0_off45 (v1 : BitVec 32) (v3 : BitVec 32) (k0_t40 : Fin (k0_t40_loop v1 v3).trips) : Fin 3 → Nat :=
  let v4 : BitVec 32 := Scalar.addi v1 v3
  let v165 : BitVec 32 := Scalar.subi v4 v1
  let c1_i32_79 : BitVec 32 := 1#32
  let v167 : BitVec 32 := Scalar.divsi v165 c1_i32_79
  let v168 : BitVec 32 := Scalar.muli v167 c1_i32_79
  let v169 : BitVec 32 := Scalar.addi v1 v168
  let c1_i32_81 : BitVec 32 := 1#32
  let arg12 : BitVec 32 := Scf.iv v169 c1_i32_81 k0_t40
  let v231 : Index := Scalar.indexCast arg12
  let c0_112 : Index := 0#32
  let c0_113 : Index := 0#32
  ![v231.toNat, 0, 0]
@[reducible] def k0_t41_loop (v1 : BitVec 32) (v3 : BitVec 32) : Scf.Loop 32 :=
  let v4 : BitVec 32 := Scalar.addi v1 v3
  let v173 : BitVec 32 := Scalar.subi v4 v1
  let c1_i32_83 : BitVec 32 := 1#32
  let v175 : BitVec 32 := Scalar.divsi v173 c1_i32_83
  let v176 : BitVec 32 := Scalar.muli v175 c1_i32_83
  let v177 : BitVec 32 := Scalar.addi v1 v176
  let c1_i32_84 : BitVec 32 := 1#32
  ⟨v1, v177, c1_i32_84⟩
def k0_off46 (v1 : BitVec 32) (v3 : BitVec 32) (k0_t41 : Fin (k0_t41_loop v1 v3).trips) : Fin 3 → Nat :=
  let c1_i32_84 : BitVec 32 := 1#32
  let arg12 : BitVec 32 := Scf.iv v1 c1_i32_84 k0_t41
  let v234 : Index := Scalar.indexCast arg12
  let c0_112 : Index := 0#32
  let c0_113 : Index := 0#32
  ![v234.toNat, 0, 0]
@[reducible] def k0_t42_loop (v1 : BitVec 32) (v3 : BitVec 32) : Scf.Loop 32 :=
  let v4 : BitVec 32 := Scalar.addi v1 v3
  let v173 : BitVec 32 := Scalar.subi v4 v1
  let c1_i32_83 : BitVec 32 := 1#32
  let v175 : BitVec 32 := Scalar.divsi v173 c1_i32_83
  let v176 : BitVec 32 := Scalar.muli v175 c1_i32_83
  let v177 : BitVec 32 := Scalar.addi v1 v176
  let v174 : BitVec 32 := Scalar.addi v1 v173
  let c1_i32_85 : BitVec 32 := 1#32
  ⟨v177, v174, c1_i32_85⟩
def k0_off47 (v1 : BitVec 32) (v3 : BitVec 32) (k0_t42 : Fin (k0_t42_loop v1 v3).trips) : Fin 3 → Nat :=
  let v4 : BitVec 32 := Scalar.addi v1 v3
  let v173 : BitVec 32 := Scalar.subi v4 v1
  let c1_i32_83 : BitVec 32 := 1#32
  let v175 : BitVec 32 := Scalar.divsi v173 c1_i32_83
  let v176 : BitVec 32 := Scalar.muli v175 c1_i32_83
  let v177 : BitVec 32 := Scalar.addi v1 v176
  let c1_i32_85 : BitVec 32 := 1#32
  let arg12 : BitVec 32 := Scf.iv v177 c1_i32_85 k0_t42
  let v234 : Index := Scalar.indexCast arg12
  let c0_112 : Index := 0#32
  let c0_113 : Index := 0#32
  ![v234.toNat, 0, 0]
@[reducible] def k0_t43_loop (v1 : BitVec 32) (v3 : BitVec 32) : Scf.Loop 32 :=
  let v4 : BitVec 32 := Scalar.addi v1 v3
  let v180 : BitVec 32 := Scalar.subi v4 v1
  let c1_i32_87 : BitVec 32 := 1#32
  let v182 : BitVec 32 := Scalar.divsi v180 c1_i32_87
  let v183 : BitVec 32 := Scalar.muli v182 c1_i32_87
  let v184 : BitVec 32 := Scalar.addi v1 v183
  let c1_i32_88 : BitVec 32 := 1#32
  ⟨v1, v184, c1_i32_88⟩
def k0_off48 (v1 : BitVec 32) (v3 : BitVec 32) (k0_t43 : Fin (k0_t43_loop v1 v3).trips) : Fin 3 → Nat :=
  let c1_i32_88 : BitVec 32 := 1#32
  let arg12 : BitVec 32 := Scf.iv v1 c1_i32_88 k0_t43
  let v236 : Index := Scalar.indexCast arg12
  let c0_112 : Index := 0#32
  let c0_113 : Index := 0#32
  ![v236.toNat, 0, 0]
@[reducible] def k0_t44_loop (v1 : BitVec 32) (v3 : BitVec 32) : Scf.Loop 32 :=
  let v4 : BitVec 32 := Scalar.addi v1 v3
  let v180 : BitVec 32 := Scalar.subi v4 v1
  let c1_i32_87 : BitVec 32 := 1#32
  let v182 : BitVec 32 := Scalar.divsi v180 c1_i32_87
  let v183 : BitVec 32 := Scalar.muli v182 c1_i32_87
  let v184 : BitVec 32 := Scalar.addi v1 v183
  let v181 : BitVec 32 := Scalar.addi v1 v180
  let c1_i32_89 : BitVec 32 := 1#32
  ⟨v184, v181, c1_i32_89⟩
def k0_off49 (v1 : BitVec 32) (v3 : BitVec 32) (k0_t44 : Fin (k0_t44_loop v1 v3).trips) : Fin 3 → Nat :=
  let v4 : BitVec 32 := Scalar.addi v1 v3
  let v180 : BitVec 32 := Scalar.subi v4 v1
  let c1_i32_87 : BitVec 32 := 1#32
  let v182 : BitVec 32 := Scalar.divsi v180 c1_i32_87
  let v183 : BitVec 32 := Scalar.muli v182 c1_i32_87
  let v184 : BitVec 32 := Scalar.addi v1 v183
  let c1_i32_89 : BitVec 32 := 1#32
  let arg12 : BitVec 32 := Scf.iv v184 c1_i32_89 k0_t44
  let v236 : Index := Scalar.indexCast arg12
  let c0_112 : Index := 0#32
  let c0_113 : Index := 0#32
  ![v236.toNat, 0, 0]
@[reducible] def k0_t45_loop (v1 : BitVec 32) (v3 : BitVec 32) : Scf.Loop 32 :=
  let v4 : BitVec 32 := Scalar.addi v1 v3
  let v188 : BitVec 32 := Scalar.subi v4 v1
  let c1_i32_91 : BitVec 32 := 1#32
  let v190 : BitVec 32 := Scalar.divsi v188 c1_i32_91
  let v191 : BitVec 32 := Scalar.muli v190 c1_i32_91
  let v192 : BitVec 32 := Scalar.addi v1 v191
  let c1_i32_92 : BitVec 32 := 1#32
  ⟨v1, v192, c1_i32_92⟩
def k0_off50 (v1 : BitVec 32) (v3 : BitVec 32) (k0_t45 : Fin (k0_t45_loop v1 v3).trips) : Fin 3 → Nat :=
  let c1_i32_92 : BitVec 32 := 1#32
  let arg12 : BitVec 32 := Scf.iv v1 c1_i32_92 k0_t45
  let v231 : Index := Scalar.indexCast arg12
  let c0_112 : Index := 0#32
  let c0_113 : Index := 0#32
  ![v231.toNat, 0, 0]
@[reducible] def k0_t46_loop (v1 : BitVec 32) (v3 : BitVec 32) : Scf.Loop 32 :=
  let v4 : BitVec 32 := Scalar.addi v1 v3
  let v188 : BitVec 32 := Scalar.subi v4 v1
  let c1_i32_91 : BitVec 32 := 1#32
  let v190 : BitVec 32 := Scalar.divsi v188 c1_i32_91
  let v191 : BitVec 32 := Scalar.muli v190 c1_i32_91
  let v192 : BitVec 32 := Scalar.addi v1 v191
  let v189 : BitVec 32 := Scalar.addi v1 v188
  let c1_i32_93 : BitVec 32 := 1#32
  ⟨v192, v189, c1_i32_93⟩
def k0_off51 (v1 : BitVec 32) (v3 : BitVec 32) (k0_t46 : Fin (k0_t46_loop v1 v3).trips) : Fin 3 → Nat :=
  let v4 : BitVec 32 := Scalar.addi v1 v3
  let v188 : BitVec 32 := Scalar.subi v4 v1
  let c1_i32_91 : BitVec 32 := 1#32
  let v190 : BitVec 32 := Scalar.divsi v188 c1_i32_91
  let v191 : BitVec 32 := Scalar.muli v190 c1_i32_91
  let v192 : BitVec 32 := Scalar.addi v1 v191
  let c1_i32_93 : BitVec 32 := 1#32
  let arg12 : BitVec 32 := Scf.iv v192 c1_i32_93 k0_t46
  let v231 : Index := Scalar.indexCast arg12
  let c0_112 : Index := 0#32
  let c0_113 : Index := 0#32
  ![v231.toNat, 0, 0]
@[reducible] def k0_t47_loop (v1 : BitVec 32) (v3 : BitVec 32) : Scf.Loop 32 :=
  let v4 : BitVec 32 := Scalar.addi v1 v3
  let v196 : BitVec 32 := Scalar.subi v4 v1
  let c1_i32_95 : BitVec 32 := 1#32
  let v198 : BitVec 32 := Scalar.divsi v196 c1_i32_95
  let v199 : BitVec 32 := Scalar.muli v198 c1_i32_95
  let v200 : BitVec 32 := Scalar.addi v1 v199
  let c1_i32_96 : BitVec 32 := 1#32
  ⟨v1, v200, c1_i32_96⟩
def k0_off52 (v1 : BitVec 32) (v3 : BitVec 32) (k0_t47 : Fin (k0_t47_loop v1 v3).trips) : Fin 3 → Nat :=
  let c1_i32_96 : BitVec 32 := 1#32
  let arg12 : BitVec 32 := Scf.iv v1 c1_i32_96 k0_t47
  let v234 : Index := Scalar.indexCast arg12
  let c0_112 : Index := 0#32
  let c0_113 : Index := 0#32
  ![v234.toNat, 0, 0]
@[reducible] def k0_t48_loop (v1 : BitVec 32) (v3 : BitVec 32) : Scf.Loop 32 :=
  let v4 : BitVec 32 := Scalar.addi v1 v3
  let v196 : BitVec 32 := Scalar.subi v4 v1
  let c1_i32_95 : BitVec 32 := 1#32
  let v198 : BitVec 32 := Scalar.divsi v196 c1_i32_95
  let v199 : BitVec 32 := Scalar.muli v198 c1_i32_95
  let v200 : BitVec 32 := Scalar.addi v1 v199
  let v197 : BitVec 32 := Scalar.addi v1 v196
  let c1_i32_97 : BitVec 32 := 1#32
  ⟨v200, v197, c1_i32_97⟩
def k0_off53 (v1 : BitVec 32) (v3 : BitVec 32) (k0_t48 : Fin (k0_t48_loop v1 v3).trips) : Fin 3 → Nat :=
  let v4 : BitVec 32 := Scalar.addi v1 v3
  let v196 : BitVec 32 := Scalar.subi v4 v1
  let c1_i32_95 : BitVec 32 := 1#32
  let v198 : BitVec 32 := Scalar.divsi v196 c1_i32_95
  let v199 : BitVec 32 := Scalar.muli v198 c1_i32_95
  let v200 : BitVec 32 := Scalar.addi v1 v199
  let c1_i32_97 : BitVec 32 := 1#32
  let arg12 : BitVec 32 := Scf.iv v200 c1_i32_97 k0_t48
  let v234 : Index := Scalar.indexCast arg12
  let c0_112 : Index := 0#32
  let c0_113 : Index := 0#32
  ![v234.toNat, 0, 0]
@[reducible] def k0_t49_loop (v1 : BitVec 32) (v3 : BitVec 32) : Scf.Loop 32 :=
  let v4 : BitVec 32 := Scalar.addi v1 v3
  let v203 : BitVec 32 := Scalar.subi v4 v1
  let c1_i32_99 : BitVec 32 := 1#32
  let v205 : BitVec 32 := Scalar.divsi v203 c1_i32_99
  let v206 : BitVec 32 := Scalar.muli v205 c1_i32_99
  let v207 : BitVec 32 := Scalar.addi v1 v206
  let c1_i32_100 : BitVec 32 := 1#32
  ⟨v1, v207, c1_i32_100⟩
def k0_off54 (v1 : BitVec 32) (v3 : BitVec 32) (k0_t49 : Fin (k0_t49_loop v1 v3).trips) : Fin 3 → Nat :=
  let c1_i32_100 : BitVec 32 := 1#32
  let arg12 : BitVec 32 := Scf.iv v1 c1_i32_100 k0_t49
  let v236 : Index := Scalar.indexCast arg12
  let c0_112 : Index := 0#32
  let c0_113 : Index := 0#32
  ![v236.toNat, 0, 0]
@[reducible] def k0_t50_loop (v1 : BitVec 32) (v3 : BitVec 32) : Scf.Loop 32 :=
  let v4 : BitVec 32 := Scalar.addi v1 v3
  let v203 : BitVec 32 := Scalar.subi v4 v1
  let c1_i32_99 : BitVec 32 := 1#32
  let v205 : BitVec 32 := Scalar.divsi v203 c1_i32_99
  let v206 : BitVec 32 := Scalar.muli v205 c1_i32_99
  let v207 : BitVec 32 := Scalar.addi v1 v206
  let v204 : BitVec 32 := Scalar.addi v1 v203
  let c1_i32_101 : BitVec 32 := 1#32
  ⟨v207, v204, c1_i32_101⟩
def k0_off55 (v1 : BitVec 32) (v3 : BitVec 32) (k0_t50 : Fin (k0_t50_loop v1 v3).trips) : Fin 3 → Nat :=
  let v4 : BitVec 32 := Scalar.addi v1 v3
  let v203 : BitVec 32 := Scalar.subi v4 v1
  let c1_i32_99 : BitVec 32 := 1#32
  let v205 : BitVec 32 := Scalar.divsi v203 c1_i32_99
  let v206 : BitVec 32 := Scalar.muli v205 c1_i32_99
  let v207 : BitVec 32 := Scalar.addi v1 v206
  let c1_i32_101 : BitVec 32 := 1#32
  let arg12 : BitVec 32 := Scf.iv v207 c1_i32_101 k0_t50
  let v236 : Index := Scalar.indexCast arg12
  let c0_112 : Index := 0#32
  let c0_113 : Index := 0#32
  ![v236.toNat, 0, 0]
@[reducible] def k0_t51_loop (v1 : BitVec 32) (v3 : BitVec 32) : Scf.Loop 32 :=
  let v4 : BitVec 32 := Scalar.addi v1 v3
  let v211 : BitVec 32 := Scalar.subi v4 v1
  let c1_i32_103 : BitVec 32 := 1#32
  let v213 : BitVec 32 := Scalar.divsi v211 c1_i32_103
  let v214 : BitVec 32 := Scalar.muli v213 c1_i32_103
  let v215 : BitVec 32 := Scalar.addi v1 v214
  let c1_i32_104 : BitVec 32 := 1#32
  ⟨v1, v215, c1_i32_104⟩
def k0_off56 (v1 : BitVec 32) (v3 : BitVec 32) (k0_t51 : Fin (k0_t51_loop v1 v3).trips) : Fin 3 → Nat :=
  let c1_i32_104 : BitVec 32 := 1#32
  let arg12 : BitVec 32 := Scf.iv v1 c1_i32_104 k0_t51
  let v231 : Index := Scalar.indexCast arg12
  let c0_112 : Index := 0#32
  let c0_113 : Index := 0#32
  ![v231.toNat, 0, 0]
def k0_off57 (v1 : BitVec 32) (v3 : BitVec 32) (k0_t51 : Fin (k0_t51_loop v1 v3).trips) : Fin 3 → Nat :=
  let c1_i32_104 : BitVec 32 := 1#32
  let arg12 : BitVec 32 := Scf.iv v1 c1_i32_104 k0_t51
  let v241 : Index := Scalar.indexCast arg12
  let c0_118 : Index := 0#32
  let c0_119 : Index := 0#32
  ![v241.toNat, 0, 0]
@[reducible] def k0_t52_loop (v1 : BitVec 32) (v3 : BitVec 32) : Scf.Loop 32 :=
  let v4 : BitVec 32 := Scalar.addi v1 v3
  let v211 : BitVec 32 := Scalar.subi v4 v1
  let c1_i32_103 : BitVec 32 := 1#32
  let v213 : BitVec 32 := Scalar.divsi v211 c1_i32_103
  let v214 : BitVec 32 := Scalar.muli v213 c1_i32_103
  let v215 : BitVec 32 := Scalar.addi v1 v214
  let v212 : BitVec 32 := Scalar.addi v1 v211
  let c1_i32_105 : BitVec 32 := 1#32
  ⟨v215, v212, c1_i32_105⟩
def k0_off58 (v1 : BitVec 32) (v3 : BitVec 32) (k0_t52 : Fin (k0_t52_loop v1 v3).trips) : Fin 3 → Nat :=
  let v4 : BitVec 32 := Scalar.addi v1 v3
  let v211 : BitVec 32 := Scalar.subi v4 v1
  let c1_i32_103 : BitVec 32 := 1#32
  let v213 : BitVec 32 := Scalar.divsi v211 c1_i32_103
  let v214 : BitVec 32 := Scalar.muli v213 c1_i32_103
  let v215 : BitVec 32 := Scalar.addi v1 v214
  let c1_i32_105 : BitVec 32 := 1#32
  let arg12 : BitVec 32 := Scf.iv v215 c1_i32_105 k0_t52
  let v231 : Index := Scalar.indexCast arg12
  let c0_112 : Index := 0#32
  let c0_113 : Index := 0#32
  ![v231.toNat, 0, 0]
def k0_off59 (v1 : BitVec 32) (v3 : BitVec 32) (k0_t52 : Fin (k0_t52_loop v1 v3).trips) : Fin 3 → Nat :=
  let v4 : BitVec 32 := Scalar.addi v1 v3
  let v211 : BitVec 32 := Scalar.subi v4 v1
  let c1_i32_103 : BitVec 32 := 1#32
  let v213 : BitVec 32 := Scalar.divsi v211 c1_i32_103
  let v214 : BitVec 32 := Scalar.muli v213 c1_i32_103
  let v215 : BitVec 32 := Scalar.addi v1 v214
  let c1_i32_105 : BitVec 32 := 1#32
  let arg12 : BitVec 32 := Scf.iv v215 c1_i32_105 k0_t52
  let v241 : Index := Scalar.indexCast arg12
  let c0_118 : Index := 0#32
  let c0_119 : Index := 0#32
  ![v241.toNat, 0, 0]

def k0_chk1_0 (v1 : BitVec 32) (v3 : BitVec 32) : Prop :=
  ((k0_t1_loop v1 v3).OK) ∧
  (∀ k0_t1 : Fin (k0_t1_loop v1 v3).trips, ∀ a, (k0_off2 v1 v3 k0_t1) a + S1x1024x64.size a ≤ S8x1024x64.size a) ∧
  (∀ k0_t1 : Fin (k0_t1_loop v1 v3).trips, ∀ a, (k0_off3 v1 v3 k0_t1) a + S1x1x1024.size a ≤ S8x1x1024.size a) ∧
  (∀ k0_t1 : Fin (k0_t1_loop v1 v3).trips, ∀ a, (k0_off4 v1 v3 k0_t1) a + S1x256x1024.size a ≤ S8x256x1024.size a) ∧
  ((k0_t2_loop v1 v3).OK) ∧
  (∀ k0_t2 : Fin (k0_t2_loop v1 v3).trips, ∀ a, (k0_off5 v1 v3 k0_t2) a + S1x1024x64.size a ≤ S8x1024x64.size a) ∧
  (∀ k0_t2 : Fin (k0_t2_loop v1 v3).trips, ∀ a, (k0_off6 v1 v3 k0_t2) a + S1x1x1024.size a ≤ S8x1x1024.size a) ∧
  (∀ k0_t2 : Fin (k0_t2_loop v1 v3).trips, ∀ a, (k0_off7 v1 v3 k0_t2) a + S1x256x1024.size a ≤ S8x256x1024.size a) ∧
  ((k0_t3_loop v1 v3).OK) ∧
  (∀ k0_t3 : Fin (k0_t3_loop v1 v3).trips, ∀ a, (k0_off8 v1 v3 k0_t3) a + S1x256x1024.size a ≤ S8x256x1024.size a) ∧
  ((k0_t4_loop v1 v3).OK) ∧
  (∀ k0_t4 : Fin (k0_t4_loop v1 v3).trips, ∀ a, (k0_off9 v1 v3 k0_t4) a + S1x256x1024.size a ≤ S8x256x1024.size a) ∧
  ((k0_t5_loop v1 v3).OK) ∧
  (∀ k0_t5 : Fin (k0_t5_loop v1 v3).trips, ∀ a, (k0_off10 v1 v3 k0_t5) a + S1x256x1024.size a ≤ S8x256x1024.size a) ∧
  ((k0_t6_loop v1 v3).OK) ∧
  (∀ k0_t6 : Fin (k0_t6_loop v1 v3).trips, ∀ a, (k0_off11 v1 v3 k0_t6) a + S1x256x1024.size a ≤ S8x256x1024.size a) ∧
  ((k0_t7_loop v1 v3).OK) ∧
  (∀ k0_t7 : Fin (k0_t7_loop v1 v3).trips, ∀ a, (k0_off12 v1 v3 k0_t7) a + S1x256x1024.size a ≤ S8x256x1024.size a) ∧
  ((k0_t8_loop v1 v3).OK) ∧
  (∀ k0_t8 : Fin (k0_t8_loop v1 v3).trips, ∀ a, (k0_off13 v1 v3 k0_t8) a + S1x256x1024.size a ≤ S8x256x1024.size a) ∧
  ((k0_t9_loop v1 v3).OK) ∧
  (∀ k0_t9 : Fin (k0_t9_loop v1 v3).trips, ∀ a, (k0_off14 v1 v3 k0_t9) a + S1x256x1024.size a ≤ S8x256x1024.size a) ∧
  ((k0_t10_loop v1 v3).OK) ∧
  (∀ k0_t10 : Fin (k0_t10_loop v1 v3).trips, ∀ a, (k0_off15 v1 v3 k0_t10) a + S1x256x1024.size a ≤ S8x256x1024.size a) ∧
  ((k0_t11_loop v1 v3).OK) ∧
  (∀ k0_t11 : Fin (k0_t11_loop v1 v3).trips, ∀ a, (k0_off16 v1 v3 k0_t11) a + S1x256x1024.size a ≤ S8x256x1024.size a) ∧
  ((k0_t12_loop v1 v3).OK) ∧
  (∀ k0_t12 : Fin (k0_t12_loop v1 v3).trips, ∀ a, (k0_off17 v1 v3 k0_t12) a + S1x256x1024.size a ≤ S8x256x1024.size a) ∧
  ((k0_t13_loop v1 v3).OK) ∧
  (∀ k0_t13 : Fin (k0_t13_loop v1 v3).trips, ∀ a, (k0_off18 v1 v3 k0_t13) a + S1x256x1024.size a ≤ S8x256x1024.size a) ∧
  ((k0_t14_loop v1 v3).OK) ∧
  (∀ k0_t14 : Fin (k0_t14_loop v1 v3).trips, ∀ a, (k0_off19 v1 v3 k0_t14) a + S1x256x1024.size a ≤ S8x256x1024.size a)
def k0_chk1_1 (v1 : BitVec 32) (v3 : BitVec 32) : Prop :=
  ((k0_t15_loop v1 v3).OK) ∧
  (∀ k0_t15 : Fin (k0_t15_loop v1 v3).trips, ∀ a, (k0_off20 v1 v3 k0_t15) a + S1x256x1024.size a ≤ S8x256x1024.size a) ∧
  ((k0_t16_loop v1 v3).OK) ∧
  (∀ k0_t16 : Fin (k0_t16_loop v1 v3).trips, ∀ a, (k0_off21 v1 v3 k0_t16) a + S1x256x1024.size a ≤ S8x256x1024.size a) ∧
  ((k0_t17_loop v1 v3).OK) ∧
  (∀ k0_t17 : Fin (k0_t17_loop v1 v3).trips, ∀ a, (k0_off22 v1 v3 k0_t17) a + S1x256x1024.size a ≤ S8x256x1024.size a) ∧
  ((k0_t18_loop v1 v3).OK) ∧
  (∀ k0_t18 : Fin (k0_t18_loop v1 v3).trips, ∀ a, (k0_off23 v1 v3 k0_t18) a + S1x256x1024.size a ≤ S8x256x1024.size a) ∧
  ((k0_t19_loop v1 v3).OK) ∧
  (∀ k0_t19 : Fin (k0_t19_loop v1 v3).trips, ∀ a, (k0_off24 v1 v3 k0_t19) a + S1x256x1024.size a ≤ S8x256x1024.size a) ∧
  ((k0_t20_loop v1 v3).OK) ∧
  (∀ k0_t20 : Fin (k0_t20_loop v1 v3).trips, ∀ a, (k0_off25 v1 v3 k0_t20) a + S1x256x1024.size a ≤ S8x256x1024.size a) ∧
  ((k0_t21_loop v1 v3).OK) ∧
  (∀ k0_t21 : Fin (k0_t21_loop v1 v3).trips, ∀ a, (k0_off26 v1 v3 k0_t21) a + S1x256x1024.size a ≤ S8x256x1024.size a) ∧
  ((k0_t22_loop v1 v3).OK) ∧
  (∀ k0_t22 : Fin (k0_t22_loop v1 v3).trips, ∀ a, (k0_off27 v1 v3 k0_t22) a + S1x256x1024.size a ≤ S8x256x1024.size a) ∧
  ((k0_t23_loop v1 v3).OK) ∧
  (∀ k0_t23 : Fin (k0_t23_loop v1 v3).trips, ∀ a, (k0_off28 v1 v3 k0_t23) a + S1x256x1024.size a ≤ S8x256x1024.size a) ∧
  ((k0_t24_loop v1 v3).OK) ∧
  (∀ k0_t24 : Fin (k0_t24_loop v1 v3).trips, ∀ a, (k0_off29 v1 v3 k0_t24) a + S1x256x1024.size a ≤ S8x256x1024.size a) ∧
  ((k0_t25_loop v1 v3).OK) ∧
  (∀ k0_t25 : Fin (k0_t25_loop v1 v3).trips, ∀ a, (k0_off30 v1 v3 k0_t25) a + S1x256x1024.size a ≤ S8x256x1024.size a) ∧
  ((k0_t26_loop v1 v3).OK) ∧
  (∀ k0_t26 : Fin (k0_t26_loop v1 v3).trips, ∀ a, (k0_off31 v1 v3 k0_t26) a + S1x256x1024.size a ≤ S8x256x1024.size a) ∧
  ((k0_t27_loop v1 v3).OK) ∧
  (∀ k0_t27 : Fin (k0_t27_loop v1 v3).trips, ∀ a, (k0_off32 v1 v3 k0_t27) a + S1x256x1024.size a ≤ S8x256x1024.size a) ∧
  ((k0_t28_loop v1 v3).OK) ∧
  (∀ k0_t28 : Fin (k0_t28_loop v1 v3).trips, ∀ a, (k0_off33 v1 v3 k0_t28) a + S1x256x1024.size a ≤ S8x256x1024.size a) ∧
  ((k0_t29_loop v1 v3).OK) ∧
  (∀ k0_t29 : Fin (k0_t29_loop v1 v3).trips, ∀ a, (k0_off34 v1 v3 k0_t29) a + S1x256x1024.size a ≤ S8x256x1024.size a) ∧
  ((k0_t30_loop v1 v3).OK) ∧
  (∀ k0_t30 : Fin (k0_t30_loop v1 v3).trips, ∀ a, (k0_off35 v1 v3 k0_t30) a + S1x256x1024.size a ≤ S8x256x1024.size a)
def k0_chk1_2 (v1 : BitVec 32) (v3 : BitVec 32) : Prop :=
  ((k0_t31_loop v1 v3).OK) ∧
  (∀ k0_t31 : Fin (k0_t31_loop v1 v3).trips, ∀ a, (k0_off36 v1 v3 k0_t31) a + S1x256x1024.size a ≤ S8x256x1024.size a) ∧
  ((k0_t32_loop v1 v3).OK) ∧
  (∀ k0_t32 : Fin (k0_t32_loop v1 v3).trips, ∀ a, (k0_off37 v1 v3 k0_t32) a + S1x256x1024.size a ≤ S8x256x1024.size a) ∧
  ((k0_t33_loop v1 v3).OK) ∧
  (∀ k0_t33 : Fin (k0_t33_loop v1 v3).trips, ∀ a, (k0_off38 v1 v3 k0_t33) a + S1x256x1024.size a ≤ S8x256x1024.size a) ∧
  ((k0_t34_loop v1 v3).OK) ∧
  (∀ k0_t34 : Fin (k0_t34_loop v1 v3).trips, ∀ a, (k0_off39 v1 v3 k0_t34) a + S1x256x1024.size a ≤ S8x256x1024.size a) ∧
  ((k0_t35_loop v1 v3).OK) ∧
  (∀ k0_t35 : Fin (k0_t35_loop v1 v3).trips, ∀ a, (k0_off40 v1 v3 k0_t35) a + S1x256x1024.size a ≤ S8x256x1024.size a) ∧
  ((k0_t36_loop v1 v3).OK) ∧
  (∀ k0_t36 : Fin (k0_t36_loop v1 v3).trips, ∀ a, (k0_off41 v1 v3 k0_t36) a + S1x256x1024.size a ≤ S8x256x1024.size a) ∧
  ((k0_t37_loop v1 v3).OK) ∧
  (∀ k0_t37 : Fin (k0_t37_loop v1 v3).trips, ∀ a, (k0_off42 v1 v3 k0_t37) a + S1x256x1024.size a ≤ S8x256x1024.size a) ∧
  ((k0_t38_loop v1 v3).OK) ∧
  (∀ k0_t38 : Fin (k0_t38_loop v1 v3).trips, ∀ a, (k0_off43 v1 v3 k0_t38) a + S1x256x1024.size a ≤ S8x256x1024.size a) ∧
  ((k0_t39_loop v1 v3).OK) ∧
  (∀ k0_t39 : Fin (k0_t39_loop v1 v3).trips, ∀ a, (k0_off44 v1 v3 k0_t39) a + S1x256x1024.size a ≤ S8x256x1024.size a) ∧
  ((k0_t40_loop v1 v3).OK) ∧
  (∀ k0_t40 : Fin (k0_t40_loop v1 v3).trips, ∀ a, (k0_off45 v1 v3 k0_t40) a + S1x256x1024.size a ≤ S8x256x1024.size a) ∧
  ((k0_t41_loop v1 v3).OK) ∧
  (∀ k0_t41 : Fin (k0_t41_loop v1 v3).trips, ∀ a, (k0_off46 v1 v3 k0_t41) a + S1x256x1024.size a ≤ S8x256x1024.size a) ∧
  ((k0_t42_loop v1 v3).OK) ∧
  (∀ k0_t42 : Fin (k0_t42_loop v1 v3).trips, ∀ a, (k0_off47 v1 v3 k0_t42) a + S1x256x1024.size a ≤ S8x256x1024.size a) ∧
  ((k0_t43_loop v1 v3).OK) ∧
  (∀ k0_t43 : Fin (k0_t43_loop v1 v3).trips, ∀ a, (k0_off48 v1 v3 k0_t43) a + S1x256x1024.size a ≤ S8x256x1024.size a) ∧
  ((k0_t44_loop v1 v3).OK) ∧
  (∀ k0_t44 : Fin (k0_t44_loop v1 v3).trips, ∀ a, (k0_off49 v1 v3 k0_t44) a + S1x256x1024.size a ≤ S8x256x1024.size a) ∧
  ((k0_t45_loop v1 v3).OK) ∧
  (∀ k0_t45 : Fin (k0_t45_loop v1 v3).trips, ∀ a, (k0_off50 v1 v3 k0_t45) a + S1x256x1024.size a ≤ S8x256x1024.size a) ∧
  ((k0_t46_loop v1 v3).OK) ∧
  (∀ k0_t46 : Fin (k0_t46_loop v1 v3).trips, ∀ a, (k0_off51 v1 v3 k0_t46) a + S1x256x1024.size a ≤ S8x256x1024.size a)
def k0_chk1_3 (v1 : BitVec 32) (v3 : BitVec 32) : Prop :=
  ((k0_t47_loop v1 v3).OK) ∧
  (∀ k0_t47 : Fin (k0_t47_loop v1 v3).trips, ∀ a, (k0_off52 v1 v3 k0_t47) a + S1x256x1024.size a ≤ S8x256x1024.size a) ∧
  ((k0_t48_loop v1 v3).OK) ∧
  (∀ k0_t48 : Fin (k0_t48_loop v1 v3).trips, ∀ a, (k0_off53 v1 v3 k0_t48) a + S1x256x1024.size a ≤ S8x256x1024.size a) ∧
  ((k0_t49_loop v1 v3).OK) ∧
  (∀ k0_t49 : Fin (k0_t49_loop v1 v3).trips, ∀ a, (k0_off54 v1 v3 k0_t49) a + S1x256x1024.size a ≤ S8x256x1024.size a) ∧
  ((k0_t50_loop v1 v3).OK) ∧
  (∀ k0_t50 : Fin (k0_t50_loop v1 v3).trips, ∀ a, (k0_off55 v1 v3 k0_t50) a + S1x256x1024.size a ≤ S8x256x1024.size a) ∧
  ((k0_t51_loop v1 v3).OK) ∧
  (∀ k0_t51 : Fin (k0_t51_loop v1 v3).trips, ∀ a, (k0_off56 v1 v3 k0_t51) a + S1x256x1024.size a ≤ S8x256x1024.size a) ∧
  (∀ k0_t51 : Fin (k0_t51_loop v1 v3).trips, ∀ a, (k0_off57 v1 v3 k0_t51) a + S1x4x1024.size a ≤ S8x4x1024.size a) ∧
  ((k0_t52_loop v1 v3).OK) ∧
  (∀ k0_t52 : Fin (k0_t52_loop v1 v3).trips, ∀ a, (k0_off58 v1 v3 k0_t52) a + S1x256x1024.size a ≤ S8x256x1024.size a) ∧
  (∀ k0_t52 : Fin (k0_t52_loop v1 v3).trips, ∀ a, (k0_off59 v1 v3 k0_t52) a + S1x4x1024.size a ≤ S8x4x1024.size a)
def k0_chk1 (v1 : BitVec 32) (v3 : BitVec 32) : Prop :=
  k0_chk1_0 v1 v3 ∧
  k0_chk1_1 v1 v3 ∧
  k0_chk1_2 v1 v3 ∧
  k0_chk1_3 v1 v3
theorem k0_t1_ok : ∀ (v1 : BitVec 32) (v3 : BitVec 32) (k0_hw1 : k0_chk1 v1 v3), (k0_t1_loop v1 v3).OK := fun v1 v3 k0_hw1 => k0_hw1.1.1
theorem k0_off2_inb : ∀ (v1 : BitVec 32) (v3 : BitVec 32) (k0_hw1 : k0_chk1 v1 v3) (k0_t1 : Fin (k0_t1_loop v1 v3).trips), ∀ a, (k0_off2 v1 v3 k0_t1) a + S1x1024x64.size a ≤ S8x1024x64.size a := fun v1 v3 k0_hw1 k0_t1 => k0_hw1.1.2.1 k0_t1
theorem k0_off3_inb : ∀ (v1 : BitVec 32) (v3 : BitVec 32) (k0_hw1 : k0_chk1 v1 v3) (k0_t1 : Fin (k0_t1_loop v1 v3).trips), ∀ a, (k0_off3 v1 v3 k0_t1) a + S1x1x1024.size a ≤ S8x1x1024.size a := fun v1 v3 k0_hw1 k0_t1 => k0_hw1.1.2.2.1 k0_t1
theorem k0_off4_inb : ∀ (v1 : BitVec 32) (v3 : BitVec 32) (k0_hw1 : k0_chk1 v1 v3) (k0_t1 : Fin (k0_t1_loop v1 v3).trips), ∀ a, (k0_off4 v1 v3 k0_t1) a + S1x256x1024.size a ≤ S8x256x1024.size a := fun v1 v3 k0_hw1 k0_t1 => k0_hw1.1.2.2.2.1 k0_t1
theorem k0_t2_ok : ∀ (v1 : BitVec 32) (v3 : BitVec 32) (k0_hw1 : k0_chk1 v1 v3), (k0_t2_loop v1 v3).OK := fun v1 v3 k0_hw1 => k0_hw1.1.2.2.2.2.1
theorem k0_off5_inb : ∀ (v1 : BitVec 32) (v3 : BitVec 32) (k0_hw1 : k0_chk1 v1 v3) (k0_t2 : Fin (k0_t2_loop v1 v3).trips), ∀ a, (k0_off5 v1 v3 k0_t2) a + S1x1024x64.size a ≤ S8x1024x64.size a := fun v1 v3 k0_hw1 k0_t2 => k0_hw1.1.2.2.2.2.2.1 k0_t2
theorem k0_off6_inb : ∀ (v1 : BitVec 32) (v3 : BitVec 32) (k0_hw1 : k0_chk1 v1 v3) (k0_t2 : Fin (k0_t2_loop v1 v3).trips), ∀ a, (k0_off6 v1 v3 k0_t2) a + S1x1x1024.size a ≤ S8x1x1024.size a := fun v1 v3 k0_hw1 k0_t2 => k0_hw1.1.2.2.2.2.2.2.1 k0_t2
theorem k0_off7_inb : ∀ (v1 : BitVec 32) (v3 : BitVec 32) (k0_hw1 : k0_chk1 v1 v3) (k0_t2 : Fin (k0_t2_loop v1 v3).trips), ∀ a, (k0_off7 v1 v3 k0_t2) a + S1x256x1024.size a ≤ S8x256x1024.size a := fun v1 v3 k0_hw1 k0_t2 => k0_hw1.1.2.2.2.2.2.2.2.1 k0_t2
theorem k0_t3_ok : ∀ (v1 : BitVec 32) (v3 : BitVec 32) (k0_hw1 : k0_chk1 v1 v3), (k0_t3_loop v1 v3).OK := fun v1 v3 k0_hw1 => k0_hw1.1.2.2.2.2.2.2.2.2.1
theorem k0_off8_inb : ∀ (v1 : BitVec 32) (v3 : BitVec 32) (k0_hw1 : k0_chk1 v1 v3) (k0_t3 : Fin (k0_t3_loop v1 v3).trips), ∀ a, (k0_off8 v1 v3 k0_t3) a + S1x256x1024.size a ≤ S8x256x1024.size a := fun v1 v3 k0_hw1 k0_t3 => k0_hw1.1.2.2.2.2.2.2.2.2.2.1 k0_t3
theorem k0_t4_ok : ∀ (v1 : BitVec 32) (v3 : BitVec 32) (k0_hw1 : k0_chk1 v1 v3), (k0_t4_loop v1 v3).OK := fun v1 v3 k0_hw1 => k0_hw1.1.2.2.2.2.2.2.2.2.2.2.1
theorem k0_off9_inb : ∀ (v1 : BitVec 32) (v3 : BitVec 32) (k0_hw1 : k0_chk1 v1 v3) (k0_t4 : Fin (k0_t4_loop v1 v3).trips), ∀ a, (k0_off9 v1 v3 k0_t4) a + S1x256x1024.size a ≤ S8x256x1024.size a := fun v1 v3 k0_hw1 k0_t4 => k0_hw1.1.2.2.2.2.2.2.2.2.2.2.2.1 k0_t4
theorem k0_t5_ok : ∀ (v1 : BitVec 32) (v3 : BitVec 32) (k0_hw1 : k0_chk1 v1 v3), (k0_t5_loop v1 v3).OK := fun v1 v3 k0_hw1 => k0_hw1.1.2.2.2.2.2.2.2.2.2.2.2.2.1
theorem k0_off10_inb : ∀ (v1 : BitVec 32) (v3 : BitVec 32) (k0_hw1 : k0_chk1 v1 v3) (k0_t5 : Fin (k0_t5_loop v1 v3).trips), ∀ a, (k0_off10 v1 v3 k0_t5) a + S1x256x1024.size a ≤ S8x256x1024.size a := fun v1 v3 k0_hw1 k0_t5 => k0_hw1.1.2.2.2.2.2.2.2.2.2.2.2.2.2.1 k0_t5
theorem k0_t6_ok : ∀ (v1 : BitVec 32) (v3 : BitVec 32) (k0_hw1 : k0_chk1 v1 v3), (k0_t6_loop v1 v3).OK := fun v1 v3 k0_hw1 => k0_hw1.1.2.2.2.2.2.2.2.2.2.2.2.2.2.2.1
theorem k0_off11_inb : ∀ (v1 : BitVec 32) (v3 : BitVec 32) (k0_hw1 : k0_chk1 v1 v3) (k0_t6 : Fin (k0_t6_loop v1 v3).trips), ∀ a, (k0_off11 v1 v3 k0_t6) a + S1x256x1024.size a ≤ S8x256x1024.size a := fun v1 v3 k0_hw1 k0_t6 => k0_hw1.1.2.2.2.2.2.2.2.2.2.2.2.2.2.2.2.1 k0_t6
theorem k0_t7_ok : ∀ (v1 : BitVec 32) (v3 : BitVec 32) (k0_hw1 : k0_chk1 v1 v3), (k0_t7_loop v1 v3).OK := fun v1 v3 k0_hw1 => k0_hw1.1.2.2.2.2.2.2.2.2.2.2.2.2.2.2.2.2.1
theorem k0_off12_inb : ∀ (v1 : BitVec 32) (v3 : BitVec 32) (k0_hw1 : k0_chk1 v1 v3) (k0_t7 : Fin (k0_t7_loop v1 v3).trips), ∀ a, (k0_off12 v1 v3 k0_t7) a + S1x256x1024.size a ≤ S8x256x1024.size a := fun v1 v3 k0_hw1 k0_t7 => k0_hw1.1.2.2.2.2.2.2.2.2.2.2.2.2.2.2.2.2.2.1 k0_t7
theorem k0_t8_ok : ∀ (v1 : BitVec 32) (v3 : BitVec 32) (k0_hw1 : k0_chk1 v1 v3), (k0_t8_loop v1 v3).OK := fun v1 v3 k0_hw1 => k0_hw1.1.2.2.2.2.2.2.2.2.2.2.2.2.2.2.2.2.2.2.1
theorem k0_off13_inb : ∀ (v1 : BitVec 32) (v3 : BitVec 32) (k0_hw1 : k0_chk1 v1 v3) (k0_t8 : Fin (k0_t8_loop v1 v3).trips), ∀ a, (k0_off13 v1 v3 k0_t8) a + S1x256x1024.size a ≤ S8x256x1024.size a := fun v1 v3 k0_hw1 k0_t8 => k0_hw1.1.2.2.2.2.2.2.2.2.2.2.2.2.2.2.2.2.2.2.2.1 k0_t8
theorem k0_t9_ok : ∀ (v1 : BitVec 32) (v3 : BitVec 32) (k0_hw1 : k0_chk1 v1 v3), (k0_t9_loop v1 v3).OK := fun v1 v3 k0_hw1 => k0_hw1.1.2.2.2.2.2.2.2.2.2.2.2.2.2.2.2.2.2.2.2.2.1
theorem k0_off14_inb : ∀ (v1 : BitVec 32) (v3 : BitVec 32) (k0_hw1 : k0_chk1 v1 v3) (k0_t9 : Fin (k0_t9_loop v1 v3).trips), ∀ a, (k0_off14 v1 v3 k0_t9) a + S1x256x1024.size a ≤ S8x256x1024.size a := fun v1 v3 k0_hw1 k0_t9 => k0_hw1.1.2.2.2.2.2.2.2.2.2.2.2.2.2.2.2.2.2.2.2.2.2.1 k0_t9
theorem k0_t10_ok : ∀ (v1 : BitVec 32) (v3 : BitVec 32) (k0_hw1 : k0_chk1 v1 v3), (k0_t10_loop v1 v3).OK := fun v1 v3 k0_hw1 => k0_hw1.1.2.2.2.2.2.2.2.2.2.2.2.2.2.2.2.2.2.2.2.2.2.2.1
theorem k0_off15_inb : ∀ (v1 : BitVec 32) (v3 : BitVec 32) (k0_hw1 : k0_chk1 v1 v3) (k0_t10 : Fin (k0_t10_loop v1 v3).trips), ∀ a, (k0_off15 v1 v3 k0_t10) a + S1x256x1024.size a ≤ S8x256x1024.size a := fun v1 v3 k0_hw1 k0_t10 => k0_hw1.1.2.2.2.2.2.2.2.2.2.2.2.2.2.2.2.2.2.2.2.2.2.2.2.1 k0_t10
theorem k0_t11_ok : ∀ (v1 : BitVec 32) (v3 : BitVec 32) (k0_hw1 : k0_chk1 v1 v3), (k0_t11_loop v1 v3).OK := fun v1 v3 k0_hw1 => k0_hw1.1.2.2.2.2.2.2.2.2.2.2.2.2.2.2.2.2.2.2.2.2.2.2.2.2.1
theorem k0_off16_inb : ∀ (v1 : BitVec 32) (v3 : BitVec 32) (k0_hw1 : k0_chk1 v1 v3) (k0_t11 : Fin (k0_t11_loop v1 v3).trips), ∀ a, (k0_off16 v1 v3 k0_t11) a + S1x256x1024.size a ≤ S8x256x1024.size a := fun v1 v3 k0_hw1 k0_t11 => k0_hw1.1.2.2.2.2.2.2.2.2.2.2.2.2.2.2.2.2.2.2.2.2.2.2.2.2.2.1 k0_t11
theorem k0_t12_ok : ∀ (v1 : BitVec 32) (v3 : BitVec 32) (k0_hw1 : k0_chk1 v1 v3), (k0_t12_loop v1 v3).OK := fun v1 v3 k0_hw1 => k0_hw1.1.2.2.2.2.2.2.2.2.2.2.2.2.2.2.2.2.2.2.2.2.2.2.2.2.2.2.1
theorem k0_off17_inb : ∀ (v1 : BitVec 32) (v3 : BitVec 32) (k0_hw1 : k0_chk1 v1 v3) (k0_t12 : Fin (k0_t12_loop v1 v3).trips), ∀ a, (k0_off17 v1 v3 k0_t12) a + S1x256x1024.size a ≤ S8x256x1024.size a := fun v1 v3 k0_hw1 k0_t12 => k0_hw1.1.2.2.2.2.2.2.2.2.2.2.2.2.2.2.2.2.2.2.2.2.2.2.2.2.2.2.2.1 k0_t12
theorem k0_t13_ok : ∀ (v1 : BitVec 32) (v3 : BitVec 32) (k0_hw1 : k0_chk1 v1 v3), (k0_t13_loop v1 v3).OK := fun v1 v3 k0_hw1 => k0_hw1.1.2.2.2.2.2.2.2.2.2.2.2.2.2.2.2.2.2.2.2.2.2.2.2.2.2.2.2.2.1
theorem k0_off18_inb : ∀ (v1 : BitVec 32) (v3 : BitVec 32) (k0_hw1 : k0_chk1 v1 v3) (k0_t13 : Fin (k0_t13_loop v1 v3).trips), ∀ a, (k0_off18 v1 v3 k0_t13) a + S1x256x1024.size a ≤ S8x256x1024.size a := fun v1 v3 k0_hw1 k0_t13 => k0_hw1.1.2.2.2.2.2.2.2.2.2.2.2.2.2.2.2.2.2.2.2.2.2.2.2.2.2.2.2.2.2.1 k0_t13
theorem k0_t14_ok : ∀ (v1 : BitVec 32) (v3 : BitVec 32) (k0_hw1 : k0_chk1 v1 v3), (k0_t14_loop v1 v3).OK := fun v1 v3 k0_hw1 => k0_hw1.1.2.2.2.2.2.2.2.2.2.2.2.2.2.2.2.2.2.2.2.2.2.2.2.2.2.2.2.2.2.2.1
theorem k0_off19_inb : ∀ (v1 : BitVec 32) (v3 : BitVec 32) (k0_hw1 : k0_chk1 v1 v3) (k0_t14 : Fin (k0_t14_loop v1 v3).trips), ∀ a, (k0_off19 v1 v3 k0_t14) a + S1x256x1024.size a ≤ S8x256x1024.size a := fun v1 v3 k0_hw1 k0_t14 => k0_hw1.1.2.2.2.2.2.2.2.2.2.2.2.2.2.2.2.2.2.2.2.2.2.2.2.2.2.2.2.2.2.2.2 k0_t14
theorem k0_t15_ok : ∀ (v1 : BitVec 32) (v3 : BitVec 32) (k0_hw1 : k0_chk1 v1 v3), (k0_t15_loop v1 v3).OK := fun v1 v3 k0_hw1 => k0_hw1.2.1.1
theorem k0_off20_inb : ∀ (v1 : BitVec 32) (v3 : BitVec 32) (k0_hw1 : k0_chk1 v1 v3) (k0_t15 : Fin (k0_t15_loop v1 v3).trips), ∀ a, (k0_off20 v1 v3 k0_t15) a + S1x256x1024.size a ≤ S8x256x1024.size a := fun v1 v3 k0_hw1 k0_t15 => k0_hw1.2.1.2.1 k0_t15
theorem k0_t16_ok : ∀ (v1 : BitVec 32) (v3 : BitVec 32) (k0_hw1 : k0_chk1 v1 v3), (k0_t16_loop v1 v3).OK := fun v1 v3 k0_hw1 => k0_hw1.2.1.2.2.1
theorem k0_off21_inb : ∀ (v1 : BitVec 32) (v3 : BitVec 32) (k0_hw1 : k0_chk1 v1 v3) (k0_t16 : Fin (k0_t16_loop v1 v3).trips), ∀ a, (k0_off21 v1 v3 k0_t16) a + S1x256x1024.size a ≤ S8x256x1024.size a := fun v1 v3 k0_hw1 k0_t16 => k0_hw1.2.1.2.2.2.1 k0_t16
theorem k0_t17_ok : ∀ (v1 : BitVec 32) (v3 : BitVec 32) (k0_hw1 : k0_chk1 v1 v3), (k0_t17_loop v1 v3).OK := fun v1 v3 k0_hw1 => k0_hw1.2.1.2.2.2.2.1
theorem k0_off22_inb : ∀ (v1 : BitVec 32) (v3 : BitVec 32) (k0_hw1 : k0_chk1 v1 v3) (k0_t17 : Fin (k0_t17_loop v1 v3).trips), ∀ a, (k0_off22 v1 v3 k0_t17) a + S1x256x1024.size a ≤ S8x256x1024.size a := fun v1 v3 k0_hw1 k0_t17 => k0_hw1.2.1.2.2.2.2.2.1 k0_t17
theorem k0_t18_ok : ∀ (v1 : BitVec 32) (v3 : BitVec 32) (k0_hw1 : k0_chk1 v1 v3), (k0_t18_loop v1 v3).OK := fun v1 v3 k0_hw1 => k0_hw1.2.1.2.2.2.2.2.2.1
theorem k0_off23_inb : ∀ (v1 : BitVec 32) (v3 : BitVec 32) (k0_hw1 : k0_chk1 v1 v3) (k0_t18 : Fin (k0_t18_loop v1 v3).trips), ∀ a, (k0_off23 v1 v3 k0_t18) a + S1x256x1024.size a ≤ S8x256x1024.size a := fun v1 v3 k0_hw1 k0_t18 => k0_hw1.2.1.2.2.2.2.2.2.2.1 k0_t18
theorem k0_t19_ok : ∀ (v1 : BitVec 32) (v3 : BitVec 32) (k0_hw1 : k0_chk1 v1 v3), (k0_t19_loop v1 v3).OK := fun v1 v3 k0_hw1 => k0_hw1.2.1.2.2.2.2.2.2.2.2.1
theorem k0_off24_inb : ∀ (v1 : BitVec 32) (v3 : BitVec 32) (k0_hw1 : k0_chk1 v1 v3) (k0_t19 : Fin (k0_t19_loop v1 v3).trips), ∀ a, (k0_off24 v1 v3 k0_t19) a + S1x256x1024.size a ≤ S8x256x1024.size a := fun v1 v3 k0_hw1 k0_t19 => k0_hw1.2.1.2.2.2.2.2.2.2.2.2.1 k0_t19
theorem k0_t20_ok : ∀ (v1 : BitVec 32) (v3 : BitVec 32) (k0_hw1 : k0_chk1 v1 v3), (k0_t20_loop v1 v3).OK := fun v1 v3 k0_hw1 => k0_hw1.2.1.2.2.2.2.2.2.2.2.2.2.1
theorem k0_off25_inb : ∀ (v1 : BitVec 32) (v3 : BitVec 32) (k0_hw1 : k0_chk1 v1 v3) (k0_t20 : Fin (k0_t20_loop v1 v3).trips), ∀ a, (k0_off25 v1 v3 k0_t20) a + S1x256x1024.size a ≤ S8x256x1024.size a := fun v1 v3 k0_hw1 k0_t20 => k0_hw1.2.1.2.2.2.2.2.2.2.2.2.2.2.1 k0_t20
theorem k0_t21_ok : ∀ (v1 : BitVec 32) (v3 : BitVec 32) (k0_hw1 : k0_chk1 v1 v3), (k0_t21_loop v1 v3).OK := fun v1 v3 k0_hw1 => k0_hw1.2.1.2.2.2.2.2.2.2.2.2.2.2.2.1
theorem k0_off26_inb : ∀ (v1 : BitVec 32) (v3 : BitVec 32) (k0_hw1 : k0_chk1 v1 v3) (k0_t21 : Fin (k0_t21_loop v1 v3).trips), ∀ a, (k0_off26 v1 v3 k0_t21) a + S1x256x1024.size a ≤ S8x256x1024.size a := fun v1 v3 k0_hw1 k0_t21 => k0_hw1.2.1.2.2.2.2.2.2.2.2.2.2.2.2.2.1 k0_t21
theorem k0_t22_ok : ∀ (v1 : BitVec 32) (v3 : BitVec 32) (k0_hw1 : k0_chk1 v1 v3), (k0_t22_loop v1 v3).OK := fun v1 v3 k0_hw1 => k0_hw1.2.1.2.2.2.2.2.2.2.2.2.2.2.2.2.2.1
theorem k0_off27_inb : ∀ (v1 : BitVec 32) (v3 : BitVec 32) (k0_hw1 : k0_chk1 v1 v3) (k0_t22 : Fin (k0_t22_loop v1 v3).trips), ∀ a, (k0_off27 v1 v3 k0_t22) a + S1x256x1024.size a ≤ S8x256x1024.size a := fun v1 v3 k0_hw1 k0_t22 => k0_hw1.2.1.2.2.2.2.2.2.2.2.2.2.2.2.2.2.2.1 k0_t22
theorem k0_t23_ok : ∀ (v1 : BitVec 32) (v3 : BitVec 32) (k0_hw1 : k0_chk1 v1 v3), (k0_t23_loop v1 v3).OK := fun v1 v3 k0_hw1 => k0_hw1.2.1.2.2.2.2.2.2.2.2.2.2.2.2.2.2.2.2.1
theorem k0_off28_inb : ∀ (v1 : BitVec 32) (v3 : BitVec 32) (k0_hw1 : k0_chk1 v1 v3) (k0_t23 : Fin (k0_t23_loop v1 v3).trips), ∀ a, (k0_off28 v1 v3 k0_t23) a + S1x256x1024.size a ≤ S8x256x1024.size a := fun v1 v3 k0_hw1 k0_t23 => k0_hw1.2.1.2.2.2.2.2.2.2.2.2.2.2.2.2.2.2.2.2.1 k0_t23
theorem k0_t24_ok : ∀ (v1 : BitVec 32) (v3 : BitVec 32) (k0_hw1 : k0_chk1 v1 v3), (k0_t24_loop v1 v3).OK := fun v1 v3 k0_hw1 => k0_hw1.2.1.2.2.2.2.2.2.2.2.2.2.2.2.2.2.2.2.2.2.1
theorem k0_off29_inb : ∀ (v1 : BitVec 32) (v3 : BitVec 32) (k0_hw1 : k0_chk1 v1 v3) (k0_t24 : Fin (k0_t24_loop v1 v3).trips), ∀ a, (k0_off29 v1 v3 k0_t24) a + S1x256x1024.size a ≤ S8x256x1024.size a := fun v1 v3 k0_hw1 k0_t24 => k0_hw1.2.1.2.2.2.2.2.2.2.2.2.2.2.2.2.2.2.2.2.2.2.1 k0_t24
theorem k0_t25_ok : ∀ (v1 : BitVec 32) (v3 : BitVec 32) (k0_hw1 : k0_chk1 v1 v3), (k0_t25_loop v1 v3).OK := fun v1 v3 k0_hw1 => k0_hw1.2.1.2.2.2.2.2.2.2.2.2.2.2.2.2.2.2.2.2.2.2.2.1
theorem k0_off30_inb : ∀ (v1 : BitVec 32) (v3 : BitVec 32) (k0_hw1 : k0_chk1 v1 v3) (k0_t25 : Fin (k0_t25_loop v1 v3).trips), ∀ a, (k0_off30 v1 v3 k0_t25) a + S1x256x1024.size a ≤ S8x256x1024.size a := fun v1 v3 k0_hw1 k0_t25 => k0_hw1.2.1.2.2.2.2.2.2.2.2.2.2.2.2.2.2.2.2.2.2.2.2.2.1 k0_t25
theorem k0_t26_ok : ∀ (v1 : BitVec 32) (v3 : BitVec 32) (k0_hw1 : k0_chk1 v1 v3), (k0_t26_loop v1 v3).OK := fun v1 v3 k0_hw1 => k0_hw1.2.1.2.2.2.2.2.2.2.2.2.2.2.2.2.2.2.2.2.2.2.2.2.2.1
theorem k0_off31_inb : ∀ (v1 : BitVec 32) (v3 : BitVec 32) (k0_hw1 : k0_chk1 v1 v3) (k0_t26 : Fin (k0_t26_loop v1 v3).trips), ∀ a, (k0_off31 v1 v3 k0_t26) a + S1x256x1024.size a ≤ S8x256x1024.size a := fun v1 v3 k0_hw1 k0_t26 => k0_hw1.2.1.2.2.2.2.2.2.2.2.2.2.2.2.2.2.2.2.2.2.2.2.2.2.2.1 k0_t26
theorem k0_t27_ok : ∀ (v1 : BitVec 32) (v3 : BitVec 32) (k0_hw1 : k0_chk1 v1 v3), (k0_t27_loop v1 v3).OK := fun v1 v3 k0_hw1 => k0_hw1.2.1.2.2.2.2.2.2.2.2.2.2.2.2.2.2.2.2.2.2.2.2.2.2.2.2.1
theorem k0_off32_inb : ∀ (v1 : BitVec 32) (v3 : BitVec 32) (k0_hw1 : k0_chk1 v1 v3) (k0_t27 : Fin (k0_t27_loop v1 v3).trips), ∀ a, (k0_off32 v1 v3 k0_t27) a + S1x256x1024.size a ≤ S8x256x1024.size a := fun v1 v3 k0_hw1 k0_t27 => k0_hw1.2.1.2.2.2.2.2.2.2.2.2.2.2.2.2.2.2.2.2.2.2.2.2.2.2.2.2.1 k0_t27
theorem k0_t28_ok : ∀ (v1 : BitVec 32) (v3 : BitVec 32) (k0_hw1 : k0_chk1 v1 v3), (k0_t28_loop v1 v3).OK := fun v1 v3 k0_hw1 => k0_hw1.2.1.2.2.2.2.2.2.2.2.2.2.2.2.2.2.2.2.2.2.2.2.2.2.2.2.2.2.1
theorem k0_off33_inb : ∀ (v1 : BitVec 32) (v3 : BitVec 32) (k0_hw1 : k0_chk1 v1 v3) (k0_t28 : Fin (k0_t28_loop v1 v3).trips), ∀ a, (k0_off33 v1 v3 k0_t28) a + S1x256x1024.size a ≤ S8x256x1024.size a := fun v1 v3 k0_hw1 k0_t28 => k0_hw1.2.1.2.2.2.2.2.2.2.2.2.2.2.2.2.2.2.2.2.2.2.2.2.2.2.2.2.2.2.1 k0_t28
theorem k0_t29_ok : ∀ (v1 : BitVec 32) (v3 : BitVec 32) (k0_hw1 : k0_chk1 v1 v3), (k0_t29_loop v1 v3).OK := fun v1 v3 k0_hw1 => k0_hw1.2.1.2.2.2.2.2.2.2.2.2.2.2.2.2.2.2.2.2.2.2.2.2.2.2.2.2.2.2.2.1
theorem k0_off34_inb : ∀ (v1 : BitVec 32) (v3 : BitVec 32) (k0_hw1 : k0_chk1 v1 v3) (k0_t29 : Fin (k0_t29_loop v1 v3).trips), ∀ a, (k0_off34 v1 v3 k0_t29) a + S1x256x1024.size a ≤ S8x256x1024.size a := fun v1 v3 k0_hw1 k0_t29 => k0_hw1.2.1.2.2.2.2.2.2.2.2.2.2.2.2.2.2.2.2.2.2.2.2.2.2.2.2.2.2.2.2.2.1 k0_t29
theorem k0_t30_ok : ∀ (v1 : BitVec 32) (v3 : BitVec 32) (k0_hw1 : k0_chk1 v1 v3), (k0_t30_loop v1 v3).OK := fun v1 v3 k0_hw1 => k0_hw1.2.1.2.2.2.2.2.2.2.2.2.2.2.2.2.2.2.2.2.2.2.2.2.2.2.2.2.2.2.2.2.2.1
theorem k0_off35_inb : ∀ (v1 : BitVec 32) (v3 : BitVec 32) (k0_hw1 : k0_chk1 v1 v3) (k0_t30 : Fin (k0_t30_loop v1 v3).trips), ∀ a, (k0_off35 v1 v3 k0_t30) a + S1x256x1024.size a ≤ S8x256x1024.size a := fun v1 v3 k0_hw1 k0_t30 => k0_hw1.2.1.2.2.2.2.2.2.2.2.2.2.2.2.2.2.2.2.2.2.2.2.2.2.2.2.2.2.2.2.2.2.2 k0_t30
theorem k0_t31_ok : ∀ (v1 : BitVec 32) (v3 : BitVec 32) (k0_hw1 : k0_chk1 v1 v3), (k0_t31_loop v1 v3).OK := fun v1 v3 k0_hw1 => k0_hw1.2.2.1.1
theorem k0_off36_inb : ∀ (v1 : BitVec 32) (v3 : BitVec 32) (k0_hw1 : k0_chk1 v1 v3) (k0_t31 : Fin (k0_t31_loop v1 v3).trips), ∀ a, (k0_off36 v1 v3 k0_t31) a + S1x256x1024.size a ≤ S8x256x1024.size a := fun v1 v3 k0_hw1 k0_t31 => k0_hw1.2.2.1.2.1 k0_t31
theorem k0_t32_ok : ∀ (v1 : BitVec 32) (v3 : BitVec 32) (k0_hw1 : k0_chk1 v1 v3), (k0_t32_loop v1 v3).OK := fun v1 v3 k0_hw1 => k0_hw1.2.2.1.2.2.1
theorem k0_off37_inb : ∀ (v1 : BitVec 32) (v3 : BitVec 32) (k0_hw1 : k0_chk1 v1 v3) (k0_t32 : Fin (k0_t32_loop v1 v3).trips), ∀ a, (k0_off37 v1 v3 k0_t32) a + S1x256x1024.size a ≤ S8x256x1024.size a := fun v1 v3 k0_hw1 k0_t32 => k0_hw1.2.2.1.2.2.2.1 k0_t32
theorem k0_t33_ok : ∀ (v1 : BitVec 32) (v3 : BitVec 32) (k0_hw1 : k0_chk1 v1 v3), (k0_t33_loop v1 v3).OK := fun v1 v3 k0_hw1 => k0_hw1.2.2.1.2.2.2.2.1
theorem k0_off38_inb : ∀ (v1 : BitVec 32) (v3 : BitVec 32) (k0_hw1 : k0_chk1 v1 v3) (k0_t33 : Fin (k0_t33_loop v1 v3).trips), ∀ a, (k0_off38 v1 v3 k0_t33) a + S1x256x1024.size a ≤ S8x256x1024.size a := fun v1 v3 k0_hw1 k0_t33 => k0_hw1.2.2.1.2.2.2.2.2.1 k0_t33
theorem k0_t34_ok : ∀ (v1 : BitVec 32) (v3 : BitVec 32) (k0_hw1 : k0_chk1 v1 v3), (k0_t34_loop v1 v3).OK := fun v1 v3 k0_hw1 => k0_hw1.2.2.1.2.2.2.2.2.2.1
theorem k0_off39_inb : ∀ (v1 : BitVec 32) (v3 : BitVec 32) (k0_hw1 : k0_chk1 v1 v3) (k0_t34 : Fin (k0_t34_loop v1 v3).trips), ∀ a, (k0_off39 v1 v3 k0_t34) a + S1x256x1024.size a ≤ S8x256x1024.size a := fun v1 v3 k0_hw1 k0_t34 => k0_hw1.2.2.1.2.2.2.2.2.2.2.1 k0_t34
theorem k0_t35_ok : ∀ (v1 : BitVec 32) (v3 : BitVec 32) (k0_hw1 : k0_chk1 v1 v3), (k0_t35_loop v1 v3).OK := fun v1 v3 k0_hw1 => k0_hw1.2.2.1.2.2.2.2.2.2.2.2.1
theorem k0_off40_inb : ∀ (v1 : BitVec 32) (v3 : BitVec 32) (k0_hw1 : k0_chk1 v1 v3) (k0_t35 : Fin (k0_t35_loop v1 v3).trips), ∀ a, (k0_off40 v1 v3 k0_t35) a + S1x256x1024.size a ≤ S8x256x1024.size a := fun v1 v3 k0_hw1 k0_t35 => k0_hw1.2.2.1.2.2.2.2.2.2.2.2.2.1 k0_t35
theorem k0_t36_ok : ∀ (v1 : BitVec 32) (v3 : BitVec 32) (k0_hw1 : k0_chk1 v1 v3), (k0_t36_loop v1 v3).OK := fun v1 v3 k0_hw1 => k0_hw1.2.2.1.2.2.2.2.2.2.2.2.2.2.1
theorem k0_off41_inb : ∀ (v1 : BitVec 32) (v3 : BitVec 32) (k0_hw1 : k0_chk1 v1 v3) (k0_t36 : Fin (k0_t36_loop v1 v3).trips), ∀ a, (k0_off41 v1 v3 k0_t36) a + S1x256x1024.size a ≤ S8x256x1024.size a := fun v1 v3 k0_hw1 k0_t36 => k0_hw1.2.2.1.2.2.2.2.2.2.2.2.2.2.2.1 k0_t36
theorem k0_t37_ok : ∀ (v1 : BitVec 32) (v3 : BitVec 32) (k0_hw1 : k0_chk1 v1 v3), (k0_t37_loop v1 v3).OK := fun v1 v3 k0_hw1 => k0_hw1.2.2.1.2.2.2.2.2.2.2.2.2.2.2.2.1
theorem k0_off42_inb : ∀ (v1 : BitVec 32) (v3 : BitVec 32) (k0_hw1 : k0_chk1 v1 v3) (k0_t37 : Fin (k0_t37_loop v1 v3).trips), ∀ a, (k0_off42 v1 v3 k0_t37) a + S1x256x1024.size a ≤ S8x256x1024.size a := fun v1 v3 k0_hw1 k0_t37 => k0_hw1.2.2.1.2.2.2.2.2.2.2.2.2.2.2.2.2.1 k0_t37
theorem k0_t38_ok : ∀ (v1 : BitVec 32) (v3 : BitVec 32) (k0_hw1 : k0_chk1 v1 v3), (k0_t38_loop v1 v3).OK := fun v1 v3 k0_hw1 => k0_hw1.2.2.1.2.2.2.2.2.2.2.2.2.2.2.2.2.2.1
theorem k0_off43_inb : ∀ (v1 : BitVec 32) (v3 : BitVec 32) (k0_hw1 : k0_chk1 v1 v3) (k0_t38 : Fin (k0_t38_loop v1 v3).trips), ∀ a, (k0_off43 v1 v3 k0_t38) a + S1x256x1024.size a ≤ S8x256x1024.size a := fun v1 v3 k0_hw1 k0_t38 => k0_hw1.2.2.1.2.2.2.2.2.2.2.2.2.2.2.2.2.2.2.1 k0_t38
theorem k0_t39_ok : ∀ (v1 : BitVec 32) (v3 : BitVec 32) (k0_hw1 : k0_chk1 v1 v3), (k0_t39_loop v1 v3).OK := fun v1 v3 k0_hw1 => k0_hw1.2.2.1.2.2.2.2.2.2.2.2.2.2.2.2.2.2.2.2.1
theorem k0_off44_inb : ∀ (v1 : BitVec 32) (v3 : BitVec 32) (k0_hw1 : k0_chk1 v1 v3) (k0_t39 : Fin (k0_t39_loop v1 v3).trips), ∀ a, (k0_off44 v1 v3 k0_t39) a + S1x256x1024.size a ≤ S8x256x1024.size a := fun v1 v3 k0_hw1 k0_t39 => k0_hw1.2.2.1.2.2.2.2.2.2.2.2.2.2.2.2.2.2.2.2.2.1 k0_t39
theorem k0_t40_ok : ∀ (v1 : BitVec 32) (v3 : BitVec 32) (k0_hw1 : k0_chk1 v1 v3), (k0_t40_loop v1 v3).OK := fun v1 v3 k0_hw1 => k0_hw1.2.2.1.2.2.2.2.2.2.2.2.2.2.2.2.2.2.2.2.2.2.1
theorem k0_off45_inb : ∀ (v1 : BitVec 32) (v3 : BitVec 32) (k0_hw1 : k0_chk1 v1 v3) (k0_t40 : Fin (k0_t40_loop v1 v3).trips), ∀ a, (k0_off45 v1 v3 k0_t40) a + S1x256x1024.size a ≤ S8x256x1024.size a := fun v1 v3 k0_hw1 k0_t40 => k0_hw1.2.2.1.2.2.2.2.2.2.2.2.2.2.2.2.2.2.2.2.2.2.2.1 k0_t40
theorem k0_t41_ok : ∀ (v1 : BitVec 32) (v3 : BitVec 32) (k0_hw1 : k0_chk1 v1 v3), (k0_t41_loop v1 v3).OK := fun v1 v3 k0_hw1 => k0_hw1.2.2.1.2.2.2.2.2.2.2.2.2.2.2.2.2.2.2.2.2.2.2.2.1
theorem k0_off46_inb : ∀ (v1 : BitVec 32) (v3 : BitVec 32) (k0_hw1 : k0_chk1 v1 v3) (k0_t41 : Fin (k0_t41_loop v1 v3).trips), ∀ a, (k0_off46 v1 v3 k0_t41) a + S1x256x1024.size a ≤ S8x256x1024.size a := fun v1 v3 k0_hw1 k0_t41 => k0_hw1.2.2.1.2.2.2.2.2.2.2.2.2.2.2.2.2.2.2.2.2.2.2.2.2.1 k0_t41
theorem k0_t42_ok : ∀ (v1 : BitVec 32) (v3 : BitVec 32) (k0_hw1 : k0_chk1 v1 v3), (k0_t42_loop v1 v3).OK := fun v1 v3 k0_hw1 => k0_hw1.2.2.1.2.2.2.2.2.2.2.2.2.2.2.2.2.2.2.2.2.2.2.2.2.2.1
theorem k0_off47_inb : ∀ (v1 : BitVec 32) (v3 : BitVec 32) (k0_hw1 : k0_chk1 v1 v3) (k0_t42 : Fin (k0_t42_loop v1 v3).trips), ∀ a, (k0_off47 v1 v3 k0_t42) a + S1x256x1024.size a ≤ S8x256x1024.size a := fun v1 v3 k0_hw1 k0_t42 => k0_hw1.2.2.1.2.2.2.2.2.2.2.2.2.2.2.2.2.2.2.2.2.2.2.2.2.2.2.1 k0_t42
theorem k0_t43_ok : ∀ (v1 : BitVec 32) (v3 : BitVec 32) (k0_hw1 : k0_chk1 v1 v3), (k0_t43_loop v1 v3).OK := fun v1 v3 k0_hw1 => k0_hw1.2.2.1.2.2.2.2.2.2.2.2.2.2.2.2.2.2.2.2.2.2.2.2.2.2.2.2.1
theorem k0_off48_inb : ∀ (v1 : BitVec 32) (v3 : BitVec 32) (k0_hw1 : k0_chk1 v1 v3) (k0_t43 : Fin (k0_t43_loop v1 v3).trips), ∀ a, (k0_off48 v1 v3 k0_t43) a + S1x256x1024.size a ≤ S8x256x1024.size a := fun v1 v3 k0_hw1 k0_t43 => k0_hw1.2.2.1.2.2.2.2.2.2.2.2.2.2.2.2.2.2.2.2.2.2.2.2.2.2.2.2.2.1 k0_t43
theorem k0_t44_ok : ∀ (v1 : BitVec 32) (v3 : BitVec 32) (k0_hw1 : k0_chk1 v1 v3), (k0_t44_loop v1 v3).OK := fun v1 v3 k0_hw1 => k0_hw1.2.2.1.2.2.2.2.2.2.2.2.2.2.2.2.2.2.2.2.2.2.2.2.2.2.2.2.2.2.1
theorem k0_off49_inb : ∀ (v1 : BitVec 32) (v3 : BitVec 32) (k0_hw1 : k0_chk1 v1 v3) (k0_t44 : Fin (k0_t44_loop v1 v3).trips), ∀ a, (k0_off49 v1 v3 k0_t44) a + S1x256x1024.size a ≤ S8x256x1024.size a := fun v1 v3 k0_hw1 k0_t44 => k0_hw1.2.2.1.2.2.2.2.2.2.2.2.2.2.2.2.2.2.2.2.2.2.2.2.2.2.2.2.2.2.2.1 k0_t44
theorem k0_t45_ok : ∀ (v1 : BitVec 32) (v3 : BitVec 32) (k0_hw1 : k0_chk1 v1 v3), (k0_t45_loop v1 v3).OK := fun v1 v3 k0_hw1 => k0_hw1.2.2.1.2.2.2.2.2.2.2.2.2.2.2.2.2.2.2.2.2.2.2.2.2.2.2.2.2.2.2.2.1
theorem k0_off50_inb : ∀ (v1 : BitVec 32) (v3 : BitVec 32) (k0_hw1 : k0_chk1 v1 v3) (k0_t45 : Fin (k0_t45_loop v1 v3).trips), ∀ a, (k0_off50 v1 v3 k0_t45) a + S1x256x1024.size a ≤ S8x256x1024.size a := fun v1 v3 k0_hw1 k0_t45 => k0_hw1.2.2.1.2.2.2.2.2.2.2.2.2.2.2.2.2.2.2.2.2.2.2.2.2.2.2.2.2.2.2.2.2.1 k0_t45
theorem k0_t46_ok : ∀ (v1 : BitVec 32) (v3 : BitVec 32) (k0_hw1 : k0_chk1 v1 v3), (k0_t46_loop v1 v3).OK := fun v1 v3 k0_hw1 => k0_hw1.2.2.1.2.2.2.2.2.2.2.2.2.2.2.2.2.2.2.2.2.2.2.2.2.2.2.2.2.2.2.2.2.2.1
theorem k0_off51_inb : ∀ (v1 : BitVec 32) (v3 : BitVec 32) (k0_hw1 : k0_chk1 v1 v3) (k0_t46 : Fin (k0_t46_loop v1 v3).trips), ∀ a, (k0_off51 v1 v3 k0_t46) a + S1x256x1024.size a ≤ S8x256x1024.size a := fun v1 v3 k0_hw1 k0_t46 => k0_hw1.2.2.1.2.2.2.2.2.2.2.2.2.2.2.2.2.2.2.2.2.2.2.2.2.2.2.2.2.2.2.2.2.2.2 k0_t46
theorem k0_t47_ok : ∀ (v1 : BitVec 32) (v3 : BitVec 32) (k0_hw1 : k0_chk1 v1 v3), (k0_t47_loop v1 v3).OK := fun v1 v3 k0_hw1 => k0_hw1.2.2.2.1
theorem k0_off52_inb : ∀ (v1 : BitVec 32) (v3 : BitVec 32) (k0_hw1 : k0_chk1 v1 v3) (k0_t47 : Fin (k0_t47_loop v1 v3).trips), ∀ a, (k0_off52 v1 v3 k0_t47) a + S1x256x1024.size a ≤ S8x256x1024.size a := fun v1 v3 k0_hw1 k0_t47 => k0_hw1.2.2.2.2.1 k0_t47
theorem k0_t48_ok : ∀ (v1 : BitVec 32) (v3 : BitVec 32) (k0_hw1 : k0_chk1 v1 v3), (k0_t48_loop v1 v3).OK := fun v1 v3 k0_hw1 => k0_hw1.2.2.2.2.2.1
theorem k0_off53_inb : ∀ (v1 : BitVec 32) (v3 : BitVec 32) (k0_hw1 : k0_chk1 v1 v3) (k0_t48 : Fin (k0_t48_loop v1 v3).trips), ∀ a, (k0_off53 v1 v3 k0_t48) a + S1x256x1024.size a ≤ S8x256x1024.size a := fun v1 v3 k0_hw1 k0_t48 => k0_hw1.2.2.2.2.2.2.1 k0_t48
theorem k0_t49_ok : ∀ (v1 : BitVec 32) (v3 : BitVec 32) (k0_hw1 : k0_chk1 v1 v3), (k0_t49_loop v1 v3).OK := fun v1 v3 k0_hw1 => k0_hw1.2.2.2.2.2.2.2.1
theorem k0_off54_inb : ∀ (v1 : BitVec 32) (v3 : BitVec 32) (k0_hw1 : k0_chk1 v1 v3) (k0_t49 : Fin (k0_t49_loop v1 v3).trips), ∀ a, (k0_off54 v1 v3 k0_t49) a + S1x256x1024.size a ≤ S8x256x1024.size a := fun v1 v3 k0_hw1 k0_t49 => k0_hw1.2.2.2.2.2.2.2.2.1 k0_t49
theorem k0_t50_ok : ∀ (v1 : BitVec 32) (v3 : BitVec 32) (k0_hw1 : k0_chk1 v1 v3), (k0_t50_loop v1 v3).OK := fun v1 v3 k0_hw1 => k0_hw1.2.2.2.2.2.2.2.2.2.1
theorem k0_off55_inb : ∀ (v1 : BitVec 32) (v3 : BitVec 32) (k0_hw1 : k0_chk1 v1 v3) (k0_t50 : Fin (k0_t50_loop v1 v3).trips), ∀ a, (k0_off55 v1 v3 k0_t50) a + S1x256x1024.size a ≤ S8x256x1024.size a := fun v1 v3 k0_hw1 k0_t50 => k0_hw1.2.2.2.2.2.2.2.2.2.2.1 k0_t50
theorem k0_t51_ok : ∀ (v1 : BitVec 32) (v3 : BitVec 32) (k0_hw1 : k0_chk1 v1 v3), (k0_t51_loop v1 v3).OK := fun v1 v3 k0_hw1 => k0_hw1.2.2.2.2.2.2.2.2.2.2.2.1
theorem k0_off56_inb : ∀ (v1 : BitVec 32) (v3 : BitVec 32) (k0_hw1 : k0_chk1 v1 v3) (k0_t51 : Fin (k0_t51_loop v1 v3).trips), ∀ a, (k0_off56 v1 v3 k0_t51) a + S1x256x1024.size a ≤ S8x256x1024.size a := fun v1 v3 k0_hw1 k0_t51 => k0_hw1.2.2.2.2.2.2.2.2.2.2.2.2.1 k0_t51
theorem k0_off57_inb : ∀ (v1 : BitVec 32) (v3 : BitVec 32) (k0_hw1 : k0_chk1 v1 v3) (k0_t51 : Fin (k0_t51_loop v1 v3).trips), ∀ a, (k0_off57 v1 v3 k0_t51) a + S1x4x1024.size a ≤ S8x4x1024.size a := fun v1 v3 k0_hw1 k0_t51 => k0_hw1.2.2.2.2.2.2.2.2.2.2.2.2.2.1 k0_t51
theorem k0_t52_ok : ∀ (v1 : BitVec 32) (v3 : BitVec 32) (k0_hw1 : k0_chk1 v1 v3), (k0_t52_loop v1 v3).OK := fun v1 v3 k0_hw1 => k0_hw1.2.2.2.2.2.2.2.2.2.2.2.2.2.2.1
theorem k0_off58_inb : ∀ (v1 : BitVec 32) (v3 : BitVec 32) (k0_hw1 : k0_chk1 v1 v3) (k0_t52 : Fin (k0_t52_loop v1 v3).trips), ∀ a, (k0_off58 v1 v3 k0_t52) a + S1x256x1024.size a ≤ S8x256x1024.size a := fun v1 v3 k0_hw1 k0_t52 => k0_hw1.2.2.2.2.2.2.2.2.2.2.2.2.2.2.2.1 k0_t52
theorem k0_off59_inb : ∀ (v1 : BitVec 32) (v3 : BitVec 32) (k0_hw1 : k0_chk1 v1 v3) (k0_t52 : Fin (k0_t52_loop v1 v3).trips), ∀ a, (k0_off59 v1 v3 k0_t52) a + S1x4x1024.size a ≤ S8x4x1024.size a := fun v1 v3 k0_hw1 k0_t52 => k0_hw1.2.2.2.2.2.2.2.2.2.2.2.2.2.2.2.2 k0_t52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

abbrev pre1 : Pipeline.Prefetch sig := ⟨2, ![main_v66.idx, main_v70.idx], fun | 0 => main_v66.names | 1 => main_v70.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
@[reducible] def k1_t1_loop (v1 : BitVec 32) (v3 : BitVec 32) : Scf.Loop 32 :=
  let v4 : BitVec 32 := Scalar.addi v1 v3
  let v102 : BitVec 32 := Scalar.subi v4 v1
  let c1_i32_36 : BitVec 32 := 1#32
  let v104 : BitVec 32 := Scalar.divsi v102 c1_i32_36
  let v105 : BitVec 32 := Scalar.muli v104 c1_i32_36
  let v106 : BitVec 32 := Scalar.addi v1 v105
  let c1_i32_37 : BitVec 32 := 1#32
  ⟨v1, v106, c1_i32_37⟩

def k1_off2 (v1 : BitVec 32) (v3 : BitVec 32) (k1_t1 : Fin (k1_t1_loop v1 v3).trips) : Fin 3 → Nat :=
  let c1_i32_37 : BitVec 32 := 1#32
  let arg16 : BitVec 32 := Scf.iv v1 c1_i32_37 k1_t1
  let v317 : Index := Scalar.indexCast arg16
  let c0_145 : Index := 0#32
  let c0_146 : Index := 0#32
  ![v317.toNat, 0, 0]
def k1_off3 (v1 : BitVec 32) (v3 : BitVec 32) (k1_t1 : Fin (k1_t1_loop v1 v3).trips) : Fin 3 → Nat :=
  let c1_i32_37 : BitVec 32 := 1#32
  let arg16 : BitVec 32 := Scf.iv v1 c1_i32_37 k1_t1
  let v332 : Index := Scalar.indexCast arg16
  let c0_152 : Index := 0#32
  let c0_153 : Index := 0#32
  ![v332.toNat, 0, 0]
def k1_off4 (v1 : BitVec 32) (v3 : BitVec 32) (k1_t1 : Fin (k1_t1_loop v1 v3).trips) : Fin 3 → Nat :=
  let c1_i32_37 : BitVec 32 := 1#32
  let arg16 : BitVec 32 := Scf.iv v1 c1_i32_37 k1_t1
  let v382 : Index := Scalar.indexCast arg16
  let c0_164 : Index := 0#32
  let c0_165 : Index := 0#32
  ![v382.toNat, 0, 0]
@[reducible] def k1_t2_loop (v1 : BitVec 32) (v3 : BitVec 32) : Scf.Loop 32 :=
  let v4 : BitVec 32 := Scalar.addi v1 v3
  let v102 : BitVec 32 := Scalar.subi v4 v1
  let c1_i32_36 : BitVec 32 := 1#32
  let v104 : BitVec 32 := Scalar.divsi v102 c1_i32_36
  let v105 : BitVec 32 := Scalar.muli v104 c1_i32_36
  let v106 : BitVec 32 := Scalar.addi v1 v105
  let v103 : BitVec 32 := Scalar.addi v1 v102
  let c1_i32_38 : BitVec 32 := 1#32
  ⟨v106, v103, c1_i32_38⟩
def k1_off5 (v1 : BitVec 32) (v3 : BitVec 32) (k1_t2 : Fin (k1_t2_loop v1 v3).trips) : Fin 3 → Nat :=
  let v4 : BitVec 32 := Scalar.addi v1 v3
  let v102 : BitVec 32 := Scalar.subi v4 v1
  let c1_i32_36 : BitVec 32 := 1#32
  let v104 : BitVec 32 := Scalar.divsi v102 c1_i32_36
  let v105 : BitVec 32 := Scalar.muli v104 c1_i32_36
  let v106 : BitVec 32 := Scalar.addi v1 v105
  let c1_i32_38 : BitVec 32 := 1#32
  let arg16 : BitVec 32 := Scf.iv v106 c1_i32_38 k1_t2
  let v317 : Index := Scalar.indexCast arg16
  let c0_145 : Index := 0#32
  let c0_146 : Index := 0#32
  ![v317.toNat, 0, 0]
def k1_off6 (v1 : BitVec 32) (v3 : BitVec 32) (k1_t2 : Fin (k1_t2_loop v1 v3).trips) : Fin 3 → Nat :=
  let v4 : BitVec 32 := Scalar.addi v1 v3
  let v102 : BitVec 32 := Scalar.subi v4 v1
  let c1_i32_36 : BitVec 32 := 1#32
  let v104 : BitVec 32 := Scalar.divsi v102 c1_i32_36
  let v105 : BitVec 32 := Scalar.muli v104 c1_i32_36
  let v106 : BitVec 32 := Scalar.addi v1 v105
  let c1_i32_38 : BitVec 32 := 1#32
  let arg16 : BitVec 32 := Scf.iv v106 c1_i32_38 k1_t2
  let v332 : Index := Scalar.indexCast arg16
  let c0_152 : Index := 0#32
  let c0_153 : Index := 0#32
  ![v332.toNat, 0, 0]
def k1_off7 (v1 : BitVec 32) (v3 : BitVec 32) (k1_t2 : Fin (k1_t2_loop v1 v3).trips) : Fin 3 → Nat :=
  let v4 : BitVec 32 := Scalar.addi v1 v3
  let v102 : BitVec 32 := Scalar.subi v4 v1
  let c1_i32_36 : BitVec 32 := 1#32
  let v104 : BitVec 32 := Scalar.divsi v102 c1_i32_36
  let v105 : BitVec 32 := Scalar.muli v104 c1_i32_36
  let v106 : BitVec 32 := Scalar.addi v1 v105
  let c1_i32_38 : BitVec 32 := 1#32
  let arg16 : BitVec 32 := Scf.iv v106 c1_i32_38 k1_t2
  let v382 : Index := Scalar.indexCast arg16
  let c0_164 : Index := 0#32
  let c0_165 : Index := 0#32
  ![v382.toNat, 0, 0]
@[reducible] def k1_t3_loop (v1 : BitVec 32) (v3 : BitVec 32) : Scf.Loop 32 :=
  let v4 : BitVec 32 := Scalar.addi v1 v3
  let v111 : BitVec 32 := Scalar.subi v4 v1
  let c1_i32_40 : BitVec 32 := 1#32
  let v113 : BitVec 32 := Scalar.divsi v111 c1_i32_40
  let v114 : BitVec 32 := Scalar.muli v113 c1_i32_40
  let v115 : BitVec 32 := Scalar.addi v1 v114
  let c1_i32_41 : BitVec 32 := 1#32
  ⟨v1, v115, c1_i32_41⟩
def k1_off8 (v1 : BitVec 32) (v3 : BitVec 32) (k1_t3 : Fin (k1_t3_loop v1 v3).trips) : Fin 3 → Nat :=
  let c1_i32_41 : BitVec 32 := 1#32
  let arg16 : BitVec 32 := Scf.iv v1 c1_i32_41 k1_t3
  let v317 : Index := Scalar.indexCast arg16
  let c0_145 : Index := 0#32
  let c0_146 : Index := 0#32
  ![v317.toNat, 0, 0]
@[reducible] def k1_t4_loop (v1 : BitVec 32) (v3 : BitVec 32) : Scf.Loop 32 :=
  let v4 : BitVec 32 := Scalar.addi v1 v3
  let v111 : BitVec 32 := Scalar.subi v4 v1
  let c1_i32_40 : BitVec 32 := 1#32
  let v113 : BitVec 32 := Scalar.divsi v111 c1_i32_40
  let v114 : BitVec 32 := Scalar.muli v113 c1_i32_40
  let v115 : BitVec 32 := Scalar.addi v1 v114
  let v112 : BitVec 32 := Scalar.addi v1 v111
  let c1_i32_42 : BitVec 32 := 1#32
  ⟨v115, v112, c1_i32_42⟩
def k1_off9 (v1 : BitVec 32) (v3 : BitVec 32) (k1_t4 : Fin (k1_t4_loop v1 v3).trips) : Fin 3 → Nat :=
  let v4 : BitVec 32 := Scalar.addi v1 v3
  let v111 : BitVec 32 := Scalar.subi v4 v1
  let c1_i32_40 : BitVec 32 := 1#32
  let v113 : BitVec 32 := Scalar.divsi v111 c1_i32_40
  let v114 : BitVec 32 := Scalar.muli v113 c1_i32_40
  let v115 : BitVec 32 := Scalar.addi v1 v114
  let c1_i32_42 : BitVec 32 := 1#32
  let arg16 : BitVec 32 := Scf.iv v115 c1_i32_42 k1_t4
  let v317 : Index := Scalar.indexCast arg16
  let c0_145 : Index := 0#32
  let c0_146 : Index := 0#32
  ![v317.toNat, 0, 0]
@[reducible] def k1_t5_loop (v1 : BitVec 32) (v3 : BitVec 32) : Scf.Loop 32 :=
  let v4 : BitVec 32 := Scalar.addi v1 v3
  let v119 : BitVec 32 := Scalar.subi v4 v1
  let c1_i32_43 : BitVec 32 := 1#32
  let v121 : BitVec 32 := Scalar.divsi v119 c1_i32_43
  let v122 : BitVec 32 := Scalar.muli v121 c1_i32_43
  let v123 : BitVec 32 := Scalar.addi v1 v122
  let c1_i32_44 : BitVec 32 := 1#32
  ⟨v1, v123, c1_i32_44⟩
def k1_off10 (v1 : BitVec 32) (v3 : BitVec 32) (k1_t5 : Fin (k1_t5_loop v1 v3).trips) : Fin 3 → Nat :=
  let c1_i32_44 : BitVec 32 := 1#32
  let arg16 : BitVec 32 := Scf.iv v1 c1_i32_44 k1_t5
  let v320 : Index := Scalar.indexCast arg16
  let c0_145 : Index := 0#32
  let c0_146 : Index := 0#32
  ![v320.toNat, 0, 0]
@[reducible] def k1_t6_loop (v1 : BitVec 32) (v3 : BitVec 32) : Scf.Loop 32 :=
  let v4 : BitVec 32 := Scalar.addi v1 v3
  let v119 : BitVec 32 := Scalar.subi v4 v1
  let c1_i32_43 : BitVec 32 := 1#32
  let v121 : BitVec 32 := Scalar.divsi v119 c1_i32_43
  let v122 : BitVec 32 := Scalar.muli v121 c1_i32_43
  let v123 : BitVec 32 := Scalar.addi v1 v122
  let v120 : BitVec 32 := Scalar.addi v1 v119
  let c1_i32_45 : BitVec 32 := 1#32
  ⟨v123, v120, c1_i32_45⟩
def k1_off11 (v1 : BitVec 32) (v3 : BitVec 32) (k1_t6 : Fin (k1_t6_loop v1 v3).trips) : Fin 3 → Nat :=
  let v4 : BitVec 32 := Scalar.addi v1 v3
  let v119 : BitVec 32 := Scalar.subi v4 v1
  let c1_i32_43 : BitVec 32 := 1#32
  let v121 : BitVec 32 := Scalar.divsi v119 c1_i32_43
  let v122 : BitVec 32 := Scalar.muli v121 c1_i32_43
  let v123 : BitVec 32 := Scalar.addi v1 v122
  let c1_i32_45 : BitVec 32 := 1#32
  let arg16 : BitVec 32 := Scf.iv v123 c1_i32_45 k1_t6
  let v320 : Index := Scalar.indexCast arg16
  let c0_145 : Index := 0#32
  let c0_146 : Index := 0#32
  ![v320.toNat, 0, 0]
@[reducible] def k1_t7_loop (v1 : BitVec 32) (v3 : BitVec 32) : Scf.Loop 32 :=
  let v4 : BitVec 32 := Scalar.addi v1 v3
  let v126 : BitVec 32 := Scalar.subi v4 v1
  let c1_i32_47 : BitVec 32 := 1#32
  let v128 : BitVec 32 := Scalar.divsi v126 c1_i32_47
  let v129 : BitVec 32 := Scalar.muli v128 c1_i32_47
  let v130 : BitVec 32 := Scalar.addi v1 v129
  let c1_i32_48 : BitVec 32 := 1#32
  ⟨v1, v130, c1_i32_48⟩
def k1_off12 (v1 : BitVec 32) (v3 : BitVec 32) (k1_t7 : Fin (k1_t7_loop v1 v3).trips) : Fin 3 → Nat :=
  let c1_i32_48 : BitVec 32 := 1#32
  let arg16 : BitVec 32 := Scf.iv v1 c1_i32_48 k1_t7
  let v322 : Index := Scalar.indexCast arg16
  let c0_145 : Index := 0#32
  let c0_146 : Index := 0#32
  ![v322.toNat, 0, 0]
@[reducible] def k1_t8_loop (v1 : BitVec 32) (v3 : BitVec 32) : Scf.Loop 32 :=
  let v4 : BitVec 32 := Scalar.addi v1 v3
  let v126 : BitVec 32 := Scalar.subi v4 v1
  let c1_i32_47 : BitVec 32 := 1#32
  let v128 : BitVec 32 := Scalar.divsi v126 c1_i32_47
  let v129 : BitVec 32 := Scalar.muli v128 c1_i32_47
  let v130 : BitVec 32 := Scalar.addi v1 v129
  let v127 : BitVec 32 := Scalar.addi v1 v126
  let c1_i32_49 : BitVec 32 := 1#32
  ⟨v130, v127, c1_i32_49⟩
def k1_off13 (v1 : BitVec 32) (v3 : BitVec 32) (k1_t8 : Fin (k1_t8_loop v1 v3).trips) : Fin 3 → Nat :=
  let v4 : BitVec 32 := Scalar.addi v1 v3
  let v126 : BitVec 32 := Scalar.subi v4 v1
  let c1_i32_47 : BitVec 32 := 1#32
  let v128 : BitVec 32 := Scalar.divsi v126 c1_i32_47
  let v129 : BitVec 32 := Scalar.muli v128 c1_i32_47
  let v130 : BitVec 32 := Scalar.addi v1 v129
  let c1_i32_49 : BitVec 32 := 1#32
  let arg16 : BitVec 32 := Scf.iv v130 c1_i32_49 k1_t8
  let v322 : Index := Scalar.indexCast arg16
  let c0_145 : Index := 0#32
  let c0_146 : Index := 0#32
  ![v322.toNat, 0, 0]
@[reducible] def k1_t9_loop (v1 : BitVec 32) (v3 : BitVec 32) : Scf.Loop 32 :=
  let v4 : BitVec 32 := Scalar.addi v1 v3
  let v134 : BitVec 32 := Scalar.subi v4 v1
  let c1_i32_51 : BitVec 32 := 1#32
  let v136 : BitVec 32 := Scalar.divsi v134 c1_i32_51
  let v137 : BitVec 32 := Scalar.muli v136 c1_i32_51
  let v138 : BitVec 32 := Scalar.addi v1 v137
  let c1_i32_52 : BitVec 32 := 1#32
  ⟨v1, v138, c1_i32_52⟩
def k1_off14 (v1 : BitVec 32) (v3 : BitVec 32) (k1_t9 : Fin (k1_t9_loop v1 v3).trips) : Fin 3 → Nat :=
  let c1_i32_52 : BitVec 32 := 1#32
  let arg16 : BitVec 32 := Scf.iv v1 c1_i32_52 k1_t9
  let v317 : Index := Scalar.indexCast arg16
  let c0_145 : Index := 0#32
  let c0_146 : Index := 0#32
  ![v317.toNat, 0, 0]
@[reducible] def k1_t10_loop (v1 : BitVec 32) (v3 : BitVec 32) : Scf.Loop 32 :=
  let v4 : BitVec 32 := Scalar.addi v1 v3
  let v134 : BitVec 32 := Scalar.subi v4 v1
  let c1_i32_51 : BitVec 32 := 1#32
  let v136 : BitVec 32 := Scalar.divsi v134 c1_i32_51
  let v137 : BitVec 32 := Scalar.muli v136 c1_i32_51
  let v138 : BitVec 32 := Scalar.addi v1 v137
  let v135 : BitVec 32 := Scalar.addi v1 v134
  let c1_i32_53 : BitVec 32 := 1#32
  ⟨v138, v135, c1_i32_53⟩
def k1_off15 (v1 : BitVec 32) (v3 : BitVec 32) (k1_t10 : Fin (k1_t10_loop v1 v3).trips) : Fin 3 → Nat :=
  let v4 : BitVec 32 := Scalar.addi v1 v3
  let v134 : BitVec 32 := Scalar.subi v4 v1
  let c1_i32_51 : BitVec 32 := 1#32
  let v136 : BitVec 32 := Scalar.divsi v134 c1_i32_51
  let v137 : BitVec 32 := Scalar.muli v136 c1_i32_51
  let v138 : BitVec 32 := Scalar.addi v1 v137
  let c1_i32_53 : BitVec 32 := 1#32
  let arg16 : BitVec 32 := Scf.iv v138 c1_i32_53 k1_t10
  let v317 : Index := Scalar.indexCast arg16
  let c0_145 : Index := 0#32
  let c0_146 : Index := 0#32
  ![v317.toNat, 0, 0]
@[reducible] def k1_t11_loop (v1 : BitVec 32) (v3 : BitVec 32) : Scf.Loop 32 :=
  let v4 : BitVec 32 := Scalar.addi v1 v3
  let v142 : BitVec 32 := Scalar.subi v4 v1
  let c1_i32_55 : BitVec 32 := 1#32
  let v144 : BitVec 32 := Scalar.divsi v142 c1_i32_55
  let v145 : BitVec 32 := Scalar.muli v144 c1_i32_55
  let v146 : BitVec 32 := Scalar.addi v1 v145
  let c1_i32_56 : BitVec 32 := 1#32
  ⟨v1, v146, c1_i32_56⟩
def k1_off16 (v1 : BitVec 32) (v3 : BitVec 32) (k1_t11 : Fin (k1_t11_loop v1 v3).trips) : Fin 3 → Nat :=
  let c1_i32_56 : BitVec 32 := 1#32
  let arg16 : BitVec 32 := Scf.iv v1 c1_i32_56 k1_t11
  let v320 : Index := Scalar.indexCast arg16
  let c0_145 : Index := 0#32
  let c0_146 : Index := 0#32
  ![v320.toNat, 0, 0]
@[reducible] def k1_t12_loop (v1 : BitVec 32) (v3 : BitVec 32) : Scf.Loop 32 :=
  let v4 : BitVec 32 := Scalar.addi v1 v3
  let v142 : BitVec 32 := Scalar.subi v4 v1
  let c1_i32_55 : BitVec 32 := 1#32
  let v144 : BitVec 32 := Scalar.divsi v142 c1_i32_55
  let v145 : BitVec 32 := Scalar.muli v144 c1_i32_55
  let v146 : BitVec 32 := Scalar.addi v1 v145
  let v143 : BitVec 32 := Scalar.addi v1 v142
  let c1_i32_57 : BitVec 32 := 1#32
  ⟨v146, v143, c1_i32_57⟩
def k1_off17 (v1 : BitVec 32) (v3 : BitVec 32) (k1_t12 : Fin (k1_t12_loop v1 v3).trips) : Fin 3 → Nat :=
  let v4 : BitVec 32 := Scalar.addi v1 v3
  let v142 : BitVec 32 := Scalar.subi v4 v1
  let c1_i32_55 : BitVec 32 := 1#32
  let v144 : BitVec 32 := Scalar.divsi v142 c1_i32_55
  let v145 : BitVec 32 := Scalar.muli v144 c1_i32_55
  let v146 : BitVec 32 := Scalar.addi v1 v145
  let c1_i32_57 : BitVec 32 := 1#32
  let arg16 : BitVec 32 := Scf.iv v146 c1_i32_57 k1_t12
  let v320 : Index := Scalar.indexCast arg16
  let c0_145 : Index := 0#32
  let c0_146 : Index := 0#32
  ![v320.toNat, 0, 0]
@[reducible] def k1_t13_loop (v1 : BitVec 32) (v3 : BitVec 32) : Scf.Loop 32 :=
  let v4 : BitVec 32 := Scalar.addi v1 v3
  let v149 : BitVec 32 := Scalar.subi v4 v1
  let c1_i32_59 : BitVec 32 := 1#32
  let v151 : BitVec 32 := Scalar.divsi v149 c1_i32_59
  let v152 : BitVec 32 := Scalar.muli v151 c1_i32_59
  let v153 : BitVec 32 := Scalar.addi v1 v152
  let c1_i32_60 : BitVec 32 := 1#32
  ⟨v1, v153, c1_i32_60⟩
def k1_off18 (v1 : BitVec 32) (v3 : BitVec 32) (k1_t13 : Fin (k1_t13_loop v1 v3).trips) : Fin 3 → Nat :=
  let c1_i32_60 : BitVec 32 := 1#32
  let arg16 : BitVec 32 := Scf.iv v1 c1_i32_60 k1_t13
  let v322 : Index := Scalar.indexCast arg16
  let c0_145 : Index := 0#32
  let c0_146 : Index := 0#32
  ![v322.toNat, 0, 0]
@[reducible] def k1_t14_loop (v1 : BitVec 32) (v3 : BitVec 32) : Scf.Loop 32 :=
  let v4 : BitVec 32 := Scalar.addi v1 v3
  let v149 : BitVec 32 := Scalar.subi v4 v1
  let c1_i32_59 : BitVec 32 := 1#32
  let v151 : BitVec 32 := Scalar.divsi v149 c1_i32_59
  let v152 : BitVec 32 := Scalar.muli v151 c1_i32_59
  let v153 : BitVec 32 := Scalar.addi v1 v152
  let v150 : BitVec 32 := Scalar.addi v1 v149
  let c1_i32_61 : BitVec 32 := 1#32
  ⟨v153, v150, c1_i32_61⟩
def k1_off19 (v1 : BitVec 32) (v3 : BitVec 32) (k1_t14 : Fin (k1_t14_loop v1 v3).trips) : Fin 3 → Nat :=
  let v4 : BitVec 32 := Scalar.addi v1 v3
  let v149 : BitVec 32 := Scalar.subi v4 v1
  let c1_i32_59 : BitVec 32 := 1#32
  let v151 : BitVec 32 := Scalar.divsi v149 c1_i32_59
  let v152 : BitVec 32 := Scalar.muli v151 c1_i32_59
  let v153 : BitVec 32 := Scalar.addi v1 v152
  let c1_i32_61 : BitVec 32 := 1#32
  let arg16 : BitVec 32 := Scf.iv v153 c1_i32_61 k1_t14
  let v322 : Index := Scalar.indexCast arg16
  let c0_145 : Index := 0#32
  let c0_146 : Index := 0#32
  ![v322.toNat, 0, 0]
@[reducible] def k1_t15_loop (v1 : BitVec 32) (v3 : BitVec 32) : Scf.Loop 32 :=
  let v4 : BitVec 32 := Scalar.addi v1 v3
  let v157 : BitVec 32 := Scalar.subi v4 v1
  let c1_i32_63 : BitVec 32 := 1#32
  let v159 : BitVec 32 := Scalar.divsi v157 c1_i32_63
  let v160 : BitVec 32 := Scalar.muli v159 c1_i32_63
  let v161 : BitVec 32 := Scalar.addi v1 v160
  let c1_i32_64 : BitVec 32 := 1#32
  ⟨v1, v161, c1_i32_64⟩
def k1_off20 (v1 : BitVec 32) (v3 : BitVec 32) (k1_t15 : Fin (k1_t15_loop v1 v3).trips) : Fin 3 → Nat :=
  let c1_i32_64 : BitVec 32 := 1#32
  let arg16 : BitVec 32 := Scf.iv v1 c1_i32_64 k1_t15
  let v317 : Index := Scalar.indexCast arg16
  let c0_145 : Index := 0#32
  let c0_146 : Index := 0#32
  ![v317.toNat, 0, 0]
@[reducible] def k1_t16_loop (v1 : BitVec 32) (v3 : BitVec 32) : Scf.Loop 32 :=
  let v4 : BitVec 32 := Scalar.addi v1 v3
  let v157 : BitVec 32 := Scalar.subi v4 v1
  let c1_i32_63 : BitVec 32 := 1#32
  let v159 : BitVec 32 := Scalar.divsi v157 c1_i32_63
  let v160 : BitVec 32 := Scalar.muli v159 c1_i32_63
  let v161 : BitVec 32 := Scalar.addi v1 v160
  let v158 : BitVec 32 := Scalar.addi v1 v157
  let c1_i32_65 : BitVec 32 := 1#32
  ⟨v161, v158, c1_i32_65⟩
def k1_off21 (v1 : BitVec 32) (v3 : BitVec 32) (k1_t16 : Fin (k1_t16_loop v1 v3).trips) : Fin 3 → Nat :=
  let v4 : BitVec 32 := Scalar.addi v1 v3
  let v157 : BitVec 32 := Scalar.subi v4 v1
  let c1_i32_63 : BitVec 32 := 1#32
  let v159 : BitVec 32 := Scalar.divsi v157 c1_i32_63
  let v160 : BitVec 32 := Scalar.muli v159 c1_i32_63
  let v161 : BitVec 32 := Scalar.addi v1 v160
  let c1_i32_65 : BitVec 32 := 1#32
  let arg16 : BitVec 32 := Scf.iv v161 c1_i32_65 k1_t16
  let v317 : Index := Scalar.indexCast arg16
  let c0_145 : Index := 0#32
  let c0_146 : Index := 0#32
  ![v317.toNat, 0, 0]
@[reducible] def k1_t17_loop (v1 : BitVec 32) (v3 : BitVec 32) : Scf.Loop 32 :=
  let v4 : BitVec 32 := Scalar.addi v1 v3
  let v165 : BitVec 32 := Scalar.subi v4 v1
  let c1_i32_67 : BitVec 32 := 1#32
  let v167 : BitVec 32 := Scalar.divsi v165 c1_i32_67
  let v168 : BitVec 32 := Scalar.muli v167 c1_i32_67
  let v169 : BitVec 32 := Scalar.addi v1 v168
  let c1_i32_68 : BitVec 32 := 1#32
  ⟨v1, v169, c1_i32_68⟩
def k1_off22 (v1 : BitVec 32) (v3 : BitVec 32) (k1_t17 : Fin (k1_t17_loop v1 v3).trips) : Fin 3 → Nat :=
  let c1_i32_68 : BitVec 32 := 1#32
  let arg16 : BitVec 32 := Scf.iv v1 c1_i32_68 k1_t17
  let v320 : Index := Scalar.indexCast arg16
  let c0_145 : Index := 0#32
  let c0_146 : Index := 0#32
  ![v320.toNat, 0, 0]
@[reducible] def k1_t18_loop (v1 : BitVec 32) (v3 : BitVec 32) : Scf.Loop 32 :=
  let v4 : BitVec 32 := Scalar.addi v1 v3
  let v165 : BitVec 32 := Scalar.subi v4 v1
  let c1_i32_67 : BitVec 32 := 1#32
  let v167 : BitVec 32 := Scalar.divsi v165 c1_i32_67
  let v168 : BitVec 32 := Scalar.muli v167 c1_i32_67
  let v169 : BitVec 32 := Scalar.addi v1 v168
  let v166 : BitVec 32 := Scalar.addi v1 v165
  let c1_i32_69 : BitVec 32 := 1#32
  ⟨v169, v166, c1_i32_69⟩
def k1_off23 (v1 : BitVec 32) (v3 : BitVec 32) (k1_t18 : Fin (k1_t18_loop v1 v3).trips) : Fin 3 → Nat :=
  let v4 : BitVec 32 := Scalar.addi v1 v3
  let v165 : BitVec 32 := Scalar.subi v4 v1
  let c1_i32_67 : BitVec 32 := 1#32
  let v167 : BitVec 32 := Scalar.divsi v165 c1_i32_67
  let v168 : BitVec 32 := Scalar.muli v167 c1_i32_67
  let v169 : BitVec 32 := Scalar.addi v1 v168
  let c1_i32_69 : BitVec 32 := 1#32
  let arg16 : BitVec 32 := Scf.iv v169 c1_i32_69 k1_t18
  let v320 : Index := Scalar.indexCast arg16
  let c0_145 : Index := 0#32
  let c0_146 : Index := 0#32
  ![v320.toNat, 0, 0]
@[reducible] def k1_t19_loop (v1 : BitVec 32) (v3 : BitVec 32) : Scf.Loop 32 :=
  let v4 : BitVec 32 := Scalar.addi v1 v3
  let v172 : BitVec 32 := Scalar.subi v4 v1
  let c1_i32_71 : BitVec 32 := 1#32
  let v174 : BitVec 32 := Scalar.divsi v172 c1_i32_71
  let v175 : BitVec 32 := Scalar.muli v174 c1_i32_71
  let v176 : BitVec 32 := Scalar.addi v1 v175
  let c1_i32_72 : BitVec 32 := 1#32
  ⟨v1, v176, c1_i32_72⟩
def k1_off24 (v1 : BitVec 32) (v3 : BitVec 32) (k1_t19 : Fin (k1_t19_loop v1 v3).trips) : Fin 3 → Nat :=
  let c1_i32_72 : BitVec 32 := 1#32
  let arg16 : BitVec 32 := Scf.iv v1 c1_i32_72 k1_t19
  let v322 : Index := Scalar.indexCast arg16
  let c0_145 : Index := 0#32
  let c0_146 : Index := 0#32
  ![v322.toNat, 0, 0]
@[reducible] def k1_t20_loop (v1 : BitVec 32) (v3 : BitVec 32) : Scf.Loop 32 :=
  let v4 : BitVec 32 := Scalar.addi v1 v3
  let v172 : BitVec 32 := Scalar.subi v4 v1
  let c1_i32_71 : BitVec 32 := 1#32
  let v174 : BitVec 32 := Scalar.divsi v172 c1_i32_71
  let v175 : BitVec 32 := Scalar.muli v174 c1_i32_71
  let v176 : BitVec 32 := Scalar.addi v1 v175
  let v173 : BitVec 32 := Scalar.addi v1 v172
  let c1_i32_73 : BitVec 32 := 1#32
  ⟨v176, v173, c1_i32_73⟩
def k1_off25 (v1 : BitVec 32) (v3 : BitVec 32) (k1_t20 : Fin (k1_t20_loop v1 v3).trips) : Fin 3 → Nat :=
  let v4 : BitVec 32 := Scalar.addi v1 v3
  let v172 : BitVec 32 := Scalar.subi v4 v1
  let c1_i32_71 : BitVec 32 := 1#32
  let v174 : BitVec 32 := Scalar.divsi v172 c1_i32_71
  let v175 : BitVec 32 := Scalar.muli v174 c1_i32_71
  let v176 : BitVec 32 := Scalar.addi v1 v175
  let c1_i32_73 : BitVec 32 := 1#32
  let arg16 : BitVec 32 := Scf.iv v176 c1_i32_73 k1_t20
  let v322 : Index := Scalar.indexCast arg16
  let c0_145 : Index := 0#32
  let c0_146 : Index := 0#32
  ![v322.toNat, 0, 0]
@[reducible] def k1_t21_loop (v1 : BitVec 32) (v3 : BitVec 32) : Scf.Loop 32 :=
  let v4 : BitVec 32 := Scalar.addi v1 v3
  let v180 : BitVec 32 := Scalar.subi v4 v1
  let c1_i32_75 : BitVec 32 := 1#32
  let v182 : BitVec 32 := Scalar.divsi v180 c1_i32_75
  let v183 : BitVec 32 := Scalar.muli v182 c1_i32_75
  let v184 : BitVec 32 := Scalar.addi v1 v183
  let c1_i32_76 : BitVec 32 := 1#32
  ⟨v1, v184, c1_i32_76⟩
def k1_off26 (v1 : BitVec 32) (v3 : BitVec 32) (k1_t21 : Fin (k1_t21_loop v1 v3).trips) : Fin 3 → Nat :=
  let c1_i32_76 : BitVec 32 := 1#32
  let arg16 : BitVec 32 := Scf.iv v1 c1_i32_76 k1_t21
  let v317 : Index := Scalar.indexCast arg16
  let c0_145 : Index := 0#32
  let c0_146 : Index := 0#32
  ![v317.toNat, 0, 0]
@[reducible] def k1_t22_loop (v1 : BitVec 32) (v3 : BitVec 32) : Scf.Loop 32 :=
  let v4 : BitVec 32 := Scalar.addi v1 v3
  let v180 : BitVec 32 := Scalar.subi v4 v1
  let c1_i32_75 : BitVec 32 := 1#32
  let v182 : BitVec 32 := Scalar.divsi v180 c1_i32_75
  let v183 : BitVec 32 := Scalar.muli v182 c1_i32_75
  let v184 : BitVec 32 := Scalar.addi v1 v183
  let v181 : BitVec 32 := Scalar.addi v1 v180
  let c1_i32_77 : BitVec 32 := 1#32
  ⟨v184, v181, c1_i32_77⟩
def k1_off27 (v1 : BitVec 32) (v3 : BitVec 32) (k1_t22 : Fin (k1_t22_loop v1 v3).trips) : Fin 3 → Nat :=
  let v4 : BitVec 32 := Scalar.addi v1 v3
  let v180 : BitVec 32 := Scalar.subi v4 v1
  let c1_i32_75 : BitVec 32 := 1#32
  let v182 : BitVec 32 := Scalar.divsi v180 c1_i32_75
  let v183 : BitVec 32 := Scalar.muli v182 c1_i32_75
  let v184 : BitVec 32 := Scalar.addi v1 v183
  let c1_i32_77 : BitVec 32 := 1#32
  let arg16 : BitVec 32 := Scf.iv v184 c1_i32_77 k1_t22
  let v317 : Index := Scalar.indexCast arg16
  let c0_145 : Index := 0#32
  let c0_146 : Index := 0#32
  ![v317.toNat, 0, 0]
@[reducible] def k1_t23_loop (v1 : BitVec 32) (v3 : BitVec 32) : Scf.Loop 32 :=
  let v4 : BitVec 32 := Scalar.addi v1 v3
  let v188 : BitVec 32 := Scalar.subi v4 v1
  let c1_i32_79 : BitVec 32 := 1#32
  let v190 : BitVec 32 := Scalar.divsi v188 c1_i32_79
  let v191 : BitVec 32 := Scalar.muli v190 c1_i32_79
  let v192 : BitVec 32 := Scalar.addi v1 v191
  let c1_i32_80 : BitVec 32 := 1#32
  ⟨v1, v192, c1_i32_80⟩
def k1_off28 (v1 : BitVec 32) (v3 : BitVec 32) (k1_t23 : Fin (k1_t23_loop v1 v3).trips) : Fin 3 → Nat :=
  let c1_i32_80 : BitVec 32 := 1#32
  let arg16 : BitVec 32 := Scf.iv v1 c1_i32_80 k1_t23
  let v320 : Index := Scalar.indexCast arg16
  let c0_145 : Index := 0#32
  let c0_146 : Index := 0#32
  ![v320.toNat, 0, 0]
@[reducible] def k1_t24_loop (v1 : BitVec 32) (v3 : BitVec 32) : Scf.Loop 32 :=
  let v4 : BitVec 32 := Scalar.addi v1 v3
  let v188 : BitVec 32 := Scalar.subi v4 v1
  let c1_i32_79 : BitVec 32 := 1#32
  let v190 : BitVec 32 := Scalar.divsi v188 c1_i32_79
  let v191 : BitVec 32 := Scalar.muli v190 c1_i32_79
  let v192 : BitVec 32 := Scalar.addi v1 v191
  let v189 : BitVec 32 := Scalar.addi v1 v188
  let c1_i32_81 : BitVec 32 := 1#32
  ⟨v192, v189, c1_i32_81⟩
def k1_off29 (v1 : BitVec 32) (v3 : BitVec 32) (k1_t24 : Fin (k1_t24_loop v1 v3).trips) : Fin 3 → Nat :=
  let v4 : BitVec 32 := Scalar.addi v1 v3
  let v188 : BitVec 32 := Scalar.subi v4 v1
  let c1_i32_79 : BitVec 32 := 1#32
  let v190 : BitVec 32 := Scalar.divsi v188 c1_i32_79
  let v191 : BitVec 32 := Scalar.muli v190 c1_i32_79
  let v192 : BitVec 32 := Scalar.addi v1 v191
  let c1_i32_81 : BitVec 32 := 1#32
  let arg16 : BitVec 32 := Scf.iv v192 c1_i32_81 k1_t24
  let v320 : Index := Scalar.indexCast arg16
  let c0_145 : Index := 0#32
  let c0_146 : Index := 0#32
  ![v320.toNat, 0, 0]
@[reducible] def k1_t25_loop (v1 : BitVec 32) (v3 : BitVec 32) : Scf.Loop 32 :=
  let v4 : BitVec 32 := Scalar.addi v1 v3
  let v195 : BitVec 32 := Scalar.subi v4 v1
  let c1_i32_83 : BitVec 32 := 1#32
  let v197 : BitVec 32 := Scalar.divsi v195 c1_i32_83
  let v198 : BitVec 32 := Scalar.muli v197 c1_i32_83
  let v199 : BitVec 32 := Scalar.addi v1 v198
  let c1_i32_84 : BitVec 32 := 1#32
  ⟨v1, v199, c1_i32_84⟩
def k1_off30 (v1 : BitVec 32) (v3 : BitVec 32) (k1_t25 : Fin (k1_t25_loop v1 v3).trips) : Fin 3 → Nat :=
  let c1_i32_84 : BitVec 32 := 1#32
  let arg16 : BitVec 32 := Scf.iv v1 c1_i32_84 k1_t25
  let v322 : Index := Scalar.indexCast arg16
  let c0_145 : Index := 0#32
  let c0_146 : Index := 0#32
  ![v322.toNat, 0, 0]
@[reducible] def k1_t26_loop (v1 : BitVec 32) (v3 : BitVec 32) : Scf.Loop 32 :=
  let v4 : BitVec 32 := Scalar.addi v1 v3
  let v195 : BitVec 32 := Scalar.subi v4 v1
  let c1_i32_83 : BitVec 32 := 1#32
  let v197 : BitVec 32 := Scalar.divsi v195 c1_i32_83
  let v198 : BitVec 32 := Scalar.muli v197 c1_i32_83
  let v199 : BitVec 32 := Scalar.addi v1 v198
  let v196 : BitVec 32 := Scalar.addi v1 v195
  let c1_i32_85 : BitVec 32 := 1#32
  ⟨v199, v196, c1_i32_85⟩
def k1_off31 (v1 : BitVec 32) (v3 : BitVec 32) (k1_t26 : Fin (k1_t26_loop v1 v3).trips) : Fin 3 → Nat :=
  let v4 : BitVec 32 := Scalar.addi v1 v3
  let v195 : BitVec 32 := Scalar.subi v4 v1
  let c1_i32_83 : BitVec 32 := 1#32
  let v197 : BitVec 32 := Scalar.divsi v195 c1_i32_83
  let v198 : BitVec 32 := Scalar.muli v197 c1_i32_83
  let v199 : BitVec 32 := Scalar.addi v1 v198
  let c1_i32_85 : BitVec 32 := 1#32
  let arg16 : BitVec 32 := Scf.iv v199 c1_i32_85 k1_t26
  let v322 : Index := Scalar.indexCast arg16
  let c0_145 : Index := 0#32
  let c0_146 : Index := 0#32
  ![v322.toNat, 0, 0]
@[reducible] def k1_t27_loop (v1 : BitVec 32) (v3 : BitVec 32) : Scf.Loop 32 :=
  let v4 : BitVec 32 := Scalar.addi v1 v3
  let v203 : BitVec 32 := Scalar.subi v4 v1
  let c1_i32_87 : BitVec 32 := 1#32
  let v205 : BitVec 32 := Scalar.divsi v203 c1_i32_87
  let v206 : BitVec 32 := Scalar.muli v205 c1_i32_87
  let v207 : BitVec 32 := Scalar.addi v1 v206
  let c1_i32_88 : BitVec 32 := 1#32
  ⟨v1, v207, c1_i32_88⟩
def k1_off32 (v1 : BitVec 32) (v3 : BitVec 32) (k1_t27 : Fin (k1_t27_loop v1 v3).trips) : Fin 3 → Nat :=
  let c1_i32_88 : BitVec 32 := 1#32
  let arg16 : BitVec 32 := Scf.iv v1 c1_i32_88 k1_t27
  let v317 : Index := Scalar.indexCast arg16
  let c0_145 : Index := 0#32
  let c0_146 : Index := 0#32
  ![v317.toNat, 0, 0]
@[reducible] def k1_t28_loop (v1 : BitVec 32) (v3 : BitVec 32) : Scf.Loop 32 :=
  let v4 : BitVec 32 := Scalar.addi v1 v3
  let v203 : BitVec 32 := Scalar.subi v4 v1
  let c1_i32_87 : BitVec 32 := 1#32
  let v205 : BitVec 32 := Scalar.divsi v203 c1_i32_87
  let v206 : BitVec 32 := Scalar.muli v205 c1_i32_87
  let v207 : BitVec 32 := Scalar.addi v1 v206
  let v204 : BitVec 32 := Scalar.addi v1 v203
  let c1_i32_89 : BitVec 32 := 1#32
  ⟨v207, v204, c1_i32_89⟩
def k1_off33 (v1 : BitVec 32) (v3 : BitVec 32) (k1_t28 : Fin (k1_t28_loop v1 v3).trips) : Fin 3 → Nat :=
  let v4 : BitVec 32 := Scalar.addi v1 v3
  let v203 : BitVec 32 := Scalar.subi v4 v1
  let c1_i32_87 : BitVec 32 := 1#32
  let v205 : BitVec 32 := Scalar.divsi v203 c1_i32_87
  let v206 : BitVec 32 := Scalar.muli v205 c1_i32_87
  let v207 : BitVec 32 := Scalar.addi v1 v206
  let c1_i32_89 : BitVec 32 := 1#32
  let arg16 : BitVec 32 := Scf.iv v207 c1_i32_89 k1_t28
  let v317 : Index := Scalar.indexCast arg16
  let c0_145 : Index := 0#32
  let c0_146 : Index := 0#32
  ![v317.toNat, 0, 0]
@[reducible] def k1_t29_loop (v1 : BitVec 32) (v3 : BitVec 32) : Scf.Loop 32 :=
  let v4 : BitVec 32 := Scalar.addi v1 v3
  let v211 : BitVec 32 := Scalar.subi v4 v1
  let c1_i32_91 : BitVec 32 := 1#32
  let v213 : BitVec 32 := Scalar.divsi v211 c1_i32_91
  let v214 : BitVec 32 := Scalar.muli v213 c1_i32_91
  let v215 : BitVec 32 := Scalar.addi v1 v214
  let c1_i32_92 : BitVec 32 := 1#32
  ⟨v1, v215, c1_i32_92⟩
def k1_off34 (v1 : BitVec 32) (v3 : BitVec 32) (k1_t29 : Fin (k1_t29_loop v1 v3).trips) : Fin 3 → Nat :=
  let c1_i32_92 : BitVec 32 := 1#32
  let arg16 : BitVec 32 := Scf.iv v1 c1_i32_92 k1_t29
  let v320 : Index := Scalar.indexCast arg16
  let c0_145 : Index := 0#32
  let c0_146 : Index := 0#32
  ![v320.toNat, 0, 0]
@[reducible] def k1_t30_loop (v1 : BitVec 32) (v3 : BitVec 32) : Scf.Loop 32 :=
  let v4 : BitVec 32 := Scalar.addi v1 v3
  let v211 : BitVec 32 := Scalar.subi v4 v1
  let c1_i32_91 : BitVec 32 := 1#32
  let v213 : BitVec 32 := Scalar.divsi v211 c1_i32_91
  let v214 : BitVec 32 := Scalar.muli v213 c1_i32_91
  let v215 : BitVec 32 := Scalar.addi v1 v214
  let v212 : BitVec 32 := Scalar.addi v1 v211
  let c1_i32_93 : BitVec 32 := 1#32
  ⟨v215, v212, c1_i32_93⟩
def k1_off35 (v1 : BitVec 32) (v3 : BitVec 32) (k1_t30 : Fin (k1_t30_loop v1 v3).trips) : Fin 3 → Nat :=
  let v4 : BitVec 32 := Scalar.addi v1 v3
  let v211 : BitVec 32 := Scalar.subi v4 v1
  let c1_i32_91 : BitVec 32 := 1#32
  let v213 : BitVec 32 := Scalar.divsi v211 c1_i32_91
  let v214 : BitVec 32 := Scalar.muli v213 c1_i32_91
  let v215 : BitVec 32 := Scalar.addi v1 v214
  let c1_i32_93 : BitVec 32 := 1#32
  let arg16 : BitVec 32 := Scf.iv v215 c1_i32_93 k1_t30
  let v320 : Index := Scalar.indexCast arg16
  let c0_145 : Index := 0#32
  let c0_146 : Index := 0#32
  ![v320.toNat, 0, 0]
@[reducible] def k1_t31_loop (v1 : BitVec 32) (v3 : BitVec 32) : Scf.Loop 32 :=
  let v4 : BitVec 32 := Scalar.addi v1 v3
  let v218 : BitVec 32 := Scalar.subi v4 v1
  let c1_i32_95 : BitVec 32 := 1#32
  let v220 : BitVec 32 := Scalar.divsi v218 c1_i32_95
  let v221 : BitVec 32 := Scalar.muli v220 c1_i32_95
  let v222 : BitVec 32 := Scalar.addi v1 v221
  let c1_i32_96 : BitVec 32 := 1#32
  ⟨v1, v222, c1_i32_96⟩
def k1_off36 (v1 : BitVec 32) (v3 : BitVec 32) (k1_t31 : Fin (k1_t31_loop v1 v3).trips) : Fin 3 → Nat :=
  let c1_i32_96 : BitVec 32 := 1#32
  let arg16 : BitVec 32 := Scf.iv v1 c1_i32_96 k1_t31
  let v322 : Index := Scalar.indexCast arg16
  let c0_145 : Index := 0#32
  let c0_146 : Index := 0#32
  ![v322.toNat, 0, 0]
@[reducible] def k1_t32_loop (v1 : BitVec 32) (v3 : BitVec 32) : Scf.Loop 32 :=
  let v4 : BitVec 32 := Scalar.addi v1 v3
  let v218 : BitVec 32 := Scalar.subi v4 v1
  let c1_i32_95 : BitVec 32 := 1#32
  let v220 : BitVec 32 := Scalar.divsi v218 c1_i32_95
  let v221 : BitVec 32 := Scalar.muli v220 c1_i32_95
  let v222 : BitVec 32 := Scalar.addi v1 v221
  let v219 : BitVec 32 := Scalar.addi v1 v218
  let c1_i32_97 : BitVec 32 := 1#32
  ⟨v222, v219, c1_i32_97⟩
def k1_off37 (v1 : BitVec 32) (v3 : BitVec 32) (k1_t32 : Fin (k1_t32_loop v1 v3).trips) : Fin 3 → Nat :=
  let v4 : BitVec 32 := Scalar.addi v1 v3
  let v218 : BitVec 32 := Scalar.subi v4 v1
  let c1_i32_95 : BitVec 32 := 1#32
  let v220 : BitVec 32 := Scalar.divsi v218 c1_i32_95
  let v221 : BitVec 32 := Scalar.muli v220 c1_i32_95
  let v222 : BitVec 32 := Scalar.addi v1 v221
  let c1_i32_97 : BitVec 32 := 1#32
  let arg16 : BitVec 32 := Scf.iv v222 c1_i32_97 k1_t32
  let v322 : Index := Scalar.indexCast arg16
  let c0_145 : Index := 0#32
  let c0_146 : Index := 0#32
  ![v322.toNat, 0, 0]
@[reducible] def k1_t33_loop (v1 : BitVec 32) (v3 : BitVec 32) : Scf.Loop 32 :=
  let v4 : BitVec 32 := Scalar.addi v1 v3
  let v226 : BitVec 32 := Scalar.subi v4 v1
  let c1_i32_99 : BitVec 32 := 1#32
  let v228 : BitVec 32 := Scalar.divsi v226 c1_i32_99
  let v229 : BitVec 32 := Scalar.muli v228 c1_i32_99
  let v230 : BitVec 32 := Scalar.addi v1 v229
  let c1_i32_100 : BitVec 32 := 1#32
  ⟨v1, v230, c1_i32_100⟩
def k1_off38 (v1 : BitVec 32) (v3 : BitVec 32) (k1_t33 : Fin (k1_t33_loop v1 v3).trips) : Fin 3 → Nat :=
  let c1_i32_100 : BitVec 32 := 1#32
  let arg16 : BitVec 32 := Scf.iv v1 c1_i32_100 k1_t33
  let v317 : Index := Scalar.indexCast arg16
  let c0_145 : Index := 0#32
  let c0_146 : Index := 0#32
  ![v317.toNat, 0, 0]
@[reducible] def k1_t34_loop (v1 : BitVec 32) (v3 : BitVec 32) : Scf.Loop 32 :=
  let v4 : BitVec 32 := Scalar.addi v1 v3
  let v226 : BitVec 32 := Scalar.subi v4 v1
  let c1_i32_99 : BitVec 32 := 1#32
  let v228 : BitVec 32 := Scalar.divsi v226 c1_i32_99
  let v229 : BitVec 32 := Scalar.muli v228 c1_i32_99
  let v230 : BitVec 32 := Scalar.addi v1 v229
  let v227 : BitVec 32 := Scalar.addi v1 v226
  let c1_i32_101 : BitVec 32 := 1#32
  ⟨v230, v227, c1_i32_101⟩
def k1_off39 (v1 : BitVec 32) (v3 : BitVec 32) (k1_t34 : Fin (k1_t34_loop v1 v3).trips) : Fin 3 → Nat :=
  let v4 : BitVec 32 := Scalar.addi v1 v3
  let v226 : BitVec 32 := Scalar.subi v4 v1
  let c1_i32_99 : BitVec 32 := 1#32
  let v228 : BitVec 32 := Scalar.divsi v226 c1_i32_99
  let v229 : BitVec 32 := Scalar.muli v228 c1_i32_99
  let v230 : BitVec 32 := Scalar.addi v1 v229
  let c1_i32_101 : BitVec 32 := 1#32
  let arg16 : BitVec 32 := Scf.iv v230 c1_i32_101 k1_t34
  let v317 : Index := Scalar.indexCast arg16
  let c0_145 : Index := 0#32
  let c0_146 : Index := 0#32
  ![v317.toNat, 0, 0]
@[reducible] def k1_t35_loop (v1 : BitVec 32) (v3 : BitVec 32) : Scf.Loop 32 :=
  let v4 : BitVec 32 := Scalar.addi v1 v3
  let v234 : BitVec 32 := Scalar.subi v4 v1
  let c1_i32_103 : BitVec 32 := 1#32
  let v236 : BitVec 32 := Scalar.divsi v234 c1_i32_103
  let v237 : BitVec 32 := Scalar.muli v236 c1_i32_103
  let v238 : BitVec 32 := Scalar.addi v1 v237
  let c1_i32_104 : BitVec 32 := 1#32
  ⟨v1, v238, c1_i32_104⟩
def k1_off40 (v1 : BitVec 32) (v3 : BitVec 32) (k1_t35 : Fin (k1_t35_loop v1 v3).trips) : Fin 3 → Nat :=
  let c1_i32_104 : BitVec 32 := 1#32
  let arg16 : BitVec 32 := Scf.iv v1 c1_i32_104 k1_t35
  let v320 : Index := Scalar.indexCast arg16
  let c0_145 : Index := 0#32
  let c0_146 : Index := 0#32
  ![v320.toNat, 0, 0]
@[reducible] def k1_t36_loop (v1 : BitVec 32) (v3 : BitVec 32) : Scf.Loop 32 :=
  let v4 : BitVec 32 := Scalar.addi v1 v3
  let v234 : BitVec 32 := Scalar.subi v4 v1
  let c1_i32_103 : BitVec 32 := 1#32
  let v236 : BitVec 32 := Scalar.divsi v234 c1_i32_103
  let v237 : BitVec 32 := Scalar.muli v236 c1_i32_103
  let v238 : BitVec 32 := Scalar.addi v1 v237
  let v235 : BitVec 32 := Scalar.addi v1 v234
  let c1_i32_105 : BitVec 32 := 1#32
  ⟨v238, v235, c1_i32_105⟩
def k1_off41 (v1 : BitVec 32) (v3 : BitVec 32) (k1_t36 : Fin (k1_t36_loop v1 v3).trips) : Fin 3 → Nat :=
  let v4 : BitVec 32 := Scalar.addi v1 v3
  let v234 : BitVec 32 := Scalar.subi v4 v1
  let c1_i32_103 : BitVec 32 := 1#32
  let v236 : BitVec 32 := Scalar.divsi v234 c1_i32_103
  let v237 : BitVec 32 := Scalar.muli v236 c1_i32_103
  let v238 : BitVec 32 := Scalar.addi v1 v237
  let c1_i32_105 : BitVec 32 := 1#32
  let arg16 : BitVec 32 := Scf.iv v238 c1_i32_105 k1_t36
  let v320 : Index := Scalar.indexCast arg16
  let c0_145 : Index := 0#32
  let c0_146 : Index := 0#32
  ![v320.toNat, 0, 0]
@[reducible] def k1_t37_loop (v1 : BitVec 32) (v3 : BitVec 32) : Scf.Loop 32 :=
  let v4 : BitVec 32 := Scalar.addi v1 v3
  let v241 : BitVec 32 := Scalar.subi v4 v1
  let c1_i32_107 : BitVec 32 := 1#32
  let v243 : BitVec 32 := Scalar.divsi v241 c1_i32_107
  let v244 : BitVec 32 := Scalar.muli v243 c1_i32_107
  let v245 : BitVec 32 := Scalar.addi v1 v244
  let c1_i32_108 : BitVec 32 := 1#32
  ⟨v1, v245, c1_i32_108⟩
def k1_off42 (v1 : BitVec 32) (v3 : BitVec 32) (k1_t37 : Fin (k1_t37_loop v1 v3).trips) : Fin 3 → Nat :=
  let c1_i32_108 : BitVec 32 := 1#32
  let arg16 : BitVec 32 := Scf.iv v1 c1_i32_108 k1_t37
  let v322 : Index := Scalar.indexCast arg16
  let c0_145 : Index := 0#32
  let c0_146 : Index := 0#32
  ![v322.toNat, 0, 0]
@[reducible] def k1_t38_loop (v1 : BitVec 32) (v3 : BitVec 32) : Scf.Loop 32 :=
  let v4 : BitVec 32 := Scalar.addi v1 v3
  let v241 : BitVec 32 := Scalar.subi v4 v1
  let c1_i32_107 : BitVec 32 := 1#32
  let v243 : BitVec 32 := Scalar.divsi v241 c1_i32_107
  let v244 : BitVec 32 := Scalar.muli v243 c1_i32_107
  let v245 : BitVec 32 := Scalar.addi v1 v244
  let v242 : BitVec 32 := Scalar.addi v1 v241
  let c1_i32_109 : BitVec 32 := 1#32
  ⟨v245, v242, c1_i32_109⟩
def k1_off43 (v1 : BitVec 32) (v3 : BitVec 32) (k1_t38 : Fin (k1_t38_loop v1 v3).trips) : Fin 3 → Nat :=
  let v4 : BitVec 32 := Scalar.addi v1 v3
  let v241 : BitVec 32 := Scalar.subi v4 v1
  let c1_i32_107 : BitVec 32 := 1#32
  let v243 : BitVec 32 := Scalar.divsi v241 c1_i32_107
  let v244 : BitVec 32 := Scalar.muli v243 c1_i32_107
  let v245 : BitVec 32 := Scalar.addi v1 v244
  let c1_i32_109 : BitVec 32 := 1#32
  let arg16 : BitVec 32 := Scf.iv v245 c1_i32_109 k1_t38
  let v322 : Index := Scalar.indexCast arg16
  let c0_145 : Index := 0#32
  let c0_146 : Index := 0#32
  ![v322.toNat, 0, 0]
@[reducible] def k1_t39_loop (v1 : BitVec 32) (v3 : BitVec 32) : Scf.Loop 32 :=
  let v4 : BitVec 32 := Scalar.addi v1 v3
  let v249 : BitVec 32 := Scalar.subi v4 v1
  let c1_i32_111 : BitVec 32 := 1#32
  let v251 : BitVec 32 := Scalar.divsi v249 c1_i32_111
  let v252 : BitVec 32 := Scalar.muli v251 c1_i32_111
  let v253 : BitVec 32 := Scalar.addi v1 v252
  let c1_i32_112 : BitVec 32 := 1#32
  ⟨v1, v253, c1_i32_112⟩
def k1_off44 (v1 : BitVec 32) (v3 : BitVec 32) (k1_t39 : Fin (k1_t39_loop v1 v3).trips) : Fin 3 → Nat :=
  let c1_i32_112 : BitVec 32 := 1#32
  let arg16 : BitVec 32 := Scf.iv v1 c1_i32_112 k1_t39
  let v317 : Index := Scalar.indexCast arg16
  let c0_145 : Index := 0#32
  let c0_146 : Index := 0#32
  ![v317.toNat, 0, 0]
@[reducible] def k1_t40_loop (v1 : BitVec 32) (v3 : BitVec 32) : Scf.Loop 32 :=
  let v4 : BitVec 32 := Scalar.addi v1 v3
  let v249 : BitVec 32 := Scalar.subi v4 v1
  let c1_i32_111 : BitVec 32 := 1#32
  let v251 : BitVec 32 := Scalar.divsi v249 c1_i32_111
  let v252 : BitVec 32 := Scalar.muli v251 c1_i32_111
  let v253 : BitVec 32 := Scalar.addi v1 v252
  let v250 : BitVec 32 := Scalar.addi v1 v249
  let c1_i32_113 : BitVec 32 := 1#32
  ⟨v253, v250, c1_i32_113⟩
def k1_off45 (v1 : BitVec 32) (v3 : BitVec 32) (k1_t40 : Fin (k1_t40_loop v1 v3).trips) : Fin 3 → Nat :=
  let v4 : BitVec 32 := Scalar.addi v1 v3
  let v249 : BitVec 32 := Scalar.subi v4 v1
  let c1_i32_111 : BitVec 32 := 1#32
  let v251 : BitVec 32 := Scalar.divsi v249 c1_i32_111
  let v252 : BitVec 32 := Scalar.muli v251 c1_i32_111
  let v253 : BitVec 32 := Scalar.addi v1 v252
  let c1_i32_113 : BitVec 32 := 1#32
  let arg16 : BitVec 32 := Scf.iv v253 c1_i32_113 k1_t40
  let v317 : Index := Scalar.indexCast arg16
  let c0_145 : Index := 0#32
  let c0_146 : Index := 0#32
  ![v317.toNat, 0, 0]
@[reducible] def k1_t41_loop (v1 : BitVec 32) (v3 : BitVec 32) : Scf.Loop 32 :=
  let v4 : BitVec 32 := Scalar.addi v1 v3
  let v257 : BitVec 32 := Scalar.subi v4 v1
  let c1_i32_115 : BitVec 32 := 1#32
  let v259 : BitVec 32 := Scalar.divsi v257 c1_i32_115
  let v260 : BitVec 32 := Scalar.muli v259 c1_i32_115
  let v261 : BitVec 32 := Scalar.addi v1 v260
  let c1_i32_116 : BitVec 32 := 1#32
  ⟨v1, v261, c1_i32_116⟩
def k1_off46 (v1 : BitVec 32) (v3 : BitVec 32) (k1_t41 : Fin (k1_t41_loop v1 v3).trips) : Fin 3 → Nat :=
  let c1_i32_116 : BitVec 32 := 1#32
  let arg16 : BitVec 32 := Scf.iv v1 c1_i32_116 k1_t41
  let v320 : Index := Scalar.indexCast arg16
  let c0_145 : Index := 0#32
  let c0_146 : Index := 0#32
  ![v320.toNat, 0, 0]
@[reducible] def k1_t42_loop (v1 : BitVec 32) (v3 : BitVec 32) : Scf.Loop 32 :=
  let v4 : BitVec 32 := Scalar.addi v1 v3
  let v257 : BitVec 32 := Scalar.subi v4 v1
  let c1_i32_115 : BitVec 32 := 1#32
  let v259 : BitVec 32 := Scalar.divsi v257 c1_i32_115
  let v260 : BitVec 32 := Scalar.muli v259 c1_i32_115
  let v261 : BitVec 32 := Scalar.addi v1 v260
  let v258 : BitVec 32 := Scalar.addi v1 v257
  let c1_i32_117 : BitVec 32 := 1#32
  ⟨v261, v258, c1_i32_117⟩
def k1_off47 (v1 : BitVec 32) (v3 : BitVec 32) (k1_t42 : Fin (k1_t42_loop v1 v3).trips) : Fin 3 → Nat :=
  let v4 : BitVec 32 := Scalar.addi v1 v3
  let v257 : BitVec 32 := Scalar.subi v4 v1
  let c1_i32_115 : BitVec 32 := 1#32
  let v259 : BitVec 32 := Scalar.divsi v257 c1_i32_115
  let v260 : BitVec 32 := Scalar.muli v259 c1_i32_115
  let v261 : BitVec 32 := Scalar.addi v1 v260
  let c1_i32_117 : BitVec 32 := 1#32
  let arg16 : BitVec 32 := Scf.iv v261 c1_i32_117 k1_t42
  let v320 : Index := Scalar.indexCast arg16
  let c0_145 : Index := 0#32
  let c0_146 : Index := 0#32
  ![v320.toNat, 0, 0]
@[reducible] def k1_t43_loop (v1 : BitVec 32) (v3 : BitVec 32) : Scf.Loop 32 :=
  let v4 : BitVec 32 := Scalar.addi v1 v3
  let v264 : BitVec 32 := Scalar.subi v4 v1
  let c1_i32_119 : BitVec 32 := 1#32
  let v266 : BitVec 32 := Scalar.divsi v264 c1_i32_119
  let v267 : BitVec 32 := Scalar.muli v266 c1_i32_119
  let v268 : BitVec 32 := Scalar.addi v1 v267
  let c1_i32_120 : BitVec 32 := 1#32
  ⟨v1, v268, c1_i32_120⟩
def k1_off48 (v1 : BitVec 32) (v3 : BitVec 32) (k1_t43 : Fin (k1_t43_loop v1 v3).trips) : Fin 3 → Nat :=
  let c1_i32_120 : BitVec 32 := 1#32
  let arg16 : BitVec 32 := Scf.iv v1 c1_i32_120 k1_t43
  let v322 : Index := Scalar.indexCast arg16
  let c0_145 : Index := 0#32
  let c0_146 : Index := 0#32
  ![v322.toNat, 0, 0]
@[reducible] def k1_t44_loop (v1 : BitVec 32) (v3 : BitVec 32) : Scf.Loop 32 :=
  let v4 : BitVec 32 := Scalar.addi v1 v3
  let v264 : BitVec 32 := Scalar.subi v4 v1
  let c1_i32_119 : BitVec 32 := 1#32
  let v266 : BitVec 32 := Scalar.divsi v264 c1_i32_119
  let v267 : BitVec 32 := Scalar.muli v266 c1_i32_119
  let v268 : BitVec 32 := Scalar.addi v1 v267
  let v265 : BitVec 32 := Scalar.addi v1 v264
  let c1_i32_121 : BitVec 32 := 1#32
  ⟨v268, v265, c1_i32_121⟩
def k1_off49 (v1 : BitVec 32) (v3 : BitVec 32) (k1_t44 : Fin (k1_t44_loop v1 v3).trips) : Fin 3 → Nat :=
  let v4 : BitVec 32 := Scalar.addi v1 v3
  let v264 : BitVec 32 := Scalar.subi v4 v1
  let c1_i32_119 : BitVec 32 := 1#32
  let v266 : BitVec 32 := Scalar.divsi v264 c1_i32_119
  let v267 : BitVec 32 := Scalar.muli v266 c1_i32_119
  let v268 : BitVec 32 := Scalar.addi v1 v267
  let c1_i32_121 : BitVec 32 := 1#32
  let arg16 : BitVec 32 := Scf.iv v268 c1_i32_121 k1_t44
  let v322 : Index := Scalar.indexCast arg16
  let c0_145 : Index := 0#32
  let c0_146 : Index := 0#32
  ![v322.toNat, 0, 0]
@[reducible] def k1_t45_loop (v1 : BitVec 32) (v3 : BitVec 32) : Scf.Loop 32 :=
  let v4 : BitVec 32 := Scalar.addi v1 v3
  let v272 : BitVec 32 := Scalar.subi v4 v1
  let c1_i32_123 : BitVec 32 := 1#32
  let v274 : BitVec 32 := Scalar.divsi v272 c1_i32_123
  let v275 : BitVec 32 := Scalar.muli v274 c1_i32_123
  let v276 : BitVec 32 := Scalar.addi v1 v275
  let c1_i32_124 : BitVec 32 := 1#32
  ⟨v1, v276, c1_i32_124⟩
def k1_off50 (v1 : BitVec 32) (v3 : BitVec 32) (k1_t45 : Fin (k1_t45_loop v1 v3).trips) : Fin 3 → Nat :=
  let c1_i32_124 : BitVec 32 := 1#32
  let arg16 : BitVec 32 := Scf.iv v1 c1_i32_124 k1_t45
  let v317 : Index := Scalar.indexCast arg16
  let c0_145 : Index := 0#32
  let c0_146 : Index := 0#32
  ![v317.toNat, 0, 0]
@[reducible] def k1_t46_loop (v1 : BitVec 32) (v3 : BitVec 32) : Scf.Loop 32 :=
  let v4 : BitVec 32 := Scalar.addi v1 v3
  let v272 : BitVec 32 := Scalar.subi v4 v1
  let c1_i32_123 : BitVec 32 := 1#32
  let v274 : BitVec 32 := Scalar.divsi v272 c1_i32_123
  let v275 : BitVec 32 := Scalar.muli v274 c1_i32_123
  let v276 : BitVec 32 := Scalar.addi v1 v275
  let v273 : BitVec 32 := Scalar.addi v1 v272
  let c1_i32_125 : BitVec 32 := 1#32
  ⟨v276, v273, c1_i32_125⟩
def k1_off51 (v1 : BitVec 32) (v3 : BitVec 32) (k1_t46 : Fin (k1_t46_loop v1 v3).trips) : Fin 3 → Nat :=
  let v4 : BitVec 32 := Scalar.addi v1 v3
  let v272 : BitVec 32 := Scalar.subi v4 v1
  let c1_i32_123 : BitVec 32 := 1#32
  let v274 : BitVec 32 := Scalar.divsi v272 c1_i32_123
  let v275 : BitVec 32 := Scalar.muli v274 c1_i32_123
  let v276 : BitVec 32 := Scalar.addi v1 v275
  let c1_i32_125 : BitVec 32 := 1#32
  let arg16 : BitVec 32 := Scf.iv v276 c1_i32_125 k1_t46
  let v317 : Index := Scalar.indexCast arg16
  let c0_145 : Index := 0#32
  let c0_146 : Index := 0#32
  ![v317.toNat, 0, 0]
@[reducible] def k1_t47_loop (v1 : BitVec 32) (v3 : BitVec 32) : Scf.Loop 32 :=
  let v4 : BitVec 32 := Scalar.addi v1 v3
  let v280 : BitVec 32 := Scalar.subi v4 v1
  let c1_i32_127 : BitVec 32 := 1#32
  let v282 : BitVec 32 := Scalar.divsi v280 c1_i32_127
  let v283 : BitVec 32 := Scalar.muli v282 c1_i32_127
  let v284 : BitVec 32 := Scalar.addi v1 v283
  let c1_i32_128 : BitVec 32 := 1#32
  ⟨v1, v284, c1_i32_128⟩
def k1_off52 (v1 : BitVec 32) (v3 : BitVec 32) (k1_t47 : Fin (k1_t47_loop v1 v3).trips) : Fin 3 → Nat :=
  let c1_i32_128 : BitVec 32 := 1#32
  let arg16 : BitVec 32 := Scf.iv v1 c1_i32_128 k1_t47
  let v320 : Index := Scalar.indexCast arg16
  let c0_145 : Index := 0#32
  let c0_146 : Index := 0#32
  ![v320.toNat, 0, 0]
@[reducible] def k1_t48_loop (v1 : BitVec 32) (v3 : BitVec 32) : Scf.Loop 32 :=
  let v4 : BitVec 32 := Scalar.addi v1 v3
  let v280 : BitVec 32 := Scalar.subi v4 v1
  let c1_i32_127 : BitVec 32 := 1#32
  let v282 : BitVec 32 := Scalar.divsi v280 c1_i32_127
  let v283 : BitVec 32 := Scalar.muli v282 c1_i32_127
  let v284 : BitVec 32 := Scalar.addi v1 v283
  let v281 : BitVec 32 := Scalar.addi v1 v280
  let c1_i32_129 : BitVec 32 := 1#32
  ⟨v284, v281, c1_i32_129⟩
def k1_off53 (v1 : BitVec 32) (v3 : BitVec 32) (k1_t48 : Fin (k1_t48_loop v1 v3).trips) : Fin 3 → Nat :=
  let v4 : BitVec 32 := Scalar.addi v1 v3
  let v280 : BitVec 32 := Scalar.subi v4 v1
  let c1_i32_127 : BitVec 32 := 1#32
  let v282 : BitVec 32 := Scalar.divsi v280 c1_i32_127
  let v283 : BitVec 32 := Scalar.muli v282 c1_i32_127
  let v284 : BitVec 32 := Scalar.addi v1 v283
  let c1_i32_129 : BitVec 32 := 1#32
  let arg16 : BitVec 32 := Scf.iv v284 c1_i32_129 k1_t48
  let v320 : Index := Scalar.indexCast arg16
  let c0_145 : Index := 0#32
  let c0_146 : Index := 0#32
  ![v320.toNat, 0, 0]
@[reducible] def k1_t49_loop (v1 : BitVec 32) (v3 : BitVec 32) : Scf.Loop 32 :=
  let v4 : BitVec 32 := Scalar.addi v1 v3
  let v287 : BitVec 32 := Scalar.subi v4 v1
  let c1_i32_131 : BitVec 32 := 1#32
  let v289 : BitVec 32 := Scalar.divsi v287 c1_i32_131
  let v290 : BitVec 32 := Scalar.muli v289 c1_i32_131
  let v291 : BitVec 32 := Scalar.addi v1 v290
  let c1_i32_132 : BitVec 32 := 1#32
  ⟨v1, v291, c1_i32_132⟩
def k1_off54 (v1 : BitVec 32) (v3 : BitVec 32) (k1_t49 : Fin (k1_t49_loop v1 v3).trips) : Fin 3 → Nat :=
  let c1_i32_132 : BitVec 32 := 1#32
  let arg16 : BitVec 32 := Scf.iv v1 c1_i32_132 k1_t49
  let v322 : Index := Scalar.indexCast arg16
  let c0_145 : Index := 0#32
  let c0_146 : Index := 0#32
  ![v322.toNat, 0, 0]
@[reducible] def k1_t50_loop (v1 : BitVec 32) (v3 : BitVec 32) : Scf.Loop 32 :=
  let v4 : BitVec 32 := Scalar.addi v1 v3
  let v287 : BitVec 32 := Scalar.subi v4 v1
  let c1_i32_131 : BitVec 32 := 1#32
  let v289 : BitVec 32 := Scalar.divsi v287 c1_i32_131
  let v290 : BitVec 32 := Scalar.muli v289 c1_i32_131
  let v291 : BitVec 32 := Scalar.addi v1 v290
  let v288 : BitVec 32 := Scalar.addi v1 v287
  let c1_i32_133 : BitVec 32 := 1#32
  ⟨v291, v288, c1_i32_133⟩
def k1_off55 (v1 : BitVec 32) (v3 : BitVec 32) (k1_t50 : Fin (k1_t50_loop v1 v3).trips) : Fin 3 → Nat :=
  let v4 : BitVec 32 := Scalar.addi v1 v3
  let v287 : BitVec 32 := Scalar.subi v4 v1
  let c1_i32_131 : BitVec 32 := 1#32
  let v289 : BitVec 32 := Scalar.divsi v287 c1_i32_131
  let v290 : BitVec 32 := Scalar.muli v289 c1_i32_131
  let v291 : BitVec 32 := Scalar.addi v1 v290
  let c1_i32_133 : BitVec 32 := 1#32
  let arg16 : BitVec 32 := Scf.iv v291 c1_i32_133 k1_t50
  let v322 : Index := Scalar.indexCast arg16
  let c0_145 : Index := 0#32
  let c0_146 : Index := 0#32
  ![v322.toNat, 0, 0]
@[reducible] def k1_t51_loop (v1 : BitVec 32) (v3 : BitVec 32) : Scf.Loop 32 :=
  let v4 : BitVec 32 := Scalar.addi v1 v3
  let v295 : BitVec 32 := Scalar.subi v4 v1
  let c1_i32_135 : BitVec 32 := 1#32
  let v297 : BitVec 32 := Scalar.divsi v295 c1_i32_135
  let v298 : BitVec 32 := Scalar.muli v297 c1_i32_135
  let v299 : BitVec 32 := Scalar.addi v1 v298
  let c1_i32_136 : BitVec 32 := 1#32
  ⟨v1, v299, c1_i32_136⟩
def k1_off56 (v1 : BitVec 32) (v3 : BitVec 32) (k1_t51 : Fin (k1_t51_loop v1 v3).trips) : Fin 3 → Nat :=
  let c1_i32_136 : BitVec 32 := 1#32
  let arg16 : BitVec 32 := Scf.iv v1 c1_i32_136 k1_t51
  let v317 : Index := Scalar.indexCast arg16
  let c0_145 : Index := 0#32
  let c0_146 : Index := 0#32
  ![v317.toNat, 0, 0]
def k1_off57 (v1 : BitVec 32) (v3 : BitVec 32) (k1_t51 : Fin (k1_t51_loop v1 v3).trips) : Fin 3 → Nat :=
  let c1_i32_136 : BitVec 32 := 1#32
  let arg16 : BitVec 32 := Scf.iv v1 c1_i32_136 k1_t51
  let v327 : Index := Scalar.indexCast arg16
  let c0_151 : Index := 0#32
  let c0_152 : Index := 0#32
  ![v327.toNat, 0, 0]
@[reducible] def k1_t52_loop (v1 : BitVec 32) (v3 : BitVec 32) : Scf.Loop 32 :=
  let v4 : BitVec 32 := Scalar.addi v1 v3
  let v295 : BitVec 32 := Scalar.subi v4 v1
  let c1_i32_135 : BitVec 32 := 1#32
  let v297 : BitVec 32 := Scalar.divsi v295 c1_i32_135
  let v298 : BitVec 32 := Scalar.muli v297 c1_i32_135
  let v299 : BitVec 32 := Scalar.addi v1 v298
  let v296 : BitVec 32 := Scalar.addi v1 v295
  let c1_i32_137 : BitVec 32 := 1#32
  ⟨v299, v296, c1_i32_137⟩
def k1_off58 (v1 : BitVec 32) (v3 : BitVec 32) (k1_t52 : Fin (k1_t52_loop v1 v3).trips) : Fin 3 → Nat :=
  let v4 : BitVec 32 := Scalar.addi v1 v3
  let v295 : BitVec 32 := Scalar.subi v4 v1
  let c1_i32_135 : BitVec 32 := 1#32
  let v297 : BitVec 32 := Scalar.divsi v295 c1_i32_135
  let v298 : BitVec 32 := Scalar.muli v297 c1_i32_135
  let v299 : BitVec 32 := Scalar.addi v1 v298
  let c1_i32_137 : BitVec 32 := 1#32
  let arg16 : BitVec 32 := Scf.iv v299 c1_i32_137 k1_t52
  let v317 : Index := Scalar.indexCast arg16
  let c0_145 : Index := 0#32
  let c0_146 : Index := 0#32
  ![v317.toNat, 0, 0]
def k1_off59 (v1 : BitVec 32) (v3 : BitVec 32) (k1_t52 : Fin (k1_t52_loop v1 v3).trips) : Fin 3 → Nat :=
  let v4 : BitVec 32 := Scalar.addi v1 v3
  let v295 : BitVec 32 := Scalar.subi v4 v1
  let c1_i32_135 : BitVec 32 := 1#32
  let v297 : BitVec 32 := Scalar.divsi v295 c1_i32_135
  let v298 : BitVec 32 := Scalar.muli v297 c1_i32_135
  let v299 : BitVec 32 := Scalar.addi v1 v298
  let c1_i32_137 : BitVec 32 := 1#32
  let arg16 : BitVec 32 := Scf.iv v299 c1_i32_137 k1_t52
  let v327 : Index := Scalar.indexCast arg16
  let c0_151 : Index := 0#32
  let c0_152 : Index := 0#32
  ![v327.toNat, 0, 0]

def k1_chk1_0 (v1 : BitVec 32) (v3 : BitVec 32) : Prop :=
  ((k1_t1_loop v1 v3).OK) ∧
  (∀ k1_t1 : Fin (k1_t1_loop v1 v3).trips, ∀ a, (k1_off2 v1 v3 k1_t1) a + S1x1024x64.size a ≤ S4x1024x64.size a) ∧
  (∀ k1_t1 : Fin (k1_t1_loop v1 v3).trips, ∀ a, (k1_off3 v1 v3 k1_t1) a + S1x1x1024.size a ≤ S4x1x1024.size a) ∧
  (∀ k1_t1 : Fin (k1_t1_loop v1 v3).trips, ∀ a, (k1_off4 v1 v3 k1_t1) a + S1x256x1024.size a ≤ S4x256x1024.size a) ∧
  ((k1_t2_loop v1 v3).OK) ∧
  (∀ k1_t2 : Fin (k1_t2_loop v1 v3).trips, ∀ a, (k1_off5 v1 v3 k1_t2) a + S1x1024x64.size a ≤ S4x1024x64.size a) ∧
  (∀ k1_t2 : Fin (k1_t2_loop v1 v3).trips, ∀ a, (k1_off6 v1 v3 k1_t2) a + S1x1x1024.size a ≤ S4x1x1024.size a) ∧
  (∀ k1_t2 : Fin (k1_t2_loop v1 v3).trips, ∀ a, (k1_off7 v1 v3 k1_t2) a + S1x256x1024.size a ≤ S4x256x1024.size a) ∧
  ((k1_t3_loop v1 v3).OK) ∧
  (∀ k1_t3 : Fin (k1_t3_loop v1 v3).trips, ∀ a, (k1_off8 v1 v3 k1_t3) a + S1x256x1024.size a ≤ S4x256x1024.size a) ∧
  ((k1_t4_loop v1 v3).OK) ∧
  (∀ k1_t4 : Fin (k1_t4_loop v1 v3).trips, ∀ a, (k1_off9 v1 v3 k1_t4) a + S1x256x1024.size a ≤ S4x256x1024.size a) ∧
  ((k1_t5_loop v1 v3).OK) ∧
  (∀ k1_t5 : Fin (k1_t5_loop v1 v3).trips, ∀ a, (k1_off10 v1 v3 k1_t5) a + S1x256x1024.size a ≤ S4x256x1024.size a) ∧
  ((k1_t6_loop v1 v3).OK) ∧
  (∀ k1_t6 : Fin (k1_t6_loop v1 v3).trips, ∀ a, (k1_off11 v1 v3 k1_t6) a + S1x256x1024.size a ≤ S4x256x1024.size a) ∧
  ((k1_t7_loop v1 v3).OK) ∧
  (∀ k1_t7 : Fin (k1_t7_loop v1 v3).trips, ∀ a, (k1_off12 v1 v3 k1_t7) a + S1x256x1024.size a ≤ S4x256x1024.size a) ∧
  ((k1_t8_loop v1 v3).OK) ∧
  (∀ k1_t8 : Fin (k1_t8_loop v1 v3).trips, ∀ a, (k1_off13 v1 v3 k1_t8) a + S1x256x1024.size a ≤ S4x256x1024.size a) ∧
  ((k1_t9_loop v1 v3).OK) ∧
  (∀ k1_t9 : Fin (k1_t9_loop v1 v3).trips, ∀ a, (k1_off14 v1 v3 k1_t9) a + S1x256x1024.size a ≤ S4x256x1024.size a) ∧
  ((k1_t10_loop v1 v3).OK) ∧
  (∀ k1_t10 : Fin (k1_t10_loop v1 v3).trips, ∀ a, (k1_off15 v1 v3 k1_t10) a + S1x256x1024.size a ≤ S4x256x1024.size a) ∧
  ((k1_t11_loop v1 v3).OK) ∧
  (∀ k1_t11 : Fin (k1_t11_loop v1 v3).trips, ∀ a, (k1_off16 v1 v3 k1_t11) a + S1x256x1024.size a ≤ S4x256x1024.size a) ∧
  ((k1_t12_loop v1 v3).OK) ∧
  (∀ k1_t12 : Fin (k1_t12_loop v1 v3).trips, ∀ a, (k1_off17 v1 v3 k1_t12) a + S1x256x1024.size a ≤ S4x256x1024.size a) ∧
  ((k1_t13_loop v1 v3).OK) ∧
  (∀ k1_t13 : Fin (k1_t13_loop v1 v3).trips, ∀ a, (k1_off18 v1 v3 k1_t13) a + S1x256x1024.size a ≤ S4x256x1024.size a) ∧
  ((k1_t14_loop v1 v3).OK) ∧
  (∀ k1_t14 : Fin (k1_t14_loop v1 v3).trips, ∀ a, (k1_off19 v1 v3 k1_t14) a + S1x256x1024.size a ≤ S4x256x1024.size a)
def k1_chk1_1 (v1 : BitVec 32) (v3 : BitVec 32) : Prop :=
  ((k1_t15_loop v1 v3).OK) ∧
  (∀ k1_t15 : Fin (k1_t15_loop v1 v3).trips, ∀ a, (k1_off20 v1 v3 k1_t15) a + S1x256x1024.size a ≤ S4x256x1024.size a) ∧
  ((k1_t16_loop v1 v3).OK) ∧
  (∀ k1_t16 : Fin (k1_t16_loop v1 v3).trips, ∀ a, (k1_off21 v1 v3 k1_t16) a + S1x256x1024.size a ≤ S4x256x1024.size a) ∧
  ((k1_t17_loop v1 v3).OK) ∧
  (∀ k1_t17 : Fin (k1_t17_loop v1 v3).trips, ∀ a, (k1_off22 v1 v3 k1_t17) a + S1x256x1024.size a ≤ S4x256x1024.size a) ∧
  ((k1_t18_loop v1 v3).OK) ∧
  (∀ k1_t18 : Fin (k1_t18_loop v1 v3).trips, ∀ a, (k1_off23 v1 v3 k1_t18) a + S1x256x1024.size a ≤ S4x256x1024.size a) ∧
  ((k1_t19_loop v1 v3).OK) ∧
  (∀ k1_t19 : Fin (k1_t19_loop v1 v3).trips, ∀ a, (k1_off24 v1 v3 k1_t19) a + S1x256x1024.size a ≤ S4x256x1024.size a) ∧
  ((k1_t20_loop v1 v3).OK) ∧
  (∀ k1_t20 : Fin (k1_t20_loop v1 v3).trips, ∀ a, (k1_off25 v1 v3 k1_t20) a + S1x256x1024.size a ≤ S4x256x1024.size a) ∧
  ((k1_t21_loop v1 v3).OK) ∧
  (∀ k1_t21 : Fin (k1_t21_loop v1 v3).trips, ∀ a, (k1_off26 v1 v3 k1_t21) a + S1x256x1024.size a ≤ S4x256x1024.size a) ∧
  ((k1_t22_loop v1 v3).OK) ∧
  (∀ k1_t22 : Fin (k1_t22_loop v1 v3).trips, ∀ a, (k1_off27 v1 v3 k1_t22) a + S1x256x1024.size a ≤ S4x256x1024.size a) ∧
  ((k1_t23_loop v1 v3).OK) ∧
  (∀ k1_t23 : Fin (k1_t23_loop v1 v3).trips, ∀ a, (k1_off28 v1 v3 k1_t23) a + S1x256x1024.size a ≤ S4x256x1024.size a) ∧
  ((k1_t24_loop v1 v3).OK) ∧
  (∀ k1_t24 : Fin (k1_t24_loop v1 v3).trips, ∀ a, (k1_off29 v1 v3 k1_t24) a + S1x256x1024.size a ≤ S4x256x1024.size a) ∧
  ((k1_t25_loop v1 v3).OK) ∧
  (∀ k1_t25 : Fin (k1_t25_loop v1 v3).trips, ∀ a, (k1_off30 v1 v3 k1_t25) a + S1x256x1024.size a ≤ S4x256x1024.size a) ∧
  ((k1_t26_loop v1 v3).OK) ∧
  (∀ k1_t26 : Fin (k1_t26_loop v1 v3).trips, ∀ a, (k1_off31 v1 v3 k1_t26) a + S1x256x1024.size a ≤ S4x256x1024.size a) ∧
  ((k1_t27_loop v1 v3).OK) ∧
  (∀ k1_t27 : Fin (k1_t27_loop v1 v3).trips, ∀ a, (k1_off32 v1 v3 k1_t27) a + S1x256x1024.size a ≤ S4x256x1024.size a) ∧
  ((k1_t28_loop v1 v3).OK) ∧
  (∀ k1_t28 : Fin (k1_t28_loop v1 v3).trips, ∀ a, (k1_off33 v1 v3 k1_t28) a + S1x256x1024.size a ≤ S4x256x1024.size a) ∧
  ((k1_t29_loop v1 v3).OK) ∧
  (∀ k1_t29 : Fin (k1_t29_loop v1 v3).trips, ∀ a, (k1_off34 v1 v3 k1_t29) a + S1x256x1024.size a ≤ S4x256x1024.size a) ∧
  ((k1_t30_loop v1 v3).OK) ∧
  (∀ k1_t30 : Fin (k1_t30_loop v1 v3).trips, ∀ a, (k1_off35 v1 v3 k1_t30) a + S1x256x1024.size a ≤ S4x256x1024.size a)
def k1_chk1_2 (v1 : BitVec 32) (v3 : BitVec 32) : Prop :=
  ((k1_t31_loop v1 v3).OK) ∧
  (∀ k1_t31 : Fin (k1_t31_loop v1 v3).trips, ∀ a, (k1_off36 v1 v3 k1_t31) a + S1x256x1024.size a ≤ S4x256x1024.size a) ∧
  ((k1_t32_loop v1 v3).OK) ∧
  (∀ k1_t32 : Fin (k1_t32_loop v1 v3).trips, ∀ a, (k1_off37 v1 v3 k1_t32) a + S1x256x1024.size a ≤ S4x256x1024.size a) ∧
  ((k1_t33_loop v1 v3).OK) ∧
  (∀ k1_t33 : Fin (k1_t33_loop v1 v3).trips, ∀ a, (k1_off38 v1 v3 k1_t33) a + S1x256x1024.size a ≤ S4x256x1024.size a) ∧
  ((k1_t34_loop v1 v3).OK) ∧
  (∀ k1_t34 : Fin (k1_t34_loop v1 v3).trips, ∀ a, (k1_off39 v1 v3 k1_t34) a + S1x256x1024.size a ≤ S4x256x1024.size a) ∧
  ((k1_t35_loop v1 v3).OK) ∧
  (∀ k1_t35 : Fin (k1_t35_loop v1 v3).trips, ∀ a, (k1_off40 v1 v3 k1_t35) a + S1x256x1024.size a ≤ S4x256x1024.size a) ∧
  ((k1_t36_loop v1 v3).OK) ∧
  (∀ k1_t36 : Fin (k1_t36_loop v1 v3).trips, ∀ a, (k1_off41 v1 v3 k1_t36) a + S1x256x1024.size a ≤ S4x256x1024.size a) ∧
  ((k1_t37_loop v1 v3).OK) ∧
  (∀ k1_t37 : Fin (k1_t37_loop v1 v3).trips, ∀ a, (k1_off42 v1 v3 k1_t37) a + S1x256x1024.size a ≤ S4x256x1024.size a) ∧
  ((k1_t38_loop v1 v3).OK) ∧
  (∀ k1_t38 : Fin (k1_t38_loop v1 v3).trips, ∀ a, (k1_off43 v1 v3 k1_t38) a + S1x256x1024.size a ≤ S4x256x1024.size a) ∧
  ((k1_t39_loop v1 v3).OK) ∧
  (∀ k1_t39 : Fin (k1_t39_loop v1 v3).trips, ∀ a, (k1_off44 v1 v3 k1_t39) a + S1x256x1024.size a ≤ S4x256x1024.size a) ∧
  ((k1_t40_loop v1 v3).OK) ∧
  (∀ k1_t40 : Fin (k1_t40_loop v1 v3).trips, ∀ a, (k1_off45 v1 v3 k1_t40) a + S1x256x1024.size a ≤ S4x256x1024.size a) ∧
  ((k1_t41_loop v1 v3).OK) ∧
  (∀ k1_t41 : Fin (k1_t41_loop v1 v3).trips, ∀ a, (k1_off46 v1 v3 k1_t41) a + S1x256x1024.size a ≤ S4x256x1024.size a) ∧
  ((k1_t42_loop v1 v3).OK) ∧
  (∀ k1_t42 : Fin (k1_t42_loop v1 v3).trips, ∀ a, (k1_off47 v1 v3 k1_t42) a + S1x256x1024.size a ≤ S4x256x1024.size a) ∧
  ((k1_t43_loop v1 v3).OK) ∧
  (∀ k1_t43 : Fin (k1_t43_loop v1 v3).trips, ∀ a, (k1_off48 v1 v3 k1_t43) a + S1x256x1024.size a ≤ S4x256x1024.size a) ∧
  ((k1_t44_loop v1 v3).OK) ∧
  (∀ k1_t44 : Fin (k1_t44_loop v1 v3).trips, ∀ a, (k1_off49 v1 v3 k1_t44) a + S1x256x1024.size a ≤ S4x256x1024.size a) ∧
  ((k1_t45_loop v1 v3).OK) ∧
  (∀ k1_t45 : Fin (k1_t45_loop v1 v3).trips, ∀ a, (k1_off50 v1 v3 k1_t45) a + S1x256x1024.size a ≤ S4x256x1024.size a) ∧
  ((k1_t46_loop v1 v3).OK) ∧
  (∀ k1_t46 : Fin (k1_t46_loop v1 v3).trips, ∀ a, (k1_off51 v1 v3 k1_t46) a + S1x256x1024.size a ≤ S4x256x1024.size a)
def k1_chk1_3 (v1 : BitVec 32) (v3 : BitVec 32) : Prop :=
  ((k1_t47_loop v1 v3).OK) ∧
  (∀ k1_t47 : Fin (k1_t47_loop v1 v3).trips, ∀ a, (k1_off52 v1 v3 k1_t47) a + S1x256x1024.size a ≤ S4x256x1024.size a) ∧
  ((k1_t48_loop v1 v3).OK) ∧
  (∀ k1_t48 : Fin (k1_t48_loop v1 v3).trips, ∀ a, (k1_off53 v1 v3 k1_t48) a + S1x256x1024.size a ≤ S4x256x1024.size a) ∧
  ((k1_t49_loop v1 v3).OK) ∧
  (∀ k1_t49 : Fin (k1_t49_loop v1 v3).trips, ∀ a, (k1_off54 v1 v3 k1_t49) a + S1x256x1024.size a ≤ S4x256x1024.size a) ∧
  ((k1_t50_loop v1 v3).OK) ∧
  (∀ k1_t50 : Fin (k1_t50_loop v1 v3).trips, ∀ a, (k1_off55 v1 v3 k1_t50) a + S1x256x1024.size a ≤ S4x256x1024.size a) ∧
  ((k1_t51_loop v1 v3).OK) ∧
  (∀ k1_t51 : Fin (k1_t51_loop v1 v3).trips, ∀ a, (k1_off56 v1 v3 k1_t51) a + S1x256x1024.size a ≤ S4x256x1024.size a) ∧
  (∀ k1_t51 : Fin (k1_t51_loop v1 v3).trips, ∀ a, (k1_off57 v1 v3 k1_t51) a + S1x4x1024.size a ≤ S4x4x1024.size a) ∧
  ((k1_t52_loop v1 v3).OK) ∧
  (∀ k1_t52 : Fin (k1_t52_loop v1 v3).trips, ∀ a, (k1_off58 v1 v3 k1_t52) a + S1x256x1024.size a ≤ S4x256x1024.size a) ∧
  (∀ k1_t52 : Fin (k1_t52_loop v1 v3).trips, ∀ a, (k1_off59 v1 v3 k1_t52) a + S1x4x1024.size a ≤ S4x4x1024.size a)
def k1_chk1 (v1 : BitVec 32) (v3 : BitVec 32) : Prop :=
  k1_chk1_0 v1 v3 ∧
  k1_chk1_1 v1 v3 ∧
  k1_chk1_2 v1 v3 ∧
  k1_chk1_3 v1 v3
theorem k1_t1_ok : ∀ (v1 : BitVec 32) (v3 : BitVec 32) (k1_hw1 : k1_chk1 v1 v3), (k1_t1_loop v1 v3).OK := fun v1 v3 k1_hw1 => k1_hw1.1.1
theorem k1_off2_inb : ∀ (v1 : BitVec 32) (v3 : BitVec 32) (k1_hw1 : k1_chk1 v1 v3) (k1_t1 : Fin (k1_t1_loop v1 v3).trips), ∀ a, (k1_off2 v1 v3 k1_t1) a + S1x1024x64.size a ≤ S4x1024x64.size a := fun v1 v3 k1_hw1 k1_t1 => k1_hw1.1.2.1 k1_t1
theorem k1_off3_inb : ∀ (v1 : BitVec 32) (v3 : BitVec 32) (k1_hw1 : k1_chk1 v1 v3) (k1_t1 : Fin (k1_t1_loop v1 v3).trips), ∀ a, (k1_off3 v1 v3 k1_t1) a + S1x1x1024.size a ≤ S4x1x1024.size a := fun v1 v3 k1_hw1 k1_t1 => k1_hw1.1.2.2.1 k1_t1
theorem k1_off4_inb : ∀ (v1 : BitVec 32) (v3 : BitVec 32) (k1_hw1 : k1_chk1 v1 v3) (k1_t1 : Fin (k1_t1_loop v1 v3).trips), ∀ a, (k1_off4 v1 v3 k1_t1) a + S1x256x1024.size a ≤ S4x256x1024.size a := fun v1 v3 k1_hw1 k1_t1 => k1_hw1.1.2.2.2.1 k1_t1
theorem k1_t2_ok : ∀ (v1 : BitVec 32) (v3 : BitVec 32) (k1_hw1 : k1_chk1 v1 v3), (k1_t2_loop v1 v3).OK := fun v1 v3 k1_hw1 => k1_hw1.1.2.2.2.2.1
theorem k1_off5_inb : ∀ (v1 : BitVec 32) (v3 : BitVec 32) (k1_hw1 : k1_chk1 v1 v3) (k1_t2 : Fin (k1_t2_loop v1 v3).trips), ∀ a, (k1_off5 v1 v3 k1_t2) a + S1x1024x64.size a ≤ S4x1024x64.size a := fun v1 v3 k1_hw1 k1_t2 => k1_hw1.1.2.2.2.2.2.1 k1_t2
theorem k1_off6_inb : ∀ (v1 : BitVec 32) (v3 : BitVec 32) (k1_hw1 : k1_chk1 v1 v3) (k1_t2 : Fin (k1_t2_loop v1 v3).trips), ∀ a, (k1_off6 v1 v3 k1_t2) a + S1x1x1024.size a ≤ S4x1x1024.size a := fun v1 v3 k1_hw1 k1_t2 => k1_hw1.1.2.2.2.2.2.2.1 k1_t2
theorem k1_off7_inb : ∀ (v1 : BitVec 32) (v3 : BitVec 32) (k1_hw1 : k1_chk1 v1 v3) (k1_t2 : Fin (k1_t2_loop v1 v3).trips), ∀ a, (k1_off7 v1 v3 k1_t2) a + S1x256x1024.size a ≤ S4x256x1024.size a := fun v1 v3 k1_hw1 k1_t2 => k1_hw1.1.2.2.2.2.2.2.2.1 k1_t2
theorem k1_t3_ok : ∀ (v1 : BitVec 32) (v3 : BitVec 32) (k1_hw1 : k1_chk1 v1 v3), (k1_t3_loop v1 v3).OK := fun v1 v3 k1_hw1 => k1_hw1.1.2.2.2.2.2.2.2.2.1
theorem k1_off8_inb : ∀ (v1 : BitVec 32) (v3 : BitVec 32) (k1_hw1 : k1_chk1 v1 v3) (k1_t3 : Fin (k1_t3_loop v1 v3).trips), ∀ a, (k1_off8 v1 v3 k1_t3) a + S1x256x1024.size a ≤ S4x256x1024.size a := fun v1 v3 k1_hw1 k1_t3 => k1_hw1.1.2.2.2.2.2.2.2.2.2.1 k1_t3
theorem k1_t4_ok : ∀ (v1 : BitVec 32) (v3 : BitVec 32) (k1_hw1 : k1_chk1 v1 v3), (k1_t4_loop v1 v3).OK := fun v1 v3 k1_hw1 => k1_hw1.1.2.2.2.2.2.2.2.2.2.2.1
theorem k1_off9_inb : ∀ (v1 : BitVec 32) (v3 : BitVec 32) (k1_hw1 : k1_chk1 v1 v3) (k1_t4 : Fin (k1_t4_loop v1 v3).trips), ∀ a, (k1_off9 v1 v3 k1_t4) a + S1x256x1024.size a ≤ S4x256x1024.size a := fun v1 v3 k1_hw1 k1_t4 => k1_hw1.1.2.2.2.2.2.2.2.2.2.2.2.1 k1_t4
theorem k1_t5_ok : ∀ (v1 : BitVec 32) (v3 : BitVec 32) (k1_hw1 : k1_chk1 v1 v3), (k1_t5_loop v1 v3).OK := fun v1 v3 k1_hw1 => k1_hw1.1.2.2.2.2.2.2.2.2.2.2.2.2.1
theorem k1_off10_inb : ∀ (v1 : BitVec 32) (v3 : BitVec 32) (k1_hw1 : k1_chk1 v1 v3) (k1_t5 : Fin (k1_t5_loop v1 v3).trips), ∀ a, (k1_off10 v1 v3 k1_t5) a + S1x256x1024.size a ≤ S4x256x1024.size a := fun v1 v3 k1_hw1 k1_t5 => k1_hw1.1.2.2.2.2.2.2.2.2.2.2.2.2.2.1 k1_t5
theorem k1_t6_ok : ∀ (v1 : BitVec 32) (v3 : BitVec 32) (k1_hw1 : k1_chk1 v1 v3), (k1_t6_loop v1 v3).OK := fun v1 v3 k1_hw1 => k1_hw1.1.2.2.2.2.2.2.2.2.2.2.2.2.2.2.1
theorem k1_off11_inb : ∀ (v1 : BitVec 32) (v3 : BitVec 32) (k1_hw1 : k1_chk1 v1 v3) (k1_t6 : Fin (k1_t6_loop v1 v3).trips), ∀ a, (k1_off11 v1 v3 k1_t6) a + S1x256x1024.size a ≤ S4x256x1024.size a := fun v1 v3 k1_hw1 k1_t6 => k1_hw1.1.2.2.2.2.2.2.2.2.2.2.2.2.2.2.2.1 k1_t6
theorem k1_t7_ok : ∀ (v1 : BitVec 32) (v3 : BitVec 32) (k1_hw1 : k1_chk1 v1 v3), (k1_t7_loop v1 v3).OK := fun v1 v3 k1_hw1 => k1_hw1.1.2.2.2.2.2.2.2.2.2.2.2.2.2.2.2.2.1
theorem k1_off12_inb : ∀ (v1 : BitVec 32) (v3 : BitVec 32) (k1_hw1 : k1_chk1 v1 v3) (k1_t7 : Fin (k1_t7_loop v1 v3).trips), ∀ a, (k1_off12 v1 v3 k1_t7) a + S1x256x1024.size a ≤ S4x256x1024.size a := fun v1 v3 k1_hw1 k1_t7 => k1_hw1.1.2.2.2.2.2.2.2.2.2.2.2.2.2.2.2.2.2.1 k1_t7
theorem k1_t8_ok : ∀ (v1 : BitVec 32) (v3 : BitVec 32) (k1_hw1 : k1_chk1 v1 v3), (k1_t8_loop v1 v3).OK := fun v1 v3 k1_hw1 => k1_hw1.1.2.2.2.2.2.2.2.2.2.2.2.2.2.2.2.2.2.2.1
theorem k1_off13_inb : ∀ (v1 : BitVec 32) (v3 : BitVec 32) (k1_hw1 : k1_chk1 v1 v3) (k1_t8 : Fin (k1_t8_loop v1 v3).trips), ∀ a, (k1_off13 v1 v3 k1_t8) a + S1x256x1024.size a ≤ S4x256x1024.size a := fun v1 v3 k1_hw1 k1_t8 => k1_hw1.1.2.2.2.2.2.2.2.2.2.2.2.2.2.2.2.2.2.2.2.1 k1_t8
theorem k1_t9_ok : ∀ (v1 : BitVec 32) (v3 : BitVec 32) (k1_hw1 : k1_chk1 v1 v3), (k1_t9_loop v1 v3).OK := fun v1 v3 k1_hw1 => k1_hw1.1.2.2.2.2.2.2.2.2.2.2.2.2.2.2.2.2.2.2.2.2.1
theorem k1_off14_inb : ∀ (v1 : BitVec 32) (v3 : BitVec 32) (k1_hw1 : k1_chk1 v1 v3) (k1_t9 : Fin (k1_t9_loop v1 v3).trips), ∀ a, (k1_off14 v1 v3 k1_t9) a + S1x256x1024.size a ≤ S4x256x1024.size a := fun v1 v3 k1_hw1 k1_t9 => k1_hw1.1.2.2.2.2.2.2.2.2.2.2.2.2.2.2.2.2.2.2.2.2.2.1 k1_t9
theorem k1_t10_ok : ∀ (v1 : BitVec 32) (v3 : BitVec 32) (k1_hw1 : k1_chk1 v1 v3), (k1_t10_loop v1 v3).OK := fun v1 v3 k1_hw1 => k1_hw1.1.2.2.2.2.2.2.2.2.2.2.2.2.2.2.2.2.2.2.2.2.2.2.1
theorem k1_off15_inb : ∀ (v1 : BitVec 32) (v3 : BitVec 32) (k1_hw1 : k1_chk1 v1 v3) (k1_t10 : Fin (k1_t10_loop v1 v3).trips), ∀ a, (k1_off15 v1 v3 k1_t10) a + S1x256x1024.size a ≤ S4x256x1024.size a := fun v1 v3 k1_hw1 k1_t10 => k1_hw1.1.2.2.2.2.2.2.2.2.2.2.2.2.2.2.2.2.2.2.2.2.2.2.2.1 k1_t10
theorem k1_t11_ok : ∀ (v1 : BitVec 32) (v3 : BitVec 32) (k1_hw1 : k1_chk1 v1 v3), (k1_t11_loop v1 v3).OK := fun v1 v3 k1_hw1 => k1_hw1.1.2.2.2.2.2.2.2.2.2.2.2.2.2.2.2.2.2.2.2.2.2.2.2.2.1
theorem k1_off16_inb : ∀ (v1 : BitVec 32) (v3 : BitVec 32) (k1_hw1 : k1_chk1 v1 v3) (k1_t11 : Fin (k1_t11_loop v1 v3).trips), ∀ a, (k1_off16 v1 v3 k1_t11) a + S1x256x1024.size a ≤ S4x256x1024.size a := fun v1 v3 k1_hw1 k1_t11 => k1_hw1.1.2.2.2.2.2.2.2.2.2.2.2.2.2.2.2.2.2.2.2.2.2.2.2.2.2.1 k1_t11
theorem k1_t12_ok : ∀ (v1 : BitVec 32) (v3 : BitVec 32) (k1_hw1 : k1_chk1 v1 v3), (k1_t12_loop v1 v3).OK := fun v1 v3 k1_hw1 => k1_hw1.1.2.2.2.2.2.2.2.2.2.2.2.2.2.2.2.2.2.2.2.2.2.2.2.2.2.2.1
theorem k1_off17_inb : ∀ (v1 : BitVec 32) (v3 : BitVec 32) (k1_hw1 : k1_chk1 v1 v3) (k1_t12 : Fin (k1_t12_loop v1 v3).trips), ∀ a, (k1_off17 v1 v3 k1_t12) a + S1x256x1024.size a ≤ S4x256x1024.size a := fun v1 v3 k1_hw1 k1_t12 => k1_hw1.1.2.2.2.2.2.2.2.2.2.2.2.2.2.2.2.2.2.2.2.2.2.2.2.2.2.2.2.1 k1_t12
theorem k1_t13_ok : ∀ (v1 : BitVec 32) (v3 : BitVec 32) (k1_hw1 : k1_chk1 v1 v3), (k1_t13_loop v1 v3).OK := fun v1 v3 k1_hw1 => k1_hw1.1.2.2.2.2.2.2.2.2.2.2.2.2.2.2.2.2.2.2.2.2.2.2.2.2.2.2.2.2.1
theorem k1_off18_inb : ∀ (v1 : BitVec 32) (v3 : BitVec 32) (k1_hw1 : k1_chk1 v1 v3) (k1_t13 : Fin (k1_t13_loop v1 v3).trips), ∀ a, (k1_off18 v1 v3 k1_t13) a + S1x256x1024.size a ≤ S4x256x1024.size a := fun v1 v3 k1_hw1 k1_t13 => k1_hw1.1.2.2.2.2.2.2.2.2.2.2.2.2.2.2.2.2.2.2.2.2.2.2.2.2.2.2.2.2.2.1 k1_t13
theorem k1_t14_ok : ∀ (v1 : BitVec 32) (v3 : BitVec 32) (k1_hw1 : k1_chk1 v1 v3), (k1_t14_loop v1 v3).OK := fun v1 v3 k1_hw1 => k1_hw1.1.2.2.2.2.2.2.2.2.2.2.2.2.2.2.2.2.2.2.2.2.2.2.2.2.2.2.2.2.2.2.1
theorem k1_off19_inb : ∀ (v1 : BitVec 32) (v3 : BitVec 32) (k1_hw1 : k1_chk1 v1 v3) (k1_t14 : Fin (k1_t14_loop v1 v3).trips), ∀ a, (k1_off19 v1 v3 k1_t14) a + S1x256x1024.size a ≤ S4x256x1024.size a := fun v1 v3 k1_hw1 k1_t14 => k1_hw1.1.2.2.2.2.2.2.2.2.2.2.2.2.2.2.2.2.2.2.2.2.2.2.2.2.2.2.2.2.2.2.2 k1_t14
theorem k1_t15_ok : ∀ (v1 : BitVec 32) (v3 : BitVec 32) (k1_hw1 : k1_chk1 v1 v3), (k1_t15_loop v1 v3).OK := fun v1 v3 k1_hw1 => k1_hw1.2.1.1
theorem k1_off20_inb : ∀ (v1 : BitVec 32) (v3 : BitVec 32) (k1_hw1 : k1_chk1 v1 v3) (k1_t15 : Fin (k1_t15_loop v1 v3).trips), ∀ a, (k1_off20 v1 v3 k1_t15) a + S1x256x1024.size a ≤ S4x256x1024.size a := fun v1 v3 k1_hw1 k1_t15 => k1_hw1.2.1.2.1 k1_t15
theorem k1_t16_ok : ∀ (v1 : BitVec 32) (v3 : BitVec 32) (k1_hw1 : k1_chk1 v1 v3), (k1_t16_loop v1 v3).OK := fun v1 v3 k1_hw1 => k1_hw1.2.1.2.2.1
theorem k1_off21_inb : ∀ (v1 : BitVec 32) (v3 : BitVec 32) (k1_hw1 : k1_chk1 v1 v3) (k1_t16 : Fin (k1_t16_loop v1 v3).trips), ∀ a, (k1_off21 v1 v3 k1_t16) a + S1x256x1024.size a ≤ S4x256x1024.size a := fun v1 v3 k1_hw1 k1_t16 => k1_hw1.2.1.2.2.2.1 k1_t16
theorem k1_t17_ok : ∀ (v1 : BitVec 32) (v3 : BitVec 32) (k1_hw1 : k1_chk1 v1 v3), (k1_t17_loop v1 v3).OK := fun v1 v3 k1_hw1 => k1_hw1.2.1.2.2.2.2.1
theorem k1_off22_inb : ∀ (v1 : BitVec 32) (v3 : BitVec 32) (k1_hw1 : k1_chk1 v1 v3) (k1_t17 : Fin (k1_t17_loop v1 v3).trips), ∀ a, (k1_off22 v1 v3 k1_t17) a + S1x256x1024.size a ≤ S4x256x1024.size a := fun v1 v3 k1_hw1 k1_t17 => k1_hw1.2.1.2.2.2.2.2.1 k1_t17
theorem k1_t18_ok : ∀ (v1 : BitVec 32) (v3 : BitVec 32) (k1_hw1 : k1_chk1 v1 v3), (k1_t18_loop v1 v3).OK := fun v1 v3 k1_hw1 => k1_hw1.2.1.2.2.2.2.2.2.1
theorem k1_off23_inb : ∀ (v1 : BitVec 32) (v3 : BitVec 32) (k1_hw1 : k1_chk1 v1 v3) (k1_t18 : Fin (k1_t18_loop v1 v3).trips), ∀ a, (k1_off23 v1 v3 k1_t18) a + S1x256x1024.size a ≤ S4x256x1024.size a := fun v1 v3 k1_hw1 k1_t18 => k1_hw1.2.1.2.2.2.2.2.2.2.1 k1_t18
theorem k1_t19_ok : ∀ (v1 : BitVec 32) (v3 : BitVec 32) (k1_hw1 : k1_chk1 v1 v3), (k1_t19_loop v1 v3).OK := fun v1 v3 k1_hw1 => k1_hw1.2.1.2.2.2.2.2.2.2.2.1
theorem k1_off24_inb : ∀ (v1 : BitVec 32) (v3 : BitVec 32) (k1_hw1 : k1_chk1 v1 v3) (k1_t19 : Fin (k1_t19_loop v1 v3).trips), ∀ a, (k1_off24 v1 v3 k1_t19) a + S1x256x1024.size a ≤ S4x256x1024.size a := fun v1 v3 k1_hw1 k1_t19 => k1_hw1.2.1.2.2.2.2.2.2.2.2.2.1 k1_t19
theorem k1_t20_ok : ∀ (v1 : BitVec 32) (v3 : BitVec 32) (k1_hw1 : k1_chk1 v1 v3), (k1_t20_loop v1 v3).OK := fun v1 v3 k1_hw1 => k1_hw1.2.1.2.2.2.2.2.2.2.2.2.2.1
theorem k1_off25_inb : ∀ (v1 : BitVec 32) (v3 : BitVec 32) (k1_hw1 : k1_chk1 v1 v3) (k1_t20 : Fin (k1_t20_loop v1 v3).trips), ∀ a, (k1_off25 v1 v3 k1_t20) a + S1x256x1024.size a ≤ S4x256x1024.size a := fun v1 v3 k1_hw1 k1_t20 => k1_hw1.2.1.2.2.2.2.2.2.2.2.2.2.2.1 k1_t20
theorem k1_t21_ok : ∀ (v1 : BitVec 32) (v3 : BitVec 32) (k1_hw1 : k1_chk1 v1 v3), (k1_t21_loop v1 v3).OK := fun v1 v3 k1_hw1 => k1_hw1.2.1.2.2.2.2.2.2.2.2.2.2.2.2.1
theorem k1_off26_inb : ∀ (v1 : BitVec 32) (v3 : BitVec 32) (k1_hw1 : k1_chk1 v1 v3) (k1_t21 : Fin (k1_t21_loop v1 v3).trips), ∀ a, (k1_off26 v1 v3 k1_t21) a + S1x256x1024.size a ≤ S4x256x1024.size a := fun v1 v3 k1_hw1 k1_t21 => k1_hw1.2.1.2.2.2.2.2.2.2.2.2.2.2.2.2.1 k1_t21
theorem k1_t22_ok : ∀ (v1 : BitVec 32) (v3 : BitVec 32) (k1_hw1 : k1_chk1 v1 v3), (k1_t22_loop v1 v3).OK := fun v1 v3 k1_hw1 => k1_hw1.2.1.2.2.2.2.2.2.2.2.2.2.2.2.2.2.1
theorem k1_off27_inb : ∀ (v1 : BitVec 32) (v3 : BitVec 32) (k1_hw1 : k1_chk1 v1 v3) (k1_t22 : Fin (k1_t22_loop v1 v3).trips), ∀ a, (k1_off27 v1 v3 k1_t22) a + S1x256x1024.size a ≤ S4x256x1024.size a := fun v1 v3 k1_hw1 k1_t22 => k1_hw1.2.1.2.2.2.2.2.2.2.2.2.2.2.2.2.2.2.1 k1_t22
theorem k1_t23_ok : ∀ (v1 : BitVec 32) (v3 : BitVec 32) (k1_hw1 : k1_chk1 v1 v3), (k1_t23_loop v1 v3).OK := fun v1 v3 k1_hw1 => k1_hw1.2.1.2.2.2.2.2.2.2.2.2.2.2.2.2.2.2.2.1
theorem k1_off28_inb : ∀ (v1 : BitVec 32) (v3 : BitVec 32) (k1_hw1 : k1_chk1 v1 v3) (k1_t23 : Fin (k1_t23_loop v1 v3).trips), ∀ a, (k1_off28 v1 v3 k1_t23) a + S1x256x1024.size a ≤ S4x256x1024.size a := fun v1 v3 k1_hw1 k1_t23 => k1_hw1.2.1.2.2.2.2.2.2.2.2.2.2.2.2.2.2.2.2.2.1 k1_t23
theorem k1_t24_ok : ∀ (v1 : BitVec 32) (v3 : BitVec 32) (k1_hw1 : k1_chk1 v1 v3), (k1_t24_loop v1 v3).OK := fun v1 v3 k1_hw1 => k1_hw1.2.1.2.2.2.2.2.2.2.2.2.2.2.2.2.2.2.2.2.2.1
theorem k1_off29_inb : ∀ (v1 : BitVec 32) (v3 : BitVec 32) (k1_hw1 : k1_chk1 v1 v3) (k1_t24 : Fin (k1_t24_loop v1 v3).trips), ∀ a, (k1_off29 v1 v3 k1_t24) a + S1x256x1024.size a ≤ S4x256x1024.size a := fun v1 v3 k1_hw1 k1_t24 => k1_hw1.2.1.2.2.2.2.2.2.2.2.2.2.2.2.2.2.2.2.2.2.2.1 k1_t24
theorem k1_t25_ok : ∀ (v1 : BitVec 32) (v3 : BitVec 32) (k1_hw1 : k1_chk1 v1 v3), (k1_t25_loop v1 v3).OK := fun v1 v3 k1_hw1 => k1_hw1.2.1.2.2.2.2.2.2.2.2.2.2.2.2.2.2.2.2.2.2.2.2.1
theorem k1_off30_inb : ∀ (v1 : BitVec 32) (v3 : BitVec 32) (k1_hw1 : k1_chk1 v1 v3) (k1_t25 : Fin (k1_t25_loop v1 v3).trips), ∀ a, (k1_off30 v1 v3 k1_t25) a + S1x256x1024.size a ≤ S4x256x1024.size a := fun v1 v3 k1_hw1 k1_t25 => k1_hw1.2.1.2.2.2.2.2.2.2.2.2.2.2.2.2.2.2.2.2.2.2.2.2.1 k1_t25
theorem k1_t26_ok : ∀ (v1 : BitVec 32) (v3 : BitVec 32) (k1_hw1 : k1_chk1 v1 v3), (k1_t26_loop v1 v3).OK := fun v1 v3 k1_hw1 => k1_hw1.2.1.2.2.2.2.2.2.2.2.2.2.2.2.2.2.2.2.2.2.2.2.2.2.1
theorem k1_off31_inb : ∀ (v1 : BitVec 32) (v3 : BitVec 32) (k1_hw1 : k1_chk1 v1 v3) (k1_t26 : Fin (k1_t26_loop v1 v3).trips), ∀ a, (k1_off31 v1 v3 k1_t26) a + S1x256x1024.size a ≤ S4x256x1024.size a := fun v1 v3 k1_hw1 k1_t26 => k1_hw1.2.1.2.2.2.2.2.2.2.2.2.2.2.2.2.2.2.2.2.2.2.2.2.2.2.1 k1_t26
theorem k1_t27_ok : ∀ (v1 : BitVec 32) (v3 : BitVec 32) (k1_hw1 : k1_chk1 v1 v3), (k1_t27_loop v1 v3).OK := fun v1 v3 k1_hw1 => k1_hw1.2.1.2.2.2.2.2.2.2.2.2.2.2.2.2.2.2.2.2.2.2.2.2.2.2.2.1
theorem k1_off32_inb : ∀ (v1 : BitVec 32) (v3 : BitVec 32) (k1_hw1 : k1_chk1 v1 v3) (k1_t27 : Fin (k1_t27_loop v1 v3).trips), ∀ a, (k1_off32 v1 v3 k1_t27) a + S1x256x1024.size a ≤ S4x256x1024.size a := fun v1 v3 k1_hw1 k1_t27 => k1_hw1.2.1.2.2.2.2.2.2.2.2.2.2.2.2.2.2.2.2.2.2.2.2.2.2.2.2.2.1 k1_t27
theorem k1_t28_ok : ∀ (v1 : BitVec 32) (v3 : BitVec 32) (k1_hw1 : k1_chk1 v1 v3), (k1_t28_loop v1 v3).OK := fun v1 v3 k1_hw1 => k1_hw1.2.1.2.2.2.2.2.2.2.2.2.2.2.2.2.2.2.2.2.2.2.2.2.2.2.2.2.2.1
theorem k1_off33_inb : ∀ (v1 : BitVec 32) (v3 : BitVec 32) (k1_hw1 : k1_chk1 v1 v3) (k1_t28 : Fin (k1_t28_loop v1 v3).trips), ∀ a, (k1_off33 v1 v3 k1_t28) a + S1x256x1024.size a ≤ S4x256x1024.size a := fun v1 v3 k1_hw1 k1_t28 => k1_hw1.2.1.2.2.2.2.2.2.2.2.2.2.2.2.2.2.2.2.2.2.2.2.2.2.2.2.2.2.2.1 k1_t28
theorem k1_t29_ok : ∀ (v1 : BitVec 32) (v3 : BitVec 32) (k1_hw1 : k1_chk1 v1 v3), (k1_t29_loop v1 v3).OK := fun v1 v3 k1_hw1 => k1_hw1.2.1.2.2.2.2.2.2.2.2.2.2.2.2.2.2.2.2.2.2.2.2.2.2.2.2.2.2.2.2.1
theorem k1_off34_inb : ∀ (v1 : BitVec 32) (v3 : BitVec 32) (k1_hw1 : k1_chk1 v1 v3) (k1_t29 : Fin (k1_t29_loop v1 v3).trips), ∀ a, (k1_off34 v1 v3 k1_t29) a + S1x256x1024.size a ≤ S4x256x1024.size a := fun v1 v3 k1_hw1 k1_t29 => k1_hw1.2.1.2.2.2.2.2.2.2.2.2.2.2.2.2.2.2.2.2.2.2.2.2.2.2.2.2.2.2.2.2.1 k1_t29
theorem k1_t30_ok : ∀ (v1 : BitVec 32) (v3 : BitVec 32) (k1_hw1 : k1_chk1 v1 v3), (k1_t30_loop v1 v3).OK := fun v1 v3 k1_hw1 => k1_hw1.2.1.2.2.2.2.2.2.2.2.2.2.2.2.2.2.2.2.2.2.2.2.2.2.2.2.2.2.2.2.2.2.1
theorem k1_off35_inb : ∀ (v1 : BitVec 32) (v3 : BitVec 32) (k1_hw1 : k1_chk1 v1 v3) (k1_t30 : Fin (k1_t30_loop v1 v3).trips), ∀ a, (k1_off35 v1 v3 k1_t30) a + S1x256x1024.size a ≤ S4x256x1024.size a := fun v1 v3 k1_hw1 k1_t30 => k1_hw1.2.1.2.2.2.2.2.2.2.2.2.2.2.2.2.2.2.2.2.2.2.2.2.2.2.2.2.2.2.2.2.2.2 k1_t30
theorem k1_t31_ok : ∀ (v1 : BitVec 32) (v3 : BitVec 32) (k1_hw1 : k1_chk1 v1 v3), (k1_t31_loop v1 v3).OK := fun v1 v3 k1_hw1 => k1_hw1.2.2.1.1
theorem k1_off36_inb : ∀ (v1 : BitVec 32) (v3 : BitVec 32) (k1_hw1 : k1_chk1 v1 v3) (k1_t31 : Fin (k1_t31_loop v1 v3).trips), ∀ a, (k1_off36 v1 v3 k1_t31) a + S1x256x1024.size a ≤ S4x256x1024.size a := fun v1 v3 k1_hw1 k1_t31 => k1_hw1.2.2.1.2.1 k1_t31
theorem k1_t32_ok : ∀ (v1 : BitVec 32) (v3 : BitVec 32) (k1_hw1 : k1_chk1 v1 v3), (k1_t32_loop v1 v3).OK := fun v1 v3 k1_hw1 => k1_hw1.2.2.1.2.2.1
theorem k1_off37_inb : ∀ (v1 : BitVec 32) (v3 : BitVec 32) (k1_hw1 : k1_chk1 v1 v3) (k1_t32 : Fin (k1_t32_loop v1 v3).trips), ∀ a, (k1_off37 v1 v3 k1_t32) a + S1x256x1024.size a ≤ S4x256x1024.size a := fun v1 v3 k1_hw1 k1_t32 => k1_hw1.2.2.1.2.2.2.1 k1_t32
theorem k1_t33_ok : ∀ (v1 : BitVec 32) (v3 : BitVec 32) (k1_hw1 : k1_chk1 v1 v3), (k1_t33_loop v1 v3).OK := fun v1 v3 k1_hw1 => k1_hw1.2.2.1.2.2.2.2.1
theorem k1_off38_inb : ∀ (v1 : BitVec 32) (v3 : BitVec 32) (k1_hw1 : k1_chk1 v1 v3) (k1_t33 : Fin (k1_t33_loop v1 v3).trips), ∀ a, (k1_off38 v1 v3 k1_t33) a + S1x256x1024.size a ≤ S4x256x1024.size a := fun v1 v3 k1_hw1 k1_t33 => k1_hw1.2.2.1.2.2.2.2.2.1 k1_t33
theorem k1_t34_ok : ∀ (v1 : BitVec 32) (v3 : BitVec 32) (k1_hw1 : k1_chk1 v1 v3), (k1_t34_loop v1 v3).OK := fun v1 v3 k1_hw1 => k1_hw1.2.2.1.2.2.2.2.2.2.1
theorem k1_off39_inb : ∀ (v1 : BitVec 32) (v3 : BitVec 32) (k1_hw1 : k1_chk1 v1 v3) (k1_t34 : Fin (k1_t34_loop v1 v3).trips), ∀ a, (k1_off39 v1 v3 k1_t34) a + S1x256x1024.size a ≤ S4x256x1024.size a := fun v1 v3 k1_hw1 k1_t34 => k1_hw1.2.2.1.2.2.2.2.2.2.2.1 k1_t34
theorem k1_t35_ok : ∀ (v1 : BitVec 32) (v3 : BitVec 32) (k1_hw1 : k1_chk1 v1 v3), (k1_t35_loop v1 v3).OK := fun v1 v3 k1_hw1 => k1_hw1.2.2.1.2.2.2.2.2.2.2.2.1
theorem k1_off40_inb : ∀ (v1 : BitVec 32) (v3 : BitVec 32) (k1_hw1 : k1_chk1 v1 v3) (k1_t35 : Fin (k1_t35_loop v1 v3).trips), ∀ a, (k1_off40 v1 v3 k1_t35) a + S1x256x1024.size a ≤ S4x256x1024.size a := fun v1 v3 k1_hw1 k1_t35 => k1_hw1.2.2.1.2.2.2.2.2.2.2.2.2.1 k1_t35
theorem k1_t36_ok : ∀ (v1 : BitVec 32) (v3 : BitVec 32) (k1_hw1 : k1_chk1 v1 v3), (k1_t36_loop v1 v3).OK := fun v1 v3 k1_hw1 => k1_hw1.2.2.1.2.2.2.2.2.2.2.2.2.2.1
theorem k1_off41_inb : ∀ (v1 : BitVec 32) (v3 : BitVec 32) (k1_hw1 : k1_chk1 v1 v3) (k1_t36 : Fin (k1_t36_loop v1 v3).trips), ∀ a, (k1_off41 v1 v3 k1_t36) a + S1x256x1024.size a ≤ S4x256x1024.size a := fun v1 v3 k1_hw1 k1_t36 => k1_hw1.2.2.1.2.2.2.2.2.2.2.2.2.2.2.1 k1_t36
theorem k1_t37_ok : ∀ (v1 : BitVec 32) (v3 : BitVec 32) (k1_hw1 : k1_chk1 v1 v3), (k1_t37_loop v1 v3).OK := fun v1 v3 k1_hw1 => k1_hw1.2.2.1.2.2.2.2.2.2.2.2.2.2.2.2.1
theorem k1_off42_inb : ∀ (v1 : BitVec 32) (v3 : BitVec 32) (k1_hw1 : k1_chk1 v1 v3) (k1_t37 : Fin (k1_t37_loop v1 v3).trips), ∀ a, (k1_off42 v1 v3 k1_t37) a + S1x256x1024.size a ≤ S4x256x1024.size a := fun v1 v3 k1_hw1 k1_t37 => k1_hw1.2.2.1.2.2.2.2.2.2.2.2.2.2.2.2.2.1 k1_t37
theorem k1_t38_ok : ∀ (v1 : BitVec 32) (v3 : BitVec 32) (k1_hw1 : k1_chk1 v1 v3), (k1_t38_loop v1 v3).OK := fun v1 v3 k1_hw1 => k1_hw1.2.2.1.2.2.2.2.2.2.2.2.2.2.2.2.2.2.1
theorem k1_off43_inb : ∀ (v1 : BitVec 32) (v3 : BitVec 32) (k1_hw1 : k1_chk1 v1 v3) (k1_t38 : Fin (k1_t38_loop v1 v3).trips), ∀ a, (k1_off43 v1 v3 k1_t38) a + S1x256x1024.size a ≤ S4x256x1024.size a := fun v1 v3 k1_hw1 k1_t38 => k1_hw1.2.2.1.2.2.2.2.2.2.2.2.2.2.2.2.2.2.2.1 k1_t38
theorem k1_t39_ok : ∀ (v1 : BitVec 32) (v3 : BitVec 32) (k1_hw1 : k1_chk1 v1 v3), (k1_t39_loop v1 v3).OK := fun v1 v3 k1_hw1 => k1_hw1.2.2.1.2.2.2.2.2.2.2.2.2.2.2.2.2.2.2.2.1
theorem k1_off44_inb : ∀ (v1 : BitVec 32) (v3 : BitVec 32) (k1_hw1 : k1_chk1 v1 v3) (k1_t39 : Fin (k1_t39_loop v1 v3).trips), ∀ a, (k1_off44 v1 v3 k1_t39) a + S1x256x1024.size a ≤ S4x256x1024.size a := fun v1 v3 k1_hw1 k1_t39 => k1_hw1.2.2.1.2.2.2.2.2.2.2.2.2.2.2.2.2.2.2.2.2.1 k1_t39
theorem k1_t40_ok : ∀ (v1 : BitVec 32) (v3 : BitVec 32) (k1_hw1 : k1_chk1 v1 v3), (k1_t40_loop v1 v3).OK := fun v1 v3 k1_hw1 => k1_hw1.2.2.1.2.2.2.2.2.2.2.2.2.2.2.2.2.2.2.2.2.2.1
theorem k1_off45_inb : ∀ (v1 : BitVec 32) (v3 : BitVec 32) (k1_hw1 : k1_chk1 v1 v3) (k1_t40 : Fin (k1_t40_loop v1 v3).trips), ∀ a, (k1_off45 v1 v3 k1_t40) a + S1x256x1024.size a ≤ S4x256x1024.size a := fun v1 v3 k1_hw1 k1_t40 => k1_hw1.2.2.1.2.2.2.2.2.2.2.2.2.2.2.2.2.2.2.2.2.2.2.1 k1_t40
theorem k1_t41_ok : ∀ (v1 : BitVec 32) (v3 : BitVec 32) (k1_hw1 : k1_chk1 v1 v3), (k1_t41_loop v1 v3).OK := fun v1 v3 k1_hw1 => k1_hw1.2.2.1.2.2.2.2.2.2.2.2.2.2.2.2.2.2.2.2.2.2.2.2.1
theorem k1_off46_inb : ∀ (v1 : BitVec 32) (v3 : BitVec 32) (k1_hw1 : k1_chk1 v1 v3) (k1_t41 : Fin (k1_t41_loop v1 v3).trips), ∀ a, (k1_off46 v1 v3 k1_t41) a + S1x256x1024.size a ≤ S4x256x1024.size a := fun v1 v3 k1_hw1 k1_t41 => k1_hw1.2.2.1.2.2.2.2.2.2.2.2.2.2.2.2.2.2.2.2.2.2.2.2.2.1 k1_t41
theorem k1_t42_ok : ∀ (v1 : BitVec 32) (v3 : BitVec 32) (k1_hw1 : k1_chk1 v1 v3), (k1_t42_loop v1 v3).OK := fun v1 v3 k1_hw1 => k1_hw1.2.2.1.2.2.2.2.2.2.2.2.2.2.2.2.2.2.2.2.2.2.2.2.2.2.1
theorem k1_off47_inb : ∀ (v1 : BitVec 32) (v3 : BitVec 32) (k1_hw1 : k1_chk1 v1 v3) (k1_t42 : Fin (k1_t42_loop v1 v3).trips), ∀ a, (k1_off47 v1 v3 k1_t42) a + S1x256x1024.size a ≤ S4x256x1024.size a := fun v1 v3 k1_hw1 k1_t42 => k1_hw1.2.2.1.2.2.2.2.2.2.2.2.2.2.2.2.2.2.2.2.2.2.2.2.2.2.2.1 k1_t42
theorem k1_t43_ok : ∀ (v1 : BitVec 32) (v3 : BitVec 32) (k1_hw1 : k1_chk1 v1 v3), (k1_t43_loop v1 v3).OK := fun v1 v3 k1_hw1 => k1_hw1.2.2.1.2.2.2.2.2.2.2.2.2.2.2.2.2.2.2.2.2.2.2.2.2.2.2.2.1
theorem k1_off48_inb : ∀ (v1 : BitVec 32) (v3 : BitVec 32) (k1_hw1 : k1_chk1 v1 v3) (k1_t43 : Fin (k1_t43_loop v1 v3).trips), ∀ a, (k1_off48 v1 v3 k1_t43) a + S1x256x1024.size a ≤ S4x256x1024.size a := fun v1 v3 k1_hw1 k1_t43 => k1_hw1.2.2.1.2.2.2.2.2.2.2.2.2.2.2.2.2.2.2.2.2.2.2.2.2.2.2.2.2.1 k1_t43
theorem k1_t44_ok : ∀ (v1 : BitVec 32) (v3 : BitVec 32) (k1_hw1 : k1_chk1 v1 v3), (k1_t44_loop v1 v3).OK := fun v1 v3 k1_hw1 => k1_hw1.2.2.1.2.2.2.2.2.2.2.2.2.2.2.2.2.2.2.2.2.2.2.2.2.2.2.2.2.2.1
theorem k1_off49_inb : ∀ (v1 : BitVec 32) (v3 : BitVec 32) (k1_hw1 : k1_chk1 v1 v3) (k1_t44 : Fin (k1_t44_loop v1 v3).trips), ∀ a, (k1_off49 v1 v3 k1_t44) a + S1x256x1024.size a ≤ S4x256x1024.size a := fun v1 v3 k1_hw1 k1_t44 => k1_hw1.2.2.1.2.2.2.2.2.2.2.2.2.2.2.2.2.2.2.2.2.2.2.2.2.2.2.2.2.2.2.1 k1_t44
theorem k1_t45_ok : ∀ (v1 : BitVec 32) (v3 : BitVec 32) (k1_hw1 : k1_chk1 v1 v3), (k1_t45_loop v1 v3).OK := fun v1 v3 k1_hw1 => k1_hw1.2.2.1.2.2.2.2.2.2.2.2.2.2.2.2.2.2.2.2.2.2.2.2.2.2.2.2.2.2.2.2.1
theorem k1_off50_inb : ∀ (v1 : BitVec 32) (v3 : BitVec 32) (k1_hw1 : k1_chk1 v1 v3) (k1_t45 : Fin (k1_t45_loop v1 v3).trips), ∀ a, (k1_off50 v1 v3 k1_t45) a + S1x256x1024.size a ≤ S4x256x1024.size a := fun v1 v3 k1_hw1 k1_t45 => k1_hw1.2.2.1.2.2.2.2.2.2.2.2.2.2.2.2.2.2.2.2.2.2.2.2.2.2.2.2.2.2.2.2.2.1 k1_t45
theorem k1_t46_ok : ∀ (v1 : BitVec 32) (v3 : BitVec 32) (k1_hw1 : k1_chk1 v1 v3), (k1_t46_loop v1 v3).OK := fun v1 v3 k1_hw1 => k1_hw1.2.2.1.2.2.2.2.2.2.2.2.2.2.2.2.2.2.2.2.2.2.2.2.2.2.2.2.2.2.2.2.2.2.1
theorem k1_off51_inb : ∀ (v1 : BitVec 32) (v3 : BitVec 32) (k1_hw1 : k1_chk1 v1 v3) (k1_t46 : Fin (k1_t46_loop v1 v3).trips), ∀ a, (k1_off51 v1 v3 k1_t46) a + S1x256x1024.size a ≤ S4x256x1024.size a := fun v1 v3 k1_hw1 k1_t46 => k1_hw1.2.2.1.2.2.2.2.2.2.2.2.2.2.2.2.2.2.2.2.2.2.2.2.2.2.2.2.2.2.2.2.2.2.2 k1_t46
theorem k1_t47_ok : ∀ (v1 : BitVec 32) (v3 : BitVec 32) (k1_hw1 : k1_chk1 v1 v3), (k1_t47_loop v1 v3).OK := fun v1 v3 k1_hw1 => k1_hw1.2.2.2.1
theorem k1_off52_inb : ∀ (v1 : BitVec 32) (v3 : BitVec 32) (k1_hw1 : k1_chk1 v1 v3) (k1_t47 : Fin (k1_t47_loop v1 v3).trips), ∀ a, (k1_off52 v1 v3 k1_t47) a + S1x256x1024.size a ≤ S4x256x1024.size a := fun v1 v3 k1_hw1 k1_t47 => k1_hw1.2.2.2.2.1 k1_t47
theorem k1_t48_ok : ∀ (v1 : BitVec 32) (v3 : BitVec 32) (k1_hw1 : k1_chk1 v1 v3), (k1_t48_loop v1 v3).OK := fun v1 v3 k1_hw1 => k1_hw1.2.2.2.2.2.1
theorem k1_off53_inb : ∀ (v1 : BitVec 32) (v3 : BitVec 32) (k1_hw1 : k1_chk1 v1 v3) (k1_t48 : Fin (k1_t48_loop v1 v3).trips), ∀ a, (k1_off53 v1 v3 k1_t48) a + S1x256x1024.size a ≤ S4x256x1024.size a := fun v1 v3 k1_hw1 k1_t48 => k1_hw1.2.2.2.2.2.2.1 k1_t48
theorem k1_t49_ok : ∀ (v1 : BitVec 32) (v3 : BitVec 32) (k1_hw1 : k1_chk1 v1 v3), (k1_t49_loop v1 v3).OK := fun v1 v3 k1_hw1 => k1_hw1.2.2.2.2.2.2.2.1
theorem k1_off54_inb : ∀ (v1 : BitVec 32) (v3 : BitVec 32) (k1_hw1 : k1_chk1 v1 v3) (k1_t49 : Fin (k1_t49_loop v1 v3).trips), ∀ a, (k1_off54 v1 v3 k1_t49) a + S1x256x1024.size a ≤ S4x256x1024.size a := fun v1 v3 k1_hw1 k1_t49 => k1_hw1.2.2.2.2.2.2.2.2.1 k1_t49
theorem k1_t50_ok : ∀ (v1 : BitVec 32) (v3 : BitVec 32) (k1_hw1 : k1_chk1 v1 v3), (k1_t50_loop v1 v3).OK := fun v1 v3 k1_hw1 => k1_hw1.2.2.2.2.2.2.2.2.2.1
theorem k1_off55_inb : ∀ (v1 : BitVec 32) (v3 : BitVec 32) (k1_hw1 : k1_chk1 v1 v3) (k1_t50 : Fin (k1_t50_loop v1 v3).trips), ∀ a, (k1_off55 v1 v3 k1_t50) a + S1x256x1024.size a ≤ S4x256x1024.size a := fun v1 v3 k1_hw1 k1_t50 => k1_hw1.2.2.2.2.2.2.2.2.2.2.1 k1_t50
theorem k1_t51_ok : ∀ (v1 : BitVec 32) (v3 : BitVec 32) (k1_hw1 : k1_chk1 v1 v3), (k1_t51_loop v1 v3).OK := fun v1 v3 k1_hw1 => k1_hw1.2.2.2.2.2.2.2.2.2.2.2.1
theorem k1_off56_inb : ∀ (v1 : BitVec 32) (v3 : BitVec 32) (k1_hw1 : k1_chk1 v1 v3) (k1_t51 : Fin (k1_t51_loop v1 v3).trips), ∀ a, (k1_off56 v1 v3 k1_t51) a + S1x256x1024.size a ≤ S4x256x1024.size a := fun v1 v3 k1_hw1 k1_t51 => k1_hw1.2.2.2.2.2.2.2.2.2.2.2.2.1 k1_t51
theorem k1_off57_inb : ∀ (v1 : BitVec 32) (v3 : BitVec 32) (k1_hw1 : k1_chk1 v1 v3) (k1_t51 : Fin (k1_t51_loop v1 v3).trips), ∀ a, (k1_off57 v1 v3 k1_t51) a + S1x4x1024.size a ≤ S4x4x1024.size a := fun v1 v3 k1_hw1 k1_t51 => k1_hw1.2.2.2.2.2.2.2.2.2.2.2.2.2.1 k1_t51
theorem k1_t52_ok : ∀ (v1 : BitVec 32) (v3 : BitVec 32) (k1_hw1 : k1_chk1 v1 v3), (k1_t52_loop v1 v3).OK := fun v1 v3 k1_hw1 => k1_hw1.2.2.2.2.2.2.2.2.2.2.2.2.2.2.1
theorem k1_off58_inb : ∀ (v1 : BitVec 32) (v3 : BitVec 32) (k1_hw1 : k1_chk1 v1 v3) (k1_t52 : Fin (k1_t52_loop v1 v3).trips), ∀ a, (k1_off58 v1 v3 k1_t52) a + S1x256x1024.size a ≤ S4x256x1024.size a := fun v1 v3 k1_hw1 k1_t52 => k1_hw1.2.2.2.2.2.2.2.2.2.2.2.2.2.2.2.1 k1_t52
theorem k1_off59_inb : ∀ (v1 : BitVec 32) (v3 : BitVec 32) (k1_hw1 : k1_chk1 v1 v3) (k1_t52 : Fin (k1_t52_loop v1 v3).trips), ∀ a, (k1_off59 v1 v3 k1_t52) a + S1x4x1024.size a ≤ S4x4x1024.size a := fun v1 v3 k1_hw1 k1_t52 => k1_hw1.2.2.2.2.2.2.2.2.2.2.2.2.2.2.2.2 k1_t52

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1x1024 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x3 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S4x4x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x4 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S4096x3 : Shape := ⟨2, ![4096, 3]⟩
abbrev S8192x3 : Shape := ⟨2, ![8192, 3]⟩
abbrev S4096x64 : Shape := ⟨2, ![4096, 64]⟩
abbrev S8192x64 : Shape := ⟨2, ![8192, 64]⟩
abbrev S4096x1 : Shape := ⟨2, ![4096, 1]⟩
abbrev S4096 : Shape := ⟨1, ![4096]⟩
abbrev S8192 : Shape := ⟨1, ![8192]⟩
abbrev S_ : Shape := ⟨0, ![]⟩
abbrev S4 : Shape := ⟨1, ![4]⟩
abbrev S1x4 : Shape := ⟨2, ![1, 4]⟩
abbrev S4096x4 : Shape := ⟨2, ![4096, 4]⟩
abbrev S8192x1 : Shape := ⟨2, ![8192, 1]⟩
abbrev S64x8192 : Shape := ⟨2, ![64, 8192]⟩
abbrev S4096x8192 : Shape := ⟨2, ![4096, 8192]⟩
abbrev S1x8192 : Shape := ⟨2, ![1, 8192]⟩
abbrev S4096x8 : Shape := ⟨2, ![4096, 8]⟩
abbrev S4096x8x1 : Shape := ⟨3, ![4096, 8, 1]⟩
abbrev S4096x8x3 : Shape := ⟨3, ![4096, 8, 3]⟩
abbrev S4096x1x3 : Shape := ⟨3, ![4096, 1, 3]⟩
abbrev S4096x8x64 : Shape := ⟨3, ![4096, 8, 64]⟩
abbrev S4096x1x64 : Shape := ⟨3, ![4096, 1, 64]⟩
abbrev S4096x1x1 : Shape := ⟨3, ![4096, 1, 1]⟩
abbrev S64x4096 : Shape := ⟨2, ![64, 4096]⟩
abbrev S4096x4096 : Shape := ⟨2, ![4096, 4096]⟩
abbrev S1x4096 : Shape := ⟨2, ![1, 4096]⟩

abbrev nBuf : Space → Nat
  | .hbm => 196
  | .vmem => 0
  | .smem => 0
  | _ => 0

abbrev hbmTy0_0 (i : Nat) : BufTy := match i % 128 with
  | 0 => ⟨S4096x3, .f32⟩
  | 1 => ⟨S8192x3, .f32⟩
  | 2 => ⟨S4096x64, .f32⟩
  | 3 => ⟨S8192x64, .f32⟩
  | 4 => ⟨S4096x1, .f32⟩
  | 5 => ⟨S4096, .i32⟩
  | 6 => ⟨S8192, .i32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096, .f32⟩
  | 16 => ⟨S4096x1, .i32⟩
  | 17 => ⟨S4, .i32⟩
  | 18 => ⟨S1x4, .i32⟩
  | 19 => ⟨S4096x4, .i32⟩
  | 20 => ⟨S4096x4, .i32⟩
  | 21 => ⟨S4096x4, .i1⟩
  | 22 => ⟨S4096x1, .f32⟩
  | 23 => ⟨S_, .f32⟩
  | 24 => ⟨S_, .f32⟩
  | 25 => ⟨S4096x4, .f32⟩
  | 26 => ⟨S4096x4, .f32⟩
  | 27 => ⟨S4096x4, .f32⟩
  | 28 => ⟨S_, .f32⟩
  | 29 => ⟨S4, .f32⟩
  | 30 => ⟨S4096x1, .f32⟩
  | 31 => ⟨S4096x1, .f32⟩
  | 32 => ⟨S_, .f32⟩
  | 33 => ⟨S_, .f32⟩
  | 34 => ⟨S4096x4, .f32⟩
  | 35 => ⟨S4096x4, .f32⟩
  | 36 => ⟨S4096x4, .f32⟩
  | 37 => ⟨S_, .f32⟩
  | 38 => ⟨S4, .f32⟩
  | 39 => ⟨S4, .f32⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S4096, .f32⟩
  | 49 => ⟨S4096, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096, .f32⟩
  | 68 => ⟨S4096, .f32⟩
  | 69 => ⟨S4096, .f32⟩
  | 70 => ⟨S4096x1, .f32⟩
  | 71 => ⟨S4096x64, .f32⟩
  | 72 => ⟨S_, .f32⟩
  | 73 => ⟨S4096, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x64, .f32⟩
  | 80 => ⟨S4096x64, .f32⟩
  | 81 => ⟨S8192x64, .f32⟩
  | 82 => ⟨S_, .f32⟩
  | 83 => ⟨S8192, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x64, .f32⟩
  | 90 => ⟨S8192x64, .f32⟩
  | 91 => ⟨S64x8192, .f32⟩
  | 92 => ⟨S4096x8192, .f32⟩
  | 93 => ⟨S4096x1, .i32⟩
  | 94 => ⟨S1x8192, .i32⟩
  | 95 => ⟨S4096x8192, .i32⟩
  | 96 => ⟨S4096x8192, .i32⟩
  | 97 => ⟨S4096x8192, .i1⟩
  | 98 => ⟨S_, .f32⟩
  | 99 => ⟨S4096x8192, .f32⟩
  | 100 => ⟨S4096x8192, .f32⟩
  | 101 => ⟨S4096x8, .f32⟩
  | 102 => ⟨S4096x8, .i32⟩
  | 103 => ⟨S_, .i32⟩
  | 104 => ⟨S4096x8, .i32⟩
  | 105 => ⟨S4096x8, .i1⟩
  | 106 => ⟨S_, .i32⟩
  | 107 => ⟨S4096x8, .i32⟩
  | 108 => ⟨S4096x8, .i32⟩
  | 109 => ⟨S4096x8, .i32⟩
  | 110 => ⟨S4096x8x1, .i32⟩
  | 111 => ⟨S4096x8x3, .f32⟩
  | 112 => ⟨S4096x1x3, .f32⟩
  | 113 => ⟨S4096x8x3, .f32⟩
  | 114 => ⟨S4096x8x3, .f32⟩
  | 115 => ⟨S_, .i32⟩
  | 116 => ⟨S4096x8, .i32⟩
  | 117 => ⟨S4096x8, .i1⟩
  | 118 => ⟨S_, .i32⟩
  | 119 => ⟨S4096x8, .i32⟩
  | 120 => ⟨S4096x8, .i32⟩
  | 121 => ⟨S4096x8, .i32⟩
  | 122 => ⟨S4096x8x1, .i32⟩
  | 123 => ⟨S4096x8x64, .f32⟩
  | 124 => ⟨S4096x1x64, .f32⟩
  | 125 => ⟨S4096x8x64, .f32⟩
  | 126 => ⟨S4096x8x64, .f32⟩
  | 127 => ⟨S_, .f32⟩
  | _ => ⟨S4096x3, .f32⟩

abbrev hbmTy0_1 (i : Nat) : BufTy := match i % 128 with
  | 0 => ⟨S4096x8, .f32⟩
  | 1 => ⟨S4096x8x1, .f32⟩
  | 2 => ⟨S4096x1x1, .f32⟩
  | 3 => ⟨S4096x8x1, .f32⟩
  | 4 => ⟨S4096x8x1, .f32⟩
  | 5 => ⟨S4096x8x3, .f32⟩
  | 6 => ⟨S4096x8x3, .f32⟩
  | 7 => ⟨S_, .f32⟩
  | 8 => ⟨S4096x3, .f32⟩
  | 9 => ⟨S_, .f32⟩
  | 10 => ⟨S4096x1, .f32⟩
  | 11 => ⟨S4096x3, .f32⟩
  | 12 => ⟨S4096x3, .f32⟩
  | 13 => ⟨S4096, .f32⟩
  | 14 => ⟨S_, .f32⟩
  | 15 => ⟨S4096, .f32⟩
  | 16 => ⟨S4096, .i1⟩
  | 17 => ⟨S64x4096, .f32⟩
  | 18 => ⟨S4096x4096, .f32⟩
  | 19 => ⟨S4096x1, .i32⟩
  | 20 => ⟨S1x4096, .i32⟩
  | 21 => ⟨S4096x4096, .i32⟩
  | 22 => ⟨S4096x4096, .i32⟩
  | 23 => ⟨S4096x4096, .i1⟩
  | 24 => ⟨S1x4096, .i1⟩
  | 25 => ⟨S4096x4096, .i1⟩
  | 26 => ⟨S4096x4096, .i1⟩
  | 27 => ⟨S_, .f32⟩
  | 28 => ⟨S4096x4096, .f32⟩
  | 29 => ⟨S4096x4096, .f32⟩
  | 30 => ⟨S4096x8, .f32⟩
  | 31 => ⟨S4096x8, .i32⟩
  | 32 => ⟨S_, .i32⟩
  | 33 => ⟨S4096x8, .i32⟩
  | 34 => ⟨S4096x8, .i1⟩
  | 35 => ⟨S_, .i32⟩
  | 36 => ⟨S4096x8, .i32⟩
  | 37 => ⟨S4096x8, .i32⟩
  | 38 => ⟨S4096x8, .i32⟩
  | 39 => ⟨S4096x8x1, .i32⟩
  | 40 => ⟨S4096x8x64, .f32⟩
  | 41 => ⟨S4096x1x64, .f32⟩
  | 42 => ⟨S4096x8x64, .f32⟩
  | 43 => ⟨S4096x8x64, .f32⟩
  | 44 => ⟨S_, .f32⟩
  | 45 => ⟨S4096x8, .f32⟩
  | 46 => ⟨S4096x8x1, .f32⟩
  | 47 => ⟨S_, .i32⟩
  | 48 => ⟨S4096x8, .i32⟩
  | 49 => ⟨S4096x8, .i1⟩
  | 50 => ⟨S_, .i32⟩
  | 51 => ⟨S4096x8, .i32⟩
  | 52 => ⟨S4096x8, .i32⟩
  | 53 => ⟨S4096x8, .i32⟩
  | 54 => ⟨S4096x8x1, .i32⟩
  | 55 => ⟨S4096x8x3, .f32⟩
  | 56 => ⟨S4096x8x3, .f32⟩
  | 57 => ⟨S4096x8x3, .f32⟩
  | 58 => ⟨S_, .f32⟩
  | 59 => ⟨S4096x3, .f32⟩
  | 60 => ⟨S_, .f32⟩
  | 61 => ⟨S4096x1, .f32⟩
  | 62 => ⟨S4096x3, .f32⟩
  | 63 => ⟨S4096x3, .f32⟩
  | 64 => ⟨S4096x1, .i1⟩
  | 65 => ⟨S4096x3, .i1⟩
  | 66 => ⟨S4096x3, .f32⟩
  | 67 => ⟨S4096x4, .f32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_call2_v2 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call3_v0 : Ref sig .tc := ⟨.hbm, 81, rfl⟩
abbrev main_call3_cst : Ref sig .tc := ⟨.hbm, 82, rfl⟩
abbrev main_call3_v1 : Ref sig .tc := ⟨.hbm, 83, rfl⟩
abbrev main_call3_v2 : Ref sig .tc := ⟨.hbm, 84, rfl⟩
abbrev main_v51 : Ref sig .tc := ⟨.hbm, 85, rfl⟩
abbrev main_cst_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_call4_v0 : Ref sig .tc := ⟨.hbm, 99, rfl⟩
abbrev main_v63 : Ref sig .tc := ⟨.hbm, 100, rfl⟩
abbrev main_values : Ref sig .tc := ⟨.hbm, 101, rfl⟩
abbrev main_indices : Ref sig .tc := ⟨.hbm, 102, rfl⟩
abbrev main_c_13 : Ref sig .tc := ⟨.hbm, 103, rfl⟩
abbrev main_v64 : Ref sig .tc := ⟨.hbm, 104, rfl⟩
abbrev main_v65 : Ref sig .tc := ⟨.hbm, 105, rfl⟩
abbrev main_c_14 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_15 : Ref sig .tc := ⟨.hbm, 115, rfl⟩
abbrev main_v74 : Ref sig .tc := ⟨.hbm, 116, rfl⟩
abbrev main_v75 : Ref sig .tc := ⟨.hbm, 117, rfl⟩
abbrev main_c_16 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_17 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_18 : Ref sig .tc := ⟨.hbm, 135, rfl⟩
abbrev main_v91 : Ref sig .tc := ⟨.hbm, 136, rfl⟩
abbrev main_cst_19 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_20 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_21 : Ref sig .tc := ⟨.hbm, 155, rfl⟩
abbrev main_call5_v0 : Ref sig .tc := ⟨.hbm, 156, rfl⟩
abbrev main_v108 : Ref sig .tc := ⟨.hbm, 157, rfl⟩
abbrev main_values_22 : Ref sig .tc := ⟨.hbm, 158, rfl⟩
abbrev main_indices_23 : Ref sig .tc := ⟨.hbm, 159, rfl⟩
abbrev main_c_24 : Ref sig .tc := ⟨.hbm, 160, rfl⟩
abbrev main_v109 : Ref sig .tc := ⟨.hbm, 161, rfl⟩
abbrev main_v110 : Ref sig .tc := ⟨.hbm, 162, rfl⟩
abbrev main_c_25 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_26 : Ref sig .tc := ⟨.hbm, 172, rfl⟩
abbrev main_v119 : Ref sig .tc := ⟨.hbm, 173, rfl⟩
abbrev main_v120 : Ref sig .tc := ⟨.hbm, 174, rfl⟩
abbrev main_c_27 : Ref sig .tc := ⟨.hbm, 175, rfl⟩
abbrev main_v121 : Ref sig .tc := ⟨.hbm, 176, rfl⟩
abbrev main_v122 : Ref sig .tc := ⟨.hbm, 177, rfl⟩
abbrev main_c_28 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_29 : Ref sig .tc := ⟨.hbm, 186, rfl⟩
abbrev main_v130 : Ref sig .tc := ⟨.hbm, 187, rfl⟩
abbrev main_cst_30 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_call6_v0 : Ref sig .tc := ⟨.hbm, 193, rfl⟩
abbrev main_v135 : Ref sig .tc := ⟨.hbm, 194, rfl⟩
abbrev main_v136 : Ref sig .tc := ⟨.hbm, 195, rfl⟩

abbrev nD : Nat := 1
abbrev τ : Topo := Topo.v7x

variable {F : FTy → Type} [FloatOps F]
-- ==== Proof.Twin.lean ====
/-
  The kernel and its ideal reading are the same program over any floats: their configurations, their bodies and the host's
  run agree, each by unfolding.
-/
module

public import proofs.«01_k».proof.Proof.Gen.Kernel
public import proofs.«01_k».proof.Proof.Gen.KernelIdeal

@[expose] public section

set_option maxRecDepth 65536
set_option maxHeartbeats 4000000

noncomputable section

namespace Cert.Twin

open Idealize.ShloMosaic Idealize.ShloMosaic.TcCoe Idealize.SL.Sem

variable {F : FTy → Type} [FloatOps F]

/-- The first call's set-up, and the second's. -/
theorem pcfg0_eq : Kernel.pcfg0 (F := F) = KernelIdeal.pcfg0 (F := F) := rfl
theorem pcfg1_eq : Kernel.pcfg1 (F := F) = KernelIdeal.pcfg1 (F := F) := rfl

/-- The two calls are set up alike. -/
theorem pcfgs_eq : Kernel.pcfgs (F := F) = KernelIdeal.pcfgs (F := F) := by
  funext i
  match i with
  | 0 => exact pcfg0_eq
  | 1 => exact pcfg1_eq

/-- The labels run the same bodies. -/
theorem defs0_eq : Kernel.defs₀ (F := F) = KernelIdeal.defs₀ (F := F) := by
  refine congrArg (Defs.onTc (nD := Kernel.nD) (τ := Kernel.τ) (sig := Kernel.sig) (Val := Elt F) (Λ := Kernel.Λ₀)) ?_
  funext l x
  match l, x with
  | 0, (t, s) => rfl
  | 1, (t, s) => rfl

/-- The body tables agree. -/
theorem defs_eq : HEq (Kernel.defs (F := F)) (KernelIdeal.defs (F := F)) := by
  unfold Kernel.defs
  rw [pcfgs_eq, defs0_eq]
  exact HEq.rfl

/-- The two halves of the host's run agree. -/
theorem part0_eq : HEq (@Kernel.main_part0 F _ _) (@KernelIdeal.main_part0 F _ _) := by
  unfold Kernel.main_part0 Kernel.fn_floor_divide.body Kernel.fn_where_0.body Kernel.fn_where.body
  rw [pcfgs_eq]
  exact HEq.rfl

theorem part1_eq : HEq (@Kernel.main_part1 F _ _) (@KernelIdeal.main_part1 F _ _) := by
  unfold Kernel.main_part1 Kernel.fn_floor_divide.body Kernel.fn_where_0.body Kernel.fn_where.body
  rw [pcfgs_eq]
  exact HEq.rfl

/-- One after the other, over equal configurations. -/
theorem seq_heq {pc pc' : Fin 2 → Pipeline.PCfg KernelIdeal.sig KernelIdeal.Λ₀ (Elt F)} (h : pc = pc')
    {A B : Dev KernelIdeal.nD → Prog (TpuEff KernelIdeal.nD KernelIdeal.τ KernelIdeal.sig (Elt F) (Pipeline.Sig KernelIdeal.Λ₀ (Fin 2) fun p => (pc p).Adm) .tc) PUnit}
    {A' B' : Dev KernelIdeal.nD → Prog (TpuEff KernelIdeal.nD KernelIdeal.τ KernelIdeal.sig (Elt F) (Pipeline.Sig KernelIdeal.Λ₀ (Fin 2) fun p => (pc' p).Adm) .tc) PUnit}
    (hA : HEq A A') (hB : HEq B B') : HEq (fun d => do A d; B d) (fun d => do A' d; B' d) := by
  subst h
  obtain rfl := eq_of_heq hA
  obtain rfl := eq_of_heq hB
  exact HEq.rfl

/-- The whole host programs agree. -/
theorem main_eq : HEq (Kernel.main (F := F)) (KernelIdeal.main (F := F)) :=
  seq_heq (pc := Kernel.pcfgs) (A := Kernel.main_part0) (B := Kernel.main_part1) pcfgs_eq part0_eq part1_eq

end Cert.Twin

end
-- ==== Proof.Trips.lean ====
/-
  The counted loops from a word `a` over `n` steps of one, for `a + n` small: how many trips they make, the induction
  variable as a number, and the slab offsets read at it.
-/
module

public import Idealize.ShloMosaic.Lib.LoopRemainder
public import Idealize.ShloMosaic.Lib.Tactic

@[expose] public section

namespace Cert.Trips

open Idealize.ShloMosaic

/-- The main loop from `a` over `n` steps. -/
@[reducible] def mainL (a n : BitVec 32) : Scf.Loop 32 :=
  ⟨a, Scalar.addi a (Scalar.muli (Scalar.divsi (Scalar.subi (Scalar.addi a n) a) 1#32) 1#32), 1#32⟩

/-- The loop over what the main loop leaves. -/
@[reducible] def remL (a n : BitVec 32) : Scf.Loop 32 :=
  ⟨Scalar.addi a (Scalar.muli (Scalar.divsi (Scalar.subi (Scalar.addi a n) a) 1#32) 1#32), Scalar.addi a (Scalar.subi (Scalar.addi a n) a), 1#32⟩

theorem mainL_eq (a n : BitVec 32) : mainL a n = ⟨a, a + n, 1#32⟩ := by
  unfold mainL
  rw [Scalar.muli_divsi_one]
  simp only [Scalar.addi, Scalar.subi, IntOp.addi, IntOp.subi]
  congr 1
  bv_omega

variable {a n : BitVec 32}

theorem main_trips (h : a.toNat + n.toNat ≤ 8) : (mainL a n).trips = n.toNat := by
  rw [mainL_eq]
  show Scf.trips a (a + n) 1#32 = n.toNat
  have h1 : (1#32 : BitVec 32).toInt = 1 := by decide
  have ha : a.toInt = a.toNat := by rw [BitVec.toInt_eq_toNat_of_lt (by omega)]
  have han : (a + n).toNat = a.toNat + n.toNat := by rw [BitVec.toNat_add]; omega
  have hb : (a + n).toInt = a.toNat + n.toNat := by rw [BitVec.toInt_eq_toNat_of_lt (by omega), han]; push_cast; rfl
  unfold Scf.trips
  rw [h1, ha, hb]
  omega

theorem main_ok (h : a.toNat + n.toNat ≤ 8) : (mainL a n).OK := by
  have ht := main_trips h
  rw [mainL_eq] at ht ⊢
  have h1 : (1#32 : BitVec 32).toInt = 1 := by decide
  have ha : a.toInt = a.toNat := by rw [BitVec.toInt_eq_toNat_of_lt (by omega)]
  show Scf.OK a (a + n) 1#32
  have ht' : Scf.trips a (a + n) 1#32 = n.toNat := ht
  unfold Scf.OK
  rw [ht', h1, ha]
  refine ⟨by omega, ?_⟩
  have h2 : (2 : ℤ) ^ (32 - 1) = 2147483648 := by decide
  rw [h2]
  omega

theorem rem_ok' : (remL a n).OK := Scf.rem_ok _ _
theorem rem_trips' : (remL a n).trips = 0 := Scf.rem_trips _ _

theorem iv_toNat (h : a.toNat + n.toNat ≤ 8) {k : ℕ} (hk : k < n.toNat) : (Scf.iv a 1#32 k).toNat = a.toNat + k := by
  unfold Scf.iv
  rw [BitVec.mul_one, BitVec.toNat_add, BitVec.toNat_ofNat]
  omega

/-- The offsets of slab `a + k`. -/
def slabOff (a : BitVec 32) (k : ℕ) : Fin 3 → ℕ := ![a.toNat + k, 0, 0]

theorem iv_off (h : a.toNat + n.toNat ≤ 8) (k : Fin (mainL a n).trips) : (![(Scf.iv a 1#32 k).toNat, 0, 0] : Fin 3 → ℕ) = slabOff a k.val := by
  have hk : k.val < n.toNat := lt_of_lt_of_eq k.isLt (main_trips h)
  rw [iv_toNat h hk]
  rfl

/-- A slab of the loop lies inside an array of `N` slabs. -/
theorem main_inb {N B C : ℕ} (h8 : a.toNat + n.toNat ≤ 8) (h : a.toNat + n.toNat ≤ N) (k : Fin (mainL a n).trips) :
    ∀ x, (![(Scf.iv a 1#32 k).toNat, 0, 0] : Fin 3 → ℕ) x + (![1, B, C] : Fin 3 → ℕ) x ≤ (![N, B, C] : Fin 3 → ℕ) x := by
  have hk : k.val < n.toNat := lt_of_lt_of_eq k.isLt (main_trips h8)
  rw [iv_toNat h8 hk]
  intro x
  fin_cases x <;> simp <;> omega

theorem no_trip (k : Fin (remL a n).trips) : False := Scf.rem_no_trip _ _ k

theorem apart {B C : ℕ} (a : BitVec 32) (j k : ℕ) (hjk : j ≠ k) :
    ∃ x : Fin 3, slabOff a j x + (![1, B, C] : Fin 3 → ℕ) x ≤ slabOff a k x ∨ slabOff a k x + (![1, B, C] : Fin 3 → ℕ) x ≤ slabOff a j x := by
  refine ⟨0, ?_⟩
  simp [slabOff]
  omega

end Cert.Trips
-- ==== Proof.KI.Range.lean ====
/-
  The side conditions the two calls assume of the tile range they read: they hold of every range that ends inside the
  tiles.
-/
module

public import proofs.«01_k».proof.Proof.Gen.KernelIdeal.Skeleton
public import proofs.«01_k».proof.Proof.Trips

@[expose] public section

set_option maxRecDepth 65536

namespace Cert.KernelIdeal

open Idealize.ShloMosaic Cert.Trips

theorem k0_chk1_0_holds {v1 v3 : BitVec 32} (h : v1.toNat + v3.toNat ≤ 8) : k0_chk1_0 v1 v3 :=
  ⟨main_ok h,
    fun k => main_inb h h k,
    fun k => main_inb h h k,
    fun k => main_inb h h k,
    rem_ok',
    fun k => (no_trip k).elim,
    fun k => (no_trip k).elim,
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim⟩

theorem k0_chk1_1_holds {v1 v3 : BitVec 32} (h : v1.toNat + v3.toNat ≤ 8) : k0_chk1_1 v1 v3 :=
  ⟨main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim⟩

theorem k0_chk1_2_holds {v1 v3 : BitVec 32} (h : v1.toNat + v3.toNat ≤ 8) : k0_chk1_2 v1 v3 :=
  ⟨main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim,
    main_ok h,
    fun k => main_inb h h k,
    rem_ok',
    fun k => (no_trip k).elim⟩

theorem k0_chk1_3_holds {v1 v3 : BitVec 32} (h : v1.toNat + v3.toNat ≤ 8) : k0_chk1_3 v1 v3 :=
  ⟨main_ok h,
    fun k => main_inb h h k,
    rem_ok',
    fun k => (no_trip k).elim,
    main_ok h,
    fun k => main_inb h h k,
    rem_ok',
    fun k => (no_trip k).elim,
    main_ok h,
    fun k => main_inb h h k,
    fun k => main_inb h h k,
    rem_ok',
    fun k => (no_trip k).elim,
    fun k => (no_trip k).elim⟩

/-- The side condition of call 1, of a range inside the tiles. -/
theorem k0_chk1_holds {v1 v3 : BitVec 32} (h : v1.toNat + v3.toNat ≤ 8) : k0_chk1 v1 v3 :=
  ⟨k0_chk1_0_holds h, k0_chk1_1_holds h, k0_chk1_2_holds h, k0_chk1_3_holds h⟩

theorem k1_chk1_0_holds {v1 v3 : BitVec 32} (h : v1.toNat + v3.toNat ≤ 4) : k1_chk1_0 v1 v3 :=
  ⟨main_ok (by omega),
    fun k => main_inb (by omega) h k,
    fun k => main_inb (by omega) h k,
    fun k => main_inb (by omega) h k,
    rem_ok',
    fun k => (no_trip k).elim,
    fun k => (no_trip k).elim,
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim⟩

theorem k1_chk1_1_holds {v1 v3 : BitVec 32} (h : v1.toNat + v3.toNat ≤ 4) : k1_chk1_1 v1 v3 :=
  ⟨main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim⟩

theorem k1_chk1_2_holds {v1 v3 : BitVec 32} (h : v1.toNat + v3.toNat ≤ 4) : k1_chk1_2 v1 v3 :=
  ⟨main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    rem_ok',
    fun k => (no_trip k).elim⟩

theorem k1_chk1_3_holds {v1 v3 : BitVec 32} (h : v1.toNat + v3.toNat ≤ 4) : k1_chk1_3 v1 v3 :=
  ⟨main_ok (by omega),
    fun k => main_inb (by omega) h k,
    rem_ok',
    fun k => (no_trip k).elim,
    main_ok (by omega),
    fun k => main_inb (by omega) h k,
    rem_ok',
    fun k => (no_trip k).elim,
    main_ok (by omega),
    fun k => main_inb (by omega) h k,
    fun k => main_inb (by omega) h k,
    rem_ok',
    fun k => (no_trip k).elim,
    fun k => (no_trip k).elim⟩

/-- The side condition of call 2, of a range inside the tiles. -/
theorem k1_chk1_holds {v1 v3 : BitVec 32} (h : v1.toNat + v3.toNat ≤ 4) : k1_chk1 v1 v3 :=
  ⟨k1_chk1_0_holds h, k1_chk1_1_holds h, k1_chk1_2_holds h, k1_chk1_3_holds h⟩

end Cert.KernelIdeal
-- ==== Proof.Slabs.lean ====
/-
  A scratch buffer used one slab at a time: loads and stores of slabs by value, and the counted loops that run over
  the slabs of a stretch `off 0, off 1, …` (a fold that only reads them, or a sweep that rewrites them one by one).
-/
module

public import Idealize.ShloMosaic.Lib.VecWindow
public import Idealize.ShloMosaic.Lib.LoopRemainder
public import Idealize.ShloMosaic.Lib.Tactic

@[expose] public section

noncomputable section

namespace Cert.Slabs

open Idealize.ShloMosaic
open Idealize.SL
open Idealize.SL.BI (sProp)
open scoped Idealize.SL.BI
open Idealize.SL.BI.BIBase Idealize.SL.BI.Laws Idealize.SL.Sem Idealize.SL.ProofMode
open Idealize.SL.RA

/-- The first `n` steps of a fold. -/
def foldN {σ : Type} (g : ℕ → σ → σ) : ℕ → σ → σ
  | 0, a => a
  | n + 1, a => g n (foldN g n a)

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

local notation "𝕄" => MT nD τ sig Ix Val Name U Lvl

/-- A load through a unit rectangle reads that window of the values the memref is held at. -/
theorem load_owns {cs : CoreSpace} {m : Memref sig c.2.kind cs s e} {off off' size : Fin s.rank → ℕ}
    {inb : ∀ a, off a + size a ≤ s.size a} (h : off = off') (inb' : ∀ a, off' a + size a ≤ s.size a)
    {hl : m.view.LoadsAt (Rect.unit off size inb).toLoadRect} {q : PosShare TreeShare} {X : s.Idx → Val e}
    {k : ((Rect.unit off size inb).toLoadRect.shape.Idx → Val e) → Prog (TpuEff nD τ sig Val Λ c.2) α} :
    (owns c m q X : sProp 𝕄) ⊢ iprop((owns c m q X -∗ wp frame (wpE defs 𝒱 c bd) E (k (VecWindow.window X off' size inb')) Q)
      -∗ wp frame (wpE defs 𝒱 c bd) E (Prog.lift (.load m (Rect.unit off size inb).toLoadRect hl) >>= k) Q) := by
  unfold owns
  iintro ⟨%f, %hf, H⟩ HK
  iapply (wp_load 𝒱 c bd E (Q := Q) (hl := hl) (k := k) (f := f) (S := m.view.set) (m.view.setOn_subset_set _)) $$ [H]
  · iexact H
  iintro H
  rw [View.readAt_unit m.view f inb h inb', hf]
  iapply HK
  iexists f
  isplitr
  · ipureintro; exact hf
  iexact H

/-- A store through a unit rectangle leaves the values with the payload put there. -/
theorem store_owns {cs : CoreSpace} {m : Memref sig c.2.kind cs s e} {off off' size : Fin s.rank → ℕ}
    {inb : ∀ a, off a + size a ≤ s.size a} (h : off = off')
    {w : (Rect.unit off size inb).shape.Idx → Val e} {hx : (m.access (Rect.unit off size inb)).Stores Finset.univ}
    {hm : Finset.univ = Finset.univ ∨ ∀ a, (Rect.unit off size inb).stride a = 1} {X : s.Idx → Val e}
    {k : PUnit → Prog (TpuEff nD τ sig Val Λ c.2) α} :
    (owns c m fullShare X : sProp 𝕄) ⊢ iprop((owns c m fullShare (VecWindow.put X off' size w) -∗ wp frame (wpE defs 𝒱 c bd) E (k ⟨⟩) Q)
      -∗ wp frame (wpE defs 𝒱 c bd) E (Prog.lift (.store m (Rect.unit off size inb) w Finset.univ hx hm) >>= k) Q) := by
  unfold owns
  iintro ⟨%f, %hf, H⟩ HK
  iapply (wp_store_writes₀ 𝒱 c bd E (Q := Q) (hx := hx) (hm := hm) (k := k) (f := f) (S := m.view.set) (m.view.set_slice_subset _)) $$ [H]
  · iexact H
  iintro H
  iapply HK
  iexists _
  isplitr; swap
  · iexact H
  · ipureintro
    rw [View.read_writes_cons_put m.view f inb w [] h, View.writes_nil, hf]

/-- The memref holds some values whose window at `off k` is `C k`, for every `k` below `n`. -/
def Slabs {sp : Space} (m : Memref sig c.2.kind sp s e) (size : Fin s.rank → ℕ) (off : ℕ → Fin s.rank → ℕ) (n : ℕ)
    (C : ℕ → ((a : Fin s.rank) → Fin (size a)) → Val e) : sProp 𝕄 :=
  iprop(∃ X, owns c m fullShare X ∗ ⌜∀ k < n, ∀ inb : ∀ a, off k a + size a ≤ s.size a, VecWindow.window X (off k) size inb = C k⌝)

/-- Different slabs lie apart. -/
def Apart (s : Shape) (size : Fin s.rank → ℕ) (off : ℕ → Fin s.rank → ℕ) : Prop :=
  ∀ j k : ℕ, j ≠ k → ∃ a, off j a + size a ≤ off k a ∨ off k a + size a ≤ off j a

section Slab

variable {cs : CoreSpace} {m : Memref sig c.2.kind cs s e} {size : Fin s.rank → ℕ} {off : ℕ → Fin s.rank → ℕ} {n : ℕ}
  {C : ℕ → ((a : Fin s.rank) → Fin (size a)) → Val e}

/-- No slab is claimed of any values. -/
theorem slabs_zero : iprop(∃ X, owns c m fullShare X) ⊢ (Slabs c m size off 0 C : sProp 𝕄) := by
  unfold Slabs
  iintro ⟨%X, H⟩
  iexists X
  isplitl [H]
  · iexact H
  ipureintro
  intro k hk
  exact absurd hk (Nat.not_lt_zero k)

/-- The values are forgotten. -/
theorem slabs_forget : (Slabs c m size off n C : sProp 𝕄) ⊢ iprop(∃ X, owns c m fullShare X) := by
  unfold Slabs
  iintro ⟨%X, H, %hX⟩
  iexists X
  iexact H

/-- A load of one slab. -/
theorem load_slab {k : ℕ} (hk : k < n) {o : Fin s.rank → ℕ} {inb : ∀ a, o a + size a ≤ s.size a} (h : o = off k)
    {hl : m.view.LoadsAt (Rect.unit o size inb).toLoadRect}
    {kk : ((Rect.unit o size inb).toLoadRect.shape.Idx → Val e) → Prog (TpuEff nD τ sig Val Λ c.2) α} :
    (Slabs c m size off n C : sProp 𝕄) ⊢ iprop((Slabs c m size off n C -∗ wp frame (wpE defs 𝒱 c bd) E (kk (C k)) Q)
      -∗ wp frame (wpE defs 𝒱 c bd) E (Prog.lift (.load m (Rect.unit o size inb).toLoadRect hl) >>= kk) Q) := by
  unfold Slabs
  iintro ⟨%X, H, %hX⟩ HK
  have inb' : ∀ a, off k a + size a ≤ s.size a := by rw [← h]; exact inb
  iapply (load_owns 𝒱 c bd E h inb') $$ [H]
  · iexact H
  iintro H
  rw [hX k hk inb']
  iapply HK
  iexists X
  isplitl [H]
  · iexact H
  ipureintro; exact hX

/-- A load whose value is not used. -/
theorem load_dead {o : Fin s.rank → ℕ} {inb : ∀ a, o a + size a ≤ s.size a}
    {hl : m.view.LoadsAt (Rect.unit o size inb).toLoadRect} {p : Prog (TpuEff nD τ sig Val Λ c.2) α} :
    (Slabs c m size off n C : sProp 𝕄) ⊢ iprop((Slabs c m size off n C -∗ wp frame (wpE defs 𝒱 c bd) E p Q)
      -∗ wp frame (wpE defs 𝒱 c bd) E (Prog.lift (.load m (Rect.unit o size inb).toLoadRect hl) >>= fun _ => p) Q) := by
  unfold Slabs
  iintro ⟨%X, H, %hX⟩ HK
  iapply (load_owns 𝒱 c bd E rfl inb) $$ [H]
  · iexact H
  iintro H
  iapply HK
  iexists X
  isplitl [H]
  · iexact H
  ipureintro; exact hX

/-- A store of one slab. -/
theorem store_slab (hs : Apart s size off) {k : ℕ} {o : Fin s.rank → ℕ} {inb : ∀ a, o a + size a ≤ s.size a} (h : o = off k)
    {w : (Rect.unit o size inb).shape.Idx → Val e} {hx : (m.access (Rect.unit o size inb)).Stores Finset.univ}
    {hm : Finset.univ = Finset.univ ∨ ∀ a, (Rect.unit o size inb).stride a = 1}
    {C' : ℕ → ((a : Fin s.rank) → Fin (size a)) → Val e} {n' : ℕ} (hw : w = C' k) (hC : ∀ j < n', j ≠ k → j < n ∧ C j = C' j)
    {kk : PUnit → Prog (TpuEff nD τ sig Val Λ c.2) α} :
    (Slabs c m size off n C : sProp 𝕄) ⊢ iprop((Slabs c m size off n' C' -∗ wp frame (wpE defs 𝒱 c bd) E (kk ⟨⟩) Q)
      -∗ wp frame (wpE defs 𝒱 c bd) E (Prog.lift (.store m (Rect.unit o size inb) w Finset.univ hx hm) >>= kk) Q) := by
  unfold Slabs
  iintro ⟨%X, H, %hX⟩ HK
  iapply (store_owns 𝒱 c bd E h) $$ [H]
  · iexact H
  iintro H
  iapply HK
  iexists _
  isplitl [H]
  · iexact H
  ipureintro
  intro j hj inbj
  by_cases hjk : j = k
  · subst hjk
    rw [← hw]
    exact VecWindow.window_put_same _ _ _ _ _
  · obtain ⟨hjn, hCj⟩ := hC j hj hjk
    obtain ⟨a, ha⟩ := hs j k hjk
    rw [← hCj, ← hX j hjn inbj]
    exact VecWindow.window_put_of_disjoint _ _ _ _ _ _ _ a ha

end Slab

/-! ## Counted loops at the head of a program -/

section Loops

variable {σ : Type} (L : Scf.Loop 32) (hok : L.OK) (init : σ) (body : Fin L.trips → σ → Prog (TpuEff nD τ sig Val Λ c.2) σ)
  {kk : σ → Prog (TpuEff nD τ sig Val Λ c.2) α}

/-- A loop of no trips. -/
theorem rem_bind (htr : L.trips = 0) :
    wp frame (wpE defs 𝒱 c bd) E (kk init) Q ⊢ (wp frame (wpE defs 𝒱 c bd) E (Scf.Loop.for L hok init body >>= kk) Q : sProp 𝕄) := by
  have h : Scf.Loop.for L hok init body = .ret init := Scf.for_eq_ret _ _ _ hok init body htr
  rw [h]
  exact .rfl

/-- A loop whose trips leave the resources `R` as they were and apply `g` to what is carried. -/
theorem fold_bind (n : ℕ) (htr : L.trips = n) (g : ℕ → σ → σ) (R : sProp 𝕄)
    (hb : ∀ (k : Fin L.trips) (acc : σ), R ⊢ wp frame (wpE defs 𝒱 c bd) E (body k acc) (fun r => iprop(⌜r = g k.val acc⌝ ∗ R))) :
    R ⊢ iprop((R -∗ wp frame (wpE defs 𝒱 c bd) E (kk (foldN g n init)) Q)
      -∗ wp frame (wpE defs 𝒱 c bd) E (Scf.Loop.for L hok init body >>= kk) Q) := by
  subst htr
  have step : ∀ (k : Fin L.trips) (acc : σ), iprop(⌜acc = foldN g k.val init⌝ ∗ R)
      ⊢ wp frame (wpE defs 𝒱 c bd) E (body k acc) (fun acc' => iprop(⌜acc' = foldN g (k.val + 1) init⌝ ∗ R)) := fun k acc => by
    iintro ⟨%hacc, HR⟩
    subst hacc
    iapply (wp_wand_r frame (wpE defs 𝒱 c bd) E)
    isplitl [HR]
    · iapply (hb k _); iexact HR
    · iintro %r ⟨%hr, HR⟩
      isplitr
      · ipureintro; exact hr
      iexact HR
  iintro HR HK
  iapply (Scf.wp_for_bind frame (wpE defs 𝒱 c bd) E L.lb L.ub L.st hok init body
    (fun k acc => iprop(⌜acc = foldN g k init⌝ ∗ R)) step (kk := kk) (Q := Q)) $$ [HR]
  · isplitr
    · ipureintro; rfl
    iexact HR
  · iintro %acc ⟨%hacc, HR⟩
    subst hacc
    iapply HK
    iexact HR

/-- A loop whose trip `k` takes `I k` to `I (k + 1)` and carries `z` on, whatever it is handed. -/
theorem sweep_bind (n : ℕ) (htr : L.trips = n) (I : ℕ → sProp 𝕄) (z : σ)
    (hb : ∀ (k : Fin L.trips) (acc : σ), I k.val ⊢ wp frame (wpE defs 𝒱 c bd) E (body k acc) (fun r => iprop(⌜r = z⌝ ∗ I (k.val + 1)))) :
    I 0 ⊢ iprop((I n -∗ wp frame (wpE defs 𝒱 c bd) E (kk (foldN (fun _ _ => z) n init)) Q)
      -∗ wp frame (wpE defs 𝒱 c bd) E (Scf.Loop.for L hok init body >>= kk) Q) := by
  subst htr
  have step : ∀ (k : Fin L.trips) (acc : σ), iprop(⌜acc = foldN (fun _ _ => z) k.val init⌝ ∗ I k.val)
      ⊢ wp frame (wpE defs 𝒱 c bd) E (body k acc) (fun acc' => iprop(⌜acc' = foldN (fun _ _ => z) (k.val + 1) init⌝ ∗ I (k.val + 1))) := fun k acc => by
    iintro ⟨-, HR⟩
    iapply (hb k acc)
    iexact HR
  iintro HR HK
  iapply (Scf.wp_for_bind frame (wpE defs 𝒱 c bd) E L.lb L.ub L.st hok init body
    (fun k acc => iprop(⌜acc = foldN (fun _ _ => z) k init⌝ ∗ I k)) step (kk := kk) (Q := Q)) $$ [HR]
  · isplitr
    · ipureintro; rfl
    iexact HR
  · iintro %acc ⟨%hacc, HR⟩
    subst hacc
    iapply HK
    iexact HR

end Loops

/-! ## The loops of a search -/

section Search

variable {cs : CoreSpace} {m : Memref sig c.2.kind cs s e} {size : Fin s.rank → ℕ} {off : ℕ → Fin s.rank → ℕ}
  {C : ℕ → ((a : Fin s.rank) → Fin (size a)) → Val e}
  {σ : Type} {L : Scf.Loop 32} {hok : L.OK} {init : σ} {body : Fin L.trips → σ → Prog (TpuEff nD τ sig Val Λ c.2) σ}
  {kk : σ → Prog (TpuEff nD τ sig Val Λ c.2) α}

/-- A loop that reads the slabs in turn and folds `g` over them. -/
theorem read_fold (n : ℕ) (htr : L.trips = n) (g : ℕ → σ → (((a : Fin s.rank) → Fin (size a)) → Val e) → σ)
    {o : Fin L.trips → Fin s.rank → ℕ} {inb : ∀ k a, o k a + size a ≤ s.size a} (ho : ∀ k : Fin L.trips, o k = off k.val)
    {hl : ∀ k, m.view.LoadsAt (Rect.unit (o k) size (inb k)).toLoadRect}
    (hbody : ∀ k acc, body k acc = (Prog.lift (.load m (Rect.unit (o k) size (inb k)).toLoadRect (hl k)) >>= fun v => pure (g k.val acc v))) :
    (Slabs c m size off n C : sProp 𝕄) ⊢ iprop((Slabs c m size off n C -∗ wp frame (wpE defs 𝒱 c bd) E (kk (foldN (fun k a => g k a (C k)) n init)) Q)
      -∗ wp frame (wpE defs 𝒱 c bd) E (Scf.Loop.for L hok init body >>= kk) Q) := by
  refine fold_bind 𝒱 c bd E L hok init body n htr (fun k a => g k a (C k)) _ fun k acc => ?_
  rw [hbody k acc]
  iintro H
  iapply (load_slab 𝒱 c bd E (lt_of_lt_of_eq k.isLt htr) (ho k)) $$ [H]
  · iexact H
  iintro H
  rw [wp_pure]
  iapply BI.fupd_intro
  isplitr
  · ipureintro; rfl
  iexact H

/-- A loop that rewrites the slabs in turn, each from its own values. -/
theorem rewrite_sweep (n : ℕ) (htr : L.trips = n) (h : ℕ → (((a : Fin s.rank) → Fin (size a)) → Val e) → ((a : Fin s.rank) → Fin (size a)) → Val e)
    (hs : Apart s size off) (C' : ℕ → ((a : Fin s.rank) → Fin (size a)) → Val e) (hC : ∀ k, C' k = h k (C k))
    {o : Fin L.trips → Fin s.rank → ℕ} {inb : ∀ k a, o k a + size a ≤ s.size a} (ho : ∀ k : Fin L.trips, o k = off k.val)
    {hl hl' : ∀ k, m.view.LoadsAt (Rect.unit (o k) size (inb k)).toLoadRect}
    {hx : ∀ k, (m.access (Rect.unit (o k) size (inb k))).Stores Finset.univ}
    {hm : ∀ k, Finset.univ = Finset.univ ∨ ∀ a, (Rect.unit (o k) size (inb k)).stride a = 1} (z : σ)
    (hbody : ∀ k acc, body k acc = (Prog.lift (.load m (Rect.unit (o k) size (inb k)).toLoadRect (hl k)) >>= fun v =>
      Prog.lift (.load m (Rect.unit (o k) size (inb k)).toLoadRect (hl' k)) >>= fun _ =>
      Prog.lift (.store m (Rect.unit (o k) size (inb k)) (h k.val v) Finset.univ (hx k) (hm k)) >>= fun _ => pure z)) :
    (Slabs c m size off n C : sProp 𝕄) ⊢ iprop((Slabs c m size off n C' -∗ wp frame (wpE defs 𝒱 c bd) E (kk (foldN (fun _ _ => z) n init)) Q)
      -∗ wp frame (wpE defs 𝒱 c bd) E (Scf.Loop.for L hok init body >>= kk) Q) := by
  have hb : ∀ (k : Fin L.trips) (acc : σ), (Slabs c m size off n (fun j => if j < k.val then C' j else C j) : sProp 𝕄)
      ⊢ wp frame (wpE defs 𝒱 c bd) E (body k acc) (fun r => iprop(⌜r = z⌝ ∗ Slabs c m size off n (fun j => if j < k.val + 1 then C' j else C j))) := fun k acc => by
    rw [hbody k acc]
    iintro H
    iapply (load_slab 𝒱 c bd E (lt_of_lt_of_eq k.isLt htr) (ho k)) $$ [H]
    · iexact H
    iintro H
    iapply (load_dead 𝒱 c bd E) $$ [H]
    · iexact H
    iintro H
    iapply (store_slab 𝒱 c bd E (n' := n) (C := fun j => if j < k.val then C' j else C j) (C' := fun j => if j < k.val + 1 then C' j else C j) hs (ho k) (by simp [hC]) (fun j hj hjk => ⟨hj, by
      by_cases h1 : j < k.val
      · simp only [if_pos h1, if_pos (show j < k.val + 1 by omega)]
      · simp only [if_neg h1, if_neg (show ¬ j < k.val + 1 by omega)]⟩)) $$ [H]
    · iexact H
    iintro H
    rw [wp_pure]
    iapply BI.fupd_intro
    isplitr
    · ipureintro; rfl
    iexact H
  have h0 : (Slabs c m size off n C : sProp 𝕄) = Slabs c m size off n (fun j => if j < 0 then C' j else C j) := by simp
  have h1 : (Slabs c m size off n (fun j => if j < n then C' j else C j) : sProp 𝕄) ⊢ Slabs c m size off n C' := by
    unfold Slabs
    iintro ⟨%X, H, %hX⟩
    iexists X
    isplitl [H]
    · iexact H
    ipureintro
    intro k hk inb
    rw [hX k hk inb]
    exact if_pos hk
  rw [h0]
  iintro H HK
  iapply (sweep_bind 𝒱 c bd E L hok init body n htr (fun k => Slabs c m size off n (fun j => if j < k then C' j else C j)) z hb) $$ [H]
  · iexact H
  iintro H
  iapply HK
  iapply h1
  iexact H

end Search

/-! ## Pieces of a program -/

/-- A piece of a program that ends at the value `z`, before the rest. -/
theorem run_bind {β : Type} {p : Prog (TpuEff nD τ sig Val Λ c.2) β} {z : β} {R R' : sProp 𝕄} {kk : β → Prog (TpuEff nD τ sig Val Λ c.2) α}
    (hp : R ⊢ wp frame (wpE defs 𝒱 c bd) E p (fun r => iprop(⌜r = z⌝ ∗ R'))) :
    R ⊢ iprop((R' -∗ wp frame (wpE defs 𝒱 c bd) E (kk z) Q) -∗ wp frame (wpE defs 𝒱 c bd) E (p >>= kk) Q) := by
  iintro HR HK
  rw [wp_bind]
  iapply (wp_wand_r frame (wpE defs 𝒱 c bd) E)
  isplitl [HR]
  · iapply hp; iexact HR
  iintro %r ⟨%hr, HR⟩
  subst hr
  iapply HK
  iexact HR

/-- The word of a table at a rectangle of one element. -/
def wordAt {α : Type} (t : s.Idx → α) (r : Rect s) (h1 : r.shape.numel = 1) : α := t (r.emb (Shape.Idx.first (h1.symm ▸ Nat.one_pos)))

/-- A load of one word of scalar memory. -/
theorem smem_owns {m : Memref sig c.2.kind .smem s e} {r : Rect s} {h1 : r.shape.numel = 1} {hp : e.packing = 1} {q : PosShare TreeShare} {X : s.Idx → Val e}
    {k : Val e → Prog (TpuEff nD τ sig Val Λ c.2) α} {v : Val e} (hv : wordAt X r h1 = v) :
    (owns c m q X : sProp 𝕄) ⊢ iprop((owns c m q X -∗ wp frame (wpE defs 𝒱 c bd) E (k v) Q)
      -∗ wp frame (wpE defs 𝒱 c bd) E (smemLoad m r h1 hp >>= k) Q) := by
  unfold owns
  iintro ⟨%f, %hf, H⟩ HK
  iapply (wp_smemLoadElt 𝒱 c bd E (m := m) (r := r) (Q := Q) (hw := View.loads_smem_one hp h1) (k := k) (f := f) (S := m.view.set) (m.view.set_slice_subset _)) $$ [H]
  · iexact H
  iintro H
  have h : (m.access r).read Val f (Shape.Idx.first (h1.symm ▸ Nat.one_pos)) = v := by subst hf; exact hv
  rw [h]
  iapply HK
  iexists f
  isplitr
  · ipureintro; exact hf
  iexact H

/-- A window of the whole is the whole. -/
theorem window_full {α : Type} (x : s.Idx → α) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))

/-- A load of all the values a memref is held at. -/
theorem load_full {cs : CoreSpace} {m : Memref sig c.2.kind cs s e} {off : Fin s.rank → ℕ} {inb : ∀ a, off a + s.size a ≤ s.size a}
    {hl : m.view.LoadsAt (Rect.unit off s.size inb).toLoadRect} {q : PosShare TreeShare} {X : s.Idx → Val e}
    {k : (s.Idx → Val e) → Prog (TpuEff nD τ sig Val Λ c.2) α} :
    (owns c m q X : sProp 𝕄) ⊢ iprop((owns c m q X -∗ wp frame (wpE defs 𝒱 c bd) E (k X) Q)
      -∗ wp frame (wpE defs 𝒱 c bd) E (Prog.lift (.load m (Rect.unit off s.size inb).toLoadRect hl) >>= k) Q) := by
  have h := load_owns 𝒱 c bd E (m := m) (hl := hl) (q := q) (X := X) (Q := Q) (k := k) (defs := defs) (Ix := Ix) (Name := Name) (U := U) (Lvl := Lvl) rfl inb
  rw [window_full X inb] at h
  exact h

/-- The window of `x` at `off`, or `d` everywhere where it does not fit. -/
def winD {α : Type} (d : α) (x : s.Idx → α) (off size : Fin s.rank → ℕ) : ((a : Fin s.rank) → Fin (size a)) → α :=
  open Classical in if h : ∀ a, off a + size a ≤ s.size a then VecWindow.window x off size h else fun _ => d

/-- A load of a window. -/
theorem load_win {cs : CoreSpace} {m : Memref sig c.2.kind cs s e} {off off' size : Fin s.rank → ℕ} (d : Val e)
    {inb : ∀ a, off a + size a ≤ s.size a} (h : off = off')
    {hl : m.view.LoadsAt (Rect.unit off size inb).toLoadRect} {q : PosShare TreeShare} {X : s.Idx → Val e}
    {k : ((Rect.unit off size inb).toLoadRect.shape.Idx → Val e) → Prog (TpuEff nD τ sig Val Λ c.2) α} :
    (owns c m q X : sProp 𝕄) ⊢ iprop((owns c m q X -∗ wp frame (wpE defs 𝒱 c bd) E (k (winD d X off' size)) Q)
      -∗ wp frame (wpE defs 𝒱 c bd) E (Prog.lift (.load m (Rect.unit off size inb).toLoadRect hl) >>= k) Q) := by
  subst h
  have e : winD d X off size = VecWindow.window X off size inb := dif_pos inb
  rw [e]
  exact load_owns 𝒱 c bd E rfl inb

end Cert.Slabs

end
-- ==== Proof.KI.Search.lean ====
/-
  The arithmetic of a search: eight rounds over the slabs of scores. A round takes the greatest score of every row, the
  least position that attains it, and writes −∞ there; the accumulation then takes the entries that hold −∞.
-/
module

public import proofs.«01_k».proof.Proof.KI.Range
public import proofs.«01_k».proof.Proof.Slabs

@[expose] public section

set_option maxRecDepth 65536

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slabs Cert.Trips
open Cert.KernelIdeal.Gen

variable {F : FTy → Type} [FloatOps F]

local notation "𝕄" => MT nD τ sig Unit (Elt F) ℕ (UR sig nD τ) ℕ

/-- A slab of scores. -/
abbrev Slab (F : FTy → Type) : Type := Vec F S1x256x1024 .f32

/-- The positions within a slab. -/
def pos : IVec S256x1024 32 := iota .tc S256x1024 32 [1] iota_S256x1024_d1_w32

/-- The positions within the whole array of a slab's entries, slab `t`. -/
def posAt (t : BitVec 32) : IVec S256x1024 32 := addi pos (broadcast S256x1024 (Scalar.muli t 1024#32))

/-- The least position of slab `t` at which the row attains `m`, against the least so far. -/
def locP (t : BitVec 32) (m : FVec F S256x1 .f32) (acc : IVec S256x1 32) (v : Slab F) : IVec S256x1 32 :=
  minsi acc (shapeCast S256x1 (multiReductionI .minsi [1] S256
    (select (cmpf .oeq (shapeCast S256x1024 v shapeCasts_S1x256x1024_S256x1024) (broadcastTo S256x1024 m broadcasts_S256x1_S256x1024))
      (posAt t) (broadcast S256x1024 1073741824#32))
    2147483647#32 reduces_S256x1024_S256 rfl) shapeCasts_S256_S256x1)

/-- Slab `t` with −∞ at the row's position `idx`. -/
def conP (t : BitVec 32) (idx : IVec S256x1 32) (v : Slab F) : Slab F :=
  shapeCast S1x256x1024 (select (cmpi .eq (posAt t) (broadcastTo S256x1024 idx broadcasts_S256x1_S256x1024))
    (broadcast S256x1024 (Scalar.ofBits (F := F) .f32 0xFF800000#32))
    (shapeCast S256x1024 v shapeCasts_S1x256x1024_S256x1024)) shapeCasts_S256x1024_S1x256x1024

/-- The greatest score of every row over the first `n` slabs. -/
def mOf (n : ℕ) (C : ℕ → Slab F) : FVec F S256x1 .f32 := foldN (fun k a => k0_pay10 a (C k)) n k0_pay9

/-- Where it is attained first. -/
def iOf (a : BitVec 32) (n : ℕ) (m : FVec F S256x1 .f32) (C : ℕ → Slab F) : IVec S256x1 32 :=
  foldN (fun k acc => locP (Scf.iv a 1#32 k) m acc (C k)) n k0_pay12

/-- The slabs with −∞ at the positions `idx`. -/
def conC (a : BitVec 32) (idx : IVec S256x1 32) (C : ℕ → Slab F) : ℕ → Slab F := fun k => conP (Scf.iv a 1#32 k) idx (C k)

/-- The slabs after `r` rounds. -/
def cR (a : BitVec 32) (n : ℕ) (C : ℕ → Slab F) : ℕ → ℕ → Slab F
  | 0 => C
  | r + 1 => conC a (iOf a n (mOf n (cR a n C r)) (cR a n C r)) (cR a n C r)

/-- The greatest score in round `r`. -/
def mR (a : BitVec 32) (n : ℕ) (C : ℕ → Slab F) (r : ℕ) : FVec F S256x1 .f32 := mOf n (cR a n C r)

/-- The position found in round `r`. -/
def iR (a : BitVec 32) (n : ℕ) (C : ℕ → Slab F) (r : ℕ) : IVec S256x1 32 := iOf a n (mR a n C r) (cR a n C r)

/-- The four sums over the entries that hold −∞. -/
def accOf (n : ℕ) (C S : ℕ → Slab F) (R : ℕ → Vec F S1x4x1024 .f32) :
    FVec F S256x1 .f32 × FVec F S256x1 .f32 × FVec F S256x1 .f32 × FVec F S256x1 .f32 :=
  foldN (fun k a => (k0_pay76 a.1 (C k) (S k), k0_pay77 a.2.1 (C k) (S k) (R k), k0_pay78 a.2.2.1 (C k) (S k) (R k), k0_pay79 a.2.2.2 (C k) (S k) (R k)))
    n (k0_pay73, k0_pay73, k0_pay73, k0_pay73)

/-- Where the main loop over the range ends, as the kernel computes it. -/
abbrev mid (a n : BitVec 32) : BitVec 32 := Scalar.addi a (Scalar.muli (Scalar.divsi (Scalar.subi (Scalar.addi a n) a) 1#32) 1#32)

/-! ## The loops of a round -/

section Round

variable {N : ℕ} (c : Dev nD) {m : Memref sig .tc .vmem ⟨3, ![N, 256, 1024]⟩ .f32} {v1 v3 : BitVec 32}
  (C : ℕ → Slab F) (r : ℕ) (E : Set ℕ)

/-- The slabs of a scratch buffer after `r` rounds over the range from `v1` of `v3` slabs. -/
def Held (m : Memref sig .tc .vmem ⟨3, ![N, 256, 1024]⟩ .f32) (v1 v3 : BitVec 32) (C : ℕ → Slab F) (r : ℕ) : sProp 𝕄 :=
  Slabs (c : Thread nD τ) m (![1, 256, 1024] : Fin 3 → ℕ) (slabOff v1) v3.toNat (cR v1 v3.toNat C r)

variable {o : Fin (mainL v1 v3).trips → Fin 3 → ℕ} {inb : ∀ k a, o k a + (![1, 256, 1024] : Fin 3 → ℕ) a ≤ (![N, 256, 1024] : Fin 3 → ℕ) a}

/-- The loop that takes the greatest score. -/
theorem max_step {α : Type} {Q : α → sProp 𝕄} (h : v1.toNat + v3.toNat ≤ 8) {hok : (mainL v1 v3).OK} {body : Fin (mainL v1 v3).trips → FVec F S256x1 .f32 → Prog (TpuEff nD τ sig (Elt F) Λ₀ .tc) (FVec F S256x1 .f32)}
    {kk : FVec F S256x1 .f32 → Prog (TpuEff nD τ sig (Elt F) Λ₀ .tc) α}
    {hl : ∀ k, m.view.LoadsAt (Rect.unit (s := ⟨3, ![N, 256, 1024]⟩) (o k) ![1, 256, 1024] (inb k)).toLoadRect}
    (ho : ∀ k : Fin (mainL v1 v3).trips, o k = ![(Scf.iv v1 1#32 k).toNat, 0, 0])
    (hbody : ∀ k acc, body k acc = (Prog.lift (.load m (Rect.unit (s := ⟨3, ![N, 256, 1024]⟩) (o k) ![1, 256, 1024] (inb k)).toLoadRect (hl k)) >>= fun v => pure (k0_pay10 acc v))) :
    (Held c m v1 v3 C r : sProp 𝕄) ⊢ iprop((Held c m v1 v3 C r -∗ wp frame (wpE (defs₀ (F := F)) Variants.none c none) E (kk (mR v1 v3.toNat C r)) Q)
      -∗ wp frame (wpE (defs₀ (F := F)) Variants.none c none) E (Scf.Loop.for (mainL v1 v3) hok k0_pay9 body >>= kk) Q) := by
  unfold Held
  exact read_fold (Val := Elt F) (size := ![1, 256, 1024]) Variants.none (c : Thread nD τ) none E (m := m) (body := body) (o := o) (inb := inb) (hl := hl) v3.toNat (main_trips h) (fun _ a v => k0_pay10 a v) (fun k => (ho k).trans (iv_off h k)) hbody

/-- The loop that finds where the row attains `mR`. -/
theorem loc_step {α : Type} {Q : α → sProp 𝕄} (h : v1.toNat + v3.toNat ≤ 8) {hok : (mainL v1 v3).OK} {body : Fin (mainL v1 v3).trips → IVec S256x1 32 → Prog (TpuEff nD τ sig (Elt F) Λ₀ .tc) (IVec S256x1 32)}
    {kk : IVec S256x1 32 → Prog (TpuEff nD τ sig (Elt F) Λ₀ .tc) α}
    {hl : ∀ k, m.view.LoadsAt (Rect.unit (s := ⟨3, ![N, 256, 1024]⟩) (o k) ![1, 256, 1024] (inb k)).toLoadRect}
    (ho : ∀ k : Fin (mainL v1 v3).trips, o k = ![(Scf.iv v1 1#32 k).toNat, 0, 0])
    (hbody : ∀ k acc, body k acc = (Prog.lift (.load m (Rect.unit (s := ⟨3, ![N, 256, 1024]⟩) (o k) ![1, 256, 1024] (inb k)).toLoadRect (hl k)) >>= fun v =>
      pure (locP (Scf.iv v1 1#32 k) (mR v1 v3.toNat C r) acc v))) :
    (Held c m v1 v3 C r : sProp 𝕄) ⊢ iprop((Held c m v1 v3 C r -∗ wp frame (wpE (defs₀ (F := F)) Variants.none c none) E (kk (iR v1 v3.toNat C r)) Q)
      -∗ wp frame (wpE (defs₀ (F := F)) Variants.none c none) E (Scf.Loop.for (mainL v1 v3) hok k0_pay12 body >>= kk) Q) := by
  unfold Held
  exact read_fold (Val := Elt F) (size := ![1, 256, 1024]) Variants.none (c : Thread nD τ) none E (m := m) (body := body) (o := o) (inb := inb) (hl := hl) v3.toNat (main_trips h) (fun k a v => locP (Scf.iv v1 1#32 k) (mR v1 v3.toNat C r) a v)
    (fun k => (ho k).trans (iv_off h k)) hbody

/-- The loop that writes −∞ there. -/
theorem con_step {α : Type} {Q : α → sProp 𝕄} (h : v1.toNat + v3.toNat ≤ 8) {hok : (mainL v1 v3).OK} {init : BitVec 32} {body : Fin (mainL v1 v3).trips → BitVec 32 → Prog (TpuEff nD τ sig (Elt F) Λ₀ .tc) (BitVec 32)}
    {kk : BitVec 32 → Prog (TpuEff nD τ sig (Elt F) Λ₀ .tc) α}
    {hl hl' : ∀ k, m.view.LoadsAt (Rect.unit (s := ⟨3, ![N, 256, 1024]⟩) (o k) ![1, 256, 1024] (inb k)).toLoadRect}
    {hx : ∀ k, (m.access (Rect.unit (s := ⟨3, ![N, 256, 1024]⟩) (o k) ![1, 256, 1024] (inb k))).Stores Finset.univ}
    {hm : ∀ k, Finset.univ = Finset.univ ∨ ∀ a, (Rect.unit (s := ⟨3, ![N, 256, 1024]⟩) (o k) ![1, 256, 1024] (inb k)).stride a = 1}
    (ho : ∀ k : Fin (mainL v1 v3).trips, o k = ![(Scf.iv v1 1#32 k).toNat, 0, 0])
    (hbody : ∀ k acc, body k acc = (Prog.lift (.load m (Rect.unit (s := ⟨3, ![N, 256, 1024]⟩) (o k) ![1, 256, 1024] (inb k)).toLoadRect (hl k)) >>= fun v =>
      Prog.lift (.load m (Rect.unit (s := ⟨3, ![N, 256, 1024]⟩) (o k) ![1, 256, 1024] (inb k)).toLoadRect (hl' k)) >>= fun _ =>
      Prog.lift (.store m (Rect.unit (s := ⟨3, ![N, 256, 1024]⟩) (o k) ![1, 256, 1024] (inb k)) (conP (Scf.iv v1 1#32 k) (iR v1 v3.toNat C r) v) Finset.univ (hx k) (hm k)) >>= fun _ => pure 0#32)) :
    (Held c m v1 v3 C r : sProp 𝕄) ⊢ iprop((Held c m v1 v3 C (r + 1) -∗ wp frame (wpE (defs₀ (F := F)) Variants.none c none) E (kk (foldN (fun _ _ => 0#32) v3.toNat init)) Q)
      -∗ wp frame (wpE (defs₀ (F := F)) Variants.none c none) E (Scf.Loop.for (mainL v1 v3) hok init body >>= kk) Q) := by
  unfold Held
  exact rewrite_sweep (Val := Elt F) (size := ![1, 256, 1024]) Variants.none (c : Thread nD τ) none E (m := m) (body := body) (o := o) (inb := inb) (hl := hl) (hl' := hl') (hx := hx) (hm := hm) v3.toNat (main_trips h) (fun k v => conP (Scf.iv v1 1#32 k) (iR v1 v3.toNat C r) v)
    (fun j k => apart v1 j k) _ (fun _ => rfl) (fun k => (ho k).trans (iv_off h k)) 0#32 hbody

/-- The loop over what is left makes no trip. -/
theorem rem_step {α : Type} {Q : α → sProp 𝕄} {σ : Type} {hok : (remL v1 v3).OK} {init : σ} {body : Fin (remL v1 v3).trips → σ → Prog (TpuEff nD τ sig (Elt F) Λ₀ .tc) σ}
    {kk : σ → Prog (TpuEff nD τ sig (Elt F) Λ₀ .tc) α} :
    wp frame (wpE (defs₀ (F := F)) Variants.none c none) E (kk init) Q
      ⊢ (wp frame (wpE (defs₀ (F := F)) Variants.none c none) E (Scf.Loop.for (remL v1 v3) hok init body >>= kk) Q : sProp 𝕄) :=
  rem_bind Variants.none (c : Thread nD τ) none E (remL v1 v3) hok init body rem_trips'

end Round

end Cert.KernelIdeal

end
-- ==== Proof.KI.Parts1.lean ====
/-
  The parts of the first call that search: each takes the slabs some rounds on.
-/
module

public import proofs.«01_k».proof.Proof.KI.Search

@[expose] public section

set_option maxRecDepth 65536

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slabs Cert.Trips
open Cert.KernelIdeal.Gen

variable {F : FTy → Type} [FloatOps F]

local notation "𝕄" => MT nD τ sig Unit (Elt F) ℕ (UR sig nD τ) ℕ

theorem k0_part2_run (c : Dev nD) (i : grid0.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S8x1024x64 .f32) (harg4 : arg4.IsWhole) (arg5 : Memref sig .tc .vmem S8x4x1024 .f32) (harg5 : arg5.IsWhole) (arg6 : Memref sig .tc .vmem S256x1 .i32) (harg6 : arg6.IsWhole) (arg7 : Memref sig .tc .vmem S8x1x1024 .i32) (harg7 : arg7.IsWhole) (arg8 : Memref sig .tc .vmem S256x3 .f32) (harg8 : arg8.IsWhole) (arg9 : Memref sig .tc .vmem S256x3 .f32) (harg9 : arg9.IsWhole) (arg10 : Memref sig .tc .vmem S8x256x1024 .f32) (harg10 : arg10.IsWhole) (arg11 : Memref sig .tc .vmem S8x256x1024 .f32) (harg11 : arg11.IsWhole) (v1 : Elt F .i32) (v3 : Elt F .i32) (k0_hw1 : k0_chk1 v1 v3)
    (h : v1.toNat + v3.toNat ≤ 8) (C : ℕ → Slab F) (E : Set ℕ) :
    (Held c arg11 v1 v3 C 0 : sProp 𝕄)
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 v1 v3 k0_hw1 (Scalar.addi v1 v3) (pos) (mR v1 v3.toNat C 0) (k0_pay12) (mid v1 v3) (1#32))
        (fun r => iprop(⌜r = ⟨mid v1 v3, mR v1 v3.toNat C 2, 1#32⟩⌝ ∗ Held c arg11 v1 v3 C 2)) := by
  rw [k0_part2_eq_skeleton]
  unfold k0_part2_skel
  iintro H
  iapply (loc_step c C 0 E h (fun _ => rfl) (hbody := ?_)) $$ [H]
  · exact fun _ _ => rfl
  · iexact H
  iintro H
  iapply (rem_step c E)
  iapply (con_step c C 0 E h (fun _ => rfl) (hbody := ?_)) $$ [H]
  · exact fun _ _ => rfl
  · iexact H
  iintro H
  iapply (rem_step c E)
  iapply (max_step c C 1 E h (fun _ => rfl) (hbody := ?_)) $$ [H]
  · exact fun _ _ => rfl
  · iexact H
  iintro H
  iapply (rem_step c E)
  iapply (loc_step c C 1 E h (fun _ => rfl) (hbody := ?_)) $$ [H]
  · exact fun _ _ => rfl
  · iexact H
  iintro H
  iapply (rem_step c E)
  iapply (con_step c C 1 E h (fun _ => rfl) (hbody := ?_)) $$ [H]
  · exact fun _ _ => rfl
  · iexact H
  iintro H
  iapply (rem_step c E)
  iapply (max_step c C 2 E h (fun _ => rfl) (hbody := ?_)) $$ [H]
  · exact fun _ _ => rfl
  · iexact H
  iintro H
  rw [wp_pure]
  iapply BI.fupd_intro
  isplitr
  · ipureintro; rfl
  iexact H

theorem k0_part3_run (c : Dev nD) (i : grid0.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S8x1024x64 .f32) (harg4 : arg4.IsWhole) (arg5 : Memref sig .tc .vmem S8x4x1024 .f32) (harg5 : arg5.IsWhole) (arg6 : Memref sig .tc .vmem S256x1 .i32) (harg6 : arg6.IsWhole) (arg7 : Memref sig .tc .vmem S8x1x1024 .i32) (harg7 : arg7.IsWhole) (arg8 : Memref sig .tc .vmem S256x3 .f32) (harg8 : arg8.IsWhole) (arg9 : Memref sig .tc .vmem S256x3 .f32) (harg9 : arg9.IsWhole) (arg10 : Memref sig .tc .vmem S8x256x1024 .f32) (harg10 : arg10.IsWhole) (arg11 : Memref sig .tc .vmem S8x256x1024 .f32) (harg11 : arg11.IsWhole) (v1 : Elt F .i32) (v3 : Elt F .i32) (k0_hw1 : k0_chk1 v1 v3)
    (h : v1.toNat + v3.toNat ≤ 8) (C : ℕ → Slab F) (E : Set ℕ) :
    (Held c arg11 v1 v3 C 2 : sProp 𝕄)
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 v1 v3 k0_hw1 (Scalar.addi v1 v3) (pos) (mid v1 v3) (mR v1 v3.toNat C 2) (1#32))
        (fun r => iprop(⌜r = Scalar.ofBits .f32 0xFF800000#32⌝ ∗ Held c arg11 v1 v3 C 4)) := by
  rw [k0_part3_eq_skeleton]
  unfold k0_part3_skel
  iintro H
  iapply (rem_step c E)
  iapply (loc_step c C 2 E h (fun _ => rfl) (hbody := ?_)) $$ [H]
  · exact fun _ _ => rfl
  · iexact H
  iintro H
  iapply (rem_step c E)
  iapply (con_step c C 2 E h (fun _ => rfl) (hbody := ?_)) $$ [H]
  · exact fun _ _ => rfl
  · iexact H
  iintro H
  iapply (rem_step c E)
  iapply (max_step c C 3 E h (fun _ => rfl) (hbody := ?_)) $$ [H]
  · exact fun _ _ => rfl
  · iexact H
  iintro H
  iapply (rem_step c E)
  iapply (loc_step c C 3 E h (fun _ => rfl) (hbody := ?_)) $$ [H]
  · exact fun _ _ => rfl
  · iexact H
  iintro H
  iapply (rem_step c E)
  iapply (con_step c C 3 E h (fun _ => rfl) (hbody := ?_)) $$ [H]
  · exact fun _ _ => rfl
  · iexact H
  iintro H
  iapply (rem_step c E)
  rw [wp_pure]
  iapply BI.fupd_intro
  isplitr
  · ipureintro; rfl
  iexact H

theorem k0_part4_run (c : Dev nD) (i : grid0.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S8x1024x64 .f32) (harg4 : arg4.IsWhole) (arg5 : Memref sig .tc .vmem S8x4x1024 .f32) (harg5 : arg5.IsWhole) (arg6 : Memref sig .tc .vmem S256x1 .i32) (harg6 : arg6.IsWhole) (arg7 : Memref sig .tc .vmem S8x1x1024 .i32) (harg7 : arg7.IsWhole) (arg8 : Memref sig .tc .vmem S256x3 .f32) (harg8 : arg8.IsWhole) (arg9 : Memref sig .tc .vmem S256x3 .f32) (harg9 : arg9.IsWhole) (arg10 : Memref sig .tc .vmem S8x256x1024 .f32) (harg10 : arg10.IsWhole) (arg11 : Memref sig .tc .vmem S8x256x1024 .f32) (harg11 : arg11.IsWhole) (v1 : Elt F .i32) (v3 : Elt F .i32) (k0_hw1 : k0_chk1 v1 v3)
    (h : v1.toNat + v3.toNat ≤ 8) (C : ℕ → Slab F) (E : Set ℕ) :
    (Held c arg11 v1 v3 C 4 : sProp 𝕄)
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 v1 v3 k0_hw1 (Scalar.addi v1 v3) (pos) (Scalar.ofBits .f32 0xFF800000#32))
        (fun r => iprop(⌜r = ⟨iR v1 v3.toNat C 5, 0#32, Scalar.subi (Scalar.addi v1 v3) v1⟩⌝ ∗ Held c arg11 v1 v3 C 5)) := by
  rw [k0_part4_eq_skeleton]
  unfold k0_part4_skel
  iintro H
  iapply (max_step c C 4 E h (fun _ => rfl) (hbody := ?_)) $$ [H]
  · exact fun _ _ => rfl
  · iexact H
  iintro H
  iapply (rem_step c E)
  iapply (loc_step c C 4 E h (fun _ => rfl) (hbody := ?_)) $$ [H]
  · exact fun _ _ => rfl
  · iexact H
  iintro H
  iapply (rem_step c E)
  iapply (con_step c C 4 E h (fun _ => rfl) (hbody := ?_)) $$ [H]
  · exact fun _ _ => rfl
  · iexact H
  iintro H
  iapply (rem_step c E)
  iapply (max_step c C 5 E h (fun _ => rfl) (hbody := ?_)) $$ [H]
  · exact fun _ _ => rfl
  · iexact H
  iintro H
  iapply (rem_step c E)
  iapply (loc_step c C 5 E h (fun _ => rfl) (hbody := ?_)) $$ [H]
  · exact fun _ _ => rfl
  · iexact H
  iintro H
  iapply (rem_step c E)
  rw [wp_pure]
  iapply BI.fupd_intro
  isplitr
  · ipureintro; rfl
  iexact H

theorem k0_part5_run (c : Dev nD) (i : grid0.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S8x1024x64 .f32) (harg4 : arg4.IsWhole) (arg5 : Memref sig .tc .vmem S8x4x1024 .f32) (harg5 : arg5.IsWhole) (arg6 : Memref sig .tc .vmem S256x1 .i32) (harg6 : arg6.IsWhole) (arg7 : Memref sig .tc .vmem S8x1x1024 .i32) (harg7 : arg7.IsWhole) (arg8 : Memref sig .tc .vmem S256x3 .f32) (harg8 : arg8.IsWhole) (arg9 : Memref sig .tc .vmem S256x3 .f32) (harg9 : arg9.IsWhole) (arg10 : Memref sig .tc .vmem S8x256x1024 .f32) (harg10 : arg10.IsWhole) (arg11 : Memref sig .tc .vmem S8x256x1024 .f32) (harg11 : arg11.IsWhole) (v1 : Elt F .i32) (v3 : Elt F .i32) (k0_hw1 : k0_chk1 v1 v3)
    (h : v1.toNat + v3.toNat ≤ 8) (C : ℕ → Slab F) (E : Set ℕ) :
    (Held c arg11 v1 v3 C 5 : sProp 𝕄)
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 v1 v3 k0_hw1 (Scalar.addi v1 v3) (pos) (iR v1 v3.toNat C 5) (0#32) (Scalar.subi (Scalar.addi v1 v3) v1))
        (fun r => iprop(⌜r = ⟨mR v1 v3.toNat C 7, k0_pay12, Scalar.subi (Scalar.addi v1 v3) v1⟩⌝ ∗ Held c arg11 v1 v3 C 7)) := by
  rw [k0_part5_eq_skeleton]
  unfold k0_part5_skel
  iintro H
  iapply (con_step c C 5 E h (fun _ => rfl) (hbody := ?_)) $$ [H]
  · exact fun _ _ => rfl
  · iexact H
  iintro H
  iapply (rem_step c E)
  iapply (max_step c C 6 E h (fun _ => rfl) (hbody := ?_)) $$ [H]
  · exact fun _ _ => rfl
  · iexact H
  iintro H
  iapply (rem_step c E)
  iapply (loc_step c C 6 E h (fun _ => rfl) (hbody := ?_)) $$ [H]
  · exact fun _ _ => rfl
  · iexact H
  iintro H
  iapply (rem_step c E)
  iapply (con_step c C 6 E h (fun _ => rfl) (hbody := ?_)) $$ [H]
  · exact fun _ _ => rfl
  · iexact H
  iintro H
  iapply (rem_step c E)
  iapply (max_step c C 7 E h (fun _ => rfl) (hbody := ?_)) $$ [H]
  · exact fun _ _ => rfl
  · iexact H
  iintro H
  iapply (rem_step c E)
  rw [wp_pure]
  iapply BI.fupd_intro
  isplitr
  · ipureintro; rfl
  iexact H

end Cert.KernelIdeal

end
-- ==== Proof.KI.Body1.lean ====
/-
  The body of the first call: what it leaves in its output block, as a function of its input blocks and of the range of
  tiles it reads from the tables.
-/
module

public import proofs.«01_k».proof.Proof.KI.Parts1

@[expose] public section

set_option maxRecDepth 65536

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slabs Cert.Trips
open Cert.KernelIdeal.Gen

variable {F : FTy → Type} [FloatOps F]

local notation "𝕄" => MT nD τ sig Unit (Elt F) ℕ (UR sig nD τ) ℕ

/-- A float zero, for reads that do not fit. -/
abbrev fz : Elt F .f32 := Scalar.ofBits (F := F) .f32 0x00000000#32

/-- The word of a table for grid point `i`. -/
def word0 (i : grid0.Coords) (t : S16.Idx → Elt F .i32) : BitVec 32 :=
  wordAt t (Rect.unit (s := S16) (k0_off1 i) S1.size (k0_off1_inb i)) numel1_S1

/-- The weights of the first call, slab by slab. -/
def wts0 (v1 : BitVec 32) (x0 : Vec F S256x64 .f32) (x1 : Vec F S8x1024x64 .f32) : ℕ → Slab F :=
  fun k => k0_pay4 x0 (winD fz x1 (slabOff v1 k) S1x1024x64.size)

/-- The scores of the first call, slab by slab. -/
def scr0 (v1 : BitVec 32) (x0 : Vec F S256x64 .f32) (x1 : Vec F S8x1024x64 .f32) (x3 : Vec F S256x1 .i32) (x4 : Vec F S8x1x1024 .i32) : ℕ → Slab F :=
  fun k => k0_pay5 x0 x3 (winD fz x1 (slabOff v1 k) S1x1024x64.size) (winD (0#32 : Elt F .i32) x4 (slabOff v1 k) S1x1x1024.size)

/-- The rows of values, slab by slab. -/
def vals {N : ℕ} (v1 : BitVec 32) (x2 : Vec F ⟨3, ![N, 4, 1024]⟩ .f32) : ℕ → Vec F S1x4x1024 .f32 :=
  fun k => winD fz x2 (slabOff v1 k) S1x4x1024.size

/-- The columns of a block of three, put over some values. -/
def cols3 (x : Vec F S256x3 .f32) (w0 w1 w2 : Vec F S256x1 .f32) : Vec F S256x3 .f32 :=
  VecWindow.put (VecWindow.put (VecWindow.put x ![0, 0] S256x1.size w0) ![0, 1] S256x1.size w1) ![0, 2] S256x1.size w2

/-- They cover the block. -/
theorem cols3_base (x x' : Vec F S256x3 .f32) (w0 w1 w2 : Vec F S256x1 .f32) : cols3 x w0 w1 w2 = cols3 x' w0 w1 w2 := by
  funext y
  unfold cols3 VecWindow.put
  by_cases h2 : ∀ a, (![0, 2] : Fin 2 → ℕ) a ≤ (y a).val ∧ (y a).val < (![0, 2] : Fin 2 → ℕ) a + S256x1.size a
  · rw [dif_pos h2, dif_pos h2]
  by_cases h1 : ∀ a, (![0, 1] : Fin 2 → ℕ) a ≤ (y a).val ∧ (y a).val < (![0, 1] : Fin 2 → ℕ) a + S256x1.size a
  · rw [dif_neg h2, dif_neg h2, dif_pos h1, dif_pos h1]
  by_cases h0 : ∀ a, (![0, 0] : Fin 2 → ℕ) a ≤ (y a).val ∧ (y a).val < (![0, 0] : Fin 2 → ℕ) a + S256x1.size a
  · rw [dif_neg h2, dif_neg h2, dif_neg h1, dif_neg h1, dif_pos h0, dif_pos h0]
  exfalso
  have hy0 : (y 0).val < 256 := (y 0).isLt
  have hy1 : (y 1).val < 3 := (y 1).isLt
  have key : ∀ j, (y 1).val = j → ∀ a, (![0, j] : Fin 2 → ℕ) a ≤ (y a).val ∧ (y a).val < (![0, j] : Fin 2 → ℕ) a + S256x1.size a := by
    intro j hj a
    match a with
    | 0 => exact ⟨Nat.zero_le _, by show (y 0).val < 0 + 256; omega⟩
    | 1 => exact ⟨by show j ≤ (y 1).val; omega, by show (y 1).val < j + 1; omega⟩
  have : (y 1).val = 0 ∨ (y 1).val = 1 ∨ (y 1).val = 2 := by omega
  rcases this with h | h | h
  · exact h0 (key 0 h)
  · exact h1 (key 1 h)
  · exact h2 (key 2 h)

/-- What the first call leaves in its block. -/
def out0 (v1 v3 : BitVec 32) (x0 : Vec F S256x64 .f32) (x1 : Vec F S8x1024x64 .f32) (x2 : Vec F S8x4x1024 .f32) (x3 : Vec F S256x1 .i32)
    (x4 : Vec F S8x1x1024 .i32) (x5 : Vec F S256x3 .f32) : Vec F S256x3 .f32 :=
  let A := accOf v3.toNat (cR v1 v3.toNat (scr0 v1 x0 x1 x3 x4) 8) (wts0 v1 x0 x1) (vals v1 x2)
  cols3 (fun _ => fz) (k0_pay86 A.1 A.2.1 x5) (k0_pay87 A.1 A.2.2.1 x5) (k0_pay88 A.1 A.2.2.2 x5)

section Put

variable {N : ℕ} (c : Dev nD) {m : Memref sig .tc .vmem ⟨3, ![N, 256, 1024]⟩ .f32} (v1 : BitVec 32) (C : ℕ → Slab F) (E : Set ℕ)

/-- A store of the next slab. -/
theorem put_step {α : Type} {Q : α → sProp 𝕄} {k : ℕ} {o : Fin 3 → ℕ} {inb : ∀ a, o a + (![1, 256, 1024] : Fin 3 → ℕ) a ≤ (![N, 256, 1024] : Fin 3 → ℕ) a}
    {w : Slab F} {hx : (m.access (Rect.unit (s := ⟨3, ![N, 256, 1024]⟩) o ![1, 256, 1024] inb)).Stores Finset.univ}
    {hm : Finset.univ = Finset.univ ∨ ∀ a, (Rect.unit (s := ⟨3, ![N, 256, 1024]⟩) o ![1, 256, 1024] inb).stride a = 1}
    {kk : PUnit → Prog (TpuEff nD τ sig (Elt F) Λ₀ .tc) α} (he : o = slabOff v1 k) (hw : w = C k) :
    (Slabs (c : Thread nD τ) m (![1, 256, 1024] : Fin 3 → ℕ) (slabOff v1) k C : sProp 𝕄)
      ⊢ iprop((Slabs (c : Thread nD τ) m (![1, 256, 1024] : Fin 3 → ℕ) (slabOff v1) (k + 1) C -∗ wp frame (wpE (defs₀ (F := F)) Variants.none c none) E (kk ⟨⟩) Q)
      -∗ wp frame (wpE (defs₀ (F := F)) Variants.none c none) E
        (Prog.lift (.store m (Rect.unit (s := ⟨3, ![N, 256, 1024]⟩) o ![1, 256, 1024] inb) w Finset.univ hx hm) >>= kk) Q) :=
  store_slab (Val := Elt F) (size := ![1, 256, 1024]) Variants.none (c : Thread nD τ) none E (m := m) (o := o) (inb := inb) (hx := hx) (hm := hm) (n := k) (C := C) (n' := k + 1) (C' := C)
    (fun j k => apart v1 j k) he hw (fun j hj hjk => ⟨by omega, rfl⟩)

end Put

section Acc

variable {N : ℕ} (c : Dev nD) {mS mC : Memref sig .tc .vmem ⟨3, ![N, 256, 1024]⟩ .f32} {mV : Memref sig .tc .vmem ⟨3, ![N, 4, 1024]⟩ .f32}
  {v1 v3 : BitVec 32} (C S : ℕ → Slab F) (r : ℕ) (x2 : Vec F ⟨3, ![N, 4, 1024]⟩ .f32) (E : Set ℕ)

variable {o : Fin (mainL v1 v3).trips → Fin 3 → ℕ} {inb : ∀ k a, o k a + (![1, 256, 1024] : Fin 3 → ℕ) a ≤ (![N, 256, 1024] : Fin 3 → ℕ) a}
  {o' : Fin (mainL v1 v3).trips → Fin 3 → ℕ} {inb' : ∀ k a, o' k a + (![1, 4, 1024] : Fin 3 → ℕ) a ≤ (![N, 4, 1024] : Fin 3 → ℕ) a}

/-- The four carried sums. -/
abbrev Acc (F : FTy → Type) : Type := FVec F S256x1 .f32 × FVec F S256x1 .f32 × FVec F S256x1 .f32 × FVec F S256x1 .f32

/-- The loop that takes the four sums. -/
theorem acc_step {α : Type} {Q : α → sProp 𝕄} (h : v1.toNat + v3.toNat ≤ 8) {hok : (mainL v1 v3).OK}
    {body : Fin (mainL v1 v3).trips → Acc F → Prog (TpuEff nD τ sig (Elt F) Λ₀ .tc) (Acc F)}
    {kk : Acc F → Prog (TpuEff nD τ sig (Elt F) Λ₀ .tc) α}
    {hl : ∀ k, mC.view.LoadsAt (Rect.unit (s := ⟨3, ![N, 256, 1024]⟩) (o k) ![1, 256, 1024] (inb k)).toLoadRect}
    {hl' : ∀ k, mS.view.LoadsAt (Rect.unit (s := ⟨3, ![N, 256, 1024]⟩) (o k) ![1, 256, 1024] (inb k)).toLoadRect}
    {hl'' : ∀ k, mV.view.LoadsAt (Rect.unit (s := ⟨3, ![N, 4, 1024]⟩) (o' k) ![1, 4, 1024] (inb' k)).toLoadRect}
    (ho : ∀ k : Fin (mainL v1 v3).trips, o k = ![(Scf.iv v1 1#32 k).toNat, 0, 0])
    (ho' : ∀ k : Fin (mainL v1 v3).trips, o' k = ![(Scf.iv v1 1#32 k).toNat, 0, 0])
    (hbody : ∀ k a, body k a = (Prog.lift (.load mC (Rect.unit (s := ⟨3, ![N, 256, 1024]⟩) (o k) ![1, 256, 1024] (inb k)).toLoadRect (hl k)) >>= fun v =>
      Prog.lift (.load mS (Rect.unit (s := ⟨3, ![N, 256, 1024]⟩) (o k) ![1, 256, 1024] (inb k)).toLoadRect (hl' k)) >>= fun w =>
      Prog.lift (.load mV (Rect.unit (s := ⟨3, ![N, 4, 1024]⟩) (o' k) ![1, 4, 1024] (inb' k)).toLoadRect (hl'' k)) >>= fun u =>
      pure (k0_pay76 a.1 v w, k0_pay77 a.2.1 v w u, k0_pay78 a.2.2.1 v w u, k0_pay79 a.2.2.2 v w u))) :
    iprop(owns (c : Thread nD τ) mV fullShare x2 ∗ Slabs (c : Thread nD τ) mS (![1, 256, 1024] : Fin 3 → ℕ) (slabOff v1) v3.toNat S ∗ Held c mC v1 v3 C r)
      ⊢ (iprop((iprop(owns (c : Thread nD τ) mV fullShare x2 ∗ Slabs (c : Thread nD τ) mS (![1, 256, 1024] : Fin 3 → ℕ) (slabOff v1) v3.toNat S ∗ Held c mC v1 v3 C r)
        -∗ wp frame (wpE (defs₀ (F := F)) Variants.none c none) E
          (kk ((accOf v3.toNat (cR v1 v3.toNat C r) S (vals v1 x2)).1, (accOf v3.toNat (cR v1 v3.toNat C r) S (vals v1 x2)).2.1,
            (accOf v3.toNat (cR v1 v3.toNat C r) S (vals v1 x2)).2.2.1, (accOf v3.toNat (cR v1 v3.toNat C r) S (vals v1 x2)).2.2.2)) Q)
      -∗ wp frame (wpE (defs₀ (F := F)) Variants.none c none) E (Scf.Loop.for (mainL v1 v3) hok (k0_pay73, k0_pay73, k0_pay73, k0_pay73) body >>= kk) Q) : sProp 𝕄) := by
  refine fold_bind Variants.none (c : Thread nD τ) none E (mainL v1 v3) hok _ body v3.toNat (main_trips h)
    (fun k a => (k0_pay76 a.1 (cR v1 v3.toNat C r k) (S k), k0_pay77 a.2.1 (cR v1 v3.toNat C r k) (S k) (vals v1 x2 k),
      k0_pay78 a.2.2.1 (cR v1 v3.toNat C r k) (S k) (vals v1 x2 k), k0_pay79 a.2.2.2 (cR v1 v3.toNat C r k) (S k) (vals v1 x2 k))) _ fun k a => ?_
  rw [hbody k a]
  unfold Held
  iintro ⟨HR, HS, HC⟩
  have e : o k = slabOff v1 k.val := (ho k).trans (iv_off h k)
  iapply (load_slab Variants.none (c : Thread nD τ) none E (lt_of_lt_of_eq k.isLt (main_trips h)) e) $$ [HC]
  · iexact HC
  iintro HC
  iapply (load_slab Variants.none (c : Thread nD τ) none E (lt_of_lt_of_eq k.isLt (main_trips h)) e) $$ [HS]
  · iexact HS
  iintro HS
  iapply (load_win Variants.none (c : Thread nD τ) none E fz ((ho' k).trans (iv_off h k))) $$ [HR]
  · iexact HR
  iintro HR
  rw [wp_pure]
  iapply BI.fupd_intro
  isplitr
  · ipureintro; rfl
  isplitl [HR]
  · iexact HR
  isplitl [HS]
  · iexact HS
  iexact HC

end Acc

theorem k0_part1_run (c : Dev nD) (i : grid0.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S8x1024x64 .f32) (harg4 : arg4.IsWhole) (arg5 : Memref sig .tc .vmem S8x4x1024 .f32) (harg5 : arg5.IsWhole) (arg6 : Memref sig .tc .vmem S256x1 .i32) (harg6 : arg6.IsWhole) (arg7 : Memref sig .tc .vmem S8x1x1024 .i32) (harg7 : arg7.IsWhole) (arg8 : Memref sig .tc .vmem S256x3 .f32) (harg8 : arg8.IsWhole) (arg9 : Memref sig .tc .vmem S256x3 .f32) (harg9 : arg9.IsWhole) (arg10 : Memref sig .tc .vmem S8x256x1024 .f32) (harg10 : arg10.IsWhole) (arg11 : Memref sig .tc .vmem S8x256x1024 .f32) (harg11 : arg11.IsWhole)
    {q1 q2 : PosShare TreeShare} (t1 t2 : S16.Idx → Elt F .i32) (x0 : Vec F S256x64 .f32) (x1 : Vec F S8x1024x64 .f32) (x3 : Vec F S256x1 .i32) (x4 : Vec F S8x1x1024 .i32)
    {v1 v3 : BitVec 32} (hv1 : word0 (F := F) i t1 = v1) (hv3 : word0 (F := F) i t2 = v3) (h : v1.toNat + v3.toNat ≤ 8) (E : Set ℕ) :
    (iprop(owns (c : Thread nD τ) arg1 q1 t1 ∗ owns (c : Thread nD τ) arg2 q2 t2 ∗ owns (c : Thread nD τ) arg3 fullShare x0 ∗ owns (c : Thread nD τ) arg4 fullShare x1
        ∗ owns (c : Thread nD τ) arg6 fullShare x3 ∗ owns (c : Thread nD τ) arg7 fullShare x4 ∗ (∃ X, owns (c : Thread nD τ) arg10 fullShare X) ∗ (∃ X, owns (c : Thread nD τ) arg11 fullShare X)) : sProp 𝕄)
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11)
        (fun r => iprop(⌜r = ⟨v1, v3, k0_chk1_holds h, Scalar.addi v1 v3, pos,
            mR v1 v3.toNat (scr0 v1 x0 x1 x3 x4) 0, k0_pay12, mid v1 v3, 1#32⟩⌝
          ∗ owns (c : Thread nD τ) arg1 q1 t1 ∗ owns (c : Thread nD τ) arg2 q2 t2 ∗ owns (c : Thread nD τ) arg3 fullShare x0 ∗ owns (c : Thread nD τ) arg4 fullShare x1
          ∗ owns (c : Thread nD τ) arg6 fullShare x3 ∗ owns (c : Thread nD τ) arg7 fullShare x4
          ∗ Slabs (c : Thread nD τ) arg10 (![1, 256, 1024] : Fin 3 → ℕ) (slabOff v1) v3.toNat (wts0 v1 x0 x1)
          ∗ Held c arg11 v1 v3 (scr0 v1 x0 x1 x3 x4) 0)) := by
  rw [k0_part1_eq_skeleton]
  unfold k0_part1_skel
  iintro ⟨H1, H2, H3, H4, H6, H7, HS, HC⟩
  iapply (smem_owns Variants.none (c : Thread nD τ) none E hv1) $$ [H1]
  · iexact H1
  iintro H1
  iapply (smem_owns Variants.none (c : Thread nD τ) none E hv3) $$ [H2]
  · iexact H2
  iintro H2
  iapply (wp_assume Variants.none (c : Thread nD τ) none E (k0_chk1_holds h))
  iapply (load_full Variants.none (c : Thread nD τ) none E) $$ [H3]
  · iexact H3
  iintro H3
  iapply (load_full Variants.none (c : Thread nD τ) none E) $$ [H6]
  · iexact H6
  iintro H6
  iapply (sweep_bind Variants.none (c : Thread nD τ) none E (mainL v1 v3) _ 0#32 _ v3.toNat (main_trips h)
    (fun k => iprop(owns (c : Thread nD τ) arg4 fullShare x1 ∗ owns (c : Thread nD τ) arg7 fullShare x4
      ∗ Slabs (c : Thread nD τ) arg10 (![1, 256, 1024] : Fin 3 → ℕ) (slabOff v1) k (wts0 v1 x0 x1)
      ∗ Slabs (c : Thread nD τ) arg11 (![1, 256, 1024] : Fin 3 → ℕ) (slabOff v1) k (scr0 v1 x0 x1 x3 x4))) 0#32 (hb := ?_)) $$ [H4 H7 HS HC]
  · intro k acc
    unfold k0_t1_body
    iintro ⟨H4, H7, HS, HC⟩
    iapply (load_win Variants.none (c : Thread nD τ) none E fz (iv_off h k)) $$ [H4]
    · iexact H4
    iintro H4
    iapply (load_win Variants.none (c : Thread nD τ) none E (0#32 : Elt F .i32) (iv_off h k)) $$ [H7]
    · iexact H7
    iintro H7
    iapply (load_dead Variants.none (c : Thread nD τ) none E) $$ [HS]
    · iexact HS
    iintro HS
    iapply (put_step c v1 (wts0 v1 x0 x1) E (k := k.val) (iv_off h k) (hw := ?_)) $$ [HS]
    · rfl
    · iexact HS
    iintro HS
    iapply (load_dead Variants.none (c : Thread nD τ) none E) $$ [HC]
    · iexact HC
    iintro HC
    iapply (put_step c v1 (scr0 v1 x0 x1 x3 x4) E (k := k.val) (iv_off h k) (hw := ?_)) $$ [HC]
    · rfl
    · iexact HC
    iintro HC
    rw [wp_pure]
    iapply BI.fupd_intro
    isplitr
    · ipureintro; rfl
    isplitl [H4]
    · iexact H4
    isplitl [H7]
    · iexact H7
    isplitl [HS]
    · iexact HS
    iexact HC
  · isplitl [H4]
    · iexact H4
    isplitl [H7]
    · iexact H7
    isplitl [HS]
    · iapply (slabs_zero (c : Thread nD τ)); iexact HS
    · iapply (slabs_zero (c : Thread nD τ)); iexact HC
  iintro ⟨H4, H7, HS, HC⟩
  iapply (rem_step c E)
  iapply (max_step c (scr0 v1 x0 x1 x3 x4) 0 E h (fun _ => rfl) (hbody := ?_)) $$ [HC]
  · exact fun _ _ => rfl
  · unfold Held; iexact HC
  iintro HC
  iapply (rem_step c E)
  rw [wp_pure]
  iapply BI.fupd_intro
  isplitr
  · ipureintro; rfl
  isplitl [H1]
  · iexact H1
  isplitl [H2]
  · iexact H2
  isplitl [H3]
  · iexact H3
  isplitl [H4]
  · iexact H4
  isplitl [H6]
  · iexact H6
  isplitl [H7]
  · iexact H7
  isplitl [HS]
  · iexact HS
  iexact HC

/-- The body of the first call. -/
theorem k0_run (c : Dev nD) (i : grid0.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S8x1024x64 .f32) (harg4 : arg4.IsWhole) (arg5 : Memref sig .tc .vmem S8x4x1024 .f32) (harg5 : arg5.IsWhole) (arg6 : Memref sig .tc .vmem S256x1 .i32) (harg6 : arg6.IsWhole) (arg7 : Memref sig .tc .vmem S8x1x1024 .i32) (harg7 : arg7.IsWhole) (arg8 : Memref sig .tc .vmem S256x3 .f32) (harg8 : arg8.IsWhole) (arg9 : Memref sig .tc .vmem S256x3 .f32) (harg9 : arg9.IsWhole) (arg10 : Memref sig .tc .vmem S8x256x1024 .f32) (harg10 : arg10.IsWhole) (arg11 : Memref sig .tc .vmem S8x256x1024 .f32) (harg11 : arg11.IsWhole)
    {q1 q2 : PosShare TreeShare} (t1 t2 : S16.Idx → Elt F .i32) (x0 : Vec F S256x64 .f32) (x1 : Vec F S8x1024x64 .f32) (x2 : Vec F S8x4x1024 .f32)
    (x3 : Vec F S256x1 .i32) (x4 : Vec F S8x1x1024 .i32) (x5 : Vec F S256x3 .f32)
    {v1 v3 : BitVec 32} (hv1 : word0 (F := F) i t1 = v1) (hv3 : word0 (F := F) i t2 = v3) (h : v1.toNat + v3.toNat ≤ 8) (E : Set ℕ) :
    (iprop(owns (c : Thread nD τ) arg1 q1 t1 ∗ owns (c : Thread nD τ) arg2 q2 t2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, owns (c : Thread nD τ) arg9 fullShare X) ∗ (∃ X, owns (c : Thread nD τ) arg10 fullShare X) ∗ (∃ X, owns (c : Thread nD τ) arg11 fullShare X)) : sProp 𝕄)
      ⊢ wp frame (wpE (defs₀ (F := F)) Variants.none c none) E (cc0__knn1_body i arg1 harg1 arg2 harg2 arg3 harg3 arg4 harg4 arg5 harg5 arg6 harg6 arg7 harg7 arg8 harg8 arg9 harg9 arg10 harg10 arg11 harg11)
        (fun _ => iprop(owns (c : Thread nD τ) arg1 q1 t1 ∗ owns (c : Thread nD τ) arg2 q2 t2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out0 v1 v3 x0 x1 x2 x3 x4 x5) ∗ (∃ X, owns (c : Thread nD τ) arg10 fullShare X) ∗ (∃ X, owns (c : Thread nD τ) arg11 fullShare X))) := by
  simp only [cc0__knn1_body_eq_skeleton]
  unfold cc0__knn1_body_skel
  rw [k0_part6_eq_skeleton]
  unfold k0_part6_skel
  simp only [bind_assoc]
  iintro ⟨H1, H2, H3, H4, H5, H6, H7, H8, H9, HS, HC⟩
  iapply (run_bind Variants.none (c : Thread nD τ) none E (k0_part1_run c i arg1 harg1 arg2 harg2 arg3 harg3 arg4 harg4 arg5 harg5 arg6 harg6 arg7 harg7 arg8 harg8 arg9 harg9 arg10 harg10 arg11 harg11 (q1 := q1) (q2 := q2) t1 t2 x0 x1 x3 x4 hv1 hv3 h E)) $$ [H1 H2 H3 H4 H6 H7 HS HC]
  · iframe
  iintro ⟨H1, H2, H3, H4, H6, H7, HS, HC⟩
  iapply (run_bind Variants.none (c : Thread nD τ) none E (k0_part2_run c i arg1 harg1 arg2 harg2 arg3 harg3 arg4 harg4 arg5 harg5 arg6 harg6 arg7 harg7 arg8 harg8 arg9 harg9 arg10 harg10 arg11 harg11 v1 v3 (k0_chk1_holds h) h (scr0 v1 x0 x1 x3 x4) E)) $$ [HC]
  · iexact HC
  iintro HC
  iapply (run_bind Variants.none (c : Thread nD τ) none E (k0_part3_run c i arg1 harg1 arg2 harg2 arg3 harg3 arg4 harg4 arg5 harg5 arg6 harg6 arg7 harg7 arg8 harg8 arg9 harg9 arg10 harg10 arg11 harg11 v1 v3 (k0_chk1_holds h) h (scr0 v1 x0 x1 x3 x4) E)) $$ [HC]
  · iexact HC
  iintro HC
  iapply (run_bind Variants.none (c : Thread nD τ) none E (k0_part4_run c i arg1 harg1 arg2 harg2 arg3 harg3 arg4 harg4 arg5 harg5 arg6 harg6 arg7 harg7 arg8 harg8 arg9 harg9 arg10 harg10 arg11 harg11 v1 v3 (k0_chk1_holds h) h (scr0 v1 x0 x1 x3 x4) E)) $$ [HC]
  · iexact HC
  iintro HC
  iapply (run_bind Variants.none (c : Thread nD τ) none E (k0_part5_run c i arg1 harg1 arg2 harg2 arg3 harg3 arg4 harg4 arg5 harg5 arg6 harg6 arg7 harg7 arg8 harg8 arg9 harg9 arg10 harg10 arg11 harg11 v1 v3 (k0_chk1_holds h) h (scr0 v1 x0 x1 x3 x4) E)) $$ [HC]
  · iexact HC
  iintro HC
  iapply (loc_step c (scr0 v1 x0 x1 x3 x4) 7 E h (fun _ => rfl) (hbody := ?_)) $$ [HC]
  · exact fun _ _ => rfl
  · iexact HC
  iintro HC
  iapply (rem_step c E)
  iapply (con_step c (scr0 v1 x0 x1 x3 x4) 7 E h (fun _ => rfl) (hbody := ?_)) $$ [HC]
  · exact fun _ _ => rfl
  · iexact HC
  iintro HC
  iapply (rem_step c E)
  iapply (acc_step c (scr0 v1 x0 x1 x3 x4) (wts0 v1 x0 x1) 8 x2 E h (fun _ => rfl) (fun _ => rfl) (hbody := ?_)) $$ [H5 HS HC]
  · exact fun _ _ => rfl
  · iframe
  iintro ⟨H5, HS, HC⟩
  iapply (rem_step c E)
  iapply (load_full Variants.none (c : Thread nD τ) none E) $$ [H8]
  · iexact H8
  iintro H8
  icases H9 with ⟨%X9, H9⟩
  iapply (load_owns Variants.none (c : Thread nD τ) none E rfl inb_S256x3_S256x1_0_0) $$ [H9]
  · iexact H9
  iintro H9
  iapply (store_owns Variants.none (c : Thread nD τ) none E rfl) $$ [H9]
  · iexact H9
  iintro H9
  iapply (load_owns Variants.none (c : Thread nD τ) none E rfl inb_S256x3_S256x1_0_1) $$ [H9]
  · iexact H9
  iintro H9
  iapply (store_owns Variants.none (c : Thread nD τ) none E rfl) $$ [H9]
  · iexact H9
  iintro H9
  iapply (load_owns Variants.none (c : Thread nD τ) none E rfl inb_S256x3_S256x1_0_2) $$ [H9]
  · iexact H9
  iintro H9
  iapply (store_owns Variants.none (c : Thread nD τ) none E rfl) $$ [H9]
  · iexact H9
  iintro H9
  rw [pure_bind, wp_pure]
  iapply BI.fupd_intro
  have e : out0 v1 v3 x0 x1 x2 x3 x4 x5 = cols3 X9 _ _ _ := cols3_base _ X9 _ _ _
  rw [e]
  unfold Held
  ihave HS := (slabs_forget (c : Thread nD τ)) $$ HS
  ihave HC := (slabs_forget (c : Thread nD τ)) $$ HC
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iexact HC

end Cert.KernelIdeal

end
-- ==== Proof.KI.Region0.lean ====
/-
  The region of call 0: its proof data at any contents of the buffers, the obligation of its body, and what it leaves in its
  output array.
-/
module

public import proofs.«01_k».proof.Proof.KI.Body1
public import proofs.«01_k».proof.Proof.Gen.KernelIdeal.Launch
public import Idealize.ShloMosaic.Lib.Pipeline.FrameBody
public import Idealize.ShloMosaic.Lib.Pipeline.RegionArraysTS

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs Cert.Trips
open Cert.KernelIdeal.Gen

variable {F : FTy → Type} [FloatOps F]

local notation "𝕄" => MT nD τ sig Unit (Elt F) ℕ (UR sig nD τ) ℕ

variable (V : Dev nD → Valuation τ sig (Elt F))

/-- The tables of call 0 at the contents `V`. -/
def tab0 : pre0.Contents (Elt F) := fun k => V 0 (Proc.devRef .tc (pre0.ref k))

/-- Every contents of the tables is admissible: no index map reads one. -/
abbrev adm0 : (pcfg0 (F := F)).Adm := ⟨tab0 V, trivial⟩

/-- The first tile of point `t`, and the number of tiles. -/
def lo0 (t : Fin grid0.N) : BitVec 32 := word0 (F := F) (grid0.coords t) (V 0 (Proc.devRef .tc main_v26))
def nt0 (t : Fin grid0.N) : BitVec 32 := word0 (F := F) (grid0.coords t) (V 0 (Proc.devRef .tc main_v30))

/-- Window `w`'s block at point `t`. -/
def blk0 (c : Dev nD) (w : Fin (cfg0 (adm0 V)).W) (t : Fin (cfg0 (adm0 V)).N) :
    (((cfg0 (adm0 V)).win w).xblock ((cfg0 (adm0 V)).grid.coords t)).Idx → Elt F ((cfg0 (adm0 V)).win w).elt :=
  (((cfg0 (adm0 V)).win w).blk t).view.read (Elt F) (V c (Proc.devRef .tc (Pipeline.arrRef spec0 w)))

/-- What the body leaves in its output block at point `t`. -/
def left0 (c : Dev nD) (t : Fin grid0.N) : Vec F S256x3 .f32 :=
  out0 (lo0 V t) (nt0 V t) (blk0 V c 0 t) (blk0 V c 1 t) (blk0 V c 2 t) (blk0 V c 3 t) (blk0 V c 4 t) (blk0 V c 5 t)

/-- The proof data of call 0 at the contents `V`. -/
def dat0 (c : Dev nD) : Dat τ (Elt F) Unit ℕ (UR sig nD τ) ℕ (cfg0 (adm0 V)) c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => left0 V c t
  Φ _ := iprop(iprop(Pipeline.scopedRest spec0 c ∗ iprop(emp)) ∗ Pipeline.prefHeld pre0 c (fun _ => fullShare) (tab0 V))
  q _ := fullShare
  owed _ := 0

/-- An input's staging buffer holds its block at every point. -/
theorem before0 (c : Dev nD) (w : Fin (cfg0 (adm0 V)).W) (hw : w.val < 6) (t : Fin (cfg0 (adm0 V)).N) (d) :
    (dat0 V c).before w t d = blk0 V c w t := by
  match w, hw with
  | ⟨0, _⟩, _ =>
    exact ((dat0 V c).before_in_eq_fetched 0 rfl (fun _ => rfl) (fun _ _ _ => rfl) (fun t => rfl) t d).trans rfl
  | ⟨1, _⟩, _ =>
    exact ((dat0 V c).before_in_eq_fetched 1 rfl (fun _ => rfl) (fun _ _ _ => rfl) (fun t => rfl) t d).trans rfl
  | ⟨2, _⟩, _ =>
    exact ((dat0 V c).before_in_eq_fetched 2 rfl (fun _ => rfl) (fun _ _ _ => rfl) (fun t => rfl) t d).trans rfl
  | ⟨3, _⟩, _ =>
    exact ((dat0 V c).before_in_eq_fetched 3 rfl (fun _ => rfl) (fun _ _ _ => rfl) (fun t => rfl) t d).trans rfl
  | ⟨4, _⟩, _ =>
    exact ((dat0 V c).before_in_eq_fetched 4 rfl (fun _ => rfl) (fun _ _ _ => rfl) (fun t => rfl) t d).trans rfl
  | ⟨5, _⟩, _ =>
    exact ((dat0 V c).before_in_eq_fetched 5 rfl (fun _ => rfl) (fun _ _ _ => rfl) (fun t => rfl) t d).trans rfl

/-- The tables of call 0, one by one. -/
theorem prefHeld0_eq (c : Dev nD) (hc : c = 0) : (Pipeline.prefHeld pre0 c (fun _ => fullShare) (tab0 V) : sProp 𝕄)
    = iprop(owns (c : Thread nD τ) (Memref.whole main_v26) fullShare (V c (Proc.devRef .tc main_v26)) ∗ owns (c : Thread nD τ) (Memref.whole main_v30) fullShare (V c (Proc.devRef .tc main_v30))) := by
  subst hc
  unfold Pipeline.prefHeld
  rw [show (Finset.univ : Finset (Fin 2)) = insert (0 : Fin 2) {(1 : Fin 2)} from by decide,
    bigSep_insert (by decide), bigSep_singleton, owns_whole, owns_whole]
  rfl

set_option maxHeartbeats 1600000 in
set_option backward.isDefEq.respectTransparency.types false in
/-- The obligation of the body: its triple, between the invariant and the blocks. -/
theorem body0_obligation (hb : ∀ t, (lo0 V t).toNat + (nt0 V t).toNat ≤ 8) (c : Dev nD) :
    BodyObligation (dat0 (F := F) V c) (defs₀ (F := F)) Variants.none () Set.univ := fun t => by
  obtain rfl : c = 0 := Subsingleton.elim _ _
  rw [bigSep_W0, bigSep_W0]
  simp only [before0 V 0 0 (show 0 < 6 by decide), before0 V 0 1 (show 1 < 6 by decide), before0 V 0 2 (show 2 < 6 by decide), before0 V 0 3 (show 3 < 6 by decide), before0 V 0 4 (show 4 < 6 by decide), before0 V 0 5 (show 5 < 6 by decide)]
  rw [show (dat0 V 0).Φ t.castSucc = iprop(iprop(Pipeline.scopedRest spec0 0 ∗ iprop(emp)) ∗ Pipeline.prefHeld pre0 0 (fun _ => fullShare) (tab0 V)) from rfl,
    show (dat0 V 0).Φ t.succ = iprop(iprop(Pipeline.scopedRest spec0 0 ∗ iprop(emp)) ∗ Pipeline.prefHeld pre0 0 (fun _ => fullShare) (tab0 V)) from rfl,
    show (dat0 V 0).owesAt () t.succ = (dat0 V 0).owesAt () t.castSucc from rfl]
  rw [prefHeld0_eq V 0 rfl, scopedRest0_eq]
  rw [show defs₀ (F := F) .tc (cfg0 (adm0 V)).body ((cfg0 (adm0 V)).bodyArgs t ((cfg0 (adm0 V)).slots t))
    = cc0__knn1_body (grid0.coords t) (Memref.whole main_v26) (Memref.isWhole_whole _) (Memref.whole main_v30) (Memref.isWhole_whole _) (spec0_0.stage ((cfg0 (adm0 V)).slots t 0)) (hstage0_0 (((cfg0 (adm0 V)).slots t 0).cast nbuf0_0)) (spec0_1.stage ((cfg0 (adm0 V)).slots t 1)) (hstage0_1 (((cfg0 (adm0 V)).slots t 1).cast nbuf0_1)) (spec0_2.stage ((cfg0 (adm0 V)).slots t 2)) (hstage0_2 (((cfg0 (adm0 V)).slots t 2).cast nbuf0_2)) (spec0_3.stage ((cfg0 (adm0 V)).slots t 3)) (hstage0_3 (((cfg0 (adm0 V)).slots t 3).cast nbuf0_3)) (spec0_4.stage ((cfg0 (adm0 V)).slots t 4)) (hstage0_4 (((cfg0 (adm0 V)).slots t 4).cast nbuf0_4)) (spec0_5.stage ((cfg0 (adm0 V)).slots t 5)) (hstage0_5 (((cfg0 (adm0 V)).slots t 5).cast nbuf0_5)) (spec0_6.stage ((cfg0 (adm0 V)).slots t 6)) (hstage0_6 (((cfg0 (adm0 V)).slots t 6).cast nbuf0_6)) (Memref.whole cc0_scratch0) (Memref.isWhole_whole _) (Memref.whole cc0_scratch1) (Memref.isWhole_whole _) from by
    unfold defs₀; rw [Defs.onTc_tc]]
  have hrun := k0_run (F := F) 0 (grid0.coords t) (Memref.whole main_v26) (Memref.isWhole_whole _) (Memref.whole main_v30) (Memref.isWhole_whole _) (spec0_0.stage ((cfg0 (adm0 V)).slots t 0)) (hstage0_0 (((cfg0 (adm0 V)).slots t 0).cast nbuf0_0)) (spec0_1.stage ((cfg0 (adm0 V)).slots t 1)) (hstage0_1 (((cfg0 (adm0 V)).slots t 1).cast nbuf0_1)) (spec0_2.stage ((cfg0 (adm0 V)).slots t 2)) (hstage0_2 (((cfg0 (adm0 V)).slots t 2).cast nbuf0_2)) (spec0_3.stage ((cfg0 (adm0 V)).slots t 3)) (hstage0_3 (((cfg0 (adm0 V)).slots t 3).cast nbuf0_3)) (spec0_4.stage ((cfg0 (adm0 V)).slots t 4)) (hstage0_4 (((cfg0 (adm0 V)).slots t 4).cast nbuf0_4)) (spec0_5.stage ((cfg0 (adm0 V)).slots t 5)) (hstage0_5 (((cfg0 (adm0 V)).slots t 5).cast nbuf0_5)) (spec0_6.stage ((cfg0 (adm0 V)).slots t 6)) (hstage0_6 (((cfg0 (adm0 V)).slots t 6).cast nbuf0_6)) (Memref.whole cc0_scratch0) (Memref.isWhole_whole _) (Memref.whole cc0_scratch1) (Memref.isWhole_whole _)
    (q1 := fullShare) (q2 := fullShare) (V 0 (Proc.devRef .tc main_v26)) (V 0 (Proc.devRef .tc main_v30)) (blk0 V 0 0 t) (blk0 V 0 1 t) (blk0 V 0 2 t) (blk0 V 0 3 t) (blk0 V 0 4 t) (blk0 V 0 5 t) (v1 := lo0 V t) (v3 := nt0 V t) rfl rfl (hb t) Set.univ
  simp only [owns_whole (0 : Dev nD).tc cc0_scratch0, owns_whole (0 : Dev nD).tc cc0_scratch1] at hrun
  iintro ⟨⟨⟨⟨Hs0, Hs1, Hr⟩, -⟩, Ht0, Ht1⟩, Ho, ⟨%d0, H0⟩, ⟨%d1, H1⟩, ⟨%d2, H2⟩, ⟨%d3, H3⟩, ⟨%d4, H4⟩, ⟨%d5, H5⟩, ⟨%d6, H6⟩⟩
  iapply (wp_wand_r frame (wpE (defs₀ (F := F)) Variants.none ((0 : Dev nD).tc : Thread nD τ) none) Set.univ)
  isplitl [Ht0 Ht1 Hs0 Hs1 H0 H1 H2 H3 H4 H5 H6]
  · iapply hrun
    isplitl [Ht0]; · iexact Ht0
    isplitl [Ht1]; · iexact Ht1
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hs0]; · iexact Hs0
    iexact Hs1
  iintro %r ⟨Ht0, Ht1, H0, H1, H2, H3, H4, H5, H6, Hs0, Hs1⟩
  isplitl [Ht0 Ht1 Hs0 Hs1 Hr]
  · isplitr [Ht0 Ht1]
    · isplitl; swap; · iempintro
      isplitl [Hs0]; · iexact Hs0
      isplitl [Hs1]; · iexact Hs1
      iexact Hr
    isplitl [Ht0]; · iexact Ht0
    iexact Ht1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.KernelIdeal

end
-- ==== Proof.KI.Parts2.lean ====
/-
  The parts of the second call that search: each takes the slabs some rounds on.
-/
module

public import proofs.«01_k».proof.Proof.KI.Search

@[expose] public section

set_option maxRecDepth 65536

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slabs Cert.Trips
open Cert.KernelIdeal.Gen

variable {F : FTy → Type} [FloatOps F]

local notation "𝕄" => MT nD τ sig Unit (Elt F) ℕ (UR sig nD τ) ℕ

theorem k1_part6_run (c : Dev nD) (i : grid1.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S4x1024x64 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S4x1x1024 .i32) (harg7 : arg7.IsWhole) (arg8 : Memref sig .tc .vmem S256x1 .f32) (harg8 : arg8.IsWhole) (arg9 : Memref sig .tc .vmem S1x4096 .f32) (harg9 : arg9.IsWhole) (arg10 : Memref sig .tc .vmem S4x1x1024 .f32) (harg10 : arg10.IsWhole) (arg11 : Memref sig .tc .vmem S256x3 .f32) (harg11 : arg11.IsWhole) (arg12 : Memref sig .tc .vmem S4x4x1024 .f32) (harg12 : arg12.IsWhole) (arg13 : Memref sig .tc .vmem S256x4 .f32) (harg13 : arg13.IsWhole) (arg14 : Memref sig .tc .vmem S4x256x1024 .f32) (harg14 : arg14.IsWhole) (arg15 : Memref sig .tc .vmem S4x256x1024 .f32) (harg15 : arg15.IsWhole) (v1 : Elt F .i32) (v3 : Elt F .i32) (k1_hw1 : k1_chk1 v1 v3)
    (h : v1.toNat + v3.toNat ≤ 8) (C : ℕ → Slab F) (E : Set ℕ) :
    (Held c arg15 v1 v3 C 0 : sProp 𝕄)
      ⊢ wp frame (wpE (defs₀ (F := F)) Variants.none c none) E (k1_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 k1_hw1 (Scalar.addi v1 v3) (pos) (mR v1 v3.toNat C 0) (mid v1 v3) (iR v1 v3.toNat C 0) (1#32))
        (fun r => iprop(⌜r = ⟨mR v1 v3.toNat C 2, 1073741824#32⟩⌝ ∗ Held c arg15 v1 v3 C 2)) := by
  rw [k1_part6_eq_skeleton]
  unfold k1_part6_skel
  iintro H
  iapply (rem_step c E)
  iapply (con_step c C 0 E h (fun _ => rfl) (hbody := ?_)) $$ [H]
  · exact fun _ _ => rfl
  · iexact H
  iintro H
  iapply (rem_step c E)
  iapply (max_step c C 1 E h (fun _ => rfl) (hbody := ?_)) $$ [H]
  · exact fun _ _ => rfl
  · iexact H
  iintro H
  iapply (rem_step c E)
  iapply (loc_step c C 1 E h (fun _ => rfl) (hbody := ?_)) $$ [H]
  · exact fun _ _ => rfl
  · iexact H
  iintro H
  iapply (rem_step c E)
  iapply (con_step c C 1 E h (fun _ => rfl) (hbody := ?_)) $$ [H]
  · exact fun _ _ => rfl
  · iexact H
  iintro H
  iapply (rem_step c E)
  iapply (max_step c C 2 E h (fun _ => rfl) (hbody := ?_)) $$ [H]
  · exact fun _ _ => rfl
  · iexact H
  iintro H
  iapply (rem_step c E)
  rw [wp_pure]
  iapply BI.fupd_intro
  isplitr
  · ipureintro; rfl
  iexact H

theorem k1_part7_run (c : Dev nD) (i : grid1.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S4x1024x64 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S4x1x1024 .i32) (harg7 : arg7.IsWhole) (arg8 : Memref sig .tc .vmem S256x1 .f32) (harg8 : arg8.IsWhole) (arg9 : Memref sig .tc .vmem S1x4096 .f32) (harg9 : arg9.IsWhole) (arg10 : Memref sig .tc .vmem S4x1x1024 .f32) (harg10 : arg10.IsWhole) (arg11 : Memref sig .tc .vmem S256x3 .f32) (harg11 : arg11.IsWhole) (arg12 : Memref sig .tc .vmem S4x4x1024 .f32) (harg12 : arg12.IsWhole) (arg13 : Memref sig .tc .vmem S256x4 .f32) (harg13 : arg13.IsWhole) (arg14 : Memref sig .tc .vmem S4x256x1024 .f32) (harg14 : arg14.IsWhole) (arg15 : Memref sig .tc .vmem S4x256x1024 .f32) (harg15 : arg15.IsWhole) (v1 : Elt F .i32) (v3 : Elt F .i32) (k1_hw1 : k1_chk1 v1 v3)
    (h : v1.toNat + v3.toNat ≤ 8) (C : ℕ → Slab F) (E : Set ℕ) :
    (Held c arg15 v1 v3 C 2 : sProp 𝕄)
      ⊢ wp frame (wpE (defs₀ (F := F)) Variants.none c none) E (k1_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 k1_hw1 (Scalar.addi v1 v3) (pos) (mR v1 v3.toNat C 2) (1073741824#32))
        (fun r => iprop(⌜r = ⟨k0_pay9, Scalar.subi (Scalar.addi v1 v3) v1⟩⌝ ∗ Held c arg15 v1 v3 C 4)) := by
  rw [k1_part7_eq_skeleton]
  unfold k1_part7_skel
  iintro H
  iapply (loc_step c C 2 E h (fun _ => rfl) (hbody := ?_)) $$ [H]
  · exact fun _ _ => rfl
  · iexact H
  iintro H
  iapply (rem_step c E)
  iapply (con_step c C 2 E h (fun _ => rfl) (hbody := ?_)) $$ [H]
  · exact fun _ _ => rfl
  · iexact H
  iintro H
  iapply (rem_step c E)
  iapply (max_step c C 3 E h (fun _ => rfl) (hbody := ?_)) $$ [H]
  · exact fun _ _ => rfl
  · iexact H
  iintro H
  iapply (rem_step c E)
  iapply (loc_step c C 3 E h (fun _ => rfl) (hbody := ?_)) $$ [H]
  · exact fun _ _ => rfl
  · iexact H
  iintro H
  iapply (rem_step c E)
  iapply (con_step c C 3 E h (fun _ => rfl) (hbody := ?_)) $$ [H]
  · exact fun _ _ => rfl
  · iexact H
  iintro H
  iapply (rem_step c E)
  rw [wp_pure]
  iapply BI.fupd_intro
  isplitr
  · ipureintro; rfl
  iexact H

theorem k1_part8_run (c : Dev nD) (i : grid1.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S4x1024x64 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S4x1x1024 .i32) (harg7 : arg7.IsWhole) (arg8 : Memref sig .tc .vmem S256x1 .f32) (harg8 : arg8.IsWhole) (arg9 : Memref sig .tc .vmem S1x4096 .f32) (harg9 : arg9.IsWhole) (arg10 : Memref sig .tc .vmem S4x1x1024 .f32) (harg10 : arg10.IsWhole) (arg11 : Memref sig .tc .vmem S256x3 .f32) (harg11 : arg11.IsWhole) (arg12 : Memref sig .tc .vmem S4x4x1024 .f32) (harg12 : arg12.IsWhole) (arg13 : Memref sig .tc .vmem S256x4 .f32) (harg13 : arg13.IsWhole) (arg14 : Memref sig .tc .vmem S4x256x1024 .f32) (harg14 : arg14.IsWhole) (arg15 : Memref sig .tc .vmem S4x256x1024 .f32) (harg15 : arg15.IsWhole) (v1 : Elt F .i32) (v3 : Elt F .i32) (k1_hw1 : k1_chk1 v1 v3)
    (h : v1.toNat + v3.toNat ≤ 8) (C : ℕ → Slab F) (E : Set ℕ) :
    (Held c arg15 v1 v3 C 4 : sProp 𝕄)
      ⊢ wp frame (wpE (defs₀ (F := F)) Variants.none c none) E (k1_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 k1_hw1 (Scalar.addi v1 v3) (pos) (k0_pay9) (Scalar.subi (Scalar.addi v1 v3) v1))
        (fun r => iprop(⌜r = ⟨iR v1 v3.toNat C 5, 0#32, Scalar.subi (Scalar.addi v1 v3) v1, 1#32⟩⌝ ∗ Held c arg15 v1 v3 C 5)) := by
  rw [k1_part8_eq_skeleton]
  unfold k1_part8_skel
  iintro H
  iapply (max_step c C 4 E h (fun _ => rfl) (hbody := ?_)) $$ [H]
  · exact fun _ _ => rfl
  · iexact H
  iintro H
  iapply (rem_step c E)
  iapply (loc_step c C 4 E h (fun _ => rfl) (hbody := ?_)) $$ [H]
  · exact fun _ _ => rfl
  · iexact H
  iintro H
  iapply (rem_step c E)
  iapply (con_step c C 4 E h (fun _ => rfl) (hbody := ?_)) $$ [H]
  · exact fun _ _ => rfl
  · iexact H
  iintro H
  iapply (rem_step c E)
  iapply (max_step c C 5 E h (fun _ => rfl) (hbody := ?_)) $$ [H]
  · exact fun _ _ => rfl
  · iexact H
  iintro H
  iapply (rem_step c E)
  iapply (loc_step c C 5 E h (fun _ => rfl) (hbody := ?_)) $$ [H]
  · exact fun _ _ => rfl
  · iexact H
  iintro H
  iapply (rem_step c E)
  rw [wp_pure]
  iapply BI.fupd_intro
  isplitr
  · ipureintro; rfl
  iexact H

theorem k1_part9_run (c : Dev nD) (i : grid1.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S4x1024x64 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S4x1x1024 .i32) (harg7 : arg7.IsWhole) (arg8 : Memref sig .tc .vmem S256x1 .f32) (harg8 : arg8.IsWhole) (arg9 : Memref sig .tc .vmem S1x4096 .f32) (harg9 : arg9.IsWhole) (arg10 : Memref sig .tc .vmem S4x1x1024 .f32) (harg10 : arg10.IsWhole) (arg11 : Memref sig .tc .vmem S256x3 .f32) (harg11 : arg11.IsWhole) (arg12 : Memref sig .tc .vmem S4x4x1024 .f32) (harg12 : arg12.IsWhole) (arg13 : Memref sig .tc .vmem S256x4 .f32) (harg13 : arg13.IsWhole) (arg14 : Memref sig .tc .vmem S4x256x1024 .f32) (harg14 : arg14.IsWhole) (arg15 : Memref sig .tc .vmem S4x256x1024 .f32) (harg15 : arg15.IsWhole) (v1 : Elt F .i32) (v3 : Elt F .i32) (k1_hw1 : k1_chk1 v1 v3)
    (h : v1.toNat + v3.toNat ≤ 8) (C : ℕ → Slab F) (E : Set ℕ) :
    (Held c arg15 v1 v3 C 5 : sProp 𝕄)
      ⊢ wp frame (wpE (defs₀ (F := F)) Variants.none c none) E (k1_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 k1_hw1 (Scalar.addi v1 v3) (pos) (iR v1 v3.toNat C 5) (0#32) (Scalar.subi (Scalar.addi v1 v3) v1) (1#32))
        (fun r => iprop(⌜r = ⟨mR v1 v3.toNat C 7, k0_pay12, 1#32, Scalar.divsi (Scalar.subi (Scalar.addi v1 v3) v1) 1#32⟩⌝ ∗ Held c arg15 v1 v3 C 7)) := by
  rw [k1_part9_eq_skeleton]
  unfold k1_part9_skel
  iintro H
  iapply (con_step c C 5 E h (fun _ => rfl) (hbody := ?_)) $$ [H]
  · exact fun _ _ => rfl
  · iexact H
  iintro H
  iapply (rem_step c E)
  iapply (max_step c C 6 E h (fun _ => rfl) (hbody := ?_)) $$ [H]
  · exact fun _ _ => rfl
  · iexact H
  iintro H
  iapply (rem_step c E)
  iapply (loc_step c C 6 E h (fun _ => rfl) (hbody := ?_)) $$ [H]
  · exact fun _ _ => rfl
  · iexact H
  iintro H
  iapply (rem_step c E)
  iapply (con_step c C 6 E h (fun _ => rfl) (hbody := ?_)) $$ [H]
  · exact fun _ _ => rfl
  · iexact H
  iintro H
  iapply (rem_step c E)
  iapply (max_step c C 7 E h (fun _ => rfl) (hbody := ?_)) $$ [H]
  · exact fun _ _ => rfl
  · iexact H
  iintro H
  iapply (rem_step c E)
  rw [wp_pure]
  iapply BI.fupd_intro
  isplitr
  · ipureintro; rfl
  iexact H

end Cert.KernelIdeal

end
-- ==== Proof.KI.Body2.lean ====
/-
  The body of the second call: what it leaves in its output block, as a function of its input blocks and of the range of
  tiles it reads from the tables.
-/
module

public import proofs.«01_k».proof.Proof.KI.Parts2
public import proofs.«01_k».proof.Proof.KI.Body1

@[expose] public section

set_option maxRecDepth 65536

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slabs Cert.Trips
open Cert.KernelIdeal.Gen

variable {F : FTy → Type} [FloatOps F]

local notation "𝕄" => MT nD τ sig Unit (Elt F) ℕ (UR sig nD τ) ℕ

/-- The word of a table for grid point `i` of the second call. -/
def word1 (i : grid1.Coords) (t : S16.Idx → Elt F .i32) : BitVec 32 :=
  wordAt t (Rect.unit (s := S16) (k1_off1 i) S1.size (k1_off1_inb i)) numel1_S1

/-- The weights of the second call, slab by slab. -/
def wts1 (v1 : BitVec 32) (y3 : Vec F S256x64 .f32) (y4 : Vec F S4x1024x64 .f32) : ℕ → Slab F :=
  fun k => k1_pay43 (k1_pay2 y3 (winD fz y4 (slabOff v1 k) S1x1024x64.size))

/-- The scores of the second call, slab by slab. -/
def scr1 (v1 : BitVec 32) (v16 v20 v26 v30 v36 v40 v46 v50 : FVec F S1x1 .f32) (y3 : Vec F S256x64 .f32) (y4 : Vec F S4x1024x64 .f32) (y5 : Vec F S256x1 .i32) (y7 : Vec F S4x1x1024 .i32) (y10 : Vec F S4x1x1024 .f32) : ℕ → Slab F :=
  fun k => k1_pay44 v46 v50 y5 (k1_pay3 (k1_pay41 y3) (winD fz y4 (slabOff v1 k) S1x1024x64.size)) (k1_pay4 (F := F) (winD (0#32 : Elt F .i32) y7 (slabOff v1 k) S1x1x1024.size))
    (k1_pay5 (winD fz y10 (slabOff v1 k) S1x1x1024.size))
    (k1_pay6 v16 v20 v26 v30 (winD fz y10 (slabOff v1 k) S1x1x1024.size) (winD (0#32 : Elt F .i32) y7 (slabOff v1 k) S1x1x1024.size))
    (k1_pay7 (F := F) (winD (0#32 : Elt F .i32) y7 (slabOff v1 k) S1x1x1024.size)) (k1_pay8 v40 (winD fz y10 (slabOff v1 k) S1x1x1024.size)) (k1_pay9 v36 v40)
    (winD (0#32 : Elt F .i32) y7 (slabOff v1 k) S1x1x1024.size)

/-- The columns of a block of four, put over some values. -/
def cols4 (x : Vec F S256x4 .f32) (w0 w1 w2 w3 : Vec F S256x1 .f32) : Vec F S256x4 .f32 :=
  VecWindow.put (VecWindow.put (VecWindow.put (VecWindow.put x ![0, 0] S256x1.size w0) ![0, 1] S256x1.size w1) ![0, 2] S256x1.size w2) ![0, 3] S256x1.size w3

/-- They cover the block. -/
theorem cols4_base (x x' : Vec F S256x4 .f32) (w0 w1 w2 w3 : Vec F S256x1 .f32) : cols4 x w0 w1 w2 w3 = cols4 x' w0 w1 w2 w3 := by
  funext y
  unfold cols4 VecWindow.put
  by_cases h3 : ∀ a, (![0, 3] : Fin 2 → ℕ) a ≤ (y a).val ∧ (y a).val < (![0, 3] : Fin 2 → ℕ) a + S256x1.size a
  · rw [dif_pos h3, dif_pos h3]
  by_cases h2 : ∀ a, (![0, 2] : Fin 2 → ℕ) a ≤ (y a).val ∧ (y a).val < (![0, 2] : Fin 2 → ℕ) a + S256x1.size a
  · rw [dif_neg h3, dif_neg h3, dif_pos h2, dif_pos h2]
  by_cases h1 : ∀ a, (![0, 1] : Fin 2 → ℕ) a ≤ (y a).val ∧ (y a).val < (![0, 1] : Fin 2 → ℕ) a + S256x1.size a
  · rw [dif_neg h3, dif_neg h3, dif_neg h2, dif_neg h2, dif_pos h1, dif_pos h1]
  by_cases h0 : ∀ a, (![0, 0] : Fin 2 → ℕ) a ≤ (y a).val ∧ (y a).val < (![0, 0] : Fin 2 → ℕ) a + S256x1.size a
  · rw [dif_neg h3, dif_neg h3, dif_neg h2, dif_neg h2, dif_neg h1, dif_neg h1, dif_pos h0, dif_pos h0]
  exfalso
  have hy0 : (y 0).val < 256 := (y 0).isLt
  have hy1 : (y 1).val < 4 := (y 1).isLt
  have key : ∀ j, (y 1).val = j → ∀ a, (![0, j] : Fin 2 → ℕ) a ≤ (y a).val ∧ (y a).val < (![0, j] : Fin 2 → ℕ) a + S256x1.size a := by
    intro j hj a
    match a with
    | 0 => exact ⟨Nat.zero_le _, by show (y 0).val < 0 + 256; omega⟩
    | 1 => exact ⟨by show j ≤ (y 1).val; omega, by show (y 1).val < j + 1; omega⟩
  have : (y 1).val = 0 ∨ (y 1).val = 1 ∨ (y 1).val = 2 ∨ (y 1).val = 3 := by omega
  rcases this with h | h | h | h
  · exact h0 (key 0 h)
  · exact h1 (key 1 h)
  · exact h2 (key 2 h)
  · exact h3 (key 3 h)

/-- What the second call leaves in its block. -/
def out1 (v1 v3 : BitVec 32) (y3 : Vec F S256x64 .f32) (y4 : Vec F S4x1024x64 .f32) (y5 : Vec F S256x1 .i32) (y6 : Vec F S1x4096 .i32) (y7 : Vec F S4x1x1024 .i32) (y8 : Vec F S256x1 .f32) (y9 : Vec F S1x4096 .f32) (y10 : Vec F S4x1x1024 .f32) (y11 : Vec F S256x3 .f32) (y12 : Vec F S4x4x1024 .f32) : Vec F S256x4 .f32 :=
  let v7 := k1_pay19 (F := F) y6; let v10 := k1_pay20 y9; let v16 := k1_pay22 y6 y9; let v20 := k1_pay23 y6 y9; let v26 := k1_pay25 y6 y9; let v30 := k1_pay26 y6 y9
  let v32 := k1_pay27 (F := F) y6; let v36 := k1_pay28 y6 y9; let v37 := k1_pay29 (F := F); let v40 := k1_pay30 v10 v32 v37; let v46 := k1_pay32 v7 v10
  let v50 := k1_pay33 v7 v10; let v54 := k1_pay35 y8; let v79 := k1_pay36 v10 v16 v20 v26 v30 v32 v36 v37 y8 y5; let v81 := k1_pay37 (F := F) y5; let v82 := k1_pay38 v7 v10
  let v87 := k1_pay39 v46 v50 v54 v79 v81 v82; let v89 := k1_pay40 v46 v50 v54 v79 v81 v82
  let A := accOf v3.toNat (cR v1 v3.toNat (scr1 v1 v16 v20 v26 v30 v36 v40 v46 v50 y3 y4 y5 y7 y10) 8) (wts1 v1 y3 y4) (vals v1 y12)
  cols4 (fun _ => fz) (k1_pay125 v89 A.1 A.2.1 y11) (k1_pay126 v89 A.1 A.2.2.1 y11) (k1_pay127 v89 A.1 A.2.2.2 y11) v87

/-- The head of the second call: its range and what it keeps of the visibilities. -/
theorem k1_part3_run (c : Dev nD) (i : grid1.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S4x1024x64 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S4x1x1024 .i32) (harg7 : arg7.IsWhole) (arg8 : Memref sig .tc .vmem S256x1 .f32) (harg8 : arg8.IsWhole) (arg9 : Memref sig .tc .vmem S1x4096 .f32) (harg9 : arg9.IsWhole) (arg10 : Memref sig .tc .vmem S4x1x1024 .f32) (harg10 : arg10.IsWhole) (arg11 : Memref sig .tc .vmem S256x3 .f32) (harg11 : arg11.IsWhole) (arg12 : Memref sig .tc .vmem S4x4x1024 .f32) (harg12 : arg12.IsWhole) (arg13 : Memref sig .tc .vmem S256x4 .f32) (harg13 : arg13.IsWhole) (arg14 : Memref sig .tc .vmem S4x256x1024 .f32) (harg14 : arg14.IsWhole) (arg15 : Memref sig .tc .vmem S4x256x1024 .f32) (harg15 : arg15.IsWhole)
    {q1 q2 : PosShare TreeShare} (t1 t2 : S16.Idx → Elt F .i32) (y3 : Vec F S256x64 .f32) (y6 : Vec F S1x4096 .i32) (y9 : Vec F S1x4096 .f32)
    {v1 v3 : BitVec 32} (hv1 : word1 (F := F) i t1 = v1) (hv3 : word1 (F := F) i t2 = v3) (h4 : v1.toNat + v3.toNat ≤ 4) (E : Set ℕ) :
    (iprop(owns (c : Thread nD τ) arg1 q1 t1 ∗ owns (c : Thread nD τ) arg2 q2 t2 ∗ owns (c : Thread nD τ) arg3 fullShare y3 ∗ owns (c : Thread nD τ) arg6 fullShare y6 ∗ owns (c : Thread nD τ) arg9 fullShare y9) : sProp 𝕄)
      ⊢ wp frame (wpE (defs₀ (F := F)) Variants.none c none) E (k1_part3 i arg1 harg1 arg2 harg2 arg3 harg3 arg4 harg4 arg5 harg5 arg6 harg6 arg7 harg7 arg8 harg8 arg9 harg9 arg10 harg10 arg11 harg11 arg12 harg12 arg13 harg13 arg14 harg14 arg15 harg15)
        (fun r => iprop(⌜r = ⟨v1, v3, k1_chk1_holds h4, Scalar.addi v1 v3, y3, k1_pay19 (F := F) y6, k1_pay20 y9, k1_pay22 y6 y9, k1_pay23 y6 y9, k1_pay25 y6 y9, k1_pay26 y6 y9, k1_pay27 (F := F) y6, k1_pay28 y6 y9, k1_pay29⟩⌝
          ∗ owns (c : Thread nD τ) arg1 q1 t1 ∗ owns (c : Thread nD τ) arg2 q2 t2 ∗ owns (c : Thread nD τ) arg3 fullShare y3 ∗ owns (c : Thread nD τ) arg6 fullShare y6 ∗ owns (c : Thread nD τ) arg9 fullShare y9)) := by
  rw [k1_part3_eq_skeleton]
  unfold k1_part3_skel
  iintro ⟨H1, H2, H3, H6, H9⟩
  iapply (smem_owns Variants.none (c : Thread nD τ) none E hv1) $$ [H1]
  · iexact H1
  iintro H1
  iapply (smem_owns Variants.none (c : Thread nD τ) none E hv3) $$ [H2]
  · iexact H2
  iintro H2
  iapply (wp_assume Variants.none (c : Thread nD τ) none E (k1_chk1_holds h4))
  iapply (load_full Variants.none (c : Thread nD τ) none E) $$ [H3]
  · iexact H3
  iintro H3
  iapply (load_full Variants.none (c : Thread nD τ) none E) $$ [H6]
  · iexact H6
  iintro H6
  iapply (load_full Variants.none (c : Thread nD τ) none E) $$ [H9]
  · iexact H9
  iintro H9
  rw [wp_pure]
  iapply BI.fupd_intro
  isplitr
  · ipureintro; rfl
  iframe

theorem k1_part4_run (c : Dev nD) (i : grid1.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S4x1024x64 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S4x1x1024 .i32) (harg7 : arg7.IsWhole) (arg8 : Memref sig .tc .vmem S256x1 .f32) (harg8 : arg8.IsWhole) (arg9 : Memref sig .tc .vmem S1x4096 .f32) (harg9 : arg9.IsWhole) (arg10 : Memref sig .tc .vmem S4x1x1024 .f32) (harg10 : arg10.IsWhole) (arg11 : Memref sig .tc .vmem S256x3 .f32) (harg11 : arg11.IsWhole) (arg12 : Memref sig .tc .vmem S4x4x1024 .f32) (harg12 : arg12.IsWhole) (arg13 : Memref sig .tc .vmem S256x4 .f32) (harg13 : arg13.IsWhole) (arg14 : Memref sig .tc .vmem S4x256x1024 .f32) (harg14 : arg14.IsWhole) (arg15 : Memref sig .tc .vmem S4x256x1024 .f32) (harg15 : arg15.IsWhole) (v7 : IVec S1x4096 32) (v10 : FVec F S1x4096 .f32) (v16 : FVec F S1x1 .f32) (v20 : FVec F S1x1 .f32) (v26 : FVec F S1x1 .f32) (v30 : FVec F S1x1 .f32) (v32 : IVec S1x4096 1) (v36 : FVec F S1x1 .f32) (v37 : FVec F S1x4096 .f32)
    (y5 : Vec F S256x1 .i32) (y8 : Vec F S256x1 .f32) (E : Set ℕ) :
    (iprop(owns (c : Thread nD τ) arg5 fullShare y5 ∗ owns (c : Thread nD τ) arg8 fullShare y8) : sProp 𝕄)
      ⊢ wp frame (wpE (defs₀ (F := F)) Variants.none c none) E (k1_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 v7 v10 v16 v20 v26 v30 v32 v36 v37)
        (fun r => iprop(⌜r = ⟨k1_pay30 v10 v32 v37, k1_pay32 v7 v10, k1_pay33 v7 v10, k1_pay35 y8, k1_pay36 v10 v16 v20 v26 v30 v32 v36 v37 y8 y5, k1_pay37 (F := F) y5, k1_pay38 v7 v10⟩⌝
          ∗ owns (c : Thread nD τ) arg5 fullShare y5 ∗ owns (c : Thread nD τ) arg8 fullShare y8)) := by
  rw [k1_part4_eq_skeleton]
  unfold k1_part4_skel
  iintro ⟨H5, H8⟩
  iapply (load_full Variants.none (c : Thread nD τ) none E) $$ [H8]
  · iexact H8
  iintro H8
  iapply (load_full Variants.none (c : Thread nD τ) none E) $$ [H5]
  · iexact H5
  iintro H5
  rw [wp_pure]
  iapply BI.fupd_intro
  isplitr
  · ipureintro; rfl
  iframe

theorem k1_part1_run (c : Dev nD) (i : grid1.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S4x1024x64 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S4x1x1024 .i32) (harg7 : arg7.IsWhole) (arg8 : Memref sig .tc .vmem S256x1 .f32) (harg8 : arg8.IsWhole) (arg9 : Memref sig .tc .vmem S1x4096 .f32) (harg9 : arg9.IsWhole) (arg10 : Memref sig .tc .vmem S4x1x1024 .f32) (harg10 : arg10.IsWhole) (arg11 : Memref sig .tc .vmem S256x3 .f32) (harg11 : arg11.IsWhole) (arg12 : Memref sig .tc .vmem S4x4x1024 .f32) (harg12 : arg12.IsWhole) (arg13 : Memref sig .tc .vmem S256x4 .f32) (harg13 : arg13.IsWhole) (arg14 : Memref sig .tc .vmem S4x256x1024 .f32) (harg14 : arg14.IsWhole) (arg15 : Memref sig .tc .vmem S4x256x1024 .f32) (harg15 : arg15.IsWhole) (v1 : Elt F .i32) (v3 : Elt F .i32) (k1_hw1 : k1_chk1 v1 v3) (v5 : Vec F S256x64 .f32) (v16 : FVec F S1x1 .f32) (v20 : FVec F S1x1 .f32) (v26 : FVec F S1x1 .f32) (v30 : FVec F S1x1 .f32) (v36 : FVec F S1x1 .f32) (v40 : FVec F S1x1 .f32) (v99 : FVec F S256x64 .f32) (c1_i32_37 : BitVec 32) (k1_t1 : Fin (k1_t1_loop v1 v3).trips)
    (y4 : Vec F S4x1024x64 .f32) (y7 : Vec F S4x1x1024 .i32) (y10 : Vec F S4x1x1024 .f32) (h : v1.toNat + v3.toNat ≤ 8) (E : Set ℕ) :
    (iprop(owns (c : Thread nD τ) arg4 fullShare y4 ∗ owns (c : Thread nD τ) arg7 fullShare y7 ∗ owns (c : Thread nD τ) arg10 fullShare y10) : sProp 𝕄)
      ⊢ wp frame (wpE (defs₀ (F := F)) Variants.none c none) E (k1_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 k1_hw1 v5 v16 v20 v26 v30 v36 v40 v99 c1_i32_37 k1_t1)
        (fun r => iprop(⌜r = ⟨Scf.iv v1 c1_i32_37 k1_t1, k1_pay2 v5 (winD fz y4 (slabOff v1 k1_t1) S1x1024x64.size), k1_pay3 v99 (winD fz y4 (slabOff v1 k1_t1) S1x1024x64.size),
            k1_pay4 (F := F) (winD (0#32 : Elt F .i32) y7 (slabOff v1 k1_t1) S1x1x1024.size), k1_pay5 (winD fz y10 (slabOff v1 k1_t1) S1x1x1024.size),
            k1_pay6 v16 v20 v26 v30 (winD fz y10 (slabOff v1 k1_t1) S1x1x1024.size) (winD (0#32 : Elt F .i32) y7 (slabOff v1 k1_t1) S1x1x1024.size),
            k1_pay7 (F := F) (winD (0#32 : Elt F .i32) y7 (slabOff v1 k1_t1) S1x1x1024.size), k1_pay8 v40 (winD fz y10 (slabOff v1 k1_t1) S1x1x1024.size), k1_pay9 v36 v40⟩⌝
          ∗ owns (c : Thread nD τ) arg4 fullShare y4 ∗ owns (c : Thread nD τ) arg7 fullShare y7 ∗ owns (c : Thread nD τ) arg10 fullShare y10)) := by
  rw [k1_part1_eq_skeleton]
  unfold k1_part1_skel
  iintro ⟨H4, H7, H10⟩
  iapply (load_win Variants.none (c : Thread nD τ) none E fz (iv_off h k1_t1)) $$ [H4]
  · iexact H4
  iintro H4
  iapply (load_win Variants.none (c : Thread nD τ) none E fz (iv_off h k1_t1)) $$ [H10]
  · iexact H10
  iintro H10
  iapply (load_win Variants.none (c : Thread nD τ) none E (0#32 : Elt F .i32) (iv_off h k1_t1)) $$ [H7]
  · iexact H7
  iintro H7
  rw [wp_pure]
  iapply BI.fupd_intro
  isplitr
  · ipureintro; rfl
  iframe

/-- The scores and the weights, and the first round up to the position. -/
theorem k1_part5_run (c : Dev nD) (i : grid1.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S4x1024x64 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S4x1x1024 .i32) (harg7 : arg7.IsWhole) (arg8 : Memref sig .tc .vmem S256x1 .f32) (harg8 : arg8.IsWhole) (arg9 : Memref sig .tc .vmem S1x4096 .f32) (harg9 : arg9.IsWhole) (arg10 : Memref sig .tc .vmem S4x1x1024 .f32) (harg10 : arg10.IsWhole) (arg11 : Memref sig .tc .vmem S256x3 .f32) (harg11 : arg11.IsWhole) (arg12 : Memref sig .tc .vmem S4x4x1024 .f32) (harg12 : arg12.IsWhole) (arg13 : Memref sig .tc .vmem S256x4 .f32) (harg13 : arg13.IsWhole) (arg14 : Memref sig .tc .vmem S4x256x1024 .f32) (harg14 : arg14.IsWhole) (arg15 : Memref sig .tc .vmem S4x256x1024 .f32) (harg15 : arg15.IsWhole) (v1 : Elt F .i32) (v3 : Elt F .i32) (k1_hw1 : k1_chk1 v1 v3) (v16 : FVec F S1x1 .f32) (v20 : FVec F S1x1 .f32) (v26 : FVec F S1x1 .f32) (v30 : FVec F S1x1 .f32) (v36 : FVec F S1x1 .f32) (v40 : FVec F S1x1 .f32) (v46 : FVec F S1x1 .f32) (v50 : FVec F S1x1 .f32) (v54 : FVec F S256x1 .f32) (v79 : FVec F S256x1 .f32) (v81 : IVec S256x1 1) (v82 : FVec F S256x1 .f32)
    (y3 : Vec F S256x64 .f32) (y4 : Vec F S4x1024x64 .f32) (y5 : Vec F S256x1 .i32) (y7 : Vec F S4x1x1024 .i32) (y10 : Vec F S4x1x1024 .f32) (h : v1.toNat + v3.toNat ≤ 8) (E : Set ℕ) :
    (iprop(owns (c : Thread nD τ) arg4 fullShare y4 ∗ owns (c : Thread nD τ) arg5 fullShare y5 ∗ owns (c : Thread nD τ) arg7 fullShare y7 ∗ owns (c : Thread nD τ) arg10 fullShare y10 ∗ (∃ X, owns (c : Thread nD τ) arg14 fullShare X) ∗ (∃ X, owns (c : Thread nD τ) arg15 fullShare X)) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 k1_hw1 (Scalar.addi v1 v3) y3 v16 v20 v26 v30 v36 v40 v46 v50 v54 v79 v81 v82)
        (fun r => iprop(⌜r = ⟨k1_pay39 v46 v50 v54 v79 v81 v82, k1_pay40 v46 v50 v54 v79 v81 v82, pos, mR v1 v3.toNat (scr1 v1 v16 v20 v26 v30 v36 v40 v46 v50 y3 y4 y5 y7 y10) 0, mid v1 v3, iR v1 v3.toNat (scr1 v1 v16 v20 v26 v30 v36 v40 v46 v50 y3 y4 y5 y7 y10) 0, 1#32⟩⌝
          ∗ owns (c : Thread nD τ) arg4 fullShare y4 ∗ owns (c : Thread nD τ) arg5 fullShare y5 ∗ owns (c : Thread nD τ) arg7 fullShare y7 ∗ owns (c : Thread nD τ) arg10 fullShare y10 ∗ Slabs (c : Thread nD τ) arg14 (![1, 256, 1024] : Fin 3 → ℕ) (slabOff v1) v3.toNat (wts1 v1 y3 y4) ∗ Held c arg15 v1 v3 (scr1 v1 v16 v20 v26 v30 v36 v40 v46 v50 y3 y4 y5 y7 y10) 0)) := by
  rw [k1_part5_eq_skeleton]
  unfold k1_part5_skel
  iintro ⟨H4, H5, H7, H10, HS, HC⟩
  iapply (load_full Variants.none (c : Thread nD τ) none E) $$ [H5]
  · iexact H5
  iintro H5
  iapply (sweep_bind Variants.none (c : Thread nD τ) none E (mainL v1 v3) _ 0#32 _ v3.toNat (main_trips h)
    (fun k => iprop(owns (c : Thread nD τ) arg4 fullShare y4 ∗ owns (c : Thread nD τ) arg7 fullShare y7 ∗ owns (c : Thread nD τ) arg10 fullShare y10 ∗ Slabs (c : Thread nD τ) arg14 (![1, 256, 1024] : Fin 3 → ℕ) (slabOff v1) k (wts1 v1 y3 y4) ∗ Slabs (c : Thread nD τ) arg15 (![1, 256, 1024] : Fin 3 → ℕ) (slabOff v1) k (scr1 v1 v16 v20 v26 v30 v36 v40 v46 v50 y3 y4 y5 y7 y10))) 0#32 (hb := ?_)) $$ [H4 H7 H10 HS HC]
  · intro k acc
    unfold k1_t1_body
    iintro ⟨H4, H7, H10, HS, HC⟩
    iapply (run_bind Variants.none (c : Thread nD τ) none E (k1_part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 k1_hw1 y3 v16 v20 v26 v30 v36 v40 (k1_pay41 y3) 1#32 k y4 y7 y10 h E)) $$ [H4 H7 H10]
    · iframe
    iintro ⟨H4, H7, H10⟩
    iapply (load_win Variants.none (c : Thread nD τ) none E (0#32 : Elt F .i32) (iv_off h k)) $$ [H7]
    · iexact H7
    iintro H7
    iapply (load_dead Variants.none (c : Thread nD τ) none E) $$ [HS]
    · iexact HS
    iintro HS
    iapply (put_step c v1 (wts1 v1 y3 y4) E (k := k.val) (iv_off h k) (hw := ?_)) $$ [HS]
    · rfl
    · iexact HS
    iintro HS
    iapply (load_dead Variants.none (c : Thread nD τ) none E) $$ [HC]
    · iexact HC
    iintro HC
    iapply (put_step c v1 (scr1 v1 v16 v20 v26 v30 v36 v40 v46 v50 y3 y4 y5 y7 y10) E (k := k.val) (iv_off h k) (hw := ?_)) $$ [HC]
    · rfl
    · iexact HC
    iintro HC
    rw [wp_pure]
    iapply BI.fupd_intro
    isplitr
    · ipureintro; rfl
    iframe
  · isplitl [H4]
    · iexact H4
    isplitl [H7]
    · iexact H7
    isplitl [H10]
    · iexact H10
    isplitl [HS]
    · iapply (slabs_zero (c : Thread nD τ)); iexact HS
    · iapply (slabs_zero (c : Thread nD τ)); iexact HC
  iintro ⟨H4, H7, H10, HS, HC⟩
  iapply (rem_step c E)
  iapply (max_step c (scr1 v1 v16 v20 v26 v30 v36 v40 v46 v50 y3 y4 y5 y7 y10) 0 E h (fun _ => rfl) (hbody := ?_)) $$ [HC]
  · exact fun _ _ => rfl
  · unfold Held; iexact HC
  iintro HC
  iapply (rem_step c E)
  iapply (loc_step c (scr1 v1 v16 v20 v26 v30 v36 v40 v46 v50 y3 y4 y5 y7 y10) 0 E h (fun _ => rfl) (hbody := ?_)) $$ [HC]
  · exact fun _ _ => rfl
  · iexact HC
  iintro HC
  rw [wp_pure]
  iapply BI.fupd_intro
  isplitr
  · ipureintro; rfl
  iframe

/-- The body of the second call. -/
theorem k1_run (c : Dev nD) (i : grid1.Coords) (arg1 : Memref sig .tc .smem S16 .i32) (harg1 : arg1.IsWhole) (arg2 : Memref sig .tc .smem S16 .i32) (harg2 : arg2.IsWhole) (arg3 : Memref sig .tc .vmem S256x64 .f32) (harg3 : arg3.IsWhole) (arg4 : Memref sig .tc .vmem S4x1024x64 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S4x1x1024 .i32) (harg7 : arg7.IsWhole) (arg8 : Memref sig .tc .vmem S256x1 .f32) (harg8 : arg8.IsWhole) (arg9 : Memref sig .tc .vmem S1x4096 .f32) (harg9 : arg9.IsWhole) (arg10 : Memref sig .tc .vmem S4x1x1024 .f32) (harg10 : arg10.IsWhole) (arg11 : Memref sig .tc .vmem S256x3 .f32) (harg11 : arg11.IsWhole) (arg12 : Memref sig .tc .vmem S4x4x1024 .f32) (harg12 : arg12.IsWhole) (arg13 : Memref sig .tc .vmem S256x4 .f32) (harg13 : arg13.IsWhole) (arg14 : Memref sig .tc .vmem S4x256x1024 .f32) (harg14 : arg14.IsWhole) (arg15 : Memref sig .tc .vmem S4x256x1024 .f32) (harg15 : arg15.IsWhole)
    {q1 q2 : PosShare TreeShare} (t1 t2 : S16.Idx → Elt F .i32) (y3 : Vec F S256x64 .f32) (y4 : Vec F S4x1024x64 .f32) (y5 : Vec F S256x1 .i32) (y6 : Vec F S1x4096 .i32) (y7 : Vec F S4x1x1024 .i32) (y8 : Vec F S256x1 .f32) (y9 : Vec F S1x4096 .f32) (y10 : Vec F S4x1x1024 .f32) (y11 : Vec F S256x3 .f32) (y12 : Vec F S4x4x1024 .f32)
    {v1 v3 : BitVec 32} (hv1 : word1 (F := F) i t1 = v1) (hv3 : word1 (F := F) i t2 = v3) (h4 : v1.toNat + v3.toNat ≤ 4) (E : Set ℕ) :
    (iprop(owns (c : Thread nD τ) arg1 q1 t1 ∗ owns (c : Thread nD τ) arg2 q2 t2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ (∃ X, owns (c : Thread nD τ) arg13 fullShare X) ∗ (∃ X, owns (c : Thread nD τ) arg14 fullShare X) ∗ (∃ X, owns (c : Thread nD τ) arg15 fullShare X)) : sProp 𝕄)
      ⊢ wp frame (wpE (defs₀ (F := F)) Variants.none c none) E (cc1__knn2_body i arg1 harg1 arg2 harg2 arg3 harg3 arg4 harg4 arg5 harg5 arg6 harg6 arg7 harg7 arg8 harg8 arg9 harg9 arg10 harg10 arg11 harg11 arg12 harg12 arg13 harg13 arg14 harg14 arg15 harg15)
        (fun _ => iprop(owns (c : Thread nD τ) arg1 q1 t1 ∗ owns (c : Thread nD τ) arg2 q2 t2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12
          ∗ owns (c : Thread nD τ) arg13 fullShare (out1 v1 v3 y3 y4 y5 y6 y7 y8 y9 y10 y11 y12) ∗ (∃ X, owns (c : Thread nD τ) arg14 fullShare X) ∗ (∃ X, owns (c : Thread nD τ) arg15 fullShare X))) := by
  have h : v1.toNat + v3.toNat ≤ 8 := le_trans h4 (by decide)
  simp only [cc1__knn2_body_eq_skeleton]
  unfold cc1__knn2_body_skel
  rw [k1_part10_eq_skeleton]
  unfold k1_part10_skel
  simp only [bind_assoc]
  iintro ⟨H1, H2, H3, H4, H5, H6, H7, H8, H9, H10, H11, H12, H13, HS, HC⟩
  iapply (run_bind Variants.none (c : Thread nD τ) none E (k1_part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 (q1 := q1) (q2 := q2) t1 t2 y3 y6 y9 hv1 hv3 h4 E)) $$ [H1 H2 H3 H6 H9]
  · iframe
  iintro ⟨H1, H2, H3, H6, H9⟩
  iapply (run_bind Variants.none (c : Thread nD τ) none E (k1_part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ y5 y8 E)) $$ [H5 H8]
  · iframe
  iintro ⟨H5, H8⟩
  dsimp only
  generalize hv16 : k1_pay22 y6 y9 = v16
  generalize hv20 : k1_pay23 y6 y9 = v20
  generalize hv26 : k1_pay25 y6 y9 = v26
  generalize hv30 : k1_pay26 y6 y9 = v30
  generalize hv36 : k1_pay28 y6 y9 = v36
  generalize hv40 : k1_pay30 (k1_pay20 y9) (k1_pay27 (F := F) y6) (k1_pay29 (F := F)) = v40
  generalize hv46 : k1_pay32 (k1_pay19 (F := F) y6) (k1_pay20 y9) = v46
  generalize hv50 : k1_pay33 (k1_pay19 (F := F) y6) (k1_pay20 y9) = v50
  iapply (run_bind Variants.none (c : Thread nD τ) none E (k1_part5_run c i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 (k1_chk1_holds h4) v16 v20 v26 v30 v36 v40 v46 v50 _ _ _ _ y3 y4 y5 y7 y10 h E)) $$ [H4 H5 H7 H10 HS HC]
  · iframe
  iintro ⟨H4, H5, H7, H10, HS, HC⟩
  iapply (run_bind Variants.none (c : Thread nD τ) none E (k1_part6_run c i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 (k1_chk1_holds h4) h (scr1 v1 v16 v20 v26 v30 v36 v40 v46 v50 y3 y4 y5 y7 y10) E)) $$ [HC]
  · iexact HC
  iintro HC
  iapply (run_bind Variants.none (c : Thread nD τ) none E (k1_part7_run c i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 (k1_chk1_holds h4) h (scr1 v1 v16 v20 v26 v30 v36 v40 v46 v50 y3 y4 y5 y7 y10) E)) $$ [HC]
  · iexact HC
  iintro HC
  iapply (run_bind Variants.none (c : Thread nD τ) none E (k1_part8_run c i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 (k1_chk1_holds h4) h (scr1 v1 v16 v20 v26 v30 v36 v40 v46 v50 y3 y4 y5 y7 y10) E)) $$ [HC]
  · iexact HC
  iintro HC
  iapply (run_bind Variants.none (c : Thread nD τ) none E (k1_part9_run c i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 (k1_chk1_holds h4) h (scr1 v1 v16 v20 v26 v30 v36 v40 v46 v50 y3 y4 y5 y7 y10) E)) $$ [HC]
  · iexact HC
  iintro HC
  iapply (loc_step c (scr1 v1 v16 v20 v26 v30 v36 v40 v46 v50 y3 y4 y5 y7 y10) 7 E h (fun _ => rfl) (hbody := ?_)) $$ [HC]
  · exact fun _ _ => rfl
  · iexact HC
  iintro HC
  iapply (rem_step c E)
  iapply (con_step c (scr1 v1 v16 v20 v26 v30 v36 v40 v46 v50 y3 y4 y5 y7 y10) 7 E h (fun _ => rfl) (hbody := ?_)) $$ [HC]
  · exact fun _ _ => rfl
  · iexact HC
  iintro HC
  iapply (rem_step c E)
  iapply (acc_step c (scr1 v1 v16 v20 v26 v30 v36 v40 v46 v50 y3 y4 y5 y7 y10) (wts1 v1 y3 y4) 8 y12 E h (fun _ => rfl) (fun _ => rfl) (hbody := ?_)) $$ [H12 HS HC]
  · exact fun _ _ => rfl
  · iframe
  iintro ⟨H12, HS, HC⟩
  iapply (rem_step c E)
  iapply (load_full Variants.none (c : Thread nD τ) none E) $$ [H11]
  · iexact H11
  iintro H11
  icases H13 with ⟨%X, H13⟩
  iapply (load_owns Variants.none (c : Thread nD τ) none E rfl inb_S256x4_S256x1_0_0) $$ [H13]
  · iexact H13
  iintro H13
  iapply (store_owns Variants.none (c : Thread nD τ) none E rfl) $$ [H13]
  · iexact H13
  iintro H13
  iapply (load_owns Variants.none (c : Thread nD τ) none E rfl inb_S256x4_S256x1_0_1) $$ [H13]
  · iexact H13
  iintro H13
  iapply (store_owns Variants.none (c : Thread nD τ) none E rfl) $$ [H13]
  · iexact H13
  iintro H13
  iapply (load_owns Variants.none (c : Thread nD τ) none E rfl inb_S256x4_S256x1_0_2) $$ [H13]
  · iexact H13
  iintro H13
  rw [pure_bind]
  iapply (store_owns Variants.none (c : Thread nD τ) none E rfl) $$ [H13]
  · iexact H13
  iintro H13
  iapply (load_owns Variants.none (c : Thread nD τ) none E rfl inb_S256x4_S256x1_0_3) $$ [H13]
  · iexact H13
  iintro H13
  iapply (store_owns Variants.none (c : Thread nD τ) none E rfl) $$ [H13]
  · iexact H13
  iintro H13
  rw [wp_pure]
  iapply BI.fupd_intro
  have e : out1 v1 v3 y3 y4 y5 y6 y7 y8 y9 y10 y11 y12 = cols4 X _ _ _ _ := cols4_base _ X _ _ _ _
  rw [e]
  subst hv16 hv20 hv26 hv30 hv36 hv40 hv46 hv50
  unfold Held
  ihave HS := (slabs_forget (c : Thread nD τ)) $$ HS
  ihave HC := (slabs_forget (c : Thread nD τ)) $$ HC
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  iexact HC

end Cert.KernelIdeal

end
-- ==== Proof.KI.Region1.lean ====
/-
  The region of call 1: its proof data at any contents of the buffers, the obligation of its body, and what it leaves in its
  output array.
-/
module

public import proofs.«01_k».proof.Proof.KI.Body2
public import proofs.«01_k».proof.Proof.Gen.KernelIdeal.Launch
public import Idealize.ShloMosaic.Lib.Pipeline.FrameBody
public import Idealize.ShloMosaic.Lib.Pipeline.RegionArraysTS

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs Cert.Trips
open Cert.KernelIdeal.Gen

variable {F : FTy → Type} [FloatOps F]

local notation "𝕄" => MT nD τ sig Unit (Elt F) ℕ (UR sig nD τ) ℕ

variable (V : Dev nD → Valuation τ sig (Elt F))

/-- The tables of call 1 at the contents `V`. -/
def tab1 : pre1.Contents (Elt F) := fun k => V 0 (Proc.devRef .tc (pre1.ref k))

/-- Every contents of the tables is admissible: no index map reads one. -/
abbrev adm1 : (pcfg1 (F := F)).Adm := ⟨tab1 V, trivial⟩

/-- The first tile of point `t`, and the number of tiles. -/
def lo1 (t : Fin grid1.N) : BitVec 32 := word1 (F := F) (grid1.coords t) (V 0 (Proc.devRef .tc main_v66))
def nt1 (t : Fin grid1.N) : BitVec 32 := word1 (F := F) (grid1.coords t) (V 0 (Proc.devRef .tc main_v70))

/-- Window `w`'s block at point `t`. -/
def blk1 (c : Dev nD) (w : Fin (cfg1 (adm1 V)).W) (t : Fin (cfg1 (adm1 V)).N) :
    (((cfg1 (adm1 V)).win w).xblock ((cfg1 (adm1 V)).grid.coords t)).Idx → Elt F ((cfg1 (adm1 V)).win w).elt :=
  (((cfg1 (adm1 V)).win w).blk t).view.read (Elt F) (V c (Proc.devRef .tc (Pipeline.arrRef spec1 w)))

/-- What the body leaves in its output block at point `t`. -/
def left1 (c : Dev nD) (t : Fin grid1.N) : Vec F S256x4 .f32 :=
  out1 (lo1 V t) (nt1 V t) (blk1 V c 0 t) (blk1 V c 1 t) (blk1 V c 2 t) (blk1 V c 3 t) (blk1 V c 4 t) (blk1 V c 5 t) (blk1 V c 6 t) (blk1 V c 7 t) (blk1 V c 8 t) (blk1 V c 9 t)

/-- The proof data of call 1 at the contents `V`. -/
def dat1 (c : Dev nD) : Dat τ (Elt F) Unit ℕ (UR sig nD τ) ℕ (cfg1 (adm1 V)) c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => left1 V c t
  Φ _ := iprop(iprop(Pipeline.scopedRest spec1 c ∗ iprop(emp)) ∗ Pipeline.prefHeld pre1 c (fun _ => fullShare) (tab1 V))
  q _ := fullShare
  owed _ := 0

/-- An input's staging buffer holds its block at every point. -/
theorem before1 (c : Dev nD) (w : Fin (cfg1 (adm1 V)).W) (hw : w.val < 10) (t : Fin (cfg1 (adm1 V)).N) (d) :
    (dat1 V c).before w t d = blk1 V c w t := by
  match w, hw with
  | ⟨0, _⟩, _ =>
    exact ((dat1 V c).before_in_eq_fetched 0 rfl (fun _ => rfl) (fun _ _ _ => rfl) (fun t => rfl) t d).trans rfl
  | ⟨1, _⟩, _ =>
    exact ((dat1 V c).before_in_eq_fetched 1 rfl (fun _ => rfl) (fun _ _ _ => rfl) (fun t => rfl) t d).trans rfl
  | ⟨2, _⟩, _ =>
    exact ((dat1 V c).before_in_eq_fetched 2 rfl (fun _ => rfl) (fun _ _ _ => rfl) (fun t => rfl) t d).trans rfl
  | ⟨3, _⟩, _ =>
    exact ((dat1 V c).before_in_eq_fetched 3 rfl (fun _ => rfl) (fun _ _ _ => rfl) (fun t => rfl) t d).trans rfl
  | ⟨4, _⟩, _ =>
    exact ((dat1 V c).before_in_eq_fetched 4 rfl (fun _ => rfl) (fun _ _ _ => rfl) (fun t => rfl) t d).trans rfl
  | ⟨5, _⟩, _ =>
    exact ((dat1 V c).before_in_eq_fetched 5 rfl (fun _ => rfl) (fun _ _ _ => rfl) (fun t => rfl) t d).trans rfl
  | ⟨6, _⟩, _ =>
    exact ((dat1 V c).before_in_eq_fetched 6 rfl (fun _ => rfl) (fun _ _ _ => rfl) (fun t => rfl) t d).trans rfl
  | ⟨7, _⟩, _ =>
    exact ((dat1 V c).before_in_eq_fetched 7 rfl (fun _ => rfl) (fun _ _ _ => rfl) (fun t => rfl) t d).trans rfl
  | ⟨8, _⟩, _ =>
    exact ((dat1 V c).before_in_eq_fetched 8 rfl (fun _ => rfl) (fun _ _ _ => rfl) (fun t => rfl) t d).trans rfl
  | ⟨9, _⟩, _ =>
    exact ((dat1 V c).before_in_eq_fetched 9 rfl (fun _ => rfl) (fun _ _ _ => rfl) (fun t => rfl) t d).trans rfl

/-- The tables of call 1, one by one. -/
theorem prefHeld1_eq (c : Dev nD) (hc : c = 0) : (Pipeline.prefHeld pre1 c (fun _ => fullShare) (tab1 V) : sProp 𝕄)
    = iprop(owns (c : Thread nD τ) (Memref.whole main_v66) fullShare (V c (Proc.devRef .tc main_v66)) ∗ owns (c : Thread nD τ) (Memref.whole main_v70) fullShare (V c (Proc.devRef .tc main_v70))) := by
  subst hc
  unfold Pipeline.prefHeld
  rw [show (Finset.univ : Finset (Fin 2)) = insert (0 : Fin 2) {(1 : Fin 2)} from by decide,
    bigSep_insert (by decide), bigSep_singleton, owns_whole, owns_whole]
  rfl

set_option maxHeartbeats 1600000 in
set_option backward.isDefEq.respectTransparency.types false in
/-- The obligation of the body: its triple, between the invariant and the blocks. -/
theorem body1_obligation (hb : ∀ t, (lo1 V t).toNat + (nt1 V t).toNat ≤ 4) (c : Dev nD) :
    BodyObligation (dat1 (F := F) V c) (defs₀ (F := F)) Variants.none () Set.univ := fun t => by
  obtain rfl : c = 0 := Subsingleton.elim _ _
  rw [bigSep_W1, bigSep_W1]
  simp only [before1 V 0 0 (show 0 < 10 by decide), before1 V 0 1 (show 1 < 10 by decide), before1 V 0 2 (show 2 < 10 by decide), before1 V 0 3 (show 3 < 10 by decide), before1 V 0 4 (show 4 < 10 by decide), before1 V 0 5 (show 5 < 10 by decide), before1 V 0 6 (show 6 < 10 by decide), before1 V 0 7 (show 7 < 10 by decide), before1 V 0 8 (show 8 < 10 by decide), before1 V 0 9 (show 9 < 10 by decide)]
  rw [show (dat1 V 0).Φ t.castSucc = iprop(iprop(Pipeline.scopedRest spec1 0 ∗ iprop(emp)) ∗ Pipeline.prefHeld pre1 0 (fun _ => fullShare) (tab1 V)) from rfl,
    show (dat1 V 0).Φ t.succ = iprop(iprop(Pipeline.scopedRest spec1 0 ∗ iprop(emp)) ∗ Pipeline.prefHeld pre1 0 (fun _ => fullShare) (tab1 V)) from rfl,
    show (dat1 V 0).owesAt () t.succ = (dat1 V 0).owesAt () t.castSucc from rfl]
  rw [prefHeld1_eq V 0 rfl, scopedRest1_eq]
  rw [show defs₀ (F := F) .tc (cfg1 (adm1 V)).body ((cfg1 (adm1 V)).bodyArgs t ((cfg1 (adm1 V)).slots t))
    = cc1__knn2_body (grid1.coords t) (Memref.whole main_v66) (Memref.isWhole_whole _) (Memref.whole main_v70) (Memref.isWhole_whole _) (spec1_0.stage ((cfg1 (adm1 V)).slots t 0)) (hstage1_0 (((cfg1 (adm1 V)).slots t 0).cast nbuf1_0)) (spec1_1.stage ((cfg1 (adm1 V)).slots t 1)) (hstage1_1 (((cfg1 (adm1 V)).slots t 1).cast nbuf1_1)) (spec1_2.stage ((cfg1 (adm1 V)).slots t 2)) (hstage1_2 (((cfg1 (adm1 V)).slots t 2).cast nbuf1_2)) (spec1_3.stage ((cfg1 (adm1 V)).slots t 3)) (hstage1_3 (((cfg1 (adm1 V)).slots t 3).cast nbuf1_3)) (spec1_4.stage ((cfg1 (adm1 V)).slots t 4)) (hstage1_4 (((cfg1 (adm1 V)).slots t 4).cast nbuf1_4)) (spec1_5.stage ((cfg1 (adm1 V)).slots t 5)) (hstage1_5 (((cfg1 (adm1 V)).slots t 5).cast nbuf1_5)) (spec1_6.stage ((cfg1 (adm1 V)).slots t 6)) (hstage1_6 (((cfg1 (adm1 V)).slots t 6).cast nbuf1_6)) (spec1_7.stage ((cfg1 (adm1 V)).slots t 7)) (hstage1_7 (((cfg1 (adm1 V)).slots t 7).cast nbuf1_7)) (spec1_8.stage ((cfg1 (adm1 V)).slots t 8)) (hstage1_8 (((cfg1 (adm1 V)).slots t 8).cast nbuf1_8)) (spec1_9.stage ((cfg1 (adm1 V)).slots t 9)) (hstage1_9 (((cfg1 (adm1 V)).slots t 9).cast nbuf1_9)) (spec1_10.stage ((cfg1 (adm1 V)).slots t 10)) (hstage1_10 (((cfg1 (adm1 V)).slots t 10).cast nbuf1_10)) (Memref.whole cc1_scratch0) (Memref.isWhole_whole _) (Memref.whole cc1_scratch1) (Memref.isWhole_whole _) from by
    unfold defs₀; rw [Defs.onTc_tc]]
  have hrun := k1_run (F := F) 0 (grid1.coords t) (Memref.whole main_v66) (Memref.isWhole_whole _) (Memref.whole main_v70) (Memref.isWhole_whole _) (spec1_0.stage ((cfg1 (adm1 V)).slots t 0)) (hstage1_0 (((cfg1 (adm1 V)).slots t 0).cast nbuf1_0)) (spec1_1.stage ((cfg1 (adm1 V)).slots t 1)) (hstage1_1 (((cfg1 (adm1 V)).slots t 1).cast nbuf1_1)) (spec1_2.stage ((cfg1 (adm1 V)).slots t 2)) (hstage1_2 (((cfg1 (adm1 V)).slots t 2).cast nbuf1_2)) (spec1_3.stage ((cfg1 (adm1 V)).slots t 3)) (hstage1_3 (((cfg1 (adm1 V)).slots t 3).cast nbuf1_3)) (spec1_4.stage ((cfg1 (adm1 V)).slots t 4)) (hstage1_4 (((cfg1 (adm1 V)).slots t 4).cast nbuf1_4)) (spec1_5.stage ((cfg1 (adm1 V)).slots t 5)) (hstage1_5 (((cfg1 (adm1 V)).slots t 5).cast nbuf1_5)) (spec1_6.stage ((cfg1 (adm1 V)).slots t 6)) (hstage1_6 (((cfg1 (adm1 V)).slots t 6).cast nbuf1_6)) (spec1_7.stage ((cfg1 (adm1 V)).slots t 7)) (hstage1_7 (((cfg1 (adm1 V)).slots t 7).cast nbuf1_7)) (spec1_8.stage ((cfg1 (adm1 V)).slots t 8)) (hstage1_8 (((cfg1 (adm1 V)).slots t 8).cast nbuf1_8)) (spec1_9.stage ((cfg1 (adm1 V)).slots t 9)) (hstage1_9 (((cfg1 (adm1 V)).slots t 9).cast nbuf1_9)) (spec1_10.stage ((cfg1 (adm1 V)).slots t 10)) (hstage1_10 (((cfg1 (adm1 V)).slots t 10).cast nbuf1_10)) (Memref.whole cc1_scratch0) (Memref.isWhole_whole _) (Memref.whole cc1_scratch1) (Memref.isWhole_whole _)
    (q1 := fullShare) (q2 := fullShare) (V 0 (Proc.devRef .tc main_v66)) (V 0 (Proc.devRef .tc main_v70)) (blk1 V 0 0 t) (blk1 V 0 1 t) (blk1 V 0 2 t) (blk1 V 0 3 t) (blk1 V 0 4 t) (blk1 V 0 5 t) (blk1 V 0 6 t) (blk1 V 0 7 t) (blk1 V 0 8 t) (blk1 V 0 9 t) (v1 := lo1 V t) (v3 := nt1 V t) rfl rfl (hb t) Set.univ
  simp only [owns_whole (0 : Dev nD).tc cc1_scratch0, owns_whole (0 : Dev nD).tc cc1_scratch1] at hrun
  iintro ⟨⟨⟨⟨R0, R1, R2, R3, R4, R5, R6, R7, R8, R9, R10, R11, R12, Hs0, Hs1⟩, -⟩, Ht0, Ht1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r frame (wpE (defs₀ (F := F)) Variants.none ((0 : Dev nD).tc : Thread nD τ) none) Set.univ)
  isplitl [Ht0 Ht1 Hs0 Hs1 H0 H1 H2 H3 H4 H5 H6 H7 H8 H9 H10]
  · iapply hrun
    isplitl [Ht0]; · iexact Ht0
    isplitl [Ht1]; · iexact Ht1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [Hs0]; · iexact Hs0
    iexact Hs1
  iintro %r ⟨Ht0, Ht1, H0, H1, H2, H3, H4, H5, H6, H7, H8, H9, H10, Hs0, Hs1⟩
  isplitl [Ht0 Ht1 Hs0 Hs1 R0 R1 R2 R3 R4 R5 R6 R7 R8 R9 R10 R11 R12]
  · isplitr [Ht0 Ht1]
    · isplitl; swap; · iempintro
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [Hs0]; · iexact Hs0
      iexact Hs1
    isplitl [Ht0]; · iexact Ht0
    iexact Ht1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal

end
-- ==== Proof.KI.Run.lean ====
/-
  The run of the program: the two regions entered and left between the host operations, and what the program leaves in its
  result and in its arguments.
-/
module

public import proofs.«01_k».proof.Proof.KI.Region0
public import proofs.«01_k».proof.Proof.KI.Region1
public import proofs.«01_k».proof.Proof.Gen.KernelIdeal.Regions

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One level for every counter of a core. -/
abbrev lev : GSem nD τ sig → Finset Unit := fun g => if g.1.2 = .tc then {()} else ∅
abbrev lvl : GSem nD τ sig → Unit → ℕ := fun _ _ => 0

/-- The buffers after the first region. -/
def W10 (c : Dev nD) : Valuation τ sig (Elt F) := Pipeline.afterRegion (dat0 (V9 m) c) (V9 m c)

/-- What the first region leaves. -/
def outsA : Outs (F := F) := fun _ r c => W10 m c (Proc.devRef .tc r)

/-- The buffers after the second region. -/
def W20 (c : Dev nD) : Valuation τ sig (Elt F) := Pipeline.afterRegion (dat1 (V19 m (outsA m)) c) (V19 m (outsA m) c)

/-- What the two regions leave. -/
def outsB : Outs (F := F) := fun J r c => if J ≤ 10 then W10 m c (Proc.devRef .tc r) else W20 m c (Proc.devRef .tc r)

/-- The first region changes its output array alone. -/
theorem V10_eq (o : Outs (F := F)) (c : Dev nD) (ho : o 10 main_v39 c = W10 m c (Proc.devRef .tc main_v39)) : V10 m o c = W10 m c := by
  funext b
  show Function.update (V9 m c) (Proc.devRef .tc main_v39) (o 10 main_v39 c) b = W10 m c b
  rw [ho]
  by_cases hb : b = Proc.devRef .tc main_v39
  · subst hb; rw [Function.update_self]
  · rw [Function.update_of_ne hb]
    unfold W10
    by_cases hw : ∃ w, b = Proc.devRef .tc (Pipeline.arrRef spec0 w)
    · obtain ⟨w, rfl⟩ := hw
      rw [Pipeline.afterRegion_keeps (dat0 (V9 m) c) (V9 m c) winFacts0.arr_inj (fun _ => rfl)]
      intro w' hw'
      match w', hw' with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, h6 => exact absurd (congrArg (Proc.devRef (τ := τ) .tc) h6.symm) hb
    · unfold Pipeline.afterRegion; rw [dif_neg hw]

/-- The second region changes its output array alone. -/
theorem V20_eq (o : Outs (F := F)) (c : Dev nD) (h19 : V19 m o c = V19 m (outsA m) c) (ho : o 20 main_v83 c = W20 m c (Proc.devRef .tc main_v83)) :
    V20 m o c = W20 m c := by
  funext b
  show Function.update (V19 m o c) (Proc.devRef .tc main_v83) (o 20 main_v83 c) b = W20 m c b
  rw [ho, h19]
  by_cases hb : b = Proc.devRef .tc main_v83
  · subst hb; rw [Function.update_self]
  · rw [Function.update_of_ne hb]
    unfold W20
    by_cases hw : ∃ w, b = Proc.devRef .tc (Pipeline.arrRef spec1 w)
    · obtain ⟨w, rfl⟩ := hw
      rw [Pipeline.afterRegion_keeps (dat1 (V19 m (outsA m)) c) (V19 m (outsA m) c) winFacts1.arr_inj (fun _ => rfl)]
      intro w' hw'
      match w', hw' with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, _ => rfl
      | ⟨8, _⟩, _ => rfl
      | ⟨9, _⟩, _ => rfl
      | ⟨10, _⟩, h10 => exact absurd (congrArg (Proc.devRef (τ := τ) .tc) h10.symm) hb
    · unfold Pipeline.afterRegion; rw [dif_neg hw]

/-- The host operations between the two regions start from what the first leaves. -/
theorem V19_eq (c : Dev nD) : V19 m (outsB m) c = V19 m (outsA m) c := by
  have h : V10 m (outsB m) c = V10 m (outsA m) c :=
    (V10_eq m (outsB m) c (if_pos (le_refl 10))).trans (V10_eq m (outsA m) c rfl).symm
  show StableHlo.after hostOps1_8 (StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 (V10 m (outsB m) c))))))))) = _
  rw [h]

/-- The contents of the tables of the two calls. -/
def adms : (p : Fin 2) → (pcfgs (F := F) p).Adm
  | ⟨0, _⟩ => adm0 (V9 m)
  | ⟨1, _⟩ => adm1 (V19 m (outsA m))

/-- The proof data of the two calls. -/
def pdats : (p : Fin 2) → (c : Dev nD) → Dat τ (Elt F) Unit ℕ (UR sig nD τ) ℕ (Pipeline.pin (pcfgs (F := F)) (adms m) p) c
  | ⟨0, _⟩ => fun c => dat0 (V9 m) c
  | ⟨1, _⟩ => fun c => dat1 (V19 m (outsA m)) c

theorem cut (p : Fin 2) : Pipeline.LevelCut (pcfgs (F := F)) (adms m) () (lev) (lvl) p (fun _ => 0) (fun _ => 0) where
  hι c w s := by rw [show lev _ = {()} from if_pos rfl]; exact Finset.mem_singleton_self _
  hιb c w s := le_refl 0
  hD c g i h := absurd h (lt_irrefl 0)

set_option backward.isDefEq.respectTransparency.types false in
/-- The first region, between all the buffers of the core. -/
def reg0 (hb : ∀ t, (lo0 (V9 m) t).toNat + (nt0 (V9 m) t).toNat ≤ 8) :
    RegionSeg (pcfgs (F := F)) (adms m) (pdats m) () defs₀ Variants.none (lev) (lvl) 0 :=
  RegionSeg.ofHeldInT (pcfgs (F := F)) (adms m) (pdats m) () defs₀ Variants.none lev lvl 0 (fun _ => 0) (Pipeline.ucRefs τ sig)
    (fun _ => iprop(emp)) (fun _ => iprop(emp)) launch0 (fun c => (body0_obligation (V9 m) hb c).loose) (fun _ _ => rfl) (fun _ => rfl)
    (fun c => (dat0 (V9 m) c).share_full fun _ => rfl) (fun _ => .rfl) (fun _ => .rfl) (fun _ => 0) (cut m 0) (fun _ => iprop(emp))
    (V9 m) (fun _ _ => rfl) (fun c _ => by obtain rfl : c = 0 := Subsingleton.elim _ _; rfl)

set_option backward.isDefEq.respectTransparency.types false in
/-- The second region, between all the buffers of the core. -/
def reg1 (hb : ∀ t, (lo1 (V19 m (outsA m)) t).toNat + (nt1 (V19 m (outsA m)) t).toNat ≤ 4) :
    RegionSeg (pcfgs (F := F)) (adms m) (pdats m) () defs₀ Variants.none (lev) (lvl) 1 :=
  RegionSeg.ofHeldInT (pcfgs (F := F)) (adms m) (pdats m) () defs₀ Variants.none lev lvl 1 (fun _ => 0) (Pipeline.ucRefs τ sig)
    (fun _ => iprop(emp)) (fun _ => iprop(emp)) launch1 (fun c => (body1_obligation (V19 m (outsA m)) hb c).loose) (fun _ _ => rfl) (fun _ => rfl)
    (fun c => (dat1 (V19 m (outsA m)) c).share_full fun _ => rfl) (fun _ => .rfl) (fun _ => .rfl) (fun _ => 0) (cut m 1) (fun _ => iprop(emp))
    (V19 m (outsA m)) (fun _ _ => rfl) (fun c _ => by obtain rfl : c = 0 := Subsingleton.elim _ _; rfl)

/-- What rides along beside the buffers: the core owes nothing. -/
abbrev rest : Fin 3 → Dev nD → sProp 𝕄 := fun _ c => iprop((∃ W, owes (c : Thread nD τ) (0 : CellTallies nD τ sig Unit) W) ∗ iprop(emp) ∗ iprop(emp))

theorem arr0_sub : Pipeline.arrRefs (τ := τ) spec0 ⊆ Pipeline.ucRefs τ sig := Pipeline.arrRefs_sub_ucRefs spec0 winFacts0.arr_unscoped
theorem arr1_sub : Pipeline.arrRefs (τ := τ) spec1 ⊆ Pipeline.ucRefs τ sig := Pipeline.arrRefs_sub_ucRefs spec1 winFacts1.arr_unscoped

set_option backward.isDefEq.respectTransparency.types false in
theorem pre0_held (hb : ∀ t, (lo0 (V9 m) t).toNat + (nt0 (V9 m) t).toNat ≤ 8) (c : Dev nD) :
    iprop(StableHlo.held (c : Thread nD τ) (Pipeline.ucRefs τ sig) (V9 m c) ∗ rest 0 c) ⊢ (reg0 m hb).pre c :=
  RegionSeg.ofHeldInT_pre (pcs := pcfgs (F := F)) (a := adms m) (pdats := pdats m) (p := 0) (S := Pipeline.ucRefs τ sig)
    (X := fun _ => iprop(emp)) (Y := fun _ => iprop(emp)) (R := fun _ => iprop(emp)) (W := V9 m) (D := fun _ => 0) arr0_sub (Pipeline.tblRefs_sub_ucRefs pre0 preFacts0.unscoped) c

set_option backward.isDefEq.respectTransparency.types false in
theorem post0_held (hb : ∀ t, (lo0 (V9 m) t).toNat + (nt0 (V9 m) t).toNat ≤ 8) (c : Dev nD) :
    (reg0 m hb).post c ⊢ iprop(StableHlo.held (c : Thread nD τ) (Pipeline.ucRefs τ sig) (V10 m (outsB m) c) ∗ rest 1 c) := by
  rw [V10_eq m (outsB m) c (if_pos (le_refl 10))]
  exact RegionSeg.ofHeldInT_post (pcs := pcfgs (F := F)) (a := adms m) (pdats := pdats m) (p := 0) (S := Pipeline.ucRefs τ sig)
    (X := fun _ => iprop(emp)) (Y := fun _ => iprop(emp)) (R := fun _ => iprop(emp)) (W := V9 m) (D := fun _ => 0) arr0_sub (Pipeline.tblRefs_sub_ucRefs pre0 preFacts0.unscoped) c

set_option backward.isDefEq.respectTransparency.types false in
theorem pre1_held (hb : ∀ t, (lo1 (V19 m (outsA m)) t).toNat + (nt1 (V19 m (outsA m)) t).toNat ≤ 4) (c : Dev nD) :
    iprop(StableHlo.held (c : Thread nD τ) (Pipeline.ucRefs τ sig) (V19 m (outsB m) c) ∗ rest 1 c) ⊢ (reg1 m hb).pre c := by
  rw [V19_eq]
  exact RegionSeg.ofHeldInT_pre (pcs := pcfgs (F := F)) (a := adms m) (pdats := pdats m) (p := 1) (S := Pipeline.ucRefs τ sig)
    (X := fun _ => iprop(emp)) (Y := fun _ => iprop(emp)) (R := fun _ => iprop(emp)) (W := V19 m (outsA m)) (D := fun _ => 0) arr1_sub (Pipeline.tblRefs_sub_ucRefs pre1 preFacts1.unscoped) c

set_option backward.isDefEq.respectTransparency.types false in
theorem post1_held (hb : ∀ t, (lo1 (V19 m (outsA m)) t).toNat + (nt1 (V19 m (outsA m)) t).toNat ≤ 4) (c : Dev nD) :
    (reg1 m hb).post c ⊢ iprop(StableHlo.held (c : Thread nD τ) (Pipeline.ucRefs τ sig) (V20 m (outsB m) c) ∗ rest 2 c) := by
  rw [V20_eq m (outsB m) c (V19_eq m c) (if_neg (by decide))]
  exact RegionSeg.ofHeldInT_post (pcs := pcfgs (F := F)) (a := adms m) (pdats := pdats m) (p := 1) (S := Pipeline.ucRefs τ sig)
    (X := fun _ => iprop(emp)) (Y := fun _ => iprop(emp)) (R := fun _ => iprop(emp)) (W := V19 m (outsA m)) (D := fun _ => 0) arr1_sub (Pipeline.tblRefs_sub_ucRefs pre1 preFacts1.unscoped) c

set_option backward.isDefEq.respectTransparency.types false in
/-- The run: under the bounds on the tables, every execution ends with the arguments as they were and the result as the second
    region leaves it, every counter at zero. -/
theorem run_main (hb0 : ∀ t, (lo0 (V9 m) t).toNat + (nt0 (V9 m) t).toNat ≤ 8)
    (hb1 : ∀ t, (lo1 (V19 m (outsA m)) t).toNat + (nt1 (V19 m (outsA m)) t).toNat ≤ 4) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v83) = W20 m c (Proc.devRef .tc main_v83))
      ∧ r.2.sem = fun _ => 0) := by
  refine Pipeline.θ_run_regions_kit_dev_sems (pcfgs (F := F)) (adms m) (pdats m) () (cellOf_inj (adms m)) emb₁ defs₀ Variants.none lev lvl m ρ main
    (segs m (outsB m) Variants.none lev lvl rest () (adms m) (pdats m) (reg0 m hb0) (reg1 m hb1))
    (fun c Q => by
      rewrite [main_chain c, Seg.run_eq_chain,
        show (segs m (outsB m) Variants.none lev lvl rest () (adms m) (pdats m) (reg0 m hb0) (reg1 m hb1) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells (Pipeline.pin (pcfgs (F := F)) (adms m)) (cellOf_inj (adms m))) (Pipeline.launchToks (Pipeline.pin (pcfgs (F := F)) (adms m)) (cellOf_inj (adms m))))
    (hu₀ := by
      iintro Hu; imodintro
      isplitl [Hu]; · iapply (show (ownU _ : sProp 𝕄) ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V20 m (outsB m) c))
    (hch := fun c => ⟨.rfl, .rfl, .rfl, .rfl, .rfl, .rfl, .rfl, .rfl, .rfl, pre0_held m hb0 c, post0_held m hb0 c, .rfl, .rfl, .rfl, .rfl, .rfl, .rfl, .rfl, .rfl, pre1_held m hb1 c, (post1_held m hb1 c).trans (sep_mono .rfl (show rest 2 c ⊢ _ from by iintro ⟨H, -, -⟩; iexact H))⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_v83) = W20 m c (Proc.devRef .tc main_v83))
    (hfin := fun c s' => ?_) (hQ := fun _ h hz => ⟨h, funext fun g => hz g (.inr (regions_no_unscoped g.2))⟩)
  · refine Pipeline.initEach lev lvl fun c => ?_
    rw [← Pipeline.unscopedBufs_held (Ix := Unit) (Name := ℕ) (U := UR sig nD τ) (Lvl := ℕ) c (V0 m c)]
    iintro ⟨⟨Hub, -, HO, -⟩, -⟩
    imodintro
    isplitl [Hub]; · iexact Hub
    isplitl [HO]; · iexists _; iexact HO
    isplitl <;> iempintro
  · unfold StableHlo.held
    iintro ⟨Hh, HSI⟩
    ihave Hr := (pointsTo_read_all (Pipeline.ucRefs τ sig) (fun b => ((c : Thread nD τ).1, b)) (V20 m (outsB m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V20_main_arg0 m (outsB m) c),
        (h (Proc.devRef .tc main_arg1) (Finset.mem_filter.mpr ⟨StableHlo.devRef_mem_tcRefs main_arg1, by decide⟩)).trans (V20_main_arg1 m (outsB m) c),
        (h (Proc.devRef .tc main_arg2) (Finset.mem_filter.mpr ⟨StableHlo.devRef_mem_tcRefs main_arg2, by decide⟩)).trans (V20_main_arg2 m (outsB m) c),
        (h (Proc.devRef .tc main_arg3) (Finset.mem_filter.mpr ⟨StableHlo.devRef_mem_tcRefs main_arg3, by decide⟩)).trans (V20_main_arg3 m (outsB m) c),
        (h (Proc.devRef .tc main_arg4) (Finset.mem_filter.mpr ⟨StableHlo.devRef_mem_tcRefs main_arg4, by decide⟩)).trans (V20_main_arg4 m (outsB m) c),
        (h (Proc.devRef .tc main_arg5) (Finset.mem_filter.mpr ⟨StableHlo.devRef_mem_tcRefs main_arg5, by decide⟩)).trans (V20_main_arg5 m (outsB m) c),
        (h (Proc.devRef .tc main_arg6) (Finset.mem_filter.mpr ⟨StableHlo.devRef_mem_tcRefs main_arg6, by decide⟩)).trans (V20_main_arg6 m (outsB m) c),
        (h (Proc.devRef .tc main_v83) (Finset.mem_filter.mpr ⟨StableHlo.devRef_mem_tcRefs main_v83, by decide⟩)).trans (congrFun (V20_eq m (outsB m) c (V19_eq m c) (if_neg (by decide))) _)⟩
    · iexact HSI

end Cert.KernelIdeal

end
-- ==== Proof.Tables.lean ====
/-
  The two tables, word by word: the first tile and the number of tiles, from the two counts.
-/
module

public import Idealize.ShloMosaic.Lib.WordArith
public import Idealize.ShloMosaic.Lib.WordCmp
public import Idealize.ShloMosaic.Lib.IndicatorCount
public import Idealize.ShloMosaic.Lib.Affine
public import Idealize.ShloMosaic.Lib.StableHlo.Run

@[expose] public section

noncomputable section

namespace Cert.Tables

open Idealize.ShloMosaic

/-- The sign of a word. -/
def sgnW (x : BitVec 32) : BitVec 32 := if x = 0 then 0 else if x.msb then -1 else 1

/-- Division by 1024, rounded down. -/
def fdW (x : BitVec 32) : BitVec 32 :=
  Scalar.select (IntOp.andi (IntOp.cmpi .ne (sgnW x) (sgnW 1024#32)) (IntOp.cmpi .ne (IntOp.remsi .host x 1024#32) 0#32))
    (IntOp.subi (IntOp.divsi .host x 1024#32) 1#32) (IntOp.divsi .host x 1024#32)

/-- The first tile. -/
def loW (a b : BitVec 32) : BitVec 32 := Scalar.select (IntOp.cmpi .sgt b a) (fdW a) 0#32

/-- The number of tiles. -/
def ntW (n a b : BitVec 32) : BitVec 32 :=
  Scalar.select (IntOp.cmpi .sgt b a) (IntOp.minsi (IntOp.subi (fdW (IntOp.subi (IntOp.addi b 1024#32) 1#32)) (loW a b)) n) 1#32

theorem divW {x : BitVec 32} (h : x.toNat < 2 ^ 31) : IntOp.divsi .host x 1024#32 = BitVec.ofNat 32 (x.toNat / 1024) := by
  have hm : x.msb = false := by rw [BitVec.msb_eq_decide]; simpa using h
  have hc : ¬ IntOp.SDivCorner x 1024#32 := by
    unfold IntOp.SDivCorner
    rintro (h0 | ⟨h1, h2⟩)
    · exact absurd h0 (by decide)
    · exact absurd h2 (by decide)
  unfold IntOp.divsi
  rw [if_neg hc, BitVec.sdiv_eq, hm]
  apply BitVec.eq_of_toNat_eq
  simp only [show (1024#32 : BitVec 32).msb = false from rfl, BitVec.udiv_eq, BitVec.toNat_udiv, BitVec.toNat_ofNat]
  rw [show 1024 % 2 ^ 32 = 1024 from rfl]
  omega

theorem fdW_eq {x : BitVec 32} (h : x.toNat < 2 ^ 31) : fdW x = BitVec.ofNat 32 (x.toNat / 1024) := by
  have hm : x.msb = false := by rw [BitVec.msb_eq_decide]; simpa using h
  have hc : ¬ IntOp.SDivCorner x 1024#32 := by
    unfold IntOp.SDivCorner
    rintro (h0 | ⟨h1, h2⟩)
    · exact absurd h0 (by decide)
    · exact absurd h2 (by decide)
  unfold fdW Scalar.select
  rw [divW h, if_neg]
  intro h1
  by_cases h0 : x = 0
  · subst h0
    exact absurd h1 (by decide)
  · have hs : sgnW x = sgnW 1024#32 := by
      unfold sgnW
      rw [if_neg h0, hm]; rfl
    rw [hs] at h1
    have : IntOp.cmpi .ne (sgnW 1024#32) (sgnW 1024#32) = 0#1 := by decide
    rw [this] at h1
    have h2 : ∀ y : BitVec 1, ¬ IntOp.andi 0#1 y = 1 := by decide
    exact h2 _ h1

theorem sgt_iff {a b : BitVec 32} (ha : a.toNat < 2 ^ 31) (hb : b.toNat < 2 ^ 31) : IntOp.cmpi .sgt b a = 1 ↔ a.toNat < b.toNat := by
  rw [show (1 : BitVec 1) = 1#1 from rfl, IntOp.cmpi_sgt, BitVec.toInt_eq_toNat_of_lt (by omega), BitVec.toInt_eq_toNat_of_lt (by omega)]
  omega

theorem minW {x y : BitVec 32} (hx : x.toNat < 2 ^ 31) (hy : y.toNat < 2 ^ 31) : (IntOp.minsi x y).toNat = min x.toNat y.toNat := by
  unfold IntOp.minsi
  have h := BitVec.slt_iff_toInt_lt (x := x) (y := y)
  rw [BitVec.toInt_eq_toNat_of_lt (by omega), BitVec.toInt_eq_toNat_of_lt (by omega)] at h
  by_cases hh : x.slt y = true
  · rw [if_pos hh]; have := h.mp hh; omega
  · rw [if_neg hh]; have : ¬ ((x.toNat : ℤ) < y.toNat) := fun e => hh (h.mpr e)
    omega

/-- The tables where the range is not empty. -/
theorem tables_of_lt {n : ℕ} {a b : BitVec 32} (hn : n ≤ 8) (hb : b.toNat ≤ 1024 * n) (h : a.toNat < b.toNat) :
    (loW a b).toNat = a.toNat / 1024 ∧ (ntW (BitVec.ofNat 32 n) a b).toNat = (b.toNat + 1023) / 1024 - a.toNat / 1024 := by
  have e1 : loW a b = BitVec.ofNat 32 (a.toNat / 1024) := by
    unfold loW Scalar.select
    rw [if_pos ((sgt_iff (by omega) (by omega)).mpr h), fdW_eq (by omega)]
  have e2 : IntOp.subi (IntOp.addi b 1024#32) 1#32 = BitVec.ofNat 32 (b.toNat + 1023) := by
    apply BitVec.eq_of_toNat_eq
    show (b + 1024#32 - 1#32).toNat = _
    simp only [BitVec.toNat_sub, BitVec.toNat_add, BitVec.toNat_ofNat]
    omega
  have e3 : fdW (BitVec.ofNat 32 (b.toNat + 1023)) = BitVec.ofNat 32 ((b.toNat + 1023) / 1024) := by
    have : (BitVec.ofNat 32 (b.toNat + 1023)).toNat = b.toNat + 1023 := by simp only [BitVec.toNat_ofNat]; omega
    rw [fdW_eq (by omega), this]
  have e4 : (IntOp.subi (BitVec.ofNat 32 ((b.toNat + 1023) / 1024)) (BitVec.ofNat 32 (a.toNat / 1024))).toNat = (b.toNat + 1023) / 1024 - a.toNat / 1024 := by
    show (BitVec.ofNat 32 ((b.toNat + 1023) / 1024) - BitVec.ofNat 32 (a.toNat / 1024)).toNat = _
    simp only [BitVec.toNat_sub, BitVec.toNat_ofNat]
    omega
  constructor
  · rw [e1]; simp only [BitVec.toNat_ofNat]; omega
  · have e5 : (BitVec.ofNat 32 n).toNat = n := by simp only [BitVec.toNat_ofNat]; omega
    unfold ntW Scalar.select
    rw [if_pos ((sgt_iff (by omega) (by omega)).mpr h), e1, e2, e3, minW (by omega) (by omega), e4, e5]
    omega

/-- The tables where the range is empty. -/
theorem tables_of_le {n : ℕ} {a b : BitVec 32} (hn : n ≤ 8) (ha : a.toNat ≤ 1024 * n) (h : b.toNat ≤ a.toNat) :
    (loW a b).toNat = 0 ∧ (ntW (BitVec.ofNat 32 n) a b).toNat = 1 := by
  have : ¬ IntOp.cmpi .sgt b a = 1 := fun hh => by have := (sgt_iff (by omega) (by omega)).mp hh; omega
  unfold ntW loW Scalar.select
  rw [if_neg this, if_neg this]
  exact ⟨rfl, rfl⟩

/-- The tiles of a range lie within the array. -/
theorem tables_le {n : ℕ} {a b : BitVec 32} (hn : n ≤ 8) (h1 : 1 ≤ n) (ha : a.toNat ≤ 1024 * n) (hb : b.toNat ≤ 1024 * n) :
    (loW a b).toNat + (ntW (BitVec.ofNat 32 n) a b).toNat ≤ n := by
  by_cases h : a.toNat < b.toNat
  · rw [(tables_of_lt hn hb h).1, (tables_of_lt hn hb h).2]; omega
  · rw [(tables_of_le hn ha (by omega)).1, (tables_of_le hn ha (by omega)).2]; omega

instance : Std.Commutative (IntOp.addi (w := 32)) := ⟨BitVec.add_comm⟩
instance : Std.Associative (IntOp.addi (w := 32)) := ⟨BitVec.add_assoc⟩

/-- A sum of one-bit words along the rows is the count of the ones. -/
theorem count_eq {s t u : Shape} {a : Fin s.rank} (p : s.Idx → BitVec 1) (h' : s.ReducesTo [a] t) (h : s.Reduces [a] t) (hu : 0 < u.numel) (hw : 1 < 32) (j : t.Idx) :
    Host.reduce IntOp.addi (extui 32 p hw) (constantI u 32 0#32) h' hu j
      = BitVec.ofNat 32 (Finset.univ.filter fun k : Fin (s.size a) => p (h.lift j k) = 1#1).card := by
  rw [Host.reduce_eq_fold_single _ _ _ h' h hu j]
  exact IndicatorCount.fold_addi_setWidth_eq_card (fun k => p (h.lift j k)) Finset.univ

theorem count_toNat {n : ℕ} (hn : n < 2 ^ 31) (p : Fin n → Prop) [DecidablePred p] :
    (BitVec.ofNat 32 (Finset.univ.filter p).card).toNat = (Finset.univ.filter p).card ∧ (Finset.univ.filter p).card ≤ n := by
  have : (Finset.univ.filter p).card ≤ n := (Finset.card_le_univ _).trans_eq (Fintype.card_fin n)
  exact ⟨by rw [BitVec.toNat_ofNat]; exact Nat.mod_eq_of_lt (by omega), this⟩

end Cert.Tables
-- ==== Proof.KI.Bounds.lean ====
/-
  The tables of the two calls stay within the array: on any data.
-/
module

public import proofs.«01_k».proof.Proof.Tables
public import proofs.«01_k».proof.Proof.KI.Run

@[expose] public section

set_option maxRecDepth 16384

noncomputable section

namespace Cert.KernelIdeal

open Idealize.ShloMosaic Idealize.ShloMosaic.TcCoe
open Cert.KernelIdeal.Gen Cert.Tables Cert.Slabs

variable {F : FTy → Type} [FloatOps F]

/-- The lesser count: the entries below the first of each block of rows. -/
def cLo0 (x : S4096.Idx → BitVec 32) (y : S8192.Idx → BitVec 32) : S16x8192.Idx → BitVec 1 :=
  cmpi .slt (broadcastInDim S16x8192 ![0, 1] bcast_S1x8192_S16x8192_0_1 (broadcastInDim S1x8192 ![1] bcast_S8192_S1x8192_1 y))
    (broadcastInDim S16x8192 ![0, 1] bcast_S16x1_S16x8192_0_1 (broadcastInDim S16x1 ![0] bcast_S16_S16x1_0
      (shapeCast S16 (extractStridedSlice S16x1 ![0, 0] (shapeCast S16x256 x shapeCasts_S4096_S16x256) slices_S16x256_S16x1_0_0) shapeCasts_S16x1_S16)))

/-- The greater count: the entries up to the last of each block of rows. -/
def cHi0 (x : S4096.Idx → BitVec 32) (y : S8192.Idx → BitVec 32) : S16x8192.Idx → BitVec 1 :=
  cmpi .sle (broadcastInDim S16x8192 ![0, 1] bcast_S1x8192_S16x8192_0_1 (broadcastInDim S1x8192 ![1] bcast_S8192_S1x8192_1 y))
    (broadcastInDim S16x8192 ![0, 1] bcast_S16x1_S16x8192_0_1 (broadcastInDim S16x1 ![0] bcast_S16_S16x1_0
      (shapeCast S16 (extractStridedSlice S16x1 ![0, 255] (shapeCast S16x256 x shapeCasts_S4096_S16x256) slices_S16x256_S16x1_0_255) shapeCasts_S16x1_S16)))

/-- The counts. -/
def nLo0 (x : S4096.Idx → BitVec 32) (y : S8192.Idx → BitVec 32) : S16.Idx → BitVec 32 :=
  Host.reduce IntOp.addi (extui 32 (cLo0 x y) natLt_1_32) (constantI S_ 32 0#32) reducesTo_S16x8192_S16_d1 h_S_
def nHi0 (x : S4096.Idx → BitVec 32) (y : S8192.Idx → BitVec 32) : S16.Idx → BitVec 32 :=
  Host.reduce IntOp.addi (extui 32 (cHi0 x y) natLt_1_32) (constantI S_ 32 0#32) reducesTo_S16x8192_S16_d1 h_S_

section
variable (V : Valuation τ sig (Elt F))

theorem lo_read0 : StableHlo.after hostOps0 V (Proc.devRef .tc main_v11) = nLo0 (V (Proc.devRef .tc main_arg5)) (V (Proc.devRef .tc main_arg6)) := by
  after_results; rfl
theorem hi_read0 : StableHlo.after hostOps0 V (Proc.devRef .tc main_v18) = nHi0 (V (Proc.devRef .tc main_arg5)) (V (Proc.devRef .tc main_arg6)) := by
  after_results; rfl
theorem c_read0 : StableHlo.after hostOps0 V (Proc.devRef .tc main_c_1) = constantI S_ 32 1024#32 := by
  after_results
theorem fd_read0 (hc : V (Proc.devRef .tc main_c_1) = constantI S_ 32 1024#32) : StableHlo.after hostOps0_1 V (Proc.devRef .tc main_v19) = fun i => fdW (V (Proc.devRef .tc main_v11) i) := by
  after_results; rw [hc]; simp only [StableHlo.TRef.ofBuf_toBuf, id]
  funext i
  show Scalar.select (IntOp.andi (IntOp.cmpi .ne (sgnW (V (Proc.devRef .tc main_v11) i)) (sgnW 1024#32)) (IntOp.cmpi .ne (IntOp.remsi .host (V (Proc.devRef .tc main_v11) i) 1024#32) 0#32)) _ _ = _
  rfl
theorem num_read0 : StableHlo.after hostOps0_2 V (Proc.devRef .tc main_v23) = fun i => IntOp.subi (IntOp.addi (V (Proc.devRef .tc main_v18) i) 1024#32) 1#32 := by
  after_results; rfl
theorem c2_read0 : StableHlo.after hostOps0_2 V (Proc.devRef .tc main_c_4) = constantI S_ 32 1024#32 := by
  after_results
theorem fd2_read0 (hc : V (Proc.devRef .tc main_c_4) = constantI S_ 32 1024#32) : StableHlo.after hostOps0_3 V (Proc.devRef .tc main_v24) = fun i => fdW (V (Proc.devRef .tc main_v23) i) := by
  after_results; rw [hc]; simp only [StableHlo.TRef.ofBuf_toBuf, id]
  funext i
  show Scalar.select (IntOp.andi (IntOp.cmpi .ne (sgnW (V (Proc.devRef .tc main_v23) i)) (sgnW 1024#32)) (IntOp.cmpi .ne (IntOp.remsi .host (V (Proc.devRef .tc main_v23) i) 1024#32) 0#32)) _ _ = _
  rfl
theorem gt_read0 : StableHlo.after hostOps0_4 V (Proc.devRef .tc main_v25) = fun i => IntOp.cmpi .sgt (V (Proc.devRef .tc main_v18) i) (V (Proc.devRef .tc main_v11) i) := by
  after_results; rfl
theorem z_read0 : StableHlo.after hostOps0_4 V (Proc.devRef .tc main_c_5) = constantI S_ 32 0#32 := by
  after_results
theorem tlo_read0 (hc : V (Proc.devRef .tc main_c_5) = constantI S_ 32 0#32) : StableHlo.after hostOps0_5 V (Proc.devRef .tc main_v26) = fun i => Scalar.select (V (Proc.devRef .tc main_v25) i) (V (Proc.devRef .tc main_v19) i) 0#32 := by
  after_results; rw [hc]; rfl
theorem d_read0 : StableHlo.after hostOps0_6 V (Proc.devRef .tc main_v29) = fun i => IntOp.minsi (IntOp.subi (V (Proc.devRef .tc main_v24) i) (V (Proc.devRef .tc main_v26) i)) 8#32 := by
  after_results; rfl
theorem o_read0 : StableHlo.after hostOps0_6 V (Proc.devRef .tc main_c_7) = constantI S_ 32 1#32 := by
  after_results
theorem tnt_read0 (hc : V (Proc.devRef .tc main_c_7) = constantI S_ 32 1#32) : StableHlo.after hostOps0_7 V (Proc.devRef .tc main_v30) = fun i => Scalar.select (V (Proc.devRef .tc main_v25) i) (V (Proc.devRef .tc main_v29) i) 1#32 := by
  after_results; rw [hc]; rfl
end

/-- The lesser count: the entries below the first of each block of rows. -/
def cLo1 (x : S4096.Idx → BitVec 32) (y : S4096.Idx → BitVec 32) : S16x4096.Idx → BitVec 1 :=
  cmpi .slt (broadcastInDim S16x4096 ![0, 1] bcast_S1x4096_S16x4096_0_1 (broadcastInDim S1x4096 ![1] bcast_S4096_S1x4096_1 y))
    (broadcastInDim S16x4096 ![0, 1] bcast_S16x1_S16x4096_0_1 (broadcastInDim S16x1 ![0] bcast_S16_S16x1_0
      (shapeCast S16 (extractStridedSlice S16x1 ![0, 0] (shapeCast S16x256 x shapeCasts_S4096_S16x256) slices_S16x256_S16x1_0_0) shapeCasts_S16x1_S16)))

/-- The greater count: the entries up to the last of each block of rows. -/
def cHi1 (x : S4096.Idx → BitVec 32) (y : S4096.Idx → BitVec 32) : S16x4096.Idx → BitVec 1 :=
  cmpi .sle (broadcastInDim S16x4096 ![0, 1] bcast_S1x4096_S16x4096_0_1 (broadcastInDim S1x4096 ![1] bcast_S4096_S1x4096_1 y))
    (broadcastInDim S16x4096 ![0, 1] bcast_S16x1_S16x4096_0_1 (broadcastInDim S16x1 ![0] bcast_S16_S16x1_0
      (shapeCast S16 (extractStridedSlice S16x1 ![0, 255] (shapeCast S16x256 x shapeCasts_S4096_S16x256) slices_S16x256_S16x1_0_255) shapeCasts_S16x1_S16)))

/-- The counts. -/
def nLo1 (x : S4096.Idx → BitVec 32) (y : S4096.Idx → BitVec 32) : S16.Idx → BitVec 32 :=
  Host.reduce IntOp.addi (extui 32 (cLo1 x y) natLt_1_32) (constantI S_ 32 0#32) reducesTo_S16x4096_S16_d1 h_S_
def nHi1 (x : S4096.Idx → BitVec 32) (y : S4096.Idx → BitVec 32) : S16.Idx → BitVec 32 :=
  Host.reduce IntOp.addi (extui 32 (cHi1 x y) natLt_1_32) (constantI S_ 32 0#32) reducesTo_S16x4096_S16_d1 h_S_

section
variable (V : Valuation τ sig (Elt F))

theorem lo_read1 : StableHlo.after hostOps1 V (Proc.devRef .tc main_v51) = nLo1 (V (Proc.devRef .tc main_arg5)) (V (Proc.devRef .tc main_arg5)) := by
  after_results; rfl
theorem hi_read1 : StableHlo.after hostOps1 V (Proc.devRef .tc main_v58) = nHi1 (V (Proc.devRef .tc main_arg5)) (V (Proc.devRef .tc main_arg5)) := by
  after_results; rfl
theorem c_read1 : StableHlo.after hostOps1 V (Proc.devRef .tc main_c_10) = constantI S_ 32 1024#32 := by
  after_results
theorem fd_read1 (hc : V (Proc.devRef .tc main_c_10) = constantI S_ 32 1024#32) : StableHlo.after hostOps1_1 V (Proc.devRef .tc main_v59) = fun i => fdW (V (Proc.devRef .tc main_v51) i) := by
  after_results; rw [hc]; simp only [StableHlo.TRef.ofBuf_toBuf, id]
  funext i
  show Scalar.select (IntOp.andi (IntOp.cmpi .ne (sgnW (V (Proc.devRef .tc main_v51) i)) (sgnW 1024#32)) (IntOp.cmpi .ne (IntOp.remsi .host (V (Proc.devRef .tc main_v51) i) 1024#32) 0#32)) _ _ = _
  rfl
theorem num_read1 : StableHlo.after hostOps1_2 V (Proc.devRef .tc main_v63) = fun i => IntOp.subi (IntOp.addi (V (Proc.devRef .tc main_v58) i) 1024#32) 1#32 := by
  after_results; rfl
theorem c2_read1 : StableHlo.after hostOps1_2 V (Proc.devRef .tc main_c_13) = constantI S_ 32 1024#32 := by
  after_results
theorem fd2_read1 (hc : V (Proc.devRef .tc main_c_13) = constantI S_ 32 1024#32) : StableHlo.after hostOps1_3 V (Proc.devRef .tc main_v64) = fun i => fdW (V (Proc.devRef .tc main_v63) i) := by
  after_results; rw [hc]; simp only [StableHlo.TRef.ofBuf_toBuf, id]
  funext i
  show Scalar.select (IntOp.andi (IntOp.cmpi .ne (sgnW (V (Proc.devRef .tc main_v63) i)) (sgnW 1024#32)) (IntOp.cmpi .ne (IntOp.remsi .host (V (Proc.devRef .tc main_v63) i) 1024#32) 0#32)) _ _ = _
  rfl
theorem gt_read1 : StableHlo.after hostOps1_4 V (Proc.devRef .tc main_v65) = fun i => IntOp.cmpi .sgt (V (Proc.devRef .tc main_v58) i) (V (Proc.devRef .tc main_v51) i) := by
  after_results; rfl
theorem z_read1 : StableHlo.after hostOps1_4 V (Proc.devRef .tc main_c_14) = constantI S_ 32 0#32 := by
  after_results
theorem tlo_read1 (hc : V (Proc.devRef .tc main_c_14) = constantI S_ 32 0#32) : StableHlo.after hostOps1_5 V (Proc.devRef .tc main_v66) = fun i => Scalar.select (V (Proc.devRef .tc main_v65) i) (V (Proc.devRef .tc main_v59) i) 0#32 := by
  after_results; rw [hc]; rfl
theorem d_read1 : StableHlo.after hostOps1_6 V (Proc.devRef .tc main_v69) = fun i => IntOp.minsi (IntOp.subi (V (Proc.devRef .tc main_v64) i) (V (Proc.devRef .tc main_v66) i)) 4#32 := by
  after_results; rfl
theorem o_read1 : StableHlo.after hostOps1_6 V (Proc.devRef .tc main_c_16) = constantI S_ 32 1#32 := by
  after_results
theorem tnt_read1 (hc : V (Proc.devRef .tc main_c_16) = constantI S_ 32 1#32) : StableHlo.after hostOps1_7 V (Proc.devRef .tc main_v70) = fun i => Scalar.select (V (Proc.devRef .tc main_v65) i) (V (Proc.devRef .tc main_v69) i) 1#32 := by
  after_results; rw [hc]; rfl
end

section
variable (m : (ℓ : Loc nD τ sig) → Buf (Elt F) ℓ)
theorem lo_at0 (c : Dev nD) : V1 m c (Proc.devRef .tc main_v11) = nLo0 (m ((c.tc : Thread nD τ).loc main_arg5)) (m ((c.tc : Thread nD τ).loc main_arg6)) := by
  exact lo_read0 _
theorem hi_at0 (c : Dev nD) : V1 m c (Proc.devRef .tc main_v18) = nHi0 (m ((c.tc : Thread nD τ).loc main_arg5)) (m ((c.tc : Thread nD τ).loc main_arg6)) := by
  exact hi_read0 _
theorem fd1_at0 (c : Dev nD) : V2 m c (Proc.devRef .tc main_v19) = fun i => fdW (nLo0 (m ((c.tc : Thread nD τ).loc main_arg5)) (m ((c.tc : Thread nD τ).loc main_arg6)) i) := by
  refine (fd_read0 (V1 m c) (c_read0 (V0 m c))).trans ?_
  rw [lo_at0 m c]
  rfl
theorem num_at0 (c : Dev nD) : V3 m c (Proc.devRef .tc main_v23) = fun i => IntOp.subi (IntOp.addi (nHi0 (m ((c.tc : Thread nD τ).loc main_arg5)) (m ((c.tc : Thread nD τ).loc main_arg6)) i) 1024#32) 1#32 := by
  refine (num_read0 (V2 m c)).trans ?_
  rw [V2_of m c main_v18 (by decide), hi_at0 m c]
  rfl
theorem fd2_at0 (c : Dev nD) : V4 m c (Proc.devRef .tc main_v24) = fun i => fdW (IntOp.subi (IntOp.addi (nHi0 (m ((c.tc : Thread nD τ).loc main_arg5)) (m ((c.tc : Thread nD τ).loc main_arg6)) i) 1024#32) 1#32) := by
  refine (fd2_read0 (V3 m c) (c2_read0 (V2 m c))).trans ?_
  rw [num_at0 m c]
  rfl
theorem gt_at0 (c : Dev nD) : V5 m c (Proc.devRef .tc main_v25) = fun i => IntOp.cmpi .sgt (nHi0 (m ((c.tc : Thread nD τ).loc main_arg5)) (m ((c.tc : Thread nD τ).loc main_arg6)) i) (nLo0 (m ((c.tc : Thread nD τ).loc main_arg5)) (m ((c.tc : Thread nD τ).loc main_arg6)) i) := by
  refine (gt_read0 (V4 m c)).trans ?_
  rw [V4_of m c main_v18 (by decide), V3_of m c main_v18 (by decide), V2_of m c main_v18 (by decide), V4_of m c main_v11 (by decide), V3_of m c main_v11 (by decide), V2_of m c main_v11 (by decide), hi_at0 m c, lo_at0 m c]
  rfl
theorem tlo_at0 (c : Dev nD) : V6 m c (Proc.devRef .tc main_v26) = fun i => loW (nLo0 (m ((c.tc : Thread nD τ).loc main_arg5)) (m ((c.tc : Thread nD τ).loc main_arg6)) i) (nHi0 (m ((c.tc : Thread nD τ).loc main_arg5)) (m ((c.tc : Thread nD τ).loc main_arg6)) i) := by
  refine (tlo_read0 (V5 m c) (z_read0 (V4 m c))).trans ?_
  rw [gt_at0 m c, V5_of m c main_v19 (by decide), V4_of m c main_v19 (by decide), V3_of m c main_v19 (by decide), fd1_at0 m c]; rfl
theorem d_at0 (c : Dev nD) : V7 m c (Proc.devRef .tc main_v29) = fun i => IntOp.minsi (IntOp.subi (fdW (IntOp.subi (IntOp.addi (nHi0 (m ((c.tc : Thread nD τ).loc main_arg5)) (m ((c.tc : Thread nD τ).loc main_arg6)) i) 1024#32) 1#32)) (loW (nLo0 (m ((c.tc : Thread nD τ).loc main_arg5)) (m ((c.tc : Thread nD τ).loc main_arg6)) i) (nHi0 (m ((c.tc : Thread nD τ).loc main_arg5)) (m ((c.tc : Thread nD τ).loc main_arg6)) i))) 8#32 := by
  refine (d_read0 (V6 m c)).trans ?_
  rw [V6_of m c main_v24 (by decide), V5_of m c main_v24 (by decide), fd2_at0 m c, tlo_at0 m c]
  rfl
theorem tnt_at0 (c : Dev nD) : V8 m c (Proc.devRef .tc main_v30) = fun i => ntW 8#32 (nLo0 (m ((c.tc : Thread nD τ).loc main_arg5)) (m ((c.tc : Thread nD τ).loc main_arg6)) i) (nHi0 (m ((c.tc : Thread nD τ).loc main_arg5)) (m ((c.tc : Thread nD τ).loc main_arg6)) i) := by
  refine (tnt_read0 (V7 m c) (o_read0 (V6 m c))).trans ?_
  rw [V7_of m c main_v25 (by decide), V6_of m c main_v25 (by decide), gt_at0 m c, d_at0 m c]; rfl

/-- The table of first tiles, and the table of numbers of tiles. -/
theorem lo_table0 (c : Dev nD) : V9 m c (Proc.devRef .tc main_v26) = fun i => loW (nLo0 (m ((c.tc : Thread nD τ).loc main_arg5)) (m ((c.tc : Thread nD τ).loc main_arg6)) i) (nHi0 (m ((c.tc : Thread nD τ).loc main_arg5)) (m ((c.tc : Thread nD τ).loc main_arg6)) i) := by
  rw [V9_of m c main_v26 (by decide), V8_of m c main_v26 (by decide), V7_of m c main_v26 (by decide), tlo_at0 m c]
theorem nt_table0 (c : Dev nD) : V9 m c (Proc.devRef .tc main_v30) = fun i => ntW 8#32 (nLo0 (m ((c.tc : Thread nD τ).loc main_arg5)) (m ((c.tc : Thread nD τ).loc main_arg6)) i) (nHi0 (m ((c.tc : Thread nD τ).loc main_arg5)) (m ((c.tc : Thread nD τ).loc main_arg6)) i) := by
  rw [V9_of m c main_v30 (by decide), tnt_at0 m c]

/-- The bound that the body of call 0 asks for. -/
theorem tables_bound0 (t : Fin grid0.N) : (lo0 (V9 m) t).toNat + (nt0 (V9 m) t).toNat ≤ 8 := by
  unfold lo0 nt0 word0 wordAt
  rw [lo_table0, nt_table0]
  exact tables_le (n := 8) (by decide) (by decide)
    (by unfold nLo0; rw [count_eq (h := by decide)]; exact (count_toNat (by decide) _).1.trans_le (count_toNat (by decide) _).2)
    (by unfold nHi0; rw [count_eq (h := by decide)]; exact (count_toNat (by decide) _).1.trans_le (count_toNat (by decide) _).2)
end

section
variable (m : (ℓ : Loc nD τ sig) → Buf (Elt F) ℓ)

theorem V10_at (o : Outs (F := F)) (c : Dev nD) (r : Ref sig .tc) (h : r ∉ [main_v39]) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W) :
    V10 m o c (Proc.devRef .tc r) = m ((c.tc : Thread nD τ).loc r) := by
  rw [V10_of m o c r h, V9_of m c r h8, V8_of m c r h7, V7_of m c r h6, V6_of m c r h5, V5_of m c r h4, V4_of m c r h3, V3_of m c r h2, V2_of m c r h1, V1_of m c r h0]
theorem lo_at1 (o : Outs (F := F)) (c : Dev nD) : V11 m o c (Proc.devRef .tc main_v51) = nLo1 (m ((c.tc : Thread nD τ).loc main_arg5)) (m ((c.tc : Thread nD τ).loc main_arg5)) := by
  refine (lo_read1 (V10 m o c)).trans ?_
  rw [V10_at m o c main_arg5 (by decide) (by decide) (by decide) (by decide) (by decide) (by decide) (by decide) (by decide) (by decide) (by decide)]
theorem hi_at1 (o : Outs (F := F)) (c : Dev nD) : V11 m o c (Proc.devRef .tc main_v58) = nHi1 (m ((c.tc : Thread nD τ).loc main_arg5)) (m ((c.tc : Thread nD τ).loc main_arg5)) := by
  refine (hi_read1 (V10 m o c)).trans ?_
  rw [V10_at m o c main_arg5 (by decide) (by decide) (by decide) (by decide) (by decide) (by decide) (by decide) (by decide) (by decide) (by decide)]
theorem fd1_at1 (o : Outs (F := F)) (c : Dev nD) : V12 m o c (Proc.devRef .tc main_v59) = fun i => fdW (nLo1 (m ((c.tc : Thread nD τ).loc main_arg5)) (m ((c.tc : Thread nD τ).loc main_arg5)) i) := by
  refine (fd_read1 (V11 m o c) (c_read1 (V10 m o c))).trans ?_
  rw [lo_at1 m o c]
  rfl
theorem num_at1 (o : Outs (F := F)) (c : Dev nD) : V13 m o c (Proc.devRef .tc main_v63) = fun i => IntOp.subi (IntOp.addi (nHi1 (m ((c.tc : Thread nD τ).loc main_arg5)) (m ((c.tc : Thread nD τ).loc main_arg5)) i) 1024#32) 1#32 := by
  refine (num_read1 (V12 m o c)).trans ?_
  rw [V12_of m o c main_v58 (by decide), hi_at1 m o c]
  rfl
theorem fd2_at1 (o : Outs (F := F)) (c : Dev nD) : V14 m o c (Proc.devRef .tc main_v64) = fun i => fdW (IntOp.subi (IntOp.addi (nHi1 (m ((c.tc : Thread nD τ).loc main_arg5)) (m ((c.tc : Thread nD τ).loc main_arg5)) i) 1024#32) 1#32) := by
  refine (fd2_read1 (V13 m o c) (c2_read1 (V12 m o c))).trans ?_
  rw [num_at1 m o c]
  rfl
theorem gt_at1 (o : Outs (F := F)) (c : Dev nD) : V15 m o c (Proc.devRef .tc main_v65) = fun i => IntOp.cmpi .sgt (nHi1 (m ((c.tc : Thread nD τ).loc main_arg5)) (m ((c.tc : Thread nD τ).loc main_arg5)) i) (nLo1 (m ((c.tc : Thread nD τ).loc main_arg5)) (m ((c.tc : Thread nD τ).loc main_arg5)) i) := by
  refine (gt_read1 (V14 m o c)).trans ?_
  rw [V14_of m o c main_v58 (by decide), V13_of m o c main_v58 (by decide), V12_of m o c main_v58 (by decide), V14_of m o c main_v51 (by decide), V13_of m o c main_v51 (by decide), V12_of m o c main_v51 (by decide), hi_at1 m o c, lo_at1 m o c]
  rfl
theorem tlo_at1 (o : Outs (F := F)) (c : Dev nD) : V16 m o c (Proc.devRef .tc main_v66) = fun i => loW (nLo1 (m ((c.tc : Thread nD τ).loc main_arg5)) (m ((c.tc : Thread nD τ).loc main_arg5)) i) (nHi1 (m ((c.tc : Thread nD τ).loc main_arg5)) (m ((c.tc : Thread nD τ).loc main_arg5)) i) := by
  refine (tlo_read1 (V15 m o c) (z_read1 (V14 m o c))).trans ?_
  rw [gt_at1 m o c, V15_of m o c main_v59 (by decide), V14_of m o c main_v59 (by decide), V13_of m o c main_v59 (by decide), fd1_at1 m o c]; rfl
theorem d_at1 (o : Outs (F := F)) (c : Dev nD) : V17 m o c (Proc.devRef .tc main_v69) = fun i => IntOp.minsi (IntOp.subi (fdW (IntOp.subi (IntOp.addi (nHi1 (m ((c.tc : Thread nD τ).loc main_arg5)) (m ((c.tc : Thread nD τ).loc main_arg5)) i) 1024#32) 1#32)) (loW (nLo1 (m ((c.tc : Thread nD τ).loc main_arg5)) (m ((c.tc : Thread nD τ).loc main_arg5)) i) (nHi1 (m ((c.tc : Thread nD τ).loc main_arg5)) (m ((c.tc : Thread nD τ).loc main_arg5)) i))) 4#32 := by
  refine (d_read1 (V16 m o c)).trans ?_
  rw [V16_of m o c main_v64 (by decide), V15_of m o c main_v64 (by decide), fd2_at1 m o c, tlo_at1 m o c]
  rfl
theorem tnt_at1 (o : Outs (F := F)) (c : Dev nD) : V18 m o c (Proc.devRef .tc main_v70) = fun i => ntW 4#32 (nLo1 (m ((c.tc : Thread nD τ).loc main_arg5)) (m ((c.tc : Thread nD τ).loc main_arg5)) i) (nHi1 (m ((c.tc : Thread nD τ).loc main_arg5)) (m ((c.tc : Thread nD τ).loc main_arg5)) i) := by
  refine (tnt_read1 (V17 m o c) (o_read1 (V16 m o c))).trans ?_
  rw [V17_of m o c main_v65 (by decide), V16_of m o c main_v65 (by decide), gt_at1 m o c, d_at1 m o c]; rfl

/-- The table of first tiles, and the table of numbers of tiles. -/
theorem lo_table1 (o : Outs (F := F)) (c : Dev nD) : V19 m o c (Proc.devRef .tc main_v66) = fun i => loW (nLo1 (m ((c.tc : Thread nD τ).loc main_arg5)) (m ((c.tc : Thread nD τ).loc main_arg5)) i) (nHi1 (m ((c.tc : Thread nD τ).loc main_arg5)) (m ((c.tc : Thread nD τ).loc main_arg5)) i) := by
  rw [V19_of m o c main_v66 (by decide), V18_of m o c main_v66 (by decide), V17_of m o c main_v66 (by decide), tlo_at1 m o c]
theorem nt_table1 (o : Outs (F := F)) (c : Dev nD) : V19 m o c (Proc.devRef .tc main_v70) = fun i => ntW 4#32 (nLo1 (m ((c.tc : Thread nD τ).loc main_arg5)) (m ((c.tc : Thread nD τ).loc main_arg5)) i) (nHi1 (m ((c.tc : Thread nD τ).loc main_arg5)) (m ((c.tc : Thread nD τ).loc main_arg5)) i) := by
  rw [V19_of m o c main_v70 (by decide), tnt_at1 m o c]

/-- The bound that the body of call 1 asks for. -/
theorem tables_bound1 (o : Outs (F := F)) (t : Fin grid1.N) : (lo1 (V19 m o) t).toNat + (nt1 (V19 m o) t).toNat ≤ 4 := by
  unfold lo1 nt1 word1 wordAt
  rw [lo_table1, nt_table1]
  exact tables_le (n := 4) (by decide) (by decide)
    (by unfold nLo1; rw [count_eq (h := by decide)]; exact (count_toNat (by decide) _).1.trans_le (count_toNat (by decide) _).2)
    (by unfold nHi1; rw [count_eq (h := by decide)]; exact (count_toNat (by decide) _).1.trans_le (count_toNat (by decide) _).2)
end

end Cert.KernelIdeal
-- ==== Proof.KI.Frame.lean ====
/-
  The program runs, leaves its arguments as they were and every counter at zero: the run with the bounds on the tables.
-/
module

public import proofs.«01_k».proof.Proof.KI.Run
public import proofs.«01_k».proof.Proof.KI.Bounds

@[expose] public section

noncomputable section

namespace Cert.KernelIdeal

open Idealize.ShloMosaic Idealize.ShloMosaic.TcCoe Idealize.SL.Sem
open Cert.KernelIdeal.Gen

variable {F : FTy → Type} [FloatOps F]

/-- The run, with nothing assumed of the memory. -/
theorem run_whole (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_v83) = W20 m c (Proc.devRef .tc main_v83))
      ∧ r.2.sem = fun _ => 0 :=
  run_main m ρ (tables_bound0 m) (tables_bound1 m (outsA m))

end Cert.KernelIdeal

end
-- ==== Proof.Same.lean ====
/-
  A fact about the runs of the ideal kernel, over any floats, is one about the runs of the kernel: they are the same program.
-/
module

public import proofs.«01_k».proof.Defs
public import proofs.«01_k».proof.Proof.Twin
public import Idealize.ShloMosaic.Lib.Claim
public import proofs.«01_k».proof.Proof.KI.Frame

@[expose] public section

set_option maxRecDepth 65536
set_option maxHeartbeats 4000000

noncomputable section

namespace Cert.Twin

open Idealize.ShloMosaic Idealize.ShloMosaic.TcCoe Idealize.SL.Sem

variable {F : FTy → Type} [FloatOps F]

open KernelIdeal in
/-- Every run of a program with these bodies ends with the arguments as they were and every counter at zero. -/
def Runs (pc : Fin 2 → Pipeline.PCfg sig Λ₀ (Elt F)) (D : Defs nD τ sig (Elt F) (Pipeline.Sig Λ₀ (Fin 2) fun p => (pc p).Adm))
    (M : Dev nD → Prog (TpuEff nD τ sig (Elt F) (Pipeline.Sig Λ₀ (Fin 2) fun p => (pc p).Adm) .tc) PUnit) : Prop :=
  ∀ (m : (ℓ : Loc nD τ sig) → Buf (Elt F) ℓ) (ρ : Dev nD → PrngReg),
    θ_run D (onTc (τ := τ) M) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0

/-- So it is with the ideal kernel's bodies. -/
theorem ideal_runs : Runs (F := F) KernelIdeal.pcfgs KernelIdeal.defs KernelIdeal.main := by
  intro m g
  refine θ_run_mono (Cert.KernelIdeal.run_whole m g) fun r h => ⟨fun c => ?_, h.2⟩
  obtain ⟨h0, h1, h2, h3, h4, h5, h6, -⟩ := h.1 c
  exact ⟨h0, h1, h2, h3, h4, h5, h6⟩

open KernelIdeal in
/-- It depends on nothing but what the configurations, the tables and the programs are. -/
theorem Runs.of {pc pc' : Fin 2 → Pipeline.PCfg sig Λ₀ (Elt F)} (h : pc = pc') {D : Defs nD τ sig (Elt F) (Pipeline.Sig Λ₀ (Fin 2) fun p => (pc p).Adm)}
    {M : Dev nD → Prog (TpuEff nD τ sig (Elt F) (Pipeline.Sig Λ₀ (Fin 2) fun p => (pc p).Adm) .tc) PUnit}
    {D' : Defs nD τ sig (Elt F) (Pipeline.Sig Λ₀ (Fin 2) fun p => (pc' p).Adm)}
    {M' : Dev nD → Prog (TpuEff nD τ sig (Elt F) (Pipeline.Sig Λ₀ (Fin 2) fun p => (pc' p).Adm) .tc) PUnit}
    (hD : HEq D D') (hM : HEq M M') (r : Runs pc' D' M') : Runs pc D M := by
  subst h
  obtain rfl := eq_of_heq hD
  obtain rfl := eq_of_heq hM
  exact r

/-- The kernel runs, leaves its arguments as they were and every counter at zero. -/
theorem kernel_runs : Cert.quiescent_Kernel :=
  fun m g _ => Runs.of (F := Bits) (pc := Kernel.pcfgs) (D := Kernel.defs) (M := Kernel.main) pcfgs_eq defs_eq main_eq ideal_runs m g

end Cert.Twin

end
-- ==== Proof.Pick.lean ====
/-
  The eight first entries of a row: greatest first, equal ones by position. A stable sort finds them, and so do eight rounds
  that take the greatest entry at its least position and strike it out; the two sets are the same.
-/
module

public import Idealize.ShloMosaic.Lib.SortPrefix
public import Mathlib.Data.EReal.Operations
public import Mathlib.Algebra.BigOperators.Group.Finset.Basic

@[expose] public section

namespace Cert.Pick

open Idealize.ShloMosaic

variable {n : ℕ} {s : Fin n → EReal}

/-- Entry `p` comes before entry `q`. -/
def Before (s : Fin n → EReal) (p q : Fin n) : Prop := s q < s p ∨ (s p = s q ∧ p < q)

theorem Before.asymm {p q : Fin n} (h : Before s p q) : ¬ Before s q p := by
  rintro (h' | ⟨e, h'⟩) <;> rcases h with h | ⟨e2, h⟩
  · exact lt_asymm h h'
  · exact h'.ne e2
  · exact h.ne e
  · exact lt_asymm h h'

/-- Eight entries, each before every other entry of the row. -/
structure IsTop (s : Fin n → EReal) (T : Finset (Fin n)) : Prop where
  card : T.card = 8
  first : ∀ p ∈ T, ∀ q, q ∉ T → Before s p q

theorem IsTop.unique {T T' : Finset (Fin n)} (h : IsTop s T) (h' : IsTop s T') : T = T' := by
  by_contra hne
  have h1 : ¬ T ⊆ T' := fun hs => hne (Finset.eq_of_subset_of_card_le hs (by rw [h.card, h'.card]))
  have h2 : ¬ T' ⊆ T := fun hs => hne (Finset.eq_of_subset_of_card_le hs (by rw [h.card, h'.card])).symm
  obtain ⟨p, hp, hp'⟩ := Finset.not_subset.mp h1
  obtain ⟨q, hq', hq⟩ := Finset.not_subset.mp h2
  exact (h.first p hp q hq).asymm (h'.first q hq' p hp')

/-- Two rows with the same order have the same first eight entries. -/
theorem IsTop.congr {s' : Fin n → EReal} {T : Finset (Fin n)} (h : IsTop s T) (e : s = s') : IsTop s' T := e ▸ h

/-! ## The sort -/

/-- The comparator of a sort by the entries alone. -/
noncomputable def gtB (s : Fin n → EReal) (p q : Fin n) : Bool := decide (s q < s p)

/-- The same, equal entries by position. -/
noncomputable def gtP (s : Fin n → EReal) (p q : Fin n) : Bool := decide (s q < s p) || (decide (s p = s q) && decide (p < q))

theorem gtP_iff {p q : Fin n} : gtP s p q = true ↔ Before s p q := by
  simp only [gtP, Before, Bool.or_eq_true, Bool.and_eq_true, decide_eq_true_eq]

theorem gtP_total : StrictTotalBefore (gtP s) where
  irrefl p := by simp [gtP]
  trans a b c hab hbc := by
    rw [gtP_iff] at *
    rcases hab with hab | ⟨eab, lab⟩ <;> rcases hbc with hbc | ⟨ebc, lbc⟩
    · exact Or.inl (hbc.trans hab)
    · exact Or.inl (ebc ▸ hab)
    · exact Or.inl (eab ▸ hbc)
    · exact Or.inr ⟨eab.trans ebc, lab.trans lbc⟩
  total a b hne := by
    rw [gtP_iff, gtP_iff]
    rcases lt_trichotomy (s a) (s b) with h | h | h
    · exact Or.inr (Or.inl h)
    · rcases lt_or_gt_of_ne hne with hl | hl
      · exact Or.inl (Or.inr ⟨h, hl⟩)
      · exact Or.inr (Or.inr ⟨h.symm, hl⟩)
    · exact Or.inl (Or.inl h)

/-- On a list of ascending positions the sort, being stable, orders equal entries by position. -/
theorem stableSort_gtB (l : List (Fin n)) (hl : l.Pairwise (· < ·)) : stableSort (gtB s) l = stableSort (gtP s) l := by
  induction l with
  | nil => rfl
  | cons a l ih =>
    rw [List.pairwise_cons] at hl
    unfold stableSort
    rw [ih hl.2]
    refine insertBefore_congr _ _ a _ fun b hb => ?_
    have hab : a < b := hl.1 b ((perm_stableSort (gtP s) l).mem_iff.mp hb)
    simp [gtB, gtP, not_lt_of_gt hab]

theorem sortedFrom_gtB : sortedFrom (gtB s) = sortedFrom (gtP s) := by
  funext k
  unfold sortedFrom
  exact List.get_of_eq (stableSort_gtB _ (List.pairwise_lt_finRange n)) _

/-- The first eight of the sort. -/
theorem sorted_isTop (h8 : 8 ≤ n) : IsTop s (Finset.univ.image fun j : Fin 8 => sortedFrom (gtB s) (j.castLE h8)) where
  card := by
    rw [Finset.card_image_of_injective, Finset.card_univ, Fintype.card_fin]
    exact (sortedFrom_injective _).comp (Fin.castLE_injective h8)
  first p hp q hq := by
    obtain ⟨i, -, rfl⟩ := Finset.mem_image.mp hp
    obtain ⟨j, rfl⟩ := sortedFrom_surjective (gtB s) q
    rw [sortedFrom_gtB] at *
    have hij : i.castLE h8 < j := by
      by_contra hc
      refine hq (Finset.mem_image.mpr ⟨⟨j.val, ?_⟩, Finset.mem_univ _, ?_⟩)
      · exact lt_of_le_of_lt (not_lt.mp hc) i.isLt
      · rfl
    have hno := sortedFrom_noInversion (gtP s) (gtP s) (fun a b h => gtP_total.asymm a b h) (fun _ _ h => h) gtP_total.negTrans _ _ hij
    rcases gtP_total.total _ _ (fun e => hij.ne (sortedFrom_injective (gtP s) e)) with h | h
    · exact gtP_iff.mp h
    · rw [hno] at h; exact absurd h (by decide)

/-- A sum over the sort's first eight. -/
theorem sum_sorted {M : Type} [AddCommMonoid M] (h8 : 8 ≤ n) (g : Fin n → M) {T : Finset (Fin n)} (hT : IsTop s T) :
    ∑ j : Fin 8, g (sortedFrom (gtB s) (j.castLE h8)) = ∑ p ∈ T, g p := by
  rw [hT.unique (sorted_isTop h8), Finset.sum_image]
  exact fun a _ b _ e => Fin.castLE_injective h8 (sortedFrom_injective _ e)

/-! ## The rounds -/

/-- One round over the positions `W`: the greatest entry, at its least position, is struck out. -/
def Round (W : Finset (Fin n)) (f f' : Fin n → EReal) : Prop :=
  ∃ p ∈ W, (∀ q ∈ W, f q ≤ f p) ∧ (∀ q ∈ W, f q = f p → p ≤ q) ∧ ∀ q ∈ W, f' q = if q = p then ⊥ else f q

theorem rounds (W : Finset (Fin n)) (f : ℕ → Fin n → EReal) (hs : ∀ q ∈ W, f 0 q = s q) (hb : ∀ q ∈ W, s q ≠ ⊥)
    (h : ∀ r, Round W (f r) (f (r + 1))) (k : ℕ) (hk : k ≤ W.card) :
    ∃ T ⊆ W, T.card = k ∧ (∀ q ∈ W, f k q = if q ∈ T then ⊥ else s q) ∧ ∀ p ∈ T, ∀ q ∈ W, q ∉ T → Before s p q := by
  induction k with
  | zero => exact ⟨∅, Finset.empty_subset _, rfl, fun q hq => by simp [hs q hq], fun p hp => absurd hp (Finset.notMem_empty p)⟩
  | succ k ih =>
    obtain ⟨T, hTW, hc, hf, hT⟩ := ih (by omega)
    obtain ⟨p, hp, hmax, hmin, hf'⟩ := h k
    have hex : ∃ q ∈ W, q ∉ T := by
      by_contra hcon
      push Not at hcon
      exact absurd (Finset.card_le_card hcon) (by omega)
    obtain ⟨q0, hq0, hq0'⟩ := hex
    have hpT : p ∉ T := by
      intro hpT
      have h1 := hmax q0 hq0
      rw [hf q0 hq0, if_neg hq0', hf p hp, if_pos hpT] at h1
      exact hb q0 hq0 (le_bot_iff.mp h1)
    have hfp : f k p = s p := by rw [hf p hp, if_neg hpT]
    refine ⟨insert p T, Finset.insert_subset hp hTW, by rw [Finset.card_insert_of_notMem hpT, hc], fun q hq => ?_, fun a ha q hq hqn => ?_⟩
    · rw [hf' q hq, hf q hq]
      by_cases e : q = p
      · simp [e]
      · simp [e, Finset.mem_insert]
    · rw [Finset.mem_insert, not_or] at hqn
      rcases Finset.mem_insert.mp ha with rfl | ha
      · have h1 := hmax q hq
        have hfq : f k q = s q := by rw [hf q hq, if_neg hqn.2]
        rw [hfq, hfp] at h1
        rcases h1.lt_or_eq with h2 | h2
        · exact Or.inl h2
        · exact Or.inr ⟨h2.symm, lt_of_le_of_ne (hmin q hq (by rw [hfq, hfp, h2])) (Ne.symm hqn.1)⟩
      · exact hT a ha q hq hqn.2

/-- Eight rounds over a window find the first eight entries of the whole row, when the window has at least eight entries above
    the common value of the entries outside. The entries found are above that value. -/
theorem rounds_top (W : Finset (Fin n)) (f : ℕ → Fin n → EReal) (hs : ∀ q ∈ W, f 0 q = s q) (hb : ∀ q ∈ W, s q ≠ ⊥)
    (h : ∀ r, Round W (f r) (f (r + 1))) (b : EReal) (hout : ∀ q, q ∉ W → s q = b)
    (K : Finset (Fin n)) (hKW : K ⊆ W) (hK : 8 ≤ K.card) (hKb : ∀ q ∈ K, b < s q) :
    ∃ T ⊆ W, IsTop s T ∧ (∀ p ∈ T, b < s p) ∧ ∀ q ∈ W, f 8 q = if q ∈ T then ⊥ else s q := by
  obtain ⟨T, hTW, hc, hf, hT⟩ := rounds W f hs hb h 8 (hK.trans (Finset.card_le_card hKW))
  have hTb : ∀ p ∈ T, b < s p := by
    intro p hp
    by_cases hpK : p ∈ K
    · exact hKb p hpK
    have hex : ∃ q ∈ K, q ∉ T := by
      by_contra hcon
      push Not at hcon
      have h1 : insert p K ⊆ T := Finset.insert_subset hp hcon
      have h2 := Finset.card_le_card h1
      rw [Finset.card_insert_of_notMem hpK] at h2
      omega
    obtain ⟨q, hq, hqT⟩ := hex
    rcases hT p hp q (hKW hq) hqT with h1 | ⟨h1, -⟩
    · exact (hKb q hq).trans h1
    · rw [h1]; exact hKb q hq
  refine ⟨T, hTW, ⟨hc, fun p hp q hq => ?_⟩, hTb, hf⟩
  by_cases hqW : q ∈ W
  · exact hT p hp q hqW hq
  · exact Or.inl (by rw [hout q hqW]; exact hTb p hp)

/-- A sum over the window of the entries struck out is a sum over the first eight. -/
theorem sum_struck {M : Type} [AddCommMonoid M] {W T : Finset (Fin n)} (hTW : T ⊆ W) {f : Fin n → EReal}
    (hb : ∀ q ∈ W, s q ≠ ⊥) (hf : ∀ q ∈ W, f q = if q ∈ T then ⊥ else s q) (g : Fin n → M) :
    (∑ q ∈ W, if f q = ⊥ then g q else 0) = ∑ q ∈ T, g q := by
  rw [← Finset.sum_filter]
  congr 1
  ext q
  rw [Finset.mem_filter]
  constructor
  · rintro ⟨hq, e⟩
    by_contra hqT
    rw [hf q hq, if_neg hqT] at e
    exact hb q hq e
  · intro hq
    exact ⟨hTW hq, by rw [hf q (hTW hq), if_pos hq]⟩

end Cert.Pick
-- ==== Proof.KI.Row.lean ====
/-
  A search read at one row, over the extended reals. The window of slabs is a set of positions; a round takes the greatest
  score of the window at its least position and strikes it out, and the four sums are sums over the entries struck out.
-/
module

public import proofs.«01_k».proof.Proof.KI.Search
public import proofs.«01_k».proof.Proof.Pick
public import Idealize.ShloMosaic.Lib.Pointwise

@[expose] public section

set_option maxRecDepth 65536

noncomputable section

namespace Cert.KernelIdeal

open Idealize.ShloMosaic
open Cert.Slabs Cert.Trips Cert.Pick
open Cert.KernelIdeal.Gen

/-! ## Words -/

/-- The word of a position: entry `l` of slab `k` after slab `a`. -/
def posW (a : BitVec 32) (k l : ℕ) : BitVec 32 := IntOp.addi (BitVec.ofNat 32 l) (Scalar.muli (Scf.iv a 1#32 k) 1024#32)

theorem posW_toNat {a : BitVec 32} {k l : ℕ} (h : a.toNat + k < 8) (hl : l < 1024) : (posW a k l).toNat = (a.toNat + k) * 1024 + l := by
  show (BitVec.ofNat 32 l + (a + BitVec.ofNat 32 k * 1#32) * 1024#32).toNat = _
  simp only [BitVec.toNat_add, BitVec.toNat_mul, BitVec.toNat_ofNat]
  omega

theorem posW_toInt {a : BitVec 32} {k l : ℕ} (h : a.toNat + k < 8) (hl : l < 1024) : (posW a k l).toInt = ((a.toNat + k) * 1024 + l : ℕ) := by
  have e := BitVec.toInt_eq_toNat_cond (posW a k l)
  rw [posW_toNat h hl] at e
  rw [e, if_pos (by omega)]

theorem posW_inj {a : BitVec 32} {k l k' l' : ℕ} (h : a.toNat + k < 8) (hl : l < 1024) (h' : a.toNat + k' < 8) (hl' : l' < 1024) :
    posW a k l = posW a k' l' ↔ (a.toNat + k) * 1024 + l = (a.toNat + k') * 1024 + l' := by
  rw [← BitVec.toNat_inj, posW_toNat h hl, posW_toNat h' hl']

theorem minsi_toInt (a b : BitVec 32) : (IntOp.minsi a b).toInt = min a.toInt b.toInt := by
  show (if a.slt b then a else b).toInt = _
  by_cases h : a.toInt < b.toInt
  · rw [show a.slt b = true from decide_eq_true h, if_pos rfl, min_eq_left (le_of_lt h)]
  · rw [show a.slt b = false from decide_eq_false h, if_neg Bool.false_ne_true, min_eq_right (not_lt.mp h)]

/-- A fold of the signed minimum is at most its start and every word, and is one of them. -/
theorem fold_minsi {ι : Type} [DecidableEq ι] (g : ι → BitVec 32) (s : Finset ι) (z : BitVec 32) :
    (∀ i ∈ s, (s.fold IntOp.minsi z g).toInt ≤ (g i).toInt) ∧ (s.fold IntOp.minsi z g = z ∨ ∃ i ∈ s, s.fold IntOp.minsi z g = g i) := by
  induction s using Finset.induction_on with
  | empty => exact ⟨fun i hi => absurd hi (Finset.notMem_empty i), Or.inl rfl⟩
  | insert a s has ih =>
    rw [Finset.fold_insert has]
    have hm := minsi_toInt (g a) (s.fold IntOp.minsi z g)
    refine ⟨fun i hi => ?_, ?_⟩
    · rcases Finset.mem_insert.mp hi with rfl | hi
      · rw [hm]; exact min_le_left _ _
      · rw [hm]; exact (min_le_right _ _).trans (ih.1 i hi)
    · rcases min_choice (g a).toInt (s.fold IntOp.minsi z g).toInt with h | h
      · exact Or.inr ⟨a, Finset.mem_insert_self a s, BitVec.eq_of_toInt_eq (hm.trans h)⟩
      · rcases ih.2 with h3 | ⟨i, hi, h3⟩
        · exact Or.inl ((BitVec.eq_of_toInt_eq (hm.trans h)).trans h3)
        · exact Or.inr ⟨i, Finset.mem_insert_of_mem hi, (BitVec.eq_of_toInt_eq (hm.trans h)).trans h3⟩

theorem negInf_eq : Ideal.ofBits FTy.f32 0xFF800000#32 = (⊥ : EReal) := by
  simp [Ideal.ofBits, Ideal.ieee]

/-! ## The greatest score and its position -/

variable (a : BitVec 32) (n : ℕ) (C S : ℕ → Slab Ideal) (R : ℕ → Vec Ideal S1x4x1024 .f32) (r : Fin 256)

/-- A slab's entries at the row. -/
def ent (k : ℕ) (l : Fin 1024) : EReal := C k (ix3 0 r l)

theorem mOf_succ : mOf (n + 1) C (ix2 r 0) = max (mOf n C (ix2 r 0)) (Finset.univ.sup (ent C r n)) := by
  show k0_pay10 (mOf n C) (C n) (ix2 r 0) = _
  pointwise [k0_pay10]
  rw [negInf_eq]
  rfl

theorem mOf_spec : (∀ k < n, ∀ l, ent C r k l ≤ mOf n C (ix2 r 0)) ∧ (0 < n → ∃ k < n, ∃ l, ent C r k l = mOf n C (ix2 r 0)) := by
  induction n with
  | zero => exact ⟨fun k hk => absurd hk (Nat.not_lt_zero k), fun h => absurd h (lt_irrefl 0)⟩
  | succ n ih =>
    rw [mOf_succ]
    refine ⟨fun k hk l => ?_, fun _ => ?_⟩
    · rcases Nat.lt_succ_iff_lt_or_eq.mp hk with hk | rfl
      · exact (ih.1 k hk l).trans (le_max_left _ _)
      · exact (Finset.le_sup (f := ent C r k) (Finset.mem_univ l)).trans (le_max_right _ _)
    · obtain ⟨l, -, hl⟩ := Finset.exists_mem_eq_sup Finset.univ ⟨(0 : Fin 1024), Finset.mem_univ _⟩ (ent C r n)
      rcases max_choice (mOf n C (ix2 r 0)) (Finset.univ.sup (ent C r n)) with h | h
      · rcases Nat.eq_zero_or_pos n with rfl | hn
        · refine ⟨0, Nat.zero_lt_one, l, ?_⟩
          rw [← hl]
          refine (max_eq_right ?_).symm
          show k0_pay9 (F := Ideal) (ix2 r 0) ≤ _
          have e : k0_pay9 (F := Ideal) (ix2 r 0) = ⊥ := negInf_eq
          rw [e]; exact bot_le
        · obtain ⟨k, hk, l', e⟩ := ih.2 hn
          exact ⟨k, hk.trans (Nat.lt_succ_self n), l', e.trans h.symm⟩
      · exact ⟨n, Nat.lt_succ_self n, l, hl.symm.trans h.symm⟩

/-- An entry's position if it is `m`, else a word above all positions. -/
def cand (m : EReal) (k : ℕ) (l : Fin 1024) : BitVec 32 := if ent C r k l = m then posW a k l else 1073741824#32

theorem locP_ap (t : BitVec 32) (m : FVec Ideal S256x1 .f32) (acc : IVec S256x1 32) (v : Slab Ideal) : locP t m acc v (ix2 r 0)
    = IntOp.minsi (acc (ix2 r 0)) (Finset.univ.fold IntOp.minsi 2147483647#32 fun l : Fin 1024 =>
      if v (ix3 0 r l) = m (ix2 r 0) then IntOp.addi (BitVec.ofNat 32 l) (Scalar.muli t 1024#32) else 1073741824#32) := by
  pointwise [locP, posAt, pos]

theorem iOf_succ (m : FVec Ideal S256x1 .f32) : iOf a (n + 1) m C (ix2 r 0)
    = IntOp.minsi (iOf a n m C (ix2 r 0)) (Finset.univ.fold IntOp.minsi 2147483647#32 (cand a C r (m (ix2 r 0)) n)) := by
  have h : iOf a (n + 1) m C = locP (Scf.iv a 1#32 n) m (iOf a n m C) (C n) := by simp only [iOf, foldN]
  rw [h, locP_ap]
  congr 1

theorem cand_le {m : EReal} {k : ℕ} (h : a.toNat + k < 8) (l : Fin 1024) : (cand a C r m k l).toInt ≤ 1073741824 := by
  unfold cand
  split
  · rw [posW_toInt h l.isLt]; have := l.isLt; omega
  · decide

theorem iOf_spec (m : FVec Ideal S256x1 .f32) (h : a.toNat + n ≤ 8) :
    (∀ k < n, ∀ l, (iOf a n m C (ix2 r 0)).toInt ≤ (cand a C r (m (ix2 r 0)) k l).toInt)
      ∧ (iOf a n m C (ix2 r 0) = 1073741824#32 ∨ ∃ k < n, ∃ l, iOf a n m C (ix2 r 0) = cand a C r (m (ix2 r 0)) k l) := by
  induction n with
  | zero => exact ⟨fun k hk => absurd hk (Nat.not_lt_zero k), Or.inl rfl⟩
  | succ n ih =>
    obtain ⟨i1, i2⟩ := ih (by omega)
    obtain ⟨f1, f2⟩ := fold_minsi (cand a C r (m (ix2 r 0)) n) Finset.univ 2147483647#32
    have hm := minsi_toInt (iOf a n m C (ix2 r 0)) (Finset.univ.fold IntOp.minsi 2147483647#32 (cand a C r (m (ix2 r 0)) n))
    rw [iOf_succ]
    refine ⟨fun k hk l => ?_, ?_⟩
    · rw [hm]
      rcases Nat.lt_succ_iff_lt_or_eq.mp hk with hk | rfl
      · exact (min_le_left _ _).trans (i1 k hk l)
      · exact (min_le_right _ _).trans (f1 l (Finset.mem_univ l))
    · rcases min_choice (iOf a n m C (ix2 r 0)).toInt (Finset.univ.fold IntOp.minsi 2147483647#32 (cand a C r (m (ix2 r 0)) n)).toInt with e | e
      · rw [BitVec.eq_of_toInt_eq (hm.trans e)]
        rcases i2 with i2 | ⟨k, hk, l, i2⟩
        · exact Or.inl i2
        · exact Or.inr ⟨k, hk.trans (Nat.lt_succ_self n), l, i2⟩
      · rw [BitVec.eq_of_toInt_eq (hm.trans e)]
        rcases f2 with f2 | ⟨l, -, f2⟩
        · exfalso
          have h1 := f1 0 (Finset.mem_univ _)
          have h2 := cand_le a C r (m := m (ix2 r 0)) (k := n) (by omega) 0
          rw [f2] at h1
          have h3 : (2147483647#32 : BitVec 32).toInt = 2147483647 := by decide
          omega
        · exact Or.inr ⟨n, Nat.lt_succ_self n, l, f2⟩

/-- The position found is the least at which the row attains `m`. -/
theorem iOf_first (m : FVec Ideal S256x1 .f32) (h : a.toNat + n ≤ 8) (hm : ∃ k < n, ∃ l, ent C r k l = m (ix2 r 0)) :
    ∃ k < n, ∃ l : Fin 1024, ent C r k l = m (ix2 r 0) ∧ iOf a n m C (ix2 r 0) = posW a k l
      ∧ ∀ k' < n, ∀ l' : Fin 1024, ent C r k' l' = m (ix2 r 0) → (a.toNat + k) * 1024 + l.val ≤ (a.toNat + k') * 1024 + l'.val := by
  obtain ⟨k0, hk0, l0, e0⟩ := hm
  obtain ⟨i1, i2⟩ := iOf_spec a n C r m h
  have hsmall : (iOf a n m C (ix2 r 0)).toInt < 8192 := by
    have h1 := i1 k0 hk0 l0
    rw [cand, if_pos e0, posW_toInt (by omega) l0.isLt] at h1
    have := l0.isLt
    omega
  have hbig : (1073741824#32 : BitVec 32).toInt = 1073741824 := by decide
  rcases i2 with i2 | ⟨k, hk, l, i2⟩
  · rw [i2] at hsmall; omega
  · by_cases e : ent C r k l = m (ix2 r 0)
    · have i3 := i2
      rw [cand, if_pos e] at i3
      refine ⟨k, hk, l, e, i3, fun k' hk' l' e' => ?_⟩
      have h1 := i1 k' hk' l'
      rw [i3, cand, if_pos e', posW_toInt (by omega) l.isLt, posW_toInt (by omega) l'.isLt] at h1
      exact_mod_cast h1
    · rw [cand, if_neg e] at i2
      rw [i2] at hsmall; omega

theorem ent_conC (idx : IVec S256x1 32) (k : ℕ) (l : Fin 1024) :
    ent (conC a idx C) r k l = if posW a k l = idx (ix2 r 0) then ⊥ else ent C r k l := by
  show conP (Scf.iv a 1#32 k) idx (C k) (ix3 0 r l) = _
  pointwise [conP, posAt, pos]
  rw [negInf_eq]
  show Scalar.select (IntOp.cmpi .eq (posW a k l) (idx (ix2 r 0))) ⊥ (ent C r k l) = _
  unfold Scalar.select
  by_cases h : posW a k l = idx (ix2 r 0)
  · rw [if_pos h, h]; simp [IntOp.cmpi]
  · rw [if_neg h]; rw [show IntOp.cmpi .eq (posW a k l) (idx (ix2 r 0)) = 0#1 by simp [IntOp.cmpi, beq_eq_false_iff_ne.mpr h]]; rfl

/-! ## The window -/

variable {M : ℕ}

/-- The positions of `n` slabs after slab `a`. -/
def Win (M : ℕ) (a : BitVec 32) (n : ℕ) : Finset (Fin M) := Finset.univ.filter fun q => a.toNat ≤ q.val / 1024 ∧ q.val / 1024 < a.toNat + n

/-- The entry at a position. -/
def atq (q : Fin M) : EReal := ent C r (q.val / 1024 - a.toNat) ⟨q.val % 1024, Nat.mod_lt _ (by decide)⟩

theorem mem_Win {q : Fin M} : q ∈ Win M a n ↔ a.toNat ≤ q.val / 1024 ∧ q.val / 1024 < a.toNat + n := by
  simp [Win]

/-- A position of the window, by slab and entry. -/
def qOf (hM : (a.toNat + n) * 1024 ≤ M) (k : ℕ) (hk : k < n) (l : Fin 1024) : Fin M :=
  ⟨(a.toNat + k) * 1024 + l.val, by have := l.isLt; omega⟩

theorem qOf_mem (hM : (a.toNat + n) * 1024 ≤ M) (k : ℕ) (hk : k < n) (l : Fin 1024) : qOf a n hM k hk l ∈ Win M a n := by
  have := l.isLt
  rw [mem_Win]
  simp only [qOf]
  omega

theorem atq_qOf (hM : (a.toNat + n) * 1024 ≤ M) (k : ℕ) (hk : k < n) (l : Fin 1024) : atq a C r (qOf a n hM k hk l) = ent C r k l := by
  have := l.isLt
  unfold atq
  congr 1
  · simp only [qOf]; omega
  · apply Fin.ext; simp only [qOf]; omega

theorem win_round (hM : (a.toNat + n) * 1024 ≤ M) (h8 : a.toNat + n ≤ 8) (hn : 0 < n) :
    Round (Win M a n) (atq a C r) (atq a (conC a (iOf a n (mOf n C) C) C) r) := by
  obtain ⟨m1, m2⟩ := mOf_spec n C r
  obtain ⟨k, hk, l, e, hi, hmin⟩ := iOf_first a n C r (mOf n C) h8 (m2 hn)
  refine ⟨qOf a n hM k hk l, qOf_mem a n hM k hk l, fun q hq => ?_, fun q hq hqe => ?_, fun q hq => ?_⟩
  · rw [atq_qOf, e]
    rw [mem_Win] at hq
    exact m1 _ (by omega) _
  · rw [atq_qOf, e] at hqe
    rw [mem_Win] at hq
    have h1 := hmin _ (by omega) _ hqe
    show (a.toNat + k) * 1024 + l.val ≤ q.val
    dsimp only at h1
    omega
  · rw [mem_Win] at hq
    show ent _ r _ _ = _
    rw [ent_conC, hi]
    have hl := l.isLt
    have hc : posW a (q.val / 1024 - a.toNat) (q.val % 1024) = posW a k l ↔ q = qOf a n hM k hk l := by
      rw [posW_inj (by omega) (Nat.mod_lt _ (by decide)) (by omega) hl, Fin.ext_iff]
      show _ ↔ q.val = (a.toNat + k) * 1024 + l.val
      omega
    by_cases hq' : q = qOf a n hM k hk l
    · rw [if_pos hq', if_pos (hc.mpr hq')]
    · rw [if_neg hq', if_neg (fun h => hq' (hc.mp h))]
      rfl

/-- A sum over the slabs and their entries is a sum over the window. -/
theorem sum_Win (hM : (a.toNat + n) * 1024 ≤ M) (g : ℕ → Fin 1024 → EReal) :
    ∑ k ∈ Finset.range n, ∑ l, g k l = ∑ q ∈ Win M a n, g (q.val / 1024 - a.toNat) ⟨q.val % 1024, Nat.mod_lt _ (by decide)⟩ := by
  rw [← Finset.sum_product']
  refine Finset.sum_bij (fun x hx => qOf a n hM x.1 (by simpa using (Finset.mem_product.mp hx).1) x.2) ?_ ?_ ?_ ?_
  · exact fun x hx => qOf_mem a n hM _ _ _
  · rintro ⟨k, l⟩ hx ⟨k', l'⟩ hx' e
    have h1 := congrArg Fin.val e
    simp only [qOf] at h1
    have := l.isLt
    have := l'.isLt
    have e1 : k = k' := by omega
    have e2 : l.val = l'.val := by omega
    rw [e1, Fin.ext e2]
  · intro q hq
    rw [mem_Win] at hq
    refine ⟨(q.val / 1024 - a.toNat, ⟨q.val % 1024, Nat.mod_lt _ (by decide)⟩), ?_, ?_⟩
    · simp; omega
    · apply Fin.ext; simp only [qOf]; omega
  · rintro ⟨k, l⟩ hx
    have hl := l.isLt
    have e1 : (qOf (M := M) a n hM k (by simpa using (Finset.mem_product.mp hx).1) l).val / 1024 - a.toNat = k := by simp only [qOf]; omega
    have e2 : (⟨(qOf (M := M) a n hM k (by simpa using (Finset.mem_product.mp hx).1) l).val % 1024, Nat.mod_lt _ (by decide)⟩ : Fin 1024) = l := by
      apply Fin.ext; simp only [qOf]; omega
    simp only [e1, e2]

/-! ## The sums -/

/-- An entry's weight, if it is struck out. -/
def took (k : ℕ) (l : Fin 1024) : EReal := if ent C r k l = ⊥ then ent S r k l else 0

section Step

variable (x : FVec Ideal S256x1 .f32) (v w : Slab Ideal) (u : Vec Ideal S1x4x1024 .f32)

/-- A slab's weight, if the entry is struck out. -/
def took1 (l : Fin 1024) : EReal := if v (ix3 0 r l) = ⊥ then w (ix3 0 r l) else 0

theorem pay76_ap : k0_pay76 x v w (ix2 r 0) = x (ix2 r 0) + ∑ l, took1 r v w l := by
  pointwise [k0_pay76, k0_pay74]
  rw [negInf_eq]; rfl

theorem pay77_ap : k0_pay77 x v w u (ix2 r 0) = x (ix2 r 0) + ∑ l, took1 r v w l * u (ix3 0 0 l) := by
  pointwise [k0_pay77, k0_pay74, k0_pay75]
  rw [negInf_eq]; rfl

theorem pay78_ap : k0_pay78 x v w u (ix2 r 0) = x (ix2 r 0) + ∑ l, took1 r v w l * u (ix3 0 1 l) := by
  pointwise [k0_pay78, k0_pay74, k0_pay75]
  rw [negInf_eq]; rfl

theorem pay79_ap : k0_pay79 x v w u (ix2 r 0) = x (ix2 r 0) + ∑ l, took1 r v w l * u (ix3 0 2 l) := by
  pointwise [k0_pay79, k0_pay74, k0_pay75]
  rw [negInf_eq]; rfl

end Step

theorem acc_sums : (accOf n C S R).1 (ix2 r 0) = ∑ k ∈ Finset.range n, ∑ l, took C S r k l
    ∧ (accOf n C S R).2.1 (ix2 r 0) = ∑ k ∈ Finset.range n, ∑ l, took C S r k l * R k (ix3 0 0 l)
    ∧ (accOf n C S R).2.2.1 (ix2 r 0) = ∑ k ∈ Finset.range n, ∑ l, took C S r k l * R k (ix3 0 1 l)
    ∧ (accOf n C S R).2.2.2 (ix2 r 0) = ∑ k ∈ Finset.range n, ∑ l, took C S r k l * R k (ix3 0 2 l) := by
  induction n with
  | zero =>
    have h0 : k0_pay73 (F := Ideal) (ix2 r 0) = 0 := by pointwise [k0_pay73]
    exact ⟨h0, h0, h0, h0⟩
  | succ n ih =>
    obtain ⟨i1, i2, i3, i4⟩ := ih
    simp only [Finset.sum_range_succ]
    rw [← i1, ← i2, ← i3, ← i4]
    exact ⟨pay76_ap r _ (C n) (S n), pay77_ap r _ (C n) (S n) (R n), pay78_ap r _ (C n) (S n) (R n), pay79_ap r _ (C n) (S n) (R n)⟩

/-- A value's component at a position. -/
def rowq (j : Fin 4) (q : Fin M) : EReal := R (q.val / 1024 - a.toNat) (ix3 0 j ⟨q.val % 1024, Nat.mod_lt _ (by decide)⟩)

/-- The sums after eight rounds, over the eight entries found. -/
theorem row_sums (hM : (a.toNat + n) * 1024 ≤ M) (h8 : a.toNat + n ≤ 8) (hn : 0 < n) {s : Fin M → EReal}
    (hs : ∀ q ∈ Win M a n, atq a C r q = s q) (hb : ∀ q ∈ Win M a n, s q ≠ ⊥) (b : EReal) (hout : ∀ q, q ∉ Win M a n → s q = b)
    (K : Finset (Fin M)) (hKW : K ⊆ Win M a n) (hK : 8 ≤ K.card) (hKb : ∀ q ∈ K, b < s q) :
    ∃ T ⊆ Win M a n, IsTop s T ∧ (∀ p ∈ T, b < s p)
      ∧ (accOf n (cR a n C 8) S R).1 (ix2 r 0) = ∑ q ∈ T, atq a S r q
      ∧ (accOf n (cR a n C 8) S R).2.1 (ix2 r 0) = ∑ q ∈ T, atq a S r q * rowq a R 0 q
      ∧ (accOf n (cR a n C 8) S R).2.2.1 (ix2 r 0) = ∑ q ∈ T, atq a S r q * rowq a R 1 q
      ∧ (accOf n (cR a n C 8) S R).2.2.2 (ix2 r 0) = ∑ q ∈ T, atq a S r q * rowq a R 2 q := by
  obtain ⟨T, hTW, hT, hTb, hf⟩ := rounds_top (Win M a n) (fun k => atq a (cR a n C k) r) hs hb
    (fun k => win_round a n (cR a n C k) r hM h8 hn) b hout K hKW hK hKb
  obtain ⟨s1, s2, s3, s4⟩ := acc_sums n (cR a n C 8) S R r
  have e1 : ∀ j : Fin 4, ∑ k ∈ Finset.range n, ∑ l, took (cR a n C 8) S r k l * R k (ix3 0 j l) = ∑ q ∈ T, atq a S r q * rowq a R j q := by
    intro j
    rw [sum_Win a n hM (fun k l => took (cR a n C 8) S r k l * R k (ix3 0 j l)), ← sum_struck hTW hb hf]
    refine Finset.sum_congr rfl fun q _ => ?_
    show (if atq a (cR a n C 8) r q = ⊥ then atq a S r q else 0) * rowq a R j q = _
    split
    · rfl
    · rw [zero_mul]
  refine ⟨T, hTW, hT, hTb, ?_, s2.trans (e1 0), s3.trans (e1 1), s4.trans (e1 2)⟩
  rw [s1, sum_Win a n hM (fun k l => took (cR a n C 8) S r k l), ← sum_struck hTW hb hf]
  rfl

end Cert.KernelIdeal

end
-- ==== Proof.Spec.lean ====
/-
  The mathematics both programs share: scores of one row of features against many, and the quotient of sums over the entries
  found, in the two shapes the programs give it.
-/
module

public import proofs.«01_k».proof.Proof.Pick
public import Idealize.ShloMosaic.Lib.IdealHost
public import Idealize.ShloMosaic.Lib.Pointwise

@[expose] public section

noncomputable section

namespace Cert.Spec

open Idealize.ShloMosaic Cert.Pick

/-- The score of an entry that does not match. -/
def NEG : EReal := Ideal.ofBits .f32 0xF149F2CA#32

/-- What is added to a norm. -/
def EPS : EReal := Ideal.ofBits .f32 0x2B8CBCCC#32

/-- The sum of the products of two rows of features. -/
def dot (x y : Fin 64 → EReal) : EReal := ∑ d, x d * y d

/-- A row's norm and a little more. -/
def nrm (x : Fin 64 → EReal) : EReal := Ideal.sqrt (dot x x) + EPS

/-- The sum of the products of two rows over their norms. -/
def cosv (x y : Fin 64 → EReal) : EReal := ∑ d, Ideal.div (x d) (nrm x) * Ideal.div (y d) (nrm y)

/-- The scores of a row against many. -/
def scoreOf {M : ℕ} (near : Fin M → Bool) (x : Fin 64 → EReal) (Y : Fin M → Fin 64 → EReal) (q : Fin M) : EReal :=
  if near q then cosv x (Y q) else NEG

/-- A row of finite features. -/
def Fin1 (x : Fin 64 → EReal) : Prop := ∃ x' : Fin 64 → ℝ, ∀ d, x d = (x' d : EReal)

theorem eps_pos : ∃ e : ℝ, 0 < e ∧ EPS = (e : EReal) := by
  have h : EPS = ((9223372 * 2 ^ (-63 : ℤ) : ℝ) : EReal) := by
    unfold EPS
    simp [Ideal.ofBits, Ideal.ieee, -EReal.coe_mul]
  exact ⟨_, by positivity, h⟩

theorem neg_eq : NEG = ((-(13234890 * 2 ^ (76 : ℤ)) : ℝ) : EReal) := by
  unfold NEG
  simp [Ideal.ofBits, Ideal.ieee, -EReal.coe_mul, -EReal.coe_neg]

theorem neg_lt : NEG < ((-64 : ℝ) : EReal) := by
  rw [neg_eq, EReal.coe_lt_coe_iff]
  norm_num

theorem neg_ne_bot : NEG ≠ ⊥ := by
  rw [neg_eq]; exact EReal.coe_ne_bot _

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem dot_real {x y : Fin 64 → EReal} (hx : Fin1 x) (hy : Fin1 y) : ∃ s : ℝ, dot x y = s := by
  obtain ⟨x', hx⟩ := hx
  obtain ⟨y', hy⟩ := hy
  refine ⟨∑ d, x' d * y' d, ?_⟩
  rw [← coe_sum]
  exact Finset.sum_congr rfl fun d _ => by rw [hx, hy, EReal.coe_mul]

theorem nrm_real {x : Fin 64 → EReal} (x' : Fin 64 → ℝ) (hx : ∀ d, x d = (x' d : EReal)) :
    ∃ n : ℝ, 0 < n ∧ nrm x = n ∧ ∀ d, |x' d| ≤ n := by
  obtain ⟨e, he, hE⟩ := eps_pos
  have hd : dot x x = ((∑ d, x' d * x' d : ℝ) : EReal) := by
    rw [← coe_sum]
    exact Finset.sum_congr rfl fun d _ => by rw [hx, EReal.coe_mul]
  have h0 : 0 ≤ ∑ d, x' d * x' d := Finset.sum_nonneg fun d _ => mul_self_nonneg _
  refine ⟨Real.sqrt (∑ d, x' d * x' d) + e, by positivity, ?_, fun d => ?_⟩
  · unfold nrm
    rw [hd, hE, EReal.coe_add]
    congr 1
    show (if _ < (0 : ℝ) then ⊥ else _) = _
    rw [if_neg (not_lt.mpr h0)]
  · have h1 : x' d * x' d ≤ ∑ d, x' d * x' d := Finset.single_le_sum (f := fun d => x' d * x' d) (fun d _ => mul_self_nonneg _) (Finset.mem_univ d)
    have h2 : |x' d| ≤ Real.sqrt (∑ d, x' d * x' d) := Real.abs_le_sqrt (by rw [sq]; exact h1)
    linarith

theorem nrm_ne {x : Fin 64 → EReal} (hx : Fin1 x) : nrm x ≠ 0 := by
  obtain ⟨x', hx⟩ := hx
  obtain ⟨n, hn, e, -⟩ := nrm_real x' hx
  rw [e]
  exact_mod_cast hn.ne'

theorem div_coe (x n : ℝ) (hn : n ≠ 0) : Ideal.div (x : EReal) (n : EReal) = ((x / n : ℝ) : EReal) := by
  unfold Ideal.div
  rw [if_neg (by exact_mod_cast hn), ← EReal.coe_inv, ← EReal.coe_mul, div_eq_mul_inv]

/-- Finite features have a score above that of an entry that does not match. -/
theorem cosv_gt {x y : Fin 64 → EReal} (hx : Fin1 x) (hy : Fin1 y) : NEG < cosv x y := by
  obtain ⟨x', hx⟩ := hx
  obtain ⟨y', hy⟩ := hy
  obtain ⟨n, hn, en, bn⟩ := nrm_real x' hx
  obtain ⟨m, hm, em, bm⟩ := nrm_real y' hy
  have hc : cosv x y = ((∑ d, x' d / n * (y' d / m) : ℝ) : EReal) := by
    rw [← coe_sum]
    refine Finset.sum_congr rfl fun d _ => ?_
    rw [hx, hy, en, em, div_coe _ _ hn.ne', div_coe _ _ hm.ne', EReal.coe_mul]
  rw [hc]
  refine neg_lt.trans_le ?_
  rw [EReal.coe_le_coe_iff]
  have h1 : ∀ d ∈ (Finset.univ : Finset (Fin 64)), (-1 : ℝ) ≤ x' d / n * (y' d / m) := by
    intro d _
    have a1 : |x' d / n| ≤ 1 := by rw [abs_div, abs_of_pos hn, div_le_one hn]; exact bn d
    have a2 : |y' d / m| ≤ 1 := by rw [abs_div, abs_of_pos hm, div_le_one hm]; exact bm d
    have a3 : |x' d / n * (y' d / m)| ≤ 1 := by rw [abs_mul]; exact mul_le_one₀ a1 (abs_nonneg _) a2
    exact (abs_le.mp a3).1
  have h2 := Finset.card_nsmul_le_sum Finset.univ (fun d : Fin 64 => x' d / n * (y' d / m)) (-1) h1
  simpa using h2

theorem score_ne_bot {M : ℕ} {near : Fin M → Bool} {x : Fin 64 → EReal} {Y : Fin M → Fin 64 → EReal} (hx : Fin1 x) (hY : ∀ q, Fin1 (Y q)) (q : Fin M) :
    scoreOf near x Y q ≠ ⊥ := by
  unfold scoreOf
  split
  · exact (lt_of_le_of_lt bot_le (cosv_gt hx (hY q))).ne'
  · exact neg_ne_bot

/-- The score with each row scaled before the products are summed. -/
theorem cosv_scaled {x y : Fin 64 → EReal} (hx : Fin1 x) (hy : Fin1 y) :
    ∑ d, x d * Ideal.div 1 (nrm x) * (y d * Ideal.div 1 (nrm y)) = cosv x y :=
  Finset.sum_congr rfl fun d _ => by rw [Ideal.mul_one_div (nrm_ne hx), Ideal.mul_one_div (nrm_ne hy)]

theorem mul_coe_sum {ι : Type} (s : Finset ι) {c : ℝ} (hc : 0 < c) (f : ι → EReal) : (c : EReal) * ∑ i ∈ s, f i = ∑ i ∈ s, (c : EReal) * f i := by
  classical
  induction s using Finset.induction_on with
  | empty => simp
  | insert a s h ih =>
    rw [Finset.sum_insert h, Finset.sum_insert h, ← ih]
    exact EReal.left_distrib_of_nonneg_of_ne_top (by exact_mod_cast hc.le) (EReal.coe_ne_top c) _ _

theorem term_eq (p : EReal) (s v c : ℝ) (hc : 0 < c) : (p - (v : EReal)) * ((s : EReal) * (c : EReal)) = (c : EReal) * ((s : EReal) * p) + ((-(v * s * c) : ℝ) : EReal) := by
  rw [← EReal.coe_mul]
  induction p with
  | coe p => norm_cast; ring
  | bot =>
    rcases lt_trichotomy s 0 with h | rfl | h
    · rw [EReal.bot_sub, EReal.bot_mul_coe_of_neg (mul_neg_of_neg_of_pos h hc), EReal.coe_mul_bot_of_neg h, EReal.coe_mul_top_of_pos hc, EReal.top_add_coe]
    · simp
    · rw [EReal.bot_sub, EReal.bot_mul_coe_of_pos (mul_pos h hc), EReal.coe_mul_bot_of_pos h, EReal.coe_mul_bot_of_pos hc, EReal.bot_add]
  | top =>
    rcases lt_trichotomy s 0 with h | rfl | h
    · rw [EReal.top_sub_coe, EReal.top_mul_coe_of_neg (mul_neg_of_neg_of_pos h hc), EReal.coe_mul_top_of_neg h, EReal.coe_mul_bot_of_pos hc, EReal.bot_add]
    · simp
    · rw [EReal.top_sub_coe, EReal.top_mul_coe_of_pos (mul_pos h hc), EReal.coe_mul_top_of_pos h, EReal.coe_mul_top_of_pos hc, EReal.top_add_coe]

theorem quot_eq (N : EReal) (D v c : ℝ) (hc : 0 < c) :
    Ideal.div N D - (v : EReal) = Ideal.div ((c : EReal) * N + ((-(v * c * D) : ℝ) : EReal)) ((c * D : ℝ) : EReal) := by
  by_cases hD : D = 0
  · subst hD
    have e : ∀ x : EReal, Ideal.div x ((0 : ℝ) : EReal) = if 0 < x then ⊤ else ⊥ := fun x => by unfold Ideal.div; rw [if_pos (by simp)]
    rw [mul_zero, mul_zero, neg_zero, e, e, EReal.coe_zero, add_zero]
    have hpos : 0 < (c : EReal) * N ↔ 0 < N := by
      induction N with
      | coe N => norm_cast; exact mul_pos_iff_of_pos_left hc
      | bot => rw [EReal.coe_mul_bot_of_pos hc]
      | top => rw [EReal.coe_mul_top_of_pos hc]
    by_cases h : 0 < N
    · rw [if_pos h, if_pos (hpos.mpr h), EReal.top_sub_coe]
    · rw [if_neg h, if_neg (fun h' => h (hpos.mp h')), EReal.bot_sub]
  · have hcD : c * D ≠ 0 := mul_ne_zero hc.ne' hD
    unfold Ideal.div
    rw [if_neg (by exact_mod_cast hD), if_neg (by exact_mod_cast hcD), ← EReal.coe_inv, ← EReal.coe_inv]
    induction N with
    | coe N =>
      norm_cast
      field_simp
      ring
    | bot =>
      rw [EReal.coe_mul_bot_of_pos hc, EReal.bot_add]
      rcases lt_or_gt_of_ne hD with h | h
      · rw [EReal.bot_mul_coe_of_neg (inv_lt_zero.mpr h), EReal.bot_mul_coe_of_neg (inv_lt_zero.mpr (mul_neg_of_pos_of_neg hc h)), EReal.top_sub_coe]
      · rw [EReal.bot_mul_coe_of_pos (inv_pos.mpr h), EReal.bot_mul_coe_of_pos (inv_pos.mpr (mul_pos hc h)), EReal.bot_sub]
    | top =>
      rw [EReal.coe_mul_top_of_pos hc, EReal.top_add_coe]
      rcases lt_or_gt_of_ne hD with h | h
      · rw [EReal.top_mul_coe_of_neg (inv_lt_zero.mpr h), EReal.top_mul_coe_of_neg (inv_lt_zero.mpr (mul_neg_of_pos_of_neg hc h)), EReal.bot_sub]
      · rw [EReal.top_mul_coe_of_pos (inv_pos.mpr h), EReal.top_mul_coe_of_pos (inv_pos.mpr (mul_pos hc h)), EReal.top_sub_coe]

/-- The mean of the entries found, less a value, is the mean of their differences from it; a common positive factor of the
    weights drops out. -/
theorem flow_eq {M : ℕ} (T : Finset (Fin M)) (w : Fin M → EReal) (hw : ∀ p, ∃ s : ℝ, w p = s) (p : Fin M → EReal) (v c : ℝ) (hc : 0 < c) :
    Ideal.div (∑ q ∈ T, w q * p q) (∑ q ∈ T, w q) - (v : EReal)
      = Ideal.div (∑ q ∈ T, (p q - (v : EReal)) * (w q * (c : EReal))) (∑ q ∈ T, w q * (c : EReal)) := by
  choose s hs using hw
  simp only [hs]
  have e1 : ∑ q ∈ T, ((s q : EReal) * (c : EReal)) = ((c * ∑ q ∈ T, s q : ℝ) : EReal) := by
    rw [Finset.mul_sum, ← coe_sum]
    exact Finset.sum_congr rfl fun q _ => by rw [← EReal.coe_mul, mul_comm]
  have e2 : ∑ q ∈ T, (p q - (v : EReal)) * ((s q : EReal) * (c : EReal)) = (c : EReal) * (∑ q ∈ T, (s q : EReal) * p q) + ((-(v * c * ∑ q ∈ T, s q) : ℝ) : EReal) := by
    rw [mul_coe_sum T hc, show -(v * c * ∑ q ∈ T, s q) = ∑ q ∈ T, -(v * s q * c) by rw [Finset.mul_sum, ← Finset.sum_neg_distrib]; exact Finset.sum_congr rfl fun q _ => by ring,
      ← coe_sum, ← Finset.sum_add_distrib]
    exact Finset.sum_congr rfl fun q _ => term_eq _ _ _ _ hc
  rw [e1, e2, coe_sum]
  exact quot_eq _ _ _ _ hc

end Cert.Spec

end
-- ==== Proof.KI.Val1.lean ====
/-
  The first call's body at one row: the eight greatest scores of the row, and the quotient of sums over them.
-/
module

public import proofs.«01_k».proof.Proof.KI.Body1
public import proofs.«01_k».proof.Proof.KI.Row
public import proofs.«01_k».proof.Proof.Spec

@[expose] public section

set_option maxRecDepth 65536

noncomputable section

namespace Cert.KernelIdeal

open Idealize.ShloMosaic
open Cert.Slabs Cert.Trips Cert.Pick Cert.Spec
open Cert.KernelIdeal.Gen

/-- The slab of a position, and its entry. -/
def hiQ {M N : ℕ} (h : M ≤ N * 1024) (q : Fin M) : Fin N := ⟨q.val / 1024, by have := q.isLt; omega⟩
def loQ {M : ℕ} (q : Fin M) : Fin 1024 := ⟨q.val % 1024, Nat.mod_lt _ (by decide)⟩

/-- A slab of an array of `N` slabs. -/
def slabD {α : Type} {N p q : ℕ} (d : α) (x : Shape.Idx ⟨3, ![N, p, q]⟩ → α) (a : BitVec 32) (k : ℕ) : Shape.Idx ⟨3, ![1, p, q]⟩ → α :=
  winD (s := ⟨3, ![N, p, q]⟩) d x (slabOff a k) ![1, p, q]

theorem winD_slab {α : Type} {N p q : ℕ} (d : α) (x : Shape.Idx ⟨3, ![N, p, q]⟩ → α) (a : BitVec 32) (k : ℕ) (h : a.toNat + k < N) (i : Fin p) (j : Fin q) :
    slabD d x a k (ix3 0 i j) = x (ix3 ⟨a.toNat + k, h⟩ i j) := by
  unfold slabD winD
  rw [dif_pos (by
    intro b
    match b with
    | 0 => show a.toNat + k + 1 ≤ N; omega
    | 1 => show 0 + p ≤ p; omega
    | 2 => show 0 + q ≤ q; omega)]
  unfold VecWindow.window
  congr 1
  funext b
  match b with
  | 0 => apply Fin.ext; show a.toNat + k + 1 * 0 = a.toNat + k; omega
  | 1 => apply Fin.ext; show 0 + 1 * i.val = i.val; omega
  | 2 => apply Fin.ext; show 0 + 1 * j.val = j.val; omega

theorem select_eq {α : Type} (a b : BitVec 32) (x y : α) : Scalar.select (IntOp.cmpi .eq a b) x y = if a = b then x else y := by
  unfold Scalar.select
  by_cases h : a = b
  · rw [if_pos h]; exact if_pos (IntOp.cmpi_eq.mpr h)
  · rw [if_neg h]; exact if_neg fun e => h (IntOp.cmpi_eq.mp e)

section Pay

variable (v5 : FVec Ideal S256x64 .f32) (v16 : IVec S256x1 32) (v232 : FVec Ideal S1x1024x64 .f32) (v247 : IVec S1x1x1024 32) (r : Fin 256) (l : Fin 1024)

theorem pay4_ap : k0_pay4 (F := Ideal) v5 v232 (ix3 0 r l) = dot (fun d => v5 (ix2 r d)) (fun d => v232 (ix3 0 l d)) := by
  pointwise [k0_pay4, k0_pay3]
  rfl

theorem pay5_ap (hx : Fin1 fun d => v5 (ix2 r d)) (hy : Fin1 fun d => v232 (ix3 0 l d)) : k0_pay5 (F := Ideal) v5 v16 v232 v247 (ix3 0 r l)
    = if v16 (ix2 r 0) = v247 (ix3 0 0 l) then cosv (fun d => v5 (ix2 r d)) (fun d => v232 (ix3 0 l d)) else NEG := by
  pointwise [k0_pay5, k0_pay1, k0_pay2, k0_pay3]
  rw [select_eq, ← cosv_scaled hx hy]
  rfl

theorem pay86_ap (a b : FVec Ideal S256x1 .f32) (v : FVec Ideal S256x3 .f32) : k0_pay86 a b v (ix2 r 0) = Ideal.div (b (ix2 r 0)) (a (ix2 r 0)) - v (ix2 r 0) := by
  pointwise [k0_pay86]
theorem pay87_ap (a b : FVec Ideal S256x1 .f32) (v : FVec Ideal S256x3 .f32) : k0_pay87 a b v (ix2 r 0) = Ideal.div (b (ix2 r 0)) (a (ix2 r 0)) - v (ix2 r 1) := by
  pointwise [k0_pay87]
theorem pay88_ap (a b : FVec Ideal S256x1 .f32) (v : FVec Ideal S256x3 .f32) : k0_pay88 a b v (ix2 r 0) = Ideal.div (b (ix2 r 0)) (a (ix2 r 0)) - v (ix2 r 2) := by
  pointwise [k0_pay88]

theorem cols3_ap (x : Vec Ideal S256x3 .f32) (w : Fin 3 → Vec Ideal S256x1 .f32) (j : Fin 3) : cols3 x (w 0) (w 1) (w 2) (ix2 r j) = w j (ix2 r 0) := by
  have hr := r.isLt
  unfold cols3 VecWindow.put
  match j with
  | 0 =>
    rw [dif_neg (fun h => by have := (h 1).1; simp [ix2] at this), dif_neg (fun h => by have := (h 1).1; simp [ix2] at this), dif_pos (by intro a; match a with | 0 => simp [ix2] | 1 => simp [ix2])]
    congr 1
    funext a
    match a with | 0 => apply Fin.ext; simp [ix2] | 1 => apply Fin.ext; simp [ix2]
  | 1 =>
    rw [dif_neg (fun h => by have := (h 1).1; simp [ix2] at this), dif_pos (by intro a; match a with | 0 => simp [ix2] | 1 => simp [ix2])]
    congr 1
    funext a
    match a with | 0 => apply Fin.ext; simp [ix2] | 1 => apply Fin.ext; simp [ix2]
  | 2 =>
    rw [dif_pos (by intro a; match a with | 0 => simp [ix2] | 1 => simp [ix2])]
    congr 1
    funext a
    match a with | 0 => apply Fin.ext; simp [ix2] | 1 => apply Fin.ext; simp [ix2]

end Pay

/-- The row of the first call. -/
theorem out0_ap (v1 v3 : BitVec 32) (x0 : Vec Ideal S256x64 .f32) (x1 : Vec Ideal S8x1024x64 .f32) (x2 : Vec Ideal S8x4x1024 .f32) (x3 : Vec Ideal S256x1 .i32)
    (x4 : Vec Ideal S8x1x1024 .i32) (x5 : Vec Ideal S256x3 .f32) (r : Fin 256)
    (X : Fin 64 → EReal) (Y : Fin 8192 → Fin 64 → EReal) (P : Fin 8192 → Fin 3 → EReal) (b : BitVec 32) (B : Fin 8192 → BitVec 32)
    (hX : ∀ d, x0 (ix2 r d) = X d) (hY : ∀ q d, x1 (ix3 (hiQ (by decide) q) (loQ q) d) = Y q d)
    (hP : ∀ q (j : Fin 3), x2 (ix3 (hiQ (by decide) q) (j.castLE (by decide)) (loQ q)) = P q j)
    (hb : x3 (ix2 r 0) = b) (hB : ∀ q, x4 (ix3 (hiQ (by decide) q) 0 (loQ q)) = B q)
    (fX : Fin1 X) (fY : ∀ q, Fin1 (Y q)) (h8 : v1.toNat + v3.toNat ≤ 8) (h0 : 0 < v3.toNat)
    (hin : ∀ q, b = B q → v1.toNat ≤ q.val / 1024 ∧ q.val / 1024 < v1.toNat + v3.toNat)
    (hcard : 8 ≤ (Finset.univ.filter fun q => b = B q).card) :
    ∃ T, IsTop (scoreOf (fun q => decide (b = B q)) X Y) T
      ∧ ∀ j, out0 v1 v3 x0 x1 x2 x3 x4 x5 (ix2 r j) = Ideal.div (∑ q ∈ T, dot X (Y q) * P q j) (∑ q ∈ T, dot X (Y q)) - x5 (ix2 r j) := by
  obtain rfl : (fun d => x0 (ix2 r d)) = X := funext hX
  have hq : ∀ q : Fin 8192, q ∈ Win 8192 v1 v3.toNat → ∃ h : v1.toNat + (q.val / 1024 - v1.toNat) < 8, (⟨v1.toNat + (q.val / 1024 - v1.toNat), h⟩ : Fin 8) = hiQ (by decide) q := by
    intro q hq
    rw [mem_Win] at hq
    have := q.isLt
    exact ⟨by omega, Fin.ext (by simp only [hiQ]; omega)⟩
  have hyq : ∀ q ∈ Win 8192 v1 v3.toNat, (fun d => slabD (N := 8) (p := 1024) (q := 64) (fz : Elt Ideal .f32) x1 v1 (q.val / 1024 - v1.toNat) (ix3 0 (loQ q) d)) = Y q := by
    intro q h
    obtain ⟨h1, h2⟩ := hq q h
    funext d
    rw [← hY q d, ← h2]
    exact winD_slab _ x1 v1 _ h1 _ _
  have hS : ∀ q ∈ Win 8192 v1 v3.toNat, atq v1 (wts0 v1 x0 x1) r q = dot (fun d => x0 (ix2 r d)) (Y q) := by
    intro q h
    rw [← hyq q h]
    exact pay4_ap x0 _ r (loQ q)
  have hC : ∀ q ∈ Win 8192 v1 v3.toNat, atq v1 (scr0 v1 x0 x1 x3 x4) r q = scoreOf (fun q => decide (b = B q)) (fun d => x0 (ix2 r d)) Y q := by
    intro q h
    obtain ⟨h1, h2⟩ := hq q h
    have e := pay5_ap x0 x3 (slabD (N := 8) (p := 1024) (q := 64) (fz : Elt Ideal .f32) x1 v1 (q.val / 1024 - v1.toNat))
      (slabD (N := 8) (p := 1) (q := 1024) (0#32 : BitVec 32) x4 v1 (q.val / 1024 - v1.toNat)) r (loQ q) fX ((hyq q h).symm ▸ fY q)
    have e4 : slabD (N := 8) (p := 1) (q := 1024) (0#32 : BitVec 32) x4 v1 (q.val / 1024 - v1.toNat) (ix3 0 0 (loQ q)) = B q := by
      rw [← hB q, ← h2]
      exact winD_slab _ x4 v1 _ h1 _ _
    refine e.trans ?_
    rw [hyq q h, hb, e4]
    unfold scoreOf
    by_cases hbq : b = B q
    · simp [hbq]
    · simp [hbq]
  have hR : ∀ q ∈ Win 8192 v1 v3.toNat, ∀ j : Fin 3, rowq v1 (vals v1 x2) (j.castLE (by decide)) q = P q j := by
    intro q h j
    obtain ⟨h1, h2⟩ := hq q h
    rw [← hP q j, ← h2]
    exact winD_slab _ x2 v1 _ h1 _ _
  obtain ⟨T, hTW, hT, hTb, s1, s2, s3, s4⟩ := row_sums v1 v3.toNat (scr0 v1 x0 x1 x3 x4) (wts0 v1 x0 x1) (vals v1 x2) r (M := 8192) (by omega) h8 h0 hC
    (fun q _ => score_ne_bot fX fY q) NEG
    (fun q hq => by
      unfold scoreOf
      rw [if_neg]
      intro h
      exact hq ((mem_Win _ _).mpr (hin q (of_decide_eq_true h))))
    (Finset.univ.filter fun q => b = B q)
    (fun q hq => (mem_Win _ _).mpr (hin q (Finset.mem_filter.mp hq).2)) hcard
    (fun q hq => by
      unfold scoreOf
      rw [if_pos (decide_eq_true (Finset.mem_filter.mp hq).2)]
      exact cosv_gt fX (fY q))
  refine ⟨T, hT, fun j => ?_⟩
  have e1 : ∑ q ∈ T, atq v1 (wts0 v1 x0 x1) r q = ∑ q ∈ T, dot (fun d => x0 (ix2 r d)) (Y q) := Finset.sum_congr rfl fun q hq => hS q (hTW hq)
  have e2 : ∀ j : Fin 3, ∑ q ∈ T, atq v1 (wts0 v1 x0 x1) r q * rowq v1 (vals v1 x2) (j.castLE (by decide)) q = ∑ q ∈ T, dot (fun d => x0 (ix2 r d)) (Y q) * P q j :=
    fun j => Finset.sum_congr rfl fun q hq => by rw [hS q (hTW hq), hR q (hTW hq) j]
  let A := accOf v3.toNat (cR v1 v3.toNat (scr0 v1 x0 x1 x3 x4) 8) (wts0 v1 x0 x1) (vals v1 x2)
  refine (cols3_ap r (fun _ => fz) ![k0_pay86 A.1 A.2.1 x5, k0_pay87 A.1 A.2.2.1 x5, k0_pay88 A.1 A.2.2.2 x5] j).trans ?_
  match j with
  | 0 => exact (pay86_ap r _ _ x5).trans (by rw [s1, s2, e1]; exact congrArg (fun z => Ideal.div z _ - _) (e2 0))
  | 1 => exact (pay87_ap r _ _ x5).trans (by rw [s1, s3, e1]; exact congrArg (fun z => Ideal.div z _ - _) (e2 1))
  | 2 => exact (pay88_ap r _ _ x5).trans (by rw [s1, s4, e1]; exact congrArg (fun z => Ideal.div z _ - _) (e2 2))

end Cert.KernelIdeal

end
-- ==== Proof.Vis.lean ====
/-
  The visibilities both programs rescale: a vertex's score less the least of its group, over the spread of its group.
-/
module

public import proofs.«01_k».proof.Proof.Spec

@[expose] public section

noncomputable section

namespace Cert.Spec

open Idealize.ShloMosaic Cert.Pick

/-- From here a vertex is visible. -/
def HALF : EReal := Ideal.ofBits .f32 0x3F000000#32

theorem half_eq : HALF = ((1 / 2 : ℝ) : EReal) := by
  unfold HALF
  simp [Ideal.ofBits, Ideal.ieee, -EReal.coe_mul]
  norm_num

theorem posInf_eq : Ideal.ofBits FTy.f32 0x7F800000#32 = (⊤ : EReal) := by
  simp [Ideal.ofBits, Ideal.ieee]

theorem logistic_real (x : EReal) : ∃ s : ℝ, Ideal.logistic x = s := by
  unfold Ideal.logistic
  induction x with
  | bot =>
    refine ⟨0, ?_⟩
    rw [EReal.neg_bot, show Ideal.exp ⊤ = ⊤ from rfl, show (1 : EReal) + ⊤ = ⊤ from EReal.coe_add_top 1]
    simp [Ideal.div]
  | top =>
    refine ⟨1, ?_⟩
    rw [EReal.neg_top, show Ideal.exp ⊥ = 0 from rfl]
    simp [Ideal.div]
  | coe x =>
    have h : (1 : EReal) + Ideal.exp (-(x : EReal)) = ((1 + Real.exp (-x) : ℝ) : EReal) := by
      rw [← EReal.coe_neg, EReal.coe_add]; rfl
    rw [h]
    have := Real.exp_pos (-x)
    exact ⟨_, (div_coe 1 _ (by positivity))⟩

variable {M : ℕ} (B : Fin M → BitVec 32) (S : Fin M → EReal) (b : BitVec 32)

/-- The greatest score of a group, and the least. -/
def mxOf : EReal := Finset.univ.sup fun q => if B q = b then S q else ⊥
def mnOf : EReal := Finset.univ.inf fun q => if B q = b then S q else ⊤

/-- A score rescaled to its group. -/
def pvOf (x : EReal) : EReal := Ideal.div (x - mnOf B S b) (mxOf B S b - mnOf B S b)

/-- The least score is the greatest of the negated ones, negated. -/
theorem mnOf_eq : -(Finset.univ.sup fun q => if B q = b then -S q else ⊥) = mnOf B S b := by
  classical
  have h : ∀ s : Finset (Fin M), -(s.sup fun q => if B q = b then -S q else ⊥) = s.inf fun q => if B q = b then S q else ⊤ := by
    intro s
    induction s using Finset.induction_on with
    | empty => simp
    | insert a s h ih =>
      rw [Finset.sup_insert, Finset.inf_insert, ← ih]
      show -(max _ _) = min _ _
      have e : (if B a = b then S a else ⊤) = -(if B a = b then -S a else ⊥) := by split <;> simp
      have h2 := EReal.max_neg_neg (-(if B a = b then -S a else ⊥)) (-(s.sup fun q => if B q = b then -S q else ⊥))
      rw [neg_neg, neg_neg] at h2
      rw [e, h2, neg_neg]
  exact h _

variable {B S b}

theorem bounds_of {p : Fin M} (hp : B p = b) (hS : ∀ q, ∃ s : ℝ, S q = s) :
    ∃ lo hi s : ℝ, mnOf B S b = lo ∧ mxOf B S b = hi ∧ S p = s ∧ lo ≤ s ∧ s ≤ hi := by
  obtain ⟨s, hs⟩ := hS p
  have h1 : mnOf B S b ≤ S p := (Finset.inf_le (f := fun q => if B q = b then S q else ⊤) (Finset.mem_univ p)).trans_eq (if_pos hp)
  have h2 : S p ≤ mxOf B S b := (if_pos hp).symm.trans_le (Finset.le_sup (f := fun q => if B q = b then S q else ⊥) (Finset.mem_univ p))
  obtain ⟨q, -, e1⟩ := Finset.exists_mem_eq_inf Finset.univ ⟨p, Finset.mem_univ p⟩ (fun q => if B q = b then S q else ⊤)
  obtain ⟨q', -, e2⟩ := Finset.exists_mem_eq_sup Finset.univ ⟨p, Finset.mem_univ p⟩ (fun q => if B q = b then S q else ⊥)
  change mnOf B S b = _ at e1
  change mxOf B S b = _ at e2
  obtain ⟨lo, hlo⟩ := hS q
  obtain ⟨hi, hhi⟩ := hS q'
  by_cases c1 : B q = b
  · by_cases c2 : B q' = b
    · rw [if_pos c1, hlo] at e1
      rw [if_pos c2, hhi] at e2
      rw [e1, hs, EReal.coe_le_coe_iff] at h1
      rw [e2, hs, EReal.coe_le_coe_iff] at h2
      exact ⟨lo, hi, s, e1, e2, hs, h1, h2⟩
    · rw [if_neg c2] at e2
      rw [e2, hs] at h2
      exact absurd (le_bot_iff.mp h2) (EReal.coe_ne_bot s)
  · rw [if_neg c1] at e1
    rw [e1, hs] at h1
    exact absurd (top_le_iff.mp h1) (EReal.coe_ne_top s)

/-- A visible vertex's rescaled score is a positive real. -/
theorem pv_real {p : Fin M} (hp : B p = b) (hS : ∀ q, ∃ s : ℝ, S q = s) (h : HALF ≤ pvOf B S b (S p)) :
    ∃ c : ℝ, 0 < c ∧ pvOf B S b (S p) = c := by
  obtain ⟨lo, hi, s, e1, e2, e3, h1, h2⟩ := bounds_of hp hS
  rw [half_eq] at h
  unfold pvOf at h ⊢
  rw [e1, e2, e3, ← EReal.coe_sub, ← EReal.coe_sub] at h ⊢
  by_cases hd : hi - lo = 0
  · exfalso
    have : s - lo = 0 := by linarith
    rw [hd, this] at h
    simp [Ideal.div] at h
  · rw [div_coe _ _ hd, EReal.coe_le_coe_iff] at h
    exact ⟨_, lt_of_lt_of_le (by norm_num) h, div_coe _ _ hd⟩

/-- The four groups told apart one by one. -/
theorem chain_eq (hb : b = 0#32 ∨ b = 1#32 ∨ b = 2#32 ∨ b = 3#32) (f : BitVec 32 → EReal) (z : EReal) :
    Scalar.select (IntOp.cmpi .eq b 3#32) (f 3#32) (Scalar.select (IntOp.cmpi .eq b 2#32) (f 2#32)
      (Scalar.select (IntOp.cmpi .eq b 1#32) (f 1#32) (Scalar.select (IntOp.cmpi .eq b 0#32) (f 0#32) z))) = f b := by
  rcases hb with rfl | rfl | rfl | rfl <;> rfl

end Cert.Spec

end
-- ==== Proof.KI.Val2.lean ====
/-
  The second call's body at one row: the rescaled score, and for a row that is not visible the quotient of sums over the eight
  greatest scores among the visible rows of its group.
-/
module

public import proofs.«01_k».proof.Proof.KI.Body2
public import proofs.«01_k».proof.Proof.KI.Val1
public import proofs.«01_k».proof.Proof.Vis

@[expose] public section

set_option maxRecDepth 65536

noncomputable section

namespace Cert.KernelIdeal

open Idealize.ShloMosaic
open Cert.Slabs Cert.Trips Cert.Pick Cert.Spec
open Cert.KernelIdeal.Gen

section Bounds

variable (y6 : IVec S1x4096 32) (y9 : FVec Ideal S1x4096 .f32) (B : Fin 4096 → BitVec 32) (S : Fin 4096 → EReal)
  (hB : ∀ q, y6 (ix2 0 q) = B q) (hS : ∀ q, Ideal.logistic (y9 (ix2 0 q)) = S q)

include hB hS

theorem fold_mx (b : BitVec 32) : Finset.fold max (Ideal.ofBits FTy.f32 0xFF800000#32)
    (fun x => Scalar.select (IntOp.cmpi .eq (y6 (ix2 0 x)) b) (Ideal.logistic (y9 (ix2 0 x))) (Ideal.ofBits FTy.f32 0xFF800000#32)) Finset.univ = mxOf B S b := by
  simp only [negInf_eq, select_eq, hB, hS]
  rfl

theorem fold_mn (b : BitVec 32) : Finset.fold min (Ideal.ofBits FTy.f32 0x7F800000#32)
    (fun x => Scalar.select (IntOp.cmpi .eq (y6 (ix2 0 x)) b) (Ideal.logistic (y9 (ix2 0 x))) (Ideal.ofBits FTy.f32 0x7F800000#32)) Finset.univ = mnOf B S b := by
  simp only [posInf_eq, select_eq, hB, hS]
  rfl

theorem b_v16 : k1_pay22 (F := Ideal) y6 y9 (ix2 0 0) = mxOf B S 0#32 := by
  rw [← fold_mx y6 y9 B S hB hS]
  pointwise [k1_pay22, k1_pay21, k1_pay19, k1_pay20]
theorem b_v20 : k1_pay23 (F := Ideal) y6 y9 (ix2 0 0) = mnOf B S 0#32 := by
  rw [← fold_mn y6 y9 B S hB hS]
  pointwise [k1_pay23, k1_pay21, k1_pay19, k1_pay20]
theorem b_v26 : k1_pay25 (F := Ideal) y6 y9 (ix2 0 0) = mxOf B S 1#32 := by
  rw [← fold_mx y6 y9 B S hB hS]
  pointwise [k1_pay25, k1_pay24, k1_pay19, k1_pay20]
theorem b_v30 : k1_pay26 (F := Ideal) y6 y9 (ix2 0 0) = mnOf B S 1#32 := by
  rw [← fold_mn y6 y9 B S hB hS]
  pointwise [k1_pay26, k1_pay24, k1_pay19, k1_pay20]
theorem b_v36 : k1_pay28 (F := Ideal) y6 y9 (ix2 0 0) = mxOf B S 2#32 := by
  rw [← fold_mx y6 y9 B S hB hS]
  pointwise [k1_pay28, k1_pay27, k1_pay19, k1_pay20]
theorem b_v40 : k1_pay30 (F := Ideal) (k1_pay20 y9) (k1_pay27 (F := Ideal) y6) k1_pay29 (ix2 0 0) = mnOf B S 2#32 := by
  rw [← fold_mn y6 y9 B S hB hS]
  pointwise [k1_pay30, k1_pay27, k1_pay29, k1_pay19, k1_pay20]
theorem b_v46 : k1_pay32 (F := Ideal) (k1_pay19 (F := Ideal) y6) (k1_pay20 y9) (ix2 0 0) = mxOf B S 3#32 := by
  rw [← fold_mx y6 y9 B S hB hS]
  pointwise [k1_pay32, k1_pay31, k1_pay19, k1_pay20]
theorem b_v50 : k1_pay33 (F := Ideal) (k1_pay19 (F := Ideal) y6) (k1_pay20 y9) (ix2 0 0) = mnOf B S 3#32 := by
  rw [← fold_mn y6 y9 B S hB hS]
  pointwise [k1_pay33, k1_pay31, k1_pay19, k1_pay20]

end Bounds

section Pay

variable (r : Fin 256) (l : Fin 1024)

theorem pay43_ap (y3 : FVec Ideal S256x64 .f32) (w : FVec Ideal S1x1024x64 .f32) : k1_pay43 (k1_pay2 (F := Ideal) y3 w) (ix3 0 r l) = dot (fun d => y3 (ix2 r d)) (fun d => w (ix3 0 l d)) := by
  pointwise [k1_pay43, k1_pay2, k1_pay1]
  rfl

theorem pay3_ap (y3 : FVec Ideal S256x64 .f32) (w : FVec Ideal S1x1024x64 .f32) (hx : Fin1 fun d => y3 (ix2 r d)) (hy : Fin1 fun d => w (ix3 0 l d)) :
    k1_pay3 (F := Ideal) (k1_pay41 (F := Ideal) y3) w (ix2 r l) = cosv (fun d => y3 (ix2 r d)) (fun d => w (ix3 0 l d)) := by
  pointwise [k1_pay3, k1_pay41, k1_pay1]
  exact cosv_scaled hx hy

theorem ofBool_one (p : Prop) [Decidable p] : BitVec.ofBool (decide p) = 1#1 ↔ p := by
  by_cases h : p <;> simp [h]

theorem and_ofBool (a : BitVec 1) (p : Prop) [Decidable p] : IntOp.andi a (BitVec.ofBool (decide p)) = 1#1 ↔ a = 1#1 ∧ p := by
  by_cases h : p
  · simp only [h, decide_true, and_true]
    revert a
    decide
  · simp only [h, decide_false, and_false, iff_false]
    revert a
    decide

theorem pay44_ap (v16 v20 v26 v30 v40 v36 v46 v50 : FVec Ideal S1x1 .f32) (y10 : FVec Ideal S1x1x1024 .f32) (y7 : IVec S1x1x1024 32) (v331 : FVec Ideal S256x1024 .f32) (v100 : IVec S256x1 32)
    (B : Fin 4096 → BitVec 32) (S : Fin 4096 → EReal) (h16 : v16 (ix2 0 0) = mxOf B S 0#32) (h20 : v20 (ix2 0 0) = mnOf B S 0#32) (h26 : v26 (ix2 0 0) = mxOf B S 1#32)
    (h30 : v30 (ix2 0 0) = mnOf B S 1#32) (h36 : v36 (ix2 0 0) = mxOf B S 2#32) (h40 : v40 (ix2 0 0) = mnOf B S 2#32) (h46 : v46 (ix2 0 0) = mxOf B S 3#32) (h50 : v50 (ix2 0 0) = mnOf B S 3#32)
    (hb : y7 (ix3 0 0 l) = 0#32 ∨ y7 (ix3 0 0 l) = 1#32 ∨ y7 (ix3 0 0 l) = 2#32 ∨ y7 (ix3 0 0 l) = 3#32) :
    k1_pay44 (F := Ideal) v46 v50 v100 v331 (k1_pay4 (F := Ideal) y7) (k1_pay5 (F := Ideal) y10) (k1_pay6 v16 v20 v26 v30 y10 y7) (k1_pay7 (F := Ideal) y7) (k1_pay8 v40 y10) (k1_pay9 v36 v40) y7 (ix3 0 r l)
      = if v100 (ix2 r 0) = y7 (ix3 0 0 l) ∧ HALF ≤ pvOf B S (y7 (ix3 0 0 l)) (Ideal.logistic (y10 (ix3 0 0 l))) then v331 (ix2 r l) else NEG := by
  pointwise [k1_pay44, k1_pay4, k1_pay5, k1_pay6, k1_pay7, k1_pay8, k1_pay9, k1_pay42]
  rw [h16, h20, h26, h30, h36, h40, h46, h50]
  have e := chain_eq hb (fun b => pvOf B S b (Ideal.logistic (y10 (ix3 0 0 l)))) 0
  unfold pvOf at e ⊢
  rw [e]
  unfold Scalar.select
  have e2 : IntOp.andi (IntOp.cmpi .eq (v100 (ix2 r 0)) (y7 (ix3 0 0 l))) (BitVec.ofBool (decide (Ideal.ofBits FTy.f32 1056964608#32 ≤
      Ideal.div (Ideal.logistic (y10 (ix3 0 0 l)) - mnOf B S (y7 (ix3 0 0 l))) (mxOf B S (y7 (ix3 0 0 l)) - mnOf B S (y7 (ix3 0 0 l)))))) = 1#1 ↔
      (v100 (ix2 r 0) = y7 (ix3 0 0 l) ∧ HALF ≤ Ideal.div (Ideal.logistic (y10 (ix3 0 0 l)) - mnOf B S (y7 (ix3 0 0 l))) (mxOf B S (y7 (ix3 0 0 l)) - mnOf B S (y7 (ix3 0 0 l)))) := by
    rw [and_ofBool, IntOp.cmpi_eq]
    rfl
  exact if_congr e2 rfl rfl

theorem pay39_ap (v7 : IVec S1x4096 32) (v10 : FVec Ideal S1x4096 .f32) (v32 : IVec S1x4096 1) (v37 : FVec Ideal S1x4096 .f32) (v16 v20 v26 v30 v36 : FVec Ideal S1x1 .f32) (y8 : FVec Ideal S256x1 .f32) (y5 : IVec S256x1 32)
    (B : Fin 4096 → BitVec 32) (S : Fin 4096 → EReal) (h16 : v16 (ix2 0 0) = mxOf B S 0#32) (h20 : v20 (ix2 0 0) = mnOf B S 0#32) (h26 : v26 (ix2 0 0) = mxOf B S 1#32)
    (h30 : v30 (ix2 0 0) = mnOf B S 1#32) (h36 : v36 (ix2 0 0) = mxOf B S 2#32) (h40 : k1_pay30 v10 v32 v37 (ix2 0 0) = mnOf B S 2#32) (h46 : k1_pay32 v7 v10 (ix2 0 0) = mxOf B S 3#32) (h50 : k1_pay33 v7 v10 (ix2 0 0) = mnOf B S 3#32)
    (hb : y5 (ix2 r 0) = 0#32 ∨ y5 (ix2 r 0) = 1#32 ∨ y5 (ix2 r 0) = 2#32 ∨ y5 (ix2 r 0) = 3#32) :
    k1_pay39 (F := Ideal) (k1_pay32 v7 v10) (k1_pay33 v7 v10) (k1_pay35 (F := Ideal) y8) (k1_pay36 v10 v16 v20 v26 v30 v32 v36 v37 y8 y5) (k1_pay37 (F := Ideal) y5) (k1_pay38 v7 v10) (ix2 r 0)
      = pvOf B S (y5 (ix2 r 0)) (Ideal.logistic (y8 (ix2 r 0))) := by
  pointwise [k1_pay39, k1_pay38, k1_pay35, k1_pay36, k1_pay37, k1_pay34]
  rw [h16, h20, h26, h30, h36, h40, h46, h50]
  exact chain_eq hb (fun b => pvOf B S b (Ideal.logistic (y8 (ix2 r 0)))) 0

theorem pay40_ap (v46 v50 : FVec Ideal S1x1 .f32) (v54 v79 : FVec Ideal S256x1 .f32) (v81 : IVec S256x1 1) (v82 : FVec Ideal S256x1 .f32) :
    k1_pay40 (F := Ideal) v46 v50 v54 v79 v81 v82 (ix2 r 0) = BitVec.ofBool (decide (HALF ≤ k1_pay39 v46 v50 v54 v79 v81 v82 (ix2 r 0))) := by
  pointwise [k1_pay40]
  rfl

theorem pay125_ap (v89 : IVec S256x1 1) (a b : FVec Ideal S256x1 .f32) (v : FVec Ideal S256x3 .f32) : k1_pay125 v89 a b v (ix2 r 0)
    = Scalar.select (v89 (ix2 r 0)) (v (ix2 r 0)) (Ideal.div (b (ix2 r 0)) (a (ix2 r 0))) := by
  pointwise [k1_pay125, k1_pay124]
theorem pay126_ap (v89 : IVec S256x1 1) (a b : FVec Ideal S256x1 .f32) (v : FVec Ideal S256x3 .f32) : k1_pay126 v89 a b v (ix2 r 0)
    = Scalar.select (v89 (ix2 r 0)) (v (ix2 r 1)) (Ideal.div (b (ix2 r 0)) (a (ix2 r 0))) := by
  pointwise [k1_pay126, k1_pay124]
theorem pay127_ap (v89 : IVec S256x1 1) (a b : FVec Ideal S256x1 .f32) (v : FVec Ideal S256x3 .f32) : k1_pay127 v89 a b v (ix2 r 0)
    = Scalar.select (v89 (ix2 r 0)) (v (ix2 r 2)) (Ideal.div (b (ix2 r 0)) (a (ix2 r 0))) := by
  pointwise [k1_pay127, k1_pay124]

/-- A column put at `o` is read there, and lets every other column through. -/
theorem put_col {n : ℕ} (x : Vec Ideal ⟨2, ![256, n]⟩ .f32) (o : ℕ) (w : Vec Ideal S256x1 .f32) (j : Fin n) :
    VecWindow.put x ![0, o] S256x1.size w (ix2 r j) = if j.val = o then w (ix2 r 0) else x (ix2 r j) := by
  have hr := r.isLt
  unfold VecWindow.put
  by_cases h : j.val = o
  · rw [if_pos h, dif_pos (by
      intro a
      match a with
      | 0 => exact ⟨Nat.zero_le _, by show r.val < 0 + 256; omega⟩
      | 1 => exact ⟨by show o ≤ j.val; omega, by show j.val < o + 1; omega⟩)]
    congr 1
    funext a
    match a with
    | 0 => apply Fin.ext; show r.val - 0 = r.val; omega
    | 1 => apply Fin.ext; show j.val - o = 0; omega
  · rw [if_neg h, dif_neg]
    intro hh
    have h1 : o ≤ j.val := (hh 1).1
    have h2 : j.val < o + 1 := (hh 1).2
    omega

end Pay

/-- The row of the second call. -/
theorem out1_ap (v1 v3 : BitVec 32) (y3 : Vec Ideal S256x64 .f32) (y4 : Vec Ideal S4x1024x64 .f32) (y5 : Vec Ideal S256x1 .i32) (y6 : Vec Ideal S1x4096 .i32)
    (y7 : Vec Ideal S4x1x1024 .i32) (y8 : Vec Ideal S256x1 .f32) (y9 : Vec Ideal S1x4096 .f32) (y10 : Vec Ideal S4x1x1024 .f32) (y11 : Vec Ideal S256x3 .f32) (y12 : Vec Ideal S4x4x1024 .f32) (r : Fin 256)
    (X : Fin 64 → EReal) (Y : Fin 4096 → Fin 64 → EReal) (P : Fin 4096 → Fin 3 → EReal) (b : BitVec 32) (B : Fin 4096 → BitVec 32) (L S : Fin 4096 → EReal)
    (hX : ∀ d, y3 (ix2 r d) = X d) (hY : ∀ q d, y4 (ix3 (hiQ (by decide) q) (loQ q) d) = Y q d)
    (hP : ∀ q (j : Fin 3), y12 (ix3 (hiQ (by decide) q) (j.castLE (by decide)) (loQ q)) = P q j)
    (hb : y5 (ix2 r 0) = b) (hB6 : ∀ q, y6 (ix2 0 q) = B q) (hB : ∀ q, y7 (ix3 (hiQ (by decide) q) 0 (loQ q)) = B q)
    (hS9 : ∀ q, y9 (ix2 0 q) = L q) (hS10 : ∀ q, y10 (ix3 (hiQ (by decide) q) 0 (loQ q)) = L q) (hL : ∀ q, Ideal.logistic (L q) = S q)
    (hb4 : b = 0#32 ∨ b = 1#32 ∨ b = 2#32 ∨ b = 3#32) (hB4 : ∀ q, B q = 0#32 ∨ B q = 1#32 ∨ B q = 2#32 ∨ B q = 3#32)
    (fX : Fin1 X) (fY : ∀ q, Fin1 (Y q)) (h8 : v1.toNat + v3.toNat ≤ 4) (h0 : 0 < v3.toNat)
    (hin : ∀ q, b = B q → v1.toNat ≤ q.val / 1024 ∧ q.val / 1024 < v1.toNat + v3.toNat)
    (hcard : 8 ≤ (Finset.univ.filter fun q => b = B q ∧ HALF ≤ pvOf B S (B q) (S q)).card) :
    ∃ T, IsTop (scoreOf (fun q => decide (b = B q ∧ HALF ≤ pvOf B S (B q) (S q))) X Y) T ∧ (∀ q ∈ T, b = B q ∧ HALF ≤ pvOf B S (B q) (S q))
      ∧ (∀ j : Fin 3, out1 v1 v3 y3 y4 y5 y6 y7 y8 y9 y10 y11 y12 (ix2 r (j.castLE (by decide)))
        = if HALF ≤ pvOf B S b (Ideal.logistic (y8 (ix2 r 0))) then y11 (ix2 r j) else Ideal.div (∑ q ∈ T, dot X (Y q) * P q j) (∑ q ∈ T, dot X (Y q)))
      ∧ out1 v1 v3 y3 y4 y5 y6 y7 y8 y9 y10 y11 y12 (ix2 r 3) = pvOf B S b (Ideal.logistic (y8 (ix2 r 0))) := by
  obtain rfl : (fun d => y3 (ix2 r d)) = X := funext hX
  have hL9 : ∀ q, Ideal.logistic (y9 (ix2 0 q)) = S q := fun q => by rw [hS9, hL]
  have hq : ∀ q : Fin 4096, q ∈ Win 4096 v1 v3.toNat → ∃ h : v1.toNat + (q.val / 1024 - v1.toNat) < 4, (⟨v1.toNat + (q.val / 1024 - v1.toNat), h⟩ : Fin 4) = hiQ (by decide) q := by
    intro q hq
    rw [mem_Win] at hq
    have := q.isLt
    exact ⟨by omega, Fin.ext (by simp only [hiQ]; omega)⟩
  have hyq : ∀ q ∈ Win 4096 v1 v3.toNat, (fun d => slabD (N := 4) (p := 1024) (q := 64) (fz : Elt Ideal .f32) y4 v1 (q.val / 1024 - v1.toNat) (ix3 0 (loQ q) d)) = Y q := by
    intro q h
    obtain ⟨h1, h2⟩ := hq q h
    funext d
    rw [← hY q d, ← h2]
    exact winD_slab _ y4 v1 _ h1 _ _
  have hS : ∀ q ∈ Win 4096 v1 v3.toNat, atq v1 (wts1 v1 y3 y4) r q = dot (fun d => y3 (ix2 r d)) (Y q) := by
    intro q h
    rw [← hyq q h]
    exact pay43_ap r (loQ q) y3 _
  let v16 := k1_pay22 (F := Ideal) y6 y9; let v20 := k1_pay23 (F := Ideal) y6 y9; let v26 := k1_pay25 (F := Ideal) y6 y9; let v30 := k1_pay26 (F := Ideal) y6 y9
  let v36 := k1_pay28 (F := Ideal) y6 y9
  let v7 := k1_pay19 (F := Ideal) y6; let v10 := k1_pay20 (F := Ideal) y9
  let v32 := k1_pay27 (F := Ideal) y6; let v37 := k1_pay29 (F := Ideal); let v40 := k1_pay30 v10 v32 v37
  let v46 := k1_pay32 v7 v10; let v50 := k1_pay33 v7 v10
  have g16 := b_v16 y6 y9 B S hB6 hL9
  have g20 := b_v20 y6 y9 B S hB6 hL9
  have g26 := b_v26 y6 y9 B S hB6 hL9
  have g30 := b_v30 y6 y9 B S hB6 hL9
  have g36 := b_v36 y6 y9 B S hB6 hL9
  have g40 := b_v40 y6 y9 B S hB6 hL9
  have g46 := b_v46 y6 y9 B S hB6 hL9
  have g50 := b_v50 y6 y9 B S hB6 hL9
  have hC : ∀ q ∈ Win 4096 v1 v3.toNat, atq v1 (scr1 v1 v16 v20 v26 v30 v36 v40 v46 v50 y3 y4 y5 y7 y10) r q
      = scoreOf (fun q => decide (b = B q ∧ HALF ≤ pvOf B S (B q) (S q))) (fun d => y3 (ix2 r d)) Y q := by
    intro q h
    obtain ⟨h1, h2⟩ := hq q h
    have e7 : slabD (N := 4) (p := 1) (q := 1024) (0#32 : BitVec 32) y7 v1 (q.val / 1024 - v1.toNat) (ix3 0 0 (loQ q)) = B q := by
      rw [← hB q, ← h2]
      exact winD_slab _ y7 v1 _ h1 _ _
    have e10 : slabD (N := 4) (p := 1) (q := 1024) (fz : Elt Ideal .f32) y10 v1 (q.val / 1024 - v1.toNat) (ix3 0 0 (loQ q)) = L q := by
      rw [← hS10 q, ← h2]
      exact winD_slab _ y10 v1 _ h1 _ _
    have e := pay44_ap r (loQ q) v16 v20 v26 v30 v40 v36 v46 v50 (slabD (N := 4) (p := 1) (q := 1024) (fz : Elt Ideal .f32) y10 v1 (q.val / 1024 - v1.toNat))
      (slabD (N := 4) (p := 1) (q := 1024) (0#32 : BitVec 32) y7 v1 (q.val / 1024 - v1.toNat))
      (k1_pay3 (k1_pay41 (F := Ideal) y3) (slabD (N := 4) (p := 1024) (q := 64) (fz : Elt Ideal .f32) y4 v1 (q.val / 1024 - v1.toNat))) y5 B S g16 g20 g26 g30 g36 g40 g46 g50 (e7.symm ▸ hB4 q)
    refine e.trans ?_
    rw [pay3_ap r (loQ q) y3 _ fX ((hyq q h).symm ▸ fY q), hyq q h, hb, e7, e10, hL]
    unfold scoreOf
    simp only [decide_eq_true_eq]
  have hR : ∀ q ∈ Win 4096 v1 v3.toNat, ∀ j : Fin 3, rowq v1 (vals v1 y12) (j.castLE (by decide)) q = P q j := by
    intro q h j
    obtain ⟨h1, h2⟩ := hq q h
    rw [← hP q j, ← h2]
    exact winD_slab _ y12 v1 _ h1 _ _
  obtain ⟨T, hTW, hT, hTb, s1, s2, s3, s4⟩ := row_sums v1 v3.toNat (scr1 v1 v16 v20 v26 v30 v36 v40 v46 v50 y3 y4 y5 y7 y10) (wts1 v1 y3 y4) (vals v1 y12) r (M := 4096) (by omega) (by omega) h0 hC
    (fun q _ => score_ne_bot fX fY q) NEG
    (fun q hq => by
      unfold scoreOf
      rw [if_neg]
      intro h
      exact hq ((mem_Win _ _).mpr (hin q (of_decide_eq_true h).1)))
    (Finset.univ.filter fun q => b = B q ∧ HALF ≤ pvOf B S (B q) (S q))
    (fun q hq => (mem_Win _ _).mpr (hin q (Finset.mem_filter.mp hq).2.1)) hcard
    (fun q hq => by
      unfold scoreOf
      rw [if_pos (decide_eq_true (Finset.mem_filter.mp hq).2)]
      exact cosv_gt fX (fY q))
  have e1 : ∑ q ∈ T, atq v1 (wts1 v1 y3 y4) r q = ∑ q ∈ T, dot (fun d => y3 (ix2 r d)) (Y q) := Finset.sum_congr rfl fun q hq => hS q (hTW hq)
  have e2 : ∀ j : Fin 3, ∑ q ∈ T, atq v1 (wts1 v1 y3 y4) r q * rowq v1 (vals v1 y12) (j.castLE (by decide)) q = ∑ q ∈ T, dot (fun d => y3 (ix2 r d)) (Y q) * P q j :=
    fun j => Finset.sum_congr rfl fun q hq => by rw [hS q (hTW hq), hR q (hTW hq) j]
  have e87 := pay39_ap r v7 v10 v32 v37 v16 v20 v26 v30 v36 y8 y5 B S g16 g20 g26 g30 g36 g40 g46 g50 (hb.symm ▸ hb4)
  rw [hb] at e87
  refine ⟨T, hT, fun q hq => ?_, fun j => ?_, ?_⟩
  · have h := hTb q hq
    unfold scoreOf at h
    by_cases hh : b = B q ∧ HALF ≤ pvOf B S (B q) (S q)
    · exact hh
    · rw [if_neg (by simpa using hh)] at h
      exact absurd h (lt_irrefl _)
  · have hsel : ∀ u v : EReal, Scalar.select (k1_pay40 v46 v50 (k1_pay35 (F := Ideal) y8) (k1_pay36 v10 v16 v20 v26 v30 v32 v36 v37 y8 y5) (k1_pay37 (F := Ideal) y5) (k1_pay38 v7 v10) (ix2 r 0)) u v
        = if HALF ≤ pvOf B S b (Ideal.logistic (y8 (ix2 r 0))) then u else v := by
      intro u v
      rw [pay40_ap, e87]
      unfold Scalar.select
      exact if_congr (ofBool_one _) rfl rfl
    unfold out1 cols4
    dsimp only
    rw [put_col, put_col, put_col, put_col]
    match j with
    | 0 => exact (pay125_ap r _ _ _ y11).trans ((hsel _ _).trans (by rw [s1, s2, e1]; exact congrArg (fun z => ite _ _ (Ideal.div z _)) (e2 0)))
    | 1 => exact (pay126_ap r _ _ _ y11).trans ((hsel _ _).trans (by rw [s1, s3, e1]; exact congrArg (fun z => ite _ _ (Ideal.div z _)) (e2 1)))
    | 2 => exact (pay127_ap r _ _ _ y11).trans ((hsel _ _).trans (by rw [s1, s4, e1]; exact congrArg (fun z => ite _ _ (Ideal.div z _)) (e2 2)))
  · unfold out1 cols4
    dsimp only
    rw [put_col]
    exact e87

end Cert.KernelIdeal

end
-- ==== Proof.KI.Val0.lean ====
module

public import proofs.«01_k».proof.Proof.KI.Bounds
public import proofs.«01_k».proof.Proof.KI.Row
public import proofs.«01_k».proof.Proof.Spec
public import Idealize.ShloMosaic.Lib.Pipeline.ValueKit

@[expose] public section

set_option maxRecDepth 16384

noncomputable section

namespace Cert.KernelIdeal

open Idealize.ShloMosaic Idealize.ShloMosaic.TcCoe
open Cert.KernelIdeal.Gen Cert.Slabs Cert.Trips

variable (V : Dev nD → Valuation τ sig (Elt Ideal)) (c : Dev nD)

/-- Row `r` of block `t`. -/
def rowOf (t : Fin grid0.N) (r : Fin 256) : Fin 4096 := ⟨256 * t.val + r.val, by have h : t.val < 16 := t.isLt; have := r.isLt; omega⟩

theorem tr0 : ∀ t : Fin grid0.N, cc0_transform_0 (grid0.coords t) = ![t.val, 0] ∧ cc0_transform_3 (grid0.coords t) = ![t.val, 0] ∧ cc0_transform_5 (grid0.coords t) = ![t.val, 0] ∧ cc0_transform_6 (grid0.coords t) = ![t.val, 0] := by
  decide +kernel

theorem tr0' : ∀ t : Fin grid0.N, cc0_transform_1 (grid0.coords t) = ![0, 0, 0] ∧ cc0_transform_2 (grid0.coords t) = ![0, 0, 0] ∧ cc0_transform_4 (grid0.coords t) = ![0, 0, 0] := by
  decide +kernel

/-- A rank-2 place of block `t`, 256 rows high, as a place of the array. -/
theorem place2 {n : ℕ} (t : Fin grid0.N) (y : Shape.Idx ⟨2, ![256, n]⟩) (a : Fin 2) : ![t.val, 0] a * (![256, n] : Fin 2 → ℕ) a + (y a).val = ((ix2 (rowOf t (y 0)) (y 1) : Shape.Idx ⟨2, ![4096, n]⟩) a).val := by
  match a with
  | 0 => simp [ix2, rowOf]; omega
  | 1 => simp [ix2]

theorem place3 {s : Fin 3 → ℕ} (y : Shape.Idx ⟨3, s⟩) (a : Fin 3) : (![0, 0, 0] : Fin 3 → ℕ) a * s a + (y a).val = (y a).val := by
  match a with
  | 0 => simp
  | 1 => simp
  | 2 => simp

theorem b0_0 (t : Fin grid0.N) : (blk0 V c 0 t : S256x64.Idx → EReal) = fun y : S256x64.Idx => (V c (Proc.devRef .tc main_arg2) : S4096x64.Idx → EReal) (ix2 (rowOf t (y 0)) (y 1)) := by
  funext y
  refine congrArg (V c (Proc.devRef .tc main_arg2)) (funext fun a => Fin.ext ((Pipeline.Window.rect_emb_val ((cfg0 (adm0 V)).win 0) t y a).trans ?_))
  change cc0_transform_0 (grid0.coords t) a * _ + _ = _
  rw [(tr0 t).1]
  exact place2 t y a

theorem b0_3 (t : Fin grid0.N) : (blk0 V c 3 t : S256x1.Idx → BitVec 32) = fun y : S256x1.Idx => (V c (Proc.devRef .tc main_v37) : S4096x1.Idx → BitVec 32) (ix2 (rowOf t (y 0)) (y 1)) := by
  funext y
  refine congrArg (V c (Proc.devRef .tc main_v37)) (funext fun a => Fin.ext ((Pipeline.Window.rect_emb_val ((cfg0 (adm0 V)).win 3) t y a).trans ?_))
  change cc0_transform_3 (grid0.coords t) a * _ + _ = _
  rw [(tr0 t).2.1]
  exact place2 t y a

theorem b0_5 (t : Fin grid0.N) : (blk0 V c 5 t : S256x3.Idx → EReal) = fun y : S256x3.Idx => (V c (Proc.devRef .tc main_arg0) : S4096x3.Idx → EReal) (ix2 (rowOf t (y 0)) (y 1)) := by
  funext y
  refine congrArg (V c (Proc.devRef .tc main_arg0)) (funext fun a => Fin.ext ((Pipeline.Window.rect_emb_val ((cfg0 (adm0 V)).win 5) t y a).trans ?_))
  change cc0_transform_5 (grid0.coords t) a * _ + _ = _
  rw [(tr0 t).2.2.1]
  exact place2 t y a

theorem b0_1 (t : Fin grid0.N) : (blk0 V c 1 t : S8x1024x64.Idx → EReal) = V c (Proc.devRef .tc main_v31) := by
  funext y
  refine congrArg (V c (Proc.devRef .tc main_v31)) (funext fun a => Fin.ext ((Pipeline.Window.rect_emb_val ((cfg0 (adm0 V)).win 1) t y a).trans ?_))
  change cc0_transform_1 (grid0.coords t) a * _ + _ = _
  rw [(tr0' t).1]
  exact place3 y a

theorem b0_2 (t : Fin grid0.N) : (blk0 V c 2 t : S8x4x1024.Idx → EReal) = V c (Proc.devRef .tc main_v36) := by
  funext y
  refine congrArg (V c (Proc.devRef .tc main_v36)) (funext fun a => Fin.ext ((Pipeline.Window.rect_emb_val ((cfg0 (adm0 V)).win 2) t y a).trans ?_))
  change cc0_transform_2 (grid0.coords t) a * _ + _ = _
  rw [(tr0' t).2.1]
  exact place3 y a

theorem b0_4 (t : Fin grid0.N) : (blk0 V c 4 t : S8x1x1024.Idx → BitVec 32) = V c (Proc.devRef .tc main_v38) := by
  funext y
  refine congrArg (V c (Proc.devRef .tc main_v38)) (funext fun a => Fin.ext ((Pipeline.Window.rect_emb_val ((cfg0 (adm0 V)).win 4) t y a).trans ?_))
  change cc0_transform_4 (grid0.coords t) a * _ + _ = _
  rw [(tr0' t).2.2]
  exact place3 y a

/-- The block and the row within it of row `i`. -/
def blkOf (i : Fin 4096) : Fin grid0.N := ⟨i.val / 256, by have h : grid0.N = 16 := by decide
                                                           have := i.isLt; omega⟩
def inBlk (i : Fin 4096) : Fin 256 := ⟨i.val % 256, Nat.mod_lt _ (by decide)⟩

theorem rowOf_blk (i : Fin 4096) : rowOf (blkOf i) (inBlk i) = i := Fin.ext (Nat.div_add_mod i.val 256)

theorem blkOf_row (t : Fin grid0.N) (r : Fin 256) : blkOf (rowOf t r) = t ∧ inBlk (rowOf t r) = r := by
  have := r.isLt
  constructor <;> apply Fin.ext <;> simp only [blkOf, inBlk, rowOf] <;> omega

theorem covers0 (a : (pcfg0 (F := Ideal)).Adm) : ((cfg0 a).win 6).Covers := by
  have h : ((cfg0 (F := Ideal) ⟨fun | 0 => fun _ => (0 : BitVec 32) | 1 => fun _ => (0 : BitVec 32), trivial⟩).win 6).Covers := by decide +kernel
  exact h

theorem ix2_eta {n m : ℕ} (y : Shape.Idx ⟨2, ![n, m]⟩) : ix2 (y 0) (y 1) = y := by
  funext a
  match a with
  | 0 => rfl
  | 1 => rfl

/-- What call 0 leaves in its result: row by row, what the point of the row's block left. -/
theorem res0 : (Pipeline.afterRegion (dat0 V c) (V c) (Proc.devRef .tc main_v39) : S4096x3.Idx → EReal)
    = fun i : S4096x3.Idx => (left0 V c (blkOf (i 0)) : S256x3.Idx → EReal) (ix2 (inBlk (i 0)) (i 1)) := by
  refine (Pipeline.afterRegion_arr (dat0 V c) (V c) winFacts0.arr_inj 6).trans ?_
  refine (dat0 V c).arrAt_eq_of_covers 6 (fun i : S4096x3.Idx => (left0 V c (blkOf (i 0)) : S256x3.Idx → EReal) (ix2 (inBlk (i 0)) (i 1))) (covers0 _) fun t hf y => ?_
  have e : (((cfg0 (adm0 V)).win 6).blk t).view.emb y = (ix2 (rowOf t (y (0 : Fin 2))) (y (1 : Fin 2)) : S4096x3.Idx) := by
    refine funext fun a => Fin.ext ((Pipeline.Window.rect_emb_val ((cfg0 (adm0 V)).win 6) t y a).trans ?_)
    change cc0_transform_6 (grid0.coords t) a * _ + _ = _
    rw [(tr0 t).2.2.2]
    exact place2 t y a
  rw [e]
  change (left0 V c t : S256x3.Idx → EReal) y = (left0 V c (blkOf (rowOf t (y (0 : Fin 2)))) : S256x3.Idx → EReal) (ix2 (inBlk (rowOf t (y (0 : Fin 2)))) (y (1 : Fin 2)))
  rw [(blkOf_row t (y (0 : Fin 2))).1, (blkOf_row t (y (0 : Fin 2))).2]
  exact congrArg (left0 V c t) (ix2_eta y).symm
-- ==== Proof.KI.Val3.lean ====
/-
  The blocks that the second call reads, place by place, and what it leaves in its result.
-/
module

public import proofs.«01_k».proof.Proof.KI.Val0

@[expose] public section

set_option maxRecDepth 16384

noncomputable section

namespace Cert.KernelIdeal

open Idealize.ShloMosaic Idealize.ShloMosaic.TcCoe
open Cert.KernelIdeal.Gen Cert.Slabs Cert.Trips

variable (V : Dev nD → Valuation τ sig (Elt Ideal)) (c : Dev nD)

theorem tr1 : ∀ t : Fin grid1.N, cc1_transform_0 (grid1.coords t) = ![t.val, 0] ∧ cc1_transform_2 (grid1.coords t) = ![t.val, 0] ∧ cc1_transform_5 (grid1.coords t) = ![t.val, 0] ∧ cc1_transform_8 (grid1.coords t) = ![t.val, 0] ∧ cc1_transform_10 (grid1.coords t) = ![t.val, 0] := by
  decide +kernel

theorem tr1' : ∀ t : Fin grid1.N, cc1_transform_1 (grid1.coords t) = ![0, 0, 0] ∧ cc1_transform_4 (grid1.coords t) = ![0, 0, 0] ∧ cc1_transform_7 (grid1.coords t) = ![0, 0, 0] ∧ cc1_transform_9 (grid1.coords t) = ![0, 0, 0]
    ∧ cc1_transform_3 (grid1.coords t) = ![0, 0] ∧ cc1_transform_6 (grid1.coords t) = ![0, 0] := by
  decide +kernel

theorem place2z {s : Fin 2 → ℕ} (y : Shape.Idx ⟨2, s⟩) (a : Fin 2) : (![0, 0] : Fin 2 → ℕ) a * s a + (y a).val = (y a).val := by
  match a with
  | 0 => simp
  | 1 => simp

theorem b1_0 (t : Fin grid1.N) : (blk1 V c 0 t : S256x64.Idx → EReal) = fun y : S256x64.Idx => (V c (Proc.devRef .tc main_arg2) : S4096x64.Idx → EReal) (ix2 (rowOf t (y 0)) (y 1)) := by
  funext y
  refine congrArg (V c (Proc.devRef .tc main_arg2)) (funext fun a => Fin.ext ((Pipeline.Window.rect_emb_val ((cfg1 (adm1 V)).win 0) t y a).trans ?_))
  change cc1_transform_0 (grid1.coords t) a * _ + _ = _
  rw [(tr1 t).1]
  exact place2 t y a

theorem b1_2 (t : Fin grid1.N) : (blk1 V c 2 t : S256x1.Idx → BitVec 32) = fun y : S256x1.Idx => (V c (Proc.devRef .tc main_v73) : S4096x1.Idx → BitVec 32) (ix2 (rowOf t (y 0)) (y 1)) := by
  funext y
  refine congrArg (V c (Proc.devRef .tc main_v73)) (funext fun a => Fin.ext ((Pipeline.Window.rect_emb_val ((cfg1 (adm1 V)).win 2) t y a).trans ?_))
  change cc1_transform_2 (grid1.coords t) a * _ + _ = _
  rw [(tr1 t).2.1]
  exact place2 t y a

theorem b1_5 (t : Fin grid1.N) : (blk1 V c 5 t : S256x1.Idx → EReal) = fun y : S256x1.Idx => (V c (Proc.devRef .tc main_arg4) : S4096x1.Idx → EReal) (ix2 (rowOf t (y 0)) (y 1)) := by
  funext y
  refine congrArg (V c (Proc.devRef .tc main_arg4)) (funext fun a => Fin.ext ((Pipeline.Window.rect_emb_val ((cfg1 (adm1 V)).win 5) t y a).trans ?_))
  change cc1_transform_5 (grid1.coords t) a * _ + _ = _
  rw [(tr1 t).2.2.1]
  exact place2 t y a

theorem b1_8 (t : Fin grid1.N) : (blk1 V c 8 t : S256x3.Idx → EReal) = fun y : S256x3.Idx => (V c (Proc.devRef .tc main_v39) : S4096x3.Idx → EReal) (ix2 (rowOf t (y 0)) (y 1)) := by
  funext y
  refine congrArg (V c (Proc.devRef .tc main_v39)) (funext fun a => Fin.ext ((Pipeline.Window.rect_emb_val ((cfg1 (adm1 V)).win 8) t y a).trans ?_))
  change cc1_transform_8 (grid1.coords t) a * _ + _ = _
  rw [(tr1 t).2.2.2.1]
  exact place2 t y a

theorem b1_1 (t : Fin grid1.N) : (blk1 V c 1 t : S4x1024x64.Idx → EReal) = V c (Proc.devRef .tc main_v72) := by
  funext y
  refine congrArg (V c (Proc.devRef .tc main_v72)) (funext fun a => Fin.ext ((Pipeline.Window.rect_emb_val ((cfg1 (adm1 V)).win 1) t y a).trans ?_))
  change cc1_transform_1 (grid1.coords t) a * _ + _ = _
  rw [(tr1' t).1]
  exact place3 y a

theorem b1_4 (t : Fin grid1.N) : (blk1 V c 4 t : S4x1x1024.Idx → BitVec 32) = V c (Proc.devRef .tc main_v75) := by
  funext y
  refine congrArg (V c (Proc.devRef .tc main_v75)) (funext fun a => Fin.ext ((Pipeline.Window.rect_emb_val ((cfg1 (adm1 V)).win 4) t y a).trans ?_))
  change cc1_transform_4 (grid1.coords t) a * _ + _ = _
  rw [(tr1' t).2.1]
  exact place3 y a

theorem b1_7 (t : Fin grid1.N) : (blk1 V c 7 t : S4x1x1024.Idx → EReal) = V c (Proc.devRef .tc main_v77) := by
  funext y
  refine congrArg (V c (Proc.devRef .tc main_v77)) (funext fun a => Fin.ext ((Pipeline.Window.rect_emb_val ((cfg1 (adm1 V)).win 7) t y a).trans ?_))
  change cc1_transform_7 (grid1.coords t) a * _ + _ = _
  rw [(tr1' t).2.2.1]
  exact place3 y a

theorem b1_9 (t : Fin grid1.N) : (blk1 V c 9 t : S4x4x1024.Idx → EReal) = V c (Proc.devRef .tc main_v82) := by
  funext y
  refine congrArg (V c (Proc.devRef .tc main_v82)) (funext fun a => Fin.ext ((Pipeline.Window.rect_emb_val ((cfg1 (adm1 V)).win 9) t y a).trans ?_))
  change cc1_transform_9 (grid1.coords t) a * _ + _ = _
  rw [(tr1' t).2.2.2.1]
  exact place3 y a

theorem b1_3 (t : Fin grid1.N) : (blk1 V c 3 t : S1x4096.Idx → BitVec 32) = V c (Proc.devRef .tc main_v74) := by
  funext y
  refine congrArg (V c (Proc.devRef .tc main_v74)) (funext fun a => Fin.ext ((Pipeline.Window.rect_emb_val ((cfg1 (adm1 V)).win 3) t y a).trans ?_))
  change cc1_transform_3 (grid1.coords t) a * _ + _ = _
  rw [(tr1' t).2.2.2.2.1]
  exact place2z y a

theorem b1_6 (t : Fin grid1.N) : (blk1 V c 6 t : S1x4096.Idx → EReal) = V c (Proc.devRef .tc main_v76) := by
  funext y
  refine congrArg (V c (Proc.devRef .tc main_v76)) (funext fun a => Fin.ext ((Pipeline.Window.rect_emb_val ((cfg1 (adm1 V)).win 6) t y a).trans ?_))
  change cc1_transform_6 (grid1.coords t) a * _ + _ = _
  rw [(tr1' t).2.2.2.2.2]
  exact place2z y a

theorem covers1 (a : (pcfg1 (F := Ideal)).Adm) : ((cfg1 a).win 10).Covers := by
  have h : ((cfg1 (F := Ideal) ⟨fun | 0 => fun _ => (0 : BitVec 32) | 1 => fun _ => (0 : BitVec 32), trivial⟩).win 10).Covers := by decide +kernel
  exact h

/-- What call 1 leaves in its result: row by row, what the point of the row's block left. -/
theorem res1 : (Pipeline.afterRegion (dat1 V c) (V c) (Proc.devRef .tc main_v83) : S4096x4.Idx → EReal)
    = fun i : S4096x4.Idx => (left1 V c (blkOf (i 0)) : S256x4.Idx → EReal) (ix2 (inBlk (i 0)) (i 1)) := by
  refine (Pipeline.afterRegion_arr (dat1 V c) (V c) winFacts1.arr_inj 10).trans ?_
  refine (dat1 V c).arrAt_eq_of_covers 10 (fun i : S4096x4.Idx => (left1 V c (blkOf (i 0)) : S256x4.Idx → EReal) (ix2 (inBlk (i 0)) (i 1))) (covers1 _) fun t hf y => ?_
  have e : (((cfg1 (adm1 V)).win 10).blk t).view.emb y = (ix2 (rowOf t (y (0 : Fin 2))) (y (1 : Fin 2)) : S4096x4.Idx) := by
    refine funext fun a => Fin.ext ((Pipeline.Window.rect_emb_val ((cfg1 (adm1 V)).win 10) t y a).trans ?_)
    change cc1_transform_10 (grid1.coords t) a * _ + _ = _
    rw [(tr1 t).2.2.2.2]
    exact place2 t y a
  rw [e]
  change (left1 V c t : S256x4.Idx → EReal) y = (left1 V c (blkOf (rowOf t (y (0 : Fin 2)))) : S256x4.Idx → EReal) (ix2 (inBlk (rowOf t (y (0 : Fin 2)))) (y (1 : Fin 2)))
  rw [(blkOf_row t (y (0 : Fin 2))).1, (blkOf_row t (y (0 : Fin 2))).2]
  exact congrArg (left1 V c t) (ix2_eta y).symm

end Cert.KernelIdeal

end
-- ==== Proof.KI.Val4.lean ====
/-
  What the host operations before each call put into the arrays that the call reads, place by place.
-/
module

public import proofs.«01_k».proof.Proof.KI.Val2
public import proofs.«01_k».proof.Proof.KI.Val3
public import Idealize.ShloMosaic.Lib.StableHlo.ReadAt

@[expose] public section

set_option maxRecDepth 16384

noncomputable section

namespace Cert.KernelIdeal

open Idealize.ShloMosaic Idealize.ShloMosaic.TcCoe
open Cert.KernelIdeal.Gen Cert.Slabs Cert.Trips

variable (V : Valuation τ sig (Elt Ideal))

/-- A place is its tile and its place within the tile. -/
theorem join_q {M N : ℕ} (hM : M ≤ N * 1024) (q : Fin M) (h : (hiQ hM q).val * 1024 + (loQ q).val < M) : (⟨(hiQ hM q).val * 1024 + (loQ q).val, h⟩ : Fin M) = q :=
  Fin.ext (Nat.div_add_mod' q.val 1024)

theorem h0_31 (q : Fin 8192) (d : Fin 64) : (StableHlo.after hostOps0_8 V (Proc.devRef .tc main_v31) : S8x1024x64.Idx → EReal) (ix3 (hiQ (by decide) q) (loQ q) d)
    = (V (Proc.devRef .tc main_arg3) : S8192x64.Idx → EReal) (ix2 q d) := by
  after_reads_at
  rw [join_q]

theorem h0_36 (q : Fin 8192) (j : Fin 3) : (StableHlo.after hostOps0_8 V (Proc.devRef .tc main_v36) : S8x4x1024.Idx → EReal) (ix3 (hiQ (by decide) q) (j.castLE (by decide)) (loQ q))
    = (V (Proc.devRef .tc main_arg1) : S8192x3.Idx → EReal) (ix2 q j) := by
  after_reads_at
  rw [dif_pos (show (j.castLE (show 3 ≤ 4 by decide)).val < 3 from j.isLt), join_q]
  unfold StableHlo.upto
  after_reads_at
  rfl

theorem h0_37 (q : Fin 4096) : (StableHlo.after hostOps0_8 V (Proc.devRef .tc main_v37) : S4096x1.Idx → BitVec 32) (ix2 q 0)
    = (V (Proc.devRef .tc main_arg5) : S4096.Idx → BitVec 32) (Idealize.ShloMosaic.ix1 q) := by
  after_reads_at

theorem h0_38 (q : Fin 8192) : (StableHlo.after hostOps0_8 V (Proc.devRef .tc main_v38) : S8x1x1024.Idx → BitVec 32) (ix3 (hiQ (by decide) q) 0 (loQ q))
    = (V (Proc.devRef .tc main_arg6) : S8192.Idx → BitVec 32) (Idealize.ShloMosaic.ix1 q) := by
  after_reads_at
  rw [join_q]

theorem h1_72 (q : Fin 4096) (d : Fin 64) : (StableHlo.after hostOps1_8 V (Proc.devRef .tc main_v72) : S4x1024x64.Idx → EReal) (ix3 (hiQ (by decide) q) (loQ q) d)
    = (V (Proc.devRef .tc main_arg2) : S4096x64.Idx → EReal) (ix2 q d) := by
  after_reads_at
  rw [join_q]

theorem h1_73 (q : Fin 4096) : (StableHlo.after hostOps1_8 V (Proc.devRef .tc main_v73) : S4096x1.Idx → BitVec 32) (ix2 q 0)
    = (V (Proc.devRef .tc main_arg5) : S4096.Idx → BitVec 32) (Idealize.ShloMosaic.ix1 q) := by
  after_reads_at

theorem h1_74 (q : Fin 4096) : (StableHlo.after hostOps1_8 V (Proc.devRef .tc main_v74) : S1x4096.Idx → BitVec 32) (ix2 0 q)
    = (V (Proc.devRef .tc main_arg5) : S4096.Idx → BitVec 32) (Idealize.ShloMosaic.ix1 q) := by
  after_reads_at

theorem h1_75 (q : Fin 4096) : (StableHlo.after hostOps1_8 V (Proc.devRef .tc main_v75) : S4x1x1024.Idx → BitVec 32) (ix3 (hiQ (by decide) q) 0 (loQ q))
    = (V (Proc.devRef .tc main_arg5) : S4096.Idx → BitVec 32) (Idealize.ShloMosaic.ix1 q) := by
  after_reads_at
  rw [join_q]

theorem h1_76 (q : Fin 4096) : (StableHlo.after hostOps1_8 V (Proc.devRef .tc main_v76) : S1x4096.Idx → EReal) (ix2 0 q)
    = (V (Proc.devRef .tc main_arg4) : S4096x1.Idx → EReal) (ix2 q 0) := by
  after_reads_at

theorem h1_77 (q : Fin 4096) : (StableHlo.after hostOps1_8 V (Proc.devRef .tc main_v77) : S4x1x1024.Idx → EReal) (ix3 (hiQ (by decide) q) 0 (loQ q))
    = (V (Proc.devRef .tc main_arg4) : S4096x1.Idx → EReal) (ix2 q 0) := by
  after_reads_at
  rw [join_q]

theorem h1_82 (q : Fin 4096) (j : Fin 3) : (StableHlo.after hostOps1_8 V (Proc.devRef .tc main_v82) : S4x4x1024.Idx → EReal) (ix3 (hiQ (by decide) q) (j.castLE (by decide)) (loQ q))
    = (V (Proc.devRef .tc main_v39) : S4096x3.Idx → EReal) (ix2 q j) := by
  after_reads_at
  rw [dif_pos (show (j.castLE (show 3 ≤ 4 by decide)).val < 3 from j.isLt), join_q]
  unfold StableHlo.upto
  after_reads_at
  rfl

/-- The word of a table at point `t`. -/
theorem word0_at : ∀ (x : S16.Idx → BitVec 32) (t : Fin grid0.N), word0 (F := Ideal) (grid0.coords t) x = x (Idealize.ShloMosaic.ix1 t) := by
  intro x t
  unfold word0 wordAt
  refine congrArg x (funext fun a => Fin.ext ?_)
  revert t a
  decide +kernel

theorem word1_at : ∀ (x : S16.Idx → BitVec 32) (t : Fin grid1.N), word1 (F := Ideal) (grid1.coords t) x = x (Idealize.ShloMosaic.ix1 t) := by
  intro x t
  unfold word1 wordAt
  refine congrArg x (funext fun a => Fin.ext ?_)
  revert t a
  decide +kernel

theorem row_first (t : Fin 16) (h : t.val * 256 < 4096) : (⟨t.val * 256, h⟩ : Fin 4096) = rowOf t 0 := Fin.ext (show t.val * 256 = 256 * t.val + 0 by omega)
theorem row_last (t : Fin 16) (h : t.val * 256 + 255 < 4096) : (⟨t.val * 256 + 255, h⟩ : Fin 4096) = rowOf t 255 := Fin.ext (show t.val * 256 + 255 = 256 * t.val + 255 by omega)

theorem lift_row {m n : ℕ} (h : Shape.Reduces ⟨2, ![m, n]⟩ [1] ⟨1, ![m]⟩) (t : Fin m) (q : Fin n) : h.lift (Idealize.ShloMosaic.ix1 t) q = ix2 t q := by
  funext a
  match a with
  | 0 => exact Fin.ext rfl
  | 1 => exact Fin.ext rfl

/-- A count of a table, as a count of places. -/
theorem count_rows {m n : ℕ} (p : Shape.Idx ⟨2, ![m, n]⟩ → BitVec 1) (h' : Shape.ReducesTo ⟨2, ![m, n]⟩ [1] ⟨1, ![m]⟩) (h : Shape.Reduces ⟨2, ![m, n]⟩ [1] ⟨1, ![m]⟩)
    (hw : 1 < 32) (t : Fin m) : Host.reduce IntOp.addi (extui 32 p hw) (constantI S_ 32 0#32) h' h_S_ (Idealize.ShloMosaic.ix1 t)
      = BitVec.ofNat 32 (Finset.univ.filter fun q : Fin n => p (ix2 t q) = 1#1).card := by
  refine (Cert.Tables.count_eq p h' h h_S_ hw _).trans (congrArg (BitVec.ofNat 32) (congrArg Finset.card (Finset.filter_congr fun q _ => ?_)))
  exact iff_of_eq (congrArg (p · = 1#1) (lift_row h t q))

theorem cLo0_ap (x : S4096.Idx → BitVec 32) (y : S8192.Idx → BitVec 32) (t : Fin 16) (q : Fin 8192) :
    cLo0 x y (ix2 t q) = IntOp.cmpi .slt (y (Idealize.ShloMosaic.ix1 q)) (x (Idealize.ShloMosaic.ix1 (rowOf t 0))) := by
  pointwise [cLo0]
  rw [row_first]
theorem cHi0_ap (x : S4096.Idx → BitVec 32) (y : S8192.Idx → BitVec 32) (t : Fin 16) (q : Fin 8192) :
    cHi0 x y (ix2 t q) = IntOp.cmpi .sle (y (Idealize.ShloMosaic.ix1 q)) (x (Idealize.ShloMosaic.ix1 (rowOf t 255))) := by
  pointwise [cHi0]
  rw [row_last]
theorem cLo1_ap (x : S4096.Idx → BitVec 32) (y : S4096.Idx → BitVec 32) (t : Fin 16) (q : Fin 4096) :
    cLo1 x y (ix2 t q) = IntOp.cmpi .slt (y (Idealize.ShloMosaic.ix1 q)) (x (Idealize.ShloMosaic.ix1 (rowOf t 0))) := by
  pointwise [cLo1]
  rw [row_first]
theorem cHi1_ap (x : S4096.Idx → BitVec 32) (y : S4096.Idx → BitVec 32) (t : Fin 16) (q : Fin 4096) :
    cHi1 x y (ix2 t q) = IntOp.cmpi .sle (y (Idealize.ShloMosaic.ix1 q)) (x (Idealize.ShloMosaic.ix1 (rowOf t 255))) := by
  pointwise [cHi1]
  rw [row_last]

/-- The tiles that a table names hold every place whose entry lies between the first and the last entry of the block. -/
theorem window {n : ℕ} (hn : n ≤ 8) (Y : Fin (1024 * n) → BitVec 32) (hY : ∀ p q, p ≤ q → (Y p).toInt ≤ (Y q).toInt) {a b v : BitVec 32} (ha : a.toInt ≤ v.toInt) (hb : v.toInt ≤ b.toInt)
    {lo hi : BitVec 32} (hlo : lo = BitVec.ofNat 32 (Finset.univ.filter fun q => IntOp.cmpi .slt (Y q) a = 1#1).card)
    (hhi : hi = BitVec.ofNat 32 (Finset.univ.filter fun q => IntOp.cmpi .sle (Y q) b = 1#1).card) (q : Fin (1024 * n)) (hq : v = Y q) :
    (Cert.Tables.loW lo hi).toNat ≤ q.val / 1024 ∧ q.val / 1024 < (Cert.Tables.loW lo hi).toNat + (Cert.Tables.ntW (BitVec.ofNat 32 n) lo hi).toNat := by
  have c1 := Cert.Tables.count_toNat (n := 1024 * n) (by omega) fun q => IntOp.cmpi .slt (Y q) a = 1#1
  have c2 := Cert.Tables.count_toNat (n := 1024 * n) (by omega) fun q => IntOp.cmpi .sle (Y q) b = 1#1
  have l1 : (Finset.univ.filter fun q => IntOp.cmpi .slt (Y q) a = 1#1).card ≤ q.val := by
    refine (Finset.card_le_card fun p hp => Finset.mem_Iio.mpr ?_).trans_eq (Fin.card_Iio q)
    have h := IntOp.cmpi_slt.mp (Finset.mem_filter.mp hp).2
    by_contra hh
    have := hY q p (not_lt.mp hh)
    rw [hq] at ha
    omega
  have l2 : q.val + 1 ≤ (Finset.univ.filter fun q => IntOp.cmpi .sle (Y q) b = 1#1).card := by
    refine (Fin.card_Iic q).symm.trans_le (Finset.card_le_card fun p hp => Finset.mem_filter.mpr ⟨Finset.mem_univ _, IntOp.cmpi_sle.mpr ?_⟩)
    have := hY p q (Finset.mem_Iic.mp hp)
    rw [hq] at hb
    omega
  have l3 : lo.toNat < hi.toNat := by rw [hlo, hhi, c1.1, c2.1]; omega
  have l4 : hi.toNat ≤ 1024 * n := by rw [hhi, c2.1]; exact c2.2
  obtain ⟨e1, e2⟩ := Cert.Tables.tables_of_lt hn l4 l3
  have e3 : lo.toNat ≤ q.val := by rw [hlo, c1.1]; exact l1
  have e4 : q.val + 1 ≤ hi.toNat := by rw [hhi, c2.1]; exact l2
  rw [e1, e2]
  omega

end Cert.KernelIdeal

end
-- ==== Proof.Model.lean ====
/-
  The two programs' value as one plain function of the inputs.
-/
module

public import proofs.«01_k».proof.Proof.Vis
public import proofs.«01_k».proof.Proof.Pick

@[expose] public section

noncomputable section

namespace Cert.Spec

open Idealize.ShloMosaic Cert.Pick

/-- The inputs, as functions of row and column. -/
structure Inp where
  vtx : Fin 4096 → Fin 3 → EReal
  pts : Fin 8192 → Fin 3 → EReal
  vf : Fin 4096 → Fin 64 → EReal
  pf : Fin 8192 → Fin 64 → EReal
  lg : Fin 4096 → EReal
  vb : Fin 4096 → BitVec 32
  pb : Fin 8192 → BitVec 32

namespace Inp
variable (D : Inp)

/-- The visibility score, and the same rescaled within its group. -/
def S (i : Fin 4096) : EReal := Ideal.logistic (D.lg i)
def pv (i : Fin 4096) : EReal := pvOf D.vb D.S (D.vb i) (D.S i)

/-- The scores of the two searches. -/
def sc1 (i : Fin 4096) : Fin 8192 → EReal := scoreOf (fun q => decide (D.vb i = D.pb q)) (D.vf i) D.pf
def sc2 (i : Fin 4096) : Fin 4096 → EReal := scoreOf (fun q => decide (D.vb i = D.vb q ∧ HALF ≤ D.pv q)) (D.vf i) D.vf

/-- What the two searches keep. -/
def top1 (i : Fin 4096) : Finset (Fin 8192) := Finset.univ.image fun j : Fin 8 => sortedFrom (gtB (D.sc1 i)) (j.castLE (by decide))
def top2 (i : Fin 4096) : Finset (Fin 4096) := Finset.univ.image fun j : Fin 8 => sortedFrom (gtB (D.sc2 i)) (j.castLE (by decide))

theorem top1_is (i : Fin 4096) : IsTop (D.sc1 i) (D.top1 i) := sorted_isTop _
theorem top2_is (i : Fin 4096) : IsTop (D.sc2 i) (D.top2 i) := sorted_isTop _

/-- The flow of a row by its nearest points, and the result. -/
def flow (i : Fin 4096) (j : Fin 3) : EReal :=
  Ideal.div (∑ q ∈ D.top1 i, dot (D.vf i) (D.pf q) * D.pts q j) (∑ q ∈ D.top1 i, dot (D.vf i) (D.pf q)) - D.vtx i j
def res (i : Fin 4096) (j : Fin 3) : EReal :=
  if HALF ≤ D.pv i then D.flow i j else Ideal.div (∑ q ∈ D.top2 i, dot (D.vf i) (D.vf q) * D.flow q j) (∑ q ∈ D.top2 i, dot (D.vf i) (D.vf q))

/-- What the precondition says of the inputs. -/
structure Ok : Prop where
  fvtx : ∀ i j, ∃ x : ℝ, D.vtx i j = x
  fvf : ∀ i, Fin1 (D.vf i)
  fpf : ∀ q, Fin1 (D.pf q)
  four : ∀ i, D.vb i = 0#32 ∨ D.vb i = 1#32 ∨ D.vb i = 2#32 ∨ D.vb i = 3#32
  vsort : ∀ p q, p ≤ q → (D.vb p).toInt ≤ (D.vb q).toInt
  psort : ∀ p q, p ≤ q → (D.pb p).toInt ≤ (D.pb q).toInt
  near : ∀ i, 8 ≤ (Finset.univ.filter fun q => D.vb i = D.pb q).card
  seen : ∀ i, 8 ≤ (Finset.univ.filter fun q => D.vb i = D.vb q ∧ HALF ≤ D.pv q).card

end Inp

end Cert.Spec

end
-- ==== Proof.KI.Val5.lean ====
/-
  The value of the kernel: what the two calls leave, as plain functions of the inputs.
-/
module

public import proofs.«01_k».proof.Proof.KI.Val4
public import proofs.«01_k».proof.Proof.Model

@[expose] public section

set_option maxRecDepth 16384

noncomputable section

namespace Cert.KernelIdeal

open Idealize.ShloMosaic Idealize.ShloMosaic.TcCoe
open Cert.KernelIdeal.Gen Cert.Slabs Cert.Trips Cert.Spec Cert.Pick

variable (m : (ℓ : Loc nD τ sig) → Buf (Elt Ideal) ℓ) (c : Dev nD)

/-- The inputs of the program, by row and column. -/
def inp : Inp where
  vtx i j := (m ((c.tc : Thread nD τ).loc main_arg0) : S4096x3.Idx → EReal) (ix2 i j)
  pts q j := (m ((c.tc : Thread nD τ).loc main_arg1) : S8192x3.Idx → EReal) (ix2 q j)
  vf i d := (m ((c.tc : Thread nD τ).loc main_arg2) : S4096x64.Idx → EReal) (ix2 i d)
  pf q d := (m ((c.tc : Thread nD τ).loc main_arg3) : S8192x64.Idx → EReal) (ix2 q d)
  lg i := (m ((c.tc : Thread nD τ).loc main_arg4) : S4096x1.Idx → EReal) (ix2 i 0)
  vb i := (m ((c.tc : Thread nD τ).loc main_arg5) : S4096.Idx → BitVec 32) (Idealize.ShloMosaic.ix1 i)
  pb q := (m ((c.tc : Thread nD τ).loc main_arg6) : S8192.Idx → BitVec 32) (Idealize.ShloMosaic.ix1 q)

theorem V8_at (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) :
    V8 m c (Proc.devRef .tc r) = m ((c.tc : Thread nD τ).loc r) := by
  rw [V8_of m c r h7, V7_of m c r h6, V6_of m c r h5, V5_of m c r h4, V4_of m c r h3, V3_of m c r h2, V2_of m c r h1, V1_of m c r h0]

theorem V18_at (o : Outs (F := Ideal)) (r : Ref sig .tc) (h0 : r ∉ hostOps1_W) (h1 : r ∉ hostOps1_1_W) (h2 : r ∉ hostOps1_2_W) (h3 : r ∉ hostOps1_3_W)
    (h4 : r ∉ hostOps1_4_W) (h5 : r ∉ hostOps1_5_W) (h6 : r ∉ hostOps1_6_W) (h7 : r ∉ hostOps1_7_W) :
    V18 m o c (Proc.devRef .tc r) = V10 m o c (Proc.devRef .tc r) := by
  rw [V18_of m o c r h7, V17_of m o c r h6, V16_of m o c r h5, V15_of m o c r h4, V14_of m o c r h3, V13_of m o c r h2, V12_of m o c r h1, V11_of m o c r h0]

/-- The batch of a row lies between those of the first and the last row of its block. -/
theorem block_between (Y : Fin 4096 → BitVec 32) (hY : ∀ p q, p ≤ q → (Y p).toInt ≤ (Y q).toInt) (i : Fin 4096) :
    (Y (rowOf (blkOf i) 0)).toInt ≤ (Y i).toInt ∧ (Y i).toInt ≤ (Y (rowOf (blkOf i) 255)).toInt := by
  constructor <;> apply hY <;> rw [Fin.le_def] <;> simp only [rowOf, blkOf] <;> omega

theorem W10_at (h : (inp m 0).Ok) (i : Fin 4096) (j : Fin 3) :
    (W10 m 0 (Proc.devRef .tc main_v39) : S4096x3.Idx → EReal) (ix2 i j) = (inp m 0).flow i j := by
  have e := congrFun (res0 (V9 m) 0) (ix2 i j)
  refine e.trans ?_
  have win : ∀ q, (inp m 0).vb i = (inp m 0).pb q → (lo0 (V9 m) (blkOf i)).toNat ≤ q.val / 1024 ∧ q.val / 1024 < (lo0 (V9 m) (blkOf i)).toNat + (nt0 (V9 m) (blkOf i)).toNat := by
    intro q hq
    unfold lo0 nt0
    rw [word0_at, word0_at, lo_table0, nt_table0]
    refine window (n := 8) (by decide) (inp m 0).pb h.psort (block_between _ h.vsort i).1 (block_between _ h.vsort i).2 ?_ ?_ q hq
    · unfold nLo0
      refine (count_rows _ _ (by decide) _ _).trans (congrArg (BitVec.ofNat 32) (congrArg Finset.card (Finset.filter_congr fun p _ => iff_of_eq (congrArg (· = 1#1) (cLo0_ap _ _ _ p)))))
    · unfold nHi0
      refine (count_rows _ _ (by decide) _ _).trans (congrArg (BitVec.ofNat 32) (congrArg Finset.card (Finset.filter_congr fun p _ => iff_of_eq (congrArg (· = 1#1) (cHi0_ap _ _ _ p)))))
  obtain ⟨q0, hq0⟩ := Finset.card_pos.mp (lt_of_lt_of_le (by decide : 0 < 8) (h.near i))
  have w0 := win q0 (Finset.mem_filter.mp hq0).2
  obtain ⟨T, hT, hout⟩ := out0_ap (lo0 (V9 m) (blkOf i)) (nt0 (V9 m) (blkOf i)) (blk0 (V9 m) 0 0 (blkOf i)) (blk0 (V9 m) 0 1 (blkOf i)) (blk0 (V9 m) 0 2 (blkOf i)) (blk0 (V9 m) 0 3 (blkOf i)) (blk0 (V9 m) 0 4 (blkOf i)) (blk0 (V9 m) 0 5 (blkOf i))
    (inBlk i) ((inp m 0).vf i) (inp m 0).pf (inp m 0).pts ((inp m 0).vb i) (inp m 0).pb
    (fun d => by rw [b0_0]; show V9 m 0 (Proc.devRef .tc main_arg2) (ix2 (rowOf (blkOf i) (inBlk i)) d) = _; rw [rowOf_blk, V9_of m 0 main_arg2 (by decide), V8_at m 0 main_arg2 (by decide) (by decide) (by decide) (by decide) (by decide) (by decide) (by decide) (by decide)]; rfl)
    (fun q d => by rw [b0_1]; refine (h0_31 _ q d).trans ?_; rw [V8_at m 0 main_arg3 (by decide) (by decide) (by decide) (by decide) (by decide) (by decide) (by decide) (by decide)]; rfl)
    (fun q j => by rw [b0_2]; refine (h0_36 _ q j).trans ?_; rw [V8_at m 0 main_arg1 (by decide) (by decide) (by decide) (by decide) (by decide) (by decide) (by decide) (by decide)]; rfl)
    (by rw [b0_3]; show V9 m 0 (Proc.devRef .tc main_v37) (ix2 (rowOf (blkOf i) (inBlk i)) 0) = _; rw [rowOf_blk]; refine (h0_37 _ i).trans ?_; rw [V8_at m 0 main_arg5 (by decide) (by decide) (by decide) (by decide) (by decide) (by decide) (by decide) (by decide)]; rfl)
    (fun q => by rw [b0_4]; refine (h0_38 _ q).trans ?_; rw [V8_at m 0 main_arg6 (by decide) (by decide) (by decide) (by decide) (by decide) (by decide) (by decide) (by decide)]; rfl)
    (h.fvf i) h.fpf (tables_bound0 m (blkOf i)) (by omega) win (h.near i)
  refine (hout j).trans ?_
  rw [hT.unique ((inp m 0).top1_is i)]
  refine congrArg (fun z => Ideal.div _ _ - z) ?_
  rw [b0_5]
  show V9 m 0 (Proc.devRef .tc main_arg0) (ix2 (rowOf (blkOf i) (inBlk i)) j) = _
  rw [rowOf_blk, V9_of m 0 main_arg0 (by decide), V8_at m 0 main_arg0 (by decide) (by decide) (by decide) (by decide) (by decide) (by decide) (by decide) (by decide)]
  rfl

theorem in1 : ∀ r ∈ [main_arg2, main_arg4, main_arg5], V18 m (outsA m) 0 (Proc.devRef .tc r) = m (((0 : Dev nD).tc : Thread nD τ).loc r) := by
  intro r hr
  simp only [List.mem_cons, List.not_mem_nil, or_false] at hr
  rcases hr with rfl | rfl | rfl <;>
    exact (V18_at m 0 _ _ (by decide) (by decide) (by decide) (by decide) (by decide) (by decide) (by decide) (by decide)).trans
      (V10_at m _ 0 _ (by decide) (by decide) (by decide) (by decide) (by decide) (by decide) (by decide) (by decide) (by decide) (by decide))

theorem in1_39 : V18 m (outsA m) 0 (Proc.devRef .tc main_v39) = W10 m 0 (Proc.devRef .tc main_v39) :=
  (V18_at m 0 _ _ (by decide) (by decide) (by decide) (by decide) (by decide) (by decide) (by decide) (by decide)).trans (Function.update_self _ _ _)

theorem tiles1 (h : (inp m 0).Ok) (i q : Fin 4096) (hq : (inp m 0).vb i = (inp m 0).vb q) :
    (lo1 (V19 m (outsA m)) (blkOf i)).toNat ≤ q.val / 1024 ∧ q.val / 1024 < (lo1 (V19 m (outsA m)) (blkOf i)).toNat + (nt1 (V19 m (outsA m)) (blkOf i)).toNat := by
  unfold lo1 nt1
  rw [word1_at, word1_at, lo_table1, nt_table1]
  refine window (n := 4) (by decide) (inp m 0).vb h.vsort (block_between _ h.vsort i).1 (block_between _ h.vsort i).2 ?_ ?_ q hq
  · unfold nLo1
    refine (count_rows _ _ (by decide) _ _).trans (congrArg (BitVec.ofNat 32) (congrArg Finset.card (Finset.filter_congr fun p _ => iff_of_eq (congrArg (· = 1#1) (cLo1_ap _ _ _ p)))))
  · unfold nHi1
    refine (count_rows _ _ (by decide) _ _).trans (congrArg (BitVec.ofNat 32) (congrArg Finset.card (Finset.filter_congr fun p _ => iff_of_eq (congrArg (· = 1#1) (cHi1_ap _ _ _ p)))))

variable (i : Fin 4096)

theorem x1_0 (d : Fin 64) : (blk1 (V19 m (outsA m)) 0 0 (blkOf i) : S256x64.Idx → EReal) (ix2 (inBlk i) d) = (inp m 0).vf i d := by
  rw [b1_0]
  show V19 m (outsA m) 0 (Proc.devRef .tc main_arg2) (ix2 (rowOf (blkOf i) (inBlk i)) d) = _
  rw [rowOf_blk, V19_of m _ 0 main_arg2 (by decide), in1 m main_arg2 (by decide)]
  rfl
theorem x1_1 (q : Fin 4096) (d : Fin 64) : (blk1 (V19 m (outsA m)) 0 1 (blkOf i) : S4x1024x64.Idx → EReal) (ix3 (hiQ (by decide) q) (loQ q) d) = (inp m 0).vf q d := by
  rw [b1_1]
  refine (h1_72 _ q d).trans ?_
  rw [in1 m main_arg2 (by decide)]
  rfl
theorem x1_9 (h : (inp m 0).Ok) (q : Fin 4096) (j : Fin 3) : (blk1 (V19 m (outsA m)) 0 9 (blkOf i) : S4x4x1024.Idx → EReal) (ix3 (hiQ (by decide) q) (j.castLE (by decide)) (loQ q)) = (inp m 0).flow q j := by
  rw [b1_9]
  refine (h1_82 _ q j).trans ?_
  rw [in1_39]
  exact W10_at m h q j
theorem x1_2 : (blk1 (V19 m (outsA m)) 0 2 (blkOf i) : S256x1.Idx → BitVec 32) (ix2 (inBlk i) 0) = (inp m 0).vb i := by
  rw [b1_2]
  show V19 m (outsA m) 0 (Proc.devRef .tc main_v73) (ix2 (rowOf (blkOf i) (inBlk i)) 0) = _
  rw [rowOf_blk]
  refine (h1_73 _ i).trans ?_
  rw [in1 m main_arg5 (by decide)]
  rfl
theorem x1_3 (q : Fin 4096) : (blk1 (V19 m (outsA m)) 0 3 (blkOf i) : S1x4096.Idx → BitVec 32) (ix2 0 q) = (inp m 0).vb q := by
  rw [b1_3]
  refine (h1_74 _ q).trans ?_
  rw [in1 m main_arg5 (by decide)]
  rfl
theorem x1_4 (q : Fin 4096) : (blk1 (V19 m (outsA m)) 0 4 (blkOf i) : S4x1x1024.Idx → BitVec 32) (ix3 (hiQ (by decide) q) 0 (loQ q)) = (inp m 0).vb q := by
  rw [b1_4]
  refine (h1_75 _ q).trans ?_
  rw [in1 m main_arg5 (by decide)]
  rfl
theorem x1_5 : (blk1 (V19 m (outsA m)) 0 5 (blkOf i) : S256x1.Idx → EReal) (ix2 (inBlk i) 0) = (inp m 0).lg i := by
  rw [b1_5]
  show V19 m (outsA m) 0 (Proc.devRef .tc main_arg4) (ix2 (rowOf (blkOf i) (inBlk i)) 0) = _
  rw [rowOf_blk, V19_of m _ 0 main_arg4 (by decide), in1 m main_arg4 (by decide)]
  rfl
theorem x1_6 (q : Fin 4096) : (blk1 (V19 m (outsA m)) 0 6 (blkOf i) : S1x4096.Idx → EReal) (ix2 0 q) = (inp m 0).lg q := by
  rw [b1_6]
  refine (h1_76 _ q).trans ?_
  rw [in1 m main_arg4 (by decide)]
  rfl
theorem x1_7 (q : Fin 4096) : (blk1 (V19 m (outsA m)) 0 7 (blkOf i) : S4x1x1024.Idx → EReal) (ix3 (hiQ (by decide) q) 0 (loQ q)) = (inp m 0).lg q := by
  rw [b1_7]
  refine (h1_77 _ q).trans ?_
  rw [in1 m main_arg4 (by decide)]
  rfl
theorem x1_8 (h : (inp m 0).Ok) (j : Fin 3) : (blk1 (V19 m (outsA m)) 0 8 (blkOf i) : S256x3.Idx → EReal) (ix2 (inBlk i) j) = (inp m 0).flow i j := by
  rw [b1_8]
  show V19 m (outsA m) 0 (Proc.devRef .tc main_v39) (ix2 (rowOf (blkOf i) (inBlk i)) j) = _
  rw [rowOf_blk, V19_of m _ 0 main_v39 (by decide), in1_39]
  exact W10_at m h i j

/-- The row that the second call leaves. -/
theorem left1_at (h : (inp m 0).Ok) : ∃ T, IsTop ((inp m 0).sc2 i) T
      ∧ (∀ j : Fin 3, (left1 (V19 m (outsA m)) 0 (blkOf i) : S256x4.Idx → EReal) (ix2 (inBlk i) (j.castLE (by decide)))
        = if HALF ≤ (inp m 0).pv i then (inp m 0).flow i j else Ideal.div (∑ q ∈ T, dot ((inp m 0).vf i) ((inp m 0).vf q) * (inp m 0).flow q j) (∑ q ∈ T, dot ((inp m 0).vf i) ((inp m 0).vf q)))
      ∧ (left1 (V19 m (outsA m)) 0 (blkOf i) : S256x4.Idx → EReal) (ix2 (inBlk i) 3) = (inp m 0).pv i := by
  have w0 := tiles1 m h i i rfl
  have e := out1_ap (lo1 (V19 m (outsA m)) (blkOf i)) (nt1 (V19 m (outsA m)) (blkOf i)) (blk1 (V19 m (outsA m)) 0 0 (blkOf i)) (blk1 (V19 m (outsA m)) 0 1 (blkOf i)) (blk1 (V19 m (outsA m)) 0 2 (blkOf i))
    (blk1 (V19 m (outsA m)) 0 3 (blkOf i)) (blk1 (V19 m (outsA m)) 0 4 (blkOf i)) (blk1 (V19 m (outsA m)) 0 5 (blkOf i)) (blk1 (V19 m (outsA m)) 0 6 (blkOf i)) (blk1 (V19 m (outsA m)) 0 7 (blkOf i)) (blk1 (V19 m (outsA m)) 0 8 (blkOf i)) (blk1 (V19 m (outsA m)) 0 9 (blkOf i))
    (inBlk i) ((inp m 0).vf i) (inp m 0).vf (inp m 0).flow ((inp m 0).vb i) (inp m 0).vb (inp m 0).lg (inp m 0).S
    (x1_0 m i) (x1_1 m i) (x1_9 m i h) (x1_2 m i) (x1_3 m i) (x1_4 m i) (x1_6 m i) (x1_7 m i)
    (fun q => rfl) (h.four i) h.four (h.fvf i) h.fvf (tables_bound1 m (outsA m) (blkOf i)) (by omega) (tiles1 m h i) (h.seen i)
  rw [x1_5] at e
  obtain ⟨T, hT, -, hout, hpv⟩ := e
  refine ⟨T, hT, fun j => ?_, hpv⟩
  have e2 := hout j
  rw [x1_8 m i h j] at e2
  exact e2

theorem W20_at (h : (inp m 0).Ok) :
    (∀ j : Fin 3, (W20 m 0 (Proc.devRef .tc main_v83) : S4096x4.Idx → EReal) (ix2 i (j.castLE (by decide))) = (inp m 0).res i j)
      ∧ (W20 m 0 (Proc.devRef .tc main_v83) : S4096x4.Idx → EReal) (ix2 i 3) = (inp m 0).pv i := by
  obtain ⟨T, hT, hout, hpv⟩ := left1_at m i h
  refine ⟨fun j => ?_, (congrFun (res1 (V19 m (outsA m)) 0) (ix2 i 3)).trans hpv⟩
  refine (congrFun (res1 (V19 m (outsA m)) 0) (ix2 i (j.castLE (by decide)))).trans ((hout j).trans ?_)
  rw [hT.unique ((inp m 0).top2_is i)]
  rfl

end Cert.KernelIdeal

end
-- ==== Proof.Ref.Ops.lean ====
/-
  The reference program as one straight line of operations, in seven pieces, and its run.
-/
module

public import proofs.«01_k».proof.Proof.Gen.ReferenceIdeal
public import Idealize.ShloMosaic.Lib.StableHlo.RunHlo
public import Idealize.ShloMosaic.Lib.Claim

@[expose] public section

set_option maxRecDepth 16384

noncomputable section

namespace Cert.ReferenceIdeal

open Idealize.ShloMosaic Idealize.ShloMosaic.TcCoe Idealize.SL.Sem
open Cert.ReferenceIdeal.Gen

variable {F : FTy → Type} [FloatOps F]

/-- The operations of the piece: the masked largest and smallest score of each group. -/
abbrev visA : List (HloOp τ sig (Elt F)) :=
  [ StableHlo.unary main_arg4 main_v0 (Host.negf : (⟨S4096x1, .f32⟩ : BufTy).Contents (Elt F) → (⟨S4096x1, .f32⟩ : BufTy).Contents (Elt F)),
    StableHlo.unary main_v0 main_v1 (Host.exp : (⟨S4096x1, .f32⟩ : BufTy).Contents (Elt F) → (⟨S4096x1, .f32⟩ : BufTy).Contents (Elt F)),
    StableHlo.nullary main_cst (constant S_ .f32 0x3F800000#32),
    StableHlo.unary main_cst main_v2 (broadcastInDim S4096x1 ![] bcast_S_S4096x1 : (⟨S_, .f32⟩ : BufTy).Contents (Elt F) → (⟨S4096x1, .f32⟩ : BufTy).Contents (Elt F)),
    StableHlo.binary main_v2 main_v1 main_v3 (addf : (⟨S4096x1, .f32⟩ : BufTy).Contents (Elt F) → (⟨S4096x1, .f32⟩ : BufTy).Contents (Elt F) → (⟨S4096x1, .f32⟩ : BufTy).Contents (Elt F)),
    StableHlo.nullary main_cst_0 (constant S_ .f32 0x3F800000#32),
    StableHlo.unary main_cst_0 main_v4 (broadcastInDim S4096x1 ![] bcast_S_S4096x1 : (⟨S_, .f32⟩ : BufTy).Contents (Elt F) → (⟨S4096x1, .f32⟩ : BufTy).Contents (Elt F)),
    StableHlo.binary main_v4 main_v3 main_v5 (Host.divf : (⟨S4096x1, .f32⟩ : BufTy).Contents (Elt F) → (⟨S4096x1, .f32⟩ : BufTy).Contents (Elt F) → (⟨S4096x1, .f32⟩ : BufTy).Contents (Elt F)),
    StableHlo.reshape main_v5 main_v6 (rfl : (.f32 : EltTy) = .f32) shapeCasts_S4096x1_S4096,
    StableHlo.unary main_arg5 main_v7 (broadcastInDim S4096x1 ![0] bcast_S4096_S4096x1_0 : (⟨S4096, .i32⟩ : BufTy).Contents (Elt F) → (⟨S4096x1, .i32⟩ : BufTy).Contents (Elt F)),
    StableHlo.nullary main_v8 (iotaInDim S4 32 0),
    StableHlo.unary main_v8 main_v9 (broadcastInDim S1x4 ![1] bcast_S4_S1x4_1 : (⟨S4, .i32⟩ : BufTy).Contents (Elt F) → (⟨S1x4, .i32⟩ : BufTy).Contents (Elt F)),
    StableHlo.unary main_v7 main_v10 (broadcastInDim S4096x4 ![0, 1] bcast_S4096x1_S4096x4_0_1 : (⟨S4096x1, .i32⟩ : BufTy).Contents (Elt F) → (⟨S4096x4, .i32⟩ : BufTy).Contents (Elt F)),
    StableHlo.unary main_v9 main_v11 (broadcastInDim S4096x4 ![0, 1] bcast_S1x4_S4096x4_0_1 : (⟨S1x4, .i32⟩ : BufTy).Contents (Elt F) → (⟨S4096x4, .i32⟩ : BufTy).Contents (Elt F)),
    StableHlo.binary main_v10 main_v11 main_v12 (cmpi .eq : (⟨S4096x4, .i32⟩ : BufTy).Contents (Elt F) → (⟨S4096x4, .i32⟩ : BufTy).Contents (Elt F) → (⟨S4096x4, .i1⟩ : BufTy).Contents (Elt F)),
    StableHlo.unary main_v6 main_v13 (broadcastInDim S4096x1 ![0] bcast_S4096_S4096x1_0 : (⟨S4096, .f32⟩ : BufTy).Contents (Elt F) → (⟨S4096x1, .f32⟩ : BufTy).Contents (Elt F)),
    StableHlo.nullary main_cst_1 (constant S_ .f32 0xFF800000#32),
    StableHlo.TRef.unary (.of main_cst_1 : StableHlo.TRef sig ⟨S_, .f32⟩) (.of main_call0_v0 : StableHlo.TRef sig ⟨S_, .f32⟩) id,
    StableHlo.TRef.unary (.of main_v13 : StableHlo.TRef sig ⟨S4096x1, .f32⟩) (.of main_call0_v1 : StableHlo.TRef sig ⟨S4096x4, .f32⟩) (broadcastInDim S4096x4 ![0, 1] bcast_S4096x1_S4096x4_0_1),
    StableHlo.TRef.unary (.of main_call0_v0 : StableHlo.TRef sig ⟨S_, .f32⟩) (.of main_call0_v2 : StableHlo.TRef sig ⟨S4096x4, .f32⟩) (broadcastInDim S4096x4 ![] bcast_S_S4096x4),
    StableHlo.TRef.ternary (.of main_v12 : StableHlo.TRef sig ⟨S4096x4, .i1⟩) (.of main_call0_v1 : StableHlo.TRef sig ⟨S4096x4, .f32⟩) (.of main_call0_v2 : StableHlo.TRef sig ⟨S4096x4, .f32⟩) (.of main_v14 : StableHlo.TRef sig ⟨S4096x4, .f32⟩) select,
    StableHlo.nullary main_cst_2 (constant S_ .f32 0xFF800000#32),
    StableHlo.binary main_v14 main_cst_2 main_v15 ((fun x v => Host.reduce FloatOps.maximumf x v reducesTo_S4096x4_S4_d0 h_S_) : (⟨S4096x4, .f32⟩ : BufTy).Contents (Elt F) → (⟨S_, .f32⟩ : BufTy).Contents (Elt F) → (⟨S4, .f32⟩ : BufTy).Contents (Elt F)),
    StableHlo.unary main_v6 main_v16 (broadcastInDim S4096x1 ![0] bcast_S4096_S4096x1_0 : (⟨S4096, .f32⟩ : BufTy).Contents (Elt F) → (⟨S4096x1, .f32⟩ : BufTy).Contents (Elt F)),
    StableHlo.unary main_v16 main_v17 (Host.negf : (⟨S4096x1, .f32⟩ : BufTy).Contents (Elt F) → (⟨S4096x1, .f32⟩ : BufTy).Contents (Elt F)),
    StableHlo.nullary main_cst_3 (constant S_ .f32 0xFF800000#32),
    StableHlo.TRef.unary (.of main_cst_3 : StableHlo.TRef sig ⟨S_, .f32⟩) (.of main_call1_v0 : StableHlo.TRef sig ⟨S_, .f32⟩) id,
    StableHlo.TRef.unary (.of main_v17 : StableHlo.TRef sig ⟨S4096x1, .f32⟩) (.of main_call1_v1 : StableHlo.TRef sig ⟨S4096x4, .f32⟩) (broadcastInDim S4096x4 ![0, 1] bcast_S4096x1_S4096x4_0_1),
    StableHlo.TRef.unary (.of main_call1_v0 : StableHlo.TRef sig ⟨S_, .f32⟩) (.of main_call1_v2 : StableHlo.TRef sig ⟨S4096x4, .f32⟩) (broadcastInDim S4096x4 ![] bcast_S_S4096x4),
    StableHlo.TRef.ternary (.of main_v12 : StableHlo.TRef sig ⟨S4096x4, .i1⟩) (.of main_call1_v1 : StableHlo.TRef sig ⟨S4096x4, .f32⟩) (.of main_call1_v2 : StableHlo.TRef sig ⟨S4096x4, .f32⟩) (.of main_v18 : StableHlo.TRef sig ⟨S4096x4, .f32⟩) select,
    StableHlo.nullary main_cst_4 (constant S_ .f32 0xFF800000#32),
    StableHlo.binary main_v18 main_cst_4 main_v19 ((fun x v => Host.reduce FloatOps.maximumf x v reducesTo_S4096x4_S4_d0 h_S_) : (⟨S4096x4, .f32⟩ : BufTy).Contents (Elt F) → (⟨S_, .f32⟩ : BufTy).Contents (Elt F) → (⟨S4, .f32⟩ : BufTy).Contents (Elt F)),
    StableHlo.unary main_v19 main_v20 (Host.negf : (⟨S4, .f32⟩ : BufTy).Contents (Elt F) → (⟨S4, .f32⟩ : BufTy).Contents (Elt F)) ]

/-- The operations of the piece: the score rescaled to its group. -/
abbrev visB : List (HloOp τ sig (Elt F)) :=
  [ StableHlo.nullary main_c (constantI S_ 32 0#32),
    StableHlo.unary main_c main_v21 (broadcastInDim S4096 ![] bcast_S_S4096 : (⟨S_, .i32⟩ : BufTy).Contents (Elt F) → (⟨S4096, .i32⟩ : BufTy).Contents (Elt F)),
    StableHlo.binary main_arg5 main_v21 main_v22 (cmpi .slt : (⟨S4096, .i32⟩ : BufTy).Contents (Elt F) → (⟨S4096, .i32⟩ : BufTy).Contents (Elt F) → (⟨S4096, .i1⟩ : BufTy).Contents (Elt F)),
    StableHlo.nullary main_c_5 (constantI S_ 32 4#32),
    StableHlo.unary main_c_5 main_v23 (broadcastInDim S4096 ![] bcast_S_S4096 : (⟨S_, .i32⟩ : BufTy).Contents (Elt F) → (⟨S4096, .i32⟩ : BufTy).Contents (Elt F)),
    StableHlo.binary main_arg5 main_v23 main_v24 (addi : (⟨S4096, .i32⟩ : BufTy).Contents (Elt F) → (⟨S4096, .i32⟩ : BufTy).Contents (Elt F) → (⟨S4096, .i32⟩ : BufTy).Contents (Elt F)),
    StableHlo.ternary main_v22 main_v24 main_arg5 main_v25 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v25 main_v26 (broadcastInDim S4096x1 ![0] bcast_S4096_S4096x1_0 : (⟨S4096, .i32⟩ : BufTy).Contents (Elt F) → (⟨S4096x1, .i32⟩ : BufTy).Contents (Elt F)),
    StableHlo.binary main_v20 main_v26 main_v27 ((fun x i => Host.gather gather_S4_S4096x1_S4096_n_0_n_n_0_1_1 x i) : (⟨S4, .f32⟩ : BufTy).Contents (Elt F) → (⟨S4096x1, .i32⟩ : BufTy).Contents (Elt F) → (⟨S4096, .f32⟩ : BufTy).Contents (Elt F)),
    StableHlo.binary main_v6 main_v27 main_v28 (subf : (⟨S4096, .f32⟩ : BufTy).Contents (Elt F) → (⟨S4096, .f32⟩ : BufTy).Contents (Elt F) → (⟨S4096, .f32⟩ : BufTy).Contents (Elt F)),
    StableHlo.nullary main_c_6 (constantI S_ 32 0#32),
    StableHlo.unary main_c_6 main_v29 (broadcastInDim S4096 ![] bcast_S_S4096 : (⟨S_, .i32⟩ : BufTy).Contents (Elt F) → (⟨S4096, .i32⟩ : BufTy).Contents (Elt F)),
    StableHlo.binary main_arg5 main_v29 main_v30 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 4#32),
    StableHlo.unary main_c_7 main_v31 (broadcastInDim S4096 ![] bcast_S_S4096 : (⟨S_, .i32⟩ : BufTy).Contents (Elt F) → (⟨S4096, .i32⟩ : BufTy).Contents (Elt F)),
    StableHlo.binary main_arg5 main_v31 main_v32 (addi : (⟨S4096, .i32⟩ : BufTy).Contents (Elt F) → (⟨S4096, .i32⟩ : BufTy).Contents (Elt F) → (⟨S4096, .i32⟩ : BufTy).Contents (Elt F)),
    StableHlo.ternary main_v30 main_v32 main_arg5 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v33 main_v34 (broadcastInDim S4096x1 ![0] bcast_S4096_S4096x1_0 : (⟨S4096, .i32⟩ : BufTy).Contents (Elt F) → (⟨S4096x1, .i32⟩ : BufTy).Contents (Elt F)),
    StableHlo.binary main_v15 main_v34 main_v35 ((fun x i => Host.gather gather_S4_S4096x1_S4096_n_0_n_n_0_1_1 x i) : (⟨S4, .f32⟩ : BufTy).Contents (Elt F) → (⟨S4096x1, .i32⟩ : BufTy).Contents (Elt F) → (⟨S4096, .f32⟩ : BufTy).Contents (Elt F)),
    StableHlo.nullary main_c_8 (constantI S_ 32 0#32),
    StableHlo.unary main_c_8 main_v36 (broadcastInDim S4096 ![] bcast_S_S4096 : (⟨S_, .i32⟩ : BufTy).Contents (Elt F) → (⟨S4096, .i32⟩ : BufTy).Contents (Elt F)),
    StableHlo.binary main_arg5 main_v36 main_v37 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 4#32),
    StableHlo.unary main_c_9 main_v38 (broadcastInDim S4096 ![] bcast_S_S4096 : (⟨S_, .i32⟩ : BufTy).Contents (Elt F) → (⟨S4096, .i32⟩ : BufTy).Contents (Elt F)),
    StableHlo.binary main_arg5 main_v38 main_v39 (addi : (⟨S4096, .i32⟩ : BufTy).Contents (Elt F) → (⟨S4096, .i32⟩ : BufTy).Contents (Elt F) → (⟨S4096, .i32⟩ : BufTy).Contents (Elt F)),
    StableHlo.ternary main_v37 main_v39 main_arg5 main_v40 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v40 main_v41 (broadcastInDim S4096x1 ![0] bcast_S4096_S4096x1_0 : (⟨S4096, .i32⟩ : BufTy).Contents (Elt F) → (⟨S4096x1, .i32⟩ : BufTy).Contents (Elt F)),
    StableHlo.binary main_v20 main_v41 main_v42 ((fun x i => Host.gather gather_S4_S4096x1_S4096_n_0_n_n_0_1_1 x i) : (⟨S4, .f32⟩ : BufTy).Contents (Elt F) → (⟨S4096x1, .i32⟩ : BufTy).Contents (Elt F) → (⟨S4096, .f32⟩ : BufTy).Contents (Elt F)),
    StableHlo.binary main_v35 main_v42 main_v43 (subf : (⟨S4096, .f32⟩ : BufTy).Contents (Elt F) → (⟨S4096, .f32⟩ : BufTy).Contents (Elt F) → (⟨S4096, .f32⟩ : BufTy).Contents (Elt F)),
    StableHlo.binary main_v28 main_v43 main_v44 (Host.divf : (⟨S4096, .f32⟩ : BufTy).Contents (Elt F) → (⟨S4096, .f32⟩ : BufTy).Contents (Elt F) → (⟨S4096, .f32⟩ : BufTy).Contents (Elt F)),
    StableHlo.unary main_v44 main_v45 (broadcastInDim S4096x1 ![0] bcast_S4096_S4096x1_0 : (⟨S4096, .f32⟩ : BufTy).Contents (Elt F) → (⟨S4096x1, .f32⟩ : BufTy).Contents (Elt F)) ]

/-- The operations of the piece: the norms of the vertex features. -/
abbrev cosA : List (HloOp τ sig (Elt F)) :=
  [ StableHlo.TRef.binary (.of main_arg2 : StableHlo.TRef sig ⟨S4096x64, .f32⟩) (.of main_arg2 : StableHlo.TRef sig ⟨S4096x64, .f32⟩) (.of main_call2_v0 : StableHlo.TRef sig ⟨S4096x64, .f32⟩) mulf,
    StableHlo.TRef.nullary (.of main_call2_cst : StableHlo.TRef sig ⟨S_, .f32⟩) (constant S_ .f32 0x00000000#32),
    StableHlo.TRef.binary (.of main_call2_v0 : StableHlo.TRef sig ⟨S4096x64, .f32⟩) (.of main_call2_cst : StableHlo.TRef sig ⟨S_, .f32⟩) (.of main_call2_v1 : StableHlo.TRef sig ⟨S4096, .f32⟩) (fun x v => Host.reduceAdd x v reducesTo_S4096x64_S4096_d1 h_S_),
    StableHlo.TRef.unary (.of main_call2_v1 : StableHlo.TRef sig ⟨S4096, .f32⟩) (.of main_call2_v2 : StableHlo.TRef sig ⟨S4096x1, .f32⟩) (broadcastInDim S4096x1 ![0] bcast_S4096_S4096x1_0),
    StableHlo.TRef.unary (.of main_call2_v2 : StableHlo.TRef sig ⟨S4096x1, .f32⟩) (.of main_v46 : StableHlo.TRef sig ⟨S4096x1, .f32⟩) Host.sqrt,
    StableHlo.nullary main_cst_10 (constant S_ .f32 0x2B8CBCCC#32) ]

/-- The operations of the piece: the cosines between vertices and points, kept within a group. -/
abbrev cosB : List (HloOp τ sig (Elt F)) :=
  [ StableHlo.unary main_cst_10 main_v47 (broadcastInDim S4096x1 ![] bcast_S_S4096x1 : (⟨S_, .f32⟩ : BufTy).Contents (Elt F) → (⟨S4096x1, .f32⟩ : BufTy).Contents (Elt F)),
    StableHlo.binary main_v46 main_v47 main_v48 (addf : (⟨S4096x1, .f32⟩ : BufTy).Contents (Elt F) → (⟨S4096x1, .f32⟩ : BufTy).Contents (Elt F) → (⟨S4096x1, .f32⟩ : BufTy).Contents (Elt F)),
    StableHlo.unary main_v48 main_v49 (broadcastInDim S4096x64 ![0, 1] bcast_S4096x1_S4096x64_0_1 : (⟨S4096x1, .f32⟩ : BufTy).Contents (Elt F) → (⟨S4096x64, .f32⟩ : BufTy).Contents (Elt F)),
    StableHlo.binary main_arg2 main_v49 main_v50 (Host.divf : (⟨S4096x64, .f32⟩ : BufTy).Contents (Elt F) → (⟨S4096x64, .f32⟩ : BufTy).Contents (Elt F) → (⟨S4096x64, .f32⟩ : BufTy).Contents (Elt F)),
    StableHlo.TRef.binary (.of main_arg3 : StableHlo.TRef sig ⟨S8192x64, .f32⟩) (.of main_arg3 : StableHlo.TRef sig ⟨S8192x64, .f32⟩) (.of main_call3_v0 : StableHlo.TRef sig ⟨S8192x64, .f32⟩) mulf,
    StableHlo.TRef.nullary (.of main_call3_cst : StableHlo.TRef sig ⟨S_, .f32⟩) (constant S_ .f32 0x00000000#32),
    StableHlo.TRef.binary (.of main_call3_v0 : StableHlo.TRef sig ⟨S8192x64, .f32⟩) (.of main_call3_cst : StableHlo.TRef sig ⟨S_, .f32⟩) (.of main_call3_v1 : StableHlo.TRef sig ⟨S8192, .f32⟩) (fun x v => Host.reduceAdd x v reducesTo_S8192x64_S8192_d1 h_S_),
    StableHlo.TRef.unary (.of main_call3_v1 : StableHlo.TRef sig ⟨S8192, .f32⟩) (.of main_call3_v2 : StableHlo.TRef sig ⟨S8192x1, .f32⟩) (broadcastInDim S8192x1 ![0] bcast_S8192_S8192x1_0),
    StableHlo.TRef.unary (.of main_call3_v2 : StableHlo.TRef sig ⟨S8192x1, .f32⟩) (.of main_v51 : StableHlo.TRef sig ⟨S8192x1, .f32⟩) Host.sqrt,
    StableHlo.nullary main_cst_11 (constant S_ .f32 0x2B8CBCCC#32),
    StableHlo.unary main_cst_11 main_v52 (broadcastInDim S8192x1 ![] bcast_S_S8192x1 : (⟨S_, .f32⟩ : BufTy).Contents (Elt F) → (⟨S8192x1, .f32⟩ : BufTy).Contents (Elt F)),
    StableHlo.binary main_v51 main_v52 main_v53 (addf : (⟨S8192x1, .f32⟩ : BufTy).Contents (Elt F) → (⟨S8192x1, .f32⟩ : BufTy).Contents (Elt F) → (⟨S8192x1, .f32⟩ : BufTy).Contents (Elt F)),
    StableHlo.unary main_v53 main_v54 (broadcastInDim S8192x64 ![0, 1] bcast_S8192x1_S8192x64_0_1 : (⟨S8192x1, .f32⟩ : BufTy).Contents (Elt F) → (⟨S8192x64, .f32⟩ : BufTy).Contents (Elt F)),
    StableHlo.binary main_arg3 main_v54 main_v55 (Host.divf : (⟨S8192x64, .f32⟩ : BufTy).Contents (Elt F) → (⟨S8192x64, .f32⟩ : BufTy).Contents (Elt F) → (⟨S8192x64, .f32⟩ : BufTy).Contents (Elt F)),
    StableHlo.unary main_v55 main_v56 ((transpose S64x8192 [1, 0] · transposes_S8192x64_S64x8192_1_0) : (⟨S8192x64, .f32⟩ : BufTy).Contents (Elt F) → (⟨S64x8192, .f32⟩ : BufTy).Contents (Elt F)),
    StableHlo.binary main_v50 main_v56 main_v57 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
    StableHlo.unary main_arg5 main_v58 (broadcastInDim S4096x1 ![0] bcast_S4096_S4096x1_0 : (⟨S4096, .i32⟩ : BufTy).Contents (Elt F) → (⟨S4096x1, .i32⟩ : BufTy).Contents (Elt F)),
    StableHlo.unary main_arg6 main_v59 (broadcastInDim S1x8192 ![1] bcast_S8192_S1x8192_1 : (⟨S8192, .i32⟩ : BufTy).Contents (Elt F) → (⟨S1x8192, .i32⟩ : BufTy).Contents (Elt F)),
    StableHlo.unary main_v58 main_v60 (broadcastInDim S4096x8192 ![0, 1] bcast_S4096x1_S4096x8192_0_1 : (⟨S4096x1, .i32⟩ : BufTy).Contents (Elt F) → (⟨S4096x8192, .i32⟩ : BufTy).Contents (Elt F)),
    StableHlo.unary main_v59 main_v61 (broadcastInDim S4096x8192 ![0, 1] bcast_S1x8192_S4096x8192_0_1 : (⟨S1x8192, .i32⟩ : BufTy).Contents (Elt F) → (⟨S4096x8192, .i32⟩ : BufTy).Contents (Elt F)),
    StableHlo.binary main_v60 main_v61 main_v62 (cmpi .eq : (⟨S4096x8192, .i32⟩ : BufTy).Contents (Elt F) → (⟨S4096x8192, .i32⟩ : BufTy).Contents (Elt F) → (⟨S4096x8192, .i1⟩ : BufTy).Contents (Elt F)),
    StableHlo.nullary main_cst_12 (constant S_ .f32 0xF149F2CA#32),
    StableHlo.TRef.unary (.of main_cst_12 : StableHlo.TRef sig ⟨S_, .f32⟩) (.of main_call4_v0 : StableHlo.TRef sig ⟨S4096x8192, .f32⟩) (broadcastInDim S4096x8192 ![] bcast_S_S4096x8192),
    StableHlo.TRef.ternary (.of main_v62 : StableHlo.TRef sig ⟨S4096x8192, .i1⟩) (.of main_v57 : StableHlo.TRef sig ⟨S4096x8192, .f32⟩) (.of main_call4_v0 : StableHlo.TRef sig ⟨S4096x8192, .f32⟩) (.of main_v63 : StableHlo.TRef sig ⟨S4096x8192, .f32⟩) select ]

/-- The operations of the piece: the flow of a vertex as a weighted mean over its eight most similar points. -/
abbrev flowA : List (HloOp τ sig (Elt F)) :=
  [ StableHlo.unary main_v63 main_values ((fun x => (Host.topK S4096x8 1 (FloatOps.cmpfTotal .gt) x sliceFits_S4096x8192_S4096x8).1) : (⟨S4096x8192, .f32⟩ : BufTy).Contents (Elt F) → (⟨S4096x8, .f32⟩ : BufTy).Contents (Elt F)),
    StableHlo.unary main_v63 main_indices ((fun x => (Host.topK S4096x8 1 (FloatOps.cmpfTotal .gt) x sliceFits_S4096x8192_S4096x8).2) : (⟨S4096x8192, .f32⟩ : BufTy).Contents (Elt F) → (⟨S4096x8, .i32⟩ : BufTy).Contents (Elt F)),
    StableHlo.nullary main_c_13 (constantI S_ 32 0#32),
    StableHlo.unary main_c_13 main_v64 (broadcastInDim S4096x8 ![] bcast_S_S4096x8 : (⟨S_, .i32⟩ : BufTy).Contents (Elt F) → (⟨S4096x8, .i32⟩ : BufTy).Contents (Elt F)),
    StableHlo.binary main_indices main_v64 main_v65 (cmpi .slt : (⟨S4096x8, .i32⟩ : BufTy).Contents (Elt F) → (⟨S4096x8, .i32⟩ : BufTy).Contents (Elt F) → (⟨S4096x8, .i1⟩ : BufTy).Contents (Elt F)),
    StableHlo.nullary main_c_14 (constantI S_ 32 8192#32),
    StableHlo.unary main_c_14 main_v66 (broadcastInDim S4096x8 ![] bcast_S_S4096x8 : (⟨S_, .i32⟩ : BufTy).Contents (Elt F) → (⟨S4096x8, .i32⟩ : BufTy).Contents (Elt F)),
    StableHlo.binary main_indices main_v66 main_v67 (addi : (⟨S4096x8, .i32⟩ : BufTy).Contents (Elt F) → (⟨S4096x8, .i32⟩ : BufTy).Contents (Elt F) → (⟨S4096x8, .i32⟩ : BufTy).Contents (Elt F)),
    StableHlo.ternary main_v65 main_v67 main_indices main_v68 (select : (⟨S4096x8, .i1⟩ : BufTy).Contents (Elt F) → (⟨S4096x8, .i32⟩ : BufTy).Contents (Elt F) → (⟨S4096x8, .i32⟩ : BufTy).Contents (Elt F) → (⟨S4096x8, .i32⟩ : BufTy).Contents (Elt F)),
    StableHlo.unary main_v68 main_v69 (broadcastInDim S4096x8x1 ![0, 1] bcast_S4096x8_S4096x8x1_0_1 : (⟨S4096x8, .i32⟩ : BufTy).Contents (Elt F) → (⟨S4096x8x1, .i32⟩ : BufTy).Contents (Elt F)),
    StableHlo.binary main_arg1 main_v69 main_v70 ((fun x i => Host.gather gather_S8192x3_S4096x8x1_S4096x8x3_2_0_n_n_0_2_13 x i) : (⟨S8192x3, .f32⟩ : BufTy).Contents (Elt F) → (⟨S4096x8x1, .i32⟩ : BufTy).Contents (Elt F) → (⟨S4096x8x3, .f32⟩ : BufTy).Contents (Elt F)),
    StableHlo.unary main_arg0 main_v71 (broadcastInDim S4096x1x3 ![0, 2] bcast_S4096x3_S4096x1x3_0_2 : (⟨S4096x3, .f32⟩ : BufTy).Contents (Elt F) → (⟨S4096x1x3, .f32⟩ : BufTy).Contents (Elt F)),
    StableHlo.unary main_v71 main_v72 (broadcastInDim S4096x8x3 ![0, 1, 2] bcast_S4096x1x3_S4096x8x3_0_1_2 : (⟨S4096x1x3, .f32⟩ : BufTy).Contents (Elt F) → (⟨S4096x8x3, .f32⟩ : BufTy).Contents (Elt F)),
    StableHlo.binary main_v70 main_v72 main_v73 (subf : (⟨S4096x8x3, .f32⟩ : BufTy).Contents (Elt F) → (⟨S4096x8x3, .f32⟩ : BufTy).Contents (Elt F) → (⟨S4096x8x3, .f32⟩ : BufTy).Contents (Elt F)),
    StableHlo.nullary main_c_15 (constantI S_ 32 0#32),
    StableHlo.unary main_c_15 main_v74 (broadcastInDim S4096x8 ![] bcast_S_S4096x8 : (⟨S_, .i32⟩ : BufTy).Contents (Elt F) → (⟨S4096x8, .i32⟩ : BufTy).Contents (Elt F)),
    StableHlo.binary main_indices main_v74 main_v75 (cmpi .slt : (⟨S4096x8, .i32⟩ : BufTy).Contents (Elt F) → (⟨S4096x8, .i32⟩ : BufTy).Contents (Elt F) → (⟨S4096x8, .i1⟩ : BufTy).Contents (Elt F)),
    StableHlo.nullary main_c_16 (constantI S_ 32 8192#32),
    StableHlo.unary main_c_16 main_v76 (broadcastInDim S4096x8 ![] bcast_S_S4096x8 : (⟨S_, .i32⟩ : BufTy).Contents (Elt F) → (⟨S4096x8, .i32⟩ : BufTy).Contents (Elt F)),
    StableHlo.binary main_indices main_v76 main_v77 (addi : (⟨S4096x8, .i32⟩ : BufTy).Contents (Elt F) → (⟨S4096x8, .i32⟩ : BufTy).Contents (Elt F) → (⟨S4096x8, .i32⟩ : BufTy).Contents (Elt F)),
    StableHlo.ternary main_v75 main_v77 main_indices main_v78 (select : (⟨S4096x8, .i1⟩ : BufTy).Contents (Elt F) → (⟨S4096x8, .i32⟩ : BufTy).Contents (Elt F) → (⟨S4096x8, .i32⟩ : BufTy).Contents (Elt F) → (⟨S4096x8, .i32⟩ : BufTy).Contents (Elt F)),
    StableHlo.unary main_v78 main_v79 (broadcastInDim S4096x8x1 ![0, 1] bcast_S4096x8_S4096x8x1_0_1 : (⟨S4096x8, .i32⟩ : BufTy).Contents (Elt F) → (⟨S4096x8x1, .i32⟩ : BufTy).Contents (Elt F)),
    StableHlo.binary main_arg3 main_v79 main_v80 ((fun x i => Host.gather gather_S8192x64_S4096x8x1_S4096x8x64_2_0_n_n_0_2_164 x i) : (⟨S8192x64, .f32⟩ : BufTy).Contents (Elt F) → (⟨S4096x8x1, .i32⟩ : BufTy).Contents (Elt F) → (⟨S4096x8x64, .f32⟩ : BufTy).Contents (Elt F)),
    StableHlo.unary main_arg2 main_v81 (broadcastInDim S4096x1x64 ![0, 2] bcast_S4096x64_S4096x1x64_0_2 : (⟨S4096x64, .f32⟩ : BufTy).Contents (Elt F) → (⟨S4096x1x64, .f32⟩ : BufTy).Contents (Elt F)),
    StableHlo.unary main_v81 main_v82 (broadcastInDim S4096x8x64 ![0, 1, 2] bcast_S4096x1x64_S4096x8x64_0_1_2 : (⟨S4096x1x64, .f32⟩ : BufTy).Contents (Elt F) → (⟨S4096x8x64, .f32⟩ : BufTy).Contents (Elt F)),
    StableHlo.binary main_v80 main_v82 main_v83 (mulf : (⟨S4096x8x64, .f32⟩ : BufTy).Contents (Elt F) → (⟨S4096x8x64, .f32⟩ : BufTy).Contents (Elt F) → (⟨S4096x8x64, .f32⟩ : BufTy).Contents (Elt F)),
    StableHlo.nullary main_cst_17 (constant S_ .f32 0x00000000#32),
    StableHlo.binary main_v83 main_cst_17 main_v84 ((fun x v => Host.reduceAdd x v reducesTo_S4096x8x64_S4096x8_d2 h_S_) : (⟨S4096x8x64, .f32⟩ : BufTy).Contents (Elt F) → (⟨S_, .f32⟩ : BufTy).Contents (Elt F) → (⟨S4096x8, .f32⟩ : BufTy).Contents (Elt F)),
    StableHlo.unary main_v84 main_v85 (broadcastInDim S4096x8x1 ![0, 1] bcast_S4096x8_S4096x8x1_0_1 : (⟨S4096x8, .f32⟩ : BufTy).Contents (Elt F) → (⟨S4096x8x1, .f32⟩ : BufTy).Contents (Elt F)),
    StableHlo.unary main_v45 main_v86 (broadcastInDim S4096x1x1 ![0, 2] bcast_S4096x1_S4096x1x1_0_2 : (⟨S4096x1, .f32⟩ : BufTy).Contents (Elt F) → (⟨S4096x1x1, .f32⟩ : BufTy).Contents (Elt F)),
    StableHlo.unary main_v86 main_v87 (broadcastInDim S4096x8x1 ![0, 1, 2] bcast_S4096x1x1_S4096x8x1_0_1_2 : (⟨S4096x1x1, .f32⟩ : BufTy).Contents (Elt F) → (⟨S4096x8x1, .f32⟩ : BufTy).Contents (Elt F)),
    StableHlo.binary main_v85 main_v87 main_v88 (mulf : (⟨S4096x8x1, .f32⟩ : BufTy).Contents (Elt F) → (⟨S4096x8x1, .f32⟩ : BufTy).Contents (Elt F) → (⟨S4096x8x1, .f32⟩ : BufTy).Contents (Elt F)),
    StableHlo.unary main_v88 main_v89 (broadcastInDim S4096x8x3 ![0, 1, 2] bcast_S4096x8x1_S4096x8x3_0_1_2 : (⟨S4096x8x1, .f32⟩ : BufTy).Contents (Elt F) → (⟨S4096x8x3, .f32⟩ : BufTy).Contents (Elt F)),
    StableHlo.binary main_v73 main_v89 main_v90 (mulf : (⟨S4096x8x3, .f32⟩ : BufTy).Contents (Elt F) → (⟨S4096x8x3, .f32⟩ : BufTy).Contents (Elt F) → (⟨S4096x8x3, .f32⟩ : BufTy).Contents (Elt F)),
    StableHlo.nullary main_cst_18 (constant S_ .f32 0x00000000#32),
    StableHlo.binary main_v90 main_cst_18 main_v91 ((fun x v => Host.reduceAdd x v reducesTo_S4096x8x3_S4096x3_d1 h_S_) : (⟨S4096x8x3, .f32⟩ : BufTy).Contents (Elt F) → (⟨S_, .f32⟩ : BufTy).Contents (Elt F) → (⟨S4096x3, .f32⟩ : BufTy).Contents (Elt F)),
    StableHlo.nullary main_cst_19 (constant S_ .f32 0x00000000#32),
    StableHlo.binary main_v88 main_cst_19 main_v92 ((fun x v => Host.reduceAdd x v reducesTo_S4096x8x1_S4096x1_d1 h_S_) : (⟨S4096x8x1, .f32⟩ : BufTy).Contents (Elt F) → (⟨S_, .f32⟩ : BufTy).Contents (Elt F) → (⟨S4096x1, .f32⟩ : BufTy).Contents (Elt F)),
    StableHlo.unary main_v92 main_v93 (broadcastInDim S4096x3 ![0, 1] bcast_S4096x1_S4096x3_0_1 : (⟨S4096x1, .f32⟩ : BufTy).Contents (Elt F) → (⟨S4096x3, .f32⟩ : BufTy).Contents (Elt F)),
    StableHlo.binary main_v91 main_v93 main_v94 (Host.divf : (⟨S4096x3, .f32⟩ : BufTy).Contents (Elt F) → (⟨S4096x3, .f32⟩ : BufTy).Contents (Elt F) → (⟨S4096x3, .f32⟩ : BufTy).Contents (Elt F)),
    StableHlo.reshape main_v45 main_v95 (rfl : (.f32 : EltTy) = .f32) shapeCasts_S4096x1_S4096 ]

/-- The operations of the piece: the cosines between vertices, kept within a group at visible vertices. -/
abbrev selB : List (HloOp τ sig (Elt F)) :=
  [ StableHlo.nullary main_cst_20 (constant S_ .f32 0x3F000000#32),
    StableHlo.unary main_cst_20 main_v96 (broadcastInDim S4096 ![] bcast_S_S4096 : (⟨S_, .f32⟩ : BufTy).Contents (Elt F) → (⟨S4096, .f32⟩ : BufTy).Contents (Elt F)),
    StableHlo.binary main_v95 main_v96 main_v97 (cmpf .oge : (⟨S4096, .f32⟩ : BufTy).Contents (Elt F) → (⟨S4096, .f32⟩ : BufTy).Contents (Elt F) → (⟨S4096, .i1⟩ : BufTy).Contents (Elt F)),
    StableHlo.unary main_v50 main_v98 ((transpose S64x4096 [1, 0] · transposes_S4096x64_S64x4096_1_0) : (⟨S4096x64, .f32⟩ : BufTy).Contents (Elt F) → (⟨S64x4096, .f32⟩ : BufTy).Contents (Elt F)),
    StableHlo.binary main_v50 main_v98 main_v99 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)),
    StableHlo.unary main_arg5 main_v100 (broadcastInDim S4096x1 ![0] bcast_S4096_S4096x1_0 : (⟨S4096, .i32⟩ : BufTy).Contents (Elt F) → (⟨S4096x1, .i32⟩ : BufTy).Contents (Elt F)),
    StableHlo.unary main_arg5 main_v101 (broadcastInDim S1x4096 ![1] bcast_S4096_S1x4096_1 : (⟨S4096, .i32⟩ : BufTy).Contents (Elt F) → (⟨S1x4096, .i32⟩ : BufTy).Contents (Elt F)),
    StableHlo.unary main_v100 main_v102 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v101 main_v103 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v102 main_v103 main_v104 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v97 main_v105 (broadcastInDim S1x4096 ![1] bcast_S4096_S1x4096_1 : (⟨S4096, .i1⟩ : BufTy).Contents (Elt F) → (⟨S1x4096, .i1⟩ : BufTy).Contents (Elt F)),
    StableHlo.unary main_v105 main_v106 (broadcastInDim S4096x4096 ![0, 1] bcast_S1x4096_S4096x4096_0_1 : (⟨S1x4096, .i1⟩ : BufTy).Contents (Elt F) → (⟨S4096x4096, .i1⟩ : BufTy).Contents (Elt F)),
    StableHlo.binary main_v104 main_v106 main_v107 (andi : (⟨S4096x4096, .i1⟩ : BufTy).Contents (Elt F) → (⟨S4096x4096, .i1⟩ : BufTy).Contents (Elt F) → (⟨S4096x4096, .i1⟩ : BufTy).Contents (Elt F)),
    StableHlo.nullary main_cst_21 (constant S_ .f32 0xF149F2CA#32),
    StableHlo.TRef.unary (.of main_cst_21 : StableHlo.TRef sig ⟨S_, .f32⟩) (.of main_call5_v0 : StableHlo.TRef sig ⟨S4096x4096, .f32⟩) (broadcastInDim S4096x4096 ![] bcast_S_S4096x4096),
    StableHlo.TRef.ternary (.of main_v107 : StableHlo.TRef sig ⟨S4096x4096, .i1⟩) (.of main_v99 : StableHlo.TRef sig ⟨S4096x4096, .f32⟩) (.of main_call5_v0 : StableHlo.TRef sig ⟨S4096x4096, .f32⟩) (.of main_v108 : StableHlo.TRef sig ⟨S4096x4096, .f32⟩) select ]

/-- The operations of the piece: the flow of the invisible vertices, and the result. -/
abbrev flowB : List (HloOp τ sig (Elt F)) :=
  [ StableHlo.unary main_v108 main_values_22 ((fun x => (Host.topK S4096x8 1 (FloatOps.cmpfTotal .gt) x sliceFits_S4096x4096_S4096x8).1) : (⟨S4096x4096, .f32⟩ : BufTy).Contents (Elt F) → (⟨S4096x8, .f32⟩ : BufTy).Contents (Elt F)),
    StableHlo.unary main_v108 main_indices_23 ((fun x => (Host.topK S4096x8 1 (FloatOps.cmpfTotal .gt) x sliceFits_S4096x4096_S4096x8).2) : (⟨S4096x4096, .f32⟩ : BufTy).Contents (Elt F) → (⟨S4096x8, .i32⟩ : BufTy).Contents (Elt F)),
    StableHlo.nullary main_c_24 (constantI S_ 32 0#32),
    StableHlo.unary main_c_24 main_v109 (broadcastInDim S4096x8 ![] bcast_S_S4096x8 : (⟨S_, .i32⟩ : BufTy).Contents (Elt F) → (⟨S4096x8, .i32⟩ : BufTy).Contents (Elt F)),
    StableHlo.binary main_indices_23 main_v109 main_v110 (cmpi .slt : (⟨S4096x8, .i32⟩ : BufTy).Contents (Elt F) → (⟨S4096x8, .i32⟩ : BufTy).Contents (Elt F) → (⟨S4096x8, .i1⟩ : BufTy).Contents (Elt F)),
    StableHlo.nullary main_c_25 (constantI S_ 32 4096#32),
    StableHlo.unary main_c_25 main_v111 (broadcastInDim S4096x8 ![] bcast_S_S4096x8 : (⟨S_, .i32⟩ : BufTy).Contents (Elt F) → (⟨S4096x8, .i32⟩ : BufTy).Contents (Elt F)),
    StableHlo.binary main_indices_23 main_v111 main_v112 (addi : (⟨S4096x8, .i32⟩ : BufTy).Contents (Elt F) → (⟨S4096x8, .i32⟩ : BufTy).Contents (Elt F) → (⟨S4096x8, .i32⟩ : BufTy).Contents (Elt F)),
    StableHlo.ternary main_v110 main_v112 main_indices_23 main_v113 (select : (⟨S4096x8, .i1⟩ : BufTy).Contents (Elt F) → (⟨S4096x8, .i32⟩ : BufTy).Contents (Elt F) → (⟨S4096x8, .i32⟩ : BufTy).Contents (Elt F) → (⟨S4096x8, .i32⟩ : BufTy).Contents (Elt F)),
    StableHlo.unary main_v113 main_v114 (broadcastInDim S4096x8x1 ![0, 1] bcast_S4096x8_S4096x8x1_0_1 : (⟨S4096x8, .i32⟩ : BufTy).Contents (Elt F) → (⟨S4096x8x1, .i32⟩ : BufTy).Contents (Elt F)),
    StableHlo.binary main_arg2 main_v114 main_v115 ((fun x i => Host.gather gather_S4096x64_S4096x8x1_S4096x8x64_2_0_n_n_0_2_164 x i) : (⟨S4096x64, .f32⟩ : BufTy).Contents (Elt F) → (⟨S4096x8x1, .i32⟩ : BufTy).Contents (Elt F) → (⟨S4096x8x64, .f32⟩ : BufTy).Contents (Elt F)),
    StableHlo.unary main_arg2 main_v116 (broadcastInDim S4096x1x64 ![0, 2] bcast_S4096x64_S4096x1x64_0_2 : (⟨S4096x64, .f32⟩ : BufTy).Contents (Elt F) → (⟨S4096x1x64, .f32⟩ : BufTy).Contents (Elt F)),
    StableHlo.unary main_v116 main_v117 (broadcastInDim S4096x8x64 ![0, 1, 2] bcast_S4096x1x64_S4096x8x64_0_1_2 : (⟨S4096x1x64, .f32⟩ : BufTy).Contents (Elt F) → (⟨S4096x8x64, .f32⟩ : BufTy).Contents (Elt F)),
    StableHlo.binary main_v115 main_v117 main_v118 (mulf : (⟨S4096x8x64, .f32⟩ : BufTy).Contents (Elt F) → (⟨S4096x8x64, .f32⟩ : BufTy).Contents (Elt F) → (⟨S4096x8x64, .f32⟩ : BufTy).Contents (Elt F)),
    StableHlo.nullary main_cst_26 (constant S_ .f32 0x00000000#32),
    StableHlo.binary main_v118 main_cst_26 main_v119 ((fun x v => Host.reduceAdd x v reducesTo_S4096x8x64_S4096x8_d2 h_S_) : (⟨S4096x8x64, .f32⟩ : BufTy).Contents (Elt F) → (⟨S_, .f32⟩ : BufTy).Contents (Elt F) → (⟨S4096x8, .f32⟩ : BufTy).Contents (Elt F)),
    StableHlo.unary main_v119 main_v120 (broadcastInDim S4096x8x1 ![0, 1] bcast_S4096x8_S4096x8x1_0_1 : (⟨S4096x8, .f32⟩ : BufTy).Contents (Elt F) → (⟨S4096x8x1, .f32⟩ : BufTy).Contents (Elt F)),
    StableHlo.nullary main_c_27 (constantI S_ 32 0#32),
    StableHlo.unary main_c_27 main_v121 (broadcastInDim S4096x8 ![] bcast_S_S4096x8 : (⟨S_, .i32⟩ : BufTy).Contents (Elt F) → (⟨S4096x8, .i32⟩ : BufTy).Contents (Elt F)),
    StableHlo.binary main_indices_23 main_v121 main_v122 (cmpi .slt : (⟨S4096x8, .i32⟩ : BufTy).Contents (Elt F) → (⟨S4096x8, .i32⟩ : BufTy).Contents (Elt F) → (⟨S4096x8, .i1⟩ : BufTy).Contents (Elt F)),
    StableHlo.nullary main_c_28 (constantI S_ 32 4096#32),
    StableHlo.unary main_c_28 main_v123 (broadcastInDim S4096x8 ![] bcast_S_S4096x8 : (⟨S_, .i32⟩ : BufTy).Contents (Elt F) → (⟨S4096x8, .i32⟩ : BufTy).Contents (Elt F)),
    StableHlo.binary main_indices_23 main_v123 main_v124 (addi : (⟨S4096x8, .i32⟩ : BufTy).Contents (Elt F) → (⟨S4096x8, .i32⟩ : BufTy).Contents (Elt F) → (⟨S4096x8, .i32⟩ : BufTy).Contents (Elt F)),
    StableHlo.ternary main_v122 main_v124 main_indices_23 main_v125 (select : (⟨S4096x8, .i1⟩ : BufTy).Contents (Elt F) → (⟨S4096x8, .i32⟩ : BufTy).Contents (Elt F) → (⟨S4096x8, .i32⟩ : BufTy).Contents (Elt F) → (⟨S4096x8, .i32⟩ : BufTy).Contents (Elt F)),
    StableHlo.unary main_v125 main_v126 (broadcastInDim S4096x8x1 ![0, 1] bcast_S4096x8_S4096x8x1_0_1 : (⟨S4096x8, .i32⟩ : BufTy).Contents (Elt F) → (⟨S4096x8x1, .i32⟩ : BufTy).Contents (Elt F)),
    StableHlo.binary main_v94 main_v126 main_v127 ((fun x i => Host.gather gather_S4096x3_S4096x8x1_S4096x8x3_2_0_n_n_0_2_13 x i) : (⟨S4096x3, .f32⟩ : BufTy).Contents (Elt F) → (⟨S4096x8x1, .i32⟩ : BufTy).Contents (Elt F) → (⟨S4096x8x3, .f32⟩ : BufTy).Contents (Elt F)),
    StableHlo.unary main_v120 main_v128 (broadcastInDim S4096x8x3 ![0, 1, 2] bcast_S4096x8x1_S4096x8x3_0_1_2 : (⟨S4096x8x1, .f32⟩ : BufTy).Contents (Elt F) → (⟨S4096x8x3, .f32⟩ : BufTy).Contents (Elt F)),
    StableHlo.binary main_v127 main_v128 main_v129 (mulf : (⟨S4096x8x3, .f32⟩ : BufTy).Contents (Elt F) → (⟨S4096x8x3, .f32⟩ : BufTy).Contents (Elt F) → (⟨S4096x8x3, .f32⟩ : BufTy).Contents (Elt F)),
    StableHlo.nullary main_cst_29 (constant S_ .f32 0x00000000#32),
    StableHlo.binary main_v129 main_cst_29 main_v130 ((fun x v => Host.reduceAdd x v reducesTo_S4096x8x3_S4096x3_d1 h_S_) : (⟨S4096x8x3, .f32⟩ : BufTy).Contents (Elt F) → (⟨S_, .f32⟩ : BufTy).Contents (Elt F) → (⟨S4096x3, .f32⟩ : BufTy).Contents (Elt F)),
    StableHlo.nullary main_cst_30 (constant S_ .f32 0x00000000#32),
    StableHlo.binary main_v120 main_cst_30 main_v131 ((fun x v => Host.reduceAdd x v reducesTo_S4096x8x1_S4096x1_d1 h_S_) : (⟨S4096x8x1, .f32⟩ : BufTy).Contents (Elt F) → (⟨S_, .f32⟩ : BufTy).Contents (Elt F) → (⟨S4096x1, .f32⟩ : BufTy).Contents (Elt F)),
    StableHlo.unary main_v131 main_v132 (broadcastInDim S4096x3 ![0, 1] bcast_S4096x1_S4096x3_0_1 : (⟨S4096x1, .f32⟩ : BufTy).Contents (Elt F) → (⟨S4096x3, .f32⟩ : BufTy).Contents (Elt F)),
    StableHlo.binary main_v130 main_v132 main_v133 (Host.divf : (⟨S4096x3, .f32⟩ : BufTy).Contents (Elt F) → (⟨S4096x3, .f32⟩ : BufTy).Contents (Elt F) → (⟨S4096x3, .f32⟩ : BufTy).Contents (Elt F)),
    StableHlo.unary main_v97 main_v134 (broadcastInDim S4096x1 ![0] bcast_S4096_S4096x1_0 : (⟨S4096, .i1⟩ : BufTy).Contents (Elt F) → (⟨S4096x1, .i1⟩ : BufTy).Contents (Elt F)),
    StableHlo.TRef.unary (.of main_v134 : StableHlo.TRef sig ⟨S4096x1, .i1⟩) (.of main_call6_v0 : StableHlo.TRef sig ⟨S4096x3, .i1⟩) (broadcastInDim S4096x3 ![0, 1] bcast_S4096x1_S4096x3_0_1),
    StableHlo.TRef.ternary (.of main_call6_v0 : StableHlo.TRef sig ⟨S4096x3, .i1⟩) (.of main_v94 : StableHlo.TRef sig ⟨S4096x3, .f32⟩) (.of main_v133 : StableHlo.TRef sig ⟨S4096x3, .f32⟩) (.of main_v135 : StableHlo.TRef sig ⟨S4096x3, .f32⟩) select,
    StableHlo.binary main_v135 main_v45 main_v136 ((fun a b => concatenate S4096x4 1 [⟨S4096x3, a⟩, ⟨S4096x1, b⟩] concatenates_S4096x3_S4096x1_S4096x4_d1) : (⟨S4096x3, .f32⟩ : BufTy).Contents (Elt F) → (⟨S4096x1, .f32⟩ : BufTy).Contents (Elt F) → (⟨S4096x4, .f32⟩ : BufTy).Contents (Elt F)) ]

/-- The operations the program runs. -/
abbrev opsAll : List (HloOp τ sig (Elt F)) := visA ++ (visB ++ (cosA ++ (cosB ++ (flowA ++ (selB ++ flowB)))))

theorem part0_eq (c : Dev nD) : main_part0 (F := F) c = StableHlo.seq (visA ++ (visB ++ cosA)) := rfl
theorem part1_eq (c : Dev nD) : main_part1 (F := F) c = StableHlo.seq (cosB ++ flowA) := rfl
theorem part2_eq (c : Dev nD) : main_part2 (F := F) c = StableHlo.seq (selB ++ flowB) := rfl

/-- The program is that straight line. -/
theorem main_eq (c : Dev nD) : main (F := F) c = StableHlo.seq opsAll := by
  unfold main
  simp only [part0_eq, part1_eq, part2_eq, opsAll, StableHlo.seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem visA_sub : (visA : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub ..⟩
theorem visA_fresh : ∀ op ∈ (visA : List (HloOp τ sig (Elt F))), op.fresh = ∅ := by
  intro _ h; (repeat (cases h with | head => rfl | tail _ h => ?_)); exact nomatch h

theorem visB_sub : (visB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub ..⟩
theorem visB_fresh : ∀ op ∈ (visB : List (HloOp τ sig (Elt F))), op.fresh = ∅ := by
  intro _ h; (repeat (cases h with | head => rfl | tail _ h => ?_)); exact nomatch h

theorem cosA_sub : (cosA : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.nullary_bufs_sub ..⟩
theorem cosA_fresh : ∀ op ∈ (cosA : List (HloOp τ sig (Elt F))), op.fresh = ∅ := by
  intro _ h; (repeat (cases h with | head => rfl | tail _ h => ?_)); exact nomatch h

theorem cosB_sub : (cosB : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.ternary_bufs_sub ..⟩
theorem cosB_fresh : ∀ op ∈ (cosB : List (HloOp τ sig (Elt F))), op.fresh = ∅ := by
  intro _ h; (repeat (cases h with | head => rfl | tail _ h => ?_)); exact nomatch h

theorem flowA_sub : (flowA : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub .., StableHlo.reshape_bufs_sub ..⟩
theorem flowA_fresh : ∀ op ∈ (flowA : List (HloOp τ sig (Elt F))), op.fresh = ∅ := by
  intro _ h; (repeat (cases h with | head => rfl | tail _ h => ?_)); exact nomatch h

theorem selB_sub : (selB : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.ternary_bufs_sub ..⟩
theorem selB_fresh : ∀ op ∈ (selB : List (HloOp τ sig (Elt F))), op.fresh = ∅ := by
  intro _ h; (repeat (cases h with | head => rfl | tail _ h => ?_)); exact nomatch h

theorem flowB_sub : (flowB : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub .., StableHlo.unary_bufs_sub .., StableHlo.unary_bufs_sub .., StableHlo.ternary_bufs_sub .., StableHlo.binary_bufs_sub ..⟩
theorem flowB_fresh : ∀ op ∈ (flowB : List (HloOp τ sig (Elt F))), op.fresh = ∅ := by
  intro _ h; (repeat (cases h with | head => rfl | tail _ h => ?_)); exact nomatch h

theorem opsAll_sub : (opsAll : List (HloOp τ sig (Elt F))).Forall fun op => op.bufs ⊆ StableHlo.tcRefs τ sig := by
  simp only [opsAll, List.forall_append]
  exact ⟨visA_sub, visB_sub, cosA_sub, cosB_sub, flowA_sub, selB_sub, flowB_sub⟩

theorem opsAll_fresh : ∀ op ∈ (opsAll : List (HloOp τ sig (Elt F))), op.fresh = ∅ := by
  intro op h
  simp only [opsAll, List.mem_append] at h
  rcases h with h | h | h | h | h | h | h
  · exact visA_fresh op h
  · exact visB_fresh op h
  · exact cosA_fresh op h
  · exact cosB_fresh op h
  · exact flowA_fresh op h
  · exact selB_fresh op h
  · exact flowB_fresh op h

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons a l ih => exact ih _

/-- The run, read at any buffer. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after opsAll (StableHlo.launchContents m d) (Proc.devRef .tc b) :=
  StableHlo.run_seq scopedRefs_eq scopedSems_eq defs main (fun _ => opsAll) main_eq (fun _ => opsAll_sub) m ρ
    (fun _ => opsAll_fresh)

end Cert.ReferenceIdeal

end
-- ==== Proof.Ref.Frame.lean ====
/-
  The reference leaves its arguments as they were.
-/
module

public import proofs.«01_k».proof.Proof.Ref.Ops

@[expose] public section

set_option maxRecDepth 16384

noncomputable section

namespace Cert.ReferenceIdeal

open Idealize.ShloMosaic Idealize.ShloMosaic.TcCoe Idealize.SL.Sem
open Cert.ReferenceIdeal.Gen

variable {F : FTy → Type} [FloatOps F]

/-- The references a line of operations does not write keep their contents; the pieces write none of the arguments. -/
abbrev Keeps (ops : List (HloOp τ sig (Elt F))) : Prop :=
  ∀ V : Valuation τ sig (Elt F),
    StableHlo.after ops V (main_arg0 : DevRef τ sig) = V (main_arg0 : DevRef τ sig)
    ∧ StableHlo.after ops V (main_arg1 : DevRef τ sig) = V (main_arg1 : DevRef τ sig)
    ∧ StableHlo.after ops V (main_arg2 : DevRef τ sig) = V (main_arg2 : DevRef τ sig)
    ∧ StableHlo.after ops V (main_arg3 : DevRef τ sig) = V (main_arg3 : DevRef τ sig)
    ∧ StableHlo.after ops V (main_arg4 : DevRef τ sig) = V (main_arg4 : DevRef τ sig)
    ∧ StableHlo.after ops V (main_arg5 : DevRef τ sig) = V (main_arg5 : DevRef τ sig)
    ∧ StableHlo.after ops V (main_arg6 : DevRef τ sig) = V (main_arg6 : DevRef τ sig)

theorem Keeps.append {a b : List (HloOp τ sig (Elt F))} (ha : Keeps a) (hb : Keeps b) : Keeps (a ++ b) := by
  intro V
  obtain ⟨h0, h1, h2, h3, h4, h5, h6⟩ := hb (StableHlo.after a V)
  obtain ⟨g0, g1, g2, g3, g4, g5, g6⟩ := ha V
  simp only [after_append]
  exact ⟨h0.trans g0, h1.trans g1, h2.trans g2, h3.trans g3, h4.trans g4, h5.trans g5, h6.trans g6⟩

theorem visA_keeps : Keeps (F := F) visA := fun V => by and_intros <;> after_results
theorem visB_keeps : Keeps (F := F) visB := fun V => by and_intros <;> after_results
theorem cosA_keeps : Keeps (F := F) cosA := fun V => by and_intros <;> after_results
theorem cosB_keeps : Keeps (F := F) cosB := fun V => by and_intros <;> after_results
theorem flowA_keeps : Keeps (F := F) flowA := fun V => by and_intros <;> after_results
theorem selB_keeps : Keeps (F := F) selB := fun V => by and_intros <;> after_results
theorem flowB_keeps : Keeps (F := F) flowB := fun V => by and_intros <;> after_results

theorem opsAll_keeps : Keeps (F := F) opsAll :=
  visA_keeps.append (visB_keeps.append (cosA_keeps.append (cosB_keeps.append (flowA_keeps.append
    (selB_keeps.append flowB_keeps)))))

/-- The run: the arguments are unchanged, the result is what the operations compute, and every counter is zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_v136)
          = StableHlo.after opsAll (StableHlo.launchContents m c) (Proc.devRef .tc main_v136))
      ∧ r.2.sem = fun _ => 0 := by
  refine θ_run_mono (run_all m ρ) fun r h => ⟨fun c => ?_, Idealize.ShloMosaic.sem_eq_zero_of_no_sems (by decide) r.2⟩
  obtain ⟨h0, h1, h2, h3, h4, h5, h6⟩ := opsAll_keeps (StableHlo.launchContents m c)
  exact ⟨(h c _).trans h0, (h c _).trans h1, (h c _).trans h2, (h c _).trans h3, (h c _).trans h4, (h c _).trans h5,
    (h c _).trans h6, h c _⟩

end Cert.ReferenceIdeal

end
-- ==== Proof.Ref.Read.lean ====
/-
  Reading a gather of whole rows, and the places that a greatest-first sort of a row names.
-/
module

public import proofs.«01_k».proof.Proof.Pick
public import Idealize.ShloMosaic.Lib.Pointwise
public import Idealize.ShloMosaic.Lib.Affine

@[expose] public section

set_option maxRecDepth 16384

namespace Cert.Read

open Idealize.ShloMosaic Cert.Pick

theorem along_ix2 {m n : ℕ} (i : Fin m) (j k : Fin n) :
    Shape.Idx.along (s := ⟨2, ![m, n]⟩) (ix2 i j) 1 k = ix2 i k := by
  funext a
  match a with
  | 0 => rfl
  | 1 => rfl

/-- The places of the eight greatest entries of a row, as words. -/
theorem topK_ap {m n : ℕ} (x : Shape.Idx ⟨2, ![m, n]⟩ → EReal) (h : Shape.Slices ⟨2, ![m, n]⟩ (fun _ => 0) ⟨2, ![m, 8]⟩) (h8 : 8 ≤ n) (i : Fin m) (k : Fin 8) :
    (Host.topK ⟨2, ![m, 8]⟩ 1 (FloatOps.cmpfTotal (F := Ideal) (φ := .f32) .gt) x h).2 (ix2 i k)
      = BitVec.ofNat 32 (sortedFrom (gtB fun q => x (ix2 i q)) (k.castLE h8)).val := by
  have e2 : (fun a : Fin 2 => (⟨0 + ((ix2 i k : Shape.Idx ⟨2, ![m, 8]⟩) (a.cast h.1.symm)).val,
      Nat.lt_of_lt_of_le (Nat.add_lt_add_left (Fin.isLt _) _) (h.2 a)⟩ : Fin ((![m, n] : Fin 2 → ℕ) a)))
      = (ix2 i (k.castLE h8) : Shape.Idx ⟨2, ![m, n]⟩) := by
    funext a
    match a with
    | 0 => exact Fin.ext (Nat.zero_add _)
    | 1 => exact Fin.ext (Nat.zero_add _)
  have hB : ∀ J : Shape.Idx ⟨2, ![m, n]⟩, J = ix2 i (k.castLE h8) →
      (iotaInDim ⟨2, ![m, n]⟩ 32 1 (J.along 1 (sortedFrom (fun p q : Fin n =>
        FloatOps.cmpfTotal (F := Ideal) (φ := .f32) .gt (x (J.along 1 p)) (x (J.along 1 q)) == 1#1) (J 1))) : BitVec 32)
        = BitVec.ofNat 32 (sortedFrom (gtB fun q => x (ix2 i q)) (k.castLE h8)).val := by
    rintro J rfl
    have hg : (fun p q : Fin n => FloatOps.cmpfTotal (F := Ideal) (φ := .f32) .gt
        (x (Shape.Idx.along (s := ⟨2, ![m, n]⟩) (ix2 i (k.castLE h8)) 1 p))
        (x (Shape.Idx.along (s := ⟨2, ![m, n]⟩) (ix2 i (k.castLE h8)) 1 q)) == 1#1)
        = gtB fun q => x (ix2 i q) := by
      funext p q
      rw [along_ix2, along_ix2]
      show (BitVec.ofBool (decide (x (ix2 i q) < x (ix2 i p))) == 1#1) = decide (x (ix2 i q) < x (ix2 i p))
      cases decide (x (ix2 i q) < x (ix2 i p)) <;> rfl
    rw [hg]
    exact congrArg (fun J => (iotaInDim ⟨2, ![m, n]⟩ 32 1 J : BitVec 32)) (along_ix2 i _ _)
  exact hB _ e2

/-! ## Gathering rows -/

section Rows
variable {α : Type}

/-- A gather of whole rows of an `N` by `C` array, `R` by `K` of them. -/
abbrev rowsDims (N C R K : ℕ) (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

theorem not_mem : ¬ (1 : Fin 2) ∈ ([0] : List (Fin 2)) := by decide

theorem rows_ap {N C R K w : ℕ} (hN : 0 < N)
    (wf : GatherDims.WF ⟨2, ![N, C]⟩ ⟨3, ![R, K, 1]⟩ ⟨3, ![R, K, C]⟩ [2] [0] [] [0] [] 2 ![1, C])
    (x : Shape.Idx ⟨2, ![N, C]⟩ → α) (idx : IVec ⟨3, ![R, K, 1]⟩ w) (i : Fin R) (k : Fin K) (c : Fin C) :
    Host.gather (rowsDims N C R K wf) x idx (ix3 i k c)
      = x (ix2 ⟨min (idx (ix3 i k 0)).toInt.toNat (N - 1), by omega⟩ c) := by
  unfold Host.gather
  congr 1
  funext a
  refine Fin.ext ?_
  show (rowsDims N C R K wf).start (ix3 i k c) idx a + (rowsDims N C R K wf).batchCoord (ix3 i k c) a
      + (rowsDims N C R K wf).offCoord (ix3 i k c) a = _
  rw [GatherDims.batchCoord_eq_zero _ _ _ List.not_mem_nil]
  have h01 : a = 0 ∨ a = 1 := by
    match a with
    | 0 => exact Or.inl rfl
    | 1 => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R K wf).startIndexMap from List.mem_singleton.mpr rfl)]
    have hsi : (rowsDims N C R K wf).siIdx (ix3 i k c) ⟨List.idxOf (0 : Fin 2) (rowsDims N C R K wf).startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ (rowsDims N C R K wf).startIndexMap from not_mem)]
    simp only [Nat.zero_add, Nat.add_zero]
    unfold GatherDims.offCoord
    rw [dif_pos ((GatherDims.mem_sKept _ _).mpr ⟨not_mem, List.not_mem_nil⟩)]
    rfl

/-- A gather of `R` entries of a row of `N`. -/
abbrev takeDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem take_ap {N R w : ℕ} (hN : 0 < N) (wf : GatherDims.WF ⟨1, ![N]⟩ ⟨2, ![R, 1]⟩ ⟨1, ![R]⟩ [] [0] [] [0] [] 1 ![1])
    (x : Shape.Idx ⟨1, ![N]⟩ → α) (idx : IVec ⟨2, ![R, 1]⟩ w) (i : Fin R) :
    Host.gather (takeDims N R wf) x idx (ix1 i) = x (ix1 ⟨min (idx (ix2 i 0)).toInt.toNat (N - 1), by omega⟩) := by
  unfold Host.gather
  congr 1
  funext a
  obtain rfl : a = 0 := Subsingleton.elim _ _
  refine Fin.ext ?_
  show (takeDims N R wf).start (ix1 i) idx 0 + (takeDims N R wf).batchCoord (ix1 i) 0 + (takeDims N R wf).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims N R wf).startIndexMap from List.mem_singleton.mpr rfl)]
  have hsi : (takeDims N R wf).siIdx (ix1 i) ⟨List.idxOf (0 : Fin 1) (takeDims N R wf).startIndexMap,
      List.idxOf_lt_length_iff.2 (List.mem_singleton.mpr rfl)⟩ = ix2 i 0 := by
    funext b; refine Fin.ext ?_
    match b with
    | ⟨0, _⟩ => rfl
    | ⟨1, _⟩ => rfl
  rw [hsi]
  rfl

end Rows

/-- A place word that is not below zero is kept as it is. -/
theorem wrap_ap {v : BitVec 32} {q : ℕ} (hq : q < 8192) (hv : v = BitVec.ofNat 32 q) (N : BitVec 32) :
    Scalar.select (IntOp.cmpi .slt v 0#32) (IntOp.addi v N) v = BitVec.ofNat 32 q
      ∧ (BitVec.ofNat 32 q).toInt.toNat = q := by
  subst hv
  have e : (BitVec.ofNat 32 q).toInt = q := by
    rw [BitVec.toInt_eq_toNat_of_lt (by rw [BitVec.toNat_ofNat]; omega), BitVec.toNat_ofNat]
    omega
  refine ⟨?_, by rw [e]; rfl⟩
  exact if_neg (fun h => by
    have := IntOp.cmpi_slt.mp h
    rw [e] at this
    have h0 : (0#32 : BitVec 32).toInt = 0 := by decide
    omega)

/-- Gathering the rows that a greatest-first sort of row `i` of `M` names. -/
theorem rows_top {m N C : ℕ} {α : Type} (h8 : 8 ≤ N) (hN : N ≤ 8192)
    (wf : GatherDims.WF ⟨2, ![N, C]⟩ ⟨3, ![m, 8, 1]⟩ ⟨3, ![m, 8, C]⟩ [2] [0] [] [0] [] 2 ![1, C])
    (x : Shape.Idx ⟨2, ![N, C]⟩ → α) (M : Shape.Idx ⟨2, ![m, N]⟩ → EReal)
    (h : Shape.Slices ⟨2, ![m, N]⟩ (fun _ => 0) ⟨2, ![m, 8]⟩) (idx : IVec ⟨3, ![m, 8, 1]⟩ 32) (n : BitVec 32)
    (i : Fin m) (k : Fin 8) (c : Fin C)
    (hidx : idx (ix3 i k 0) = Scalar.select
      (IntOp.cmpi .slt ((Host.topK ⟨2, ![m, 8]⟩ 1 (FloatOps.cmpfTotal (F := Ideal) (φ := .f32) .gt) M h).2 (ix2 i k)) 0#32)
      (IntOp.addi ((Host.topK ⟨2, ![m, 8]⟩ 1 (FloatOps.cmpfTotal (F := Ideal) (φ := .f32) .gt) M h).2 (ix2 i k)) n)
      ((Host.topK ⟨2, ![m, 8]⟩ 1 (FloatOps.cmpfTotal (F := Ideal) (φ := .f32) .gt) M h).2 (ix2 i k))) :
    Host.gather (rowsDims N C m 8 wf) x idx (ix3 i k c)
      = x (ix2 (sortedFrom (gtB fun q => M (ix2 i q)) (k.castLE h8)) c) := by
  rw [rows_ap (by omega)]
  obtain ⟨w1, w2⟩ := wrap_ap (lt_of_lt_of_le (sortedFrom (gtB fun q => M (ix2 i q)) (k.castLE h8)).isLt hN)
    (topK_ap M h h8 i k) n
  refine congrArg (fun r => x (ix2 r c)) (Fin.ext ?_)
  show min (idx (ix3 i k 0)).toInt.toNat (N - 1) = _
  rw [hidx, w1, w2]
  have := (sortedFrom (gtB fun q => M (ix2 i q)) (k.castLE h8)).isLt
  omega

end Cert.Read
-- ==== Proof.Ref.Val1.lean ====
/-
  The reference's values, piece by piece, as plain functions of the inputs.
-/
module

public import proofs.«01_k».proof.Proof.Ref.Frame
public import proofs.«01_k».proof.Proof.Ref.Read
public import proofs.«01_k».proof.Proof.Model
public import Idealize.ShloMosaic.Lib.StableHlo.ReadAt

@[expose] public section

set_option maxRecDepth 16384

noncomputable section

namespace Cert.ReferenceIdeal

open Idealize.ShloMosaic Idealize.ShloMosaic.TcCoe
open Cert.ReferenceIdeal.Gen Cert.Spec Cert.Pick Cert.Read

/-- The seven arguments hold the inputs `D`. -/
structure Holds (V : Valuation τ sig (Elt Ideal)) (D : Inp) : Prop where
  vtx : ∀ i j, (V (Proc.devRef .tc main_arg0) : S4096x3.Idx → EReal) (ix2 i j) = D.vtx i j
  pts : ∀ i j, (V (Proc.devRef .tc main_arg1) : S8192x3.Idx → EReal) (ix2 i j) = D.pts i j
  vf : ∀ i j, (V (Proc.devRef .tc main_arg2) : S4096x64.Idx → EReal) (ix2 i j) = D.vf i j
  pf : ∀ i j, (V (Proc.devRef .tc main_arg3) : S8192x64.Idx → EReal) (ix2 i j) = D.pf i j
  lg : ∀ i, (V (Proc.devRef .tc main_arg4) : S4096x1.Idx → EReal) (ix2 i 0) = D.lg i
  vb : ∀ i, (V (Proc.devRef .tc main_arg5) : S4096.Idx → BitVec 32) (ix1 i) = D.vb i
  pb : ∀ i, (V (Proc.devRef .tc main_arg6) : S8192.Idx → BitVec 32) (ix1 i) = D.pb i

variable {V : Valuation τ sig (Elt Ideal)} {D : Inp}

theorem Holds.after (h : Holds V D) {ops : List (HloOp τ sig (Elt Ideal))} (k : Keeps ops) : Holds (StableHlo.after ops V) D := by
  obtain ⟨k0, k1, k2, k3, k4, k5, k6⟩ := k V
  constructor
  · rw [k0]; exact h.vtx
  · rw [k1]; exact h.pts
  · rw [k2]; exact h.vf
  · rw [k3]; exact h.pf
  · rw [k4]; exact h.lg
  · rw [k5]; exact h.vb
  · rw [k6]; exact h.pb

/-! ## The visibility score -/

theorem negInf : Ideal.ofBits FTy.f32 0xFF800000#32 = (⊥ : EReal) := by
  simp [Ideal.ofBits, Ideal.ieee]

theorem select_if (a b : BitVec 32) (x y : EReal) : Scalar.select (IntOp.cmpi .eq a b) x y = if a = b then x else y := by
  by_cases h : a = b
  · rw [if_pos h]; exact if_pos (IntOp.cmpi_eq.mpr h)
  · rw [if_neg h]; exact if_neg fun e => h (IntOp.cmpi_eq.mp e)

theorem select_both (a b : BitVec 32) (p : Prop) [Decidable p] (x y : EReal) :
    Scalar.select (IntOp.andi (IntOp.cmpi .eq a b) (BitVec.ofBool (decide p))) x y = if a = b ∧ p then x else y := by
  by_cases hp : p
  · simp only [hp, decide_true, and_true]
    rw [← select_if]
    refine congrArg (fun z => Scalar.select z x y) ?_
    generalize IntOp.cmpi .eq a b = w
    revert w
    decide
  · simp only [hp, decide_false, and_false, if_false]
    refine (congrArg (fun z => Scalar.select z x y) (a₂ := 0#1) ?_).trans rfl
    generalize IntOp.cmpi .eq a b = w
    revert w
    decide

theorem fold_sup {n : ℕ} (f : Fin n → EReal) : Finset.fold max (Ideal.ofBits FTy.f32 0xFF800000#32) f Finset.univ = Finset.univ.sup f := by
  rw [negInf]; rfl

theorem a6 (h : Holds V D) (q : Fin 4096) : (StableHlo.after visA V (Proc.devRef .tc main_v6) : S4096.Idx → EReal) (ix1 q) = D.S q := by
  after_reads_at
  rw [h.lg]
  rfl

theorem a15 (h : Holds V D) (q : Fin 4) :
    (StableHlo.after visA V (Proc.devRef .tc main_v15) : S4.Idx → EReal) (ix1 q) = mxOf D.vb D.S (BitVec.ofNat 32 q.val) := by
  after_reads_at
  refine (fold_sup _).trans ?_
  refine Finset.sup_congr rfl fun x _ => ?_
  rw [select_if, h.lg, h.vb]
  exact if_congr Iff.rfl rfl negInf

theorem a20 (h : Holds V D) (q : Fin 4) :
    (StableHlo.after visA V (Proc.devRef .tc main_v20) : S4.Idx → EReal) (ix1 q) = mnOf D.vb D.S (BitVec.ofNat 32 q.val) := by
  after_reads_at
  rw [← mnOf_eq]
  refine congrArg Neg.neg ((fold_sup _).trans ?_)
  refine Finset.sup_congr rfl fun x _ => ?_
  rw [select_if, h.lg, h.vb]
  exact if_congr Iff.rfl rfl negInf

/-- A gather from four entries by the group numbers. -/
theorem take4 (x : S4.Idx → EReal) (idx : IVec S4096x1 32) (q : Fin 4096) (b : Fin 4) (hi : idx (ix2 q 0) = BitVec.ofNat 32 b.val) :
    Host.gather gather_S4_S4096x1_S4096_n_0_n_n_0_1_1 x idx (ix1 q) = x (ix1 b) := by
  refine (take_ap (N := 4) (R := 4096) (by decide) gather_S4_S4096x1_S4096_n_0_n_n_0_1_1_wf x idx q).trans ?_
  refine congrArg (fun r => x (ix1 r)) (Fin.ext ?_)
  show min (idx (ix2 q 0)).toInt.toNat (4 - 1) = b.val
  rw [hi, (wrap_ap (q := b.val) (by omega) rfl 0#32).2]
  omega

theorem b45 (h : Holds V D) (hb : ∀ i, D.vb i = 0#32 ∨ D.vb i = 1#32 ∨ D.vb i = 2#32 ∨ D.vb i = 3#32)
    (h6 : ∀ q, (V (Proc.devRef .tc main_v6) : S4096.Idx → EReal) (ix1 q) = D.S q)
    (h15 : ∀ b : Fin 4, (V (Proc.devRef .tc main_v15) : S4.Idx → EReal) (ix1 b) = mxOf D.vb D.S (BitVec.ofNat 32 b.val))
    (h20 : ∀ b : Fin 4, (V (Proc.devRef .tc main_v20) : S4.Idx → EReal) (ix1 b) = mnOf D.vb D.S (BitVec.ofNat 32 b.val))
    (q : Fin 4096) : (StableHlo.after visB V (Proc.devRef .tc main_v45) : S4096x1.Idx → EReal) (ix2 q 0) = D.pv q := by
  obtain ⟨b, eb⟩ : ∃ b : Fin 4, D.vb q = BitVec.ofNat 32 b.val := by
    rcases hb q with e | e | e | e <;> rw [e]
    exacts [⟨0, rfl⟩, ⟨1, rfl⟩, ⟨2, rfl⟩, ⟨3, rfl⟩]
  have hi : ∀ n : BitVec 32, Scalar.select (IntOp.cmpi .slt ((V (Proc.devRef .tc main_arg5) : S4096.Idx → BitVec 32) (ix1 q)) 0#32)
      (IntOp.addi ((V (Proc.devRef .tc main_arg5) : S4096.Idx → BitVec 32) (ix1 q)) n)
      ((V (Proc.devRef .tc main_arg5) : S4096.Idx → BitVec 32) (ix1 q)) = BitVec.ofNat 32 b.val := fun n =>
    (wrap_ap (q := b.val) (by omega) ((h.vb q).trans eb) n).1
  after_reads_at
  rw [take4 _ _ q b, take4 _ _ q b, h6, h15, h20, ← eb]
  · rfl
  all_goals
    pointwise []
    exact hi _

/-! ## The scores -/

theorem c46 (h : Holds V D) (q : Fin 4096) :
    (StableHlo.after cosA V (Proc.devRef .tc main_v46) : S4096x1.Idx → EReal) (ix2 q 0) = Ideal.sqrt (dot (D.vf q) (D.vf q)) := by
  after_reads_at
  simp only [h.vf]
  rfl

theorem c10 : (StableHlo.after cosA V (Proc.devRef .tc main_cst_10) : S_.Idx → EReal) ix0 = EPS := by
  after_reads_at
  rfl

theorem c50 (h : Holds V D)
    (h46 : ∀ q, (V (Proc.devRef .tc main_v46) : S4096x1.Idx → EReal) (ix2 q 0) = Ideal.sqrt (dot (D.vf q) (D.vf q)))
    (h10 : (V (Proc.devRef .tc main_cst_10) : S_.Idx → EReal) ix0 = EPS) (i : Fin 4096) (q : Fin 64) :
    (StableHlo.after cosB V (Proc.devRef .tc main_v50) : S4096x64.Idx → EReal) (ix2 i q) = Ideal.div (D.vf i q) (nrm (D.vf i)) := by
  after_reads_at
  rw [h46, h10, h.vf]
  rfl

theorem c63 (h : Holds V D)
    (h46 : ∀ q, (V (Proc.devRef .tc main_v46) : S4096x1.Idx → EReal) (ix2 q 0) = Ideal.sqrt (dot (D.vf q) (D.vf q)))
    (h10 : (V (Proc.devRef .tc main_cst_10) : S_.Idx → EReal) ix0 = EPS) (i : Fin 4096) (q : Fin 8192) :
    (StableHlo.after cosB V (Proc.devRef .tc main_v63) : S4096x8192.Idx → EReal) (ix2 i q) = D.sc1 i q := by
  after_reads_at
  rw [select_if, h46, h10, h.vb, h.pb]
  simp only [h.vf, h.pf]
  unfold Inp.sc1 scoreOf
  simp only [decide_eq_true_eq]
  rfl

theorem s108 (h : Holds V D)
    (h50 : ∀ i d, (V (Proc.devRef .tc main_v50) : S4096x64.Idx → EReal) (ix2 i d) = Ideal.div (D.vf i d) (nrm (D.vf i)))
    (h95 : ∀ i, (V (Proc.devRef .tc main_v95) : S4096.Idx → EReal) (ix1 i) = D.pv i) (i q : Fin 4096) :
    (StableHlo.after selB V (Proc.devRef .tc main_v108) : S4096x4096.Idx → EReal) (ix2 i q) = D.sc2 i q := by
  after_reads_at
  rw [h95, h.vb, h.vb]
  simp only [h50]
  unfold Inp.sc2 scoreOf
  simp only [decide_eq_true_eq]
  exact select_both _ _ _ _ _

theorem s97 (h95 : ∀ i, (V (Proc.devRef .tc main_v95) : S4096.Idx → EReal) (ix1 i) = D.pv i) (i : Fin 4096) :
    (StableHlo.after selB V (Proc.devRef .tc main_v97) : S4096.Idx → BitVec 1) (ix1 i) = BitVec.ofBool (decide (HALF ≤ D.pv i)) := by
  after_reads_at
  rw [h95]
  rfl

theorem f95 (h45 : ∀ i, (V (Proc.devRef .tc main_v45) : S4096x1.Idx → EReal) (ix2 i 0) = D.pv i) (i : Fin 4096) :
    (StableHlo.after flowA V (Proc.devRef .tc main_v95) : S4096.Idx → EReal) (ix1 i) = D.pv i := by
  after_reads_at
  rw [h45]

end Cert.ReferenceIdeal
-- ==== Proof.Ref.Val2.lean ====
/-
  The reference's result as a plain function of the inputs.
-/
module

public import proofs.«01_k».proof.Proof.Ref.Val1

@[expose] public section

set_option maxRecDepth 16384

noncomputable section

namespace Cert.ReferenceIdeal

open Idealize.ShloMosaic Idealize.ShloMosaic.TcCoe
open Cert.ReferenceIdeal.Gen Cert.Spec Cert.Pick Cert.Read

variable {V : Valuation τ sig (Elt Ideal)} {D : Inp}

/-- The word array a gather reads its rows from: the sorted places, those below zero moved up by `n`. -/
abbrev places (n : BitVec 32) (w : IVec S4096x8 32) : IVec S4096x8x1 32 :=
  broadcastInDim S4096x8x1 ![0, 1] bcast_S4096x8_S4096x8x1_0_1
    (select (cmpi .slt w (broadcastInDim S4096x8 ![] bcast_S_S4096x8 (constantI S_ 32 0#32)))
      (addi w (broadcastInDim S4096x8 ![] bcast_S_S4096x8 (constantI S_ 32 n))) w)

theorem places_ap (n : BitVec 32) (w : IVec S4096x8 32) (i : Fin 4096) (k : Fin 8) :
    places n w (ix3 i k 0) = Scalar.select (IntOp.cmpi .slt (w (ix2 i k)) 0#32) (IntOp.addi (w (ix2 i k)) n) (w (ix2 i k)) := by
  unfold places
  pointwise []

/-- The first eight of a row's scores, in order. -/
abbrev nth {n : ℕ} (h8 : 8 ≤ n) (s : Fin n → EReal) (k : Fin 8) : Fin n := sortedFrom (gtB s) (k.castLE h8)

abbrev big : 8 ≤ 8192 := by decide
abbrev mid : 8 ≤ 4096 := by decide

section
variable (n : BitVec 32) (i : Fin 4096) (k : Fin 8)

theorem pts_row (x : S8192x3.Idx → EReal) (M : S4096x8192.Idx → EReal) (c : Fin 3) :
    Host.gather gather_S8192x3_S4096x8x1_S4096x8x3_2_0_n_n_0_2_13 x
      (places n (Host.topK S4096x8 1 (FloatOps.cmpfTotal (F := Ideal) (φ := .f32) .gt) M sliceFits_S4096x8192_S4096x8).2) (ix3 i k c)
      = x (ix2 (nth big (fun q => M (ix2 i q)) k) c) :=
  rows_top (m := 4096) (N := 8192) (C := 3) big (by decide) gather_S8192x3_S4096x8x1_S4096x8x3_2_0_n_n_0_2_13_wf x M _ _ n i k c (places_ap _ _ _ _)

theorem pf_row (x : S8192x64.Idx → EReal) (M : S4096x8192.Idx → EReal) (c : Fin 64) :
    Host.gather gather_S8192x64_S4096x8x1_S4096x8x64_2_0_n_n_0_2_164 x
      (places n (Host.topK S4096x8 1 (FloatOps.cmpfTotal (F := Ideal) (φ := .f32) .gt) M sliceFits_S4096x8192_S4096x8).2) (ix3 i k c)
      = x (ix2 (nth big (fun q => M (ix2 i q)) k) c) :=
  rows_top (m := 4096) (N := 8192) (C := 64) big (by decide) gather_S8192x64_S4096x8x1_S4096x8x64_2_0_n_n_0_2_164_wf x M _ _ n i k c (places_ap _ _ _ _)

theorem vf_row (x : S4096x64.Idx → EReal) (M : S4096x4096.Idx → EReal) (c : Fin 64) :
    Host.gather gather_S4096x64_S4096x8x1_S4096x8x64_2_0_n_n_0_2_164 x
      (places n (Host.topK S4096x8 1 (FloatOps.cmpfTotal (F := Ideal) (φ := .f32) .gt) M sliceFits_S4096x4096_S4096x8).2) (ix3 i k c)
      = x (ix2 (nth mid (fun q => M (ix2 i q)) k) c) :=
  rows_top (m := 4096) (N := 4096) (C := 64) mid (by decide) gather_S4096x64_S4096x8x1_S4096x8x64_2_0_n_n_0_2_164_wf x M _ _ n i k c (places_ap _ _ _ _)

theorem flow_row (x : S4096x3.Idx → EReal) (M : S4096x4096.Idx → EReal) (c : Fin 3) :
    Host.gather gather_S4096x3_S4096x8x1_S4096x8x3_2_0_n_n_0_2_13 x
      (places n (Host.topK S4096x8 1 (FloatOps.cmpfTotal (F := Ideal) (φ := .f32) .gt) M sliceFits_S4096x4096_S4096x8).2) (ix3 i k c)
      = x (ix2 (nth mid (fun q => M (ix2 i q)) k) c) :=
  rows_top (m := 4096) (N := 4096) (C := 3) mid (by decide) gather_S4096x3_S4096x8x1_S4096x8x3_2_0_n_n_0_2_13_wf x M _ _ n i k c (places_ap _ _ _ _)

end

theorem div_sums {a a' b b' : Fin 8 → EReal} (ha : ∀ x, a x = a' x) (hb : ∀ x, b x = b' x) :
    Ideal.div (∑ x, a x) (∑ x, b x) = Ideal.div (∑ x, a' x) (∑ x, b' x) := by
  rw [funext ha, funext hb]

theorem dot_comm {x y : Fin 64 → EReal} {f : Fin 64 → EReal} (hf : ∀ d, f d = y d * x d) : ∑ d, f d = dot x y :=
  Finset.sum_congr rfl fun d _ => (hf d).trans (mul_comm _ _)

/-- The flow of a visible row. -/
theorem f94 (h : Holds V D) (ok : D.Ok)
    (h45 : ∀ i, (V (Proc.devRef .tc main_v45) : S4096x1.Idx → EReal) (ix2 i 0) = D.pv i)
    (h63 : ∀ i q, (V (Proc.devRef .tc main_v63) : S4096x8192.Idx → EReal) (ix2 i q) = D.sc1 i q)
    (i : Fin 4096) (hi : HALF ≤ D.pv i) (j : Fin 3) :
    (StableHlo.after flowA V (Proc.devRef .tc main_v94) : S4096x3.Idx → EReal) (ix2 i j) = D.flow i j := by
  after_reads_at
  have e63 : (fun q => (V (Proc.devRef .tc main_v63) : S4096x8192.Idx → EReal) (ix2 i q)) = D.sc1 i := funext (h63 i)
  have hw := fun x : Fin 8 => show _ = dot (D.vf i) (D.pf (nth big (D.sc1 i) x)) * D.pv i from
    congrArg₂ (fun a b : EReal => a * b) (dot_comm fun d => congrArg₂ (fun a b : EReal => a * b)
      (((pf_row 8192#32 i x _ _ d).trans (h.pf _ d)).trans (congrArg (fun s => D.pf (nth big s x) d) e63)) (h.vf i d)) (h45 i)
  refine (div_sums (a' := fun x => (D.pts (nth big (D.sc1 i) x) j - D.vtx i j) * (dot (D.vf i) (D.pf (nth big (D.sc1 i) x)) * D.pv i))
    (fun x => congrArg₂ (fun a b : EReal => a * b) (congrArg₂ (fun a b : EReal => a - b)
      (((pts_row 8192#32 i x _ _ j).trans (h.pts _ j)).trans (congrArg (fun s => D.pts (nth big s x) j) e63)) (h.vtx i j)) (hw x)) hw).trans ?_
  refine (congrArg₂ Ideal.div
    (sum_sorted big (fun q => (D.pts q j - D.vtx i j) * (dot (D.vf i) (D.pf q) * D.pv i)) (D.top1_is i))
    (sum_sorted big (fun q => dot (D.vf i) (D.pf q) * D.pv i) (D.top1_is i))).trans ?_
  obtain ⟨c, hc, ec⟩ := pv_real (B := D.vb) (S := D.S) (p := i) rfl (fun q => logistic_real _) hi
  obtain ⟨v, ev⟩ := ok.fvtx i j
  have ec' : D.pv i = c := ec
  unfold Inp.flow
  rw [ec', ev]
  exact (flow_eq _ _ (fun p => dot_real (ok.fvf i) (ok.fpf p)) _ v c hc).symm

/-- Every row that the second search keeps is visible. -/
theorem top2_seen (ok : D.Ok) (i p : Fin 4096) (hp : p ∈ D.top2 i) : D.vb i = D.vb p ∧ HALF ≤ D.pv p := by
  classical
  by_contra hn
  have hT := D.top2_is i
  obtain ⟨q, hq, hqT⟩ : ∃ q, q ∈ (Finset.univ.filter fun q => D.vb i = D.vb q ∧ HALF ≤ D.pv q) ∧ q ∉ D.top2 i := by
    by_contra hall
    push Not at hall
    have hs : (Finset.univ.filter fun q => D.vb i = D.vb q ∧ HALF ≤ D.pv q) ⊆ (D.top2 i).erase p := fun q hq =>
      Finset.mem_erase.mpr ⟨fun e => hn (e ▸ (Finset.mem_filter.mp hq).2), hall q hq⟩
    have h1 := Finset.card_le_card hs
    rw [Finset.card_erase_of_mem hp, hT.card] at h1
    have h2 := ok.seen i
    have h3 : ∀ a b : ℕ, 8 ≤ a → a ≤ b → b = 8 - 1 → False := by omega
    exact h3 _ _ (by convert h2) h1 rfl
  have e1 : D.sc2 i p = NEG := if_neg (by simpa using hn)
  have e2 : D.sc2 i q = cosv (D.vf i) (D.vf q) := if_pos (by simpa using (Finset.mem_filter.mp hq).2)
  have e3 := cosv_gt (ok.fvf i) (ok.fvf q)
  rcases hT.first p hp q hqT with hb | ⟨hb, -⟩
  · rw [e1, e2] at hb
    exact lt_asymm hb e3
  · rw [e1, e2] at hb
    exact e3.ne hb

theorem g136 (h : Holds V D) (ok : D.Ok)
    (h45 : ∀ i, (V (Proc.devRef .tc main_v45) : S4096x1.Idx → EReal) (ix2 i 0) = D.pv i)
    (h94 : ∀ i, HALF ≤ D.pv i → ∀ j, (V (Proc.devRef .tc main_v94) : S4096x3.Idx → EReal) (ix2 i j) = D.flow i j)
    (h97 : ∀ i, (V (Proc.devRef .tc main_v97) : S4096.Idx → BitVec 1) (ix1 i) = BitVec.ofBool (decide (HALF ≤ D.pv i)))
    (h108 : ∀ i q, (V (Proc.devRef .tc main_v108) : S4096x4096.Idx → EReal) (ix2 i q) = D.sc2 i q)
    (i : Fin 4096) (j : Fin 3) :
    (StableHlo.after flowB V (Proc.devRef .tc main_v136) : S4096x4.Idx → EReal) (ix2 i (j.castLE (by decide))) = D.res i j := by
  after_reads_at
  rw [dif_pos (show ((j.castLE (by decide) : Fin 4) : ℕ) < 3 from j.isLt), h97 i]
  have e108 : (fun q => (V (Proc.devRef .tc main_v108) : S4096x4096.Idx → EReal) (ix2 i q)) = D.sc2 i := funext (h108 i)
  unfold Inp.res
  by_cases hi : HALF ≤ D.pv i
  · rw [if_pos hi]
    simp only [hi, decide_true]
    exact h94 i hi j
  · rw [if_neg hi]
    simp only [hi, decide_false]
    have hk : ∀ x : Fin 8, nth mid (D.sc2 i) x ∈ D.top2 i := fun x => Finset.mem_image_of_mem _ (Finset.mem_univ x)
    have hw := fun x : Fin 8 => show _ = dot (D.vf i) (D.vf (nth mid (D.sc2 i) x)) from
      dot_comm fun d => congrArg₂ (fun a b : EReal => a * b)
        (((vf_row 4096#32 i x _ _ d).trans (h.vf _ d)).trans (congrArg (fun s => D.vf (nth mid s x) d) e108)) (h.vf i d)
    refine (div_sums (a' := fun x => dot (D.vf i) (D.vf (nth mid (D.sc2 i) x)) * D.flow (nth mid (D.sc2 i) x) j)
      (fun x => (mul_comm _ _).trans (congrArg₂ (fun a b : EReal => a * b) (hw x)
        (((flow_row 4096#32 i x _ _ j).trans (congrArg (fun s => (V (Proc.devRef .tc main_v94) : S4096x3.Idx → EReal) (ix2 (nth mid s x) j)) e108)).trans
          (h94 _ (top2_seen ok i _ (hk x)).2 j)))) hw).trans ?_
    exact congrArg₂ Ideal.div (sum_sorted mid (fun q => dot (D.vf i) (D.vf q) * D.flow q j) (D.top2_is i))
      (sum_sorted mid (fun q => dot (D.vf i) (D.vf q)) (D.top2_is i))

theorem g136_3 (h45 : ∀ i, (V (Proc.devRef .tc main_v45) : S4096x1.Idx → EReal) (ix2 i 0) = D.pv i) (i : Fin 4096) :
    (StableHlo.after flowB V (Proc.devRef .tc main_v136) : S4096x4.Idx → EReal) (ix2 i 3) = D.pv i := by
  after_reads_at
  exact h45 i

end Cert.ReferenceIdeal
-- ==== Proof.Ref.Val3.lean ====
/-
  The whole reference's result.
-/
module

public import proofs.«01_k».proof.Proof.Ref.Val2

@[expose] public section

set_option maxRecDepth 16384

noncomputable section

namespace Cert.ReferenceIdeal

open Idealize.ShloMosaic Idealize.ShloMosaic.TcCoe
open Cert.ReferenceIdeal.Gen Cert.Spec Cert.Pick Cert.Read

variable (V : Valuation τ sig (Elt Ideal))

theorem cosA_v45 : StableHlo.after cosA V (Proc.devRef .tc main_v45) = V (Proc.devRef .tc main_v45) := by after_results
theorem cosB_v45 : StableHlo.after cosB V (Proc.devRef .tc main_v45) = V (Proc.devRef .tc main_v45) := by after_results
theorem flowA_v45 : StableHlo.after flowA V (Proc.devRef .tc main_v45) = V (Proc.devRef .tc main_v45) := by after_results
theorem flowA_v50 : StableHlo.after flowA V (Proc.devRef .tc main_v50) = V (Proc.devRef .tc main_v50) := by after_results
theorem selB_v45 : StableHlo.after selB V (Proc.devRef .tc main_v45) = V (Proc.devRef .tc main_v45) := by after_results
theorem selB_v94 : StableHlo.after selB V (Proc.devRef .tc main_v94) = V (Proc.devRef .tc main_v94) := by after_results

theorem ref_at {D : Inp} (h : Holds V D) (ok : D.Ok) (i : Fin 4096) :
    (∀ j : Fin 3, (StableHlo.after opsAll V (Proc.devRef .tc main_v136) : S4096x4.Idx → EReal) (ix2 i (j.castLE (by decide))) = D.res i j)
      ∧ (StableHlo.after opsAll V (Proc.devRef .tc main_v136) : S4096x4.Idx → EReal) (ix2 i 3) = D.pv i := by
  simp only [after_append]
  have a6' := a6 h
  have a15' := a15 h
  have a20' := a20 h
  replace h := h.after visA_keeps
  generalize StableHlo.after visA V = V1 at *
  have h45 := b45 h ok.four a6' a15' a20'
  replace h := h.after visB_keeps
  generalize StableHlo.after visB V1 = V2 at *
  have h46 := c46 h
  have h10 := c10 (V := V2)
  rw [← cosA_v45 V2] at h45
  replace h := h.after cosA_keeps
  generalize StableHlo.after cosA V2 = V3 at *
  have h50 := c50 h h46 h10
  have h63 := c63 h h46 h10
  rw [← cosB_v45 V3] at h45
  replace h := h.after cosB_keeps
  generalize StableHlo.after cosB V3 = V4 at *
  have h94 := f94 h ok h45 h63
  have h95 := f95 h45
  rw [← flowA_v45 V4] at h45
  rw [← flowA_v50 V4] at h50
  replace h := h.after flowA_keeps
  generalize StableHlo.after flowA V4 = V5 at *
  have h97 := s97 h95
  have h108 := s108 h h50 h95
  rw [← selB_v45 V5] at h45
  rw [← selB_v94 V5] at h94
  replace h := h.after selB_keeps
  generalize StableHlo.after selB V5 = V6 at *
  exact ⟨g136 h ok h45 h94 h97 h108 i, g136_3 h45 i⟩

end Cert.ReferenceIdeal
-- ==== Proof.Pre.lean ====
/-
  What the precondition says of the inputs.
-/
module

public import proofs.«01_k».proof.Pre_matchable
public import proofs.«01_k».proof.Proof.Ref.Val1
public import proofs.«01_k».proof.Proof.Tables
public import Idealize.ShloMosaic.Lib.ReduceAll
public import Idealize.ShloMosaic.Lib.Decide

@[expose] public section

set_option maxRecDepth 16384

noncomputable section

namespace Cert.Pre_matchable

open Idealize.ShloMosaic Cert.Spec Cert.Read

instance facts : Facts := by constructor <;> decide

open Facts

theorem and_one {a b : BitVec 1} (h : IntOp.andi a b = 1#1) : a = 1#1 ∧ b = 1#1 := by
  revert a b
  decide

instance : Subsingleton S_.Idx := ⟨fun a b => funext fun x => Fin.elim0 x⟩

theorem at_least {v : IVec S4096 32} {i : S4096.Idx}
    (h : cmpi .sge v (broadcastInDim S4096 ![] bcast_S_S4096 (constantI S_ 32 8#32)) i = 1#1) : 8 ≤ (v i).toInt := by
  have e : (8#32 : BitVec 32).toInt ≤ (v i).toInt := IntOp.cmpi_sge.mp h
  have e8 : (8#32 : BitVec 32).toInt = 8 := by decide
  omega

theorem slice_lo {n w : ℕ} (x : IVec ⟨1, ![n + 1]⟩ w) (h : Shape.Slices ⟨1, ![n + 1]⟩ ![0] ⟨1, ![n]⟩) (i : Fin n) :
    extractStridedSlice ⟨1, ![n]⟩ ![0] x h (ix1 i) = x (ix1 i.castSucc) := by
  refine congrArg x (funext fun a => ?_)
  obtain rfl : a = 0 := Subsingleton.elim _ _
  exact Fin.ext (Nat.zero_add _)

theorem slice_hi {n w : ℕ} (x : IVec ⟨1, ![n + 1]⟩ w) (h : Shape.Slices ⟨1, ![n + 1]⟩ ![1] ⟨1, ![n]⟩) (i : Fin n) :
    extractStridedSlice ⟨1, ![n]⟩ ![1] x h (ix1 i) = x (ix1 i.succ) := by
  refine congrArg x (funext fun a => ?_)
  obtain rfl : a = 0 := Subsingleton.elim _ _
  exact Fin.ext (Nat.add_comm _ _)

/-- A row each entry of which is at most the next is in order. -/
theorem sorted_of {n : ℕ} (f : Fin (n + 1) → ℤ) (h : ∀ i : Fin n, f i.castSucc ≤ f i.succ) (p q : Fin (n + 1)) (hpq : p ≤ q) : f p ≤ f q :=
  Fin.monotone_iff_le_succ.mpr h hpq

/-- A number whose absolute value is below infinity is a real one. -/
theorem fin_of {x : EReal} (h : BitVec.ofBool (decide (max x (-x) < Ideal.ofBits .f32 0x7F800000#32)) = 1#1) : ∃ y : ℝ, x = y := by
  rw [posInf_eq] at h
  have h' : max x (-x) < ⊤ := by
    by_contra hn
    rw [decide_eq_false hn] at h
    exact absurd h (by decide)
  induction x with
  | coe y => exact ⟨y, rfl⟩
  | bot => exact absurd h' (by simp)
  | top => exact absurd h' (by simp)

theorem lift_row {m n : ℕ} (h : Shape.Reduces ⟨2, ![m, n]⟩ [1] ⟨1, ![m]⟩) (t : Fin m) (q : Fin n) : h.lift (ix1 t) q = ix2 t q := by
  funext a
  match a with
  | 0 => exact Fin.ext rfl
  | 1 => exact Fin.ext rfl

theorem count_of {m n : ℕ} (hn : n < 2 ^ 31) (p : Shape.Idx ⟨2, ![m, n]⟩ → BitVec 1) (h' : Shape.ReducesTo ⟨2, ![m, n]⟩ [1] ⟨1, ![m]⟩) (h : Shape.Reduces ⟨2, ![m, n]⟩ [1] ⟨1, ![m]⟩)
    (hw : 1 < 32) (hu : 0 < S_.numel) (t : Fin m) (e : 8 ≤ (Host.reduce IntOp.addi (extui 32 p hw) (constantI S_ 32 0#32) h' hu (ix1 t)).toInt) :
    8 ≤ (Finset.univ.filter fun q : Fin n => p (ix2 t q) = 1#1).card := by
  rw [Cert.Tables.count_eq p h' h hu hw (ix1 t)] at e
  have hc : ∀ c : ℕ, c ≤ n → 8 ≤ (BitVec.ofNat 32 c).toInt → 8 ≤ c := by
    intro c h1 h2
    rw [BitVec.toInt_eq_toNat_of_lt (by rw [BitVec.toNat_ofNat]; omega), BitVec.toNat_ofNat] at h2
    omega
  have e4 := hc _ ((Finset.card_le_univ _).trans_eq (Fintype.card_fin n)) e
  exact e4.trans_eq (congrArg Finset.card (Finset.filter_congr fun q _ => iff_of_eq (congrArg (p · = 1#1) (lift_row h t q))))

theorem ofBool_one (p : Prop) [Decidable p] : BitVec.ofBool (decide p) = 1#1 ↔ p := by
  by_cases h : p <;> simp [h]

section Parts
variable (a0 : FVec Ideal S4096x3 .f32) (a1 : FVec Ideal S8192x3 .f32) (a2 : FVec Ideal S4096x64 .f32) (a3 : FVec Ideal S8192x64 .f32) (a4 : FVec Ideal S4096x1 .f32)
  (a5 : IVec S4096 32) (a6 : IVec S8192 32)

theorem p5 (v61 : IVec S4096x4096 32) (v92 : IVec S_ 1) (v93 : IVec S4096 32) (h : fn_part5 (F := Ideal) v61 v92 v93 (constantI S_ 32 8#32) ix0 = 1#1) :
    v92 ix0 = 1#1 ∧ (∀ i : Fin 4096, 8 ≤ (v93 (ix1 i)).toInt)
      ∧ ∀ i : Fin 4096, 8 ≤ (Host.reduce IntOp.addi v61 (constantI S_ 32 0#32) reducesTo_S4096x4096_S4096_d1 h_S_ (ix1 i)).toInt := by
  obtain ⟨h, h3⟩ := and_one h
  obtain ⟨h1, h2⟩ := and_one h
  exact ⟨h1, fun i => at_least (Host.reduce_andi_all _ _ _ _ _ h2 (ix1 i)),
    fun i => at_least (Host.reduce_andi_all _ _ _ _ _ h3 (ix1 i))⟩

theorem p4 (v52 : IVec S4096x8192 32) (v61 : IVec S4096x4096 32) (v75 : IVec S_ 1) (h : fn_part4 (F := Ideal) a5 a6 v52 v61 v75 (constantI S_ 32 0#32) ix0 = 1#1) :
    v75 ix0 = 1#1 ∧ (∀ i : Fin 4096, 0 ≤ (a5 (ix1 i)).toInt ∧ (a5 (ix1 i)).toInt < 4)
      ∧ (∀ i : Fin 4095, (a5 (ix1 i.castSucc)).toInt ≤ (a5 (ix1 i.succ)).toInt)
      ∧ (∀ i : Fin 8191, (a6 (ix1 i.castSucc)).toInt ≤ (a6 (ix1 i.succ)).toInt)
      ∧ (∀ i : Fin 4096, 8 ≤ (Host.reduce IntOp.addi v52 (constantI S_ 32 0#32) reducesTo_S4096x8192_S4096_d1 h_S_ (ix1 i)).toInt)
      ∧ ∀ i : Fin 4096, 8 ≤ (Host.reduce IntOp.addi v61 (constantI S_ 32 0#32) reducesTo_S4096x4096_S4096_d1 h_S_ (ix1 i)).toInt := by
  obtain ⟨h, h6, h7⟩ := p5 _ _ _ h
  obtain ⟨h, h5⟩ := and_one h
  obtain ⟨h, h4⟩ := and_one h
  obtain ⟨h1, h3⟩ := and_one h
  refine ⟨h1, fun i => ?_, fun i => ?_, fun i => ?_, h6, h7⟩
  · obtain ⟨e1, e2⟩ := and_one (Host.reduce_andi_all _ _ _ _ _ h3 (ix1 i))
    exact ⟨IntOp.cmpi_sge.mp e1, IntOp.cmpi_slt.mp e2⟩
  · have e := IntOp.cmpi_sle.mp (Host.reduce_andi_all _ _ _ _ _ h4 (ix1 i))
    exact ((congrArg BitVec.toInt (slice_lo (n := 4095) _ _ i)).ge.trans e).trans_eq (congrArg BitVec.toInt (slice_hi (n := 4095) _ _ i))
  · have e := IntOp.cmpi_sle.mp (Host.reduce_andi_all _ _ _ _ _ h5 (ix1 i))
    exact ((congrArg BitVec.toInt (slice_lo (n := 8191) _ _ i)).ge.trans e).trans_eq (congrArg BitVec.toInt (slice_hi (n := 8191) _ _ i))

theorem p3 (v52 : IVec S4096x8192 32) (v57 : IVec S4096x4096 1) (v58 : IVec S1x4096 1)
    (h : fn_part3 (F := Ideal) a0 a2 a3 a5 a6 v52 v57 v58 ix0 = 1#1) :
    (∀ i j, ∃ x : ℝ, a0 (ix2 i j) = (x : EReal)) ∧ (∀ i j, ∃ x : ℝ, a2 (ix2 i j) = (x : EReal)) ∧ (∀ i j, ∃ x : ℝ, a3 (ix2 i j) = (x : EReal))
      ∧ (∀ i : Fin 4096, 0 ≤ (a5 (ix1 i)).toInt ∧ (a5 (ix1 i)).toInt < 4)
      ∧ (∀ i : Fin 4095, (a5 (ix1 i.castSucc)).toInt ≤ (a5 (ix1 i.succ)).toInt)
      ∧ (∀ i : Fin 8191, (a6 (ix1 i.castSucc)).toInt ≤ (a6 (ix1 i.succ)).toInt)
      ∧ (∀ i : Fin 4096, 8 ≤ (Host.reduce IntOp.addi v52 (constantI S_ 32 0#32) reducesTo_S4096x8192_S4096_d1 h_S_ (ix1 i)).toInt)
      ∧ ∀ i : Fin 4096, 8 ≤ (Finset.univ.filter fun q : Fin 4096 => v57 (ix2 i q) = 1#1 ∧ v58 (ix2 0 q) = 1#1).card := by
  obtain ⟨h, r1, r2, r3, r4, r5⟩ := p4 _ _ _ _ _ h
  obtain ⟨h, h3⟩ := and_one h
  obtain ⟨h1, h2⟩ := and_one h
  refine ⟨fun i j => fin_of (Host.reduce_andi_all _ _ _ _ _ h1 (ix2 i j)), fun i j => fin_of (Host.reduce_andi_all _ _ _ _ _ h2 (ix2 i j)),
    fun i j => fin_of (Host.reduce_andi_all _ _ _ _ _ h3 (ix2 i j)), r1, r2, r3, r4, fun i => ?_⟩
  have e := count_of (n := 4096) (by decide) _ _ (by decide) _ _ i (r5 i)
  refine e.trans_eq (congrArg Finset.card (Finset.filter_congr fun q _ => ?_))
  have eq : andi v57 (broadcastInDim S4096x4096 ![0, 1] bcast_S1x4096_S4096x4096_0_1 v58) (ix2 i q) = IntOp.andi (v57 (ix2 i q)) (v58 (ix2 0 q)) := by
    pointwise []
  rw [eq]
  exact ⟨and_one, fun hq => by rw [hq.1, hq.2]; rfl⟩

/-- A gather from four entries by the group numbers. -/
theorem take4 (x : S4.Idx → EReal) (idx : IVec S4096x1 32) (q : Fin 4096) (b : Fin 4) (hi : idx (ix2 q 0) = BitVec.ofNat 32 b.val) :
    Host.gather gather_S4_S4096x1_S4096_n_0_n_n_0_1_1 x idx (ix1 q) = x (ix1 b) := by
  refine (take_ap (N := 4) (R := 4096) (by decide) gather_S4_S4096x1_S4096_n_0_n_n_0_1_1_wf x idx q).trans ?_
  refine congrArg (fun r => x (ix1 r)) (Fin.ext ?_)
  show min (idx (ix2 q 0)).toInt.toNat (4 - 1) = b.val
  rw [hi, (wrap_ap (q := b.val) (by omega) rfl 0#32).2]
  omega

theorem p2 (v20 : FVec Ideal S4 .f32) (v28 v35 : FVec Ideal S4096 .f32)
    (h : fn_part2 (F := Ideal) a0 a2 a3 a5 a6 v20 v28 v35 (broadcastInDim S4096 ![] bcast_S_S4096 (constantI S_ 32 0#32)) ix0 = 1#1) :
    (∀ i j, ∃ x : ℝ, a0 (ix2 i j) = (x : EReal)) ∧ (∀ i j, ∃ x : ℝ, a2 (ix2 i j) = (x : EReal)) ∧ (∀ i j, ∃ x : ℝ, a3 (ix2 i j) = (x : EReal))
      ∧ (∀ i : Fin 4096, 0 ≤ (a5 (ix1 i)).toInt ∧ (a5 (ix1 i)).toInt < 4)
      ∧ (∀ i : Fin 4095, (a5 (ix1 i.castSucc)).toInt ≤ (a5 (ix1 i.succ)).toInt)
      ∧ (∀ i : Fin 8191, (a6 (ix1 i.castSucc)).toInt ≤ (a6 (ix1 i.succ)).toInt)
      ∧ (∀ i : Fin 4096, 8 ≤ (Finset.univ.filter fun q : Fin 8192 => a5 (ix1 i) = a6 (ix1 q)).card)
      ∧ ∀ i : Fin 4096, ∀ B : Fin 4096 → Fin 4, (∀ q, a5 (ix1 q) = BitVec.ofNat 32 (B q).val) →
        8 ≤ (Finset.univ.filter fun q : Fin 4096 => a5 (ix1 i) = a5 (ix1 q) ∧ HALF ≤ Ideal.div (v28 (ix1 q)) (v35 (ix1 q) - v20 (ix1 (B q)))).card := by
  obtain ⟨r0, r1, r2, r3, r4, r5, r6, r7⟩ := p3 _ _ _ _ _ _ _ _ h
  refine ⟨r0, r1, r2, r3, r4, r5, fun i => ?_, fun i B hB => ?_⟩
  · have e := count_of (n := 8192) (by decide) _ _ (by decide) _ _ i (r6 i)
    refine e.trans_eq (congrArg Finset.card (Finset.filter_congr fun q _ => ?_))
    pointwise []
    exact IntOp.cmpi_eq
  · refine (r7 i).trans_eq (congrArg Finset.card (Finset.filter_congr fun q _ => and_congr ?_ ?_))
    · pointwise []
      exact IntOp.cmpi_eq
    · pointwise []
      rw [take4 v20 _ q (B q) (by
        pointwise []
        exact (wrap_ap (q := (B q).val) (by omega) (hB q) _).1)]
      exact ofBool_one _

/-- The arguments, by row and column. -/
def inpOf : Inp where
  vtx i j := a0 (ix2 i j)
  pts q j := a1 (ix2 q j)
  vf i d := a2 (ix2 i d)
  pf q d := a3 (ix2 q d)
  lg i := a4 (ix2 i 0)
  vb i := a5 (ix1 i)
  pb q := a6 (ix1 q)

theorem four_of {b : BitVec 32} (h : 0 ≤ b.toInt ∧ b.toInt < 4) : ∃ c : Fin 4, b = BitVec.ofNat 32 c.val := by
  have e : b.toInt.toNat < 4 := by omega
  refine ⟨⟨b.toInt.toNat, e⟩, ?_⟩
  apply BitVec.eq_of_toInt_eq
  rw [BitVec.toInt_eq_toNat_of_lt (x := BitVec.ofNat 32 _) (by rw [BitVec.toNat_ofNat]; show 2 * (b.toInt.toNat % _) < _; omega), BitVec.toNat_ofNat]
  show b.toInt = ((b.toInt.toNat % 2 ^ 32 : ℕ) : ℤ)
  omega

theorem p1 (v6 : FVec Ideal S4096 .f32) (v15 : FVec Ideal S4 .f32) (v18 : FVec Ideal S4096x4 .f32)
    (h6 : ∀ q, v6 (ix1 q) = (inpOf a0 a1 a2 a3 a4 a5 a6).S q)
    (h15 : ∀ b : Fin 4, v15 (ix1 b) = mxOf (inpOf a0 a1 a2 a3 a4 a5 a6).vb (inpOf a0 a1 a2 a3 a4 a5 a6).S (BitVec.ofNat 32 b.val))
    (h18 : ∀ (q : Fin 4096) (b : Fin 4), v18 (ix2 q b) = if a5 (ix1 q) = BitVec.ofNat 32 b.val then -(inpOf a0 a1 a2 a3 a4 a5 a6).S q else ⊥)
    (h : fn_part1 (F := Ideal) a0 a2 a3 a5 a6 v6 v15 v18 ix0 = 1#1) : (inpOf a0 a1 a2 a3 a4 a5 a6).Ok := by
  obtain ⟨r0, r1, r2, r3, r4, r5, r6, r7⟩ := p2 _ _ _ _ _ _ _ _ h
  choose B hB using fun q => four_of (r3 q)
  have hi : ∀ (n : BitVec 32) (q : Fin 4096), Scalar.select (IntOp.cmpi .slt (a5 (ix1 q)) 0#32) (IntOp.addi (a5 (ix1 q)) n) (a5 (ix1 q)) = BitVec.ofNat 32 (B q).val := fun n q =>
    (wrap_ap (q := (B q).val) (by omega) (hB q) n).1
  have h20 : ∀ b : Fin 4, (Host.negf (Host.reduce FloatOps.maximumf v18 (constant S_ .f32 0xFF800000#32) reducesTo_S4096x4_S4_d0 h_S_) : S4.Idx → EReal) (ix1 b)
      = mnOf (inpOf a0 a1 a2 a3 a4 a5 a6).vb (inpOf a0 a1 a2 a3 a4 a5 a6).S (BitVec.ofNat 32 b.val) := by
    intro b
    pointwise []
    rw [← mnOf_eq]
    refine congrArg Neg.neg ((Cert.ReferenceIdeal.fold_sup _).trans ?_)
    exact Finset.sup_congr rfl fun x _ => h18 x b
  constructor
  · exact r0
  · intro i
    choose x hx using r1 i
    exact ⟨x, hx⟩
  · intro i
    choose x hx using r2 i
    exact ⟨x, hx⟩
  · intro i
    show a5 (ix1 i) = _ ∨ a5 (ix1 i) = _ ∨ a5 (ix1 i) = _ ∨ a5 (ix1 i) = _
    rw [hB i]
    generalize B i = b
    revert b
    decide
  · exact sorted_of (n := 4095) (fun p => (a5 (ix1 p)).toInt) r4
  · exact sorted_of (n := 8191) (fun p => (a6 (ix1 p)).toInt) r5
  · exact r6
  · intro i
    refine (r7 i B hB).trans_eq (congrArg Finset.card (Finset.filter_congr fun q _ => and_congr Iff.rfl ?_))
    refine iff_of_eq (congrArg (HALF ≤ ·) ?_)
    have hx : broadcastInDim S4096x1 ![0] bcast_S4096_S4096x1_0
        (select (cmpi .slt a5 (broadcastInDim S4096 ![] bcast_S_S4096 (constantI S_ 32 0#32)))
          (addi a5 (broadcastInDim S4096 ![] bcast_S_S4096 (constantI S_ 32 4#32))) a5) (ix2 q 0) = BitVec.ofNat 32 (B q).val := by
      pointwise []
      exact hi _ q
    have e0 := (take4 v15 _ q (B q) hx).trans (h15 _)
    have e1 := (take4 _ _ q (B q) hx).trans (h20 (B q))
    refine (congrArg₂ Ideal.div (congrArg₂ (fun a b : EReal => a - b) (h6 q) e1) (congrArg₂ (fun a b : EReal => a - b) e0 (h20 (B q)))).trans ?_
    rw [← hB]
    rfl

theorem decode (h : fn (F := Ideal) a0 a1 a2 a3 a4 a5 a6 = fun _ => 1#1) : (inpOf a0 a1 a2 a3 a4 a5 a6).Ok := by
  refine p1 a0 a1 a2 a3 a4 a5 a6 _ _ _ ?_ ?_ ?_ (congrFun h ix0)
  · intro q
    pointwise []
    rfl
  · intro b
    pointwise [fn_where]
    refine (Cert.ReferenceIdeal.fold_sup _).trans (Finset.sup_congr rfl fun x _ => ?_)
    rw [Cert.ReferenceIdeal.select_if]
    exact if_congr Iff.rfl rfl Cert.ReferenceIdeal.negInf
  · intro q b
    pointwise [fn_where]
    rw [Cert.ReferenceIdeal.select_if]
    exact if_congr Iff.rfl rfl Cert.ReferenceIdeal.negInf

end Parts

end Cert.Pre_matchable
-- ==== Proof.lean ====
/-
  The claims: each program runs, leaves its arguments as they were and every counter at zero; and the kernel and the
  reference, both over the extended reals, have the same result.
-/
module

public import proofs.«01_k».proof.Defs
public import proofs.«01_k».proof.Proof.Same
public import proofs.«01_k».proof.Proof.KI.Frame
public import proofs.«01_k».proof.Proof.KI.Val5
public import proofs.«01_k».proof.Proof.Ref.Val3
public import proofs.«01_k».proof.Proof.Pre

@[expose] public section

noncomputable section

namespace Cert.Proof

open Idealize.ShloMosaic Idealize.SL.Sem

theorem frame_k : Cert.quiescent_Kernel := Cert.Twin.kernel_runs
theorem frame_ki : Cert.quiescent_KernelIdeal := fun m g _ => Cert.Twin.ideal_runs m g

theorem frame_ri : Cert.quiescent_ReferenceIdeal := by
  intro m g _
  refine θ_run_mono (Cert.ReferenceIdeal.run_main m g) fun r h => ⟨fun c => ?_, h.2⟩
  obtain ⟨h0, h1, h2, h3, h4, h5, h6, -⟩ := h.1 c
  exact ⟨h0, h1, h2, h3, h4, h5, h6⟩

theorem frame_ki_pre : Cert.quiescent_KernelIdeal_pre_matchable := fun m g _ => frame_ki m g trivial
theorem frame_ri_pre : Cert.quiescent_ReferenceIdeal_pre_matchable := fun m g _ => frame_ri m g trivial

/-- Two tables of four columns are the same when their first three columns and their last are. -/
theorem ext4 {x y : Shape.Idx ⟨2, ![4096, 4]⟩ → EReal} (h3 : ∀ i, ∀ j : Fin 3, x (ix2 i (j.castLE (by decide))) = y (ix2 i (j.castLE (by decide))))
    (h : ∀ i, x (ix2 i 3) = y (ix2 i 3)) : x = y := by
  have hc : ∀ (i : Fin 4096) (j : Fin 4), x (ix2 i j) = y (ix2 i j) := by
    intro i j
    match j with
    | 0 => exact h3 i 0
    | 1 => exact h3 i 1
    | 2 => exact h3 i 2
    | 3 => exact h i
  funext k
  rw [ValueIdx.eq_ix2 k]
  exact hc _ _

theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ok : (Cert.KernelIdeal.inp m 0).Ok) (h : Cert.ReferenceIdeal.Holds (StableHlo.launchContents m' 0) (Cert.KernelIdeal.inp m 0)) :
    (StableHlo.after Cert.ReferenceIdeal.opsAll (StableHlo.launchContents m' 0) (Proc.devRef .tc Cert.ReferenceIdeal.main_v136)
        : Shape.Idx ⟨2, ![4096, 4]⟩ → EReal)
      = (Cert.KernelIdeal.W20 m 0 (Proc.devRef .tc Cert.KernelIdeal.main_v83) : Shape.Idx ⟨2, ![4096, 4]⟩ → EReal) := by
  refine ext4 (fun i j => ?_) fun i => ?_
  · exact ((Cert.ReferenceIdeal.ref_at _ h ok i).1 j).trans ((Cert.KernelIdeal.W20_at m i ok).1 j).symm
  · exact (Cert.ReferenceIdeal.ref_at _ h ok i).2.trans (Cert.KernelIdeal.W20_at m i ok).2.symm

theorem alg : Cert.algebraic_KernelIdeal_ReferenceIdeal_pre_matchable := by
  intro m g m' g' hpre hagree
  have ok : (Cert.KernelIdeal.inp m 0).Ok := Cert.Pre_matchable.decode _ _ _ _ _ _ _ (hpre 0)
  have hh : Cert.ReferenceIdeal.Holds (StableHlo.launchContents m' 0) (Cert.KernelIdeal.inp m 0) := by
    obtain ⟨e0, e1, e2, e3, e4, e5, e6⟩ := hagree 0
    exact ⟨fun i j => congrFun e0 (ix2 i j), fun i j => congrFun e1 (ix2 i j), fun i j => congrFun e2 (ix2 i j), fun i j => congrFun e3 (ix2 i j),
      fun i => congrFun e4 (ix2 i 0), fun i => congrFun e5 (ix1 i), fun i => congrFun e6 (ix1 i)⟩
  refine ⟨fun c => Cert.KernelIdeal.W20 m c (Proc.devRef .tc Cert.KernelIdeal.main_v83), ?_, ?_⟩
  · refine θ_run_mono (Cert.KernelIdeal.run_whole m g) fun r h c => ?_
    obtain ⟨h0, h1, h2, h3, h4, h5, h6, h7⟩ := h.1 c
    exact ⟨h7, h0, h1, h2, h3, h4, h5, h6⟩
  · refine θ_run_mono (Cert.ReferenceIdeal.run_main m' g') fun r h c => ?_
    obtain ⟨h0, h1, h2, h3, h4, h5, h6, h7⟩ := h.1 c
    obtain rfl : c = 0 := Subsingleton.elim _ _
    exact ⟨h7.trans (same m m' ok hh), h0, h1, h2, h3, h4, h5, h6⟩

theorem claim : Cert.Claim :=
  ⟨Cert.Kernel.Gen.facts, Cert.KernelIdeal.Gen.facts, Cert.ReferenceIdeal.Gen.facts, Cert.Pre_matchable.facts, frame_k, frame_ki, frame_ki_pre,
    frame_ri, frame_ri_pre, trivial, alg⟩

end Cert.Proof

end
